-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Kernel30Ideal_finite30 [hPre_finite30 : Cert.Pre_finite30.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_finite30.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_finite30 [hPre_finite30 : Cert.Pre_finite30.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_finite30.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3))) = (fun _ => 1#1)

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Kernel31Ideal_finite31 [hPre_finite31 : Cert.Pre_finite31.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_finite31.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5))) = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_finite31 [hPre_finite31 : Cert.Pre_finite31.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_finite31.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4)) (m ((c.tc : Thread Cert.Reference31Ideal.nD Cert.Reference31Ideal.τ).loc Cert.Reference31Ideal.main_arg5))) = (fun _ => 1#1)

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Kernel30Ideal_pre_finite30 [hKernel30Ideal : Cert.Kernel30Ideal.Facts] [hPre_finite30 : Cert.Pre_finite30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal_finite30 m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Reference30Ideal_pre_finite30 [hReference30Ideal : Cert.Reference30Ideal.Facts] [hPre_finite30 : Cert.Pre_finite30.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_finite30 m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ r.2.sem = fun _ => 0)

def quiescent_Kernel31Ideal_pre_finite31 [hKernel31Ideal : Cert.Kernel31Ideal.Facts] [hPre_finite31 : Cert.Pre_finite31.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal_finite31 m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5))
      ∧ r.2.sem = fun _ => 0)

def quiescent_Reference31Ideal_pre_finite31 [hReference31Ideal : Cert.Reference31Ideal.Facts] [hPre_finite31 : Cert.Pre_finite31.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_finite31 m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg1) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg1) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg1) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg1) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg1) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg1) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg1) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v14) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v14) = v0 c
          ∧ r.2.mem ((c.tc : Thread Cert.Reference26Ideal.nD Cert.Reference26Ideal.τ).loc Cert.Reference26Ideal.main_v29) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v7) = v0 c
          ∧ r.2.mem ((c.tc : Thread Cert.Reference27Ideal.nD Cert.Reference27Ideal.τ).loc Cert.Reference27Ideal.main_v22) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v13) = v0 c
          ∧ r.2.mem ((c.tc : Thread Cert.Reference28Ideal.nD Cert.Reference28Ideal.τ).loc Cert.Reference28Ideal.main_v14) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel30_Kernel30Ideal : Prop :=
  True

def algebraic_Kernel30Ideal_Reference30Ideal_pre_finite30 [hKernel30Ideal : Cert.Kernel30Ideal.Facts] [hReference30Ideal : Cert.Reference30Ideal.Facts] [hPre_finite30 : Cert.Pre_finite30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal_finite30 m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v38) = v0 c
          ∧ r.2.mem ((c.tc : Thread Cert.Reference30Ideal.nD Cert.Reference30Ideal.τ).loc Cert.Reference30Ideal.main_v37) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal_pre_finite31 [hKernel31Ideal : Cert.Kernel31Ideal.Facts] [hReference31Ideal : Cert.Reference31Ideal.Facts] [hPre_finite31 : Cert.Pre_finite31.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal_finite31 m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v38) = v0 c
          ∧ r.2.mem ((c.tc : Thread Cert.Reference31Ideal.nD Cert.Reference31Ideal.τ).loc Cert.Reference31Ideal.main_v77) = v1 c
          ∧ r.2.mem ((c.tc : Thread Cert.Reference31Ideal.nD Cert.Reference31Ideal.τ).loc Cert.Reference31Ideal.main_v37) = v2 c
          ∧ r.2.mem ((c.tc : Thread Cert.Reference31Ideal.nD Cert.Reference31Ideal.τ).loc Cert.Reference31Ideal.main_v76) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v10) = v0 c
          ∧ r.2.mem ((c.tc : Thread Cert.Reference32Ideal.nD Cert.Reference32Ideal.τ).loc Cert.Reference32Ideal.main_v14) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite : Cert.Pre_finite.Facts) (hPre_finite4 : Cert.Pre_finite4.Facts) (hPre_finite30 : Cert.Pre_finite30.Facts) (hPre_finite31 : Cert.Pre_finite31.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel30 (hKernel30 := hKernel30)
    ∧ quiescent_Kernel30Ideal (hKernel30Ideal := hKernel30Ideal)
    ∧ quiescent_Kernel30Ideal_pre_finite30 (hKernel30Ideal := hKernel30Ideal) (hPre_finite30 := hPre_finite30)
    ∧ quiescent_Reference30Ideal (hReference30Ideal := hReference30Ideal)
    ∧ quiescent_Reference30Ideal_pre_finite30 (hReference30Ideal := hReference30Ideal) (hPre_finite30 := hPre_finite30)
    ∧ quiescent_Kernel31 (hKernel31 := hKernel31)
    ∧ quiescent_Kernel31Ideal (hKernel31Ideal := hKernel31Ideal)
    ∧ quiescent_Kernel31Ideal_pre_finite31 (hKernel31Ideal := hKernel31Ideal) (hPre_finite31 := hPre_finite31)
    ∧ quiescent_Reference31Ideal (hReference31Ideal := hReference31Ideal)
    ∧ quiescent_Reference31Ideal_pre_finite31 (hReference31Ideal := hReference31Ideal) (hPre_finite31 := hPre_finite31)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel30_Kernel30Ideal
    ∧ algebraic_Kernel30Ideal_Reference30Ideal_pre_finite30 (hKernel30Ideal := hKernel30Ideal) (hReference30Ideal := hReference30Ideal) (hPre_finite30 := hPre_finite30)
    ∧ preserves_Kernel31_Kernel31Ideal
    ∧ algebraic_Kernel31Ideal_Reference31Ideal_pre_finite31 (hKernel31Ideal := hKernel31Ideal) (hReference31Ideal := hReference31Ideal) (hPre_finite31 := hPre_finite31)
    ∧ preserves_Kernel32_Kernel32Ideal
    ∧ algebraic_Kernel32Ideal_Reference32Ideal (hKernel32Ideal := hKernel32Ideal) (hReference32Ideal := hReference32Ideal)
-- ==== Pre_finite.lean ====
abbrev S4096x6144 : Shape := ⟨2, ![4096, 6144]⟩
abbrev S4096x1024 : Shape := ⟨2, ![4096, 1024]⟩
abbrev S_ : Shape := ⟨0, ![]⟩

class Facts : Prop where
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x6144 .f32) (main_arg1 : FVec F S4096x1024 .f32) : IVec S_ 1 :=
  let main_v0 : FVec F S4096x6144 .f32 := Host.absf main_arg0
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_c : IVec S_ 1 := constantI S_ 1 1#1
  let main_v3 : IVec S_ 1 := (fun x v => Host.reduce IntOp.andi x v reducesTo_S4096x6144_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Pre_finite30.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S4096x2048 .f32) (main_arg1 : FVec F S4096x2048 .f32) (main_arg2 : FVec F S4096x2048 .f32) (main_arg3 : FVec F S1x2048 .f32) : IVec S_ 1 :=
  let main_v0 : FVec F S4096x2048 .f32 := Host.absf main_arg1
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg2
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  main_v13
-- ==== Pre_finite31.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_arg5 : FVec F S1x2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  main_v28

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S1x2048 .f32) (main_arg5 : FVec F S1x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_v13 main_v16
-- ==== Pre_finite4.lean ====
abbrev S4096x5632 : Shape := ⟨2, ![4096, 5632]⟩
abbrev S4096x11264 : Shape := ⟨2, ![4096, 11264]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S4096x11264 : S_.BroadcastsInDim S4096x11264 (![] : Fin 0 → Fin S4096x11264.rank)
  reducesTo_S4096x11264_S_d0_1 : S4096x11264.ReducesTo [0, 1] S_

variable [Facts]

def fn {F : FTy → Type} [FloatOps F] (main_arg0 : FVec F S4096x5632 .f32) (main_arg1 : FVec F S4096x11264 .bf16) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S4096x11264 .bf16 := Host.absf main_arg1
  let main_cst_0 : FVec F S_ .bf16 := constant S_ .bf16 0x7F80#16
  let main_v5 : FVec F S4096x11264 .bf16 := broadcastInDim S4096x11264 ![] bcast_S_S4096x11264 main_cst_0
  let main_v6 : IVec S4096x11264 1 := cmpf .olt main_v4 main_v5
  let main_c_1 : IVec S_ 1 := constantI S_ 1 1#1
  let main_v7 : IVec S_ 1 := (fun x v => Host.reduce IntOp.andi x v reducesTo_S4096x11264_S_d0_1 h_S_) main_v6 main_c_1
  let main_v8 : IVec S_ 1 := andi main_v3 main_v7
  main_v8
-- ==== Kernel.lean ====
abbrev S4096x6144 : Shape := ⟨2, ![4096, 6144]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S4096x8 : Shape := ⟨2, ![4096, 8]⟩
abbrev S4096x8x1 : Shape := ⟨3, ![4096, 8, 1]⟩
abbrev S256x128 : Shape := ⟨2, ![256, 128]⟩
abbrev S4096x128 : Shape := ⟨2, ![4096, 128]⟩
abbrev S256 : Shape := ⟨1, ![256]⟩
abbrev S256x1 : Shape := ⟨2, ![256, 1]⟩
abbrev S256x256 : Shape := ⟨2, ![256, 256]⟩

abbrev nBuf : Space → Nat
  | .hbm => 47
  | .vmem => 18
  | .smem => 0
  | _ => 0

abbrev bufTy : (tb : Table) → Fin (tcTables nBuf tb) → BufTy
  | .hbm, ⟨0, _⟩ => ⟨S4096x6144, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x8x128, .f32⟩
  | .hbm, ⟨5, _⟩ => ⟨S4096x8x128, .f32⟩
  | .hbm, ⟨6, _⟩ => ⟨S8x4096x4096, .f32⟩
  | .hbm, ⟨7, _⟩ => ⟨S_, .f32⟩
  | .hbm, ⟨8, _⟩ => ⟨S8x4096x4096, .f32⟩
  | .hbm, ⟨9, _⟩ => ⟨S8x4096x4096, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S8x4096x4096, .i1⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S_, .f32⟩
  | .hbm, ⟨35, _⟩ => ⟨S8x4096x4096, .i1⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S4096x8, .f32⟩
  | .hbm, ⟨41, _⟩ => ⟨S4096x8x1, .f32⟩
  | .hbm, ⟨42, _⟩ => ⟨S4096x8x128, .f32⟩
  | .hbm, ⟨43, _⟩ => ⟨S4096x1024, .f32⟩
  | .hbm, ⟨44, _⟩ => ⟨S4096x1024, .bf16⟩
  | .hbm, ⟨45, _⟩ => ⟨S4096x1024, .bf16⟩
  | .hbm, ⟨46, _⟩ => ⟨S4096x1024, .bf16⟩
  | .local _ .vmem, ⟨0, _⟩ => ⟨S256x128, .f32⟩
  | .local _ .vmem, ⟨1, _⟩ => ⟨S256x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .f32⟩
  | .local _ .vmem, ⟨17, _⟩ => ⟨S4096x128, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v14 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21_0 : Ref sig .tc := ⟨.hbm, 44, rfl⟩
abbrev main_v21_1 : Ref sig .tc := ⟨.hbm, 45, rfl⟩
abbrev main_v21_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_13 : BitVec 32 := 0#32
  let arg1 : BitVec 32 := BitVec.ofNat 32 (i 1).val
  let c0_i32_7 : BitVec 32 := 0#32
  let v24 : BitVec 1 := Scalar.cmpi .sgt arg1 c0_i32_7
  let v25 : BitVec 32 := Scalar.extui v24
  let c0_i32_8 : BitVec 32 := 0#32
  let v26 : BitVec 1 := Scalar.cmpi .slt arg1 c0_i32_8
  let v27 : BitVec 32 := Scalar.extui v26
  let v28 : BitVec 32 := Scalar.subi v25 v27
  let c4_i32 : BitVec 32 := 4#32
  let c0_i32_9 : BitVec 32 := 0#32
  let v29 : BitVec 1 := Scalar.cmpi .sgt c4_i32 c0_i32_9
  let v30 : BitVec 32 := Scalar.extui v29
  let c0_i32_10 : BitVec 32 := 0#32
  let v31 : BitVec 1 := Scalar.cmpi .slt c4_i32 c0_i32_10
  let v32 : BitVec 32 := Scalar.extui v31
  let v33 : BitVec 32 := Scalar.subi v30 v32
  let v34 : BitVec 1 := Scalar.cmpi .ne v28 v33
  let v35 : BitVec 32 := Scalar.remsi arg1 c4_i32
  let c0_i32_11 : BitVec 32 := 0#32
  let v36 : BitVec 1 := Scalar.cmpi .ne v35 c0_i32_11
  let v37 : BitVec 1 := Scalar.andi v34 v36
  let v23 : BitVec 32 := Scalar.divsi arg1 c4_i32
  let c1_i32 : BitVec 32 := 1#32
  let v38 : BitVec 32 := Scalar.subi v23 c1_i32
  let v39 : BitVec 32 := Scalar.select v37 v38 v23
  let v41 : BitVec 32 := Scalar.subi v39 c0_i32_13
  let c1_i32_14 : BitVec 32 := 1#32
  let v43 : BitVec 32 := Scalar.divsi v41 c1_i32_14
  let v44 : BitVec 32 := Scalar.muli v43 c1_i32_14
  let v45 : BitVec 32 := Scalar.addi c0_i32_13 v44
  let c1_i32_15 : BitVec 32 := 1#32
  ⟨c0_i32_13, v45, c1_i32_15⟩
def k0_mult1 (i : grid0.Coords) (k0_t1 : Fin (k0_t1_loop i).trips) : BitVec 32 :=
  let c4_i32_47 : BitVec 32 := 4#32
  let c0_i32_13 : BitVec 32 := 0#32
  let c1_i32_15 : BitVec 32 := 1#32
  let arg12 : BitVec 32 := Scf.iv c0_i32_13 c1_i32_15 k0_t1
  let v87 : BitVec 32 := Scalar.muli c4_i32_47 arg12
  let c0_i32_48 : BitVec 32 := 0#32
  let v88 : BitVec 32 := Scalar.addi v87 c0_i32_48
  let c256_i32 : BitVec 32 := 256#32
  let v95 : BitVec 32 := Scalar.muli v88 c256_i32
  v95
def k0_mult2 (i : grid0.Coords) (k0_t1 : Fin (k0_t1_loop i).trips) : BitVec 32 :=
  let c4_i32_49 : BitVec 32 := 4#32
  let c0_i32_13 : BitVec 32 := 0#32
  let c1_i32_15 : BitVec 32 := 1#32
  let arg12 : BitVec 32 := Scf.iv c0_i32_13 c1_i32_15 k0_t1
  let v89 : BitVec 32 := Scalar.muli c4_i32_49 arg12
  let c1_i32_50 : BitVec 32 := 1#32
  let v90 : BitVec 32 := Scalar.addi v89 c1_i32_50
  let c256_i32_55 : BitVec 32 := 256#32
  let v97 : BitVec 32 := Scalar.muli v90 c256_i32_55
  v97
def k0_mult3 (i : grid0.Coords) (k0_t1 : Fin (k0_t1_loop i).trips) : BitVec 32 :=
  let c4_i32_51 : BitVec 32 := 4#32
  let c0_i32_13 : BitVec 32 := 0#32
  let c1_i32_15 : BitVec 32 := 1#32
  let arg12 : BitVec 32 := Scf.iv c0_i32_13 c1_i32_15 k0_t1
  let v91 : BitVec 32 := Scalar.muli c4_i32_51 arg12
  let c2_i32_52 : BitVec 32 := 2#32
  let v92 : BitVec 32 := Scalar.addi v91 c2_i32_52
  let c256_i32_56 : BitVec 32 := 256#32
  let v99 : BitVec 32 := Scalar.muli v92 c256_i32_56
  v99
def k0_mult4 (i : grid0.Coords) (k0_t1 : Fin (k0_t1_loop i).trips) : BitVec 32 :=
  let c4_i32_53 : BitVec 32 := 4#32
  let c0_i32_13 : BitVec 32 := 0#32
  let c1_i32_15 : BitVec 32 := 1#32
  let arg12 : BitVec 32 := Scf.iv c0_i32_13 c1_i32_15 k0_t1
  let v93 : BitVec 32 := Scalar.muli c4_i32_53 arg12
  let c3_i32_54 : BitVec 32 := 3#32
  let v94 : BitVec 32 := Scalar.addi v93 c3_i32_54
  let c256_i32_57 : BitVec 32 := 256#32
  let v101 : BitVec 32 := Scalar.muli v94 c256_i32_57
  v101
def k0_off1 (i : grid0.Coords) (k0_t1 : Fin (k0_t1_loop i).trips) (c0_i32_48 : BitVec 32) : Fin 2 → Nat :=
  let c4_i32_47 : BitVec 32 := 4#32
  let c0_i32_13 : BitVec 32 := 0#32
  let c1_i32_15 : BitVec 32 := 1#32
  let arg12 : BitVec 32 := Scf.iv c0_i32_13 c1_i32_15 k0_t1
  let v87 : BitVec 32 := Scalar.muli c4_i32_47 arg12
  let v88 : BitVec 32 := Scalar.addi v87 c0_i32_48
  let c256_i32 : BitVec 32 := 256#32
  let v95 : BitVec 32 := Scalar.muli v88 c256_i32
  let v96 : BitVec 32 := v95
  let v103 : Index := Scalar.indexCast v96
  let c0_58 : Index := 0#32
  ![v103.toNat, 0]
@[reducible] def k0_t2_loop (i : grid0.Coords) : Scf.Loop 32 :=
  let c0_i32_13 : BitVec 32 := 0#32
  let arg1 : BitVec 32 := BitVec.ofNat 32 (i 1).val
  let c0_i32_7 : BitVec 32 := 0#32
  let v24 : BitVec 1 := Scalar.cmpi .sgt arg1 c0_i32_7
  let v25 : BitVec 32 := Scalar.extui v24
  let c0_i32_8 : BitVec 32 := 0#32
  let v26 : BitVec 1 := Scalar.cmpi .slt arg1 c0_i32_8
  let v27 : BitVec 32 := Scalar.extui v26
  let v28 : BitVec 32 := Scalar.subi v25 v27
  let c4_i32 : BitVec 32 := 4#32
  let c0_i32_9 : BitVec 32 := 0#32
  let v29 : BitVec 1 := Scalar.cmpi .sgt c4_i32 c0_i32_9
  let v30 : BitVec 32 := Scalar.extui v29
  let c0_i32_10 : BitVec 32 := 0#32
  let v31 : BitVec 1 := Scalar.cmpi .slt c4_i32 c0_i32_10
  let v32 : BitVec 32 := Scalar.extui v31
  let v33 : BitVec 32 := Scalar.subi v30 v32
  let v34 : BitVec 1 := Scalar.cmpi .ne v28 v33
  let v35 : BitVec 32 := Scalar.remsi arg1 c4_i32
  let c0_i32_11 : BitVec 32 := 0#32
  let v36 : BitVec 1 := Scalar.cmpi .ne v35 c0_i32_11
  let v37 : BitVec 1 := Scalar.andi v34 v36
  let v23 : BitVec 32 := Scalar.divsi arg1 c4_i32
  let c1_i32 : BitVec 32 := 1#32
  let v38 : BitVec 32 := Scalar.subi v23 c1_i32
  let v39 : BitVec 32 := Scalar.select v37 v38 v23
  let v41 : BitVec 32 := Scalar.subi v39 c0_i32_13
  let c1_i32_14 : BitVec 32 := 1#32
  let v43 : BitVec 32 := Scalar.divsi v41 c1_i32_14
  let v44 : BitVec 32 := Scalar.muli v43 c1_i32_14
  let v45 : BitVec 32 := Scalar.addi c0_i32_13 v44
  let v42 : BitVec 32 := Scalar.addi c0_i32_13 v41
  let c1_i32_16 : BitVec 32 := 1#32
  ⟨v45, v42, c1_i32_16⟩
def k0_mult5 (i : grid0.Coords) (k0_t2 : Fin (k0_t2_loop i).trips) : BitVec 32 :=
  let c4_i32_47 : BitVec 32 := 4#32
  let c0_i32_13 : BitVec 32 := 0#32
  let arg1 : BitVec 32 := BitVec.ofNat 32 (i 1).val
  let c0_i32_7 : BitVec 32 := 0#32
  let v24 : BitVec 1 := Scalar.cmpi .sgt arg1 c0_i32_7
  let v25 : BitVec 32 := Scalar.extui v24
  let c0_i32_8 : BitVec 32 := 0#32
  let v26 : BitVec 1 := Scalar.cmpi .slt arg1 c0_i32_8
  let v27 : BitVec 32 := Scalar.extui v26
  let v28 : BitVec 32 := Scalar.subi v25 v27
  let c4_i32 : BitVec 32 := 4#32
  let c0_i32_9 : BitVec 32 := 0#32
  let v29 : BitVec 1 := Scalar.cmpi .sgt c4_i32 c0_i32_9
  let v30 : BitVec 32 := Scalar.extui v29
  let c0_i32_10 : BitVec 32 := 0#32
  let v31 : BitVec 1 := Scalar.cmpi .slt c4_i32 c0_i32_10
  let v32 : BitVec 32 := Scalar.extui v31
  let v33 : BitVec 32 := Scalar.subi v30 v32
  let v34 : BitVec 1 := Scalar.cmpi .ne v28 v33
  let v35 : BitVec 32 := Scalar.remsi arg1 c4_i32
  let c0_i32_11 : BitVec 32 := 0#32
  let v36 : BitVec 1 := Scalar.cmpi .ne v35 c0_i32_11
  let v37 : BitVec 1 := Scalar.andi v34 v36
  let v23 : BitVec 32 := Scalar.divsi arg1 c4_i32
  let c1_i32 : BitVec 32 := 1#32
  let v38 : BitVec 32 := Scalar.subi v23 c1_i32
  let v39 : BitVec 32 := Scalar.select v37 v38 v23
  let v41 : BitVec 32 := Scalar.subi v39 c0_i32_13
  let c1_i32_14 : BitVec 32 := 1#32
  let v43 : BitVec 32 := Scalar.divsi v41 c1_i32_14
  let v44 : BitVec 32 := Scalar.muli v43 c1_i32_14
  let v45 : BitVec 32 := Scalar.addi c0_i32_13 v44
  let c1_i32_16 : BitVec 32 := 1#32
  let arg12 : BitVec 32 := Scf.iv v45 c1_i32_16 k0_t2
  let v87 : BitVec 32 := Scalar.muli c4_i32_47 arg12
  let c0_i32_48 : BitVec 32 := 0#32
  let v88 : BitVec 32 := Scalar.addi v87 c0_i32_48
  let c256_i32 : BitVec 32 := 256#32
  let v95 : BitVec 32 := Scalar.muli v88 c256_i32
  v95
def k0_mult6 (i : grid0.Coords) (k0_t2 : Fin (k0_t2_loop i).trips) : BitVec 32 :=
  let c4_i32_49 : BitVec 32 := 4#32
  let c0_i32_13 : BitVec 32 := 0#32
  let arg1 : BitVec 32 := BitVec.ofNat 32 (i 1).val
  let c0_i32_7 : BitVec 32 := 0#32
  let v24 : BitVec 1 := Scalar.cmpi .sgt arg1 c0_i32_7
  let v25 : BitVec 32 := Scalar.extui v24
  let c0_i32_8 : BitVec 32 := 0#32
  let v26 : BitVec 1 := Scalar.cmpi .slt arg1 c0_i32_8
  let v27 : BitVec 32 := Scalar.extui v26
  let v28 : BitVec 32 := Scalar.subi v25 v27
  let c4_i32 : BitVec 32 := 4#32
  let c0_i32_9 : BitVec 32 := 0#32
  let v29 : BitVec 1 := Scalar.cmpi .sgt c4_i32 c0_i32_9
  let v30 : BitVec 32 := Scalar.extui v29
  let c0_i32_10 : BitVec 32 := 0#32
  let v31 : BitVec 1 := Scalar.cmpi .slt c4_i32 c0_i32_10
  let v32 : BitVec 32 := Scalar.extui v31
  let v33 : BitVec 32 := Scalar.subi v30 v32
  let v34 : BitVec 1 := Scalar.cmpi .ne v28 v33
  let v35 : BitVec 32 := Scalar.remsi arg1 c4_i32
  let c0_i32_11 : BitVec 32 := 0#32
  let v36 : BitVec 1 := Scalar.cmpi .ne v35 c0_i32_11
  let v37 : BitVec 1 := Scalar.andi v34 v36
  let v23 : BitVec 32 := Scalar.divsi arg1 c4_i32
  let c1_i32 : BitVec 32 := 1#32
  let v38 : BitVec 32 := Scalar.subi v23 c1_i32
  let v39 : BitVec 32 := Scalar.select v37 v38 v23
  let v41 : BitVec 32 := Scalar.subi v39 c0_i32_13
  let c1_i32_14 : BitVec 32 := 1#32
  let v43 : BitVec 32 := Scalar.divsi v41 c1_i32_14
  let v44 : BitVec 32 := Scalar.muli v43 c1_i32_14
  let v45 : BitVec 32 := Scalar.addi c0_i32_13 v44
  let c1_i32_16 : BitVec 32 := 1#32
  let arg12 : BitVec 32 := Scf.iv v45 c1_i32_16 k0_t2
  let v89 : BitVec 32 := Scalar.muli c4_i32_49 arg12
  let c1_i32_50 : BitVec 32 := 1#32
  let v90 : BitVec 32 := Scalar.addi v89 c1_i32_50
  let c256_i32_55 : BitVec 32 := 256#32
  let v97 : BitVec 32 := Scalar.muli v90 c256_i32_55
  v97
def k0_mult7 (i : grid0.Coords) (k0_t2 : Fin (k0_t2_loop i).trips) : BitVec 32 :=
  let c4_i32_51 : BitVec 32 := 4#32
  let c0_i32_13 : BitVec 32 := 0#32
  let arg1 : BitVec 32 := BitVec.ofNat 32 (i 1).val
  let c0_i32_7 : BitVec 32 := 0#32
  let v24 : BitVec 1 := Scalar.cmpi .sgt arg1 c0_i32_7
  let v25 : BitVec 32 := Scalar.extui v24
  let c0_i32_8 : BitVec 32 := 0#32
  let v26 : BitVec 1 := Scalar.cmpi .slt arg1 c0_i32_8
  let v27 : BitVec 32 := Scalar.extui v26
  let v28 : BitVec 32 := Scalar.subi v25 v27
  let c4_i32 : BitVec 32 := 4#32
  let c0_i32_9 : BitVec 32 := 0#32
  let v29 : BitVec 1 := Scalar.cmpi .sgt c4_i32 c0_i32_9
  let v30 : BitVec 32 := Scalar.extui v29
  let c0_i32_10 : BitVec 32 := 0#32
  let v31 : BitVec 1 := Scalar.cmpi .slt c4_i32 c0_i32_10
  let v32 : BitVec 32 := Scalar.extui v31
  let v33 : BitVec 32 := Scalar.subi v30 v32
  let v34 : BitVec 1 := Scalar.cmpi .ne v28 v33
  let v35 : BitVec 32 := Scalar.remsi arg1 c4_i32
  let c0_i32_11 : BitVec 32 := 0#32
  let v36 : BitVec 1 := Scalar.cmpi .ne v35 c0_i32_11
  let v37 : BitVec 1 := Scalar.andi v34 v36
  let v23 : BitVec 32 := Scalar.divsi arg1 c4_i32
  let c1_i32 : BitVec 32 := 1#32
  let v38 : BitVec 32 := Scalar.subi v23 c1_i32
  let v39 : BitVec 32 := Scalar.select v37 v38 v23
  let v41 : BitVec 32 := Scalar.subi v39 c0_i32_13
  let c1_i32_14 : BitVec 32 := 1#32
  let v43 : BitVec 32 := Scalar.divsi v41 c1_i32_14
  let v44 : BitVec 32 := Scalar.muli v43 c1_i32_14
  let v45 : BitVec 32 := Scalar.addi c0_i32_13 v44
  let c1_i32_16 : BitVec 32 := 1#32
  let arg12 : BitVec 32 := Scf.iv v45 c1_i32_16 k0_t2
  let v91 : BitVec 32 := Scalar.muli c4_i32_51 arg12
  let c2_i32_52 : BitVec 32 := 2#32
  let v92 : BitVec 32 := Scalar.addi v91 c2_i32_52
  let c256_i32_56 : BitVec 32 := 256#32
  let v99 : BitVec 32 := Scalar.muli v92 c256_i32_56
  v99
def k0_mult8 (i : grid0.Coords) (k0_t2 : Fin (k0_t2_loop i).trips) : BitVec 32 :=
  let c4_i32_53 : BitVec 32 := 4#32
  let c0_i32_13 : BitVec 32 := 0#32
  let arg1 : BitVec 32 := BitVec.ofNat 32 (i 1).val
  let c0_i32_7 : BitVec 32 := 0#32
  let v24 : BitVec 1 := Scalar.cmpi .sgt arg1 c0_i32_7
  let v25 : BitVec 32 := Scalar.extui v24
  let c0_i32_8 : BitVec 32 := 0#32
  let v26 : BitVec 1 := Scalar.cmpi .slt arg1 c0_i32_8
  let v27 : BitVec 32 := Scalar.extui v26
  let v28 : BitVec 32 := Scalar.subi v25 v27
  let c4_i32 : BitVec 32 := 4#32
  let c0_i32_9 : BitVec 32 := 0#32
  let v29 : BitVec 1 := Scalar.cmpi .sgt c4_i32 c0_i32_9
  let v30 : BitVec 32 := Scalar.extui v29
  let c0_i32_10 : BitVec 32 := 0#32
  let v31 : BitVec 1 := Scalar.cmpi .slt c4_i32 c0_i32_10
  let v32 : BitVec 32 := Scalar.extui v31
  let v33 : BitVec 32 := Scalar.subi v30 v32
  let v34 : BitVec 1 := Scalar.cmpi .ne v28 v33
  let v35 : BitVec 32 := Scalar.remsi arg1 c4_i32
  let c0_i32_11 : BitVec 32 := 0#32
  let v36 : BitVec 1 := Scalar.cmpi .ne v35 c0_i32_11
  let v37 : BitVec 1 := Scalar.andi v34 v36
  let v23 : BitVec 32 := Scalar.divsi arg1 c4_i32
  let c1_i32 : BitVec 32 := 1#32
  let v38 : BitVec 32 := Scalar.subi v23 c1_i32
  let v39 : BitVec 32 := Scalar.select v37 v38 v23
  let v41 : BitVec 32 := Scalar.subi v39 c0_i32_13
  let c1_i32_14 : BitVec 32 := 1#32
  let v43 : BitVec 32 := Scalar.divsi v41 c1_i32_14
  let v44 : BitVec 32 := Scalar.muli v43 c1_i32_14
  let v45 : BitVec 32 := Scalar.addi c0_i32_13 v44
  let c1_i32_16 : BitVec 32 := 1#32
  let arg12 : BitVec 32 := Scf.iv v45 c1_i32_16 k0_t2
  let v93 : BitVec 32 := Scalar.muli c4_i32_53 arg12
  let c3_i32_54 : BitVec 32 := 3#32
  let v94 : BitVec 32 := Scalar.addi v93 c3_i32_54
  let c256_i32_57 : BitVec 32 := 256#32
  let v101 : BitVec 32 := Scalar.muli v94 c256_i32_57
  v101
def k0_off2 (i : grid0.Coords) (k0_t2 : Fin (k0_t2_loop i).trips) (c0_i32_48 : BitVec 32) : Fin 2 → Nat :=
  let c4_i32_47 : BitVec 32 := 4#32
  let c0_i32_13 : BitVec 32 := 0#32
  let arg1 : BitVec 32 := BitVec.ofNat 32 (i 1).val
  let c0_i32_7 : BitVec 32 := 0#32
  let v24 : BitVec 1 := Scalar.cmpi .sgt arg1 c0_i32_7
  let v25 : BitVec 32 := Scalar.extui v24
  let c0_i32_8 : BitVec 32 := 0#32
  let v26 : BitVec 1 := Scalar.cmpi .slt arg1 c0_i32_8
  let v27 : BitVec 32 := Scalar.extui v26
  let v28 : BitVec 32 := Scalar.subi v25 v27
  let c4_i32 : BitVec 32 := 4#32
  let c0_i32_9 : BitVec 32 := 0#32
  let v29 : BitVec 1 := Scalar.cmpi .sgt c4_i32 c0_i32_9
  let v30 : BitVec 32 := Scalar.extui v29
  let c0_i32_10 : BitVec 32 := 0#32
  let v31 : BitVec 1 := Scalar.cmpi .slt c4_i32 c0_i32_10
  let v32 : BitVec 32 := Scalar.extui v31
  let v33 : BitVec 32 := Scalar.subi v30 v32
  let v34 : BitVec 1 := Scalar.cmpi .ne v28 v33
  let v35 : BitVec 32 := Scalar.remsi arg1 c4_i32
  let c0_i32_11 : BitVec 32 := 0#32
  let v36 : BitVec 1 := Scalar.cmpi .ne v35 c0_i32_11
  let v37 : BitVec 1 := Scalar.andi v34 v36
  let v23 : BitVec 32 := Scalar.divsi arg1 c4_i32
  let c1_i32 : BitVec 32 := 1#32
  let v38 : BitVec 32 := Scalar.subi v23 c1_i32
  let v39 : BitVec 32 := Scalar.select v37 v38 v23
  let v41 : BitVec 32 := Scalar.subi v39 c0_i32_13
  let c1_i32_14 : BitVec 32 := 1#32
  let v43 : BitVec 32 := Scalar.divsi v41 c1_i32_14
  let v44 : BitVec 32 := Scalar.muli v43 c1_i32_14
  let v45 : BitVec 32 := Scalar.addi c0_i32_13 v44
  let c1_i32_16 : BitVec 32 := 1#32
  let arg12 : BitVec 32 := Scf.iv v45 c1_i32_16 k0_t2
  let v87 : BitVec 32 := Scalar.muli c4_i32_47 arg12
  let v88 : BitVec 32 := Scalar.addi v87 c0_i32_48
  let c256_i32 : BitVec 32 := 256#32
  let v95 : BitVec 32 := Scalar.muli v88 c256_i32
  let v96 : BitVec 32 := v95
  let v103 : Index := Scalar.indexCast v96
  let c0_58 : Index := 0#32
  ![v103.toNat, 0]
def k0_cond2 (i : grid0.Coords) : BitVec 1 :=
  let arg1 : BitVec 32 := BitVec.ofNat 32 (i 1).val
  let c4_i32_35 : BitVec 32 := 4#32
  let c0_i32_36 : BitVec 32 := 0#32
  let v68 : BitVec 1 := Scalar.cmpi .eq c4_i32_35 c0_i32_36
  let c1_i32_37 : BitVec 32 := 1#32
  let v69 : BitVec 32 := Scalar.select v68 c1_i32_37 c4_i32_35
  let v70 : BitVec 32 := Scalar.remsi arg1 v69
  let c0_i32_39 : BitVec 32 := 0#32
  let v72 : BitVec 1 := Scalar.cmpi .slt v70 c0_i32_39
  let c0_i32_40 : BitVec 32 := 0#32
  let v73 : BitVec 1 := Scalar.cmpi .slt v69 c0_i32_40
  let v74 : BitVec 1 := Scalar.xori v72 v73
  let c0_i32_38 : BitVec 32 := 0#32
  let v71 : BitVec 1 := Scalar.cmpi .ne v70 c0_i32_38
  let v75 : BitVec 1 := Scalar.andi v74 v71
  let v76 : BitVec 32 := Scalar.addi v70 v69
  let v77 : BitVec 32 := Scalar.select v75 v76 v70
  let c0_i32_41 : BitVec 32 := 0#32
  let v78 : BitVec 32 := Scalar.maxsi v77 c0_i32_41
  let c3_i32_42 : BitVec 32 := 3#32
  let v79 : BitVec 32 := Scalar.minsi v78 c3_i32_42
  let c0_i32_43 : BitVec 32 := 0#32
  let v80 : BitVec 1 := Scalar.cmpi .ne v79 c0_i32_43
  v80

def k0_cond3 (i : grid0.Coords) : BitVec 1 :=
  let arg1 : BitVec 32 := BitVec.ofNat 32 (i 1).val
  let c4_i32_35 : BitVec 32 := 4#32
  let c0_i32_36 : BitVec 32 := 0#32
  let v68 : BitVec 1 := Scalar.cmpi .eq c4_i32_35 c0_i32_36
  let c1_i32_37 : BitVec 32 := 1#32
  let v69 : BitVec 32 := Scalar.select v68 c1_i32_37 c4_i32_35
  let v70 : BitVec 32 := Scalar.remsi arg1 v69
  let c0_i32_39 : BitVec 32 := 0#32
  let v72 : BitVec 1 := Scalar.cmpi .slt v70 c0_i32_39
  let c0_i32_40 : BitVec 32 := 0#32
  let v73 : BitVec 1 := Scalar.cmpi .slt v69 c0_i32_40
  let v74 : BitVec 1 := Scalar.xori v72 v73
  let c0_i32_38 : BitVec 32 := 0#32
  let v71 : BitVec 1 := Scalar.cmpi .ne v70 c0_i32_38
  let v75 : BitVec 1 := Scalar.andi v74 v71
  let v76 : BitVec 32 := Scalar.addi v70 v69
  let v77 : BitVec 32 := Scalar.select v75 v76 v70
  let c0_i32_41 : BitVec 32 := 0#32
  let v78 : BitVec 32 := Scalar.maxsi v77 c0_i32_41
  let c3_i32_42 : BitVec 32 := 3#32
  let v79 : BitVec 32 := Scalar.minsi v78 c3_i32_42
  let c1_i32_47 : BitVec 32 := 1#32
  let v87 : BitVec 32 := Scalar.subi v79 c1_i32_47
  let c0_i32_48 : BitVec 32 := 0#32
  let v88 : BitVec 1 := Scalar.cmpi .ne v87 c0_i32_48
  v88

def k0_cond4 (i : grid0.Coords) : BitVec 1 :=
  let arg1 : BitVec 32 := BitVec.ofNat 32 (i 1).val
  let c4_i32_35 : BitVec 32 := 4#32
  let c0_i32_36 : BitVec 32 := 0#32
  let v68 : BitVec 1 := Scalar.cmpi .eq c4_i32_35 c0_i32_36
  let c1_i32_37 : BitVec 32 := 1#32
  let v69 : BitVec 32 := Scalar.select v68 c1_i32_37 c4_i32_35
  let v70 : BitVec 32 := Scalar.remsi arg1 v69
  let c0_i32_39 : BitVec 32 := 0#32
  let v72 : BitVec 1 := Scalar.cmpi .slt v70 c0_i32_39
  let c0_i32_40 : BitVec 32 := 0#32
  let v73 : BitVec 1 := Scalar.cmpi .slt v69 c0_i32_40
  let v74 : BitVec 1 := Scalar.xori v72 v73
  let c0_i32_38 : BitVec 32 := 0#32
  let v71 : BitVec 1 := Scalar.cmpi .ne v70 c0_i32_38
  let v75 : BitVec 1 := Scalar.andi v74 v71
  let v76 : BitVec 32 := Scalar.addi v70 v69
  let v77 : BitVec 32 := Scalar.select v75 v76 v70
  let c0_i32_41 : BitVec 32 := 0#32
  let v78 : BitVec 32 := Scalar.maxsi v77 c0_i32_41
  let c3_i32_42 : BitVec 32 := 3#32
  let v79 : BitVec 32 := Scalar.minsi v78 c3_i32_42
  let c1_i32_47 : BitVec 32 := 1#32
  let v87 : BitVec 32 := Scalar.subi v79 c1_i32_47
  let c1_i32_49 : BitVec 32 := 1#32
  let v90 : BitVec 32 := Scalar.subi v87 c1_i32_49
  let c0_i32_50 : BitVec 32 := 0#32
  let v91 : BitVec 1 := Scalar.cmpi .ne v90 c0_i32_50
  v91

def k0_mult9 (i : grid0.Coords) : BitVec 32 :=
  let arg1 : BitVec 32 := BitVec.ofNat 32 (i 1).val
  let c3_i32 : BitVec 32 := 3#32
  let v60 : BitVec 32 := Scalar.subi arg1 c3_i32
  let c0_i32_28 : BitVec 32 := 0#32
  let v61 : BitVec 32 := Scalar.addi v60 c0_i32_28
  let c256_i32 : BitVec 32 := 256#32
  let v93 : BitVec 32 := Scalar.muli v61 c256_i32
  v93
def k0_mult10 (i : grid0.Coords) : BitVec 32 :=
  let arg1 : BitVec 32 := BitVec.ofNat 32 (i 1).val
  let c3_i32_29 : BitVec 32 := 3#32
  let v62 : BitVec 32 := Scalar.subi arg1 c3_i32_29
  let c1_i32_30 : BitVec 32 := 1#32
  let v63 : BitVec 32 := Scalar.addi v62 c1_i32_30
  let c256_i32_51 : BitVec 32 := 256#32
  let v95 : BitVec 32 := Scalar.muli v63 c256_i32_51
  v95
def k0_mult11 (i : grid0.Coords) : BitVec 32 :=
  let arg1 : BitVec 32 := BitVec.ofNat 32 (i 1).val
  let c3_i32_31 : BitVec 32 := 3#32
  let v64 : BitVec 32 := Scalar.subi arg1 c3_i32_31
  let c2_i32_32 : BitVec 32 := 2#32
  let v65 : BitVec 32 := Scalar.addi v64 c2_i32_32
  let c256_i32_52 : BitVec 32 := 256#32
  let v97 : BitVec 32 := Scalar.muli v65 c256_i32_52
  v97
def k0_mult12 (i : grid0.Coords) : BitVec 32 :=
  let arg1 : BitVec 32 := BitVec.ofNat 32 (i 1).val
  let c3_i32_33 : BitVec 32 := 3#32
  let v66 : BitVec 32 := Scalar.subi arg1 c3_i32_33
  let c3_i32_34 : BitVec 32 := 3#32
  let v67 : BitVec 32 := Scalar.addi v66 c3_i32_34
  let c256_i32_53 : BitVec 32 := 256#32
  let v99 : BitVec 32 := Scalar.muli v67 c256_i32_53
  v99
def k0_off3 (i : grid0.Coords) (c0_i32_28 : BitVec 32) : Fin 2 → Nat :=
  let arg1 : BitVec 32 := BitVec.ofNat 32 (i 1).val
  let c3_i32 : BitVec 32 := 3#32
  let v60 : BitVec 32 := Scalar.subi arg1 c3_i32
  let v61 : BitVec 32 := Scalar.addi v60 c0_i32_28
  let c256_i32 : BitVec 32 := 256#32
  let v93 : BitVec 32 := Scalar.muli v61 c256_i32
  let v94 : BitVec 32 := v93
  let v101 : Index := Scalar.indexCast v94
  let c0_54 : Index := 0#32
  ![v101.toNat, 0]
def k0_mult13 (i : grid0.Coords) : BitVec 32 :=
  let arg1 : BitVec 32 := BitVec.ofNat 32 (i 1).val
  let c2_i32 : BitVec 32 := 2#32
  let v54 : BitVec 32 := Scalar.subi arg1 c2_i32
  let c0_i32_23 : BitVec 32 := 0#32
  let v55 : BitVec 32 := Scalar.addi v54 c0_i32_23
  let c256_i32 : BitVec 32 := 256#32
  let v93 : BitVec 32 := Scalar.muli v55 c256_i32
  v93
def k0_mult14 (i : grid0.Coords) : BitVec 32 :=
  let arg1 : BitVec 32 := BitVec.ofNat 32 (i 1).val
  let c2_i32_24 : BitVec 32 := 2#32
  let v56 : BitVec 32 := Scalar.subi arg1 c2_i32_24
  let c1_i32_25 : BitVec 32 := 1#32
  let v57 : BitVec 32 := Scalar.addi v56 c1_i32_25
  let c256_i32_51 : BitVec 32 := 256#32
  let v95 : BitVec 32 := Scalar.muli v57 c256_i32_51
  v95
def k0_mult15 (i : grid0.Coords) : BitVec 32 :=
  let arg1 : BitVec 32 := BitVec.ofNat 32 (i 1).val
  let c2_i32_26 : BitVec 32 := 2#32
  let v58 : BitVec 32 := Scalar.subi arg1 c2_i32_26
  let c2_i32_27 : BitVec 32 := 2#32
  let v59 : BitVec 32 := Scalar.addi v58 c2_i32_27
  let c256_i32_52 : BitVec 32 := 256#32
  let v97 : BitVec 32 := Scalar.muli v59 c256_i32_52
  v97
def k0_off4 (i : grid0.Coords) (c0_i32_23 : BitVec 32) : Fin 2 → Nat :=
  let arg1 : BitVec 32 := BitVec.ofNat 32 (i 1).val
  let c2_i32 : BitVec 32 := 2#32
  let v54 : BitVec 32 := Scalar.subi arg1 c2_i32
  let v55 : BitVec 32 := Scalar.addi v54 c0_i32_23
  let c256_i32 : BitVec 32 := 256#32
  let v93 : BitVec 32 := Scalar.muli v55 c256_i32
  let v94 : BitVec 32 := v93
  let v99 : Index := Scalar.indexCast v94
  let c0_53 : Index := 0#32
  ![v99.toNat, 0]
def k0_mult16 (i : grid0.Coords) : BitVec 32 :=
  let arg1 : BitVec 32 := BitVec.ofNat 32 (i 1).val
  let c1_i32_19 : BitVec 32 := 1#32
  let v50 : BitVec 32 := Scalar.subi arg1 c1_i32_19
  let c0_i32_20 : BitVec 32 := 0#32
  let v51 : BitVec 32 := Scalar.addi v50 c0_i32_20
  let c256_i32 : BitVec 32 := 256#32
  let v90 : BitVec 32 := Scalar.muli v51 c256_i32
  v90
def k0_mult17 (i : grid0.Coords) : BitVec 32 :=
  let arg1 : BitVec 32 := BitVec.ofNat 32 (i 1).val
  let c1_i32_21 : BitVec 32 := 1#32
  let v52 : BitVec 32 := Scalar.subi arg1 c1_i32_21
  let c1_i32_22 : BitVec 32 := 1#32
  let v53 : BitVec 32 := Scalar.addi v52 c1_i32_22
  let c256_i32_49 : BitVec 32 := 256#32
  let v92 : BitVec 32 := Scalar.muli v53 c256_i32_49
  v92
def k0_off5 (i : grid0.Coords) (c0_i32_20 : BitVec 32) : Fin 2 → Nat :=
  let arg1 : BitVec 32 := BitVec.ofNat 32 (i 1).val
  let c1_i32_19 : BitVec 32 := 1#32
  let v50 : BitVec 32 := Scalar.subi arg1 c1_i32_19
  let v51 : BitVec 32 := Scalar.addi v50 c0_i32_20
  let c256_i32 : BitVec 32 := 256#32
  let v90 : BitVec 32 := Scalar.muli v51 c256_i32
  let v91 : BitVec 32 := v90
  let v94 : Index := Scalar.indexCast v91
  let c0_50 : Index := 0#32
  ![v94.toNat, 0]
def k0_mult18 (i : grid0.Coords) : BitVec 32 :=
  let arg1 : BitVec 32 := BitVec.ofNat 32 (i 1).val
  let c0_i32_17 : BitVec 32 := 0#32
  let v48 : BitVec 32 := Scalar.subi arg1 c0_i32_17
  let c0_i32_18 : BitVec 32 := 0#32
  let v49 : BitVec 32 := Scalar.addi v48 c0_i32_18
  let c256_i32 : BitVec 32 := 256#32
  let v87 : BitVec 32 := Scalar.muli v49 c256_i32
  v87
def k0_off6 (i : grid0.Coords) : Fin 2 → Nat :=
  let arg1 : BitVec 32 := BitVec.ofNat 32 (i 1).val
  let c0_i32_17 : BitVec 32 := 0#32
  let v48 : BitVec 32 := Scalar.subi arg1 c0_i32_17
  let c0_i32_18 : BitVec 32 := 0#32
  let v49 : BitVec 32 := Scalar.addi v48 c0_i32_18
  let c256_i32 : BitVec 32 := 256#32
  let v87 : BitVec 32 := Scalar.muli v49 c256_i32
  let v88 : BitVec 32 := v87
  let v89 : Index := Scalar.indexCast v88
  let c0_47 : Index := 0#32
  ![v89.toNat, 0]
def k0_cond5 (i : grid0.Coords) : BitVec 1 :=
  let arg1 : BitVec 32 := BitVec.ofNat 32 (i 1).val
  let c15_i32 : BitVec 32 := 15#32
  let v84 : BitVec 1 := Scalar.cmpi .eq arg1 c15_i32
  let v85 : BitVec 32 := Scalar.extui v84
  let c0_i32_46 : BitVec 32 := 0#32
  let v86 : BitVec 1 := Scalar.cmpi .ne v85 c0_i32_46
  v86

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S4096x6144 : Shape := ⟨2, ![4096, 6144]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x4096x128 : Shape := ⟨3, ![8, 4096, 128]⟩

abbrev nBuf : Space → Nat
  | .hbm => 176
  | .vmem => 0
  | .smem => 0
  | _ => 0

abbrev hbmTy0_0 (i : Nat) : BufTy := match i % 128 with
  | 0 => ⟨S4096x6144, .f32⟩
  | 1 => ⟨S4096x1024, .f32⟩
  | 2 => ⟨S4096x1024, .f32⟩
  | 3 => ⟨S4096x1024, .f32⟩
  | 4 => ⟨S4096x1024, .f32⟩
  | 5 => ⟨S4096x8x128, .f32⟩
  | 6 => ⟨S4096x8x128, .f32⟩
  | 7 => ⟨S4096x8x128, .f32⟩
  | 8 => ⟨S8x4096x4096, .f32⟩
  | 9 => ⟨S_, .f32⟩
  | 10 => ⟨S8x4096x4096, .f32⟩
  | 11 => ⟨S8x4096x4096, .f32⟩
  | 12 => ⟨S4096, .i32⟩
  | 13 => ⟨S1x4096, .i32⟩
  | 14 => ⟨S4096x1, .i32⟩
  | 15 => ⟨S4096x4096, .i32⟩
  | 16 => ⟨S4096x4096, .i32⟩
  | 17 => ⟨S4096x4096, .i1⟩
  | 18 => ⟨S8x4096x4096, .f32⟩
  | 19 => ⟨S8x4096x4096, .f32⟩
  | 20 => ⟨S_, .f32⟩
  | 21 => ⟨S8x4096x4096, .f32⟩
  | 22 => ⟨S8x4096x4096, .f32⟩
  | 23 => ⟨S8x4096x4096, .f32⟩
  | 24 => ⟨S8x4096x4096, .f32⟩
  | 25 => ⟨S8x4096x4096, .i1⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S_, .f32⟩
  | 35 => ⟨S8x4096x4096, .f32⟩
  | 36 => ⟨S8x4096x4096, .i1⟩
  | 37 => ⟨S_, .f32⟩
  | 38 => ⟨S8x4096x4096, .f32⟩
  | 39 => ⟨S8x4096x4096, .f32⟩
  | 40 => ⟨S_, .f32⟩
  | 41 => ⟨S8x4096x4096, .f32⟩
  | 42 => ⟨S8x4096x4096, .i1⟩
  | 43 => ⟨S_, .f32⟩
  | 44 => ⟨S8x4096x4096, .f32⟩
  | 45 => ⟨S8x4096x4096, .f32⟩
  | 46 => ⟨S8x4096x4096, .f32⟩
  | 47 => ⟨S8x4096x4096, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x4096x4096, .f32⟩
  | 56 => ⟨S8x4096x4096, .i1⟩
  | 57 => ⟨S_, .f32⟩
  | 58 => ⟨S8x4096x4096, .f32⟩
  | 59 => ⟨S8x4096x4096, .f32⟩
  | 60 => ⟨S8x4096x4096, .f32⟩
  | 61 => ⟨S8x4096x4096, .f32⟩
  | 62 => ⟨S8x4096x4096, .f32⟩
  | 63 => ⟨S_, .f32⟩
  | 64 => ⟨S8x4096x4096, .f32⟩
  | 65 => ⟨S8x4096x4096, .f32⟩
  | 66 => ⟨S8x4096x4096, .f32⟩
  | 67 => ⟨S_, .f32⟩
  | 68 => ⟨S_, .f32⟩
  | 69 => ⟨S8x4096x4096, .i1⟩
  | 70 => ⟨S8x4096x4096, .f32⟩
  | 71 => ⟨S8x4096x4096, .f32⟩
  | 72 => ⟨S_, .f32⟩
  | 73 => ⟨S8x4096x4096, .f32⟩
  | 74 => ⟨S_, .f32⟩
  | 75 => ⟨S_, .f32⟩
  | 76 => ⟨S8x4096x4096, .f32⟩
  | 77 => ⟨S8x4096x4096, .f32⟩
  | 78 => ⟨S8x4096x4096, .f32⟩
  | 79 => ⟨S_, .f32⟩
  | 80 => ⟨S8x4096x4096, .f32⟩
  | 81 => ⟨S8x4096x4096, .f32⟩
  | 82 => ⟨S8x4096x4096, .f32⟩
  | 83 => ⟨S8x4096x4096, .f32⟩
  | 84 => ⟨S8x4096x4096, .i1⟩
  | 85 => ⟨S8x4096x4096, .f32⟩
  | 86 => ⟨S8x4096x4096, .f32⟩
  | 87 => ⟨S8x4096x4096, .f32⟩
  | 88 => ⟨S8x4096x4096, .f32⟩
  | 89 => ⟨S8x4096x4096, .f32⟩
  | 90 => ⟨S8x4096x4096, .f32⟩
  | 91 => ⟨S8x4096x4096, .f32⟩
  | 92 => ⟨S8x4096x4096, .f32⟩
  | 93 => ⟨S_, .f32⟩
  | 94 => ⟨S8x4096x4096, .f32⟩
  | 95 => ⟨S8x4096x4096, .i1⟩
  | 96 => ⟨S_, .f32⟩
  | 97 => ⟨S8x4096x4096, .f32⟩
  | 98 => ⟨S8x4096x4096, .f32⟩
  | 99 => ⟨S_, .f32⟩
  | 100 => ⟨S8x4096x4096, .f32⟩
  | 101 => ⟨S8x4096x4096, .i1⟩
  | 102 => ⟨S_, .f32⟩
  | 103 => ⟨S8x4096x4096, .f32⟩
  | 104 => ⟨S8x4096x4096, .f32⟩
  | 105 => ⟨S8x4096x4096, .f32⟩
  | 106 => ⟨S8x4096x4096, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S8x4096x4096, .f32⟩
  | 115 => ⟨S8x4096x4096, .i1⟩
  | 116 => ⟨S_, .f32⟩
  | 117 => ⟨S8x4096x4096, .f32⟩
  | 118 => ⟨S8x4096x4096, .f32⟩
  | 119 => ⟨S8x4096x4096, .f32⟩
  | 120 => ⟨S8x4096x4096, .f32⟩
  | 121 => ⟨S8x4096x4096, .f32⟩
  | 122 => ⟨S_, .f32⟩
  | 123 => ⟨S8x4096x4096, .f32⟩
  | 124 => ⟨S8x4096x4096, .f32⟩
  | 125 => ⟨S8x4096x4096, .f32⟩
  | 126 => ⟨S8x4096x4096, .f32⟩
  | 127 => ⟨S8x4096x4096, .f32⟩
  | _ => ⟨S4096x6144, .f32⟩

abbrev hbmTy0_1 (i : Nat) : BufTy := match i % 128 with
  | 0 => ⟨S_, .f32⟩
  | 1 => ⟨S_, .f32⟩
  | 2 => ⟨S8x4096x4096, .i1⟩
  | 3 => ⟨S8x4096x4096, .f32⟩
  | 4 => ⟨S8x4096x4096, .f32⟩
  | 5 => ⟨S_, .f32⟩
  | 6 => ⟨S8x4096x4096, .f32⟩
  | 7 => ⟨S8x128x4096, .f32⟩
  | 8 => ⟨S4096x8x128, .f32⟩
  | 9 => ⟨S4096x1024, .f32⟩
  | 10 => ⟨S4096x8x128, .f32⟩
  | 11 => ⟨S8x128x4096, .f32⟩
  | 12 => ⟨S8x4096x4096, .f32⟩
  | 13 => ⟨S8x128x4096, .f32⟩
  | 14 => ⟨S4096x8x128, .f32⟩
  | 15 => ⟨S_, .f32⟩
  | 16 => ⟨S8x4096x4096, .f32⟩
  | 17 => ⟨S8x4096x4096, .f32⟩
  | 18 => ⟨S8x4096x4096, .f32⟩
  | 19 => ⟨S8x4096x4096, .f32⟩
  | 20 => ⟨S8x4096x4096, .f32⟩
  | 21 => ⟨S8x4096x4096, .f32⟩
  | 22 => ⟨S8x4096x4096, .f32⟩
  | 23 => ⟨S_, .f32⟩
  | 24 => ⟨S_, .f32⟩
  | 25 => ⟨S8x4096x4096, .f32⟩
  | 26 => ⟨S8x4096x4096, .f32⟩
  | 27 => ⟨S_, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S_, .f32⟩
  | 36 => ⟨S8x4096x4096, .f32⟩
  | 37 => ⟨S8x4096x4096, .f32⟩
  | 38 => ⟨S8x4096x128, .f32⟩
  | 39 => ⟨S4096x8x128, .f32⟩
  | 40 => ⟨S8x4096x128, .f32⟩
  | 41 => ⟨S4096x8x128, .f32⟩
  | 42 => ⟨S4096x1024, .f32⟩
  | 43 => ⟨S4096x1024, .f32⟩
  | 44 => ⟨S4096x1024, .f32⟩
  | 45 => ⟨S4096x1024, .bf16⟩
  | 46 => ⟨S4096x1024, .bf16⟩
  | 47 => ⟨S4096x1024, .bf16⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v16_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v16_2 : Ref sig .tc := ⟨.hbm, 65, rfl⟩
abbrev main_v16_0 : Ref sig .tc := ⟨.hbm, 66, rfl⟩
abbrev main_cst_0 : Ref sig .tc := ⟨.hbm, 67, rfl⟩
abbrev main_call1_v0 : Ref sig .tc := ⟨.hbm, 68, rfl⟩
abbrev main_v17_1 : Ref sig .tc := ⟨.hbm, 69, rfl⟩
abbrev main_call1_v2 : Ref sig .tc := ⟨.hbm, 70, rfl⟩
abbrev main_v17_0 : Ref sig .tc := ⟨.hbm, 71, rfl⟩
abbrev main_call1_cst : Ref sig .tc := ⟨.hbm, 72, rfl⟩
abbrev main_v17_2 : Ref sig .tc := ⟨.hbm, 73, rfl⟩
abbrev main_call2_cst : Ref sig .tc := ⟨.hbm, 74, rfl⟩
abbrev main_call2_v0 : Ref sig .tc := ⟨.hbm, 75, rfl⟩
abbrev main_v18 : Ref sig .tc := ⟨.hbm, 76, rfl⟩
abbrev main_v19 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v20_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v20_2 : Ref sig .tc := ⟨.hbm, 124, rfl⟩
abbrev main_v20_0 : Ref sig .tc := ⟨.hbm, 125, rfl⟩
abbrev main_v21 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_call5_cst : Ref sig .tc := ⟨.hbm, 143, rfl⟩
abbrev main_call5_v0 : Ref sig .tc := ⟨.hbm, 144, rfl⟩
abbrev main_v32 : Ref sig .tc := ⟨.hbm, 145, rfl⟩
abbrev main_v33 : Ref sig .tc := ⟨.hbm, 146, rfl⟩
abbrev main_call6_v0 : Ref sig .tc := ⟨.hbm, 147, rfl⟩
abbrev main_call6_v1 : Ref sig .tc := ⟨.hbm, 148, rfl⟩
abbrev main_v34 : Ref sig .tc := ⟨.hbm, 149, rfl⟩
abbrev main_v35 : Ref sig .tc := ⟨.hbm, 150, rfl⟩
abbrev main_call7_cst : Ref sig .tc := ⟨.hbm, 151, rfl⟩
abbrev main_call7_v0 : Ref sig .tc := ⟨.hbm, 152, rfl⟩
abbrev main_v36 : Ref sig .tc := ⟨.hbm, 153, rfl⟩
abbrev main_v37 : Ref sig .tc := ⟨.hbm, 154, rfl⟩
abbrev main_call8_cst : Ref sig .tc := ⟨.hbm, 155, rfl⟩
abbrev main_call8_v0 : Ref sig .tc := ⟨.hbm, 156, rfl⟩
abbrev main_v38 : Ref sig .tc := ⟨.hbm, 157, rfl⟩
abbrev main_call9_v0 : Ref sig .tc := ⟨.hbm, 158, rfl⟩
abbrev main_call9_v1 : Ref sig .tc := ⟨.hbm, 159, rfl⟩
abbrev main_v39 : Ref sig .tc := ⟨.hbm, 160, rfl⟩
abbrev main_v40 : Ref sig .tc := ⟨.hbm, 161, rfl⟩
abbrev main_v41 : Ref sig .tc := ⟨.hbm, 162, rfl⟩
abbrev main_cst_2 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩

abbrev nD : Nat := 1
abbrev τ : Topo := Topo.v7x

variable {F : FTy → Type} [FloatOps F]
-- ==== Kernel2.lean ====
abbrev S4x2048x2816 : Shape := ⟨3, ![4, 2048, 2816]⟩
abbrev S4096x11264 : Shape := ⟨2, ![4096, 11264]⟩
abbrev S4096x2048 : Shape := ⟨2, ![4096, 2048]⟩
abbrev S1024x2816 : Shape := ⟨2, ![1024, 2816]⟩
abbrev S1x1024x2816 : Shape := ⟨3, ![1, 1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x2048x2816, .bf16⟩
  | .hbm, ⟨1, _⟩ => ⟨S4096x11264, .bf16⟩
  | .hbm, ⟨2, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4x2048x2816 : Shape := ⟨3, ![4, 2048, 2816]⟩
abbrev S4096x11264 : Shape := ⟨2, ![4096, 11264]⟩
abbrev S2048x4x2816 : Shape := ⟨3, ![2048, 4, 2816]⟩
abbrev S2048x11264 : Shape := ⟨2, ![2048, 11264]⟩
abbrev S_ : Shape := ⟨0, ![]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S4096x11264, .bf16⟩
  | .hbm, ⟨2, _⟩ => ⟨S4x2048x2816, .f32⟩
  | .hbm, ⟨3, _⟩ => ⟨S2048x4x2816, .f32⟩
  | .hbm, ⟨4, _⟩ => ⟨S2048x11264, .f32⟩
  | .hbm, ⟨5, _⟩ => ⟨S_, .f32⟩
  | .hbm, ⟨6, _⟩ => ⟨S4096x2048, .f32⟩
  | .hbm, ⟨7, _⟩ => ⟨S4x2048x2816, .f32⟩
  | .hbm, ⟨8, _⟩ => ⟨S2048x4x2816, .f32⟩
  | .hbm, ⟨9, _⟩ => ⟨S2048x11264, .f32⟩
  | .hbm, ⟨10, _⟩ => ⟨S4096x11264, .f32⟩
  | .hbm, ⟨11, _⟩ => ⟨S4096x11264, .f32⟩
  | .hbm, ⟨12, _⟩ => ⟨S4096x2048, .f32⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel3.lean ====
abbrev S4096x2048 : Shape := ⟨2, ![4096, 2048]⟩
abbrev S4096x11264 : Shape := ⟨2, ![4096, 11264]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S4096x11264 : Shape := ⟨2, ![4096, 11264]⟩
abbrev S_ : Shape := ⟨0, ![]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S11264x2048 : Shape := ⟨2, ![11264, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S4x2048x2816, .f32⟩
  | .hbm, ⟨4, _⟩ => ⟨S4096x2048, .f32⟩
  | .hbm, ⟨5, _⟩ => ⟨S2048x4x2816, .f32⟩
  | .hbm, ⟨6, _⟩ => ⟨S2048x11264, .f32⟩
  | .hbm, ⟨7, _⟩ => ⟨S4096x11264, .f32⟩
  | .hbm, ⟨8, _⟩ => ⟨S4096x11264, .f32⟩
  | .hbm, ⟨9, _⟩ => ⟨S11264x2048, .f32⟩
  | .hbm, ⟨10, _⟩ => ⟨S2048x11264, .f32⟩
  | .hbm, ⟨11, _⟩ => ⟨S2048x4x2816, .f32⟩
  | .hbm, ⟨12, _⟩ => ⟨S4x2048x2816, .f32⟩
  | .hbm, ⟨13, _⟩ => ⟨S4x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S4096x5632 : Shape := ⟨2, ![4096, 5632]⟩
abbrev S4096x11264 : Shape := ⟨2, ![4096, 11264]⟩
abbrev S256x5632 : Shape := ⟨2, ![256, 5632]⟩
abbrev S256x11264 : Shape := ⟨2, ![256, 11264]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S4096x11264, .bf16⟩
  | .hbm, ⟨2, _⟩ => ⟨S4096x11264, .bf16⟩
  | .local _ .vmem, ⟨0, _⟩ => ⟨S256x5632, .f32⟩
  | .local _ .vmem, ⟨1, _⟩ => ⟨S256x5632, .f32⟩
  | .local _ .vmem, ⟨2, _⟩ => ⟨S256x11264, .bf16⟩
  | .local _ .vmem, ⟨3, _⟩ => ⟨S256x11264, .bf16⟩
  | .local _ .vmem, ⟨4, _⟩ => ⟨S256x11264, .bf16⟩
  | .local _ .vmem, ⟨5, _⟩ => ⟨S256x11264, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x11264 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4096x5632 : Shape := ⟨2, ![4096, 5632]⟩
abbrev S4096x11264 : Shape := ⟨2, ![4096, 11264]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x11264, .bf16⟩
  | .hbm, ⟨2, _⟩ => ⟨S4096x11264, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S_, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x11264, .f32⟩
  | .hbm, ⟨26, _⟩ => ⟨S4096x11264, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩

abbrev nD : Nat := 1
abbrev τ : Topo := Topo.v7x

variable {F : FTy → Type} [FloatOps F]
-- ==== Kernel5.lean ====
abbrev S4x1408x2048 : Shape := ⟨3, ![4, 1408, 2048]⟩
abbrev S4096x2048 : Shape := ⟨2, ![4096, 2048]⟩
abbrev S4096x5632 : Shape := ⟨2, ![4096, 5632]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4x1408x2048, .bf16⟩
  | .hbm, ⟨1, _⟩ => ⟨S4096x2048, .bf16⟩
  | .hbm, ⟨2, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .f32⟩
  | .local _ .vmem, ⟨5, _⟩ => ⟨S1024x1408, .f32⟩
  | _, _ => ⟨S4x1408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4x1408x2048 : Shape := ⟨3, ![4, 1408, 2048]⟩
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4x1408x2048, .bf16⟩
  | .hbm, ⟨1, _⟩ => ⟨S4096x2048, .bf16⟩
  | .hbm, ⟨2, _⟩ => ⟨S4x1408x2048, .f32⟩
  | .hbm, ⟨3, _⟩ => ⟨S5632x2048, .f32⟩
  | .hbm, ⟨4, _⟩ => ⟨S_, .f32⟩
  | .hbm, ⟨5, _⟩ => ⟨S4096x5632, .f32⟩
  | .hbm, ⟨6, _⟩ => ⟨S4x1408x2048, .f32⟩
  | .hbm, ⟨7, _⟩ => ⟨S5632x2048, .f32⟩
  | .hbm, ⟨8, _⟩ => ⟨S4096x2048, .f32⟩
  | .hbm, ⟨9, _⟩ => ⟨S4096x2048, .f32⟩
  | .hbm, ⟨10, _⟩ => ⟨S4096x5632, .f32⟩
  | _, _ => ⟨S4x1408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x5632 : Shape := ⟨2, ![4096, 5632]⟩
abbrev S4096x2048 : Shape := ⟨2, ![4096, 2048]⟩
abbrev S4x1408x2048 : Shape := ⟨3, ![4, 1408, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x5632 : Shape := ⟨2, ![4096, 5632]⟩
abbrev S4096x2048 : Shape := ⟨2, ![4096, 2048]⟩
abbrev S_ : Shape := ⟨0, ![]⟩
abbrev S4x1408x2048 : Shape := ⟨3, ![4, 1408, 2048]⟩
abbrev S5632x2048 : Shape := ⟨2, ![5632, 2048]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S4x1408x2048, .f32⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S4096x2048, .f32⟩
  | .hbm, ⟨8, _⟩ => ⟨S2048x5632, .f32⟩
  | .hbm, ⟨9, _⟩ => ⟨S5632x2048, .f32⟩
  | .hbm, ⟨10, _⟩ => ⟨S4x1408x2048, .f32⟩
  | .hbm, ⟨11, _⟩ => ⟨S4x1408x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4x2048x1536 : Shape := ⟨3, ![4, 2048, 1536]⟩
abbrev S4096x6144 : Shape := ⟨2, ![4096, 6144]⟩
abbrev S4096x2048 : Shape := ⟨2, ![4096, 2048]⟩
abbrev S1024x1536 : Shape := ⟨2, ![1024, 1536]⟩
abbrev S1x1024x1536 : Shape := ⟨3, ![1, 1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x2048x1536, .bf16⟩
  | .hbm, ⟨1, _⟩ => ⟨S4096x6144, .bf16⟩
  | .hbm, ⟨2, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4x2048x1536 : Shape := ⟨3, ![4, 2048, 1536]⟩
abbrev S4096x6144 : Shape := ⟨2, ![4096, 6144]⟩
abbrev S2048x4x1536 : Shape := ⟨3, ![2048, 4, 1536]⟩
abbrev S2048x6144 : Shape := ⟨2, ![2048, 6144]⟩
abbrev S_ : Shape := ⟨0, ![]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x1536, .bf16⟩
  | .hbm, ⟨1, _⟩ => ⟨S4096x6144, .bf16⟩
  | .hbm, ⟨2, _⟩ => ⟨S4x2048x1536, .f32⟩
  | .hbm, ⟨3, _⟩ => ⟨S2048x4x1536, .f32⟩
  | .hbm, ⟨4, _⟩ => ⟨S2048x6144, .f32⟩
  | .hbm, ⟨5, _⟩ => ⟨S_, .f32⟩
  | .hbm, ⟨6, _⟩ => ⟨S4096x2048, .f32⟩
  | .hbm, ⟨7, _⟩ => ⟨S4x2048x1536, .f32⟩
  | .hbm, ⟨8, _⟩ => ⟨S2048x4x1536, .f32⟩
  | .hbm, ⟨9, _⟩ => ⟨S2048x6144, .f32⟩
  | .hbm, ⟨10, _⟩ => ⟨S4096x6144, .f32⟩
  | .hbm, ⟨11, _⟩ => ⟨S4096x6144, .f32⟩
  | .hbm, ⟨12, _⟩ => ⟨S4096x2048, .f32⟩
  | _, _ => ⟨S4x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel8.lean ====
abbrev S4096x2048 : Shape := ⟨2, ![4096, 2048]⟩
abbrev S4096x6144 : Shape := ⟨2, ![4096, 6144]⟩
abbrev S4x2048x1536 : Shape := ⟨3, ![4, 2048, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4x2048x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x6144 : Shape := ⟨2, ![4096, 6144]⟩
abbrev S_ : Shape := ⟨0, ![]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S6144x2048 : Shape := ⟨2, ![6144, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S4x2048x1536, .f32⟩
  | .hbm, ⟨4, _⟩ => ⟨S4096x2048, .f32⟩
  | .hbm, ⟨5, _⟩ => ⟨S2048x4x1536, .f32⟩
  | .hbm, ⟨6, _⟩ => ⟨S2048x6144, .f32⟩
  | .hbm, ⟨7, _⟩ => ⟨S4096x6144, .f32⟩
  | .hbm, ⟨8, _⟩ => ⟨S4096x6144, .f32⟩
  | .hbm, ⟨9, _⟩ => ⟨S6144x2048, .f32⟩
  | .hbm, ⟨10, _⟩ => ⟨S2048x6144, .f32⟩
  | .hbm, ⟨11, _⟩ => ⟨S2048x4x1536, .f32⟩
  | .hbm, ⟨12, _⟩ => ⟨S4x2048x1536, .f32⟩
  | .hbm, ⟨13, _⟩ => ⟨S4x2048x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel9.lean ====
abbrev S4x512x2048 : Shape := ⟨3, ![4, 512, 2048]⟩
abbrev S4096x2048 : Shape := ⟨2, ![4096, 2048]⟩
abbrev S512x2048 : Shape := ⟨2, ![512, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4x512x2048, .bf16⟩
  | .hbm, ⟨1, _⟩ => ⟨S4096x2048, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S4x512x2048, .bf16⟩
  | .local _ .vmem, ⟨3, _⟩ => ⟨S512x2048, .f32⟩
  | .local _ .vmem, ⟨4, _⟩ => ⟨S512x2048, .f32⟩
  | _, _ => ⟨S4x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4x512x2048 : Shape := ⟨3, ![4, 512, 2048]⟩
abbrev S4096x2048 : Shape := ⟨2, ![4096, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x512x2048, .bf16⟩
  | .hbm, ⟨1, _⟩ => ⟨S4096x2048, .bf16⟩
  | .hbm, ⟨2, _⟩ => ⟨S4x512x2048, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4x512x2048, .f32⟩
  | .hbm, ⟨7, _⟩ => ⟨S2048x2048, .f32⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x2048 : Shape := ⟨2, ![4096, 2048]⟩
abbrev S4x512x2048 : Shape := ⟨3, ![4, 512, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S_ : Shape := ⟨0, ![]⟩
abbrev S4x512x2048 : Shape := ⟨3, ![4, 512, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S4x512x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S4x512x2048, .f32⟩
  | .hbm, ⟨11, _⟩ => ⟨S4x512x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S4096x256 : Shape := ⟨2, ![4096, 256]⟩
abbrev S4096x2048 : Shape := ⟨2, ![4096, 2048]⟩
abbrev S4x256x512 : Shape := ⟨3, ![4, 256, 512]⟩
abbrev S2048x256 : Shape := ⟨2, ![2048, 256]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S4x256x512, .bf16⟩
  | .local _ .vmem, ⟨0, _⟩ => ⟨S2048x256, .f32⟩
  | .local _ .vmem, ⟨1, _⟩ => ⟨S2048x256, .f32⟩
  | .local _ .vmem, ⟨2, _⟩ => ⟨S2048x512, .bf16⟩
  | .local _ .vmem, ⟨3, _⟩ => ⟨S2048x512, .bf16⟩
  | .local _ .vmem, ⟨4, _⟩ => ⟨S1x256x512, .bf16⟩
  | .local _ .vmem, ⟨5, _⟩ => ⟨S1x256x512, .bf16⟩
  | .local _ .vmem, ⟨6, _⟩ => ⟨S256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x256 : Shape := ⟨2, ![4096, 256]⟩
abbrev S4096x2048 : Shape := ⟨2, ![4096, 2048]⟩
abbrev S_ : Shape := ⟨0, ![]⟩
abbrev S4x256x512 : Shape := ⟨3, ![4, 256, 512]⟩
abbrev S256x4x512 : Shape := ⟨3, ![256, 4, 512]⟩
abbrev S256x2048 : Shape := ⟨2, ![256, 2048]⟩
abbrev S2048x256 : Shape := ⟨2, ![2048, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S_, .f32⟩
  | .hbm, ⟨3, _⟩ => ⟨S4x256x512, .f32⟩
  | .hbm, ⟨4, _⟩ => ⟨S256x4x512, .f32⟩
  | .hbm, ⟨5, _⟩ => ⟨S256x2048, .f32⟩
  | .hbm, ⟨6, _⟩ => ⟨S4096x2048, .f32⟩
  | .hbm, ⟨7, _⟩ => ⟨S4096x2048, .f32⟩
  | .hbm, ⟨8, _⟩ => ⟨S2048x256, .f32⟩
  | .hbm, ⟨9, _⟩ => ⟨S256x2048, .f32⟩
  | .hbm, ⟨10, _⟩ => ⟨S256x4x512, .f32⟩
  | .hbm, ⟨11, _⟩ => ⟨S4x256x512, .f32⟩
  | .hbm, ⟨12, _⟩ => ⟨S4x256x512, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel12.lean ====
abbrev S4096x2048 : Shape := ⟨2, ![4096, 2048]⟩
abbrev S4x2048x2816 : Shape := ⟨3, ![4, 2048, 2816]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x11264 : Shape := ⟨2, ![4096, 11264]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x2048, .f32⟩
  | .hbm, ⟨3, _⟩ => ⟨S4x2048x2816, .f32⟩
  | .hbm, ⟨4, _⟩ => ⟨S2048x4x2816, .f32⟩
  | .hbm, ⟨5, _⟩ => ⟨S2048x11264, .f32⟩
  | .hbm, ⟨6, _⟩ => ⟨S4096x11264, .f32⟩
  | .hbm, ⟨7, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel13.lean ====
abbrev S4096x11264 : Shape := ⟨2, ![4096, 11264]⟩
abbrev S4096x5632 : Shape := ⟨2, ![4096, 5632]⟩
abbrev S256x11264 : Shape := ⟨2, ![256, 11264]⟩
abbrev S256x5632 : Shape := ⟨2, ![256, 5632]⟩

abbrev nBuf : Space → Nat
  | .hbm => 2
  | .vmem => 4
  | .smem => 0
  | _ => 0

abbrev bufTy : (tb : Table) → Fin (tcTables nBuf tb) → BufTy
  | .hbm, ⟨0, _⟩ => ⟨S4096x11264, .bf16⟩
  | .hbm, ⟨1, _⟩ => ⟨S4096x5632, .bf16⟩
  | .local _ .vmem, ⟨0, _⟩ => ⟨S256x11264, .bf16⟩
  | .local _ .vmem, ⟨1, _⟩ => ⟨S256x11264, .bf16⟩
  | .local _ .vmem, ⟨2, _⟩ => ⟨S256x5632, .bf16⟩
  | .local _ .vmem, ⟨3, _⟩ => ⟨S256x5632, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference13Ideal.lean ====
abbrev S4096x11264 : Shape := ⟨2, ![4096, 11264]⟩
abbrev S4096x5632 : Shape := ⟨2, ![4096, 5632]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .f32⟩
  | .hbm, ⟨2, _⟩ => ⟨S4096x5632, .f32⟩
  | .hbm, ⟨3, _⟩ => ⟨S4096x5632, .f32⟩
  | .hbm, ⟨4, _⟩ => ⟨S4096x5632, .f32⟩
  | .hbm, ⟨5, _⟩ => ⟨S4096x5632, .f32⟩
  | .hbm, ⟨6, _⟩ => ⟨S_, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S4096x5632, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Kernel14.lean ====
abbrev S4096x5632 : Shape := ⟨2, ![4096, 5632]⟩
abbrev S4x1408x2048 : Shape := ⟨3, ![4, 1408, 2048]⟩
abbrev S4096x2048 : Shape := ⟨2, ![4096, 2048]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4x1408x2048, .bf16⟩
  | .hbm, ⟨2, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x5632 : Shape := ⟨2, ![4096, 5632]⟩
abbrev S4x1408x2048 : Shape := ⟨3, ![4, 1408, 2048]⟩
abbrev S5632x2048 : Shape := ⟨2, ![5632, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x1408x2048, .bf16⟩
  | .hbm, ⟨2, _⟩ => ⟨S4096x5632, .f32⟩
  | .hbm, ⟨3, _⟩ => ⟨S4x1408x2048, .f32⟩
  | .hbm, ⟨4, _⟩ => ⟨S5632x2048, .f32⟩
  | .hbm, ⟨5, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S4096x2048 : Shape := ⟨2, ![4096, 2048]⟩
abbrev S4x2048x1536 : Shape := ⟨3, ![4, 2048, 1536]⟩
abbrev S4096x6144 : Shape := ⟨2, ![4096, 6144]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .f32⟩
  | .local _ .vmem, ⟨5, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S4x2048x1536 : Shape := ⟨3, ![4, 2048, 1536]⟩
abbrev S2048x4x1536 : Shape := ⟨3, ![2048, 4, 1536]⟩
abbrev S2048x6144 : Shape := ⟨2, ![2048, 6144]⟩
abbrev S4096x6144 : Shape := ⟨2, ![4096, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1536, .bf16⟩
  | .hbm, ⟨2, _⟩ => ⟨S4096x2048, .f32⟩
  | .hbm, ⟨3, _⟩ => ⟨S4x2048x1536, .f32⟩
  | .hbm, ⟨4, _⟩ => ⟨S2048x4x1536, .f32⟩
  | .hbm, ⟨5, _⟩ => ⟨S2048x6144, .f32⟩
  | .hbm, ⟨6, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S4096x2048 : Shape := ⟨2, ![4096, 2048]⟩
abbrev S4x512x2048 : Shape := ⟨3, ![4, 512, 2048]⟩
abbrev S1024x2048 : Shape := ⟨2, ![1024, 2048]⟩
abbrev S4x512x1024 : Shape := ⟨3, ![4, 512, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S4x512x1024, .bf16⟩
  | .local _ .vmem, ⟨3, _⟩ => ⟨S4x512x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S4x512x2048 : Shape := ⟨3, ![4, 512, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x512x2048, .bf16⟩
  | .hbm, ⟨2, _⟩ => ⟨S4096x2048, .f32⟩
  | .hbm, ⟨3, _⟩ => ⟨S4x512x2048, .f32⟩
  | .hbm, ⟨4, _⟩ => ⟨S2048x2048, .f32⟩
  | .hbm, ⟨5, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4096x256 : Shape := ⟨2, ![4096, 256]⟩
abbrev S4x256x512 : Shape := ⟨3, ![4, 256, 512]⟩
abbrev S4096x2048 : Shape := ⟨2, ![4096, 2048]⟩
abbrev S1024x256 : Shape := ⟨2, ![1024, 256]⟩
abbrev S1x256x512 : Shape := ⟨3, ![1, 256, 512]⟩
abbrev S1024x512 : Shape := ⟨2, ![1024, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4x256x512, .bf16⟩
  | .hbm, ⟨2, _⟩ => ⟨S4096x2048, .f32⟩
  | .local _ .vmem, ⟨0, _⟩ => ⟨S1024x256, .f32⟩
  | .local _ .vmem, ⟨1, _⟩ => ⟨S1024x256, .f32⟩
  | .local _ .vmem, ⟨2, _⟩ => ⟨S1x256x512, .bf16⟩
  | .local _ .vmem, ⟨3, _⟩ => ⟨S1x256x512, .bf16⟩
  | .local _ .vmem, ⟨4, _⟩ => ⟨S1024x512, .f32⟩
  | .local _ .vmem, ⟨5, _⟩ => ⟨S1024x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x256 : Shape := ⟨2, ![4096, 256]⟩
abbrev S4x256x512 : Shape := ⟨3, ![4, 256, 512]⟩
abbrev S256x4x512 : Shape := ⟨3, ![256, 4, 512]⟩
abbrev S256x2048 : Shape := ⟨2, ![256, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4x256x512, .bf16⟩
  | .hbm, ⟨2, _⟩ => ⟨S4x256x512, .f32⟩
  | .hbm, ⟨3, _⟩ => ⟨S256x4x512, .f32⟩
  | .hbm, ⟨4, _⟩ => ⟨S256x2048, .f32⟩
  | .hbm, ⟨5, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S8192x1536 : Shape := ⟨2, ![8192, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S8192x1536, .f32⟩
  | .hbm, ⟨3, _⟩ => ⟨S8192x1536, .f32⟩
  | .hbm, ⟨4, _⟩ => ⟨S8192x1536, .f32⟩
  | .hbm, ⟨5, _⟩ => ⟨S8192x1536, .f32⟩
  | .hbm, ⟨6, _⟩ => ⟨S8192x1536, .f32⟩
  | .hbm, ⟨7, _⟩ => ⟨S8192x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8192x1536 : Shape := ⟨2, ![8192, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S8192x1536, .f32⟩
  | .hbm, ⟨3, _⟩ => ⟨S8192x1536, .f32⟩
  | .hbm, ⟨4, _⟩ => ⟨S_, .f32⟩
  | .hbm, ⟨5, _⟩ => ⟨S8192x1536, .f32⟩
  | .hbm, ⟨6, _⟩ => ⟨S8192x1536, .f32⟩
  | .hbm, ⟨7, _⟩ => ⟨S_, .f32⟩
  | .hbm, ⟨8, _⟩ => ⟨S8192x1536, .f32⟩
  | .hbm, ⟨9, _⟩ => ⟨S8192x1536, .f32⟩
  | .hbm, ⟨10, _⟩ => ⟨S8192x1536, .f32⟩
  | .hbm, ⟨11, _⟩ => ⟨S_, .f32⟩
  | .hbm, ⟨12, _⟩ => ⟨S8192x1536, .f32⟩
  | .hbm, ⟨13, _⟩ => ⟨S8192x1536, .f32⟩
  | .hbm, ⟨14, _⟩ => ⟨S8192x1536, .f32⟩
  | .hbm, ⟨15, _⟩ => ⟨S_, .f32⟩
  | .hbm, ⟨16, _⟩ => ⟨S8192x1536, .f32⟩
  | .hbm, ⟨17, _⟩ => ⟨S8192x1536, .f32⟩
  | .hbm, ⟨18, _⟩ => ⟨S8192x1536, .f32⟩
  | .hbm, ⟨19, _⟩ => ⟨S_, .f32⟩
  | .hbm, ⟨20, _⟩ => ⟨S8192x1536, .f32⟩
  | .hbm, ⟨21, _⟩ => ⟨S8192x1536, .f32⟩
  | .hbm, ⟨22, _⟩ => ⟨S_, .f32⟩
  | .hbm, ⟨23, _⟩ => ⟨S8192x1536, .f32⟩
  | .hbm, ⟨24, _⟩ => ⟨S8192x1536, .f32⟩
  | .hbm, ⟨25, _⟩ => ⟨S8192x1536, .f32⟩
  | .hbm, ⟨26, _⟩ => ⟨S_, .f32⟩
  | .hbm, ⟨27, _⟩ => ⟨S8192x1536, .f32⟩
  | .hbm, ⟨28, _⟩ => ⟨S8192x1536, .f32⟩
  | .hbm, ⟨29, _⟩ => ⟨S8192x1536, .f32⟩
  | .hbm, ⟨30, _⟩ => ⟨S_, .f32⟩
  | .hbm, ⟨31, _⟩ => ⟨S8192x1536, .f32⟩
  | .hbm, ⟨32, _⟩ => ⟨S8192x1536, .f32⟩
  | .hbm, ⟨33, _⟩ => ⟨S8192x1536, .f32⟩
  | .hbm, ⟨34, _⟩ => ⟨S_, .f32⟩
  | .hbm, ⟨35, _⟩ => ⟨S8192x1536, .f32⟩
  | .hbm, ⟨36, _⟩ => ⟨S8192x1536, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2048x2048 : Shape := ⟨2, ![2048, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S8192x2816 : Shape := ⟨2, ![8192, 2816]⟩
abbrev S64x2816 : Shape := ⟨2, ![64, 2816]⟩

abbrev nBuf : Space → Nat
  | .hbm => 8
  | .vmem => 16
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S64x2816, .f32⟩
  | .local _ .vmem, ⟨15, _⟩ => ⟨S64x2816, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8192x2816 : Shape := ⟨2, ![8192, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S_, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S5632x2048 : Shape := ⟨2, ![5632, 2048]⟩
abbrev S88x2048 : Shape := ⟨2, ![88, 2048]⟩

abbrev nBuf : Space → Nat
  | .hbm => 8
  | .vmem => 16
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .hbm, ⟨7, _⟩ => ⟨S5632x2048, .f32⟩
  | .local _ .vmem, ⟨0, _⟩ => ⟨S88x2048, .f32⟩
  | .local _ .vmem, ⟨1, _⟩ => ⟨S88x2048, .f32⟩
  | .local _ .vmem, ⟨2, _⟩ => ⟨S88x2048, .f32⟩
  | .local _ .vmem, ⟨3, _⟩ => ⟨S88x2048, .f32⟩
  | .local _ .vmem, ⟨4, _⟩ => ⟨S88x2048, .f32⟩
  | .local _ .vmem, ⟨5, _⟩ => ⟨S88x2048, .f32⟩
  | .local _ .vmem, ⟨6, _⟩ => ⟨S88x2048, .f32⟩
  | .local _ .vmem, ⟨7, _⟩ => ⟨S88x2048, .f32⟩
  | .local _ .vmem, ⟨8, _⟩ => ⟨S88x2048, .f32⟩
  | .local _ .vmem, ⟨9, _⟩ => ⟨S88x2048, .f32⟩
  | .local _ .vmem, ⟨10, _⟩ => ⟨S88x2048, .f32⟩
  | .local _ .vmem, ⟨11, _⟩ => ⟨S88x2048, .f32⟩
  | .local _ .vmem, ⟨12, _⟩ => ⟨S88x2048, .f32⟩
  | .local _ .vmem, ⟨13, _⟩ => ⟨S88x2048, .f32⟩
  | .local _ .vmem, ⟨14, _⟩ => ⟨S88x2048, .f32⟩
  | .local _ .vmem, ⟨15, _⟩ => ⟨S88x2048, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S5632x2048 : Shape := ⟨2, ![5632, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S_, .f32⟩
  | .hbm, ⟨5, _⟩ => ⟨S5632x2048, .f32⟩
  | .hbm, ⟨6, _⟩ => ⟨S5632x2048, .f32⟩
  | .hbm, ⟨7, _⟩ => ⟨S_, .f32⟩
  | .hbm, ⟨8, _⟩ => ⟨S5632x2048, .f32⟩
  | .hbm, ⟨9, _⟩ => ⟨S5632x2048, .f32⟩
  | .hbm, ⟨10, _⟩ => ⟨S5632x2048, .f32⟩
  | .hbm, ⟨11, _⟩ => ⟨S_, .f32⟩
  | .hbm, ⟨12, _⟩ => ⟨S5632x2048, .f32⟩
  | .hbm, ⟨13, _⟩ => ⟨S5632x2048, .f32⟩
  | .hbm, ⟨14, _⟩ => ⟨S5632x2048, .f32⟩
  | .hbm, ⟨15, _⟩ => ⟨S_, .f32⟩
  | .hbm, ⟨16, _⟩ => ⟨S5632x2048, .f32⟩
  | .hbm, ⟨17, _⟩ => ⟨S5632x2048, .f32⟩
  | .hbm, ⟨18, _⟩ => ⟨S5632x2048, .f32⟩
  | .hbm, ⟨19, _⟩ => ⟨S_, .f32⟩
  | .hbm, ⟨20, _⟩ => ⟨S5632x2048, .f32⟩
  | .hbm, ⟨21, _⟩ => ⟨S5632x2048, .f32⟩
  | .hbm, ⟨22, _⟩ => ⟨S_, .f32⟩
  | .hbm, ⟨23, _⟩ => ⟨S5632x2048, .f32⟩
  | .hbm, ⟨24, _⟩ => ⟨S5632x2048, .f32⟩
  | .hbm, ⟨25, _⟩ => ⟨S5632x2048, .f32⟩
  | .hbm, ⟨26, _⟩ => ⟨S_, .f32⟩
  | .hbm, ⟨27, _⟩ => ⟨S5632x2048, .f32⟩
  | .hbm, ⟨28, _⟩ => ⟨S5632x2048, .f32⟩
  | .hbm, ⟨29, _⟩ => ⟨S5632x2048, .f32⟩
  | .hbm, ⟨30, _⟩ => ⟨S_, .f32⟩
  | .hbm, ⟨31, _⟩ => ⟨S5632x2048, .f32⟩
  | .hbm, ⟨32, _⟩ => ⟨S5632x2048, .f32⟩
  | .hbm, ⟨33, _⟩ => ⟨S5632x2048, .f32⟩
  | .hbm, ⟨34, _⟩ => ⟨S_, .f32⟩
  | .hbm, ⟨35, _⟩ => ⟨S5632x2048, .f32⟩
  | .hbm, ⟨36, _⟩ => ⟨S5632x2048, .f32⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1024x512 : Shape := ⟨2, ![1024, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S4x2048 : Shape := ⟨2, ![4, 2048]⟩

abbrev nBuf : Space → Nat
  | .hbm => 8
  | .vmem => 8
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | .local _ .vmem, ⟨7, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference23Ideal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S32x8 : Shape := ⟨2, ![32, 8]⟩

abbrev nBuf : Space → Nat
  | .hbm => 8
  | .vmem => 8
  | .smem => 0
  | _ => 0

abbrev bufTy : (tb : Table) → Fin (tcTables nBuf tb) → BufTy
  | .hbm, ⟨0, _⟩ => ⟨S32x8, .f32⟩
  | .hbm, ⟨1, _⟩ => ⟨S32x8, .f32⟩
  | .hbm, ⟨2, _⟩ => ⟨S32x8, .f32⟩
  | .hbm, ⟨3, _⟩ => ⟨S32x8, .f32⟩
  | .hbm, ⟨4, _⟩ => ⟨S32x8, .f32⟩
  | .hbm, ⟨5, _⟩ => ⟨S32x8, .f32⟩
  | .hbm, ⟨6, _⟩ => ⟨S32x8, .f32⟩
  | .hbm, ⟨7, _⟩ => ⟨S32x8, .f32⟩
  | .local _ .vmem, ⟨0, _⟩ => ⟨S32x8, .f32⟩
  | .local _ .vmem, ⟨1, _⟩ => ⟨S32x8, .f32⟩
  | .local _ .vmem, ⟨2, _⟩ => ⟨S32x8, .f32⟩
  | .local _ .vmem, ⟨3, _⟩ => ⟨S32x8, .f32⟩
  | .local _ .vmem, ⟨4, _⟩ => ⟨S32x8, .f32⟩
  | .local _ .vmem, ⟨5, _⟩ => ⟨S32x8, .f32⟩
  | .local _ .vmem, ⟨6, _⟩ => ⟨S32x8, .f32⟩
  | .local _ .vmem, ⟨7, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S32x8 : Shape := ⟨2, ![32, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S32x8, .f32⟩
  | .hbm, ⟨2, _⟩ => ⟨S32x8, .f32⟩
  | .hbm, ⟨3, _⟩ => ⟨S32x8, .f32⟩
  | .hbm, ⟨4, _⟩ => ⟨S_, .f32⟩
  | .hbm, ⟨5, _⟩ => ⟨S32x8, .f32⟩
  | .hbm, ⟨6, _⟩ => ⟨S32x8, .f32⟩
  | .hbm, ⟨7, _⟩ => ⟨S_, .f32⟩
  | .hbm, ⟨8, _⟩ => ⟨S32x8, .f32⟩
  | .hbm, ⟨9, _⟩ => ⟨S32x8, .f32⟩
  | .hbm, ⟨10, _⟩ => ⟨S32x8, .f32⟩
  | .hbm, ⟨11, _⟩ => ⟨S_, .f32⟩
  | .hbm, ⟨12, _⟩ => ⟨S32x8, .f32⟩
  | .hbm, ⟨13, _⟩ => ⟨S32x8, .f32⟩
  | .hbm, ⟨14, _⟩ => ⟨S32x8, .f32⟩
  | .hbm, ⟨15, _⟩ => ⟨S_, .f32⟩
  | .hbm, ⟨16, _⟩ => ⟨S32x8, .f32⟩
  | .hbm, ⟨17, _⟩ => ⟨S32x8, .f32⟩
  | .hbm, ⟨18, _⟩ => ⟨S32x8, .f32⟩
  | .hbm, ⟨19, _⟩ => ⟨S_, .f32⟩
  | .hbm, ⟨20, _⟩ => ⟨S32x8, .f32⟩
  | .hbm, ⟨21, _⟩ => ⟨S32x8, .f32⟩
  | .hbm, ⟨22, _⟩ => ⟨S_, .f32⟩
  | .hbm, ⟨23, _⟩ => ⟨S32x8, .f32⟩
  | .hbm, ⟨24, _⟩ => ⟨S32x8, .f32⟩
  | .hbm, ⟨25, _⟩ => ⟨S32x8, .f32⟩
  | .hbm, ⟨26, _⟩ => ⟨S_, .f32⟩
  | .hbm, ⟨27, _⟩ => ⟨S32x8, .f32⟩
  | .hbm, ⟨28, _⟩ => ⟨S32x8, .f32⟩
  | .hbm, ⟨29, _⟩ => ⟨S32x8, .f32⟩
  | .hbm, ⟨30, _⟩ => ⟨S_, .f32⟩
  | .hbm, ⟨31, _⟩ => ⟨S32x8, .f32⟩
  | .hbm, ⟨32, _⟩ => ⟨S32x8, .f32⟩
  | .hbm, ⟨33, _⟩ => ⟨S32x8, .f32⟩
  | .hbm, ⟨34, _⟩ => ⟨S_, .f32⟩
  | .hbm, ⟨35, _⟩ => ⟨S32x8, .f32⟩
  | .hbm, ⟨36, _⟩ => ⟨S32x8, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel26.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference26Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S2048, .f32⟩
  | .hbm, ⟨23, _⟩ => ⟨S4096x2048, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel27.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference27Ideal.lean ====
abbrev S4096x2048 : Shape := ⟨2, ![4096, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel28.lean ====
abbrev S4096x2048 : Shape := ⟨2, ![4096, 2048]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference28Ideal.lean ====
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | .hbm, ⟨20, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel30.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference30Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | .hbm, ⟨51, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel31.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference31Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 102
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S1x2048, .f32⟩
  | .hbm, ⟨53, _⟩ => ⟨S4096x2048, .f32⟩
  | .hbm, ⟨54, _⟩ => ⟨S2048, .f32⟩
  | .hbm, ⟨55, _⟩ => ⟨S4096x2048, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x2048, .f32⟩
  | .hbm, ⟨71, _⟩ => ⟨S4096x2048, .f32⟩
  | .hbm, ⟨72, _⟩ => ⟨S1x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S4096x2048, .f32⟩
  | .hbm, ⟨80, _⟩ => ⟨S4096x2048, .f32⟩
  | .hbm, ⟨81, _⟩ => ⟨S_, .f32⟩
  | .hbm, ⟨82, _⟩ => ⟨S2048, .f32⟩
  | .hbm, ⟨83, _⟩ => ⟨S4096x2048, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x2048, .f32⟩
  | .hbm, ⟨88, _⟩ => ⟨S4096x2048, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x2048, .f32⟩
  | .hbm, ⟨96, _⟩ => ⟨S4096x2048, .f32⟩
  | .hbm, ⟨97, _⟩ => ⟨S4096x2048, .f32⟩
  | .hbm, ⟨98, _⟩ => ⟨S4096x2048, .f32⟩
  | .hbm, ⟨99, _⟩ => ⟨S4096x2048, .f32⟩
  | .hbm, ⟨100, _⟩ => ⟨S1x2048, .f32⟩
  | .hbm, ⟨101, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_15 : Ref sig .tc := ⟨.hbm, 90, rfl⟩
abbrev main_v68 : Ref sig .tc := ⟨.hbm, 91, rfl⟩
abbrev main_v69 : Ref sig .tc := ⟨.hbm, 92, rfl⟩
abbrev main_cst_16 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Kernel32.lean ====
abbrev S4096x2048 : Shape := ⟨2, ![4096, 2048]⟩
abbrev S1x128 : Shape := ⟨2, ![1, 128]⟩
abbrev S256x2048 : Shape := ⟨2, ![256, 2048]⟩
abbrev S256x128 : Shape := ⟨2, ![256, 128]⟩
abbrev S128 : Shape := ⟨1, ![128]⟩

abbrev nBuf : Space → Nat
  | .hbm => 6
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference32Ideal.lean ====
abbrev S4096x2048 : Shape := ⟨2, ![4096, 2048]⟩
abbrev S_ : Shape := ⟨0, ![]⟩
abbrev S65536x128 : Shape := ⟨2, ![65536, 128]⟩
abbrev S128 : Shape := ⟨1, ![128]⟩
abbrev S1x128 : Shape := ⟨2, ![1, 128]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S65536x128, .f32⟩
  | .hbm, ⟨20, _⟩ => ⟨S_, .f32⟩
  | .hbm, ⟨21, _⟩ => ⟨S128, .f32⟩
  | .hbm, ⟨22, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.Mul.Dots.lean ====
module

public import Idealize.ShloMosaic.Lib.ValueIdx
public import Idealize.ShloMosaic.PureOps.Ideal.Laws

/-! A product whose contraction has one axis, as a sum over that axis. -/

@[expose] public section

noncomputable section

namespace Cert.Mul

open Idealize.ShloMosaic Idealize.ShloMosaic.ValueIdx

/-- A tile's product, into zero. -/
theorem tile_dot {sl sr so : Shape} {φ₁ φ₂ : FTy} (d : DotDims sl sr so) (K : ℕ) (hr : d.contr.rank = 1)
    (hs : d.contr.size ⟨0, by rw [hr]; exact Nat.one_pos⟩ = K) (l : FVec Ideal sl φ₁) (r : FVec Ideal sr φ₂) (j : so.Idx) :
    FloatOps.matmul d none l r (constant so .f32 0x00000000#32) j
      = ∑ k : Fin K, l (d.lhsIdx j ((contrEquiv1 d K hr hs).symm k)) * r (d.rhsIdx j ((contrEquiv1 d K hr hs).symm k)) := by
  rw [Ideal.matmul_constant_zero_apply, ← Equiv.sum_comp (contrEquiv1 d K hr hs).symm]

/-- The host's product. -/
theorem host_dot {sl sr so : Shape} {φ₁ φ₂ : FTy} (d : DotDims sl sr so) (K : ℕ) (hr : d.contr.rank = 1)
    (hs : d.contr.size ⟨0, by rw [hr]; exact Nat.one_pos⟩ = K) (l : FVec Ideal sl φ₁) (r : FVec Ideal sr φ₂) (j : so.Idx) :
    Host.dotGeneral d none l r j
      = ∑ k : Fin K, l (d.lhsIdx j ((contrEquiv1 d K hr hs).symm k)) * r (d.rhsIdx j ((contrEquiv1 d K hr hs).symm k)) := by
  show FloatOps.dotGeneral d none _ l r j = _
  rw [Ideal.dotGeneral_apply, ← Equiv.sum_comp (contrEquiv1 d K hr hs).symm]

end Cert.Mul

end
-- ==== Proof.Mul.Two.lean ====
module

public import proofs.«01_k».proof.Proof.Gen.Kernel2Ideal.Value
public import proofs.«01_k».proof.Proof.Gen.Reference2Ideal.Run
public import proofs.«01_k».proof.Proof.Mul.Dots
public import Idealize.ShloMosaic.Lib.Pipeline.ValueKit
public import Idealize.ShloMosaic.Lib.ValueLayout

/-! The gradient of the feed-forward block's input: the rows of the later gradient times the columns of the weight,
the weight's four pieces one after another. -/

@[expose] public section

set_option maxRecDepth 16384

noncomputable section

namespace Cert.Mul.Two

open Idealize.ShloMosaic hiding ix2 ix3 eq_ix2 eq_ix3
open Idealize.ShloMosaic.ValueIdx Idealize.ShloMosaic.TcCoe Idealize.ShloMosaic.Pipeline Idealize.SL.Sem Cert.Kernel2Ideal Cert.Kernel2Ideal.Gen

/-- The product: a row of `x` against a row of the joined weight. -/
def out (w : FVec Ideal S4x2048x2816 .bf16) (x : FVec Ideal S4096x11264 .bf16) : FVec Ideal S4096x2048 .f32 := fun i =>
  ∑ l : Fin 11264, x (ix2 (i 0) l) * w (ix3 ⟨l.val / 2816, by have := l.isLt; omega⟩ (i 1) ⟨l.val % 2816, by omega⟩)

/-- One tile's product. -/
def part (x : FVec Ideal S1024x2816 .bf16) (w : FVec Ideal S1x1024x2816 .bf16) (j : S1024x1024.Idx) : EReal :=
  ∑ k : Fin 2816, x (ix2 (j 0) k) * w (ix3 0 (j 1) k)

theorem step_apply (acc : FVec Ideal S1024x1024 .f32) (x : FVec Ideal S1024x2816 .bf16) (w : FVec Ideal S1x1024x2816 .bf16) (j : S1024x1024.Idx) :
    k0_pay2 acc x w j = acc j + part x w j := by
  unfold k0_pay2 part
  rw [shapeCast_self]
  refine congrArg (acc j + ·) ?_
  unfold matmul
  rw [tile_dot _ 2816 rfl rfl]
  refine Finset.sum_congr rfl fun k _ => ?_
  have hk := contrEquiv1_symm_val dot_S1024x2816_S1024x2816_S1024x1024_1_1_0_0_n_n 2816 rfl rfl k
  refine congrArg₂ (· * ·) (congrArg x (funext fun a => Fin.ext ?_)) (shapeCast_apply w _ _ _ ?_)
  · match a with
    | ⟨0, _⟩ => rfl
    | ⟨1, _⟩ => exact hk
  · rw [Shape.rowMajor_val_two, Shape.rowMajor_val_three]
    show (0 * 1024 + (j 1).val) * 2816 + k.val = (j 1).val * 2816 + _
    rw [Nat.zero_mul, Nat.zero_add]
    exact congrArg ((j 1).val * 2816 + ·) hk.symm

theorem zero_apply (j : S1024x1024.Idx) : k0_pay1 (F := Ideal) j = 0 := by
  unfold k0_pay1
  rw [shapeCast_self]
  exact Ideal.ofBits_zero_f32

variable (m : (ℓ : Loc nD τ sig) → Buf (Elt Ideal) ℓ) (c : Dev nD)

/-- What a point adds. -/
abbrev term (t : Fin cfg0.N) (j : S1024x1024.Idx) : EReal := part (iblk m c 0 t) (iblk m c 1 t) j

theorem acc_first (t : Fin cfg0.N) (h : t.val % 4 = 0) (j : S1024x1024.Idx) : (outsAt0 m c t.val t.isLt).2 j = (fun _ => 0 : S1024x1024.Idx → EReal) j + term m c t j := by
  rw [outsAt0_A m c t h (by omega)]
  dsimp only
  unfold sout0_A_0
  frame_out
  rw [step_apply, zero_apply]

theorem acc_next (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + term m c t j := by
  by_cases h3 : t.val % 4 = 3
  · rw [outsAt0_C m c t h h3]
    dsimp only
    unfold sout0_C_0
    frame_out
    rw [step_apply]
    exact congrArg (· + _) (congrFun ((Memref.isWhole_whole cc0_scratch0).read_unread (outsAt0 m c (t.val - 1) _).2) j)
  · rw [outsAt0_B m c t h h3]
    dsimp only
    unfold sout0_B_0
    frame_out
    rw [step_apply]
    exact congrArg (· + _) (congrFun ((Memref.isWhole_whole cc0_scratch0).read_unread (outsAt0 m c (t.val - 1) _).2) j)

/-- The last point of a run writes back what it has summed. -/
theorem last_out (t : Fin cfg0.N) (h3 : t.val % 4 = 3) : (outsAt0 m c t.val t.isLt).1 = (outsAt0 m c t.val t.isLt).2 := by
  rw [outsAt0_C m c t (by omega) h3]
  dsimp only
  unfold out0_C_2 sout0_C_0
  frame_out

theorem acc_last (t : Fin cfg0.N) (h3 : t.val % 4 = 3) (j : S1024x1024.Idx) :
    (outsAt0 m c t.val t.isLt).1 j = ∑ s : Fin 4, term m c ⟨4 * (t.val / 4) + s.val, run_point_lt_of_flush t h3 s⟩ j := by
  rw [last_out m c t h3, eq_sum_fin_of_reset_step_apply_of_flush (fun n h => (outsAt0 m c n h).2) 4 (fun _ => 0) (term m c)
    (acc_first m c) (acc_next m c) t h3 j, zero_add]

theorem index0 : ∀ t : Fin cfg0.N, win0_0.index t = ![(t.val / 4) % 4, t.val % 4] := (by decide +kernel : ∀ t : Fin grid0.N, _)
theorem index1 : ∀ t : Fin cfg0.N, win0_1.index t = ![t.val % 4, t.val / 16, 0] := (by decide +kernel : ∀ t : Fin grid0.N, _)
theorem index2 : ∀ t : Fin cfg0.N, win0_2.index t = ![(t.val / 4) % 4, t.val / 16] := (by decide +kernel : ∀ t : Fin grid0.N, _)

theorem x_apply (t : Fin cfg0.N) (a : Fin 1024) (k : Fin 2816) (r : Fin 4096) (l : Fin 11264) (hr : r.val = (t.val / 4) % 4 * 1024 + a.val)
    (hl : l.val = t.val % 4 * 2816 + k.val) : iblk m c 0 t (ix2 a k) = m ((c : Thread nD τ).loc main_arg1) (ix2 r l) := by
  have e1 : (win0_0.blk t).view.emb (ix2 a k) = ix2 r l := by
    blk_ext [index0] <;> first | (change _ + a.val = r.val; omega) | (change _ + k.val = l.val; omega)
  blk_simp [iblk]
  rw [e1, V_main_arg1]

theorem w_apply (t : Fin cfg0.N) (b : Fin 1024) (k : Fin 2816) (p : Fin 4) (o : Fin 2048) (q : Fin 2816) (hp : p.val = t.val % 4)
    (ho : o.val = t.val / 16 * 1024 + b.val) (hq : q.val = k.val) : iblk m c 1 t (ix3 0 b k) = m ((c : Thread nD τ).loc main_arg0) (ix3 p o q) := by
  have e1 : (win0_1.blk t).view.emb (ix3 0 b k) = ix3 p o q := by
    blk_ext [index1] <;> first | (change _ + b.val = o.val; omega) | (change _ = p.val; omega) | exact hq.symm
  blk_simp [iblk]
  rw [e1, V_main_arg0]

/-- The kernel's result. -/
theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  have h3 := (flush0_2 t).1 hf
  have hN : t.val < 32 := lt_of_lt_of_eq t.isLt (show cfg0.N = 32 from N_0)
  obtain ⟨a, b, rfl⟩ : ∃ (a : Fin 1024) (b : Fin 1024), y = ix2 a b := ⟨y 0, y 1, eq_ix2 y⟩
  have e1 : (win0_2.blk t).view.emb (ix2 a b) = ix2 (⟨(t.val / 4) % 4 * 1024 + a.val, by omega⟩ : Fin 4096)
      (⟨t.val / 16 * 1024 + b.val, by omega⟩ : Fin 2048) := by
    blk_ext [index2] <;> first | (change _ + a.val = _; omega) | (change _ + b.val = _; omega)
  rw [e1, acc_last m c t h3]
  unfold out
  refine Fin.sum_mul_add_congr fun s k hl => ?_
  have hk := k.isLt
  have hs := s.isLt
  refine congrArg₂ (· * ·) (x_apply m c _ _ _ _ _ ?_ ?_) (w_apply m c _ _ _ _ _ _ ?_ ?_ ?_) <;> dsimp only
  all_goals first | omega | (change _ = _ * 1024 + a.val; omega) | (change _ = _ * 1024 + b.val; omega)

/-- The reference's result. -/
theorem reference_out (w : FVec Ideal S4x2048x2816 .bf16) (x : FVec Ideal S4096x11264 .bf16) :
    Host.dotGeneral (F := Ideal) Cert.Reference2Ideal.dot_S4096x11264_S2048x11264_S4096x2048_1_1_0_0_n_n none (extf .f32 x Cert.Reference2Ideal.Gen.bitsLt_bf16_f32)
      (shapeCast _ (transpose Cert.Reference2Ideal.S2048x4x2816 [1, 0, 2] (extf .f32 w Cert.Reference2Ideal.Gen.bitsLt_bf16_f32)
        Cert.Reference2Ideal.Gen.transposes_S4x2048x2816_S2048x4x2816_1_0_2) Cert.Reference2Ideal.Gen.shapeCasts_S2048x4x2816_S2048x11264) = out w x := by
  funext i
  rw [host_dot _ 11264 rfl rfl]
  refine Finset.sum_congr rfl fun l _ => ?_
  have hl := l.isLt
  have hk := contrEquiv1_symm_val Cert.Reference2Ideal.dot_S4096x11264_S2048x11264_S4096x2048_1_1_0_0_n_n 11264 rfl rfl l
  refine congrArg₂ (· * ·) (congrArg x (funext fun a => Fin.ext ?_))
    ((shapeCast_apply _ _ _ (ix3 (i 1) (⟨l.val / 2816, by omega⟩ : Fin 4) (⟨l.val % 2816, by omega⟩ : Fin 2816)) ?_).trans (congrArg w (funext fun a => Fin.ext ?_)))
  · match a with
    | ⟨0, _⟩ => rfl
    | ⟨1, _⟩ => exact hk
  · rw [Shape.rowMajor_val_two, Shape.rowMajor_val_three]
    refine Eq.trans ?_ (congrArg ((i 1).val * 11264 + ·) hk.symm)
    show ((i 1).val * 4 + l.val / 2816) * 2816 + l.val % 2816 = (i 1).val * 11264 + l.val
    omega
  · match a with
    | ⟨0, _⟩ => rfl
    | ⟨1, _⟩ => rfl
    | ⟨2, _⟩ => rfl

end Cert.Mul.Two

end
-- ==== Proof.Claims.Two.lean ====
module

public import proofs.«01_k».proof.Defs
public import proofs.«01_k».proof.Proof.Gen.Kernel2.Frame
public import proofs.«01_k».proof.Proof.Gen.Kernel2Ideal.Frame
public import proofs.«01_k».proof.Proof.Mul.Two

/-! The gradient of the feed-forward block's input: the claims. -/

@[expose] public section

noncomputable section

namespace Cert.Proof.Two

open Idealize.ShloMosaic Idealize.ShloMosaic.TcCoe Idealize.SL.Sem

instance : Cert.Kernel2.Facts := Cert.Kernel2.Gen.facts
instance : Cert.Kernel2Ideal.Facts := Cert.Kernel2Ideal.Gen.facts
instance : Cert.Reference2Ideal.Facts := Cert.Reference2Ideal.Gen.facts

/-- The kernel runs, leaves its arguments and its counters as it found them. -/
theorem frame_p : Cert.quiescent_Kernel2 := fun m ρ _ => Cert.Kernel2.Gen.frame m ρ

/-- So does the kernel over the extended reals. -/
theorem frame_pi : Cert.quiescent_Kernel2Ideal := fun m ρ _ => Cert.Kernel2Ideal.Gen.frame m ρ

/-- So does the reference over the extended reals. -/
theorem frame_ri : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- Over the extended reals the kernel and the reference end with the same array. -/
theorem algebraic : Cert.algebraic_Kernel2Ideal_Reference2Ideal := by
  intro m ρ m' ρ' hm hagree
  refine ⟨fun c => Cert.Mul.Two.out (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), ?_, ?_⟩
  · refine (θ_run Cert.Kernel2Ideal.defs _ _).mono (fun r h c => ?_) (Cert.Kernel2Ideal.Value.run_blocks (F := Ideal) m ρ)
    exact ⟨(h c).1.trans (Cert.Mul.Two.array m c), (h c).2⟩
  · refine (θ_run Cert.Reference2Ideal.defs _ _).mono (fun r h c => ?_) (Cert.Reference2Ideal.Value.run (F := Ideal) m' ρ')
    obtain ⟨a0, a1⟩ := hagree c
    exact ⟨(h c).1.trans ((Cert.Mul.Two.reference_out _ _).trans (congrArg₂ Cert.Mul.Two.out a0 a1)), (h c).2⟩

end Cert.Proof.Two

end
-- ==== Proof.Mul.Three.lean ====
module

public import proofs.«01_k».proof.Proof.Gen.Kernel3Ideal.Value
public import proofs.«01_k».proof.Proof.Gen.Reference3Ideal.Run
public import proofs.«01_k».proof.Proof.Mul.Dots
public import Idealize.ShloMosaic.Lib.Pipeline.ValueKit
public import Idealize.ShloMosaic.Lib.ValueLayout

/-! The gradient of the feed-forward block's first weight, in its four pieces. -/

@[expose] public section

set_option maxRecDepth 16384

noncomputable section

namespace Cert.Mul.Three

open Idealize.ShloMosaic hiding ix2 ix3 eq_ix2 eq_ix3
open Idealize.ShloMosaic.ValueIdx Idealize.ShloMosaic.TcCoe Idealize.ShloMosaic.Pipeline Idealize.SL.Sem Cert.Kernel3Ideal Cert.Kernel3Ideal.Gen

/-- The product: a column of `h` against a column of `x`, summed over the rows. -/
def out (h : FVec Ideal S4096x2048 .bf16) (x : FVec Ideal S4096x11264 .bf16) : FVec Ideal S4x2048x2816 .bf16 := fun i =>
  ∑ l : Fin 4096, h (ix2 l (i 1 : Fin 2048)) * x (ix2 l (⟨2816 * (i 0).val + (i 2).val, by have h0 := (i 0).isLt; have h2 := (i 2).isLt; change (i 0).val < 4 at h0; change (i 2).val < 2816 at h2; omega⟩ : Fin 11264))

/-- One tile's product. -/
def part (h : FVec Ideal S2048x1024 .bf16) (x : FVec Ideal S2048x1408 .bf16) (j : S1024x1408.Idx) : EReal :=
  ∑ k : Fin 2048, h (ix2 k (j 0)) * x (ix2 k (j 1))

theorem step_apply (acc : FVec Ideal S1024x1408 .f32) (h : FVec Ideal S2048x1024 .bf16) (x : FVec Ideal S2048x1408 .bf16) (j : S1024x1408.Idx) :
    k0_pay2 acc h x j = acc j + part h x j := by
  unfold k0_pay2 part
  rw [shapeCast_self]
  refine congrArg (acc j + ·) ?_
  unfold matmul
  rw [tile_dot _ 2048 rfl rfl]
  refine Finset.sum_congr rfl fun k _ => ?_
  have hk := contrEquiv1_symm_val dot_S2048x1024_S2048x1408_S1024x1408_0_0_1_1_n_n 2048 rfl rfl k
  refine congrArg₂ (· * ·) (congrArg h (funext fun a => Fin.ext ?_)) (congrArg x (funext fun a => Fin.ext ?_))
  · match a with
    | ⟨0, _⟩ => exact hk
    | ⟨1, _⟩ => rfl
  · match a with
    | ⟨0, _⟩ => exact hk
    | ⟨1, _⟩ => rfl

theorem zero_apply (j : S1024x1408.Idx) : k0_pay1 (F := Ideal) j = 0 := by
  unfold k0_pay1
  rw [shapeCast_self]
  exact Ideal.ofBits_zero_f32

theorem close_apply (v : FVec Ideal S1024x1408 .f32) (a : Fin 1024) (b : Fin 1408) : (k0_pay3 (F := Ideal) v (ix3 0 a b) : EReal) = v (ix2 a b) := by
  unfold k0_pay3
  refine (shapeCast_apply _ _ _ (ix2 a b) ?_).trans rfl
  rw [Shape.rowMajor_val_two, Shape.rowMajor_val_three]
  show a.val * 1408 + b.val = (0 * 1024 + a.val) * 1408 + b.val
  omega

variable (m : (ℓ : Loc nD τ sig) → Buf (Elt Ideal) ℓ) (c : Dev nD)

/-- What a point adds. -/
abbrev term (t : Fin cfg0.N) (j : S1024x1408.Idx) : EReal := part (iblk m c 0 t) (iblk m c 1 t) j

theorem acc_first (t : Fin cfg0.N) (h : t.val % 2 = 0) (j : S1024x1408.Idx) : (outsAt0 m c t.val t.isLt).2 j = (fun _ => 0 : S1024x1408.Idx → EReal) j + term m c t j := by
  rw [outsAt0_A m c t h (by omega)]
  dsimp only
  unfold sout0_A_0
  frame_out
  rw [step_apply, zero_apply]

theorem acc_next (t : Fin cfg0.N) (h : ¬t.val % 2 = 0) (j : S1024x1408.Idx) :
    (outsAt0 m c t.val t.isLt).2 j = (outsAt0 m c (t.val - 1) (Nat.lt_of_le_of_lt (Nat.sub_le _ _) t.isLt)).2 j + term m c t j := by
  rw [outsAt0_B m c t h (by omega)]
  dsimp only
  unfold sout0_B_0
  frame_out
  rw [step_apply]
  exact congrArg (· + _) (congrFun ((Memref.isWhole_whole cc0_scratch0).read_unread (outsAt0 m c (t.val - 1) _).2) j)

/-- The last point of a run writes back what it has summed. -/
theorem last_out (t : Fin cfg0.N) (h1 : t.val % 2 = 1) : (outsAt0 m c t.val t.isLt).1 = k0_pay3 (outsAt0 m c t.val t.isLt).2 := by
  rw [outsAt0_B m c t (by omega) h1]
  dsimp only
  unfold out0_B_2 sout0_B_0
  frame_out

theorem acc_last (t : Fin cfg0.N) (h1 : t.val % 2 = 1) (a : Fin 1024) (b : Fin 1408) :
    (outsAt0 m c t.val t.isLt).1 (ix3 0 a b) = ∑ s : Fin 2, term m c ⟨2 * (t.val / 2) + s.val, run_point_lt_of_flush t h1 s⟩ (ix2 a b) := by
  rw [last_out m c t h1, close_apply, eq_sum_fin_of_reset_step_apply_of_flush (fun n h => (outsAt0 m c n h).2) 2 (fun _ => 0) (term m c)
    (acc_first m c) (acc_next m c) t h1 (ix2 a b), zero_add]

theorem index0 : ∀ t : Fin cfg0.N, win0_0.index t = ![t.val % 2, t.val / 16] := (by decide +kernel : ∀ t : Fin grid0.N, _)
theorem index1 : ∀ t : Fin cfg0.N, win0_1.index t = ![t.val % 2, t.val / 2 % 8] := (by decide +kernel : ∀ t : Fin grid0.N, _)
theorem index2 : ∀ t : Fin cfg0.N, win0_2.index t = ![t.val / 2 % 8 / 2, t.val / 16, t.val / 2 % 8 % 2] := (by decide +kernel : ∀ t : Fin grid0.N, _)

theorem h_apply (t : Fin cfg0.N) (k : Fin 2048) (a : Fin 1024) (l : Fin 4096) (r : Fin 2048) (hl : l.val = t.val % 2 * 2048 + k.val)
    (hr : r.val = t.val / 16 * 1024 + a.val) : iblk m c 0 t (ix2 k a) = m ((c : Thread nD τ).loc main_arg0) (ix2 l r) := by
  have e1 : (win0_0.blk t).view.emb (ix2 k a) = ix2 l r := by
    blk_ext [index0] <;> first | (change _ + k.val = l.val; omega) | (change _ + a.val = r.val; omega) | (change _ = r.val; omega)
  blk_simp [iblk]
  rw [e1, V_main_arg0]

theorem x_apply (t : Fin cfg0.N) (k : Fin 2048) (b : Fin 1408) (l : Fin 4096) (r : Fin 11264) (hl : l.val = t.val % 2 * 2048 + k.val)
    (hr : r.val = t.val / 2 % 8 * 1408 + b.val) : iblk m c 1 t (ix2 k b) = m ((c : Thread nD τ).loc main_arg1) (ix2 l r) := by
  have e1 : (win0_1.blk t).view.emb (ix2 k b) = ix2 l r := by
    blk_ext [index1] <;> first | (change _ + k.val = l.val; omega) | (change _ + b.val = r.val; omega)
  blk_simp [iblk]
  rw [e1, V_main_arg1]

/-- The kernel's result. -/
theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  have h1 := (flush0_2 t).1 hf
  have hN : t.val < 32 := lt_of_lt_of_eq t.isLt (show cfg0.N = 32 from N_0)
  obtain ⟨z, a, b, rfl⟩ : ∃ (z : Fin 1) (a : Fin 1024) (b : Fin 1408), y = ix3 z a b := ⟨y 0, y 1, y 2, eq_ix3 y⟩
  obtain rfl : z = 0 := Subsingleton.elim _ _
  have ha := a.isLt
  have hb := b.isLt
  have e1 : (win0_2.blk t).view.emb (ix3 0 a b) = ix3 (⟨t.val / 2 % 8 / 2, by omega⟩ : Fin 4) (⟨t.val / 16 * 1024 + a.val, by omega⟩ : Fin 2048)
      (⟨t.val / 2 % 8 % 2 * 1408 + b.val, by omega⟩ : Fin 2816) := by
    blk_ext [index2] <;> first | rfl | (change _ + a.val = _; omega) | (change _ + b.val = _; omega) | (change _ = _; omega)
  rw [e1, acc_last m c t h1]
  unfold out
  refine Fin.sum_mul_add_congr fun s k hl => ?_
  have hk := k.isLt
  have hs := s.isLt
  refine congrArg₂ (· * ·) (h_apply m c _ _ _ _ _ ?_ ?_) (x_apply m c _ _ _ _ _ ?_ ?_)
  · show s.val * 2048 + k.val = (2 * (t.val / 2) + s.val) % 2 * 2048 + k.val
    omega
  · show t.val / 16 * 1024 + a.val = (2 * (t.val / 2) + s.val) / 16 * 1024 + a.val
    omega
  · show s.val * 2048 + k.val = (2 * (t.val / 2) + s.val) % 2 * 2048 + k.val
    omega
  · show 2816 * (t.val / 2 % 8 / 2) + (t.val / 2 % 8 % 2 * 1408 + b.val) = (2 * (t.val / 2) + s.val) / 2 % 8 * 1408 + b.val
    omega

/-- The reference's result. -/
theorem reference_out (h : FVec Ideal S4096x2048 .bf16) (x : FVec Ideal S4096x11264 .bf16) :
    truncf .bf16 (transpose Cert.Reference3Ideal.S4x2048x2816 [1, 0, 2] (shapeCast _ (transpose Cert.Reference3Ideal.S2048x11264 [1, 0] (Host.dotGeneral (F := Ideal) Cert.Reference3Ideal.dot_S4096x11264_S4096x2048_S11264x2048_0_0_1_1_n_n none (extf .f32 x Cert.Reference3Ideal.Gen.bitsLt_bf16_f32) (extf .f32 h Cert.Reference3Ideal.Gen.bitsLt_bf16_f32)) Cert.Reference3Ideal.Gen.transposes_S11264x2048_S2048x11264_1_0)
      Cert.Reference3Ideal.Gen.shapeCasts_S2048x11264_S2048x4x2816) Cert.Reference3Ideal.Gen.transposes_S2048x4x2816_S4x2048x2816_1_0_2) Cert.Reference3Ideal.Gen.bitsLt_bf16_f32 = out h x := by
  funext i
  have h0 := (i 0).isLt
  have h2 := (i 2).isLt
  change (i 0).val < 4 at h0
  change (i 2).val < 2816 at h2
  refine Eq.trans (b := (shapeCast Cert.Reference3Ideal.S2048x4x2816 (transpose Cert.Reference3Ideal.S2048x11264 [1, 0] (Host.dotGeneral (F := Ideal) Cert.Reference3Ideal.dot_S4096x11264_S4096x2048_S11264x2048_0_0_1_1_n_n none (extf .f32 x Cert.Reference3Ideal.Gen.bitsLt_bf16_f32) (extf .f32 h Cert.Reference3Ideal.Gen.bitsLt_bf16_f32)) Cert.Reference3Ideal.Gen.transposes_S11264x2048_S2048x11264_1_0) Cert.Reference3Ideal.Gen.shapeCasts_S2048x11264_S2048x4x2816 (ix3 (i 1) (i 0) (i 2)) : EReal))
    (congrArg (shapeCast Cert.Reference3Ideal.S2048x4x2816 (transpose Cert.Reference3Ideal.S2048x11264 [1, 0] (Host.dotGeneral (F := Ideal) Cert.Reference3Ideal.dot_S4096x11264_S4096x2048_S11264x2048_0_0_1_1_n_n none (extf .f32 x Cert.Reference3Ideal.Gen.bitsLt_bf16_f32) (extf .f32 h Cert.Reference3Ideal.Gen.bitsLt_bf16_f32)) Cert.Reference3Ideal.Gen.transposes_S11264x2048_S2048x11264_1_0) Cert.Reference3Ideal.Gen.shapeCasts_S2048x11264_S2048x4x2816) (funext fun a => Fin.ext ?_)) ?_
  · match a with
    | ⟨0, _⟩ => rfl
    | ⟨1, _⟩ => rfl
    | ⟨2, _⟩ => rfl
  refine (shapeCast_apply (s := Cert.Reference3Ideal.S2048x11264) (t := Cert.Reference3Ideal.S2048x4x2816) _ _ (ix3 (i 1) (i 0) (i 2)) (ix2 (i 1) (⟨2816 * (i 0).val + (i 2).val, by omega⟩ : Fin 11264)) ?_).trans ?_
  · rw [Shape.rowMajor_val_two, Shape.rowMajor_val_three]
    show (i 1).val * 11264 + (2816 * (i 0).val + (i 2).val) = ((i 1).val * 4 + (i 0).val) * 2816 + (i 2).val
    omega
  refine Eq.trans (congrArg (Host.dotGeneral (F := Ideal) Cert.Reference3Ideal.dot_S4096x11264_S4096x2048_S11264x2048_0_0_1_1_n_n none (extf .f32 x Cert.Reference3Ideal.Gen.bitsLt_bf16_f32) (extf .f32 h Cert.Reference3Ideal.Gen.bitsLt_bf16_f32))
    (funext fun a => Fin.ext ?_ : _ = ix2 (⟨2816 * (i 0).val + (i 2).val, by omega⟩ : Fin 11264) (i 1))) ?_
  · match a with
    | ⟨0, _⟩ => rfl
    | ⟨1, _⟩ => rfl
  refine (host_dot Cert.Reference3Ideal.dot_S4096x11264_S4096x2048_S11264x2048_0_0_1_1_n_n 4096 rfl rfl _ _ _).trans ?_
  refine Finset.sum_congr rfl fun l _ => ?_
  have hk := contrEquiv1_symm_val Cert.Reference3Ideal.dot_S4096x11264_S4096x2048_S11264x2048_0_0_1_1_n_n 4096 rfl rfl l
  refine (mul_comm _ _).trans (congrArg₂ (· * ·) (congrArg h (funext fun a => Fin.ext ?_)) (congrArg x (funext fun a => Fin.ext ?_)))
  · match a with
    | ⟨0, _⟩ => exact hk
    | ⟨1, _⟩ => rfl
  · match a with
    | ⟨0, _⟩ => exact hk
    | ⟨1, _⟩ => rfl

end Cert.Mul.Three

end
-- ==== Proof.Claims.Three.lean ====
module

public import proofs.«01_k».proof.Defs
public import proofs.«01_k».proof.Proof.Gen.Kernel3.Frame
public import proofs.«01_k».proof.Proof.Gen.Kernel3Ideal.Frame
public import proofs.«01_k».proof.Proof.Mul.Three

/-! The gradient of the feed-forward block's first weight, in its four pieces: the claims. -/

@[expose] public section

noncomputable section

namespace Cert.Proof.Three

open Idealize.ShloMosaic Idealize.ShloMosaic.TcCoe Idealize.SL.Sem

instance : Cert.Kernel3.Facts := Cert.Kernel3.Gen.facts
instance : Cert.Kernel3Ideal.Facts := Cert.Kernel3Ideal.Gen.facts
instance : Cert.Reference3Ideal.Facts := Cert.Reference3Ideal.Gen.facts

/-- The kernel runs, leaves its arguments and its counters as it found them. -/
theorem frame_p : Cert.quiescent_Kernel3 := fun m ρ _ => Cert.Kernel3.Gen.frame m ρ

/-- So does the kernel over the extended reals. -/
theorem frame_pi : Cert.quiescent_Kernel3Ideal := fun m ρ _ => Cert.Kernel3Ideal.Gen.frame m ρ

/-- So does the reference over the extended reals. -/
theorem frame_ri : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- Over the extended reals the kernel and the reference end with the same array. -/
theorem algebraic : Cert.algebraic_Kernel3Ideal_Reference3Ideal := by
  intro m ρ m' ρ' hm hagree
  refine ⟨fun c => Cert.Mul.Three.out (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · refine (θ_run Cert.Kernel3Ideal.defs _ _).mono (fun r h c => ?_) (Cert.Kernel3Ideal.Value.run_blocks (F := Ideal) m ρ)
    exact ⟨(h c).1.trans (Cert.Mul.Three.array m c), (h c).2⟩
  · refine (θ_run Cert.Reference3Ideal.defs _ _).mono (fun r h c => ?_) (Cert.Reference3Ideal.Value.run (F := Ideal) m' ρ')
    obtain ⟨a0, a1⟩ := hagree c
    exact ⟨(h c).1.trans ((Cert.Mul.Three.reference_out _ _).trans (congrArg₂ Cert.Mul.Three.out a0 a1)), (h c).2⟩

end Cert.Proof.Three

end
-- ==== Proof.Mul.Gate.lean ====
module

public import Idealize.ShloMosaic.PureOps.Ideal.Laws

/-! The gate's numbers: the kernel and the reference read the same slope of the gate. -/

@[expose] public section

noncomputable section

namespace Cert.Mul.Gate

open Idealize.ShloMosaic

/-- The word of one. -/
def one : EReal := Ideal.ofBits .f32 0x3F800000#32

theorem one_eq : one = ((1 : ℝ) : EReal) := by
  unfold one
  simp [Ideal.ofBits, Ideal.ieee, -EReal.coe_mul]
  norm_num

/-- The part of a gate that is open. -/
def sg (g : EReal) : EReal := Ideal.div one (one + Ideal.exp (-g))

/-- Minus a number, as the kernel writes it. -/
theorem sub_word (g : EReal) : (Ideal.ofBits .f32 0x00000000#32 : EReal) - g = -g := by
  rw [Ideal.ofBits_zero_f32, zero_sub]

/-- A real gate is open by a real part. -/
theorem sg_coe (g : ℝ) : sg (g : EReal) = ((1 / (1 + Real.exp (-g)) : ℝ) : EReal) := by
  have h : (1 + Real.exp (-g) : ℝ) ≠ 0 := by positivity
  unfold sg
  rw [one_eq, ← EReal.coe_neg, Ideal.exp_coe, ← EReal.coe_add, Ideal.div_coe h, EReal.coe_one, one_mul]

/-- A gated number. -/
def act (g u : EReal) : EReal := g * sg g * u

/-- The gradient of the gate's first half. -/
def slope (d g u : EReal) : EReal := d * u * sg g * (one + g * (one - sg g))

/-- The gradient of its second half. -/
def pass (d g : EReal) : EReal := d * g * sg g

/-- The slope as the product and the chain rule write it. -/
theorem slope_eq (d g u : ℝ) : d * u * sg g + g * (d * u) * (sg g * (one - sg g)) = slope d g u := by
  unfold slope
  rw [sg_coe, one_eq]
  norm_cast
  ring

theorem pass_eq (d g : EReal) : g * sg g * d = pass d g := by
  unfold pass
  rw [mul_comm (g * sg g) d, mul_assoc]

end Cert.Mul.Gate

end
-- ==== Proof.Mul.Four.lean ====
module

public import proofs.«01_k».proof.Proof.Gen.Kernel4Ideal.Value
public import proofs.«01_k».proof.Proof.Gen.Reference4Ideal.Run
public import proofs.«01_k».proof.Proof.Mul.Gate
public import proofs.«01_k».proof.Proof.Gen.Pre_finite4
public import Idealize.ShloMosaic.Lib.ReduceAll
public import Idealize.ShloMosaic.Lib.Pipeline.ValueKit
public import Idealize.ShloMosaic.Lib.ValueLayout

/-! The gradient of the feed-forward block's gate, for finite numbers. -/

@[expose] public section

set_option maxRecDepth 16384

noncomputable section

namespace Cert.Mul.Four

open Idealize.ShloMosaic hiding ix0 ix2 ix3 eq_ix2 eq_ix3
open Idealize.ShloMosaic.ValueIdx Idealize.ShloMosaic.TcCoe Idealize.ShloMosaic.Pipeline Idealize.SL.Sem Cert.Kernel4Ideal Cert.Kernel4Ideal.Gen

/-- The first half of the gradient at a row and a column. -/
def left (d : FVec Ideal S4096x5632 .f32) (x : FVec Ideal S4096x11264 .bf16) (r : Fin 4096) (b : Fin 5632) : EReal :=
  Gate.slope (d (ix2 r b)) (x (ix2 r (⟨b.val, by omega⟩ : Fin 11264))) (x (ix2 r (⟨5632 + b.val, by omega⟩ : Fin 11264)))

/-- The second half. -/
def right (d : FVec Ideal S4096x5632 .f32) (x : FVec Ideal S4096x11264 .bf16) (r : Fin 4096) (b : Fin 5632) : EReal :=
  Gate.pass (d (ix2 r b)) (x (ix2 r (⟨b.val, by omega⟩ : Fin 11264)))

/-- The gradient: the gate's slope in the first half of a row, the passed part in the second. -/
def out (d : FVec Ideal S4096x5632 .f32) (x : FVec Ideal S4096x11264 .bf16) : FVec Ideal S4096x11264 .bf16 := fun i =>
  if h : (i 1).val < 5632 then left d x (i 0) ⟨(i 1).val, h⟩
  else right d x (i 0) ⟨(i 1).val - 5632, by have := (i 1).isLt; change (i 1).val < 11264 at this; omega⟩

theorem low (x : FVec Ideal S256x11264 .bf16) (a : Fin 256) (b : Fin 5632) :
    extractStridedSlice S256x5632 ![0, 0] x slices_S256x11264_o0_0_S256x5632 (ix2 a b) = x (ix2 a (⟨b.val, by omega⟩ : Fin 11264)) :=
  extractStridedSlice_apply _ _ _ _ _ fun d => match d with
    | ⟨0, _⟩ => (Nat.zero_add _).symm
    | ⟨1, _⟩ => (Nat.zero_add _).symm

theorem high (x : FVec Ideal S256x11264 .bf16) (a : Fin 256) (b : Fin 5632) :
    extractStridedSlice S256x5632 ![0, 5632] x slices_S256x11264_o0_5632_S256x5632 (ix2 a b) = x (ix2 a (⟨5632 + b.val, by omega⟩ : Fin 11264)) :=
  extractStridedSlice_apply _ _ _ _ _ fun d => match d with
    | ⟨0, _⟩ => (Nat.zero_add _).symm
    | ⟨1, _⟩ => rfl

theorem tile_left (d : FVec Ideal S256x5632 .f32) (x : FVec Ideal S256x11264 .bf16) (a : Fin 256) (q : Fin 11264) (b : Fin 5632) (h : b.val = q.val) :
    (k0_pay1 (F := Ideal) d x (ix2 a q) : EReal)
      = Gate.slope (d (ix2 a b)) (x (ix2 a (⟨b.val, by omega⟩ : Fin 11264))) (x (ix2 a (⟨5632 + b.val, by omega⟩ : Fin 11264))) := by
  rw [← low x a b, ← high x a b]
  unfold k0_pay1 Gate.slope Gate.sg Gate.one
  rw [← Gate.sub_word]
  refine (concatenate_pair_apply_left (t := S256x11264) (s₁ := S256x5632) (s₂ := S256x5632) (1 : Fin 2) _ _
    concatenates_S256x5632_S256x5632_S256x11264_d1 (ix2 a q) rfl (ix2 a b) fun e => ?_).trans rfl
  match e with
  | ⟨0, _⟩ => rfl
  | ⟨1, _⟩ => exact h

theorem tile_right (d : FVec Ideal S256x5632 .f32) (x : FVec Ideal S256x11264 .bf16) (a : Fin 256) (q : Fin 11264) (b : Fin 5632) (h : b.val + 5632 = q.val) :
    (k0_pay1 (F := Ideal) d x (ix2 a q) : EReal) = Gate.pass (d (ix2 a b)) (x (ix2 a (⟨b.val, by omega⟩ : Fin 11264))) := by
  rw [← low x a b]
  unfold k0_pay1 Gate.pass Gate.sg Gate.one
  rw [← Gate.sub_word]
  refine (concatenate_pair_apply_right (t := S256x11264) (s₁ := S256x5632) (s₂ := S256x5632) (1 : Fin 2) _ _
    concatenates_S256x5632_S256x5632_S256x11264_d1 (ix2 a q) rfl rfl (ix2 a b) (fun e he => ?_) h).trans rfl
  match e, he with
  | ⟨0, _⟩, _ => rfl
  | ⟨1, _⟩, he => exact absurd rfl he

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)

theorem d_apply (t : Fin cfg0.N) (a : Fin 256) (k : Fin 5632) (r : Fin 4096) (l : Fin 5632) (hr : r.val = t.val * 256 + a.val) (hl : l.val = k.val) :
    iblk m c 0 t (ix2 a k) = m ((c : Thread nD τ).loc main_arg0) (ix2 r l) := by
  have e1 : (win0_0.blk t).view.emb (ix2 a k) = ix2 r l := by
    blk_ext [index0] <;> first | exact hl.symm | (change _ + a.val = r.val; omega)
  blk_simp [iblk]
  rw [e1, V_main_arg0]

theorem x_apply (t : Fin cfg0.N) (a : Fin 256) (k : Fin 11264) (r : Fin 4096) (l : Fin 11264) (hr : r.val = t.val * 256 + a.val) (hl : l.val = k.val) :
    iblk m c 1 t (ix2 a k) = m ((c : Thread nD τ).loc main_arg1) (ix2 r l) := by
  have e1 : (win0_1.blk t).view.emb (ix2 a k) = ix2 r l := by
    blk_ext [index1] <;> first | exact hl.symm | (change _ + a.val = r.val; omega)
  blk_simp [iblk]
  rw [e1, V_main_arg1]

/-- What a point writes. -/
theorem point (t : Fin cfg0.N) : (out0_2 (iblk m c 0 t) (iblk m c 1 t)) = k0_pay1 (iblk m c 0 t) (iblk m c 1 t) := by
  unfold out0_2
  frame_out

/-- The kernel's result. -/
theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  have hN : t.val < 16 := lt_of_lt_of_eq t.isLt (show cfg0.N = 16 from N_0)
  obtain ⟨a, q, rfl⟩ : ∃ (a : Fin 256) (q : Fin 11264), y = ix2 a q := ⟨y 0, y 1, eq_ix2 y⟩
  have ha := a.isLt
  have hq := q.isLt
  have e1 : (win0_2.blk t).view.emb (ix2 a q) = ix2 (⟨t.val * 256 + a.val, by omega⟩ : Fin 4096) q := by
    blk_ext [index2] <;> first | rfl | (change _ + a.val = _; omega)
  rw [e1, point m c t]
  unfold out
  by_cases h : q.val < 5632
  · refine (tile_left _ _ a q ⟨q.val, h⟩ rfl).trans (Eq.trans ?_ (dif_pos h).symm)
    unfold left
    exact congr (congrArg₂ Gate.slope (d_apply m c _ _ _ _ _ rfl rfl) (x_apply m c _ _ _ _ _ rfl rfl)) (x_apply m c _ _ _ _ _ rfl rfl)
  · refine (tile_right _ _ a q ⟨q.val - 5632, by omega⟩ (Nat.sub_add_cancel (Nat.le_of_not_lt h))).trans (Eq.trans ?_ (dif_neg h).symm)
    unfold right
    exact congrArg₂ Gate.pass (d_apply m c _ _ _ _ _ rfl rfl) (x_apply m c _ _ _ _ _ rfl rfl)

/-- A number whose size is below infinity is real. -/
theorem coe_of_abs_lt {x y : EReal} (hy : y = ⊤) (h : BitVec.ofBool (decide (max x (-x) < y)) = 1#1) : ((x.toReal : ℝ) : EReal) = x := by
  subst hy
  have h' : max x (-x) < (⊤ : EReal) := by
    by_contra hn
    rw [decide_eq_false hn] at h
    exact absurd h (by decide)
  refine EReal.coe_toReal ?_ ?_ <;> rintro rfl <;> simp at h'

theorem word_inf : (Ideal.ofBits .f32 0x7F800000#32 : EReal) = ⊤ := by simp [Ideal.ofBits, Ideal.ieee]
theorem word_inf_half : (Ideal.ofBits .bf16 0x7F80#16 : EReal) = ⊤ := by simp [Ideal.ofBits, Ideal.ieee]

/-- The precondition read: every entry is real. -/
theorem real_of_pre (d : FVec Ideal S4096x5632 .f32) (x : FVec Ideal S4096x11264 .bf16)
    (h : Cert.Pre_finite4.fn (F := Ideal) d x = fun _ => 1#1) :
    (∀ i, ((EReal.toReal (d i) : ℝ) : EReal) = d i) ∧ (∀ i, ((EReal.toReal (x i) : ℝ) : EReal) = x i) := by
  haveI : Subsingleton Cert.Pre_finite4.S_.Idx := ⟨fun a b => funext fun k => k.elim0⟩
  have h0 := congrFun h ix0
  unfold Cert.Pre_finite4.fn at h0
  dsimp only at h0
  obtain ⟨h1, h2⟩ := IntOp.andi_eq_one.1 h0
  exact ⟨fun i => coe_of_abs_lt word_inf (Host.reduce_andi_all _ _ _ _ _ h1 i), fun i => coe_of_abs_lt word_inf_half (Host.reduce_andi_all _ _ _ _ _ h2 i)⟩

/-- The reference's result, for finite numbers. -/
theorem reference_out (d : FVec Ideal S4096x5632 .f32) (x : FVec Ideal S4096x11264 .bf16) (hd : ∀ i, ((EReal.toReal (d i) : ℝ) : EReal) = d i)
    (hx : ∀ i, ((EReal.toReal (x i) : ℝ) : EReal) = x i) :
    truncf .bf16 (concatenate Cert.Reference4Ideal.S4096x11264 1 [⟨Cert.Reference4Ideal.S4096x5632, (addf (mulf (mulf d
        (extractStridedSlice Cert.Reference4Ideal.S4096x5632 ![0, 5632] (extf .f32 x Cert.Reference4Ideal.Gen.bitsLt_bf16_f32) Cert.Reference4Ideal.Gen.slices_S4096x11264_S4096x5632_0_5632))
        (Host.divf
        (broadcastInDim Cert.Reference4Ideal.S4096x5632 ![] Cert.Reference4Ideal.Gen.bcast_S_S4096x5632 (constant (F := Ideal) Cert.Reference4Ideal.S_ .f32 0x3F800000#32)) (addf
        (broadcastInDim Cert.Reference4Ideal.S4096x5632 ![] Cert.Reference4Ideal.Gen.bcast_S_S4096x5632 (constant (F := Ideal) Cert.Reference4Ideal.S_ .f32 0x3F800000#32)) (Host.exp (Host.negf
        (extractStridedSlice Cert.Reference4Ideal.S4096x5632 ![0, 0] (extf .f32 x Cert.Reference4Ideal.Gen.bitsLt_bf16_f32) Cert.Reference4Ideal.Gen.slices_S4096x11264_S4096x5632_0_0)))))) (mulf (mulf
        (extractStridedSlice Cert.Reference4Ideal.S4096x5632 ![0, 0] (extf .f32 x Cert.Reference4Ideal.Gen.bitsLt_bf16_f32) Cert.Reference4Ideal.Gen.slices_S4096x11264_S4096x5632_0_0) (mulf d
        (extractStridedSlice Cert.Reference4Ideal.S4096x5632 ![0, 5632] (extf .f32 x Cert.Reference4Ideal.Gen.bitsLt_bf16_f32) Cert.Reference4Ideal.Gen.slices_S4096x11264_S4096x5632_0_5632))) (mulf
        (Host.divf
        (broadcastInDim Cert.Reference4Ideal.S4096x5632 ![] Cert.Reference4Ideal.Gen.bcast_S_S4096x5632 (constant (F := Ideal) Cert.Reference4Ideal.S_ .f32 0x3F800000#32)) (addf
        (broadcastInDim Cert.Reference4Ideal.S4096x5632 ![] Cert.Reference4Ideal.Gen.bcast_S_S4096x5632 (constant (F := Ideal) Cert.Reference4Ideal.S_ .f32 0x3F800000#32)) (Host.exp (Host.negf
        (extractStridedSlice Cert.Reference4Ideal.S4096x5632 ![0, 0] (extf .f32 x Cert.Reference4Ideal.Gen.bitsLt_bf16_f32) Cert.Reference4Ideal.Gen.slices_S4096x11264_S4096x5632_0_0))))) (subf
        (broadcastInDim Cert.Reference4Ideal.S4096x5632 ![] Cert.Reference4Ideal.Gen.bcast_S_S4096x5632 (constant (F := Ideal) Cert.Reference4Ideal.S_ .f32 0x3F800000#32))
        (Host.divf
        (broadcastInDim Cert.Reference4Ideal.S4096x5632 ![] Cert.Reference4Ideal.Gen.bcast_S_S4096x5632 (constant (F := Ideal) Cert.Reference4Ideal.S_ .f32 0x3F800000#32)) (addf
        (broadcastInDim Cert.Reference4Ideal.S4096x5632 ![] Cert.Reference4Ideal.Gen.bcast_S_S4096x5632 (constant (F := Ideal) Cert.Reference4Ideal.S_ .f32 0x3F800000#32)) (Host.exp (Host.negf
        (extractStridedSlice Cert.Reference4Ideal.S4096x5632 ![0, 0] (extf .f32 x Cert.Reference4Ideal.Gen.bitsLt_bf16_f32) Cert.Reference4Ideal.Gen.slices_S4096x11264_S4096x5632_0_0)))))))))⟩, ⟨Cert.Reference4Ideal.S4096x5632, (mulf (mulf
        (extractStridedSlice Cert.Reference4Ideal.S4096x5632 ![0, 0] (extf .f32 x Cert.Reference4Ideal.Gen.bitsLt_bf16_f32) Cert.Reference4Ideal.Gen.slices_S4096x11264_S4096x5632_0_0)
        (Host.divf
        (broadcastInDim Cert.Reference4Ideal.S4096x5632 ![] Cert.Reference4Ideal.Gen.bcast_S_S4096x5632 (constant (F := Ideal) Cert.Reference4Ideal.S_ .f32 0x3F800000#32)) (addf
        (broadcastInDim Cert.Reference4Ideal.S4096x5632 ![] Cert.Reference4Ideal.Gen.bcast_S_S4096x5632 (constant (F := Ideal) Cert.Reference4Ideal.S_ .f32 0x3F800000#32)) (Host.exp (Host.negf
        (extractStridedSlice Cert.Reference4Ideal.S4096x5632 ![0, 0] (extf .f32 x Cert.Reference4Ideal.Gen.bitsLt_bf16_f32) Cert.Reference4Ideal.Gen.slices_S4096x11264_S4096x5632_0_0)))))) d)⟩] Cert.Reference4Ideal.Gen.concatenates_S4096x5632_S4096x5632_S4096x11264_d1) Cert.Reference4Ideal.Gen.bitsLt_bf16_f32 = out d x := by
  have lo : ∀ (r : Fin 4096) (b : Fin 5632), extractStridedSlice Cert.Reference4Ideal.S4096x5632 ![0, 0] x Cert.Reference4Ideal.Gen.slices_S4096x11264_S4096x5632_0_0 (ix2 r b)
      = x (ix2 r (⟨b.val, by omega⟩ : Fin 11264)) := fun r b =>
    extractStridedSlice_apply _ _ _ _ _ fun e => match e with
      | ⟨0, _⟩ => (Nat.zero_add _).symm
      | ⟨1, _⟩ => (Nat.zero_add _).symm
  have hi : ∀ (r : Fin 4096) (b : Fin 5632), extractStridedSlice Cert.Reference4Ideal.S4096x5632 ![0, 5632] x Cert.Reference4Ideal.Gen.slices_S4096x11264_S4096x5632_0_5632 (ix2 r b)
      = x (ix2 r (⟨5632 + b.val, by omega⟩ : Fin 11264)) := fun r b =>
    extractStridedSlice_apply _ _ _ _ _ fun e => match e with
      | ⟨0, _⟩ => (Nat.zero_add _).symm
      | ⟨1, _⟩ => rfl
  funext i
  obtain ⟨r, q, rfl⟩ : ∃ (r : Fin 4096) (q : Fin 11264), i = ix2 r q := ⟨i 0, i 1, eq_ix2 i⟩
  have hq := q.isLt
  unfold out
  by_cases h : q.val < 5632
  · refine Eq.trans ?_ (dif_pos h).symm
    refine (concatenate_pair_apply_left (t := Cert.Reference4Ideal.S4096x11264) (s₁ := Cert.Reference4Ideal.S4096x5632) (s₂ := Cert.Reference4Ideal.S4096x5632) (1 : Fin 2) _ _
      Cert.Reference4Ideal.Gen.concatenates_S4096x5632_S4096x5632_S4096x11264_d1 (ix2 r q) rfl
      (ix2 r (⟨q.val, h⟩ : Fin 5632)) fun e => ?_).trans ?_
    · match e with
      | ⟨0, _⟩ => rfl
      | ⟨1, _⟩ => rfl
    · have key := Gate.slope_eq (d (ix2 r (⟨q.val, h⟩ : Fin 5632))).toReal (x (ix2 r (⟨q.val, hq⟩ : Fin 11264))).toReal
        (x (ix2 r (⟨5632 + q.val, by omega⟩ : Fin 11264))).toReal
      rw [hd, hx, hx] at key
      refine Eq.trans ?_ key
      rw [← lo r ⟨q.val, h⟩, ← hi r ⟨q.val, h⟩]
      rfl
  · refine Eq.trans ?_ (dif_neg h).symm
    refine (concatenate_pair_apply_right (t := Cert.Reference4Ideal.S4096x11264) (s₁ := Cert.Reference4Ideal.S4096x5632) (s₂ := Cert.Reference4Ideal.S4096x5632) (1 : Fin 2) _ _
      Cert.Reference4Ideal.Gen.concatenates_S4096x5632_S4096x5632_S4096x11264_d1 (ix2 r q) rfl rfl
      (ix2 r (⟨q.val - 5632, by omega⟩ : Fin 5632)) (fun e he => ?_) (Nat.sub_add_cancel (Nat.le_of_not_lt h))).trans ?_
    · match e, he with
      | ⟨0, _⟩, _ => rfl
      | ⟨1, _⟩, he => exact absurd rfl he
    · refine Eq.trans ?_ (Gate.pass_eq _ _)
      rw [← lo r ⟨q.val - 5632, by omega⟩]
      rfl

end Cert.Mul.Four

end
-- ==== Proof.Claims.Four.lean ====
module

public import proofs.«01_k».proof.Defs
public import proofs.«01_k».proof.Proof.Gen.Kernel4.Frame
public import proofs.«01_k».proof.Proof.Gen.Kernel4Ideal.Frame
public import proofs.«01_k».proof.Proof.Mul.Four
public import proofs.«01_k».proof.Proof.Gen.Pre_finite4

/-! The gradient of the feed-forward block's gate, for finite numbers: the claims. -/

@[expose] public section

noncomputable section

namespace Cert.Proof.Four

open Idealize.ShloMosaic Idealize.ShloMosaic.TcCoe Idealize.SL.Sem

instance : Cert.Kernel4.Facts := Cert.Kernel4.Gen.facts
instance : Cert.Kernel4Ideal.Facts := Cert.Kernel4Ideal.Gen.facts
instance : Cert.Reference4Ideal.Facts := Cert.Reference4Ideal.Gen.facts
instance : Cert.Pre_finite4.Facts := Cert.Pre_finite4.Gen.facts

/-- The kernel runs, leaves its arguments and its counters as it found them. -/
theorem frame_p : Cert.quiescent_Kernel4 := fun m ρ _ => Cert.Kernel4.Gen.frame m ρ

/-- So does the kernel over the extended reals. -/
theorem frame_pi : Cert.quiescent_Kernel4Ideal := fun m ρ _ => Cert.Kernel4Ideal.Gen.frame m ρ

/-- So does the reference over the extended reals. -/
theorem frame_ri : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- Over the extended reals the kernel and the reference end with the same array. -/
theorem algebraic : Cert.algebraic_Kernel4Ideal_Reference4Ideal_pre_finite4 := by
  intro m ρ m' ρ' hm hagree
  refine ⟨fun c => Cert.Mul.Four.out (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · refine (θ_run Cert.Kernel4Ideal.defs _ _).mono (fun r h c => ?_) (Cert.Kernel4Ideal.Value.run_blocks (F := Ideal) m ρ)
    exact ⟨(h c).1.trans (Cert.Mul.Four.array m c), (h c).2⟩
  · refine (θ_run Cert.Reference4Ideal.defs _ _).mono (fun r h c => ?_) (Cert.Reference4Ideal.Value.run (F := Ideal) m' ρ')
    obtain ⟨a0, a1⟩ := hagree c
    obtain ⟨h0, h1⟩ := Cert.Mul.Four.real_of_pre _ _ (hm c)
    rw [← a0] at h0
    rw [← a1] at h1
    exact ⟨(h c).1.trans ((Cert.Mul.Four.reference_out _ _ h0 h1).trans (congrArg₂ Cert.Mul.Four.out a0 a1)), (h c).2⟩

end Cert.Proof.Four

end
-- ==== Proof.Mul.Five.lean ====
module

public import proofs.«01_k».proof.Proof.Gen.Kernel5Ideal.Value
public import proofs.«01_k».proof.Proof.Gen.Reference5Ideal.Run
public import proofs.«01_k».proof.Proof.Mul.Dots
public import Idealize.ShloMosaic.Lib.Pipeline.ValueKit
public import Idealize.ShloMosaic.Lib.ValueLayout

/-! The gradient of the feed-forward block's activation: the rows of the later gradient against the rows of the weight. -/

@[expose] public section

set_option maxRecDepth 16384

noncomputable section

namespace Cert.Mul.Five

open Idealize.ShloMosaic hiding ix2 ix3 eq_ix2 eq_ix3
open Idealize.ShloMosaic.ValueIdx Idealize.ShloMosaic.TcCoe Idealize.ShloMosaic.Pipeline Idealize.SL.Sem Cert.Kernel5Ideal Cert.Kernel5Ideal.Gen

/-- The product. -/
def out (x : FVec Ideal S4096x2048 .bf16) (w : FVec Ideal S4x1408x2048 .bf16) : FVec Ideal S4096x5632 .f32 := fun i =>
  ∑ l : Fin 2048, x (ix2 (i 0) l) * w (ix3 (⟨(i 1).val / 1408, by have h1 := (i 1).isLt; change (i 1).val < 5632 at h1; omega⟩ : Fin 4) (⟨(i 1).val % 1408, by omega⟩ : Fin 1408) l)

/-- One tile's product. -/
def part (x : FVec Ideal S1024x2048 .bf16) (w : FVec Ideal S1x1408x2048 .bf16) (j : S1024x1408.Idx) : EReal :=
  ∑ k : Fin 2048, x (ix2 (j 0) k) * w (ix3 0 (j 1) k)

theorem tile_apply (x : FVec Ideal S1024x2048 .bf16) (w : FVec Ideal S1x1408x2048 .bf16) (j : S1024x1408.Idx) :
    (k0_pay1 (F := Ideal) w x j : EReal) = part x w j := by
  unfold k0_pay1 part
  have hj := (j 1).isLt
  change (j 1).val < 1408 at hj
  refine (tile_dot dot_S1024x2048_S1408x2048_S1024x1408_1_1_0_0_n_n 2048 rfl rfl _ _ j).trans ?_
  refine Finset.sum_congr rfl fun k _ => ?_
  have hk := contrEquiv1_symm_val dot_S1024x2048_S1408x2048_S1024x1408_1_1_0_0_n_n 2048 rfl rfl k
  refine congrArg₂ (· * ·) (congrArg x (funext fun a => Fin.ext ?_)) (shapeCast_apply w _ _ _ ?_)
  · match a with
    | ⟨0, _⟩ => rfl
    | ⟨1, _⟩ => exact hk
  · rw [Shape.rowMajor_val_two, Shape.rowMajor_val_three]
    refine Eq.trans ?_ (congrArg ((j 1).val * 2048 + ·) hk.symm)
    show (0 * 1408 + (j 1).val) * 2048 + k.val = (j 1).val * 2048 + k.val
    omega

variable (m : (ℓ : Loc nD τ sig) → Buf (Elt Ideal) ℓ) (c : Dev nD)

theorem index0 : ∀ t : Fin cfg0.N, win0_0.index t = ![t.val % 4, 0] := (by decide +kernel : ∀ t : Fin grid0.N, _)
theorem index1 : ∀ t : Fin cfg0.N, win0_1.index t = ![t.val / 4, 0, 0] := (by decide +kernel : ∀ t : Fin grid0.N, _)
theorem index2 : ∀ t : Fin cfg0.N, win0_2.index t = ![t.val % 4, t.val / 4] := (by decide +kernel : ∀ t : Fin grid0.N, _)

theorem x_apply (t : Fin cfg0.N) (a : Fin 1024) (k : Fin 2048) (r : Fin 4096) (l : Fin 2048) (hr : r.val = t.val % 4 * 1024 + a.val) (hl : l.val = k.val) :
    iblk m c 0 t (ix2 a k) = m ((c : Thread nD τ).loc main_arg1) (ix2 r l) := by
  have e1 : (win0_0.blk t).view.emb (ix2 a k) = ix2 r l := by
    blk_ext [index0] <;> first | exact hl.symm | (change _ + a.val = r.val; omega)
  blk_simp [iblk]
  rw [e1, V_main_arg1]

theorem w_apply (t : Fin cfg0.N) (v : Fin 1408) (z : Fin 2048) (p : Fin 4) (o : Fin 1408) (q : Fin 2048) (hp : p.val = t.val / 4)
    (ho : o.val = v.val) (hq : q.val = z.val) : iblk m c 1 t (ix3 0 v z) = m ((c : Thread nD τ).loc main_arg0) (ix3 p o q) := by
  have e1 : (win0_1.blk t).view.emb (ix3 0 v z) = ix3 p o q := by
    blk_ext [index1] <;> first | exact hp.symm | exact ho.symm | exact hq.symm | (change _ = p.val; omega) | (change _ + v.val = o.val; omega) | (change _ + z.val = q.val; omega)
  blk_simp [iblk]
  rw [e1, V_main_arg0]

/-- What a point writes. -/
theorem point (t : Fin cfg0.N) : (out0_2 (iblk m c 0 t) (iblk m c 1 t)) = k0_pay1 (iblk m c 1 t) (iblk m c 0 t) := by
  unfold out0_2
  frame_out

/-- The kernel's result. -/
theorem array : (dats m 0 c).arrAt 2 cfg0.N = out (m ((c : Thread nD τ).loc main_arg1)) (m ((c : Thread nD τ).loc main_arg0)) := by
  refine (dats m 0 c).arrAt_eq_of_covers 2 _ (by decide +kernel) fun t hf y => ?_
  blk_simp
  rw [after0_2]
  have hN : t.val < 16 := lt_of_lt_of_eq t.isLt (show cfg0.N = 16 from N_0)
  obtain ⟨a, b, rfl⟩ : ∃ (a : Fin 1024) (b : Fin 1408), y = ix2 a b := ⟨y 0, y 1, eq_ix2 y⟩
  have ha := a.isLt
  have hb := b.isLt
  have e1 : (win0_2.blk t).view.emb (ix2 a b) = ix2 (⟨t.val % 4 * 1024 + a.val, by omega⟩ : Fin 4096)
      (⟨t.val / 4 * 1408 + b.val, by omega⟩ : Fin 5632) := by
    blk_ext [index2] <;> first | rfl | (change _ + a.val = _; omega) | (change _ + b.val = _; omega)
  rw [e1, point m c t]
  refine (tile_apply _ _ _).trans ?_
  unfold out part
  refine Finset.sum_congr rfl fun k _ => ?_
  have hk := k.isLt
  refine congrArg₂ (· * ·) (x_apply m c _ _ _ _ _ ?_ ?_) (w_apply m c _ _ _ _ _ _ ?_ ?_ ?_)
  · show t.val % 4 * 1024 + a.val = t.val % 4 * 1024 + a.val
    rfl
  · rfl
  · show (t.val / 4 * 1408 + b.val) / 1408 = t.val / 4
    omega
  · show (t.val / 4 * 1408 + b.val) % 1408 = b.val
    omega
  · show k.val = k.val
    rfl

/-- The reference's result. -/
theorem reference_out (x : FVec Ideal S4096x2048 .bf16) (w : FVec Ideal S4x1408x2048 .bf16) :
    Host.dotGeneral (F := Ideal) Cert.Reference5Ideal.dot_S4096x2048_S5632x2048_S4096x5632_1_1_0_0_n_n none (extf .f32 x Cert.Reference5Ideal.Gen.bitsLt_bf16_f32)
      (shapeCast _ (extf .f32 w Cert.Reference5Ideal.Gen.bitsLt_bf16_f32) Cert.Reference5Ideal.Gen.shapeCasts_S4x1408x2048_S5632x2048) = out x w := by
  funext i
  have hi := (i 1).isLt
  change (i 1).val < 5632 at hi
  refine (host_dot Cert.Reference5Ideal.dot_S4096x2048_S5632x2048_S4096x5632_1_1_0_0_n_n 2048 rfl rfl _ _ i).trans ?_
  refine Finset.sum_congr rfl fun l _ => ?_
  have hl := l.isLt
  have hk := contrEquiv1_symm_val Cert.Reference5Ideal.dot_S4096x2048_S5632x2048_S4096x5632_1_1_0_0_n_n 2048 rfl rfl l
  refine congrArg₂ (· * ·) (congrArg x (funext fun a => Fin.ext ?_))
    ((shapeCast_apply _ _ _ (ix3 (⟨(i 1).val / 1408, by have h1 := (i 1).isLt; change (i 1).val < 5632 at h1; omega⟩ : Fin 4) (⟨(i 1).val % 1408, by omega⟩ : Fin 1408) l) ?_).trans (congrArg w (funext fun a => Fin.ext ?_)))
  · match a with
    | ⟨0, _⟩ => rfl
    | ⟨1, _⟩ => exact hk
  · rw [Shape.rowMajor_val_two, Shape.rowMajor_val_three]
    refine Eq.trans ?_ (congrArg ((i 1).val * 2048 + ·) hk.symm)
    show ((i 1).val / 1408 * 1408 + (i 1).val % 1408) * 2048 + l.val = (i 1).val * 2048 + l.val
    omega
  · match a with
    | ⟨0, _⟩ => rfl
    | ⟨1, _⟩ => rfl
    | ⟨2, _⟩ => rfl

end Cert.Mul.Five

end
-- ==== Proof.Claims.Five.lean ====
module

public import proofs.«01_k».proof.Defs
public import proofs.«01_k».proof.Proof.Gen.Kernel5.Frame
public import proofs.«01_k».proof.Proof.Gen.Kernel5Ideal.Frame
public import proofs.«01_k».proof.Proof.Mul.Five

/-! The gradient of the feed-forward block's activation: the claims. -/

@[expose] public section

noncomputable section

namespace Cert.Proof.Five

open Idealize.ShloMosaic Idealize.ShloMosaic.TcCoe Idealize.SL.Sem

instance : Cert.Kernel5.Facts := Cert.Kernel5.Gen.facts
instance : Cert.Kernel5Ideal.Facts := Cert.Kernel5Ideal.Gen.facts
instance : Cert.Reference5Ideal.Facts := Cert.Reference5Ideal.Gen.facts

/-- The kernel runs, leaves its arguments and its counters as it found them. -/
theorem frame_p : Cert.quiescent_Kernel5 := fun m ρ _ => Cert.Kernel5.Gen.frame m ρ

/-- So does the kernel over the extended reals. -/
theorem frame_pi : Cert.quiescent_Kernel5Ideal := fun m ρ _ => Cert.Kernel5Ideal.Gen.frame m ρ

/-- So does the reference over the extended reals. -/
theorem frame_ri : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- Over the extended reals the kernel and the reference end with the same array. -/
theorem algebraic : Cert.algebraic_Kernel5Ideal_Reference5Ideal := by
  intro m ρ m' ρ' hm hagree
  refine ⟨fun c => Cert.Mul.Five.out (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg0)), ?_, ?_⟩
  · refine (θ_run Cert.Kernel5Ideal.defs _ _).mono (fun r h c => ?_) (Cert.Kernel5Ideal.Value.run_blocks (F := Ideal) m ρ)
    exact ⟨(h c).1.trans (Cert.Mul.Five.array m c), (h c).2⟩
  · refine (θ_run Cert.Reference5Ideal.defs _ _).mono (fun r h c => ?_) (Cert.Reference5Ideal.Value.run (F := Ideal) m' ρ')
    obtain ⟨a0, a1⟩ := hagree c
    exact ⟨(h c).1.trans ((Cert.Mul.Five.reference_out _ _).trans (congrArg₂ Cert.Mul.Five.out a1 a0)), (h c).2⟩

end Cert.Proof.Five

end
-- ==== Proof.Mul.Six.lean ====
module

public import proofs.«01_k».proof.Proof.Gen.Kernel6Ideal.Value
public import proofs.«01_k».proof.Proof.Gen.Reference6Ideal.Run
public import proofs.«01_k».proof.Proof.Mul.Dots
public import Idealize.ShloMosaic.Lib.Pipeline.ValueKit
public import Idealize.ShloMosaic.Lib.ValueLayout

/-! The gradient of the feed-forward block's second weight, in its four pieces. -/

@[expose] public section

set_option maxRecDepth 16384

noncomputable section

namespace Cert.Mul.Six

open Idealize.ShloMosaic hiding ix2 ix3 eq_ix2 eq_ix3
open Idealize.ShloMosaic.ValueIdx Idealize.ShloMosaic.TcCoe Idealize.ShloMosaic.Pipeline Idealize.SL.Sem Cert.Kernel6Ideal Cert.Kernel6Ideal.Gen

/-- The product: a column of `h` against a column of `x`, summed over the rows. -/
def out (h : FVec Ideal S4096x5632 .bf16) (x : FVec Ideal S4096x2048 .bf16) : FVec Ideal S4x1408x2048 .bf16 := fun i =>
  ∑ l : Fin 4096, h (ix2 l (⟨1408 * (i 0).val + (i 1).val, by have h0 := (i 0).isLt; have h1 := (i 1).isLt; change (i 0).val < 4 at h0; change (i 1).val < 1408 at h1; omega⟩ : Fin 5632)) * x (ix2 l (i 2 : Fin 2048))

/-- One tile's product. -/
def part (h : FVec Ideal S2048x1408 .bf16) (x : FVec Ideal S2048x1024 .bf16) (j : S1408x1024.Idx) : EReal :=
  ∑ k : Fin 2048, h (ix2 k (j 0)) * x (ix2 k (j 1))

theorem step_apply (acc : FVec Ideal S1408x1024 .f32) (h : FVec Ideal S2048x1408 .bf16) (x : FVec Ideal S2048x1024 .bf16) (j : S1408x1024.Idx) :
    k0_pay2 acc h x j = acc j + part h x j := by
  unfold k0_pay2 part
  rw [shapeCast_self]
  refine congrArg (acc j + ·) ?_
  unfold matmul
  rw [tile_dot _ 2048 rfl rfl]
  refine Finset.sum_congr rfl fun k _ => ?_
  have hk := contrEquiv1_symm_val dot_S2048x1408_S2048x1024_S1408x1024_0_0_1_1_n_n 2048 rfl rfl k
  refine congrArg₂ (· * ·) (congrArg h (funext fun a => Fin.ext ?_)) (congrArg x (funext fun a => Fin.ext ?_))
  · match a with
    | ⟨0, _⟩ => exact hk
    | ⟨1, _⟩ => rfl
  · match a with
    | ⟨0, _⟩ => exact hk
    | ⟨1, _⟩ => rfl

theorem zero_apply (j : S1408x1024.Idx) : k0_pay1 (F := Ideal) j = 0 := by
  unfold k0_pay1
  rw [shapeCast_self]
  exact Ideal.ofBits_zero_f32

theorem close_apply (v : FVec Ideal S1408x1024 .f32) (a : Fin 1408) (b : Fin 1024) : (k0_pay3 (F := Ideal) v (ix3 0 a b) : EReal) = v (ix2 a b) := by
  unfold k0_pay3
  refine (shapeCast_apply _ _ _ (ix2 a b) ?_).trans rfl
  rw [Shape.rowMajor_val_two, Shape.rowMajor_val_three]
  show a.val * 1024 + b.val = (0 * 1408 + a.val) * 1024 + b.val
  omega

variable (m : (ℓ : Loc nD τ sig) → Buf (Elt Ideal) ℓ) (c : Dev nD)

/-- What a point adds. -/
abbrev term (t : Fin cfg0.N) (j : S1408x1024.Idx) : EReal := part (iblk m c 0 t) (iblk m c 1 t) j

theorem acc_first (t : Fin cfg0.N) (h : t.val % 2 = 0) (j : S1408x1024.Idx) : (outsAt0 m c t.val t.isLt).2 j = (fun _ => 0 : S1408x1024.Idx → EReal) j + term m c t j := by
  rw [outsAt0_A m c t h (by omega)]
  dsimp only
  unfold sout0_A_0
  frame_out
  rw [step_apply, zero_apply]

theorem acc_next (t : Fin cfg0.N) (h : ¬t.val % 2 = 0) (j : S1408x1024.Idx) :
    (outsAt0 m c t.val t.isLt).2 j = (outsAt0 m c (t.val - 1) (Nat.lt_of_le_of_lt (Nat.sub_le _ _) t.isLt)).2 j + term m c t j := by
  rw [outsAt0_B m c t h (by omega)]
  dsimp only
  unfold sout0_B_0
  frame_out
  rw [step_apply]
  exact congrArg (· + _) (congrFun ((Memref.isWhole_whole cc0_scratch0).read_unread (outsAt0 m c (t.val - 1) _).2) j)

/-- The last point of a run writes back what it has summed. -/
theorem last_out (t : Fin cfg0.N) (h1 : t.val % 2 = 1) : (outsAt0 m c t.val t.isLt).1 = k0_pay3 (outsAt0 m c t.val t.isLt).2 := by
  rw [outsAt0_B m c t (by omega) h1]
  dsimp only
  unfold out0_B_2 sout0_B_0
  frame_out

theorem acc_last (t : Fin cfg0.N) (h1 : t.val % 2 = 1) (a : Fin 1408) (b : Fin 1024) :
    (outsAt0 m c t.val t.isLt).1 (ix3 0 a b) = ∑ s : Fin 2, term m c ⟨2 * (t.val / 2) + s.val, run_point_lt_of_flush t h1 s⟩ (ix2 a b) := by
  rw [last_out m c t h1, close_apply, eq_sum_fin_of_reset_step_apply_of_flush (fun n h => (outsAt0 m c n h).2) 2 (fun _ => 0) (term m c)
    (acc_first m c) (acc_next m c) t h1 (ix2 a b), zero_add]

theorem index0 : ∀ t : Fin cfg0.N, win0_0.index t = ![t.val % 2, t.val / 4] := (by decide +kernel : ∀ t : Fin grid0.N, _)
theorem index1 : ∀ t : Fin cfg0.N, win0_1.index t = ![t.val % 2, t.val / 2 % 2] := (by decide +kernel : ∀ t : Fin grid0.N, _)
theorem index2 : ∀ t : Fin cfg0.N, win0_2.index t = ![t.val / 4, 0, t.val / 2 % 2] := (by decide +kernel : ∀ t : Fin grid0.N, _)

theorem h_apply (t : Fin cfg0.N) (k : Fin 2048) (a : Fin 1408) (l : Fin 4096) (r : Fin 5632) (hl : l.val = t.val % 2 * 2048 + k.val)
    (hr : r.val = t.val / 4 * 1408 + a.val) : iblk m c 0 t (ix2 k a) = m ((c : Thread nD τ).loc main_arg0) (ix2 l r) := by
  have e1 : (win0_0.blk t).view.emb (ix2 k a) = ix2 l r := by
    blk_ext [index0] <;> first | (change _ + k.val = l.val; omega) | (change _ + a.val = r.val; omega) | (change _ = r.val; omega)
  blk_simp [iblk]
  rw [e1, V_main_arg0]

theorem x_apply (t : Fin cfg0.N) (k : Fin 2048) (b : Fin 1024) (l : Fin 4096) (r : Fin 2048) (hl : l.val = t.val % 2 * 2048 + k.val)
    (hr : r.val = t.val / 2 % 2 * 1024 + b.val) : iblk m c 1 t (ix2 k b) = m ((c : Thread nD τ).loc main_arg1) (ix2 l r) := by
  have e1 : (win0_1.blk t).view.emb (ix2 k b) = ix2 l r := by
    blk_ext [index1] <;> first | (change _ + k.val = l.val; omega) | (change _ + b.val = r.val; omega)
  blk_simp [iblk]
  rw [e1, V_main_arg1]

/-- The kernel's result. -/
theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  have h1 := (flush0_2 t).1 hf
  have hN : t.val < 16 := lt_of_lt_of_eq t.isLt (show cfg0.N = 16 from N_0)
  obtain ⟨z, a, b, rfl⟩ : ∃ (z : Fin 1) (a : Fin 1408) (b : Fin 1024), y = ix3 z a b := ⟨y 0, y 1, y 2, eq_ix3 y⟩
  obtain rfl : z = 0 := Subsingleton.elim _ _
  have ha := a.isLt
  have hb := b.isLt
  have e1 : (win0_2.blk t).view.emb (ix3 0 a b) = ix3 (⟨t.val / 4, by omega⟩ : Fin 4) (⟨0 * 1408 + a.val, by omega⟩ : Fin 1408)
      (⟨t.val / 2 % 2 * 1024 + b.val, by omega⟩ : Fin 2048) := by
    blk_ext [index2] <;> first | rfl | (change _ + a.val = _; omega) | (change _ + b.val = _; omega) | (change _ = _; omega)
  rw [e1, acc_last m c t h1]
  unfold out
  refine Fin.sum_mul_add_congr fun s k hl => ?_
  have hk := k.isLt
  have hs := s.isLt
  refine congrArg₂ (· * ·) (h_apply m c _ _ _ _ _ ?_ ?_) (x_apply m c _ _ _ _ _ ?_ ?_)
  · show s.val * 2048 + k.val = (2 * (t.val / 2) + s.val) % 2 * 2048 + k.val
    omega
  · show 1408 * (t.val / 4) + (0 * 1408 + a.val) = (2 * (t.val / 2) + s.val) / 4 * 1408 + a.val
    omega
  · show s.val * 2048 + k.val = (2 * (t.val / 2) + s.val) % 2 * 2048 + k.val
    omega
  · show t.val / 2 % 2 * 1024 + b.val = (2 * (t.val / 2) + s.val) / 2 % 2 * 1024 + b.val
    omega

/-- The reference's result. -/
theorem reference_out (h : FVec Ideal S4096x5632 .bf16) (x : FVec Ideal S4096x2048 .bf16) :
    truncf .bf16 (shapeCast _ (transpose Cert.Reference6Ideal.S5632x2048 [1, 0] (Host.dotGeneral (F := Ideal) Cert.Reference6Ideal.dot_S4096x2048_S4096x5632_S2048x5632_0_0_1_1_n_n none (extf .f32 x Cert.Reference6Ideal.Gen.bitsLt_bf16_f32) (extf .f32 h Cert.Reference6Ideal.Gen.bitsLt_bf16_f32)) Cert.Reference6Ideal.Gen.transposes_S2048x5632_S5632x2048_1_0)
      Cert.Reference6Ideal.Gen.shapeCasts_S5632x2048_S4x1408x2048) Cert.Reference6Ideal.Gen.bitsLt_bf16_f32 = out h x := by
  funext i
  have h0 := (i 0).isLt
  have h1 := (i 1).isLt
  change (i 0).val < 4 at h0
  change (i 1).val < 1408 at h1
  refine Eq.trans (b := (shapeCast Cert.Reference6Ideal.S4x1408x2048 (transpose Cert.Reference6Ideal.S5632x2048 [1, 0] (Host.dotGeneral (F := Ideal) Cert.Reference6Ideal.dot_S4096x2048_S4096x5632_S2048x5632_0_0_1_1_n_n none (extf .f32 x Cert.Reference6Ideal.Gen.bitsLt_bf16_f32) (extf .f32 h Cert.Reference6Ideal.Gen.bitsLt_bf16_f32)) Cert.Reference6Ideal.Gen.transposes_S2048x5632_S5632x2048_1_0) Cert.Reference6Ideal.Gen.shapeCasts_S5632x2048_S4x1408x2048 i : EReal)) rfl ?_
  refine (shapeCast_apply (s := Cert.Reference6Ideal.S5632x2048) (t := Cert.Reference6Ideal.S4x1408x2048) _ _ i (ix2 (⟨1408 * (i 0).val + (i 1).val, by omega⟩ : Fin 5632) (i 2)) ?_).trans ?_
  · rw [Shape.rowMajor_val_two, Shape.rowMajor_val_three]
    show (1408 * (i 0).val + (i 1).val) * 2048 + (i 2).val = ((i 0).val * 1408 + (i 1).val) * 2048 + (i 2).val
    omega
  refine Eq.trans (congrArg (Host.dotGeneral (F := Ideal) Cert.Reference6Ideal.dot_S4096x2048_S4096x5632_S2048x5632_0_0_1_1_n_n none (extf .f32 x Cert.Reference6Ideal.Gen.bitsLt_bf16_f32) (extf .f32 h Cert.Reference6Ideal.Gen.bitsLt_bf16_f32))
    (funext fun a => Fin.ext ?_ : _ = ix2 (i 2) (⟨1408 * (i 0).val + (i 1).val, by omega⟩ : Fin 5632))) ?_
  · match a with
    | ⟨0, _⟩ => rfl
    | ⟨1, _⟩ => rfl
  refine (host_dot Cert.Reference6Ideal.dot_S4096x2048_S4096x5632_S2048x5632_0_0_1_1_n_n 4096 rfl rfl _ _ _).trans ?_
  refine Finset.sum_congr rfl fun l _ => ?_
  have hk := contrEquiv1_symm_val Cert.Reference6Ideal.dot_S4096x2048_S4096x5632_S2048x5632_0_0_1_1_n_n 4096 rfl rfl l
  refine (mul_comm _ _).trans (congrArg₂ (· * ·) (congrArg h (funext fun a => Fin.ext ?_)) (congrArg x (funext fun a => Fin.ext ?_)))
  · match a with
    | ⟨0, _⟩ => exact hk
    | ⟨1, _⟩ => rfl
  · match a with
    | ⟨0, _⟩ => exact hk
    | ⟨1, _⟩ => rfl

end Cert.Mul.Six

end
-- ==== Proof.Claims.Six.lean ====
module

public import proofs.«01_k».proof.Defs
public import proofs.«01_k».proof.Proof.Gen.Kernel6.Frame
public import proofs.«01_k».proof.Proof.Gen.Kernel6Ideal.Frame
public import proofs.«01_k».proof.Proof.Mul.Six

/-! The gradient of the feed-forward block's second weight, in its four pieces: the claims. -/

@[expose] public section

noncomputable section

namespace Cert.Proof.Six

open Idealize.ShloMosaic Idealize.ShloMosaic.TcCoe Idealize.SL.Sem

instance : Cert.Kernel6.Facts := Cert.Kernel6.Gen.facts
instance : Cert.Kernel6Ideal.Facts := Cert.Kernel6Ideal.Gen.facts
instance : Cert.Reference6Ideal.Facts := Cert.Reference6Ideal.Gen.facts

/-- The kernel runs, leaves its arguments and its counters as it found them. -/
theorem frame_p : Cert.quiescent_Kernel6 := fun m ρ _ => Cert.Kernel6.Gen.frame m ρ

/-- So does the kernel over the extended reals. -/
theorem frame_pi : Cert.quiescent_Kernel6Ideal := fun m ρ _ => Cert.Kernel6Ideal.Gen.frame m ρ

/-- So does the reference over the extended reals. -/
theorem frame_ri : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- Over the extended reals the kernel and the reference end with the same array. -/
theorem algebraic : Cert.algebraic_Kernel6Ideal_Reference6Ideal := by
  intro m ρ m' ρ' hm hagree
  refine ⟨fun c => Cert.Mul.Six.out (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · refine (θ_run Cert.Kernel6Ideal.defs _ _).mono (fun r h c => ?_) (Cert.Kernel6Ideal.Value.run_blocks (F := Ideal) m ρ)
    exact ⟨(h c).1.trans (Cert.Mul.Six.array m c), (h c).2⟩
  · refine (θ_run Cert.Reference6Ideal.defs _ _).mono (fun r h c => ?_) (Cert.Reference6Ideal.Value.run (F := Ideal) m' ρ')
    obtain ⟨a0, a1⟩ := hagree c
    exact ⟨(h c).1.trans ((Cert.Mul.Six.reference_out _ _).trans (congrArg₂ Cert.Mul.Six.out a0 a1)), (h c).2⟩

end Cert.Proof.Six

end
-- ==== Proof.Mul.Seven.lean ====
module

public import proofs.«01_k».proof.Proof.Gen.Kernel7Ideal.Value
public import proofs.«01_k».proof.Proof.Gen.Reference7Ideal.Run
public import proofs.«01_k».proof.Proof.Mul.Dots
public import Idealize.ShloMosaic.Lib.Pipeline.ValueKit
public import Idealize.ShloMosaic.Lib.ValueLayout

/-! The gradient of the attention's input: the rows of the later gradient times the columns of the weight,
the weight's four pieces one after another. -/

@[expose] public section

set_option maxRecDepth 16384

noncomputable section

namespace Cert.Mul.Seven

open Idealize.ShloMosaic hiding ix2 ix3 eq_ix2 eq_ix3
open Idealize.ShloMosaic.ValueIdx Idealize.ShloMosaic.TcCoe Idealize.ShloMosaic.Pipeline Idealize.SL.Sem Cert.Kernel7Ideal Cert.Kernel7Ideal.Gen

/-- The product: a row of `x` against a row of the joined weight. -/
def out (w : FVec Ideal S4x2048x1536 .bf16) (x : FVec Ideal S4096x6144 .bf16) : FVec Ideal S4096x2048 .f32 := fun i =>
  ∑ l : Fin 6144, x (ix2 (i 0) l) * w (ix3 ⟨l.val / 1536, by have := l.isLt; omega⟩ (i 1) ⟨l.val % 1536, by omega⟩)

/-- One tile's product. -/
def part (x : FVec Ideal S1024x1536 .bf16) (w : FVec Ideal S1x1024x1536 .bf16) (j : S1024x1024.Idx) : EReal :=
  ∑ k : Fin 1536, x (ix2 (j 0) k) * w (ix3 0 (j 1) k)

theorem step_apply (acc : FVec Ideal S1024x1024 .f32) (x : FVec Ideal S1024x1536 .bf16) (w : FVec Ideal S1x1024x1536 .bf16) (j : S1024x1024.Idx) :
    k0_pay2 acc x w j = acc j + part x w j := by
  unfold k0_pay2 part
  rw [shapeCast_self]
  refine congrArg (acc j + ·) ?_
  unfold matmul
  rw [tile_dot _ 1536 rfl rfl]
  refine Finset.sum_congr rfl fun k _ => ?_
  have hk := contrEquiv1_symm_val dot_S1024x1536_S1024x1536_S1024x1024_1_1_0_0_n_n 1536 rfl rfl k
  refine congrArg₂ (· * ·) (congrArg x (funext fun a => Fin.ext ?_)) (shapeCast_apply w _ _ _ ?_)
  · match a with
    | ⟨0, _⟩ => rfl
    | ⟨1, _⟩ => exact hk
  · rw [Shape.rowMajor_val_two, Shape.rowMajor_val_three]
    show (0 * 1024 + (j 1).val) * 1536 + k.val = (j 1).val * 1536 + _
    rw [Nat.zero_mul, Nat.zero_add]
    exact congrArg ((j 1).val * 1536 + ·) hk.symm

theorem zero_apply (j : S1024x1024.Idx) : k0_pay1 (F := Ideal) j = 0 := by
  unfold k0_pay1
  rw [shapeCast_self]
  exact Ideal.ofBits_zero_f32

variable (m : (ℓ : Loc nD τ sig) → Buf (Elt Ideal) ℓ) (c : Dev nD)

/-- What a point adds. -/
abbrev term (t : Fin cfg0.N) (j : S1024x1024.Idx) : EReal := part (iblk m c 0 t) (iblk m c 1 t) j

theorem acc_first (t : Fin cfg0.N) (h : t.val % 4 = 0) (j : S1024x1024.Idx) : (outsAt0 m c t.val t.isLt).2 j = (fun _ => 0 : S1024x1024.Idx → EReal) j + term m c t j := by
  rw [outsAt0_A m c t h (by omega)]
  dsimp only
  unfold sout0_A_0
  frame_out
  rw [step_apply, zero_apply]

theorem acc_next (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + term m c t j := by
  by_cases h3 : t.val % 4 = 3
  · rw [outsAt0_C m c t h h3]
    dsimp only
    unfold sout0_C_0
    frame_out
    rw [step_apply]
    exact congrArg (· + _) (congrFun ((Memref.isWhole_whole cc0_scratch0).read_unread (outsAt0 m c (t.val - 1) _).2) j)
  · rw [outsAt0_B m c t h h3]
    dsimp only
    unfold sout0_B_0
    frame_out
    rw [step_apply]
    exact congrArg (· + _) (congrFun ((Memref.isWhole_whole cc0_scratch0).read_unread (outsAt0 m c (t.val - 1) _).2) j)

/-- The last point of a run writes back what it has summed. -/
theorem last_out (t : Fin cfg0.N) (h3 : t.val % 4 = 3) : (outsAt0 m c t.val t.isLt).1 = (outsAt0 m c t.val t.isLt).2 := by
  rw [outsAt0_C m c t (by omega) h3]
  dsimp only
  unfold out0_C_2 sout0_C_0
  frame_out

theorem acc_last (t : Fin cfg0.N) (h3 : t.val % 4 = 3) (j : S1024x1024.Idx) :
    (outsAt0 m c t.val t.isLt).1 j = ∑ s : Fin 4, term m c ⟨4 * (t.val / 4) + s.val, run_point_lt_of_flush t h3 s⟩ j := by
  rw [last_out m c t h3, eq_sum_fin_of_reset_step_apply_of_flush (fun n h => (outsAt0 m c n h).2) 4 (fun _ => 0) (term m c)
    (acc_first m c) (acc_next m c) t h3 j, zero_add]

theorem index0 : ∀ t : Fin cfg0.N, win0_0.index t = ![(t.val / 4) % 4, t.val % 4] := (by decide +kernel : ∀ t : Fin grid0.N, _)
theorem index1 : ∀ t : Fin cfg0.N, win0_1.index t = ![t.val % 4, t.val / 16, 0] := (by decide +kernel : ∀ t : Fin grid0.N, _)
theorem index2 : ∀ t : Fin cfg0.N, win0_2.index t = ![(t.val / 4) % 4, t.val / 16] := (by decide +kernel : ∀ t : Fin grid0.N, _)

theorem x_apply (t : Fin cfg0.N) (a : Fin 1024) (k : Fin 1536) (r : Fin 4096) (l : Fin 6144) (hr : r.val = (t.val / 4) % 4 * 1024 + a.val)
    (hl : l.val = t.val % 4 * 1536 + k.val) : iblk m c 0 t (ix2 a k) = m ((c : Thread nD τ).loc main_arg1) (ix2 r l) := by
  have e1 : (win0_0.blk t).view.emb (ix2 a k) = ix2 r l := by
    blk_ext [index0] <;> first | (change _ + a.val = r.val; omega) | (change _ + k.val = l.val; omega)
  blk_simp [iblk]
  rw [e1, V_main_arg1]

theorem w_apply (t : Fin cfg0.N) (b : Fin 1024) (k : Fin 1536) (p : Fin 4) (o : Fin 2048) (q : Fin 1536) (hp : p.val = t.val % 4)
    (ho : o.val = t.val / 16 * 1024 + b.val) (hq : q.val = k.val) : iblk m c 1 t (ix3 0 b k) = m ((c : Thread nD τ).loc main_arg0) (ix3 p o q) := by
  have e1 : (win0_1.blk t).view.emb (ix3 0 b k) = ix3 p o q := by
    blk_ext [index1] <;> first | (change _ + b.val = o.val; omega) | (change _ = p.val; omega) | exact hq.symm
  blk_simp [iblk]
  rw [e1, V_main_arg0]

/-- The kernel's result. -/
theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  have h3 := (flush0_2 t).1 hf
  have hN : t.val < 32 := lt_of_lt_of_eq t.isLt (show cfg0.N = 32 from N_0)
  obtain ⟨a, b, rfl⟩ : ∃ (a : Fin 1024) (b : Fin 1024), y = ix2 a b := ⟨y 0, y 1, eq_ix2 y⟩
  have e1 : (win0_2.blk t).view.emb (ix2 a b) = ix2 (⟨(t.val / 4) % 4 * 1024 + a.val, by omega⟩ : Fin 4096)
      (⟨t.val / 16 * 1024 + b.val, by omega⟩ : Fin 2048) := by
    blk_ext [index2] <;> first | (change _ + a.val = _; omega) | (change _ + b.val = _; omega)
  rw [e1, acc_last m c t h3]
  unfold out
  refine Fin.sum_mul_add_congr fun s k hl => ?_
  have hk := k.isLt
  have hs := s.isLt
  refine congrArg₂ (· * ·) (x_apply m c _ _ _ _ _ ?_ ?_) (w_apply m c _ _ _ _ _ _ ?_ ?_ ?_) <;> dsimp only
  all_goals first | omega | (change _ = _ * 1024 + a.val; omega) | (change _ = _ * 1024 + b.val; omega)

/-- The reference's result. -/
theorem reference_out (w : FVec Ideal S4x2048x1536 .bf16) (x : FVec Ideal S4096x6144 .bf16) :
    Host.dotGeneral (F := Ideal) Cert.Reference7Ideal.dot_S4096x6144_S2048x6144_S4096x2048_1_1_0_0_n_n none (extf .f32 x Cert.Reference7Ideal.Gen.bitsLt_bf16_f32)
      (shapeCast _ (transpose Cert.Reference7Ideal.S2048x4x1536 [1, 0, 2] (extf .f32 w Cert.Reference7Ideal.Gen.bitsLt_bf16_f32)
        Cert.Reference7Ideal.Gen.transposes_S4x2048x1536_S2048x4x1536_1_0_2) Cert.Reference7Ideal.Gen.shapeCasts_S2048x4x1536_S2048x6144) = out w x := by
  funext i
  rw [host_dot _ 6144 rfl rfl]
  refine Finset.sum_congr rfl fun l _ => ?_
  have hl := l.isLt
  have hk := contrEquiv1_symm_val Cert.Reference7Ideal.dot_S4096x6144_S2048x6144_S4096x2048_1_1_0_0_n_n 6144 rfl rfl l
  refine congrArg₂ (· * ·) (congrArg x (funext fun a => Fin.ext ?_))
    ((shapeCast_apply _ _ _ (ix3 (i 1) (⟨l.val / 1536, by omega⟩ : Fin 4) (⟨l.val % 1536, by omega⟩ : Fin 1536)) ?_).trans (congrArg w (funext fun a => Fin.ext ?_)))
  · match a with
    | ⟨0, _⟩ => rfl
    | ⟨1, _⟩ => exact hk
  · rw [Shape.rowMajor_val_two, Shape.rowMajor_val_three]
    refine Eq.trans ?_ (congrArg ((i 1).val * 6144 + ·) hk.symm)
    show ((i 1).val * 4 + l.val / 1536) * 1536 + l.val % 1536 = (i 1).val * 6144 + l.val
    omega
  · match a with
    | ⟨0, _⟩ => rfl
    | ⟨1, _⟩ => rfl
    | ⟨2, _⟩ => rfl

end Cert.Mul.Seven

end
-- ==== Proof.Claims.Seven.lean ====
module

public import proofs.«01_k».proof.Defs
public import proofs.«01_k».proof.Proof.Gen.Kernel7.Frame
public import proofs.«01_k».proof.Proof.Gen.Kernel7Ideal.Frame
public import proofs.«01_k».proof.Proof.Mul.Seven

/-! The gradient of the attention's input: the claims. -/

@[expose] public section

noncomputable section

namespace Cert.Proof.Seven

open Idealize.ShloMosaic Idealize.ShloMosaic.TcCoe Idealize.SL.Sem

instance : Cert.Kernel7.Facts := Cert.Kernel7.Gen.facts
instance : Cert.Kernel7Ideal.Facts := Cert.Kernel7Ideal.Gen.facts
instance : Cert.Reference7Ideal.Facts := Cert.Reference7Ideal.Gen.facts

/-- The kernel runs, leaves its arguments and its counters as it found them. -/
theorem frame_p : Cert.quiescent_Kernel7 := fun m ρ _ => Cert.Kernel7.Gen.frame m ρ

/-- So does the kernel over the extended reals. -/
theorem frame_pi : Cert.quiescent_Kernel7Ideal := fun m ρ _ => Cert.Kernel7Ideal.Gen.frame m ρ

/-- So does the reference over the extended reals. -/
theorem frame_ri : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- Over the extended reals the kernel and the reference end with the same array. -/
theorem algebraic : Cert.algebraic_Kernel7Ideal_Reference7Ideal := by
  intro m ρ m' ρ' hm hagree
  refine ⟨fun c => Cert.Mul.Seven.out (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · refine (θ_run Cert.Kernel7Ideal.defs _ _).mono (fun r h c => ?_) (Cert.Kernel7Ideal.Value.run_blocks (F := Ideal) m ρ)
    exact ⟨(h c).1.trans (Cert.Mul.Seven.array m c), (h c).2⟩
  · refine (θ_run Cert.Reference7Ideal.defs _ _).mono (fun r h c => ?_) (Cert.Reference7Ideal.Value.run (F := Ideal) m' ρ')
    obtain ⟨a0, a1⟩ := hagree c
    exact ⟨(h c).1.trans ((Cert.Mul.Seven.reference_out _ _).trans (congrArg₂ Cert.Mul.Seven.out a0 a1)), (h c).2⟩

end Cert.Proof.Seven

end
-- ==== Proof.Mul.Eight.lean ====
module

public import proofs.«01_k».proof.Proof.Gen.Kernel8Ideal.Value
public import proofs.«01_k».proof.Proof.Gen.Reference8Ideal.Run
public import proofs.«01_k».proof.Proof.Mul.Dots
public import Idealize.ShloMosaic.Lib.Pipeline.ValueKit
public import Idealize.ShloMosaic.Lib.ValueLayout

/-! The gradient of the attention's first weight, in its four pieces. -/

@[expose] public section

set_option maxRecDepth 16384

noncomputable section

namespace Cert.Mul.Eight

open Idealize.ShloMosaic hiding ix2 ix3 eq_ix2 eq_ix3
open Idealize.ShloMosaic.ValueIdx Idealize.ShloMosaic.TcCoe Idealize.ShloMosaic.Pipeline Idealize.SL.Sem Cert.Kernel8Ideal Cert.Kernel8Ideal.Gen

/-- The product: a column of `h` against a column of `x`, summed over the rows. -/
def out (h : FVec Ideal S4096x2048 .bf16) (x : FVec Ideal S4096x6144 .bf16) : FVec Ideal S4x2048x1536 .bf16 := fun i =>
  ∑ l : Fin 4096, h (ix2 l (i 1 : Fin 2048)) * x (ix2 l (⟨1536 * (i 0).val + (i 2).val, by have h0 := (i 0).isLt; have h2 := (i 2).isLt; change (i 0).val < 4 at h0; change (i 2).val < 1536 at h2; omega⟩ : Fin 6144))

/-- One tile's product. -/
def part (h : FVec Ideal S2048x1024 .bf16) (x : FVec Ideal S2048x1536 .bf16) (j : S1024x1536.Idx) : EReal :=
  ∑ k : Fin 2048, h (ix2 k (j 0)) * x (ix2 k (j 1))

theorem step_apply (acc : FVec Ideal S1024x1536 .f32) (h : FVec Ideal S2048x1024 .bf16) (x : FVec Ideal S2048x1536 .bf16) (j : S1024x1536.Idx) :
    k0_pay2 acc h x j = acc j + part h x j := by
  unfold k0_pay2 part
  rw [shapeCast_self]
  refine congrArg (acc j + ·) ?_
  unfold matmul
  rw [tile_dot _ 2048 rfl rfl]
  refine Finset.sum_congr rfl fun k _ => ?_
  have hk := contrEquiv1_symm_val dot_S2048x1024_S2048x1536_S1024x1536_0_0_1_1_n_n 2048 rfl rfl k
  refine congrArg₂ (· * ·) (congrArg h (funext fun a => Fin.ext ?_)) (congrArg x (funext fun a => Fin.ext ?_))
  · match a with
    | ⟨0, _⟩ => exact hk
    | ⟨1, _⟩ => rfl
  · match a with
    | ⟨0, _⟩ => exact hk
    | ⟨1, _⟩ => rfl

theorem zero_apply (j : S1024x1536.Idx) : k0_pay1 (F := Ideal) j = 0 := by
  unfold k0_pay1
  rw [shapeCast_self]
  exact Ideal.ofBits_zero_f32

theorem close_apply (v : FVec Ideal S1024x1536 .f32) (a : Fin 1024) (b : Fin 1536) : (k0_pay3 (F := Ideal) v (ix3 0 a b) : EReal) = v (ix2 a b) := by
  unfold k0_pay3
  refine (shapeCast_apply _ _ _ (ix2 a b) ?_).trans rfl
  rw [Shape.rowMajor_val_two, Shape.rowMajor_val_three]
  show a.val * 1536 + b.val = (0 * 1024 + a.val) * 1536 + b.val
  omega

variable (m : (ℓ : Loc nD τ sig) → Buf (Elt Ideal) ℓ) (c : Dev nD)

/-- What a point adds. -/
abbrev term (t : Fin cfg0.N) (j : S1024x1536.Idx) : EReal := part (iblk m c 0 t) (iblk m c 1 t) j

theorem acc_first (t : Fin cfg0.N) (h : t.val % 2 = 0) (j : S1024x1536.Idx) : (outsAt0 m c t.val t.isLt).2 j = (fun _ => 0 : S1024x1536.Idx → EReal) j + term m c t j := by
  rw [outsAt0_A m c t h (by omega)]
  dsimp only
  unfold sout0_A_0
  frame_out
  rw [step_apply, zero_apply]

theorem acc_next (t : Fin cfg0.N) (h : ¬t.val % 2 = 0) (j : S1024x1536.Idx) :
    (outsAt0 m c t.val t.isLt).2 j = (outsAt0 m c (t.val - 1) (Nat.lt_of_le_of_lt (Nat.sub_le _ _) t.isLt)).2 j + term m c t j := by
  rw [outsAt0_B m c t h (by omega)]
  dsimp only
  unfold sout0_B_0
  frame_out
  rw [step_apply]
  exact congrArg (· + _) (congrFun ((Memref.isWhole_whole cc0_scratch0).read_unread (outsAt0 m c (t.val - 1) _).2) j)

/-- The last point of a run writes back what it has summed. -/
theorem last_out (t : Fin cfg0.N) (h1 : t.val % 2 = 1) : (outsAt0 m c t.val t.isLt).1 = k0_pay3 (outsAt0 m c t.val t.isLt).2 := by
  rw [outsAt0_B m c t (by omega) h1]
  dsimp only
  unfold out0_B_2 sout0_B_0
  frame_out

theorem acc_last (t : Fin cfg0.N) (h1 : t.val % 2 = 1) (a : Fin 1024) (b : Fin 1536) :
    (outsAt0 m c t.val t.isLt).1 (ix3 0 a b) = ∑ s : Fin 2, term m c ⟨2 * (t.val / 2) + s.val, run_point_lt_of_flush t h1 s⟩ (ix2 a b) := by
  rw [last_out m c t h1, close_apply, eq_sum_fin_of_reset_step_apply_of_flush (fun n h => (outsAt0 m c n h).2) 2 (fun _ => 0) (term m c)
    (acc_first m c) (acc_next m c) t h1 (ix2 a b), zero_add]

theorem index0 : ∀ t : Fin cfg0.N, win0_0.index t = ![t.val % 2, t.val / 8] := (by decide +kernel : ∀ t : Fin grid0.N, _)
theorem index1 : ∀ t : Fin cfg0.N, win0_1.index t = ![t.val % 2, t.val / 2 % 4] := (by decide +kernel : ∀ t : Fin grid0.N, _)
theorem index2 : ∀ t : Fin cfg0.N, win0_2.index t = ![t.val / 2 % 4, t.val / 8, 0] := (by decide +kernel : ∀ t : Fin grid0.N, _)

theorem h_apply (t : Fin cfg0.N) (k : Fin 2048) (a : Fin 1024) (l : Fin 4096) (r : Fin 2048) (hl : l.val = t.val % 2 * 2048 + k.val)
    (hr : r.val = t.val / 8 * 1024 + a.val) : iblk m c 0 t (ix2 k a) = m ((c : Thread nD τ).loc main_arg0) (ix2 l r) := by
  have e1 : (win0_0.blk t).view.emb (ix2 k a) = ix2 l r := by
    blk_ext [index0] <;> first | (change _ + k.val = l.val; omega) | (change _ + a.val = r.val; omega) | (change _ = r.val; omega)
  blk_simp [iblk]
  rw [e1, V_main_arg0]

theorem x_apply (t : Fin cfg0.N) (k : Fin 2048) (b : Fin 1536) (l : Fin 4096) (r : Fin 6144) (hl : l.val = t.val % 2 * 2048 + k.val)
    (hr : r.val = t.val / 2 % 4 * 1536 + b.val) : iblk m c 1 t (ix2 k b) = m ((c : Thread nD τ).loc main_arg1) (ix2 l r) := by
  have e1 : (win0_1.blk t).view.emb (ix2 k b) = ix2 l r := by
    blk_ext [index1] <;> first | (change _ + k.val = l.val; omega) | (change _ + b.val = r.val; omega)
  blk_simp [iblk]
  rw [e1, V_main_arg1]

/-- The kernel's result. -/
theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  have h1 := (flush0_2 t).1 hf
  have hN : t.val < 16 := lt_of_lt_of_eq t.isLt (show cfg0.N = 16 from N_0)
  obtain ⟨z, a, b, rfl⟩ : ∃ (z : Fin 1) (a : Fin 1024) (b : Fin 1536), y = ix3 z a b := ⟨y 0, y 1, y 2, eq_ix3 y⟩
  obtain rfl : z = 0 := Subsingleton.elim _ _
  have ha := a.isLt
  have hb := b.isLt
  have e1 : (win0_2.blk t).view.emb (ix3 0 a b) = ix3 (⟨t.val / 2 % 4, by omega⟩ : Fin 4) (⟨t.val / 8 * 1024 + a.val, by omega⟩ : Fin 2048)
      (⟨0 * 1536 + b.val, by omega⟩ : Fin 1536) := by
    blk_ext [index2] <;> first | rfl | (change _ + a.val = _; omega) | (change _ + b.val = _; omega) | (change _ = _; omega)
  rw [e1, acc_last m c t h1]
  unfold out
  refine Fin.sum_mul_add_congr fun s k hl => ?_
  have hk := k.isLt
  have hs := s.isLt
  refine congrArg₂ (· * ·) (h_apply m c _ _ _ _ _ ?_ ?_) (x_apply m c _ _ _ _ _ ?_ ?_)
  · show s.val * 2048 + k.val = (2 * (t.val / 2) + s.val) % 2 * 2048 + k.val
    omega
  · show t.val / 8 * 1024 + a.val = (2 * (t.val / 2) + s.val) / 8 * 1024 + a.val
    omega
  · show s.val * 2048 + k.val = (2 * (t.val / 2) + s.val) % 2 * 2048 + k.val
    omega
  · show 1536 * (t.val / 2 % 4) + (0 * 1536 + b.val) = (2 * (t.val / 2) + s.val) / 2 % 4 * 1536 + b.val
    omega

/-- The reference's result. -/
theorem reference_out (h : FVec Ideal S4096x2048 .bf16) (x : FVec Ideal S4096x6144 .bf16) :
    truncf .bf16 (transpose Cert.Reference8Ideal.S4x2048x1536 [1, 0, 2] (shapeCast _ (transpose Cert.Reference8Ideal.S2048x6144 [1, 0] (Host.dotGeneral (F := Ideal) Cert.Reference8Ideal.dot_S4096x6144_S4096x2048_S6144x2048_0_0_1_1_n_n none (extf .f32 x Cert.Reference8Ideal.Gen.bitsLt_bf16_f32) (extf .f32 h Cert.Reference8Ideal.Gen.bitsLt_bf16_f32)) Cert.Reference8Ideal.Gen.transposes_S6144x2048_S2048x6144_1_0)
      Cert.Reference8Ideal.Gen.shapeCasts_S2048x6144_S2048x4x1536) Cert.Reference8Ideal.Gen.transposes_S2048x4x1536_S4x2048x1536_1_0_2) Cert.Reference8Ideal.Gen.bitsLt_bf16_f32 = out h x := by
  funext i
  have h0 := (i 0).isLt
  have h2 := (i 2).isLt
  change (i 0).val < 4 at h0
  change (i 2).val < 1536 at h2
  refine Eq.trans (b := (shapeCast Cert.Reference8Ideal.S2048x4x1536 (transpose Cert.Reference8Ideal.S2048x6144 [1, 0] (Host.dotGeneral (F := Ideal) Cert.Reference8Ideal.dot_S4096x6144_S4096x2048_S6144x2048_0_0_1_1_n_n none (extf .f32 x Cert.Reference8Ideal.Gen.bitsLt_bf16_f32) (extf .f32 h Cert.Reference8Ideal.Gen.bitsLt_bf16_f32)) Cert.Reference8Ideal.Gen.transposes_S6144x2048_S2048x6144_1_0) Cert.Reference8Ideal.Gen.shapeCasts_S2048x6144_S2048x4x1536 (ix3 (i 1) (i 0) (i 2)) : EReal))
    (congrArg (shapeCast Cert.Reference8Ideal.S2048x4x1536 (transpose Cert.Reference8Ideal.S2048x6144 [1, 0] (Host.dotGeneral (F := Ideal) Cert.Reference8Ideal.dot_S4096x6144_S4096x2048_S6144x2048_0_0_1_1_n_n none (extf .f32 x Cert.Reference8Ideal.Gen.bitsLt_bf16_f32) (extf .f32 h Cert.Reference8Ideal.Gen.bitsLt_bf16_f32)) Cert.Reference8Ideal.Gen.transposes_S6144x2048_S2048x6144_1_0) Cert.Reference8Ideal.Gen.shapeCasts_S2048x6144_S2048x4x1536) (funext fun a => Fin.ext ?_)) ?_
  · match a with
    | ⟨0, _⟩ => rfl
    | ⟨1, _⟩ => rfl
    | ⟨2, _⟩ => rfl
  refine (shapeCast_apply (s := Cert.Reference8Ideal.S2048x6144) (t := Cert.Reference8Ideal.S2048x4x1536) _ _ (ix3 (i 1) (i 0) (i 2)) (ix2 (i 1) (⟨1536 * (i 0).val + (i 2).val, by omega⟩ : Fin 6144)) ?_).trans ?_
  · rw [Shape.rowMajor_val_two, Shape.rowMajor_val_three]
    show (i 1).val * 6144 + (1536 * (i 0).val + (i 2).val) = ((i 1).val * 4 + (i 0).val) * 1536 + (i 2).val
    omega
  refine Eq.trans (congrArg (Host.dotGeneral (F := Ideal) Cert.Reference8Ideal.dot_S4096x6144_S4096x2048_S6144x2048_0_0_1_1_n_n none (extf .f32 x Cert.Reference8Ideal.Gen.bitsLt_bf16_f32) (extf .f32 h Cert.Reference8Ideal.Gen.bitsLt_bf16_f32))
    (funext fun a => Fin.ext ?_ : _ = ix2 (⟨1536 * (i 0).val + (i 2).val, by omega⟩ : Fin 6144) (i 1))) ?_
  · match a with
    | ⟨0, _⟩ => rfl
    | ⟨1, _⟩ => rfl
  refine (host_dot Cert.Reference8Ideal.dot_S4096x6144_S4096x2048_S6144x2048_0_0_1_1_n_n 4096 rfl rfl _ _ _).trans ?_
  refine Finset.sum_congr rfl fun l _ => ?_
  have hk := contrEquiv1_symm_val Cert.Reference8Ideal.dot_S4096x6144_S4096x2048_S6144x2048_0_0_1_1_n_n 4096 rfl rfl l
  refine (mul_comm _ _).trans (congrArg₂ (· * ·) (congrArg h (funext fun a => Fin.ext ?_)) (congrArg x (funext fun a => Fin.ext ?_)))
  · match a with
    | ⟨0, _⟩ => exact hk
    | ⟨1, _⟩ => rfl
  · match a with
    | ⟨0, _⟩ => exact hk
    | ⟨1, _⟩ => rfl

end Cert.Mul.Eight

end
-- ==== Proof.Claims.Eight.lean ====
module

public import proofs.«01_k».proof.Defs
public import proofs.«01_k».proof.Proof.Gen.Kernel8.Frame
public import proofs.«01_k».proof.Proof.Gen.Kernel8Ideal.Frame
public import proofs.«01_k».proof.Proof.Mul.Eight

/-! The gradient of the attention's first weight, in its four pieces: the claims. -/

@[expose] public section

noncomputable section

namespace Cert.Proof.Eight

open Idealize.ShloMosaic Idealize.ShloMosaic.TcCoe Idealize.SL.Sem

instance : Cert.Kernel8.Facts := Cert.Kernel8.Gen.facts
instance : Cert.Kernel8Ideal.Facts := Cert.Kernel8Ideal.Gen.facts
instance : Cert.Reference8Ideal.Facts := Cert.Reference8Ideal.Gen.facts

/-- The kernel runs, leaves its arguments and its counters as it found them. -/
theorem frame_p : Cert.quiescent_Kernel8 := fun m ρ _ => Cert.Kernel8.Gen.frame m ρ

/-- So does the kernel over the extended reals. -/
theorem frame_pi : Cert.quiescent_Kernel8Ideal := fun m ρ _ => Cert.Kernel8Ideal.Gen.frame m ρ

/-- So does the reference over the extended reals. -/
theorem frame_ri : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- Over the extended reals the kernel and the reference end with the same array. -/
theorem algebraic : Cert.algebraic_Kernel8Ideal_Reference8Ideal := by
  intro m ρ m' ρ' hm hagree
  refine ⟨fun c => Cert.Mul.Eight.out (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · refine (θ_run Cert.Kernel8Ideal.defs _ _).mono (fun r h c => ?_) (Cert.Kernel8Ideal.Value.run_blocks (F := Ideal) m ρ)
    exact ⟨(h c).1.trans (Cert.Mul.Eight.array m c), (h c).2⟩
  · refine (θ_run Cert.Reference8Ideal.defs _ _).mono (fun r h c => ?_) (Cert.Reference8Ideal.Value.run (F := Ideal) m' ρ')
    obtain ⟨a0, a1⟩ := hagree c
    exact ⟨(h c).1.trans ((Cert.Mul.Eight.reference_out _ _).trans (congrArg₂ Cert.Mul.Eight.out a0 a1)), (h c).2⟩

end Cert.Proof.Eight

end
-- ==== Proof.Mul.Nine.lean ====
module

public import proofs.«01_k».proof.Proof.Gen.Kernel9Ideal.Value
public import proofs.«01_k».proof.Proof.Gen.Reference9Ideal.Run
public import proofs.«01_k».proof.Proof.Mul.Dots
public import Idealize.ShloMosaic.Lib.Pipeline.ValueKit
public import Idealize.ShloMosaic.Lib.ValueLayout

/-! The gradient of the input of a square weight cut by rows. -/

@[expose] public section

set_option maxRecDepth 16384

noncomputable section

namespace Cert.Mul.Nine

open Idealize.ShloMosaic hiding ix2 ix3 eq_ix2 eq_ix3
open Idealize.ShloMosaic.ValueIdx Idealize.ShloMosaic.TcCoe Idealize.ShloMosaic.Pipeline Idealize.SL.Sem Cert.Kernel9Ideal Cert.Kernel9Ideal.Gen

/-- The product. -/
def out (x : FVec Ideal S4096x2048 .bf16) (w : FVec Ideal S4x512x2048 .bf16) : FVec Ideal S4096x2048 .f32 := fun i =>
  ∑ l : Fin 2048, x (ix2 (i 0) l) * w (ix3 (⟨(i 1).val / 512, by have h1 := (i 1).isLt; change (i 1).val < 2048 at h1; omega⟩ : Fin 4) (⟨(i 1).val % 512, by omega⟩ : Fin 512) l)

/-- One tile's product. -/
def part (x : FVec Ideal S512x2048 .bf16) (w : FVec Ideal S4x512x2048 .bf16) (j : S512x2048.Idx) : EReal :=
  ∑ k : Fin 2048, x (ix2 (j 0) k) * w (ix3 (⟨(j 1).val / 512, by have h1 := (j 1).isLt; change (j 1).val < 2048 at h1; omega⟩ : Fin 4) (⟨(j 1).val % 512, by omega⟩ : Fin 512) k)

theorem tile_apply (x : FVec Ideal S512x2048 .bf16) (w : FVec Ideal S4x512x2048 .bf16) (j : S512x2048.Idx) :
    (k0_pay1 (F := Ideal) w x j : EReal) = part x w j := by
  unfold k0_pay1 part
  have hj := (j 1).isLt
  change (j 1).val < 2048 at hj
  refine (tile_dot dot_S512x2048_S2048x2048_S512x2048_1_1_0_0_n_n 2048 rfl rfl _ _ j).trans ?_
  refine Finset.sum_congr rfl fun k _ => ?_
  have hk := contrEquiv1_symm_val dot_S512x2048_S2048x2048_S512x2048_1_1_0_0_n_n 2048 rfl rfl k
  refine congrArg₂ (· * ·) (congrArg x (funext fun a => Fin.ext ?_)) (shapeCast_apply w _ _ _ ?_)
  · match a with
    | ⟨0, _⟩ => rfl
    | ⟨1, _⟩ => exact hk
  · rw [Shape.rowMajor_val_two, Shape.rowMajor_val_three]
    refine Eq.trans ?_ (congrArg ((j 1).val * 2048 + ·) hk.symm)
    show ((j 1).val / 512 * 512 + (j 1).val % 512) * 2048 + k.val = (j 1).val * 2048 + k.val
    omega

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![t.val, 0] := (by decide +kernel : ∀ t : Fin grid0.N, _)

theorem x_apply (t : Fin cfg0.N) (a : Fin 512) (k : Fin 2048) (r : Fin 4096) (l : Fin 2048) (hr : r.val = t.val * 512 + a.val) (hl : l.val = k.val) :
    iblk m c 0 t (ix2 a k) = m ((c : Thread nD τ).loc main_arg1) (ix2 r l) := by
  have e1 : (win0_0.blk t).view.emb (ix2 a k) = ix2 r l := by
    blk_ext [index0] <;> first | exact hl.symm | (change _ + a.val = r.val; omega)
  blk_simp [iblk]
  rw [e1, V_main_arg1]

theorem w_apply (t : Fin cfg0.N) (u : Fin 4) (v : Fin 512) (z : Fin 2048) (p : Fin 4) (o : Fin 512) (q : Fin 2048) (hp : p.val = u.val)
    (ho : o.val = v.val) (hq : q.val = z.val) : iblk m c 1 t (ix3 u v z) = m ((c : Thread nD τ).loc main_arg0) (ix3 p o q) := by
  have e1 : (win0_1.blk t).view.emb (ix3 u v z) = ix3 p o q := by
    blk_ext [index1] <;> first | exact hp.symm | exact ho.symm | exact hq.symm | (change _ = p.val; omega) | (change _ + v.val = o.val; omega) | (change _ + z.val = q.val; omega)
  blk_simp [iblk]
  rw [e1, V_main_arg0]

/-- What a point writes. -/
theorem point (t : Fin cfg0.N) : (out0_2 (iblk m c 0 t) (iblk m c 1 t)) = k0_pay1 (iblk m c 1 t) (iblk m c 0 t) := by
  unfold out0_2
  frame_out

/-- The kernel's result. -/
theorem array : (dats m 0 c).arrAt 2 cfg0.N = out (m ((c : Thread nD τ).loc main_arg1)) (m ((c : Thread nD τ).loc main_arg0)) := by
  refine (dats m 0 c).arrAt_eq_of_covers 2 _ (by decide +kernel) fun t hf y => ?_
  blk_simp
  rw [after0_2]
  have hN : t.val < 8 := lt_of_lt_of_eq t.isLt (show cfg0.N = 8 from N_0)
  obtain ⟨a, b, rfl⟩ : ∃ (a : Fin 512) (b : Fin 2048), y = ix2 a b := ⟨y 0, y 1, eq_ix2 y⟩
  have ha := a.isLt
  have hb := b.isLt
  have e1 : (win0_2.blk t).view.emb (ix2 a b) = ix2 (⟨t.val * 512 + a.val, by omega⟩ : Fin 4096)
      (⟨b.val, by omega⟩ : Fin 2048) := by
    blk_ext [index2] <;> first | rfl | (change _ + a.val = _; omega) | (change _ + b.val = _; omega)
  rw [e1, point m c t]
  refine (tile_apply _ _ _).trans ?_
  unfold out part
  refine Finset.sum_congr rfl fun k _ => ?_
  have hk := k.isLt
  refine congrArg₂ (· * ·) (x_apply m c _ _ _ _ _ ?_ ?_) (w_apply m c _ _ _ _ _ _ _ ?_ ?_ ?_)
  · show t.val * 512 + a.val = t.val * 512 + a.val
    rfl
  · rfl
  · show b.val / 512 = b.val / 512
    rfl
  · show b.val % 512 = b.val % 512
    rfl
  · show k.val = k.val
    rfl

/-- The reference's result. -/
theorem reference_out (x : FVec Ideal S4096x2048 .bf16) (w : FVec Ideal S4x512x2048 .bf16) :
    Host.dotGeneral (F := Ideal) Cert.Reference9Ideal.dot_S4096x2048_S2048x2048_S4096x2048_1_1_0_0_n_n none (extf .f32 x Cert.Reference9Ideal.Gen.bitsLt_bf16_f32)
      (shapeCast _ (extf .f32 w Cert.Reference9Ideal.Gen.bitsLt_bf16_f32) Cert.Reference9Ideal.Gen.shapeCasts_S4x512x2048_S2048x2048) = out x w := by
  funext i
  have hi := (i 1).isLt
  change (i 1).val < 2048 at hi
  refine (host_dot Cert.Reference9Ideal.dot_S4096x2048_S2048x2048_S4096x2048_1_1_0_0_n_n 2048 rfl rfl _ _ i).trans ?_
  refine Finset.sum_congr rfl fun l _ => ?_
  have hl := l.isLt
  have hk := contrEquiv1_symm_val Cert.Reference9Ideal.dot_S4096x2048_S2048x2048_S4096x2048_1_1_0_0_n_n 2048 rfl rfl l
  refine congrArg₂ (· * ·) (congrArg x (funext fun a => Fin.ext ?_))
    ((shapeCast_apply _ _ _ (ix3 (⟨(i 1).val / 512, by have h1 := (i 1).isLt; change (i 1).val < 2048 at h1; omega⟩ : Fin 4) (⟨(i 1).val % 512, by omega⟩ : Fin 512) l) ?_).trans (congrArg w (funext fun a => Fin.ext ?_)))
  · match a with
    | ⟨0, _⟩ => rfl
    | ⟨1, _⟩ => exact hk
  · rw [Shape.rowMajor_val_two, Shape.rowMajor_val_three]
    refine Eq.trans ?_ (congrArg ((i 1).val * 2048 + ·) hk.symm)
    show ((i 1).val / 512 * 512 + (i 1).val % 512) * 2048 + l.val = (i 1).val * 2048 + l.val
    omega
  · match a with
    | ⟨0, _⟩ => rfl
    | ⟨1, _⟩ => rfl
    | ⟨2, _⟩ => rfl

end Cert.Mul.Nine

end
-- ==== Proof.Claims.Nine.lean ====
module

public import proofs.«01_k».proof.Defs
public import proofs.«01_k».proof.Proof.Gen.Kernel9.Frame
public import proofs.«01_k».proof.Proof.Gen.Kernel9Ideal.Frame
public import proofs.«01_k».proof.Proof.Mul.Nine

/-! The gradient of the input of a square weight cut by rows: the claims. -/

@[expose] public section

noncomputable section

namespace Cert.Proof.Nine

open Idealize.ShloMosaic Idealize.ShloMosaic.TcCoe Idealize.SL.Sem

instance : Cert.Kernel9.Facts := Cert.Kernel9.Gen.facts
instance : Cert.Kernel9Ideal.Facts := Cert.Kernel9Ideal.Gen.facts
instance : Cert.Reference9Ideal.Facts := Cert.Reference9Ideal.Gen.facts

/-- The kernel runs, leaves its arguments and its counters as it found them. -/
theorem frame_p : Cert.quiescent_Kernel9 := fun m ρ _ => Cert.Kernel9.Gen.frame m ρ

/-- So does the kernel over the extended reals. -/
theorem frame_pi : Cert.quiescent_Kernel9Ideal := fun m ρ _ => Cert.Kernel9Ideal.Gen.frame m ρ

/-- So does the reference over the extended reals. -/
theorem frame_ri : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- Over the extended reals the kernel and the reference end with the same array. -/
theorem algebraic : Cert.algebraic_Kernel9Ideal_Reference9Ideal := by
  intro m ρ m' ρ' hm hagree
  refine ⟨fun c => Cert.Mul.Nine.out (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg0)), ?_, ?_⟩
  · refine (θ_run Cert.Kernel9Ideal.defs _ _).mono (fun r h c => ?_) (Cert.Kernel9Ideal.Value.run_blocks (F := Ideal) m ρ)
    exact ⟨(h c).1.trans (Cert.Mul.Nine.array m c), (h c).2⟩
  · refine (θ_run Cert.Reference9Ideal.defs _ _).mono (fun r h c => ?_) (Cert.Reference9Ideal.Value.run (F := Ideal) m' ρ')
    obtain ⟨a0, a1⟩ := hagree c
    exact ⟨(h c).1.trans ((Cert.Mul.Nine.reference_out _ _).trans (congrArg₂ Cert.Mul.Nine.out a1 a0)), (h c).2⟩

end Cert.Proof.Nine

end
-- ==== Proof.Mul.Ten.lean ====
module

public import proofs.«01_k».proof.Proof.Gen.Kernel10Ideal.Value
public import proofs.«01_k».proof.Proof.Gen.Reference10Ideal.Run
public import proofs.«01_k».proof.Proof.Mul.Dots
public import Idealize.ShloMosaic.Lib.Pipeline.ValueKit
public import Idealize.ShloMosaic.Lib.ValueLayout

/-! The gradient of a square weight cut by rows, in its four pieces. -/

@[expose] public section

set_option maxRecDepth 16384

noncomputable section

namespace Cert.Mul.Ten

open Idealize.ShloMosaic hiding ix2 ix3 eq_ix2 eq_ix3
open Idealize.ShloMosaic.ValueIdx Idealize.ShloMosaic.TcCoe Idealize.ShloMosaic.Pipeline Idealize.SL.Sem Cert.Kernel10Ideal Cert.Kernel10Ideal.Gen

/-- The product: a column of `h` against a column of `x`, summed over the rows. -/
def out (h : FVec Ideal S4096x2048 .bf16) (x : FVec Ideal S4096x2048 .bf16) : FVec Ideal S4x512x2048 .bf16 := fun i =>
  ∑ l : Fin 4096, h (ix2 l (⟨512 * (i 0).val + (i 1).val, by have h0 := (i 0).isLt; have h1 := (i 1).isLt; change (i 0).val < 4 at h0; change (i 1).val < 512 at h1; omega⟩ : Fin 2048)) * x (ix2 l (i 2 : Fin 2048))

/-- One tile's product. -/
def part (h : FVec Ideal S2048x512 .bf16) (x : FVec Ideal S2048x1024 .bf16) (j : S512x1024.Idx) : EReal :=
  ∑ k : Fin 2048, h (ix2 k (j 0)) * x (ix2 k (j 1))

theorem step_apply (acc : FVec Ideal S512x1024 .f32) (h : FVec Ideal S2048x512 .bf16) (x : FVec Ideal S2048x1024 .bf16) (j : S512x1024.Idx) :
    k0_pay2 acc h x j = acc j + part h x j := by
  unfold k0_pay2 part
  rw [shapeCast_self]
  refine congrArg (acc j + ·) ?_
  unfold matmul
  rw [tile_dot _ 2048 rfl rfl]
  refine Finset.sum_congr rfl fun k _ => ?_
  have hk := contrEquiv1_symm_val dot_S2048x512_S2048x1024_S512x1024_0_0_1_1_n_n 2048 rfl rfl k
  refine congrArg₂ (· * ·) (congrArg h (funext fun a => Fin.ext ?_)) (congrArg x (funext fun a => Fin.ext ?_))
  · match a with
    | ⟨0, _⟩ => exact hk
    | ⟨1, _⟩ => rfl
  · match a with
    | ⟨0, _⟩ => exact hk
    | ⟨1, _⟩ => rfl

theorem zero_apply (j : S512x1024.Idx) : k0_pay1 (F := Ideal) j = 0 := by
  unfold k0_pay1
  rw [shapeCast_self]
  exact Ideal.ofBits_zero_f32

theorem close_apply (v : FVec Ideal S512x1024 .f32) (a : Fin 512) (b : Fin 1024) : (k0_pay3 (F := Ideal) v (ix3 0 a b) : EReal) = v (ix2 a b) := by
  unfold k0_pay3
  refine (shapeCast_apply _ _ _ (ix2 a b) ?_).trans rfl
  rw [Shape.rowMajor_val_two, Shape.rowMajor_val_three]
  show a.val * 1024 + b.val = (0 * 512 + a.val) * 1024 + b.val
  omega

variable (m : (ℓ : Loc nD τ sig) → Buf (Elt Ideal) ℓ) (c : Dev nD)

/-- What a point adds. -/
abbrev term (t : Fin cfg0.N) (j : S512x1024.Idx) : EReal := part (iblk m c 0 t) (iblk m c 1 t) j

theorem acc_first (t : Fin cfg0.N) (h : t.val % 2 = 0) (j : S512x1024.Idx) : (outsAt0 m c t.val t.isLt).2 j = (fun _ => 0 : S512x1024.Idx → EReal) j + term m c t j := by
  rw [outsAt0_A m c t h (by omega)]
  dsimp only
  unfold sout0_A_0
  frame_out
  rw [step_apply, zero_apply]

theorem acc_next (t : Fin cfg0.N) (h : ¬t.val % 2 = 0) (j : S512x1024.Idx) :
    (outsAt0 m c t.val t.isLt).2 j = (outsAt0 m c (t.val - 1) (Nat.lt_of_le_of_lt (Nat.sub_le _ _) t.isLt)).2 j + term m c t j := by
  rw [outsAt0_B m c t h (by omega)]
  dsimp only
  unfold sout0_B_0
  frame_out
  rw [step_apply]
  exact congrArg (· + _) (congrFun ((Memref.isWhole_whole cc0_scratch0).read_unread (outsAt0 m c (t.val - 1) _).2) j)

/-- The last point of a run writes back what it has summed. -/
theorem last_out (t : Fin cfg0.N) (h1 : t.val % 2 = 1) : (outsAt0 m c t.val t.isLt).1 = k0_pay3 (outsAt0 m c t.val t.isLt).2 := by
  rw [outsAt0_B m c t (by omega) h1]
  dsimp only
  unfold out0_B_2 sout0_B_0
  frame_out

theorem acc_last (t : Fin cfg0.N) (h1 : t.val % 2 = 1) (a : Fin 512) (b : Fin 1024) :
    (outsAt0 m c t.val t.isLt).1 (ix3 0 a b) = ∑ s : Fin 2, term m c ⟨2 * (t.val / 2) + s.val, run_point_lt_of_flush t h1 s⟩ (ix2 a b) := by
  rw [last_out m c t h1, close_apply, eq_sum_fin_of_reset_step_apply_of_flush (fun n h => (outsAt0 m c n h).2) 2 (fun _ => 0) (term m c)
    (acc_first m c) (acc_next m c) t h1 (ix2 a b), zero_add]

theorem index0 : ∀ t : Fin cfg0.N, win0_0.index t = ![t.val % 2, t.val / 4] := (by decide +kernel : ∀ t : Fin grid0.N, _)
theorem index1 : ∀ t : Fin cfg0.N, win0_1.index t = ![t.val % 2, t.val / 2 % 2] := (by decide +kernel : ∀ t : Fin grid0.N, _)
theorem index2 : ∀ t : Fin cfg0.N, win0_2.index t = ![t.val / 4, 0, t.val / 2 % 2] := (by decide +kernel : ∀ t : Fin grid0.N, _)

theorem h_apply (t : Fin cfg0.N) (k : Fin 2048) (a : Fin 512) (l : Fin 4096) (r : Fin 2048) (hl : l.val = t.val % 2 * 2048 + k.val)
    (hr : r.val = t.val / 4 * 512 + a.val) : iblk m c 0 t (ix2 k a) = m ((c : Thread nD τ).loc main_arg0) (ix2 l r) := by
  have e1 : (win0_0.blk t).view.emb (ix2 k a) = ix2 l r := by
    blk_ext [index0] <;> first | (change _ + k.val = l.val; omega) | (change _ + a.val = r.val; omega) | (change _ = r.val; omega)
  blk_simp [iblk]
  rw [e1, V_main_arg0]

theorem x_apply (t : Fin cfg0.N) (k : Fin 2048) (b : Fin 1024) (l : Fin 4096) (r : Fin 2048) (hl : l.val = t.val % 2 * 2048 + k.val)
    (hr : r.val = t.val / 2 % 2 * 1024 + b.val) : iblk m c 1 t (ix2 k b) = m ((c : Thread nD τ).loc main_arg1) (ix2 l r) := by
  have e1 : (win0_1.blk t).view.emb (ix2 k b) = ix2 l r := by
    blk_ext [index1] <;> first | (change _ + k.val = l.val; omega) | (change _ + b.val = r.val; omega)
  blk_simp [iblk]
  rw [e1, V_main_arg1]

/-- The kernel's result. -/
theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  have h1 := (flush0_2 t).1 hf
  have hN : t.val < 16 := lt_of_lt_of_eq t.isLt (show cfg0.N = 16 from N_0)
  obtain ⟨z, a, b, rfl⟩ : ∃ (z : Fin 1) (a : Fin 512) (b : Fin 1024), y = ix3 z a b := ⟨y 0, y 1, y 2, eq_ix3 y⟩
  obtain rfl : z = 0 := Subsingleton.elim _ _
  have ha := a.isLt
  have hb := b.isLt
  have e1 : (win0_2.blk t).view.emb (ix3 0 a b) = ix3 (⟨t.val / 4, by omega⟩ : Fin 4) (⟨0 * 512 + a.val, by omega⟩ : Fin 512)
      (⟨t.val / 2 % 2 * 1024 + b.val, by omega⟩ : Fin 2048) := by
    blk_ext [index2] <;> first | rfl | (change _ + a.val = _; omega) | (change _ + b.val = _; omega) | (change _ = _; omega)
  rw [e1, acc_last m c t h1]
  unfold out
  refine Fin.sum_mul_add_congr fun s k hl => ?_
  have hk := k.isLt
  have hs := s.isLt
  refine congrArg₂ (· * ·) (h_apply m c _ _ _ _ _ ?_ ?_) (x_apply m c _ _ _ _ _ ?_ ?_)
  · show s.val * 2048 + k.val = (2 * (t.val / 2) + s.val) % 2 * 2048 + k.val
    omega
  · show 512 * (t.val / 4) + (0 * 512 + a.val) = (2 * (t.val / 2) + s.val) / 4 * 512 + a.val
    omega
  · show s.val * 2048 + k.val = (2 * (t.val / 2) + s.val) % 2 * 2048 + k.val
    omega
  · show t.val / 2 % 2 * 1024 + b.val = (2 * (t.val / 2) + s.val) / 2 % 2 * 1024 + b.val
    omega

/-- The reference's result. -/
theorem reference_out (h : FVec Ideal S4096x2048 .bf16) (x : FVec Ideal S4096x2048 .bf16) :
    truncf .bf16 (shapeCast _ (transpose Cert.Reference10Ideal.S2048x2048 [1, 0] (Host.dotGeneral (F := Ideal) Cert.Reference10Ideal.dot_S4096x2048_S4096x2048_S2048x2048_0_0_1_1_n_n none (extf .f32 x Cert.Reference10Ideal.Gen.bitsLt_bf16_f32) (extf .f32 h Cert.Reference10Ideal.Gen.bitsLt_bf16_f32)) Cert.Reference10Ideal.Gen.transposes_S2048x2048_S2048x2048_1_0)
      Cert.Reference10Ideal.Gen.shapeCasts_S2048x2048_S4x512x2048) Cert.Reference10Ideal.Gen.bitsLt_bf16_f32 = out h x := by
  funext i
  have h0 := (i 0).isLt
  have h1 := (i 1).isLt
  change (i 0).val < 4 at h0
  change (i 1).val < 512 at h1
  refine Eq.trans (b := (shapeCast Cert.Reference10Ideal.S4x512x2048 (transpose Cert.Reference10Ideal.S2048x2048 [1, 0] (Host.dotGeneral (F := Ideal) Cert.Reference10Ideal.dot_S4096x2048_S4096x2048_S2048x2048_0_0_1_1_n_n none (extf .f32 x Cert.Reference10Ideal.Gen.bitsLt_bf16_f32) (extf .f32 h Cert.Reference10Ideal.Gen.bitsLt_bf16_f32)) Cert.Reference10Ideal.Gen.transposes_S2048x2048_S2048x2048_1_0) Cert.Reference10Ideal.Gen.shapeCasts_S2048x2048_S4x512x2048 i : EReal)) rfl ?_
  refine (shapeCast_apply (s := Cert.Reference10Ideal.S2048x2048) (t := Cert.Reference10Ideal.S4x512x2048) _ _ i (ix2 (⟨512 * (i 0).val + (i 1).val, by omega⟩ : Fin 2048) (i 2)) ?_).trans ?_
  · rw [Shape.rowMajor_val_two, Shape.rowMajor_val_three]
    show (512 * (i 0).val + (i 1).val) * 2048 + (i 2).val = ((i 0).val * 512 + (i 1).val) * 2048 + (i 2).val
    omega
  refine Eq.trans (congrArg (Host.dotGeneral (F := Ideal) Cert.Reference10Ideal.dot_S4096x2048_S4096x2048_S2048x2048_0_0_1_1_n_n none (extf .f32 x Cert.Reference10Ideal.Gen.bitsLt_bf16_f32) (extf .f32 h Cert.Reference10Ideal.Gen.bitsLt_bf16_f32))
    (funext fun a => Fin.ext ?_ : _ = ix2 (i 2) (⟨512 * (i 0).val + (i 1).val, by omega⟩ : Fin 2048))) ?_
  · match a with
    | ⟨0, _⟩ => rfl
    | ⟨1, _⟩ => rfl
  refine (host_dot Cert.Reference10Ideal.dot_S4096x2048_S4096x2048_S2048x2048_0_0_1_1_n_n 4096 rfl rfl _ _ _).trans ?_
  refine Finset.sum_congr rfl fun l _ => ?_
  have hk := contrEquiv1_symm_val Cert.Reference10Ideal.dot_S4096x2048_S4096x2048_S2048x2048_0_0_1_1_n_n 4096 rfl rfl l
  refine (mul_comm _ _).trans (congrArg₂ (· * ·) (congrArg h (funext fun a => Fin.ext ?_)) (congrArg x (funext fun a => Fin.ext ?_)))
  · match a with
    | ⟨0, _⟩ => exact hk
    | ⟨1, _⟩ => rfl
  · match a with
    | ⟨0, _⟩ => exact hk
    | ⟨1, _⟩ => rfl

end Cert.Mul.Ten

end
-- ==== Proof.Claims.Ten.lean ====
module

public import proofs.«01_k».proof.Defs
public import proofs.«01_k».proof.Proof.Gen.Kernel10.Frame
public import proofs.«01_k».proof.Proof.Gen.Kernel10Ideal.Frame
public import proofs.«01_k».proof.Proof.Mul.Ten

/-! The gradient of a square weight cut by rows, in its four pieces: the claims. -/

@[expose] public section

noncomputable section

namespace Cert.Proof.Ten

open Idealize.ShloMosaic Idealize.ShloMosaic.TcCoe Idealize.SL.Sem

instance : Cert.Kernel10.Facts := Cert.Kernel10.Gen.facts
instance : Cert.Kernel10Ideal.Facts := Cert.Kernel10Ideal.Gen.facts
instance : Cert.Reference10Ideal.Facts := Cert.Reference10Ideal.Gen.facts

/-- The kernel runs, leaves its arguments and its counters as it found them. -/
theorem frame_p : Cert.quiescent_Kernel10 := fun m ρ _ => Cert.Kernel10.Gen.frame m ρ

/-- So does the kernel over the extended reals. -/
theorem frame_pi : Cert.quiescent_Kernel10Ideal := fun m ρ _ => Cert.Kernel10Ideal.Gen.frame m ρ

/-- So does the reference over the extended reals. -/
theorem frame_ri : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- Over the extended reals the kernel and the reference end with the same array. -/
theorem algebraic : Cert.algebraic_Kernel10Ideal_Reference10Ideal := by
  intro m ρ m' ρ' hm hagree
  refine ⟨fun c => Cert.Mul.Ten.out (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), ?_, ?_⟩
  · refine (θ_run Cert.Kernel10Ideal.defs _ _).mono (fun r h c => ?_) (Cert.Kernel10Ideal.Value.run_blocks (F := Ideal) m ρ)
    exact ⟨(h c).1.trans (Cert.Mul.Ten.array m c), (h c).2⟩
  · refine (θ_run Cert.Reference10Ideal.defs _ _).mono (fun r h c => ?_) (Cert.Reference10Ideal.Value.run (F := Ideal) m' ρ')
    obtain ⟨a0, a1⟩ := hagree c
    exact ⟨(h c).1.trans ((Cert.Mul.Ten.reference_out _ _).trans (congrArg₂ Cert.Mul.Ten.out a0 a1)), (h c).2⟩

end Cert.Proof.Ten

end
-- ==== Proof.Mul.Eleven.lean ====
module

public import proofs.«01_k».proof.Proof.Gen.Kernel11Ideal.Value
public import proofs.«01_k».proof.Proof.Gen.Reference11Ideal.Run
public import proofs.«01_k».proof.Proof.Mul.Dots
public import Idealize.ShloMosaic.Lib.Pipeline.ValueKit
public import Idealize.ShloMosaic.Lib.ValueLayout

/-! The gradient of the layer input's projection, in its four pieces. -/

@[expose] public section

set_option maxRecDepth 16384

noncomputable section

namespace Cert.Mul.Eleven

open Idealize.ShloMosaic hiding ix2 ix3 eq_ix2 eq_ix3
open Idealize.ShloMosaic.ValueIdx Idealize.ShloMosaic.TcCoe Idealize.ShloMosaic.Pipeline Idealize.SL.Sem Cert.Kernel11Ideal Cert.Kernel11Ideal.Gen

/-- The product: a column of `h` against a column of `x`, summed over the rows. -/
def out (h : FVec Ideal S4096x256 .f32) (x : FVec Ideal S4096x2048 .bf16) : FVec Ideal S4x256x512 .bf16 := fun i =>
  ∑ l : Fin 4096, h (ix2 l (i 1 : Fin 256)) * x (ix2 l (⟨512 * (i 0).val + (i 2).val, by have h0 := (i 0).isLt; have h2 := (i 2).isLt; change (i 0).val < 4 at h0; change (i 2).val < 512 at h2; omega⟩ : Fin 2048))

/-- One tile's product. -/
def part (h : FVec Ideal S2048x256 .f32) (x : FVec Ideal S2048x512 .bf16) (j : S256x512.Idx) : EReal :=
  ∑ k : Fin 2048, h (ix2 k (j 0)) * x (ix2 k (j 1))

theorem step_apply (acc : FVec Ideal S256x512 .f32) (h : FVec Ideal S2048x256 .f32) (x : FVec Ideal S2048x512 .bf16) (j : S256x512.Idx) :
    k0_pay2 acc h x j = acc j + part h x j := by
  unfold k0_pay2 part
  rw [shapeCast_self]
  refine congrArg (acc j + ·) ?_
  unfold matmul
  rw [tile_dot _ 2048 rfl rfl]
  refine Finset.sum_congr rfl fun k _ => ?_
  have hk := contrEquiv1_symm_val dot_S2048x256_S2048x512_S256x512_0_0_1_1_n_n 2048 rfl rfl k
  refine congrArg₂ (· * ·) (congrArg h (funext fun a => Fin.ext ?_)) (congrArg x (funext fun a => Fin.ext ?_))
  · match a with
    | ⟨0, _⟩ => exact hk
    | ⟨1, _⟩ => rfl
  · match a with
    | ⟨0, _⟩ => exact hk
    | ⟨1, _⟩ => rfl

theorem zero_apply (j : S256x512.Idx) : k0_pay1 (F := Ideal) j = 0 := by
  unfold k0_pay1
  rw [shapeCast_self]
  exact Ideal.ofBits_zero_f32

theorem close_apply (v : FVec Ideal S256x512 .f32) (a : Fin 256) (b : Fin 512) : (k0_pay3 (F := Ideal) v (ix3 0 a b) : EReal) = v (ix2 a b) := by
  unfold k0_pay3
  refine (shapeCast_apply _ _ _ (ix2 a b) ?_).trans rfl
  rw [Shape.rowMajor_val_two, Shape.rowMajor_val_three]
  show a.val * 512 + b.val = (0 * 256 + a.val) * 512 + b.val
  omega

variable (m : (ℓ : Loc nD τ sig) → Buf (Elt Ideal) ℓ) (c : Dev nD)

/-- What a point adds. -/
abbrev term (t : Fin cfg0.N) (j : S256x512.Idx) : EReal := part (iblk m c 0 t) (iblk m c 1 t) j

theorem acc_first (t : Fin cfg0.N) (h : t.val % 2 = 0) (j : S256x512.Idx) : (outsAt0 m c t.val t.isLt).2 j = (fun _ => 0 : S256x512.Idx → EReal) j + term m c t j := by
  rw [outsAt0_A m c t h (by omega)]
  dsimp only
  unfold sout0_A_0
  frame_out
  rw [step_apply, zero_apply]

theorem acc_next (t : Fin cfg0.N) (h : ¬t.val % 2 = 0) (j : S256x512.Idx) :
    (outsAt0 m c t.val t.isLt).2 j = (outsAt0 m c (t.val - 1) (Nat.lt_of_le_of_lt (Nat.sub_le _ _) t.isLt)).2 j + term m c t j := by
  rw [outsAt0_B m c t h (by omega)]
  dsimp only
  unfold sout0_B_0
  frame_out
  rw [step_apply]
  exact congrArg (· + _) (congrFun ((Memref.isWhole_whole cc0_scratch0).read_unread (outsAt0 m c (t.val - 1) _).2) j)

/-- The last point of a run writes back what it has summed. -/
theorem last_out (t : Fin cfg0.N) (h1 : t.val % 2 = 1) : (outsAt0 m c t.val t.isLt).1 = k0_pay3 (outsAt0 m c t.val t.isLt).2 := by
  rw [outsAt0_B m c t (by omega) h1]
  dsimp only
  unfold out0_B_2 sout0_B_0
  frame_out

theorem acc_last (t : Fin cfg0.N) (h1 : t.val % 2 = 1) (a : Fin 256) (b : Fin 512) :
    (outsAt0 m c t.val t.isLt).1 (ix3 0 a b) = ∑ s : Fin 2, term m c ⟨2 * (t.val / 2) + s.val, run_point_lt_of_flush t h1 s⟩ (ix2 a b) := by
  rw [last_out m c t h1, close_apply, eq_sum_fin_of_reset_step_apply_of_flush (fun n h => (outsAt0 m c n h).2) 2 (fun _ => 0) (term m c)
    (acc_first m c) (acc_next m c) t h1 (ix2 a b), zero_add]

theorem index0 : ∀ t : Fin cfg0.N, win0_0.index t = ![t.val % 2, t.val / 8] := (by decide +kernel : ∀ t : Fin grid0.N, _)
theorem index1 : ∀ t : Fin cfg0.N, win0_1.index t = ![t.val % 2, t.val / 2 % 4] := (by decide +kernel : ∀ t : Fin grid0.N, _)
theorem index2 : ∀ t : Fin cfg0.N, win0_2.index t = ![t.val / 2 % 4, t.val / 8, 0] := (by decide +kernel : ∀ t : Fin grid0.N, _)

theorem h_apply (t : Fin cfg0.N) (k : Fin 2048) (a : Fin 256) (l : Fin 4096) (r : Fin 256) (hl : l.val = t.val % 2 * 2048 + k.val)
    (hr : r.val = t.val / 8 * 256 + a.val) : iblk m c 0 t (ix2 k a) = m ((c : Thread nD τ).loc main_arg0) (ix2 l r) := by
  have e1 : (win0_0.blk t).view.emb (ix2 k a) = ix2 l r := by
    blk_ext [index0] <;> first | (change _ + k.val = l.val; omega) | (change _ + a.val = r.val; omega) | (change _ = r.val; omega)
  blk_simp [iblk]
  rw [e1, V_main_arg0]

theorem x_apply (t : Fin cfg0.N) (k : Fin 2048) (b : Fin 512) (l : Fin 4096) (r : Fin 2048) (hl : l.val = t.val % 2 * 2048 + k.val)
    (hr : r.val = t.val / 2 % 4 * 512 + b.val) : iblk m c 1 t (ix2 k b) = m ((c : Thread nD τ).loc main_arg1) (ix2 l r) := by
  have e1 : (win0_1.blk t).view.emb (ix2 k b) = ix2 l r := by
    blk_ext [index1] <;> first | (change _ + k.val = l.val; omega) | (change _ + b.val = r.val; omega)
  blk_simp [iblk]
  rw [e1, V_main_arg1]

/-- The kernel's result. -/
theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  have h1 := (flush0_2 t).1 hf
  have hN : t.val < 8 := lt_of_lt_of_eq t.isLt (show cfg0.N = 8 from N_0)
  obtain ⟨z, a, b, rfl⟩ : ∃ (z : Fin 1) (a : Fin 256) (b : Fin 512), y = ix3 z a b := ⟨y 0, y 1, y 2, eq_ix3 y⟩
  obtain rfl : z = 0 := Subsingleton.elim _ _
  have ha := a.isLt
  have hb := b.isLt
  have e1 : (win0_2.blk t).view.emb (ix3 0 a b) = ix3 (⟨t.val / 2 % 4, by omega⟩ : Fin 4) (⟨t.val / 8 * 256 + a.val, by omega⟩ : Fin 256)
      (⟨0 * 512 + b.val, by omega⟩ : Fin 512) := by
    blk_ext [index2] <;> first | rfl | (change _ + a.val = _; omega) | (change _ + b.val = _; omega) | (change _ = _; omega)
  rw [e1, acc_last m c t h1]
  unfold out
  refine Fin.sum_mul_add_congr fun s k hl => ?_
  have hk := k.isLt
  have hs := s.isLt
  refine congrArg₂ (· * ·) (h_apply m c _ _ _ _ _ ?_ ?_) (x_apply m c _ _ _ _ _ ?_ ?_)
  · show s.val * 2048 + k.val = (2 * (t.val / 2) + s.val) % 2 * 2048 + k.val
    omega
  · show t.val / 8 * 256 + a.val = (2 * (t.val / 2) + s.val) / 8 * 256 + a.val
    omega
  · show s.val * 2048 + k.val = (2 * (t.val / 2) + s.val) % 2 * 2048 + k.val
    omega
  · show 512 * (t.val / 2 % 4) + (0 * 512 + b.val) = (2 * (t.val / 2) + s.val) / 2 % 4 * 512 + b.val
    omega

/-- The reference's result. -/
theorem reference_out (h : FVec Ideal S4096x256 .f32) (x : FVec Ideal S4096x2048 .bf16) :
    truncf .bf16 (transpose Cert.Reference11Ideal.S4x256x512 [1, 0, 2] (shapeCast _ (transpose Cert.Reference11Ideal.S256x2048 [1, 0] (Host.dotGeneral (F := Ideal) Cert.Reference11Ideal.dot_S4096x2048_S4096x256_S2048x256_0_0_1_1_n_n none (extf .f32 x Cert.Reference11Ideal.Gen.bitsLt_bf16_f32) h) Cert.Reference11Ideal.Gen.transposes_S2048x256_S256x2048_1_0)
      Cert.Reference11Ideal.Gen.shapeCasts_S256x2048_S256x4x512) Cert.Reference11Ideal.Gen.transposes_S256x4x512_S4x256x512_1_0_2) Cert.Reference11Ideal.Gen.bitsLt_bf16_f32 = out h x := by
  funext i
  have h0 := (i 0).isLt
  have h2 := (i 2).isLt
  change (i 0).val < 4 at h0
  change (i 2).val < 512 at h2
  refine Eq.trans (b := (shapeCast Cert.Reference11Ideal.S256x4x512 (transpose Cert.Reference11Ideal.S256x2048 [1, 0] (Host.dotGeneral (F := Ideal) Cert.Reference11Ideal.dot_S4096x2048_S4096x256_S2048x256_0_0_1_1_n_n none (extf .f32 x Cert.Reference11Ideal.Gen.bitsLt_bf16_f32) h) Cert.Reference11Ideal.Gen.transposes_S2048x256_S256x2048_1_0) Cert.Reference11Ideal.Gen.shapeCasts_S256x2048_S256x4x512 (ix3 (i 1) (i 0) (i 2)) : EReal))
    (congrArg (shapeCast Cert.Reference11Ideal.S256x4x512 (transpose Cert.Reference11Ideal.S256x2048 [1, 0] (Host.dotGeneral (F := Ideal) Cert.Reference11Ideal.dot_S4096x2048_S4096x256_S2048x256_0_0_1_1_n_n none (extf .f32 x Cert.Reference11Ideal.Gen.bitsLt_bf16_f32) h) Cert.Reference11Ideal.Gen.transposes_S2048x256_S256x2048_1_0) Cert.Reference11Ideal.Gen.shapeCasts_S256x2048_S256x4x512) (funext fun a => Fin.ext ?_)) ?_
  · match a with
    | ⟨0, _⟩ => rfl
    | ⟨1, _⟩ => rfl
    | ⟨2, _⟩ => rfl
  refine (shapeCast_apply (s := Cert.Reference11Ideal.S256x2048) (t := Cert.Reference11Ideal.S256x4x512) _ _ (ix3 (i 1) (i 0) (i 2)) (ix2 (i 1) (⟨512 * (i 0).val + (i 2).val, by omega⟩ : Fin 2048)) ?_).trans ?_
  · rw [Shape.rowMajor_val_two, Shape.rowMajor_val_three]
    show (i 1).val * 2048 + (512 * (i 0).val + (i 2).val) = ((i 1).val * 4 + (i 0).val) * 512 + (i 2).val
    omega
  refine Eq.trans (congrArg (Host.dotGeneral (F := Ideal) Cert.Reference11Ideal.dot_S4096x2048_S4096x256_S2048x256_0_0_1_1_n_n none (extf .f32 x Cert.Reference11Ideal.Gen.bitsLt_bf16_f32) h)
    (funext fun a => Fin.ext ?_ : _ = ix2 (⟨512 * (i 0).val + (i 2).val, by omega⟩ : Fin 2048) (i 1))) ?_
  · match a with
    | ⟨0, _⟩ => rfl
    | ⟨1, _⟩ => rfl
  refine (host_dot Cert.Reference11Ideal.dot_S4096x2048_S4096x256_S2048x256_0_0_1_1_n_n 4096 rfl rfl _ _ _).trans ?_
  refine Finset.sum_congr rfl fun l _ => ?_
  have hk := contrEquiv1_symm_val Cert.Reference11Ideal.dot_S4096x2048_S4096x256_S2048x256_0_0_1_1_n_n 4096 rfl rfl l
  refine (mul_comm _ _).trans (congrArg₂ (· * ·) (congrArg h (funext fun a => Fin.ext ?_)) (congrArg x (funext fun a => Fin.ext ?_)))
  · match a with
    | ⟨0, _⟩ => exact hk
    | ⟨1, _⟩ => rfl
  · match a with
    | ⟨0, _⟩ => exact hk
    | ⟨1, _⟩ => rfl

end Cert.Mul.Eleven

end
-- ==== Proof.Claims.Eleven.lean ====
module

public import proofs.«01_k».proof.Defs
public import proofs.«01_k».proof.Proof.Gen.Kernel11.Frame
public import proofs.«01_k».proof.Proof.Gen.Kernel11Ideal.Frame
public import proofs.«01_k».proof.Proof.Mul.Eleven

/-! The gradient of the layer input's projection, in its four pieces: the claims. -/

@[expose] public section

noncomputable section

namespace Cert.Proof.Eleven

open Idealize.ShloMosaic Idealize.ShloMosaic.TcCoe Idealize.SL.Sem

instance : Cert.Kernel11.Facts := Cert.Kernel11.Gen.facts
instance : Cert.Kernel11Ideal.Facts := Cert.Kernel11Ideal.Gen.facts
instance : Cert.Reference11Ideal.Facts := Cert.Reference11Ideal.Gen.facts

/-- The kernel runs, leaves its arguments and its counters as it found them. -/
theorem frame_p : Cert.quiescent_Kernel11 := fun m ρ _ => Cert.Kernel11.Gen.frame m ρ

/-- So does the kernel over the extended reals. -/
theorem frame_pi : Cert.quiescent_Kernel11Ideal := fun m ρ _ => Cert.Kernel11Ideal.Gen.frame m ρ

/-- So does the reference over the extended reals. -/
theorem frame_ri : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

/-- Over the extended reals the kernel and the reference end with the same array. -/
theorem algebraic : Cert.algebraic_Kernel11Ideal_Reference11Ideal := by
  intro m ρ m' ρ' hm hagree
  refine ⟨fun c => Cert.Mul.Eleven.out (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · refine (θ_run Cert.Kernel11Ideal.defs _ _).mono (fun r h c => ?_) (Cert.Kernel11Ideal.Value.run_blocks (F := Ideal) m ρ)
    exact ⟨(h c).1.trans (Cert.Mul.Eleven.array m c), (h c).2⟩
  · refine (θ_run Cert.Reference11Ideal.defs _ _).mono (fun r h c => ?_) (Cert.Reference11Ideal.Value.run (F := Ideal) m' ρ')
    obtain ⟨a0, a1⟩ := hagree c
    exact ⟨(h c).1.trans ((Cert.Mul.Eleven.reference_out _ _).trans (congrArg₂ Cert.Mul.Eleven.out a0 a1)), (h c).2⟩

end Cert.Proof.Eleven

end
-- ==== Proof.Mul.Twelve.lean ====
module

public import proofs.«01_k».proof.Proof.Gen.Kernel12Ideal.Value
public import proofs.«01_k».proof.Proof.Gen.Reference12Ideal.Run
public import proofs.«01_k».proof.Proof.Mul.Dots
public import Idealize.ShloMosaic.Lib.Pipeline.ValueKit
public import Idealize.ShloMosaic.Lib.ValueLayout

/-! The feed-forward block's first product. -/

@[expose] public section

set_option maxRecDepth 16384

noncomputable section

namespace Cert.Mul.Twelve

open Idealize.ShloMosaic hiding ix2 ix3 eq_ix2 eq_ix3
open Idealize.ShloMosaic.ValueIdx Idealize.ShloMosaic.TcCoe Idealize.ShloMosaic.Pipeline Idealize.SL.Sem Cert.Kernel12Ideal Cert.Kernel12Ideal.Gen

/-- The product. -/
def out (x : FVec Ideal S4096x2048 .bf16) (w : FVec Ideal S4x2048x2816 .bf16) : FVec Ideal S4096x11264 .bf16 := fun i =>
  ∑ l : Fin 2048, x (ix2 (i 0) l) * w (ix3 (⟨(i 1).val / 2816, by have h1 := (i 1).isLt; change (i 1).val < 11264 at h1; omega⟩ : Fin 4) l (⟨(i 1).val % 2816, by omega⟩ : Fin 2816))

/-- One tile's product. -/
def part (x : FVec Ideal S1024x2048 .bf16) (w : FVec Ideal S1x2048x1408 .bf16) (j : S1024x1408.Idx) : EReal :=
  ∑ k : Fin 2048, x (ix2 (j 0) k) * w (ix3 0 k (j 1))

theorem tile_apply (x : FVec Ideal S1024x2048 .bf16) (w : FVec Ideal S1x2048x1408 .bf16) (j : S1024x1408.Idx) :
    (k0_pay1 (F := Ideal) w x j : EReal) = part x w j := by
  unfold k0_pay1 part
  have hj := (j 1).isLt
  change (j 1).val < 1408 at hj
  refine (tile_dot dot_S1024x2048_S2048x1408_S1024x1408_1_0_0_1_n_n 2048 rfl rfl _ _ j).trans ?_
  refine Finset.sum_congr rfl fun k _ => ?_
  have hk := contrEquiv1_symm_val dot_S1024x2048_S2048x1408_S1024x1408_1_0_0_1_n_n 2048 rfl rfl k
  refine congrArg₂ (· * ·) (congrArg x (funext fun a => Fin.ext ?_)) (shapeCast_apply w _ _ _ ?_)
  · match a with
    | ⟨0, _⟩ => rfl
    | ⟨1, _⟩ => exact hk
  · rw [Shape.rowMajor_val_two, Shape.rowMajor_val_three]
    refine Eq.trans ?_ (congrArg (· * 1408 + (j 1).val) hk.symm)
    show (0 * 2048 + k.val) * 1408 + (j 1).val = k.val * 1408 + (j 1).val
    omega

variable (m : (ℓ : Loc nD τ sig) → Buf (Elt Ideal) ℓ) (c : Dev nD)

theorem index0 : ∀ t : Fin cfg0.N, win0_0.index t = ![t.val % 4, 0] := (by decide +kernel : ∀ t : Fin grid0.N, _)
theorem index1 : ∀ t : Fin cfg0.N, win0_1.index t = ![t.val / 4 / 2, 0, t.val / 4 % 2] := (by decide +kernel : ∀ t : Fin grid0.N, _)
theorem index2 : ∀ t : Fin cfg0.N, win0_2.index t = ![t.val % 4, t.val / 4] := (by decide +kernel : ∀ t : Fin grid0.N, _)

theorem x_apply (t : Fin cfg0.N) (a : Fin 1024) (k : Fin 2048) (r : Fin 4096) (l : Fin 2048) (hr : r.val = t.val % 4 * 1024 + a.val) (hl : l.val = k.val) :
    iblk m c 0 t (ix2 a k) = m ((c : Thread nD τ).loc main_arg0) (ix2 r l) := by
  have e1 : (win0_0.blk t).view.emb (ix2 a k) = ix2 r l := by
    blk_ext [index0] <;> first | exact hl.symm | (change _ + a.val = r.val; omega)
  blk_simp [iblk]
  rw [e1, V_main_arg0]

theorem w_apply (t : Fin cfg0.N) (v : Fin 2048) (z : Fin 1408) (p : Fin 4) (o : Fin 2048) (q : Fin 2816) (hp : p.val = t.val / 4 / 2)
    (ho : o.val = v.val) (hq : q.val = t.val / 4 % 2 * 1408 + z.val) : iblk m c 1 t (ix3 0 v z) = m ((c : Thread nD τ).loc main_arg1) (ix3 p o q) := by
  have e1 : (win0_1.blk t).view.emb (ix3 0 v z) = ix3 p o q := by
    blk_ext [index1] <;> first | exact hp.symm | exact ho.symm | exact hq.symm | (change _ = p.val; omega) | (change _ + v.val = o.val; omega) | (change _ + z.val = q.val; omega)
  blk_simp [iblk]
  rw [e1, V_main_arg1]

/-- What a point writes. -/
theorem point (t : Fin cfg0.N) : (out0_2 (iblk m c 0 t) (iblk m c 1 t)) = k0_pay1 (iblk m c 1 t) (iblk m c 0 t) := by
  unfold out0_2
  frame_out

/-- The kernel's result. -/
theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  have hN : t.val < 32 := lt_of_lt_of_eq t.isLt (show cfg0.N = 32 from N_0)
  obtain ⟨a, b, rfl⟩ : ∃ (a : Fin 1024) (b : Fin 1408), y = ix2 a b := ⟨y 0, y 1, eq_ix2 y⟩
  have ha := a.isLt
  have hb := b.isLt
  have e1 : (win0_2.blk t).view.emb (ix2 a b) = ix2 (⟨t.val % 4 * 1024 + a.val, by omega⟩ : Fin 4096)
      (⟨t.val / 4 * 1408 + b.val, by omega⟩ : Fin 11264) := by
    blk_ext [index2] <;> first | rfl | (change _ + a.val = _; omega) | (change _ + b.val = _; omega)
  rw [e1, point m c t]
  refine (tile_apply _ _ _).trans ?_
  unfold out part
  refine Finset.sum_congr rfl fun k _ => ?_
  have hk := k.isLt
  refine congrArg₂ (· * ·) (x_apply m c _ _ _ _ _ ?_ ?_) (w_apply m c _ _ _ _ _ _ ?_ ?_ ?_)
  · show t.val % 4 * 1024 + a.val = t.val % 4 * 1024 + a.val
    rfl
  · rfl
  · show (t.val / 4 * 1408 + b.val) / 2816 = t.val / 4 / 2
    omega
  · show k.val = k.val
    rfl
  · show (t.val / 4 * 1408 + b.val) % 2816 = t.val / 4 % 2 * 1408 + b.val
    omega

/-- The reference's result. -/
theorem reference_out (x : FVec Ideal S4096x2048 .bf16) (w : FVec Ideal S4x2048x2816 .bf16) :
    truncf .bf16 (Host.dotGeneral (F := Ideal) Cert.Reference12Ideal.dot_S4096x2048_S2048x11264_S4096x11264_1_0_0_1_n_n none (extf .f32 x Cert.Reference12Ideal.Gen.bitsLt_bf16_f32)
      (shapeCast _ (transpose Cert.Reference12Ideal.S2048x4x2816 [1, 0, 2] (extf .f32 w Cert.Reference12Ideal.Gen.bitsLt_bf16_f32)
        Cert.Reference12Ideal.Gen.transposes_S4x2048x2816_S2048x4x2816_1_0_2) Cert.Reference12Ideal.Gen.shapeCasts_S2048x4x2816_S2048x11264)) Cert.Reference12Ideal.Gen.bitsLt_bf16_f32 = out x w := by
  funext i
  have hi := (i 1).isLt
  change (i 1).val < 11264 at hi
  refine (host_dot Cert.Reference12Ideal.dot_S4096x2048_S2048x11264_S4096x11264_1_0_0_1_n_n 2048 rfl rfl _ _ i).trans ?_
  refine Finset.sum_congr rfl fun l _ => ?_
  have hl := l.isLt
  have hk := contrEquiv1_symm_val Cert.Reference12Ideal.dot_S4096x2048_S2048x11264_S4096x11264_1_0_0_1_n_n 2048 rfl rfl l
  refine congrArg₂ (· * ·) (congrArg x (funext fun a => Fin.ext ?_))
    ((shapeCast_apply _ _ _ (ix3 l (⟨(i 1).val / 2816, by have h1 := (i 1).isLt; change (i 1).val < 11264 at h1; omega⟩ : Fin 4) (⟨(i 1).val % 2816, by omega⟩ : Fin 2816)) ?_).trans (congrArg w (funext fun a => Fin.ext ?_)))
  · match a with
    | ⟨0, _⟩ => rfl
    | ⟨1, _⟩ => exact hk
  · rw [Shape.rowMajor_val_two, Shape.rowMajor_val_three]
    refine Eq.trans ?_ (congrArg (· * 11264 + (i 1).val) hk.symm)
    show (l.val * 4 + (i 1).val / 2816) * 2816 + (i 1).val % 2816 = l.val * 11264 + (i 1).val
    omega
  · match a with
    | ⟨0, _⟩ => rfl
    | ⟨1, _⟩ => rfl
    | ⟨2, _⟩ => rfl

end Cert.Mul.Twelve

end
-- ==== Proof.Claims.Twelve.lean ====
module

public import proofs.«01_k».proof.Defs
public import proofs.«01_k».proof.Proof.Gen.Kernel12.Frame
public import proofs.«01_k».proof.Proof.Gen.Kernel12Ideal.Frame
public import proofs.«01_k».proof.Proof.Mul.Twelve

/-! The feed-forward block's first product: the claims. -/

@[expose] public section

noncomputable section

namespace Cert.Proof.Twelve

open Idealize.ShloMosaic Idealize.ShloMosaic.TcCoe Idealize.SL.Sem

instance : Cert.Kernel12.Facts := Cert.Kernel12.Gen.facts
instance : Cert.Kernel12Ideal.Facts := Cert.Kernel12Ideal.Gen.facts
instance : Cert.Reference12Ideal.Facts := Cert.Reference12Ideal.Gen.facts

/-- The kernel runs, leaves its arguments and its counters as it found them. -/
theorem frame_p : Cert.quiescent_Kernel12 := fun m ρ _ => Cert.Kernel12.Gen.frame m ρ

/-- So does the kernel over the extended reals. -/
theorem frame_pi : Cert.quiescent_Kernel12Ideal := fun m ρ _ => Cert.Kernel12Ideal.Gen.frame m ρ

/-- So does the reference over the extended reals. -/
theorem frame_ri : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

/-- Over the extended reals the kernel and the reference end with the same array. -/
theorem algebraic : Cert.algebraic_Kernel12Ideal_Reference12Ideal := by
  intro m ρ m' ρ' hm hagree
  refine ⟨fun c => Cert.Mul.Twelve.out (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), ?_, ?_⟩
  · refine (θ_run Cert.Kernel12Ideal.defs _ _).mono (fun r h c => ?_) (Cert.Kernel12Ideal.Value.run_blocks (F := Ideal) m ρ)
    exact ⟨(h c).1.trans (Cert.Mul.Twelve.array m c), (h c).2⟩
  · refine (θ_run Cert.Reference12Ideal.defs _ _).mono (fun r h c => ?_) (Cert.Reference12Ideal.Value.run (F := Ideal) m' ρ')
    obtain ⟨a0, a1⟩ := hagree c
    exact ⟨(h c).1.trans ((Cert.Mul.Twelve.reference_out _ _).trans (congrArg₂ Cert.Mul.Twelve.out a0 a1)), (h c).2⟩

end Cert.Proof.Twelve

end
-- ==== Proof.Mul.Thirteen.lean ====
module

public import proofs.«01_k».proof.Proof.Gen.Kernel13Ideal.Value
public import proofs.«01_k».proof.Proof.Gen.Reference13Ideal.Run
public import proofs.«01_k».proof.Proof.Mul.Gate
public import Idealize.ShloMosaic.Lib.Pipeline.ValueKit
public import Idealize.ShloMosaic.Lib.ValueLayout

/-! The gate of the feed-forward block. -/

@[expose] public section

set_option maxRecDepth 16384

noncomputable section

namespace Cert.Mul.Thirteen

open Idealize.ShloMosaic hiding ix2 ix3 eq_ix2 eq_ix3
open Idealize.ShloMosaic.ValueIdx Idealize.ShloMosaic.TcCoe Idealize.ShloMosaic.Pipeline Idealize.SL.Sem Cert.Kernel13Ideal Cert.Kernel13Ideal.Gen

/-- A row's first half, gated, times its second. -/
def out (x : FVec Ideal S4096x11264 .bf16) : FVec Ideal S4096x5632 .bf16 := fun i =>
  Gate.act (x (ix2 (i 0) (⟨(i 1).val, Nat.lt_of_lt_of_le (i 1).isLt (by decide)⟩ : Fin 11264)))
    (x (ix2 (i 0) (⟨5632 + (i 1).val, Nat.add_lt_add_left (i 1).isLt 5632⟩ : Fin 11264)))

theorem tile_apply (x : FVec Ideal S256x11264 .bf16) (a : Fin 256) (b : Fin 5632) : (k0_pay1 (F := Ideal) x (ix2 a b) : EReal)
    = Gate.act (x (ix2 a (⟨b.val, by omega⟩ : Fin 11264))) (x (ix2 a (⟨5632 + b.val, by omega⟩ : Fin 11264))) := by
  have e1 : extractStridedSlice S256x5632 ![0, 0] x slices_S256x11264_o0_0_S256x5632 (ix2 a b) = x (ix2 a (⟨b.val, by omega⟩ : Fin 11264)) :=
    extractStridedSlice_apply _ _ _ _ _ fun d => match d with
      | ⟨0, _⟩ => (Nat.zero_add _).symm
      | ⟨1, _⟩ => (Nat.zero_add _).symm
  have e2 : extractStridedSlice S256x5632 ![0, 5632] x slices_S256x11264_o0_5632_S256x5632 (ix2 a b) = x (ix2 a (⟨5632 + b.val, by omega⟩ : Fin 11264)) :=
    extractStridedSlice_apply _ _ _ _ _ fun d => match d with
      | ⟨0, _⟩ => (Nat.zero_add _).symm
      | ⟨1, _⟩ => rfl
  rw [← e1, ← e2]
  unfold k0_pay1 Gate.act Gate.sg Gate.one
  rw [← Gate.sub_word]
  rfl

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)

theorem x_apply (t : Fin cfg0.N) (a : Fin 256) (k : Fin 11264) (r : Fin 4096) (l : Fin 11264) (hr : r.val = t.val * 256 + a.val) (hl : l.val = k.val) :
    iblk m c 0 t (ix2 a k) = m ((c : Thread nD τ).loc main_arg0) (ix2 r l) := by
  have e1 : (win0_0.blk t).view.emb (ix2 a k) = ix2 r l := by
    blk_ext [index0] <;> first | exact hl.symm | (change _ + a.val = r.val; omega)
  blk_simp [iblk]
  rw [e1, V_main_arg0]

/-- What a point writes. -/
theorem point (t : Fin cfg0.N) : (out0_1 (iblk m c 0 t)) = k0_pay1 (iblk m c 0 t) := by
  unfold out0_1
  frame_out

/-- The kernel's result. -/
theorem array : (dats m 0 c).arrAt 1 cfg0.N = out (m ((c : Thread nD τ).loc main_arg0)) := by
  refine (dats m 0 c).arrAt_eq_of_covers 1 _ (by decide +kernel) fun t hf y => ?_
  blk_simp
  rw [after0_1]
  have hN : t.val < 16 := lt_of_lt_of_eq t.isLt (show cfg0.N = 16 from N_0)
  obtain ⟨a, b, rfl⟩ : ∃ (a : Fin 256) (b : Fin 5632), y = ix2 a b := ⟨y 0, y 1, eq_ix2 y⟩
  have ha := a.isLt
  have hb := b.isLt
  have e1 : (win0_1.blk t).view.emb (ix2 a b) = ix2 (⟨t.val * 256 + a.val, by omega⟩ : Fin 4096) b := by
    blk_ext [index1] <;> first | rfl | (change _ + a.val = _; omega)
  rw [e1, point m c t]
  refine (tile_apply _ _ _).trans ?_
  unfold out
  exact congrArg₂ Gate.act (x_apply m c _ _ _ _ _ rfl rfl) (x_apply m c _ _ _ _ _ rfl rfl)

/-- The reference's result. -/
theorem reference_out (x : FVec Ideal S4096x11264 .bf16) :
    truncf .bf16 (mulf (mulf
        (extractStridedSlice Cert.Reference13Ideal.S4096x5632 ![0, 0] (extf .f32 x Cert.Reference13Ideal.Gen.bitsLt_bf16_f32) Cert.Reference13Ideal.Gen.slices_S4096x11264_S4096x5632_0_0)
        (Host.divf
        (broadcastInDim Cert.Reference13Ideal.S4096x5632 ![] Cert.Reference13Ideal.Gen.bcast_S_S4096x5632 (constant (F := Ideal) Cert.Reference13Ideal.S_ .f32 0x3F800000#32)) (addf
        (broadcastInDim Cert.Reference13Ideal.S4096x5632 ![] Cert.Reference13Ideal.Gen.bcast_S_S4096x5632 (constant (F := Ideal) Cert.Reference13Ideal.S_ .f32 0x3F800000#32)) (Host.exp (Host.negf
        (extractStridedSlice Cert.Reference13Ideal.S4096x5632 ![0, 0] (extf .f32 x Cert.Reference13Ideal.Gen.bitsLt_bf16_f32) Cert.Reference13Ideal.Gen.slices_S4096x11264_S4096x5632_0_0))))))
        (extractStridedSlice Cert.Reference13Ideal.S4096x5632 ![0, 5632] (extf .f32 x Cert.Reference13Ideal.Gen.bitsLt_bf16_f32) Cert.Reference13Ideal.Gen.slices_S4096x11264_S4096x5632_0_5632)) Cert.Reference13Ideal.Gen.bitsLt_bf16_f32 = out x := by
  funext i
  have e1 : extractStridedSlice Cert.Reference13Ideal.S4096x5632 ![0, 0] x Cert.Reference13Ideal.Gen.slices_S4096x11264_S4096x5632_0_0 i
      = x (ix2 (i 0) (⟨(i 1).val, Nat.lt_of_lt_of_le (i 1).isLt (by decide)⟩ : Fin 11264)) :=
    extractStridedSlice_apply _ _ _ _ _ fun d => match d with
      | ⟨0, _⟩ => (Nat.zero_add _).symm
      | ⟨1, _⟩ => (Nat.zero_add _).symm
  have e2 : extractStridedSlice Cert.Reference13Ideal.S4096x5632 ![0, 5632] x Cert.Reference13Ideal.Gen.slices_S4096x11264_S4096x5632_0_5632 i
      = x (ix2 (i 0) (⟨5632 + (i 1).val, Nat.add_lt_add_left (i 1).isLt 5632⟩ : Fin 11264)) :=
    extractStridedSlice_apply _ _ _ _ _ fun d => match d with
      | ⟨0, _⟩ => (Nat.zero_add _).symm
      | ⟨1, _⟩ => rfl
  unfold out
  rw [← e1, ← e2]
  rfl

end Cert.Mul.Thirteen

end
-- ==== Proof.Claims.Thirteen.lean ====
module

public import proofs.«01_k».proof.Defs
public import proofs.«01_k».proof.Proof.Gen.Kernel13.Frame
public import proofs.«01_k».proof.Proof.Gen.Kernel13Ideal.Frame
public import proofs.«01_k».proof.Proof.Mul.Thirteen

/-! The gate of the feed-forward block: the claims. -/

@[expose] public section

noncomputable section

namespace Cert.Proof.Thirteen

open Idealize.ShloMosaic Idealize.ShloMosaic.TcCoe Idealize.SL.Sem

instance : Cert.Kernel13.Facts := Cert.Kernel13.Gen.facts
instance : Cert.Kernel13Ideal.Facts := Cert.Kernel13Ideal.Gen.facts
instance : Cert.Reference13Ideal.Facts := Cert.Reference13Ideal.Gen.facts

/-- The kernel runs, leaves its arguments and its counters as it found them. -/
theorem frame_p : Cert.quiescent_Kernel13 := fun m ρ _ => Cert.Kernel13.Gen.frame m ρ

/-- So does the kernel over the extended reals. -/
theorem frame_pi : Cert.quiescent_Kernel13Ideal := fun m ρ _ => Cert.Kernel13Ideal.Gen.frame m ρ

/-- So does the reference over the extended reals. -/
theorem frame_ri : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

/-- Over the extended reals the kernel and the reference end with the same array. -/
theorem algebraic : Cert.algebraic_Kernel13Ideal_Reference13Ideal := by
  intro m ρ m' ρ' hm hagree
  refine ⟨fun c => Cert.Mul.Thirteen.out (m ((c.tc : Thread Cert.Kernel13Ideal.nD Cert.Kernel13Ideal.τ).loc Cert.Kernel13Ideal.main_arg0)), ?_, ?_⟩
  · refine (θ_run Cert.Kernel13Ideal.defs _ _).mono (fun r h c => ?_) (Cert.Kernel13Ideal.Value.run_blocks (F := Ideal) m ρ)
    exact ⟨(h c).1.trans (Cert.Mul.Thirteen.array m c), (h c).2⟩
  · refine (θ_run Cert.Reference13Ideal.defs _ _).mono (fun r h c => ?_) (Cert.Reference13Ideal.Value.run (F := Ideal) m' ρ')
    have a0 := hagree c
    exact ⟨(h c).1.trans ((Cert.Mul.Thirteen.reference_out _).trans (congrArg Cert.Mul.Thirteen.out a0)), (h c).2⟩

end Cert.Proof.Thirteen

end
-- ==== Proof.Mul.Fourteen.lean ====
module

public import proofs.«01_k».proof.Proof.Gen.Kernel14Ideal.Value
public import proofs.«01_k».proof.Proof.Gen.Reference14Ideal.Run
public import proofs.«01_k».proof.Proof.Mul.Dots
public import Idealize.ShloMosaic.Lib.Pipeline.ValueKit
public import Idealize.ShloMosaic.Lib.ValueLayout

/-! The feed-forward block's second product: the rows of the activation times the weight, whose four pieces of rows are
taken one after another. -/

@[expose] public section

set_option maxRecDepth 16384

noncomputable section

namespace Cert.Mul.Fourteen

open Idealize.ShloMosaic hiding ix2 ix3 eq_ix2 eq_ix3
open Idealize.ShloMosaic.ValueIdx Idealize.ShloMosaic.TcCoe Idealize.ShloMosaic.Pipeline Idealize.SL.Sem Cert.Kernel14Ideal Cert.Kernel14Ideal.Gen

/-- The product: a row of `x` against a row of the joined weight. -/
def out (w : FVec Ideal S4x1408x2048 .bf16) (x : FVec Ideal S4096x5632 .bf16) : FVec Ideal S4096x2048 .f32 := fun i =>
  ∑ l : Fin 5632, x (ix2 (i 0) l) * w (ix3 ⟨l.val / 1408, by have := l.isLt; omega⟩ ⟨l.val % 1408, by omega⟩ (i 1))

/-- One tile's product. -/
def part (x : FVec Ideal S1024x1408 .bf16) (w : FVec Ideal S1x1408x1024 .bf16) (j : S1024x1024.Idx) : EReal :=
  ∑ k : Fin 1408, x (ix2 (j 0) k) * w (ix3 0 k (j 1))

theorem step_apply (acc : FVec Ideal S1024x1024 .f32) (x : FVec Ideal S1024x1408 .bf16) (w : FVec Ideal S1x1408x1024 .bf16) (j : S1024x1024.Idx) :
    k0_pay2 acc x w j = acc j + part x w j := by
  unfold k0_pay2 part
  rw [shapeCast_self]
  refine congrArg (acc j + ·) ?_
  unfold matmul
  rw [tile_dot _ 1408 rfl rfl]
  refine Finset.sum_congr rfl fun k _ => ?_
  have hk := contrEquiv1_symm_val dot_S1024x1408_S1408x1024_S1024x1024_1_0_0_1_n_n 1408 rfl rfl k
  refine congrArg₂ (· * ·) (congrArg x (funext fun a => Fin.ext ?_)) (shapeCast_apply w _ _ _ ?_)
  · match a with
    | ⟨0, _⟩ => rfl
    | ⟨1, _⟩ => exact hk
  · rw [Shape.rowMajor_val_two, Shape.rowMajor_val_three]
    refine Eq.trans ?_ (congrArg (· * 1024 + (j 1).val) hk.symm)
    show (0 * 1408 + k.val) * 1024 + (j 1).val = k.val * 1024 + (j 1).val
    omega

theorem zero_apply (j : S1024x1024.Idx) : k0_pay1 (F := Ideal) j = 0 := by
  unfold k0_pay1
  rw [shapeCast_self]
  exact Ideal.ofBits_zero_f32

variable (m : (ℓ : Loc nD τ sig) → Buf (Elt Ideal) ℓ) (c : Dev nD)

/-- What a point adds. -/
abbrev term (t : Fin cfg0.N) (j : S1024x1024.Idx) : EReal := part (iblk m c 0 t) (iblk m c 1 t) j

theorem acc_first (t : Fin cfg0.N) (h : t.val % 4 = 0) (j : S1024x1024.Idx) : (outsAt0 m c t.val t.isLt).2 j = (fun _ => 0 : S1024x1024.Idx → EReal) j + term m c t j := by
  rw [outsAt0_A m c t h (by omega)]
  dsimp only
  unfold sout0_A_0
  frame_out
  rw [step_apply, zero_apply]

theorem acc_next (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + term m c t j := by
  by_cases h3 : t.val % 4 = 3
  · rw [outsAt0_C m c t h h3]
    dsimp only
    unfold sout0_C_0
    frame_out
    rw [step_apply]
    exact congrArg (· + _) (congrFun ((Memref.isWhole_whole cc0_scratch0).read_unread (outsAt0 m c (t.val - 1) _).2) j)
  · rw [outsAt0_B m c t h h3]
    dsimp only
    unfold sout0_B_0
    frame_out
    rw [step_apply]
    exact congrArg (· + _) (congrFun ((Memref.isWhole_whole cc0_scratch0).read_unread (outsAt0 m c (t.val - 1) _).2) j)

/-- The last point of a run writes back what it has summed. -/
theorem last_out (t : Fin cfg0.N) (h3 : t.val % 4 = 3) : (outsAt0 m c t.val t.isLt).1 = (outsAt0 m c t.val t.isLt).2 := by
  rw [outsAt0_C m c t (by omega) h3]
  dsimp only
  unfold out0_C_2 sout0_C_0
  frame_out

theorem acc_last (t : Fin cfg0.N) (h3 : t.val % 4 = 3) (j : S1024x1024.Idx) :
    (outsAt0 m c t.val t.isLt).1 j = ∑ s : Fin 4, term m c ⟨4 * (t.val / 4) + s.val, run_point_lt_of_flush t h3 s⟩ j := by
  rw [last_out m c t h3, eq_sum_fin_of_reset_step_apply_of_flush (fun n h => (outsAt0 m c n h).2) 4 (fun _ => 0) (term m c)
    (acc_first m c) (acc_next m c) t h3 j, zero_add]

theorem index0 : ∀ t : Fin cfg0.N, win0_0.index t = ![(t.val / 4) % 4, t.val % 4] := (by decide +kernel : ∀ t : Fin grid0.N, _)
theorem index1 : ∀ t : Fin cfg0.N, win0_1.index t = ![t.val % 4, 0, t.val / 16] := (by decide +kernel : ∀ t : Fin grid0.N, _)
theorem index2 : ∀ t : Fin cfg0.N, win0_2.index t = ![(t.val / 4) % 4, t.val / 16] := (by decide +kernel : ∀ t : Fin grid0.N, _)

theorem x_apply (t : Fin cfg0.N) (a : Fin 1024) (k : Fin 1408) (r : Fin 4096) (l : Fin 5632) (hr : r.val = (t.val / 4) % 4 * 1024 + a.val)
    (hl : l.val = t.val % 4 * 1408 + k.val) : iblk m c 0 t (ix2 a k) = m ((c : Thread nD τ).loc main_arg0) (ix2 r l) := by
  have e1 : (win0_0.blk t).view.emb (ix2 a k) = ix2 r l := by
    blk_ext [index0] <;> first | (change _ + a.val = r.val; omega) | (change _ + k.val = l.val; omega)
  blk_simp [iblk]
  rw [e1, V_main_arg0]

theorem w_apply (t : Fin cfg0.N) (k : Fin 1408) (b : Fin 1024) (p : Fin 4) (o : Fin 1408) (q : Fin 2048) (hp : p.val = t.val % 4)
    (ho : o.val = k.val) (hq : q.val = t.val / 16 * 1024 + b.val) : iblk m c 1 t (ix3 0 k b) = m ((c : Thread nD τ).loc main_arg1) (ix3 p o q) := by
  have e1 : (win0_1.blk t).view.emb (ix3 0 k b) = ix3 p o q := by
    blk_ext [index1] <;> first | exact ho.symm | (change _ + b.val = q.val; omega) | (change _ = p.val; omega)
  blk_simp [iblk]
  rw [e1, V_main_arg1]

/-- The kernel's result. -/
theorem array : (dats m 0 c).arrAt 2 cfg0.N = out (m ((c : Thread nD τ).loc main_arg1)) (m ((c : Thread nD τ).loc main_arg0)) := by
  refine (dats m 0 c).arrAt_eq_of_covers 2 _ (by decide +kernel) fun t hf y => ?_
  blk_simp
  rw [after0_2]
  have h3 := (flush0_2 t).1 hf
  have hN : t.val < 32 := lt_of_lt_of_eq t.isLt (show cfg0.N = 32 from N_0)
  obtain ⟨a, b, rfl⟩ : ∃ (a : Fin 1024) (b : Fin 1024), y = ix2 a b := ⟨y 0, y 1, eq_ix2 y⟩
  have e1 : (win0_2.blk t).view.emb (ix2 a b) = ix2 (⟨(t.val / 4) % 4 * 1024 + a.val, by omega⟩ : Fin 4096)
      (⟨t.val / 16 * 1024 + b.val, by omega⟩ : Fin 2048) := by
    blk_ext [index2] <;> first | (change _ + a.val = _; omega) | (change _ + b.val = _; omega)
  rw [e1, acc_last m c t h3]
  unfold out
  refine Fin.sum_mul_add_congr fun s k hl => ?_
  have hk := k.isLt
  have hs := s.isLt
  refine congrArg₂ (· * ·) (x_apply m c _ _ _ _ _ ?_ ?_) (w_apply m c _ _ _ _ _ _ ?_ ?_ ?_) <;> dsimp only
  all_goals first | omega | (change _ = _ * 1024 + a.val; omega) | (change _ = _ * 1024 + b.val; omega)

/-- The reference's result. -/
theorem reference_out (w : FVec Ideal S4x1408x2048 .bf16) (x : FVec Ideal S4096x5632 .bf16) :
    Host.dotGeneral (F := Ideal) Cert.Reference14Ideal.dot_S4096x5632_S5632x2048_S4096x2048_1_0_0_1_n_n none (extf .f32 x Cert.Reference14Ideal.Gen.bitsLt_bf16_f32)
      (shapeCast _ (extf .f32 w Cert.Reference14Ideal.Gen.bitsLt_bf16_f32) Cert.Reference14Ideal.Gen.shapeCasts_S4x1408x2048_S5632x2048) = out w x := by
  funext i
  rw [host_dot _ 5632 rfl rfl]
  refine Finset.sum_congr rfl fun l _ => ?_
  have hl := l.isLt
  have hk := contrEquiv1_symm_val Cert.Reference14Ideal.dot_S4096x5632_S5632x2048_S4096x2048_1_0_0_1_n_n 5632 rfl rfl l
  refine congrArg₂ (· * ·) (congrArg x (funext fun a => Fin.ext ?_))
    ((shapeCast_apply _ _ _ (ix3 (⟨l.val / 1408, by omega⟩ : Fin 4) (⟨l.val % 1408, by omega⟩ : Fin 1408) (i 1)) ?_).trans rfl)
  · match a with
    | ⟨0, _⟩ => rfl
    | ⟨1, _⟩ => exact hk
  · rw [Shape.rowMajor_val_two, Shape.rowMajor_val_three]
    refine Eq.trans ?_ (congrArg (· * 2048 + (i 1).val) hk.symm)
    show (l.val / 1408 * 1408 + l.val % 1408) * 2048 + (i 1).val = l.val * 2048 + (i 1).val
    omega

end Cert.Mul.Fourteen

end
-- ==== Proof.Claims.Fourteen.lean ====
module

public import proofs.«01_k».proof.Defs
public import proofs.«01_k».proof.Proof.Gen.Kernel14.Frame
public import proofs.«01_k».proof.Proof.Gen.Kernel14Ideal.Frame
public import proofs.«01_k».proof.Proof.Mul.Fourteen

/-! The feed-forward block's second product: the claims. -/

@[expose] public section

noncomputable section

namespace Cert.Proof.Fourteen

open Idealize.ShloMosaic Idealize.ShloMosaic.TcCoe Idealize.SL.Sem

instance : Cert.Kernel14.Facts := Cert.Kernel14.Gen.facts
instance : Cert.Kernel14Ideal.Facts := Cert.Kernel14Ideal.Gen.facts
instance : Cert.Reference14Ideal.Facts := Cert.Reference14Ideal.Gen.facts

/-- The kernel runs, leaves its arguments and its counters as it found them. -/
theorem frame_p : Cert.quiescent_Kernel14 := fun m ρ _ => Cert.Kernel14.Gen.frame m ρ

/-- So does the kernel over the extended reals. -/
theorem frame_pi : Cert.quiescent_Kernel14Ideal := fun m ρ _ => Cert.Kernel14Ideal.Gen.frame m ρ

/-- So does the reference over the extended reals. -/
theorem frame_ri : Cert.quiescent_Reference14Ideal := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

/-- Over the extended reals the kernel and the reference end with the same array. -/
theorem algebraic : Cert.algebraic_Kernel14Ideal_Reference14Ideal := by
  intro m ρ m' ρ' hm hagree
  refine ⟨fun c => Cert.Mul.Fourteen.out (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg0)), ?_, ?_⟩
  · refine (θ_run Cert.Kernel14Ideal.defs _ _).mono (fun r h c => ?_) (Cert.Kernel14Ideal.Value.run_blocks (F := Ideal) m ρ)
    exact ⟨(h c).1.trans (Cert.Mul.Fourteen.array m c), (h c).2⟩
  · refine (θ_run Cert.Reference14Ideal.defs _ _).mono (fun r h c => ?_) (Cert.Reference14Ideal.Value.run (F := Ideal) m' ρ')
    obtain ⟨a0, a1⟩ := hagree c
    exact ⟨(h c).1.trans ((Cert.Mul.Fourteen.reference_out _ _).trans (congrArg₂ Cert.Mul.Fourteen.out a1 a0)), (h c).2⟩

end Cert.Proof.Fourteen

end
-- ==== Proof.Mul.Fifteen.lean ====
module

public import proofs.«01_k».proof.Proof.Gen.Kernel15Ideal.Value
public import proofs.«01_k».proof.Proof.Gen.Reference15Ideal.Run
public import proofs.«01_k».proof.Proof.Mul.Dots
public import Idealize.ShloMosaic.Lib.Pipeline.ValueKit
public import Idealize.ShloMosaic.Lib.ValueLayout

/-! The attention's first product. -/

@[expose] public section

set_option maxRecDepth 16384

noncomputable section

namespace Cert.Mul.Fifteen

open Idealize.ShloMosaic hiding ix2 ix3 eq_ix2 eq_ix3
open Idealize.ShloMosaic.ValueIdx Idealize.ShloMosaic.TcCoe Idealize.ShloMosaic.Pipeline Idealize.SL.Sem Cert.Kernel15Ideal Cert.Kernel15Ideal.Gen

/-- The product. -/
def out (x : FVec Ideal S4096x2048 .bf16) (w : FVec Ideal S4x2048x1536 .bf16) : FVec Ideal S4096x6144 .f32 := fun i =>
  ∑ l : Fin 2048, x (ix2 (i 0) l) * w (ix3 (⟨(i 1).val / 1536, by have h1 := (i 1).isLt; change (i 1).val < 6144 at h1; omega⟩ : Fin 4) l (⟨(i 1).val % 1536, by omega⟩ : Fin 1536))

/-- One tile's product. -/
def part (x : FVec Ideal S1024x2048 .bf16) (w : FVec Ideal S1x2048x768 .bf16) (j : S1024x768.Idx) : EReal :=
  ∑ k : Fin 2048, x (ix2 (j 0) k) * w (ix3 0 k (j 1))

theorem tile_apply (x : FVec Ideal S1024x2048 .bf16) (w : FVec Ideal S1x2048x768 .bf16) (j : S1024x768.Idx) :
    (k0_pay1 (F := Ideal) w x j : EReal) = part x w j := by
  unfold k0_pay1 part
  have hj := (j 1).isLt
  change (j 1).val < 768 at hj
  refine (tile_dot dot_S1024x2048_S2048x768_S1024x768_1_0_0_1_n_n 2048 rfl rfl _ _ j).trans ?_
  refine Finset.sum_congr rfl fun k _ => ?_
  have hk := contrEquiv1_symm_val dot_S1024x2048_S2048x768_S1024x768_1_0_0_1_n_n 2048 rfl rfl k
  refine congrArg₂ (· * ·) (congrArg x (funext fun a => Fin.ext ?_)) (shapeCast_apply w _ _ _ ?_)
  · match a with
    | ⟨0, _⟩ => rfl
    | ⟨1, _⟩ => exact hk
  · rw [Shape.rowMajor_val_two, Shape.rowMajor_val_three]
    refine Eq.trans ?_ (congrArg (· * 768 + (j 1).val) hk.symm)
    show (0 * 2048 + k.val) * 768 + (j 1).val = k.val * 768 + (j 1).val
    omega

variable (m : (ℓ : Loc nD τ sig) → Buf (Elt Ideal) ℓ) (c : Dev nD)

theorem index0 : ∀ t : Fin cfg0.N, win0_0.index t = ![t.val % 4, 0] := (by decide +kernel : ∀ t : Fin grid0.N, _)
theorem index1 : ∀ t : Fin cfg0.N, win0_1.index t = ![t.val / 4 / 2, 0, t.val / 4 % 2] := (by decide +kernel : ∀ t : Fin grid0.N, _)
theorem index2 : ∀ t : Fin cfg0.N, win0_2.index t = ![t.val % 4, t.val / 4] := (by decide +kernel : ∀ t : Fin grid0.N, _)

theorem x_apply (t : Fin cfg0.N) (a : Fin 1024) (k : Fin 2048) (r : Fin 4096) (l : Fin 2048) (hr : r.val = t.val % 4 * 1024 + a.val) (hl : l.val = k.val) :
    iblk m c 0 t (ix2 a k) = m ((c : Thread nD τ).loc main_arg0) (ix2 r l) := by
  have e1 : (win0_0.blk t).view.emb (ix2 a k) = ix2 r l := by
    blk_ext [index0] <;> first | exact hl.symm | (change _ + a.val = r.val; omega)
  blk_simp [iblk]
  rw [e1, V_main_arg0]

theorem w_apply (t : Fin cfg0.N) (v : Fin 2048) (z : Fin 768) (p : Fin 4) (o : Fin 2048) (q : Fin 1536) (hp : p.val = t.val / 4 / 2)
    (ho : o.val = v.val) (hq : q.val = t.val / 4 % 2 * 768 + z.val) : iblk m c 1 t (ix3 0 v z) = m ((c : Thread nD τ).loc main_arg1) (ix3 p o q) := by
  have e1 : (win0_1.blk t).view.emb (ix3 0 v z) = ix3 p o q := by
    blk_ext [index1] <;> first | exact hp.symm | exact ho.symm | exact hq.symm | (change _ = p.val; omega) | (change _ + v.val = o.val; omega) | (change _ + z.val = q.val; omega)
  blk_simp [iblk]
  rw [e1, V_main_arg1]

/-- What a point writes. -/
theorem point (t : Fin cfg0.N) : (out0_2 (iblk m c 0 t) (iblk m c 1 t)) = k0_pay1 (iblk m c 1 t) (iblk m c 0 t) := by
  unfold out0_2
  frame_out

/-- The kernel's result. -/
theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  have hN : t.val < 32 := lt_of_lt_of_eq t.isLt (show cfg0.N = 32 from N_0)
  obtain ⟨a, b, rfl⟩ : ∃ (a : Fin 1024) (b : Fin 768), y = ix2 a b := ⟨y 0, y 1, eq_ix2 y⟩
  have ha := a.isLt
  have hb := b.isLt
  have e1 : (win0_2.blk t).view.emb (ix2 a b) = ix2 (⟨t.val % 4 * 1024 + a.val, by omega⟩ : Fin 4096)
      (⟨t.val / 4 * 768 + b.val, by omega⟩ : Fin 6144) := by
    blk_ext [index2] <;> first | rfl | (change _ + a.val = _; omega) | (change _ + b.val = _; omega)
  rw [e1, point m c t]
  refine (tile_apply _ _ _).trans ?_
  unfold out part
  refine Finset.sum_congr rfl fun k _ => ?_
  have hk := k.isLt
  refine congrArg₂ (· * ·) (x_apply m c _ _ _ _ _ ?_ ?_) (w_apply m c _ _ _ _ _ _ ?_ ?_ ?_)
  · show t.val % 4 * 1024 + a.val = t.val % 4 * 1024 + a.val
    rfl
  · rfl
  · show (t.val / 4 * 768 + b.val) / 1536 = t.val / 4 / 2
    omega
  · show k.val = k.val
    rfl
  · show (t.val / 4 * 768 + b.val) % 1536 = t.val / 4 % 2 * 768 + b.val
    omega

/-- The reference's result. -/
theorem reference_out (x : FVec Ideal S4096x2048 .bf16) (w : FVec Ideal S4x2048x1536 .bf16) :
    Host.dotGeneral (F := Ideal) Cert.Reference15Ideal.dot_S4096x2048_S2048x6144_S4096x6144_1_0_0_1_n_n none (extf .f32 x Cert.Reference15Ideal.Gen.bitsLt_bf16_f32)
      (shapeCast _ (transpose Cert.Reference15Ideal.S2048x4x1536 [1, 0, 2] (extf .f32 w Cert.Reference15Ideal.Gen.bitsLt_bf16_f32)
        Cert.Reference15Ideal.Gen.transposes_S4x2048x1536_S2048x4x1536_1_0_2) Cert.Reference15Ideal.Gen.shapeCasts_S2048x4x1536_S2048x6144) = out x w := by
  funext i
  have hi := (i 1).isLt
  change (i 1).val < 6144 at hi
  refine (host_dot Cert.Reference15Ideal.dot_S4096x2048_S2048x6144_S4096x6144_1_0_0_1_n_n 2048 rfl rfl _ _ i).trans ?_
  refine Finset.sum_congr rfl fun l _ => ?_
  have hl := l.isLt
  have hk := contrEquiv1_symm_val Cert.Reference15Ideal.dot_S4096x2048_S2048x6144_S4096x6144_1_0_0_1_n_n 2048 rfl rfl l
  refine congrArg₂ (· * ·) (congrArg x (funext fun a => Fin.ext ?_))
    ((shapeCast_apply _ _ _ (ix3 l (⟨(i 1).val / 1536, by have h1 := (i 1).isLt; change (i 1).val < 6144 at h1; omega⟩ : Fin 4) (⟨(i 1).val % 1536, by omega⟩ : Fin 1536)) ?_).trans (congrArg w (funext fun a => Fin.ext ?_)))
  · match a with
    | ⟨0, _⟩ => rfl
    | ⟨1, _⟩ => exact hk
  · rw [Shape.rowMajor_val_two, Shape.rowMajor_val_three]
    refine Eq.trans ?_ (congrArg (· * 6144 + (i 1).val) hk.symm)
    show (l.val * 4 + (i 1).val / 1536) * 1536 + (i 1).val % 1536 = l.val * 6144 + (i 1).val
    omega
  · match a with
    | ⟨0, _⟩ => rfl
    | ⟨1, _⟩ => rfl
    | ⟨2, _⟩ => rfl

end Cert.Mul.Fifteen

end
-- ==== Proof.Claims.Fifteen.lean ====
module

public import proofs.«01_k».proof.Defs
public import proofs.«01_k».proof.Proof.Gen.Kernel15.Frame
public import proofs.«01_k».proof.Proof.Gen.Kernel15Ideal.Frame
public import proofs.«01_k».proof.Proof.Mul.Fifteen

/-! The attention's first product: the claims. -/

@[expose] public section

noncomputable section

namespace Cert.Proof.Fifteen

open Idealize.ShloMosaic Idealize.ShloMosaic.TcCoe Idealize.SL.Sem

instance : Cert.Kernel15.Facts := Cert.Kernel15.Gen.facts
instance : Cert.Kernel15Ideal.Facts := Cert.Kernel15Ideal.Gen.facts
instance : Cert.Reference15Ideal.Facts := Cert.Reference15Ideal.Gen.facts

/-- The kernel runs, leaves its arguments and its counters as it found them. -/
theorem frame_p : Cert.quiescent_Kernel15 := fun m ρ _ => Cert.Kernel15.Gen.frame m ρ

/-- So does the kernel over the extended reals. -/
theorem frame_pi : Cert.quiescent_Kernel15Ideal := fun m ρ _ => Cert.Kernel15Ideal.Gen.frame m ρ

/-- So does the reference over the extended reals. -/
theorem frame_ri : Cert.quiescent_Reference15Ideal := fun m ρ _ =>
  (θ_run Cert.Reference15Ideal.defs _ _).mono (fun r h => ⟨fun c => (h c).2, Idealize.ShloMosaic.sem_eq_zero_of_no_sems (by decide) r.2⟩)
    (Cert.Reference15Ideal.Value.run (F := Ideal) m ρ)

/-- Over the extended reals the kernel and the reference end with the same array. -/
theorem algebraic : Cert.algebraic_Kernel15Ideal_Reference15Ideal := by
  intro m ρ m' ρ' hm hagree
  refine ⟨fun c => Cert.Mul.Fifteen.out (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)), ?_, ?_⟩
  · refine (θ_run Cert.Kernel15Ideal.defs _ _).mono (fun r h c => ?_) (Cert.Kernel15Ideal.Value.run_blocks (F := Ideal) m ρ)
    exact ⟨(h c).1.trans (Cert.Mul.Fifteen.array m c), (h c).2⟩
  · refine (θ_run Cert.Reference15Ideal.defs _ _).mono (fun r h c => ?_) (Cert.Reference15Ideal.Value.run (F := Ideal) m' ρ')
    obtain ⟨a0, a1⟩ := hagree c
    exact ⟨(h c).1.trans ((Cert.Mul.Fifteen.reference_out _ _).trans (congrArg₂ Cert.Mul.Fifteen.out a0 a1)), (h c).2⟩

end Cert.Proof.Fifteen

end
-- ==== Proof.Mul.Sixteen.lean ====
module

public import proofs.«01_k».proof.Proof.Gen.Kernel16Ideal.Value
public import proofs.«01_k».proof.Proof.Gen.Reference16Ideal.Run
public import proofs.«01_k».proof.Proof.Mul.Dots
public import Idealize.ShloMosaic.Lib.Pipeline.ValueKit
public import Idealize.ShloMosaic.Lib.ValueLayout

/-! The product with a square weight cut by rows. -/

@[expose] public section

set_option maxRecDepth 16384

noncomputable section

namespace Cert.Mul.Sixteen

open Idealize.ShloMosaic hiding ix2 ix3 eq_ix2 eq_ix3
open Idealize.ShloMosaic.ValueIdx Idealize.ShloMosaic.TcCoe Idealize.ShloMosaic.Pipeline Idealize.SL.Sem Cert.Kernel16Ideal Cert.Kernel16Ideal.Gen

/-- The product. -/
def out (x : FVec Ideal S4096x2048 .bf16) (w : FVec Ideal S4x512x2048 .bf16) : FVec Ideal S4096x2048 .f32 := fun i =>
  ∑ l : Fin 2048, x (ix2 (i 0) l) * w (ix3 (⟨l.val / 512, by have h1 := l.isLt; change l.val < 2048 at h1; omega⟩ : Fin 4) (⟨l.val % 512, by omega⟩ : Fin 512) (i 1))

/-- One tile's product. -/
def part (x : FVec Ideal S1024x2048 .bf16) (w : FVec Ideal S4x512x1024 .bf16) (j : S1024x1024.Idx) : EReal :=
  ∑ k : Fin 2048, x (ix2 (j 0) k) * w (ix3 (⟨k.val / 512, by have h1 := k.isLt; change k.val < 2048 at h1; omega⟩ : Fin 4) (⟨k.val % 512, by omega⟩ : Fin 512) (j 1))

theorem tile_apply (x : FVec Ideal S1024x2048 .bf16) (w : FVec Ideal S4x512x1024 .bf16) (j : S1024x1024.Idx) :
    (k0_pay1 (F := Ideal) w x j : EReal) = part x w j := by
  unfold k0_pay1 part
  have hj := (j 1).isLt
  change (j 1).val < 1024 at hj
  refine (tile_dot dot_S1024x2048_S2048x1024_S1024x1024_1_0_0_1_n_n 2048 rfl rfl _ _ j).trans ?_
  refine Finset.sum_congr rfl fun k _ => ?_
  have hk := contrEquiv1_symm_val dot_S1024x2048_S2048x1024_S1024x1024_1_0_0_1_n_n 2048 rfl rfl k
  refine congrArg₂ (· * ·) (congrArg x (funext fun a => Fin.ext ?_)) (shapeCast_apply w _ _ _ ?_)
  · match a with
    | ⟨0, _⟩ => rfl
    | ⟨1, _⟩ => exact hk
  · rw [Shape.rowMajor_val_two, Shape.rowMajor_val_three]
    refine Eq.trans ?_ (congrArg (· * 1024 + (j 1).val) hk.symm)
    show (k.val / 512 * 512 + k.val % 512) * 1024 + (j 1).val = k.val * 1024 + (j 1).val
    omega

variable (m : (ℓ : Loc nD τ sig) → Buf (Elt Ideal) ℓ) (c : Dev nD)

theorem index0 : ∀ t : Fin cfg0.N, win0_0.index t = ![t.val % 4, 0] := (by decide +kernel : ∀ t : Fin grid0.N, _)
theorem index1 : ∀ t : Fin cfg0.N, win0_1.index t = ![0, 0, t.val / 4] := (by decide +kernel : ∀ t : Fin grid0.N, _)
theorem index2 : ∀ t : Fin cfg0.N, win0_2.index t = ![t.val % 4, t.val / 4] := (by decide +kernel : ∀ t : Fin grid0.N, _)

theorem x_apply (t : Fin cfg0.N) (a : Fin 1024) (k : Fin 2048) (r : Fin 4096) (l : Fin 2048) (hr : r.val = t.val % 4 * 1024 + a.val) (hl : l.val = k.val) :
    iblk m c 0 t (ix2 a k) = m ((c : Thread nD τ).loc main_arg0) (ix2 r l) := by
  have e1 : (win0_0.blk t).view.emb (ix2 a k) = ix2 r l := by
    blk_ext [index0] <;> first | exact hl.symm | (change _ + a.val = r.val; omega)
  blk_simp [iblk]
  rw [e1, V_main_arg0]

theorem w_apply (t : Fin cfg0.N) (u : Fin 4) (v : Fin 512) (z : Fin 1024) (p : Fin 4) (o : Fin 512) (q : Fin 2048) (hp : p.val = u.val)
    (ho : o.val = v.val) (hq : q.val = t.val / 4 * 1024 + z.val) : iblk m c 1 t (ix3 u v z) = m ((c : Thread nD τ).loc main_arg1) (ix3 p o q) := by
  have e1 : (win0_1.blk t).view.emb (ix3 u v z) = ix3 p o q := by
    blk_ext [index1] <;> first | exact hp.symm | exact ho.symm | exact hq.symm | (change _ = p.val; omega) | (change _ + v.val = o.val; omega) | (change _ + z.val = q.val; omega)
  blk_simp [iblk]
  rw [e1, V_main_arg1]

/-- What a point writes. -/
theorem point (t : Fin cfg0.N) : (out0_2 (iblk m c 0 t) (iblk m c 1 t)) = k0_pay1 (iblk m c 1 t) (iblk m c 0 t) := by
  unfold out0_2
  frame_out

/-- The kernel's result. -/
theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  have hN : t.val < 8 := lt_of_lt_of_eq t.isLt (show cfg0.N = 8 from N_0)
  obtain ⟨a, b, rfl⟩ : ∃ (a : Fin 1024) (b : Fin 1024), y = ix2 a b := ⟨y 0, y 1, eq_ix2 y⟩
  have ha := a.isLt
  have hb := b.isLt
  have e1 : (win0_2.blk t).view.emb (ix2 a b) = ix2 (⟨t.val % 4 * 1024 + a.val, by omega⟩ : Fin 4096)
      (⟨t.val / 4 * 1024 + b.val, by omega⟩ : Fin 2048) := by
    blk_ext [index2] <;> first | rfl | (change _ + a.val = _; omega) | (change _ + b.val = _; omega)
  rw [e1, point m c t]
  refine (tile_apply _ _ _).trans ?_
  unfold out part
  refine Finset.sum_congr rfl fun k _ => ?_
  have hk := k.isLt
  refine congrArg₂ (· * ·) (x_apply m c _ _ _ _ _ ?_ ?_) (w_apply m c _ _ _ _ _ _ _ ?_ ?_ ?_)
  · show t.val % 4 * 1024 + a.val = t.val % 4 * 1024 + a.val
    rfl
  · rfl
  · show k.val / 512 = k.val / 512
    rfl
  · show k.val % 512 = k.val % 512
    rfl
  · show (t.val / 4 * 1024 + b.val) = t.val / 4 * 1024 + b.val
    omega

/-- The reference's result. -/
theorem reference_out (x : FVec Ideal S4096x2048 .bf16) (w : FVec Ideal S4x512x2048 .bf16) :
    Host.dotGeneral (F := Ideal) Cert.Reference16Ideal.dot_S4096x2048_S2048x2048_S4096x2048_1_0_0_1_n_n none (extf .f32 x Cert.Reference16Ideal.Gen.bitsLt_bf16_f32)
      (shapeCast _ (extf .f32 w Cert.Reference16Ideal.Gen.bitsLt_bf16_f32) Cert.Reference16Ideal.Gen.shapeCasts_S4x512x2048_S2048x2048) = out x w := by
  funext i
  have hi := (i 1).isLt
  change (i 1).val < 2048 at hi
  refine (host_dot Cert.Reference16Ideal.dot_S4096x2048_S2048x2048_S4096x2048_1_0_0_1_n_n 2048 rfl rfl _ _ i).trans ?_
  refine Finset.sum_congr rfl fun l _ => ?_
  have hl := l.isLt
  have hk := contrEquiv1_symm_val Cert.Reference16Ideal.dot_S4096x2048_S2048x2048_S4096x2048_1_0_0_1_n_n 2048 rfl rfl l
  refine congrArg₂ (· * ·) (congrArg x (funext fun a => Fin.ext ?_))
    ((shapeCast_apply _ _ _ (ix3 (⟨l.val / 512, by have h1 := l.isLt; change l.val < 2048 at h1; omega⟩ : Fin 4) (⟨l.val % 512, by omega⟩ : Fin 512) (i 1)) ?_).trans (congrArg w (funext fun a => Fin.ext ?_)))
  · match a with
    | ⟨0, _⟩ => rfl
    | ⟨1, _⟩ => exact hk
  · rw [Shape.rowMajor_val_two, Shape.rowMajor_val_three]
    refine Eq.trans ?_ (congrArg (· * 2048 + (i 1).val) hk.symm)
    show (l.val / 512 * 512 + l.val % 512) * 2048 + (i 1).val = l.val * 2048 + (i 1).val
    omega
  · match a with
    | ⟨0, _⟩ => rfl
    | ⟨1, _⟩ => rfl
    | ⟨2, _⟩ => rfl

end Cert.Mul.Sixteen

end
-- ==== Proof.Claims.Sixteen.lean ====
module

public import proofs.«01_k».proof.Defs
public import proofs.«01_k».proof.Proof.Gen.Kernel16.Frame
public import proofs.«01_k».proof.Proof.Gen.Kernel16Ideal.Frame
public import proofs.«01_k».proof.Proof.Mul.Sixteen

/-! The product with a square weight cut by rows: the claims. -/

@[expose] public section

noncomputable section

namespace Cert.Proof.Sixteen

open Idealize.ShloMosaic Idealize.ShloMosaic.TcCoe Idealize.SL.Sem

instance : Cert.Kernel16.Facts := Cert.Kernel16.Gen.facts
instance : Cert.Kernel16Ideal.Facts := Cert.Kernel16Ideal.Gen.facts
instance : Cert.Reference16Ideal.Facts := Cert.Reference16Ideal.Gen.facts

/-- The kernel runs, leaves its arguments and its counters as it found them. -/
theorem frame_p : Cert.quiescent_Kernel16 := fun m ρ _ => Cert.Kernel16.Gen.frame m ρ

/-- So does the kernel over the extended reals. -/
theorem frame_pi : Cert.quiescent_Kernel16Ideal := fun m ρ _ => Cert.Kernel16Ideal.Gen.frame m ρ

/-- So does the reference over the extended reals. -/
theorem frame_ri : Cert.quiescent_Reference16Ideal := fun m ρ _ =>
  (θ_run Cert.Reference16Ideal.defs _ _).mono (fun r h => ⟨fun c => (h c).2, Idealize.ShloMosaic.sem_eq_zero_of_no_sems (by decide) r.2⟩)
    (Cert.Reference16Ideal.Value.run (F := Ideal) m ρ)

/-- Over the extended reals the kernel and the reference end with the same array. -/
theorem algebraic : Cert.algebraic_Kernel16Ideal_Reference16Ideal := by
  intro m ρ m' ρ' hm hagree
  refine ⟨fun c => Cert.Mul.Sixteen.out (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)), ?_, ?_⟩
  · refine (θ_run Cert.Kernel16Ideal.defs _ _).mono (fun r h c => ?_) (Cert.Kernel16Ideal.Value.run_blocks (F := Ideal) m ρ)
    exact ⟨(h c).1.trans (Cert.Mul.Sixteen.array m c), (h c).2⟩
  · refine (θ_run Cert.Reference16Ideal.defs _ _).mono (fun r h c => ?_) (Cert.Reference16Ideal.Value.run (F := Ideal) m' ρ')
    obtain ⟨a0, a1⟩ := hagree c
    exact ⟨(h c).1.trans ((Cert.Mul.Sixteen.reference_out _ _).trans (congrArg₂ Cert.Mul.Sixteen.out a0 a1)), (h c).2⟩

end Cert.Proof.Sixteen

end
-- ==== Proof.Mul.Seventeen.lean ====
module

public import proofs.«01_k».proof.Proof.Gen.Kernel17Ideal.Value
public import proofs.«01_k».proof.Proof.Gen.Reference17Ideal.Run
public import proofs.«01_k».proof.Proof.Mul.Dots
public import Idealize.ShloMosaic.Lib.Pipeline.ValueKit
public import Idealize.ShloMosaic.Lib.ValueLayout

/-! The projection of a layer's own input. -/

@[expose] public section

set_option maxRecDepth 16384

noncomputable section

namespace Cert.Mul.Seventeen

open Idealize.ShloMosaic hiding ix2 ix3 eq_ix2 eq_ix3
open Idealize.ShloMosaic.ValueIdx Idealize.ShloMosaic.TcCoe Idealize.ShloMosaic.Pipeline Idealize.SL.Sem Cert.Kernel17Ideal Cert.Kernel17Ideal.Gen

/-- The product. -/
def out (x : FVec Ideal S4096x256 .f32) (w : FVec Ideal S4x256x512 .bf16) : FVec Ideal S4096x2048 .f32 := fun i =>
  ∑ l : Fin 256, x (ix2 (i 0) l) * w (ix3 (⟨(i 1).val / 512, by have h1 := (i 1).isLt; change (i 1).val < 2048 at h1; omega⟩ : Fin 4) l (⟨(i 1).val % 512, by omega⟩ : Fin 512))

/-- One tile's product. -/
def part (x : FVec Ideal S1024x256 .f32) (w : FVec Ideal S1x256x512 .bf16) (j : S1024x512.Idx) : EReal :=
  ∑ k : Fin 256, x (ix2 (j 0) k) * w (ix3 0 k (j 1))

theorem tile_apply (x : FVec Ideal S1024x256 .f32) (w : FVec Ideal S1x256x512 .bf16) (j : S1024x512.Idx) :
    (k0_pay1 (F := Ideal) w x j : EReal) = part x w j := by
  unfold k0_pay1 part
  have hj := (j 1).isLt
  change (j 1).val < 512 at hj
  refine (tile_dot dot_S1024x256_S256x512_S1024x512_1_0_0_1_n_n 256 rfl rfl _ _ j).trans ?_
  refine Finset.sum_congr rfl fun k _ => ?_
  have hk := contrEquiv1_symm_val dot_S1024x256_S256x512_S1024x512_1_0_0_1_n_n 256 rfl rfl k
  refine congrArg₂ (· * ·) (congrArg x (funext fun a => Fin.ext ?_)) (shapeCast_apply w _ _ _ ?_)
  · match a with
    | ⟨0, _⟩ => rfl
    | ⟨1, _⟩ => exact hk
  · rw [Shape.rowMajor_val_two, Shape.rowMajor_val_three]
    refine Eq.trans ?_ (congrArg (· * 512 + (j 1).val) hk.symm)
    show (0 * 256 + k.val) * 512 + (j 1).val = k.val * 512 + (j 1).val
    omega

variable (m : (ℓ : Loc nD τ sig) → Buf (Elt Ideal) ℓ) (c : Dev nD)

theorem index0 : ∀ t : Fin cfg0.N, win0_0.index t = ![t.val % 4, 0] := (by decide +kernel : ∀ t : Fin grid0.N, _)
theorem index1 : ∀ t : Fin cfg0.N, win0_1.index t = ![t.val / 4, 0, 0] := (by decide +kernel : ∀ t : Fin grid0.N, _)
theorem index2 : ∀ t : Fin cfg0.N, win0_2.index t = ![t.val % 4, t.val / 4] := (by decide +kernel : ∀ t : Fin grid0.N, _)

theorem x_apply (t : Fin cfg0.N) (a : Fin 1024) (k : Fin 256) (r : Fin 4096) (l : Fin 256) (hr : r.val = t.val % 4 * 1024 + a.val) (hl : l.val = k.val) :
    iblk m c 0 t (ix2 a k) = m ((c : Thread nD τ).loc main_arg0) (ix2 r l) := by
  have e1 : (win0_0.blk t).view.emb (ix2 a k) = ix2 r l := by
    blk_ext [index0] <;> first | exact hl.symm | (change _ + a.val = r.val; omega)
  blk_simp [iblk]
  rw [e1, V_main_arg0]

theorem w_apply (t : Fin cfg0.N) (v : Fin 256) (z : Fin 512) (p : Fin 4) (o : Fin 256) (q : Fin 512) (hp : p.val = t.val / 4)
    (ho : o.val = v.val) (hq : q.val = z.val) : iblk m c 1 t (ix3 0 v z) = m ((c : Thread nD τ).loc main_arg1) (ix3 p o q) := by
  have e1 : (win0_1.blk t).view.emb (ix3 0 v z) = ix3 p o q := by
    blk_ext [index1] <;> first | exact hp.symm | exact ho.symm | exact hq.symm | (change _ = p.val; omega) | (change _ + v.val = o.val; omega) | (change _ + z.val = q.val; omega)
  blk_simp [iblk]
  rw [e1, V_main_arg1]

/-- What a point writes. -/
theorem point (t : Fin cfg0.N) : (out0_2 (iblk m c 0 t) (iblk m c 1 t)) = k0_pay1 (iblk m c 1 t) (iblk m c 0 t) := by
  unfold out0_2
  frame_out

/-- The kernel's result. -/
theorem array : (dats m 0 c).arrAt 2 cfg0.N = out (m ((c : Thread nD τ).loc main_arg0)) (m ((c : Thread nD τ).loc main_arg1)) := by
  refine (dats m 0 c).arrAt_eq_of_covers 2 _ (by decide +kernel) fun t hf y => ?_
  blk_simp
  rw [after0_2]
  have hN : t.val < 16 := lt_of_lt_of_eq t.isLt (show cfg0.N = 16 from N_0)
  obtain ⟨a, b, rfl⟩ : ∃ (a : Fin 1024) (b : Fin 512), y = ix2 a b := ⟨y 0, y 1, eq_ix2 y⟩
  have ha := a.isLt
  have hb := b.isLt
  have e1 : (win0_2.blk t).view.emb (ix2 a b) = ix2 (⟨t.val % 4 * 1024 + a.val, by omega⟩ : Fin 4096)
      (⟨t.val / 4 * 512 + b.val, by omega⟩ : Fin 2048) := by
    blk_ext [index2] <;> first | rfl | (change _ + a.val = _; omega) | (change _ + b.val = _; omega)
  rw [e1, point m c t]
  refine (tile_apply _ _ _).trans ?_
  unfold out part
  refine Finset.sum_congr rfl fun k _ => ?_
  have hk := k.isLt
  refine congrArg₂ (· * ·) (x_apply m c _ _ _ _ _ ?_ ?_) (w_apply m c _ _ _ _ _ _ ?_ ?_ ?_)
  · show t.val % 4 * 1024 + a.val = t.val % 4 * 1024 + a.val
    rfl
  · rfl
  · show (t.val / 4 * 512 + b.val) / 512 = t.val / 4
    omega
  · show k.val = k.val
    rfl
  · show (t.val / 4 * 512 + b.val) % 512 = b.val
    omega

/-- The reference's result. -/
theorem reference_out (x : FVec Ideal S4096x256 .f32) (w : FVec Ideal S4x256x512 .bf16) :
    Host.dotGeneral (F := Ideal) Cert.Reference17Ideal.dot_S4096x256_S256x2048_S4096x2048_1_0_0_1_n_n none x
      (shapeCast _ (transpose Cert.Reference17Ideal.S256x4x512 [1, 0, 2] (extf .f32 w Cert.Reference17Ideal.Gen.bitsLt_bf16_f32)
        Cert.Reference17Ideal.Gen.transposes_S4x256x512_S256x4x512_1_0_2) Cert.Reference17Ideal.Gen.shapeCasts_S256x4x512_S256x2048) = out x w := by
  funext i
  have hi := (i 1).isLt
  change (i 1).val < 2048 at hi
  refine (host_dot Cert.Reference17Ideal.dot_S4096x256_S256x2048_S4096x2048_1_0_0_1_n_n 256 rfl rfl _ _ i).trans ?_
  refine Finset.sum_congr rfl fun l _ => ?_
  have hl := l.isLt
  have hk := contrEquiv1_symm_val Cert.Reference17Ideal.dot_S4096x256_S256x2048_S4096x2048_1_0_0_1_n_n 256 rfl rfl l
  refine congrArg₂ (· * ·) (congrArg x (funext fun a => Fin.ext ?_))
    ((shapeCast_apply _ _ _ (ix3 l (⟨(i 1).val / 512, by have h1 := (i 1).isLt; change (i 1).val < 2048 at h1; omega⟩ : Fin 4) (⟨(i 1).val % 512, by omega⟩ : Fin 512)) ?_).trans (congrArg w (funext fun a => Fin.ext ?_)))
  · match a with
    | ⟨0, _⟩ => rfl
    | ⟨1, _⟩ => exact hk
  · rw [Shape.rowMajor_val_two, Shape.rowMajor_val_three]
    refine Eq.trans ?_ (congrArg (· * 2048 + (i 1).val) hk.symm)
    show (l.val * 4 + (i 1).val / 512) * 512 + (i 1).val % 512 = l.val * 2048 + (i 1).val
    omega
  · match a with
    | ⟨0, _⟩ => rfl
    | ⟨1, _⟩ => rfl
    | ⟨2, _⟩ => rfl

end Cert.Mul.Seventeen

end
-- ==== Proof.Claims.Seventeen.lean ====
module

public import proofs.«01_k».proof.Defs
public import proofs.«01_k».proof.Proof.Gen.Kernel17.Frame
public import proofs.«01_k».proof.Proof.Gen.Kernel17Ideal.Frame
public import proofs.«01_k».proof.Proof.Mul.Seventeen

/-! The projection of a layer's own input: the claims. -/

@[expose] public section

noncomputable section

namespace Cert.Proof.Seventeen

open Idealize.ShloMosaic Idealize.ShloMosaic.TcCoe Idealize.SL.Sem

instance : Cert.Kernel17.Facts := Cert.Kernel17.Gen.facts
instance : Cert.Kernel17Ideal.Facts := Cert.Kernel17Ideal.Gen.facts
instance : Cert.Reference17Ideal.Facts := Cert.Reference17Ideal.Gen.facts

/-- The kernel runs, leaves its arguments and its counters as it found them. -/
theorem frame_p : Cert.quiescent_Kernel17 := fun m ρ _ => Cert.Kernel17.Gen.frame m ρ

/-- So does the kernel over the extended reals. -/
theorem frame_pi : Cert.quiescent_Kernel17Ideal := fun m ρ _ => Cert.Kernel17Ideal.Gen.frame m ρ

/-- So does the reference over the extended reals. -/
theorem frame_ri : Cert.quiescent_Reference17Ideal := fun m ρ _ =>
  (θ_run Cert.Reference17Ideal.defs _ _).mono (fun r h => ⟨fun c => (h c).2, Idealize.ShloMosaic.sem_eq_zero_of_no_sems (by decide) r.2⟩)
    (Cert.Reference17Ideal.Value.run (F := Ideal) m ρ)

/-- Over the extended reals the kernel and the reference end with the same array. -/
theorem algebraic : Cert.algebraic_Kernel17Ideal_Reference17Ideal := by
  intro m ρ m' ρ' hm hagree
  refine ⟨fun c => Cert.Mul.Seventeen.out (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)), ?_, ?_⟩
  · refine (θ_run Cert.Kernel17Ideal.defs _ _).mono (fun r h c => ?_) (Cert.Kernel17Ideal.Value.run_blocks (F := Ideal) m ρ)
    exact ⟨(h c).1.trans (Cert.Mul.Seventeen.array m c), (h c).2⟩
  · refine (θ_run Cert.Reference17Ideal.defs _ _).mono (fun r h c => ?_) (Cert.Reference17Ideal.Value.run (F := Ideal) m' ρ')
    obtain ⟨a0, a1⟩ := hagree c
    exact ⟨(h c).1.trans ((Cert.Mul.Seventeen.reference_out _ _).trans (congrArg₂ Cert.Mul.Seventeen.out a0 a1)), (h c).2⟩

end Cert.Proof.Seventeen

end
-- ==== Proof.Step.Adam.lean ====
module

public import Idealize.ShloMosaic.PureOps.Ideal.Laws

/-! One step of the optimiser on one number. -/

@[expose] public section

noncomputable section

namespace Cert.Step.Adam

open Idealize.ShloMosaic

/-- A word's number. -/
abbrev word (b : BitVec 32) : EReal := Ideal.ofBits .f32 b

/-- The new mean of the gradient. -/
def mean (g m : EReal) : EReal := word 0x3F666666#32 * m + word 0x3DCCCCCD#32 * g

/-- The new mean of its square. -/
def square (g v : EReal) : EReal := word 0x3F7FBE77#32 * v + word 0x3A83126F#32 * (g * g)

/-- The weight's change. -/
def delta (w g m v : EReal) : EReal :=
  word 0xBA83126F#32 * (Ideal.div (Ideal.div (mean g m) (word 0x3F26BD02#32))
    (Ideal.sqrt (Ideal.div (square g v) (word 0x3C231ACC#32)) + word 0x322BCC77#32) + word 0x3C23D70A#32 * w)

end Cert.Step.Adam

end
-- ==== Proof.Step.Eighteen.lean ====
module

public import proofs.«01_k».proof.Proof.Gen.Kernel18Ideal.Value
public import proofs.«01_k».proof.Proof.Gen.Reference18Ideal.Run
public import proofs.«01_k».proof.Proof.Step.Adam
public import Idealize.ShloMosaic.Lib.Pipeline.ValueKit
public import Idealize.ShloMosaic.Lib.ValueLayout

/-! The optimiser's step of w_in. -/

@[expose] public section

set_option maxRecDepth 16384

noncomputable section

namespace Cert.Step.Eighteen

open Idealize.ShloMosaic hiding ix2 ix3 eq_ix2 eq_ix3
open Idealize.ShloMosaic.ValueIdx Idealize.ShloMosaic.TcCoe Idealize.ShloMosaic.Pipeline Idealize.SL.Sem Cert.Kernel18Ideal Cert.Kernel18Ideal.Gen

/-- The change of every entry. -/
def out0 (w g m v : FVec Ideal S8192x1536 .f32) : FVec Ideal S8192x1536 .f32 := fun i => Adam.delta (w i) (g i) (m i) (v i)

/-- The new mean of every entry's gradient. -/
def out1 (w g m v : FVec Ideal S8192x1536 .f32) : FVec Ideal S8192x1536 .f32 := fun i => Adam.mean (g i) (m i)

/-- The new mean of its square. -/
def out2 (w g m v : FVec Ideal S8192x1536 .f32) : FVec Ideal S8192x1536 .f32 := fun i => Adam.square (g i) (v i)

/-- The gradient, handed on. -/
def out3 (w g m v : FVec Ideal S8192x1536 .f32) : FVec Ideal S8192x1536 .f32 := fun i => g i

theorem tile0 (w g m v : FVec Ideal S128x1536 .f32) (i : S128x1536.Idx) : (k0_pay3 g m v w : FVec Ideal S128x1536 .f32) i = (Adam.delta (w i) (g i) (m i) (v i) : EReal) := rfl

theorem tile1 (w g m v : FVec Ideal S128x1536 .f32) (i : S128x1536.Idx) : (k0_pay1 g m : FVec Ideal S128x1536 .f32) i = (Adam.mean (g i) (m i) : EReal) := rfl

theorem tile2 (w g m v : FVec Ideal S128x1536 .f32) (i : S128x1536.Idx) : (k0_pay2 g v : FVec Ideal S128x1536 .f32) i = (Adam.square (g i) (v i) : EReal) := rfl

theorem tile3 (w g m v : FVec Ideal S128x1536 .f32) (i : S128x1536.Idx) : (g : FVec Ideal S128x1536 .f32) i = (g i : EReal) := rfl

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

theorem read0 (t : Fin cfg0.N) (a : Fin 128) (b : Fin 1536) (r : Fin 8192) (hr : r.val = t.val * 128 + a.val) :
    iblk m c 0 t (ix2 a b) = m ((c : Thread nD τ).loc main_arg0) (ix2 r b) := by
  have e1 : (win0_0.blk t).view.emb (ix2 a b) = ix2 r b := by
    blk_ext [index0] <;> first | rfl | (change _ + a.val = r.val; omega)
  blk_simp [iblk]
  rw [e1, V_main_arg0]

theorem read1 (t : Fin cfg0.N) (a : Fin 128) (b : Fin 1536) (r : Fin 8192) (hr : r.val = t.val * 128 + a.val) :
    iblk m c 1 t (ix2 a b) = m ((c : Thread nD τ).loc main_arg1) (ix2 r b) := by
  have e1 : (win0_1.blk t).view.emb (ix2 a b) = ix2 r b := by
    blk_ext [index1] <;> first | rfl | (change _ + a.val = r.val; omega)
  blk_simp [iblk]
  rw [e1, V_main_arg1]

theorem read2 (t : Fin cfg0.N) (a : Fin 128) (b : Fin 1536) (r : Fin 8192) (hr : r.val = t.val * 128 + a.val) :
    iblk m c 2 t (ix2 a b) = m ((c : Thread nD τ).loc main_arg2) (ix2 r b) := by
  have e1 : (win0_2.blk t).view.emb (ix2 a b) = ix2 r b := by
    blk_ext [index2] <;> first | rfl | (change _ + a.val = r.val; omega)
  blk_simp [iblk]
  rw [e1, V_main_arg2]

theorem read3 (t : Fin cfg0.N) (a : Fin 128) (b : Fin 1536) (r : Fin 8192) (hr : r.val = t.val * 128 + a.val) :
    iblk m c 3 t (ix2 a b) = m ((c : Thread nD τ).loc main_arg3) (ix2 r b) := by
  have e1 : (win0_3.blk t).view.emb (ix2 a b) = ix2 r b := by
    blk_ext [index3] <;> first | rfl | (change _ + a.val = r.val; omega)
  blk_simp [iblk]
  rw [e1, V_main_arg3]

theorem point0 (t : Fin cfg0.N) : (out0_4 (iblk m c 0 t) (iblk m c 1 t) (iblk m c 2 t) (iblk m c 3 t)) = k0_pay3 (iblk m c 1 t) (iblk m c 2 t) (iblk m c 3 t) (iblk m c 0 t) := by
  unfold out0_4
  frame_out

/-- The kernel's result 1. -/
theorem array0 : (dats m 0 c).arrAt 4 cfg0.N = out0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have hN : t.val < 64 := lt_of_lt_of_eq t.isLt (show cfg0.N = 64 from N_0)
  obtain ⟨a, b, rfl⟩ : ∃ (a : Fin 128) (b : Fin 1536), y = ix2 a b := ⟨y 0, y 1, eq_ix2 y⟩
  have ha := a.isLt
  have hb := b.isLt
  have e1 : (win0_4.blk t).view.emb (ix2 a b) = ix2 (⟨t.val * 128 + a.val, by omega⟩ : Fin 8192) b := by
    blk_ext [index4] <;> first | rfl | (change _ + a.val = _; omega)
  rw [e1, point0 m c t]
  refine (tile0 (iblk m c 0 t) (iblk m c 1 t) (iblk m c 2 t) (iblk m c 3 t) _).trans ?_
  unfold out0
  rw [read0 m c t a b (⟨t.val * 128 + a.val, by omega⟩ : Fin 8192) rfl, read1 m c t a b (⟨t.val * 128 + a.val, by omega⟩ : Fin 8192) rfl, read2 m c t a b (⟨t.val * 128 + a.val, by omega⟩ : Fin 8192) rfl, read3 m c t a b (⟨t.val * 128 + a.val, by omega⟩ : Fin 8192) rfl]

theorem point1 (t : Fin cfg0.N) : (out0_5 (iblk m c 0 t) (iblk m c 1 t) (iblk m c 2 t) (iblk m c 3 t)) = k0_pay1 (iblk m c 1 t) (iblk m c 2 t) := by
  unfold out0_5
  frame_out

/-- The kernel's result 2. -/
theorem array1 : (dats m 0 c).arrAt 5 cfg0.N = out1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have hN : t.val < 64 := lt_of_lt_of_eq t.isLt (show cfg0.N = 64 from N_0)
  obtain ⟨a, b, rfl⟩ : ∃ (a : Fin 128) (b : Fin 1536), y = ix2 a b := ⟨y 0, y 1, eq_ix2 y⟩
  have ha := a.isLt
  have hb := b.isLt
  have e1 : (win0_5.blk t).view.emb (ix2 a b) = ix2 (⟨t.val * 128 + a.val, by omega⟩ : Fin 8192) b := by
    blk_ext [index5] <;> first | rfl | (change _ + a.val = _; omega)
  rw [e1, point1 m c t]
  refine (tile1 (iblk m c 0 t) (iblk m c 1 t) (iblk m c 2 t) (iblk m c 3 t) _).trans ?_
  unfold out1
  rw [read1 m c t a b (⟨t.val * 128 + a.val, by omega⟩ : Fin 8192) rfl, read2 m c t a b (⟨t.val * 128 + a.val, by omega⟩ : Fin 8192) rfl]

theorem point2 (t : Fin cfg0.N) : (out0_6 (iblk m c 0 t) (iblk m c 1 t) (iblk m c 2 t) (iblk m c 3 t)) = k0_pay2 (iblk m c 1 t) (iblk m c 3 t) := by
  unfold out0_6
  frame_out

/-- The kernel's result 3. -/
theorem array2 : (dats m 0 c).arrAt 6 cfg0.N = out2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  have hN : t.val < 64 := lt_of_lt_of_eq t.isLt (show cfg0.N = 64 from N_0)
  obtain ⟨a, b, rfl⟩ : ∃ (a : Fin 128) (b : Fin 1536), y = ix2 a b := ⟨y 0, y 1, eq_ix2 y⟩
  have ha := a.isLt
  have hb := b.isLt
  have e1 : (win0_6.blk t).view.emb (ix2 a b) = ix2 (⟨t.val * 128 + a.val, by omega⟩ : Fin 8192) b := by
    blk_ext [index6] <;> first | rfl | (change _ + a.val = _; omega)
  rw [e1, point2 m c t]
  refine (tile2 (iblk m c 0 t) (iblk m c 1 t) (iblk m c 2 t) (iblk m c 3 t) _).trans ?_
  unfold out2
  rw [read1 m c t a b (⟨t.val * 128 + a.val, by omega⟩ : Fin 8192) rfl, read3 m c t a b (⟨t.val * 128 + a.val, by omega⟩ : Fin 8192) rfl]

theorem point3 (t : Fin cfg0.N) : (out0_7 (iblk m c 0 t) (iblk m c 1 t) (iblk m c 2 t) (iblk m c 3 t)) = iblk m c 1 t := by
  unfold out0_7
  frame_out

/-- The kernel's result 4. -/
theorem array3 : (dats m 0 c).arrAt 7 cfg0.N = out3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have hN : t.val < 64 := lt_of_lt_of_eq t.isLt (show cfg0.N = 64 from N_0)
  obtain ⟨a, b, rfl⟩ : ∃ (a : Fin 128) (b : Fin 1536), y = ix2 a b := ⟨y 0, y 1, eq_ix2 y⟩
  have ha := a.isLt
  have hb := b.isLt
  have e1 : (win0_7.blk t).view.emb (ix2 a b) = ix2 (⟨t.val * 128 + a.val, by omega⟩ : Fin 8192) b := by
    blk_ext [index7] <;> first | rfl | (change _ + a.val = _; omega)
  rw [e1, point3 m c t]
  unfold out3
  rw [read1 m c t a b (⟨t.val * 128 + a.val, by omega⟩ : Fin 8192) rfl]

end Cert.Step.Eighteen

namespace Cert.Step.Eighteen

open Idealize.ShloMosaic Cert.Reference18Ideal Cert.Reference18Ideal.Gen

/-- The reference's result 1. -/
theorem reference_out0 (x0 x1 x2 x3 : FVec Ideal S8192x1536 .f32) : mulf (broadcastInDim S8192x1536 ![] bcast_S_S8192x1536 (constant S_ .f32 0xBA83126F#32)) (addf (Host.divf (Host.divf (addf (mulf (broadcastInDim S8192x1536 ![] bcast_S_S8192x1536 (constant S_ .f32 0x3F666666#32)) x2) (mulf (broadcastInDim S8192x1536 ![] bcast_S_S8192x1536 (constant S_ .f32 0x3DCCCCCD#32)) x1)) (broadcastInDim S8192x1536 ![] bcast_S_S8192x1536 (constant S_ .f32 0x3F26BD02#32))) (addf (Host.sqrt (Host.divf (addf (mulf (broadcastInDim S8192x1536 ![] bcast_S_S8192x1536 (constant S_ .f32 0x3F7FBE77#32)) x3) (mulf (broadcastInDim S8192x1536 ![] bcast_S_S8192x1536 (constant S_ .f32 0x3A83126F#32)) (mulf x1 x1))) (broadcastInDim S8192x1536 ![] bcast_S_S8192x1536 (constant S_ .f32 0x3C231ACC#32)))) (broadcastInDim S8192x1536 ![] bcast_S_S8192x1536 (constant S_ .f32 0x322BCC77#32)))) (mulf (broadcastInDim S8192x1536 ![] bcast_S_S8192x1536 (constant S_ .f32 0x3C23D70A#32)) x0)) = out0 x0 x1 x2 x3 := rfl

/-- The reference's result 2. -/
theorem reference_out1 (x0 x1 x2 x3 : FVec Ideal S8192x1536 .f32) : addf (mulf (broadcastInDim S8192x1536 ![] bcast_S_S8192x1536 (constant S_ .f32 0x3F666666#32)) x2) (mulf (broadcastInDim S8192x1536 ![] bcast_S_S8192x1536 (constant S_ .f32 0x3DCCCCCD#32)) x1) = out1 x0 x1 x2 x3 := rfl

/-- The reference's result 3. -/
theorem reference_out2 (x0 x1 x2 x3 : FVec Ideal S8192x1536 .f32) : addf (mulf (broadcastInDim S8192x1536 ![] bcast_S_S8192x1536 (constant S_ .f32 0x3F7FBE77#32)) x3) (mulf (broadcastInDim S8192x1536 ![] bcast_S_S8192x1536 (constant S_ .f32 0x3A83126F#32)) (mulf x1 x1)) = out2 x0 x1 x2 x3 := rfl

/-- The reference's result 4. -/
theorem reference_out3 (x0 x1 x2 x3 : FVec Ideal S8192x1536 .f32) : x1 = out3 x0 x1 x2 x3 := rfl

theorem out0_congr {w w' g g' m m' v v' : FVec Ideal S8192x1536 .f32} (hw : w = w') (hg : g = g') (hm : m = m') (hv : v = v') : out0 w g m v = out0 w' g' m' v' := by
  rw [hw, hg, hm, hv]

theorem out1_congr {w w' g g' m m' v v' : FVec Ideal S8192x1536 .f32} (hw : w = w') (hg : g = g') (hm : m = m') (hv : v = v') : out1 w g m v = out1 w' g' m' v' := by
  rw [hw, hg, hm, hv]

theorem out2_congr {w w' g g' m m' v v' : FVec Ideal S8192x1536 .f32} (hw : w = w') (hg : g = g') (hm : m = m') (hv : v = v') : out2 w g m v = out2 w' g' m' v' := by
  rw [hw, hg, hm, hv]

theorem out3_congr {w w' g g' m m' v v' : FVec Ideal S8192x1536 .f32} (hw : w = w') (hg : g = g') (hm : m = m') (hv : v = v') : out3 w g m v = out3 w' g' m' v' := by
  rw [hw, hg, hm, hv]

end Cert.Step.Eighteen

end
-- ==== Proof.Claims.Eighteen.lean ====
module

public import proofs.«01_k».proof.Defs
public import proofs.«01_k».proof.Proof.Gen.Kernel18.Frame
public import proofs.«01_k».proof.Proof.Gen.Kernel18Ideal.Frame
public import proofs.«01_k».proof.Proof.Step.Eighteen

/-! The optimiser's step of w_in: the claims. -/

@[expose] public section

noncomputable section

namespace Cert.Proof.Eighteen

open Idealize.ShloMosaic Idealize.ShloMosaic.TcCoe Idealize.SL.Sem

instance : Cert.Kernel18.Facts := Cert.Kernel18.Gen.facts
instance : Cert.Kernel18Ideal.Facts := Cert.Kernel18Ideal.Gen.facts
instance : Cert.Reference18Ideal.Facts := Cert.Reference18Ideal.Gen.facts

/-- The kernel runs, leaves its arguments and its counters as it found them. -/
theorem frame_p : Cert.quiescent_Kernel18 := fun m ρ _ => Cert.Kernel18.Gen.frame m ρ

/-- So does the kernel over the extended reals. -/
theorem frame_pi : Cert.quiescent_Kernel18Ideal := fun m ρ _ => Cert.Kernel18Ideal.Gen.frame m ρ

/-- So does the reference over the extended reals. -/
theorem frame_ri : Cert.quiescent_Reference18Ideal := fun m ρ _ =>
  (θ_run Cert.Reference18Ideal.defs _ _).mono (fun r h => ⟨fun c => (h c).2.2.2.2, Idealize.ShloMosaic.sem_eq_zero_of_no_sems (by decide) r.2⟩)
    (Cert.Reference18Ideal.Value.run (F := Ideal) m ρ)

/-- Over the extended reals the kernel and the reference end with the same arrays. -/
theorem algebraic : Cert.algebraic_Kernel18Ideal_Reference18Ideal := by
  intro m ρ m' ρ' hm hagree
  refine ⟨fun c => Cert.Step.Eighteen.out0 (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)), fun c => Cert.Step.Eighteen.out1 (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)), fun c => Cert.Step.Eighteen.out2 (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)), fun c => Cert.Step.Eighteen.out3 (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)), ?_, ?_⟩
  · refine (θ_run Cert.Kernel18Ideal.defs _ _).mono (fun r h c => ?_) (Cert.Kernel18Ideal.Value.run_blocks (F := Ideal) m ρ)
    exact ⟨(h c).1.trans (Cert.Step.Eighteen.array0 m c), (h c).2.1.trans (Cert.Step.Eighteen.array1 m c), (h c).2.2.1.trans (Cert.Step.Eighteen.array2 m c), (h c).2.2.2.1.trans (Cert.Step.Eighteen.array3 m c), (h c).2.2.2.2⟩
  · refine (θ_run Cert.Reference18Ideal.defs _ _).mono (fun r h c => ?_) (Cert.Reference18Ideal.Value.run (F := Ideal) m' ρ')
    obtain ⟨a0, a1, a2, a3⟩ := hagree c
    exact ⟨(h c).1.trans ((Cert.Step.Eighteen.reference_out0 _ _ _ _ ).trans (Cert.Step.Eighteen.out0_congr a0 a1 a2 a3)), (h c).2.1.trans ((Cert.Step.Eighteen.reference_out1 _ _ _ _ ).trans (Cert.Step.Eighteen.out1_congr a0 a1 a2 a3)), (h c).2.2.1.trans ((Cert.Step.Eighteen.reference_out2 _ _ _ _ ).trans (Cert.Step.Eighteen.out2_congr a0 a1 a2 a3)), (h c).2.2.2.1.trans ((Cert.Step.Eighteen.reference_out3 _ _ _ _ ).trans (Cert.Step.Eighteen.out3_congr a0 a1 a2 a3)), (h c).2.2.2.2⟩

end Cert.Proof.Eighteen

end
-- ==== Proof.Step.Nineteen.lean ====
module

public import proofs.«01_k».proof.Proof.Gen.Kernel19Ideal.Value
public import proofs.«01_k».proof.Proof.Gen.Reference19Ideal.Run
public import proofs.«01_k».proof.Proof.Step.Adam
public import Idealize.ShloMosaic.Lib.Pipeline.ValueKit
public import Idealize.ShloMosaic.Lib.ValueLayout

/-! The optimiser's step of w_out. -/

@[expose] public section

set_option maxRecDepth 16384

noncomputable section

namespace Cert.Step.Nineteen

open Idealize.ShloMosaic hiding ix2 ix3 eq_ix2 eq_ix3
open Idealize.ShloMosaic.ValueIdx Idealize.ShloMosaic.TcCoe Idealize.ShloMosaic.Pipeline Idealize.SL.Sem Cert.Kernel19Ideal Cert.Kernel19Ideal.Gen

/-- The change of every entry. -/
def out0 (w g m v : FVec Ideal S2048x2048 .f32) : FVec Ideal S2048x2048 .f32 := fun i => Adam.delta (w i) (g i) (m i) (v i)

/-- The new mean of every entry's gradient. -/
def out1 (w g m v : FVec Ideal S2048x2048 .f32) : FVec Ideal S2048x2048 .f32 := fun i => Adam.mean (g i) (m i)

/-- The new mean of its square. -/
def out2 (w g m v : FVec Ideal S2048x2048 .f32) : FVec Ideal S2048x2048 .f32 := fun i => Adam.square (g i) (v i)

/-- The gradient, handed on. -/
def out3 (w g m v : FVec Ideal S2048x2048 .f32) : FVec Ideal S2048x2048 .f32 := fun i => g i

theorem tile0 (w g m v : FVec Ideal S128x2048 .f32) (i : S128x2048.Idx) : (k0_pay3 g m v w : FVec Ideal S128x2048 .f32) i = (Adam.delta (w i) (g i) (m i) (v i) : EReal) := rfl

theorem tile1 (w g m v : FVec Ideal S128x2048 .f32) (i : S128x2048.Idx) : (k0_pay1 g m : FVec Ideal S128x2048 .f32) i = (Adam.mean (g i) (m i) : EReal) := rfl

theorem tile2 (w g m v : FVec Ideal S128x2048 .f32) (i : S128x2048.Idx) : (k0_pay2 g v : FVec Ideal S128x2048 .f32) i = (Adam.square (g i) (v i) : EReal) := rfl

theorem tile3 (w g m v : FVec Ideal S128x2048 .f32) (i : S128x2048.Idx) : (g : FVec Ideal S128x2048 .f32) i = (g i : EReal) := rfl

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

theorem read0 (t : Fin cfg0.N) (a : Fin 128) (b : Fin 2048) (r : Fin 2048) (hr : r.val = t.val * 128 + a.val) :
    iblk m c 0 t (ix2 a b) = m ((c : Thread nD τ).loc main_arg0) (ix2 r b) := by
  have e1 : (win0_0.blk t).view.emb (ix2 a b) = ix2 r b := by
    blk_ext [index0] <;> first | rfl | (change _ + a.val = r.val; omega)
  blk_simp [iblk]
  rw [e1, V_main_arg0]

theorem read1 (t : Fin cfg0.N) (a : Fin 128) (b : Fin 2048) (r : Fin 2048) (hr : r.val = t.val * 128 + a.val) :
    iblk m c 1 t (ix2 a b) = m ((c : Thread nD τ).loc main_arg1) (ix2 r b) := by
  have e1 : (win0_1.blk t).view.emb (ix2 a b) = ix2 r b := by
    blk_ext [index1] <;> first | rfl | (change _ + a.val = r.val; omega)
  blk_simp [iblk]
  rw [e1, V_main_arg1]

theorem read2 (t : Fin cfg0.N) (a : Fin 128) (b : Fin 2048) (r : Fin 2048) (hr : r.val = t.val * 128 + a.val) :
    iblk m c 2 t (ix2 a b) = m ((c : Thread nD τ).loc main_arg2) (ix2 r b) := by
  have e1 : (win0_2.blk t).view.emb (ix2 a b) = ix2 r b := by
    blk_ext [index2] <;> first | rfl | (change _ + a.val = r.val; omega)
  blk_simp [iblk]
  rw [e1, V_main_arg2]

theorem read3 (t : Fin cfg0.N) (a : Fin 128) (b : Fin 2048) (r : Fin 2048) (hr : r.val = t.val * 128 + a.val) :
    iblk m c 3 t (ix2 a b) = m ((c : Thread nD τ).loc main_arg3) (ix2 r b) := by
  have e1 : (win0_3.blk t).view.emb (ix2 a b) = ix2 r b := by
    blk_ext [index3] <;> first | rfl | (change _ + a.val = r.val; omega)
  blk_simp [iblk]
  rw [e1, V_main_arg3]

theorem point0 (t : Fin cfg0.N) : (out0_4 (iblk m c 0 t) (iblk m c 1 t) (iblk m c 2 t) (iblk m c 3 t)) = k0_pay3 (iblk m c 1 t) (iblk m c 2 t) (iblk m c 3 t) (iblk m c 0 t) := by
  unfold out0_4
  frame_out

/-- The kernel's result 1. -/
theorem array0 : (dats m 0 c).arrAt 4 cfg0.N = out0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have hN : t.val < 16 := lt_of_lt_of_eq t.isLt (show cfg0.N = 16 from N_0)
  obtain ⟨a, b, rfl⟩ : ∃ (a : Fin 128) (b : Fin 2048), y = ix2 a b := ⟨y 0, y 1, eq_ix2 y⟩
  have ha := a.isLt
  have hb := b.isLt
  have e1 : (win0_4.blk t).view.emb (ix2 a b) = ix2 (⟨t.val * 128 + a.val, by omega⟩ : Fin 2048) b := by
    blk_ext [index4] <;> first | rfl | (change _ + a.val = _; omega)
  rw [e1, point0 m c t]
  refine (tile0 (iblk m c 0 t) (iblk m c 1 t) (iblk m c 2 t) (iblk m c 3 t) _).trans ?_
  unfold out0
  rw [read0 m c t a b (⟨t.val * 128 + a.val, by omega⟩ : Fin 2048) rfl, read1 m c t a b (⟨t.val * 128 + a.val, by omega⟩ : Fin 2048) rfl, read2 m c t a b (⟨t.val * 128 + a.val, by omega⟩ : Fin 2048) rfl, read3 m c t a b (⟨t.val * 128 + a.val, by omega⟩ : Fin 2048) rfl]

theorem point1 (t : Fin cfg0.N) : (out0_5 (iblk m c 0 t) (iblk m c 1 t) (iblk m c 2 t) (iblk m c 3 t)) = k0_pay1 (iblk m c 1 t) (iblk m c 2 t) := by
  unfold out0_5
  frame_out

/-- The kernel's result 2. -/
theorem array1 : (dats m 0 c).arrAt 5 cfg0.N = out1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have hN : t.val < 16 := lt_of_lt_of_eq t.isLt (show cfg0.N = 16 from N_0)
  obtain ⟨a, b, rfl⟩ : ∃ (a : Fin 128) (b : Fin 2048), y = ix2 a b := ⟨y 0, y 1, eq_ix2 y⟩
  have ha := a.isLt
  have hb := b.isLt
  have e1 : (win0_5.blk t).view.emb (ix2 a b) = ix2 (⟨t.val * 128 + a.val, by omega⟩ : Fin 2048) b := by
    blk_ext [index5] <;> first | rfl | (change _ + a.val = _; omega)
  rw [e1, point1 m c t]
  refine (tile1 (iblk m c 0 t) (iblk m c 1 t) (iblk m c 2 t) (iblk m c 3 t) _).trans ?_
  unfold out1
  rw [read1 m c t a b (⟨t.val * 128 + a.val, by omega⟩ : Fin 2048) rfl, read2 m c t a b (⟨t.val * 128 + a.val, by omega⟩ : Fin 2048) rfl]

theorem point2 (t : Fin cfg0.N) : (out0_6 (iblk m c 0 t) (iblk m c 1 t) (iblk m c 2 t) (iblk m c 3 t)) = k0_pay2 (iblk m c 1 t) (iblk m c 3 t) := by
  unfold out0_6
  frame_out

/-- The kernel's result 3. -/
theorem array2 : (dats m 0 c).arrAt 6 cfg0.N = out2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  have hN : t.val < 16 := lt_of_lt_of_eq t.isLt (show cfg0.N = 16 from N_0)
  obtain ⟨a, b, rfl⟩ : ∃ (a : Fin 128) (b : Fin 2048), y = ix2 a b := ⟨y 0, y 1, eq_ix2 y⟩
  have ha := a.isLt
  have hb := b.isLt
  have e1 : (win0_6.blk t).view.emb (ix2 a b) = ix2 (⟨t.val * 128 + a.val, by omega⟩ : Fin 2048) b := by
    blk_ext [index6] <;> first | rfl | (change _ + a.val = _; omega)
  rw [e1, point2 m c t]
  refine (tile2 (iblk m c 0 t) (iblk m c 1 t) (iblk m c 2 t) (iblk m c 3 t) _).trans ?_
  unfold out2
  rw [read1 m c t a b (⟨t.val * 128 + a.val, by omega⟩ : Fin 2048) rfl, read3 m c t a b (⟨t.val * 128 + a.val, by omega⟩ : Fin 2048) rfl]

theorem point3 (t : Fin cfg0.N) : (out0_7 (iblk m c 0 t) (iblk m c 1 t) (iblk m c 2 t) (iblk m c 3 t)) = iblk m c 1 t := by
  unfold out0_7
  frame_out

/-- The kernel's result 4. -/
theorem array3 : (dats m 0 c).arrAt 7 cfg0.N = out3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have hN : t.val < 16 := lt_of_lt_of_eq t.isLt (show cfg0.N = 16 from N_0)
  obtain ⟨a, b, rfl⟩ : ∃ (a : Fin 128) (b : Fin 2048), y = ix2 a b := ⟨y 0, y 1, eq_ix2 y⟩
  have ha := a.isLt
  have hb := b.isLt
  have e1 : (win0_7.blk t).view.emb (ix2 a b) = ix2 (⟨t.val * 128 + a.val, by omega⟩ : Fin 2048) b := by
    blk_ext [index7] <;> first | rfl | (change _ + a.val = _; omega)
  rw [e1, point3 m c t]
  unfold out3
  rw [read1 m c t a b (⟨t.val * 128 + a.val, by omega⟩ : Fin 2048) rfl]

end Cert.Step.Nineteen

namespace Cert.Step.Nineteen

open Idealize.ShloMosaic Cert.Reference19Ideal Cert.Reference19Ideal.Gen

/-- The reference's result 1. -/
theorem reference_out0 (x0 x1 x2 x3 : FVec Ideal S2048x2048 .f32) : mulf (broadcastInDim S2048x2048 ![] bcast_S_S2048x2048 (constant S_ .f32 0xBA83126F#32)) (addf (Host.divf (Host.divf (addf (mulf (broadcastInDim S2048x2048 ![] bcast_S_S2048x2048 (constant S_ .f32 0x3F666666#32)) x2) (mulf (broadcastInDim S2048x2048 ![] bcast_S_S2048x2048 (constant S_ .f32 0x3DCCCCCD#32)) x1)) (broadcastInDim S2048x2048 ![] bcast_S_S2048x2048 (constant S_ .f32 0x3F26BD02#32))) (addf (Host.sqrt (Host.divf (addf (mulf (broadcastInDim S2048x2048 ![] bcast_S_S2048x2048 (constant S_ .f32 0x3F7FBE77#32)) x3) (mulf (broadcastInDim S2048x2048 ![] bcast_S_S2048x2048 (constant S_ .f32 0x3A83126F#32)) (mulf x1 x1))) (broadcastInDim S2048x2048 ![] bcast_S_S2048x2048 (constant S_ .f32 0x3C231ACC#32)))) (broadcastInDim S2048x2048 ![] bcast_S_S2048x2048 (constant S_ .f32 0x322BCC77#32)))) (mulf (broadcastInDim S2048x2048 ![] bcast_S_S2048x2048 (constant S_ .f32 0x3C23D70A#32)) x0)) = out0 x0 x1 x2 x3 := rfl

/-- The reference's result 2. -/
theorem reference_out1 (x0 x1 x2 x3 : FVec Ideal S2048x2048 .f32) : addf (mulf (broadcastInDim S2048x2048 ![] bcast_S_S2048x2048 (constant S_ .f32 0x3F666666#32)) x2) (mulf (broadcastInDim S2048x2048 ![] bcast_S_S2048x2048 (constant S_ .f32 0x3DCCCCCD#32)) x1) = out1 x0 x1 x2 x3 := rfl

/-- The reference's result 3. -/
theorem reference_out2 (x0 x1 x2 x3 : FVec Ideal S2048x2048 .f32) : addf (mulf (broadcastInDim S2048x2048 ![] bcast_S_S2048x2048 (constant S_ .f32 0x3F7FBE77#32)) x3) (mulf (broadcastInDim S2048x2048 ![] bcast_S_S2048x2048 (constant S_ .f32 0x3A83126F#32)) (mulf x1 x1)) = out2 x0 x1 x2 x3 := rfl

/-- The reference's result 4. -/
theorem reference_out3 (x0 x1 x2 x3 : FVec Ideal S2048x2048 .f32) : x1 = out3 x0 x1 x2 x3 := rfl

theorem out0_congr {w w' g g' m m' v v' : FVec Ideal S2048x2048 .f32} (hw : w = w') (hg : g = g') (hm : m = m') (hv : v = v') : out0 w g m v = out0 w' g' m' v' := by
  rw [hw, hg, hm, hv]

theorem out1_congr {w w' g g' m m' v v' : FVec Ideal S2048x2048 .f32} (hw : w = w') (hg : g = g') (hm : m = m') (hv : v = v') : out1 w g m v = out1 w' g' m' v' := by
  rw [hw, hg, hm, hv]

theorem out2_congr {w w' g g' m m' v v' : FVec Ideal S2048x2048 .f32} (hw : w = w') (hg : g = g') (hm : m = m') (hv : v = v') : out2 w g m v = out2 w' g' m' v' := by
  rw [hw, hg, hm, hv]

theorem out3_congr {w w' g g' m m' v v' : FVec Ideal S2048x2048 .f32} (hw : w = w') (hg : g = g') (hm : m = m') (hv : v = v') : out3 w g m v = out3 w' g' m' v' := by
  rw [hw, hg, hm, hv]

end Cert.Step.Nineteen

end
-- ==== Proof.Claims.Nineteen.lean ====
module

public import proofs.«01_k».proof.Defs
public import proofs.«01_k».proof.Proof.Gen.Kernel19.Frame
public import proofs.«01_k».proof.Proof.Gen.Kernel19Ideal.Frame
public import proofs.«01_k».proof.Proof.Step.Nineteen

/-! The optimiser's step of w_out: the claims. -/

@[expose] public section

noncomputable section

namespace Cert.Proof.Nineteen

open Idealize.ShloMosaic Idealize.ShloMosaic.TcCoe Idealize.SL.Sem

instance : Cert.Kernel19.Facts := Cert.Kernel19.Gen.facts
instance : Cert.Kernel19Ideal.Facts := Cert.Kernel19Ideal.Gen.facts
instance : Cert.Reference19Ideal.Facts := Cert.Reference19Ideal.Gen.facts

/-- The kernel runs, leaves its arguments and its counters as it found them. -/
theorem frame_p : Cert.quiescent_Kernel19 := fun m ρ _ => Cert.Kernel19.Gen.frame m ρ

/-- So does the kernel over the extended reals. -/
theorem frame_pi : Cert.quiescent_Kernel19Ideal := fun m ρ _ => Cert.Kernel19Ideal.Gen.frame m ρ

/-- So does the reference over the extended reals. -/
theorem frame_ri : Cert.quiescent_Reference19Ideal := fun m ρ _ =>
  (θ_run Cert.Reference19Ideal.defs _ _).mono (fun r h => ⟨fun c => (h c).2.2.2.2, Idealize.ShloMosaic.sem_eq_zero_of_no_sems (by decide) r.2⟩)
    (Cert.Reference19Ideal.Value.run (F := Ideal) m ρ)

/-- Over the extended reals the kernel and the reference end with the same arrays. -/
theorem algebraic : Cert.algebraic_Kernel19Ideal_Reference19Ideal := by
  intro m ρ m' ρ' hm hagree
  refine ⟨fun c => Cert.Step.Nineteen.out0 (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)), fun c => Cert.Step.Nineteen.out1 (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)), fun c => Cert.Step.Nineteen.out2 (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)), fun c => Cert.Step.Nineteen.out3 (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)), ?_, ?_⟩
  · refine (θ_run Cert.Kernel19Ideal.defs _ _).mono (fun r h c => ?_) (Cert.Kernel19Ideal.Value.run_blocks (F := Ideal) m ρ)
    exact ⟨(h c).1.trans (Cert.Step.Nineteen.array0 m c), (h c).2.1.trans (Cert.Step.Nineteen.array1 m c), (h c).2.2.1.trans (Cert.Step.Nineteen.array2 m c), (h c).2.2.2.1.trans (Cert.Step.Nineteen.array3 m c), (h c).2.2.2.2⟩
  · refine (θ_run Cert.Reference19Ideal.defs _ _).mono (fun r h c => ?_) (Cert.Reference19Ideal.Value.run (F := Ideal) m' ρ')
    obtain ⟨a0, a1, a2, a3⟩ := hagree c
    exact ⟨(h c).1.trans ((Cert.Step.Nineteen.reference_out0 _ _ _ _ ).trans (Cert.Step.Nineteen.out0_congr a0 a1 a2 a3)), (h c).2.1.trans ((Cert.Step.Nineteen.reference_out1 _ _ _ _ ).trans (Cert.Step.Nineteen.out1_congr a0 a1 a2 a3)), (h c).2.2.1.trans ((Cert.Step.Nineteen.reference_out2 _ _ _ _ ).trans (Cert.Step.Nineteen.out2_congr a0 a1 a2 a3)), (h c).2.2.2.1.trans ((Cert.Step.Nineteen.reference_out3 _ _ _ _ ).trans (Cert.Step.Nineteen.out3_congr a0 a1 a2 a3)), (h c).2.2.2.2⟩

end Cert.Proof.Nineteen

end
-- ==== Proof.Step.Twenty.lean ====
module

public import proofs.«01_k».proof.Proof.Gen.Kernel20Ideal.Value
public import proofs.«01_k».proof.Proof.Gen.Reference20Ideal.Run
public import proofs.«01_k».proof.Proof.Step.Adam
public import Idealize.ShloMosaic.Lib.Pipeline.ValueKit
public import Idealize.ShloMosaic.Lib.ValueLayout

/-! The optimiser's step of w_gate_up. -/

@[expose] public section

set_option maxRecDepth 16384

noncomputable section

namespace Cert.Step.Twenty

open Idealize.ShloMosaic hiding ix2 ix3 eq_ix2 eq_ix3
open Idealize.ShloMosaic.ValueIdx Idealize.ShloMosaic.TcCoe Idealize.ShloMosaic.Pipeline Idealize.SL.Sem Cert.Kernel20Ideal Cert.Kernel20Ideal.Gen

/-- The change of every entry. -/
def out0 (w g m v : FVec Ideal S8192x2816 .f32) : FVec Ideal S8192x2816 .f32 := fun i => Adam.delta (w i) (g i) (m i) (v i)

/-- The new mean of every entry's gradient. -/
def out1 (w g m v : FVec Ideal S8192x2816 .f32) : FVec Ideal S8192x2816 .f32 := fun i => Adam.mean (g i) (m i)

/-- The new mean of its square. -/
def out2 (w g m v : FVec Ideal S8192x2816 .f32) : FVec Ideal S8192x2816 .f32 := fun i => Adam.square (g i) (v i)

/-- The gradient, handed on. -/
def out3 (w g m v : FVec Ideal S8192x2816 .f32) : FVec Ideal S8192x2816 .f32 := fun i => g i

theorem tile0 (w g m v : FVec Ideal S64x2816 .f32) (i : S64x2816.Idx) : (k0_pay3 g m v w : FVec Ideal S64x2816 .f32) i = (Adam.delta (w i) (g i) (m i) (v i) : EReal) := rfl

theorem tile1 (w g m v : FVec Ideal S64x2816 .f32) (i : S64x2816.Idx) : (k0_pay1 g m : FVec Ideal S64x2816 .f32) i = (Adam.mean (g i) (m i) : EReal) := rfl

theorem tile2 (w g m v : FVec Ideal S64x2816 .f32) (i : S64x2816.Idx) : (k0_pay2 g v : FVec Ideal S64x2816 .f32) i = (Adam.square (g i) (v i) : EReal) := rfl

theorem tile3 (w g m v : FVec Ideal S64x2816 .f32) (i : S64x2816.Idx) : (g : FVec Ideal S64x2816 .f32) i = (g i : EReal) := rfl

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

theorem read0 (t : Fin cfg0.N) (a : Fin 64) (b : Fin 2816) (r : Fin 8192) (hr : r.val = t.val * 64 + a.val) :
    iblk m c 0 t (ix2 a b) = m ((c : Thread nD τ).loc main_arg0) (ix2 r b) := by
  have e1 : (win0_0.blk t).view.emb (ix2 a b) = ix2 r b := by
    blk_ext [index0] <;> first | rfl | (change _ + a.val = r.val; omega)
  blk_simp [iblk]
  rw [e1, V_main_arg0]

theorem read1 (t : Fin cfg0.N) (a : Fin 64) (b : Fin 2816) (r : Fin 8192) (hr : r.val = t.val * 64 + a.val) :
    iblk m c 1 t (ix2 a b) = m ((c : Thread nD τ).loc main_arg1) (ix2 r b) := by
  have e1 : (win0_1.blk t).view.emb (ix2 a b) = ix2 r b := by
    blk_ext [index1] <;> first | rfl | (change _ + a.val = r.val; omega)
  blk_simp [iblk]
  rw [e1, V_main_arg1]

theorem read2 (t : Fin cfg0.N) (a : Fin 64) (b : Fin 2816) (r : Fin 8192) (hr : r.val = t.val * 64 + a.val) :
    iblk m c 2 t (ix2 a b) = m ((c : Thread nD τ).loc main_arg2) (ix2 r b) := by
  have e1 : (win0_2.blk t).view.emb (ix2 a b) = ix2 r b := by
    blk_ext [index2] <;> first | rfl | (change _ + a.val = r.val; omega)
  blk_simp [iblk]
  rw [e1, V_main_arg2]

theorem read3 (t : Fin cfg0.N) (a : Fin 64) (b : Fin 2816) (r : Fin 8192) (hr : r.val = t.val * 64 + a.val) :
    iblk m c 3 t (ix2 a b) = m ((c : Thread nD τ).loc main_arg3) (ix2 r b) := by
  have e1 : (win0_3.blk t).view.emb (ix2 a b) = ix2 r b := by
    blk_ext [index3] <;> first | rfl | (change _ + a.val = r.val; omega)
  blk_simp [iblk]
  rw [e1, V_main_arg3]

theorem point0 (t : Fin cfg0.N) : (out0_4 (iblk m c 0 t) (iblk m c 1 t) (iblk m c 2 t) (iblk m c 3 t)) = k0_pay3 (iblk m c 1 t) (iblk m c 2 t) (iblk m c 3 t) (iblk m c 0 t) := by
  unfold out0_4
  frame_out

/-- The kernel's result 1. -/
theorem array0 : (dats m 0 c).arrAt 4 cfg0.N = out0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have hN : t.val < 128 := lt_of_lt_of_eq t.isLt (show cfg0.N = 128 from N_0)
  obtain ⟨a, b, rfl⟩ : ∃ (a : Fin 64) (b : Fin 2816), y = ix2 a b := ⟨y 0, y 1, eq_ix2 y⟩
  have ha := a.isLt
  have hb := b.isLt
  have e1 : (win0_4.blk t).view.emb (ix2 a b) = ix2 (⟨t.val * 64 + a.val, by omega⟩ : Fin 8192) b := by
    blk_ext [index4] <;> first | rfl | (change _ + a.val = _; omega)
  rw [e1, point0 m c t]
  refine (tile0 (iblk m c 0 t) (iblk m c 1 t) (iblk m c 2 t) (iblk m c 3 t) _).trans ?_
  unfold out0
  rw [read0 m c t a b (⟨t.val * 64 + a.val, by omega⟩ : Fin 8192) rfl, read1 m c t a b (⟨t.val * 64 + a.val, by omega⟩ : Fin 8192) rfl, read2 m c t a b (⟨t.val * 64 + a.val, by omega⟩ : Fin 8192) rfl, read3 m c t a b (⟨t.val * 64 + a.val, by omega⟩ : Fin 8192) rfl]

theorem point1 (t : Fin cfg0.N) : (out0_5 (iblk m c 0 t) (iblk m c 1 t) (iblk m c 2 t) (iblk m c 3 t)) = k0_pay1 (iblk m c 1 t) (iblk m c 2 t) := by
  unfold out0_5
  frame_out

/-- The kernel's result 2. -/
theorem array1 : (dats m 0 c).arrAt 5 cfg0.N = out1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have hN : t.val < 128 := lt_of_lt_of_eq t.isLt (show cfg0.N = 128 from N_0)
  obtain ⟨a, b, rfl⟩ : ∃ (a : Fin 64) (b : Fin 2816), y = ix2 a b := ⟨y 0, y 1, eq_ix2 y⟩
  have ha := a.isLt
  have hb := b.isLt
  have e1 : (win0_5.blk t).view.emb (ix2 a b) = ix2 (⟨t.val * 64 + a.val, by omega⟩ : Fin 8192) b := by
    blk_ext [index5] <;> first | rfl | (change _ + a.val = _; omega)
  rw [e1, point1 m c t]
  refine (tile1 (iblk m c 0 t) (iblk m c 1 t) (iblk m c 2 t) (iblk m c 3 t) _).trans ?_
  unfold out1
  rw [read1 m c t a b (⟨t.val * 64 + a.val, by omega⟩ : Fin 8192) rfl, read2 m c t a b (⟨t.val * 64 + a.val, by omega⟩ : Fin 8192) rfl]

theorem point2 (t : Fin cfg0.N) : (out0_6 (iblk m c 0 t) (iblk m c 1 t) (iblk m c 2 t) (iblk m c 3 t)) = k0_pay2 (iblk m c 1 t) (iblk m c 3 t) := by
  unfold out0_6
  frame_out

/-- The kernel's result 3. -/
theorem array2 : (dats m 0 c).arrAt 6 cfg0.N = out2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  have hN : t.val < 128 := lt_of_lt_of_eq t.isLt (show cfg0.N = 128 from N_0)
  obtain ⟨a, b, rfl⟩ : ∃ (a : Fin 64) (b : Fin 2816), y = ix2 a b := ⟨y 0, y 1, eq_ix2 y⟩
  have ha := a.isLt
  have hb := b.isLt
  have e1 : (win0_6.blk t).view.emb (ix2 a b) = ix2 (⟨t.val * 64 + a.val, by omega⟩ : Fin 8192) b := by
    blk_ext [index6] <;> first | rfl | (change _ + a.val = _; omega)
  rw [e1, point2 m c t]
  refine (tile2 (iblk m c 0 t) (iblk m c 1 t) (iblk m c 2 t) (iblk m c 3 t) _).trans ?_
  unfold out2
  rw [read1 m c t a b (⟨t.val * 64 + a.val, by omega⟩ : Fin 8192) rfl, read3 m c t a b (⟨t.val * 64 + a.val, by omega⟩ : Fin 8192) rfl]

theorem point3 (t : Fin cfg0.N) : (out0_7 (iblk m c 0 t) (iblk m c 1 t) (iblk m c 2 t) (iblk m c 3 t)) = iblk m c 1 t := by
  unfold out0_7
  frame_out

/-- The kernel's result 4. -/
theorem array3 : (dats m 0 c).arrAt 7 cfg0.N = out3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have hN : t.val < 128 := lt_of_lt_of_eq t.isLt (show cfg0.N = 128 from N_0)
  obtain ⟨a, b, rfl⟩ : ∃ (a : Fin 64) (b : Fin 2816), y = ix2 a b := ⟨y 0, y 1, eq_ix2 y⟩
  have ha := a.isLt
  have hb := b.isLt
  have e1 : (win0_7.blk t).view.emb (ix2 a b) = ix2 (⟨t.val * 64 + a.val, by omega⟩ : Fin 8192) b := by
    blk_ext [index7] <;> first | rfl | (change _ + a.val = _; omega)
  rw [e1, point3 m c t]
  unfold out3
  rw [read1 m c t a b (⟨t.val * 64 + a.val, by omega⟩ : Fin 8192) rfl]

end Cert.Step.Twenty

namespace Cert.Step.Twenty

open Idealize.ShloMosaic Cert.Reference20Ideal Cert.Reference20Ideal.Gen

/-- The reference's result 1. -/
theorem reference_out0 (x0 x1 x2 x3 : FVec Ideal S8192x2816 .f32) : mulf (broadcastInDim S8192x2816 ![] bcast_S_S8192x2816 (constant S_ .f32 0xBA83126F#32)) (addf (Host.divf (Host.divf (addf (mulf (broadcastInDim S8192x2816 ![] bcast_S_S8192x2816 (constant S_ .f32 0x3F666666#32)) x2) (mulf (broadcastInDim S8192x2816 ![] bcast_S_S8192x2816 (constant S_ .f32 0x3DCCCCCD#32)) x1)) (broadcastInDim S8192x2816 ![] bcast_S_S8192x2816 (constant S_ .f32 0x3F26BD02#32))) (addf (Host.sqrt (Host.divf (addf (mulf (broadcastInDim S8192x2816 ![] bcast_S_S8192x2816 (constant S_ .f32 0x3F7FBE77#32)) x3) (mulf (broadcastInDim S8192x2816 ![] bcast_S_S8192x2816 (constant S_ .f32 0x3A83126F#32)) (mulf x1 x1))) (broadcastInDim S8192x2816 ![] bcast_S_S8192x2816 (constant S_ .f32 0x3C231ACC#32)))) (broadcastInDim S8192x2816 ![] bcast_S_S8192x2816 (constant S_ .f32 0x322BCC77#32)))) (mulf (broadcastInDim S8192x2816 ![] bcast_S_S8192x2816 (constant S_ .f32 0x3C23D70A#32)) x0)) = out0 x0 x1 x2 x3 := rfl

/-- The reference's result 2. -/
theorem reference_out1 (x0 x1 x2 x3 : FVec Ideal S8192x2816 .f32) : addf (mulf (broadcastInDim S8192x2816 ![] bcast_S_S8192x2816 (constant S_ .f32 0x3F666666#32)) x2) (mulf (broadcastInDim S8192x2816 ![] bcast_S_S8192x2816 (constant S_ .f32 0x3DCCCCCD#32)) x1) = out1 x0 x1 x2 x3 := rfl

/-- The reference's result 3. -/
theorem reference_out2 (x0 x1 x2 x3 : FVec Ideal S8192x2816 .f32) : addf (mulf (broadcastInDim S8192x2816 ![] bcast_S_S8192x2816 (constant S_ .f32 0x3F7FBE77#32)) x3) (mulf (broadcastInDim S8192x2816 ![] bcast_S_S8192x2816 (constant S_ .f32 0x3A83126F#32)) (mulf x1 x1)) = out2 x0 x1 x2 x3 := rfl

/-- The reference's result 4. -/
theorem reference_out3 (x0 x1 x2 x3 : FVec Ideal S8192x2816 .f32) : x1 = out3 x0 x1 x2 x3 := rfl

theorem out0_congr {w w' g g' m m' v v' : FVec Ideal S8192x2816 .f32} (hw : w = w') (hg : g = g') (hm : m = m') (hv : v = v') : out0 w g m v = out0 w' g' m' v' := by
  rw [hw, hg, hm, hv]

theorem out1_congr {w w' g g' m m' v v' : FVec Ideal S8192x2816 .f32} (hw : w = w') (hg : g = g') (hm : m = m') (hv : v = v') : out1 w g m v = out1 w' g' m' v' := by
  rw [hw, hg, hm, hv]

theorem out2_congr {w w' g g' m m' v v' : FVec Ideal S8192x2816 .f32} (hw : w = w') (hg : g = g') (hm : m = m') (hv : v = v') : out2 w g m v = out2 w' g' m' v' := by
  rw [hw, hg, hm, hv]

theorem out3_congr {w w' g g' m m' v v' : FVec Ideal S8192x2816 .f32} (hw : w = w') (hg : g = g') (hm : m = m') (hv : v = v') : out3 w g m v = out3 w' g' m' v' := by
  rw [hw, hg, hm, hv]

end Cert.Step.Twenty

end
-- ==== Proof.Claims.Twenty.lean ====
module

public import proofs.«01_k».proof.Defs
public import proofs.«01_k».proof.Proof.Gen.Kernel20.Frame
public import proofs.«01_k».proof.Proof.Gen.Kernel20Ideal.Frame
public import proofs.«01_k».proof.Proof.Step.Twenty

/-! The optimiser's step of w_gate_up: the claims. -/

@[expose] public section

noncomputable section

namespace Cert.Proof.Twenty

open Idealize.ShloMosaic Idealize.ShloMosaic.TcCoe Idealize.SL.Sem

instance : Cert.Kernel20.Facts := Cert.Kernel20.Gen.facts
instance : Cert.Kernel20Ideal.Facts := Cert.Kernel20Ideal.Gen.facts
instance : Cert.Reference20Ideal.Facts := Cert.Reference20Ideal.Gen.facts

/-- The kernel runs, leaves its arguments and its counters as it found them. -/
theorem frame_p : Cert.quiescent_Kernel20 := fun m ρ _ => Cert.Kernel20.Gen.frame m ρ

/-- So does the kernel over the extended reals. -/
theorem frame_pi : Cert.quiescent_Kernel20Ideal := fun m ρ _ => Cert.Kernel20Ideal.Gen.frame m ρ

/-- So does the reference over the extended reals. -/
theorem frame_ri : Cert.quiescent_Reference20Ideal := fun m ρ _ =>
  (θ_run Cert.Reference20Ideal.defs _ _).mono (fun r h => ⟨fun c => (h c).2.2.2.2, Idealize.ShloMosaic.sem_eq_zero_of_no_sems (by decide) r.2⟩)
    (Cert.Reference20Ideal.Value.run (F := Ideal) m ρ)

/-- Over the extended reals the kernel and the reference end with the same arrays. -/
theorem algebraic : Cert.algebraic_Kernel20Ideal_Reference20Ideal := by
  intro m ρ m' ρ' hm hagree
  refine ⟨fun c => Cert.Step.Twenty.out0 (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)), fun c => Cert.Step.Twenty.out1 (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)), fun c => Cert.Step.Twenty.out2 (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)), fun c => Cert.Step.Twenty.out3 (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)), ?_, ?_⟩
  · refine (θ_run Cert.Kernel20Ideal.defs _ _).mono (fun r h c => ?_) (Cert.Kernel20Ideal.Value.run_blocks (F := Ideal) m ρ)
    exact ⟨(h c).1.trans (Cert.Step.Twenty.array0 m c), (h c).2.1.trans (Cert.Step.Twenty.array1 m c), (h c).2.2.1.trans (Cert.Step.Twenty.array2 m c), (h c).2.2.2.1.trans (Cert.Step.Twenty.array3 m c), (h c).2.2.2.2⟩
  · refine (θ_run Cert.Reference20Ideal.defs _ _).mono (fun r h c => ?_) (Cert.Reference20Ideal.Value.run (F := Ideal) m' ρ')
    obtain ⟨a0, a1, a2, a3⟩ := hagree c
    exact ⟨(h c).1.trans ((Cert.Step.Twenty.reference_out0 _ _ _ _ ).trans (Cert.Step.Twenty.out0_congr a0 a1 a2 a3)), (h c).2.1.trans ((Cert.Step.Twenty.reference_out1 _ _ _ _ ).trans (Cert.Step.Twenty.out1_congr a0 a1 a2 a3)), (h c).2.2.1.trans ((Cert.Step.Twenty.reference_out2 _ _ _ _ ).trans (Cert.Step.Twenty.out2_congr a0 a1 a2 a3)), (h c).2.2.2.1.trans ((Cert.Step.Twenty.reference_out3 _ _ _ _ ).trans (Cert.Step.Twenty.out3_congr a0 a1 a2 a3)), (h c).2.2.2.2⟩

end Cert.Proof.Twenty

end
-- ==== Proof.Step.TwentyOne.lean ====
module

public import proofs.«01_k».proof.Proof.Gen.Kernel21Ideal.Value
public import proofs.«01_k».proof.Proof.Gen.Reference21Ideal.Run
public import proofs.«01_k».proof.Proof.Step.Adam
public import Idealize.ShloMosaic.Lib.Pipeline.ValueKit
public import Idealize.ShloMosaic.Lib.ValueLayout

/-! The optimiser's step of w_down. -/

@[expose] public section

set_option maxRecDepth 16384

noncomputable section

namespace Cert.Step.TwentyOne

open Idealize.ShloMosaic hiding ix2 ix3 eq_ix2 eq_ix3
open Idealize.ShloMosaic.ValueIdx Idealize.ShloMosaic.TcCoe Idealize.ShloMosaic.Pipeline Idealize.SL.Sem Cert.Kernel21Ideal Cert.Kernel21Ideal.Gen

/-- The change of every entry. -/
def out0 (w g m v : FVec Ideal S5632x2048 .f32) : FVec Ideal S5632x2048 .f32 := fun i => Adam.delta (w i) (g i) (m i) (v i)

/-- The new mean of every entry's gradient. -/
def out1 (w g m v : FVec Ideal S5632x2048 .f32) : FVec Ideal S5632x2048 .f32 := fun i => Adam.mean (g i) (m i)

/-- The new mean of its square. -/
def out2 (w g m v : FVec Ideal S5632x2048 .f32) : FVec Ideal S5632x2048 .f32 := fun i => Adam.square (g i) (v i)

/-- The gradient, handed on. -/
def out3 (w g m v : FVec Ideal S5632x2048 .f32) : FVec Ideal S5632x2048 .f32 := fun i => g i

theorem tile0 (w g m v : FVec Ideal S88x2048 .f32) (i : S88x2048.Idx) : (k0_pay3 g m v w : FVec Ideal S88x2048 .f32) i = (Adam.delta (w i) (g i) (m i) (v i) : EReal) := rfl

theorem tile1 (w g m v : FVec Ideal S88x2048 .f32) (i : S88x2048.Idx) : (k0_pay1 g m : FVec Ideal S88x2048 .f32) i = (Adam.mean (g i) (m i) : EReal) := rfl

theorem tile2 (w g m v : FVec Ideal S88x2048 .f32) (i : S88x2048.Idx) : (k0_pay2 g v : FVec Ideal S88x2048 .f32) i = (Adam.square (g i) (v i) : EReal) := rfl

theorem tile3 (w g m v : FVec Ideal S88x2048 .f32) (i : S88x2048.Idx) : (g : FVec Ideal S88x2048 .f32) i = (g i : EReal) := rfl

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

theorem read0 (t : Fin cfg0.N) (a : Fin 88) (b : Fin 2048) (r : Fin 5632) (hr : r.val = t.val * 88 + a.val) :
    iblk m c 0 t (ix2 a b) = m ((c : Thread nD τ).loc main_arg0) (ix2 r b) := by
  have e1 : (win0_0.blk t).view.emb (ix2 a b) = ix2 r b := by
    blk_ext [index0] <;> first | rfl | (change _ + a.val = r.val; omega)
  blk_simp [iblk]
  rw [e1, V_main_arg0]

theorem read1 (t : Fin cfg0.N) (a : Fin 88) (b : Fin 2048) (r : Fin 5632) (hr : r.val = t.val * 88 + a.val) :
    iblk m c 1 t (ix2 a b) = m ((c : Thread nD τ).loc main_arg1) (ix2 r b) := by
  have e1 : (win0_1.blk t).view.emb (ix2 a b) = ix2 r b := by
    blk_ext [index1] <;> first | rfl | (change _ + a.val = r.val; omega)
  blk_simp [iblk]
  rw [e1, V_main_arg1]

theorem read2 (t : Fin cfg0.N) (a : Fin 88) (b : Fin 2048) (r : Fin 5632) (hr : r.val = t.val * 88 + a.val) :
    iblk m c 2 t (ix2 a b) = m ((c : Thread nD τ).loc main_arg2) (ix2 r b) := by
  have e1 : (win0_2.blk t).view.emb (ix2 a b) = ix2 r b := by
    blk_ext [index2] <;> first | rfl | (change _ + a.val = r.val; omega)
  blk_simp [iblk]
  rw [e1, V_main_arg2]

theorem read3 (t : Fin cfg0.N) (a : Fin 88) (b : Fin 2048) (r : Fin 5632) (hr : r.val = t.val * 88 + a.val) :
    iblk m c 3 t (ix2 a b) = m ((c : Thread nD τ).loc main_arg3) (ix2 r b) := by
  have e1 : (win0_3.blk t).view.emb (ix2 a b) = ix2 r b := by
    blk_ext [index3] <;> first | rfl | (change _ + a.val = r.val; omega)
  blk_simp [iblk]
  rw [e1, V_main_arg3]

theorem point0 (t : Fin cfg0.N) : (out0_4 (iblk m c 0 t) (iblk m c 1 t) (iblk m c 2 t) (iblk m c 3 t)) = k0_pay3 (iblk m c 1 t) (iblk m c 2 t) (iblk m c 3 t) (iblk m c 0 t) := by
  unfold out0_4
  frame_out

/-- The kernel's result 1. -/
theorem array0 : (dats m 0 c).arrAt 4 cfg0.N = out0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have hN : t.val < 64 := lt_of_lt_of_eq t.isLt (show cfg0.N = 64 from N_0)
  obtain ⟨a, b, rfl⟩ : ∃ (a : Fin 88) (b : Fin 2048), y = ix2 a b := ⟨y 0, y 1, eq_ix2 y⟩
  have ha := a.isLt
  have hb := b.isLt
  have e1 : (win0_4.blk t).view.emb (ix2 a b) = ix2 (⟨t.val * 88 + a.val, by omega⟩ : Fin 5632) b := by
    blk_ext [index4] <;> first | rfl | (change _ + a.val = _; omega)
  rw [e1, point0 m c t]
  refine (tile0 (iblk m c 0 t) (iblk m c 1 t) (iblk m c 2 t) (iblk m c 3 t) _).trans ?_
  unfold out0
  rw [read0 m c t a b (⟨t.val * 88 + a.val, by omega⟩ : Fin 5632) rfl, read1 m c t a b (⟨t.val * 88 + a.val, by omega⟩ : Fin 5632) rfl, read2 m c t a b (⟨t.val * 88 + a.val, by omega⟩ : Fin 5632) rfl, read3 m c t a b (⟨t.val * 88 + a.val, by omega⟩ : Fin 5632) rfl]

theorem point1 (t : Fin cfg0.N) : (out0_5 (iblk m c 0 t) (iblk m c 1 t) (iblk m c 2 t) (iblk m c 3 t)) = k0_pay1 (iblk m c 1 t) (iblk m c 2 t) := by
  unfold out0_5
  frame_out

/-- The kernel's result 2. -/
theorem array1 : (dats m 0 c).arrAt 5 cfg0.N = out1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have hN : t.val < 64 := lt_of_lt_of_eq t.isLt (show cfg0.N = 64 from N_0)
  obtain ⟨a, b, rfl⟩ : ∃ (a : Fin 88) (b : Fin 2048), y = ix2 a b := ⟨y 0, y 1, eq_ix2 y⟩
  have ha := a.isLt
  have hb := b.isLt
  have e1 : (win0_5.blk t).view.emb (ix2 a b) = ix2 (⟨t.val * 88 + a.val, by omega⟩ : Fin 5632) b := by
    blk_ext [index5] <;> first | rfl | (change _ + a.val = _; omega)
  rw [e1, point1 m c t]
  refine (tile1 (iblk m c 0 t) (iblk m c 1 t) (iblk m c 2 t) (iblk m c 3 t) _).trans ?_
  unfold out1
  rw [read1 m c t a b (⟨t.val * 88 + a.val, by omega⟩ : Fin 5632) rfl, read2 m c t a b (⟨t.val * 88 + a.val, by omega⟩ : Fin 5632) rfl]

theorem point2 (t : Fin cfg0.N) : (out0_6 (iblk m c 0 t) (iblk m c 1 t) (iblk m c 2 t) (iblk m c 3 t)) = k0_pay2 (iblk m c 1 t) (iblk m c 3 t) := by
  unfold out0_6
  frame_out

/-- The kernel's result 3. -/
theorem array2 : (dats m 0 c).arrAt 6 cfg0.N = out2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  have hN : t.val < 64 := lt_of_lt_of_eq t.isLt (show cfg0.N = 64 from N_0)
  obtain ⟨a, b, rfl⟩ : ∃ (a : Fin 88) (b : Fin 2048), y = ix2 a b := ⟨y 0, y 1, eq_ix2 y⟩
  have ha := a.isLt
  have hb := b.isLt
  have e1 : (win0_6.blk t).view.emb (ix2 a b) = ix2 (⟨t.val * 88 + a.val, by omega⟩ : Fin 5632) b := by
    blk_ext [index6] <;> first | rfl | (change _ + a.val = _; omega)
  rw [e1, point2 m c t]
  refine (tile2 (iblk m c 0 t) (iblk m c 1 t) (iblk m c 2 t) (iblk m c 3 t) _).trans ?_
  unfold out2
  rw [read1 m c t a b (⟨t.val * 88 + a.val, by omega⟩ : Fin 5632) rfl, read3 m c t a b (⟨t.val * 88 + a.val, by omega⟩ : Fin 5632) rfl]

theorem point3 (t : Fin cfg0.N) : (out0_7 (iblk m c 0 t) (iblk m c 1 t) (iblk m c 2 t) (iblk m c 3 t)) = iblk m c 1 t := by
  unfold out0_7
  frame_out

/-- The kernel's result 4. -/
theorem array3 : (dats m 0 c).arrAt 7 cfg0.N = out3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have hN : t.val < 64 := lt_of_lt_of_eq t.isLt (show cfg0.N = 64 from N_0)
  obtain ⟨a, b, rfl⟩ : ∃ (a : Fin 88) (b : Fin 2048), y = ix2 a b := ⟨y 0, y 1, eq_ix2 y⟩
  have ha := a.isLt
  have hb := b.isLt
  have e1 : (win0_7.blk t).view.emb (ix2 a b) = ix2 (⟨t.val * 88 + a.val, by omega⟩ : Fin 5632) b := by
    blk_ext [index7] <;> first | rfl | (change _ + a.val = _; omega)
  rw [e1, point3 m c t]
  unfold out3
  rw [read1 m c t a b (⟨t.val * 88 + a.val, by omega⟩ : Fin 5632) rfl]

end Cert.Step.TwentyOne

namespace Cert.Step.TwentyOne

open Idealize.ShloMosaic Cert.Reference21Ideal Cert.Reference21Ideal.Gen

/-- The reference's result 1. -/
theorem reference_out0 (x0 x1 x2 x3 : FVec Ideal S5632x2048 .f32) : mulf (broadcastInDim S5632x2048 ![] bcast_S_S5632x2048 (constant S_ .f32 0xBA83126F#32)) (addf (Host.divf (Host.divf (addf (mulf (broadcastInDim S5632x2048 ![] bcast_S_S5632x2048 (constant S_ .f32 0x3F666666#32)) x2) (mulf (broadcastInDim S5632x2048 ![] bcast_S_S5632x2048 (constant S_ .f32 0x3DCCCCCD#32)) x1)) (broadcastInDim S5632x2048 ![] bcast_S_S5632x2048 (constant S_ .f32 0x3F26BD02#32))) (addf (Host.sqrt (Host.divf (addf (mulf (broadcastInDim S5632x2048 ![] bcast_S_S5632x2048 (constant S_ .f32 0x3F7FBE77#32)) x3) (mulf (broadcastInDim S5632x2048 ![] bcast_S_S5632x2048 (constant S_ .f32 0x3A83126F#32)) (mulf x1 x1))) (broadcastInDim S5632x2048 ![] bcast_S_S5632x2048 (constant S_ .f32 0x3C231ACC#32)))) (broadcastInDim S5632x2048 ![] bcast_S_S5632x2048 (constant S_ .f32 0x322BCC77#32)))) (mulf (broadcastInDim S5632x2048 ![] bcast_S_S5632x2048 (constant S_ .f32 0x3C23D70A#32)) x0)) = out0 x0 x1 x2 x3 := rfl

/-- The reference's result 2. -/
theorem reference_out1 (x0 x1 x2 x3 : FVec Ideal S5632x2048 .f32) : addf (mulf (broadcastInDim S5632x2048 ![] bcast_S_S5632x2048 (constant S_ .f32 0x3F666666#32)) x2) (mulf (broadcastInDim S5632x2048 ![] bcast_S_S5632x2048 (constant S_ .f32 0x3DCCCCCD#32)) x1) = out1 x0 x1 x2 x3 := rfl

/-- The reference's result 3. -/
theorem reference_out2 (x0 x1 x2 x3 : FVec Ideal S5632x2048 .f32) : addf (mulf (broadcastInDim S5632x2048 ![] bcast_S_S5632x2048 (constant S_ .f32 0x3F7FBE77#32)) x3) (mulf (broadcastInDim S5632x2048 ![] bcast_S_S5632x2048 (constant S_ .f32 0x3A83126F#32)) (mulf x1 x1)) = out2 x0 x1 x2 x3 := rfl

/-- The reference's result 4. -/
theorem reference_out3 (x0 x1 x2 x3 : FVec Ideal S5632x2048 .f32) : x1 = out3 x0 x1 x2 x3 := rfl

theorem out0_congr {w w' g g' m m' v v' : FVec Ideal S5632x2048 .f32} (hw : w = w') (hg : g = g') (hm : m = m') (hv : v = v') : out0 w g m v = out0 w' g' m' v' := by
  rw [hw, hg, hm, hv]

theorem out1_congr {w w' g g' m m' v v' : FVec Ideal S5632x2048 .f32} (hw : w = w') (hg : g = g') (hm : m = m') (hv : v = v') : out1 w g m v = out1 w' g' m' v' := by
  rw [hw, hg, hm, hv]

theorem out2_congr {w w' g g' m m' v v' : FVec Ideal S5632x2048 .f32} (hw : w = w') (hg : g = g') (hm : m = m') (hv : v = v') : out2 w g m v = out2 w' g' m' v' := by
  rw [hw, hg, hm, hv]

theorem out3_congr {w w' g g' m m' v v' : FVec Ideal S5632x2048 .f32} (hw : w = w') (hg : g = g') (hm : m = m') (hv : v = v') : out3 w g m v = out3 w' g' m' v' := by
  rw [hw, hg, hm, hv]

end Cert.Step.TwentyOne

end
-- ==== Proof.Claims.TwentyOne.lean ====
module

public import proofs.«01_k».proof.Defs
public import proofs.«01_k».proof.Proof.Gen.Kernel21.Frame
public import proofs.«01_k».proof.Proof.Gen.Kernel21Ideal.Frame
public import proofs.«01_k».proof.Proof.Step.TwentyOne

/-! The optimiser's step of w_down: the claims. -/

@[expose] public section

noncomputable section

namespace Cert.Proof.TwentyOne

open Idealize.ShloMosaic Idealize.ShloMosaic.TcCoe Idealize.SL.Sem

instance : Cert.Kernel21.Facts := Cert.Kernel21.Gen.facts
instance : Cert.Kernel21Ideal.Facts := Cert.Kernel21Ideal.Gen.facts
instance : Cert.Reference21Ideal.Facts := Cert.Reference21Ideal.Gen.facts

/-- The kernel runs, leaves its arguments and its counters as it found them. -/
theorem frame_p : Cert.quiescent_Kernel21 := fun m ρ _ => Cert.Kernel21.Gen.frame m ρ

/-- So does the kernel over the extended reals. -/
theorem frame_pi : Cert.quiescent_Kernel21Ideal := fun m ρ _ => Cert.Kernel21Ideal.Gen.frame m ρ

/-- So does the reference over the extended reals. -/
theorem frame_ri : Cert.quiescent_Reference21Ideal := fun m ρ _ =>
  (θ_run Cert.Reference21Ideal.defs _ _).mono (fun r h => ⟨fun c => (h c).2.2.2.2, Idealize.ShloMosaic.sem_eq_zero_of_no_sems (by decide) r.2⟩)
    (Cert.Reference21Ideal.Value.run (F := Ideal) m ρ)

/-- Over the extended reals the kernel and the reference end with the same arrays. -/
theorem algebraic : Cert.algebraic_Kernel21Ideal_Reference21Ideal := by
  intro m ρ m' ρ' hm hagree
  refine ⟨fun c => Cert.Step.TwentyOne.out0 (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)), fun c => Cert.Step.TwentyOne.out1 (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)), fun c => Cert.Step.TwentyOne.out2 (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)), fun c => Cert.Step.TwentyOne.out3 (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)), ?_, ?_⟩
  · refine (θ_run Cert.Kernel21Ideal.defs _ _).mono (fun r h c => ?_) (Cert.Kernel21Ideal.Value.run_blocks (F := Ideal) m ρ)
    exact ⟨(h c).1.trans (Cert.Step.TwentyOne.array0 m c), (h c).2.1.trans (Cert.Step.TwentyOne.array1 m c), (h c).2.2.1.trans (Cert.Step.TwentyOne.array2 m c), (h c).2.2.2.1.trans (Cert.Step.TwentyOne.array3 m c), (h c).2.2.2.2⟩
  · refine (θ_run Cert.Reference21Ideal.defs _ _).mono (fun r h c => ?_) (Cert.Reference21Ideal.Value.run (F := Ideal) m' ρ')
    obtain ⟨a0, a1, a2, a3⟩ := hagree c
    exact ⟨(h c).1.trans ((Cert.Step.TwentyOne.reference_out0 _ _ _ _ ).trans (Cert.Step.TwentyOne.out0_congr a0 a1 a2 a3)), (h c).2.1.trans ((Cert.Step.TwentyOne.reference_out1 _ _ _ _ ).trans (Cert.Step.TwentyOne.out1_congr a0 a1 a2 a3)), (h c).2.2.1.trans ((Cert.Step.TwentyOne.reference_out2 _ _ _ _ ).trans (Cert.Step.TwentyOne.out2_congr a0 a1 a2 a3)), (h c).2.2.2.1.trans ((Cert.Step.TwentyOne.reference_out3 _ _ _ _ ).trans (Cert.Step.TwentyOne.out3_congr a0 a1 a2 a3)), (h c).2.2.2.2⟩

end Cert.Proof.TwentyOne

end
-- ==== Proof.Step.TwentyTwo.lean ====
module

public import proofs.«01_k».proof.Proof.Gen.Kernel22Ideal.Value
public import proofs.«01_k».proof.Proof.Gen.Reference22Ideal.Run
public import proofs.«01_k».proof.Proof.Step.Adam
public import Idealize.ShloMosaic.Lib.Pipeline.ValueKit
public import Idealize.ShloMosaic.Lib.ValueLayout

/-! The optimiser's step of w_pli_proj. -/

@[expose] public section

set_option maxRecDepth 16384

noncomputable section

namespace Cert.Step.TwentyTwo

open Idealize.ShloMosaic hiding ix2 ix3 eq_ix2 eq_ix3
open Idealize.ShloMosaic.ValueIdx Idealize.ShloMosaic.TcCoe Idealize.ShloMosaic.Pipeline Idealize.SL.Sem Cert.Kernel22Ideal Cert.Kernel22Ideal.Gen

/-- The change of every entry. -/
def out0 (w g m v : FVec Ideal S1024x512 .f32) : FVec Ideal S1024x512 .f32 := fun i => Adam.delta (w i) (g i) (m i) (v i)

/-- The new mean of every entry's gradient. -/
def out1 (w g m v : FVec Ideal S1024x512 .f32) : FVec Ideal S1024x512 .f32 := fun i => Adam.mean (g i) (m i)

/-- The new mean of its square. -/
def out2 (w g m v : FVec Ideal S1024x512 .f32) : FVec Ideal S1024x512 .f32 := fun i => Adam.square (g i) (v i)

/-- The gradient, handed on. -/
def out3 (w g m v : FVec Ideal S1024x512 .f32) : FVec Ideal S1024x512 .f32 := fun i => g i

theorem tile0 (w g m v : FVec Ideal S512x512 .f32) (i : S512x512.Idx) : (k0_pay3 g m v w : FVec Ideal S512x512 .f32) i = (Adam.delta (w i) (g i) (m i) (v i) : EReal) := rfl

theorem tile1 (w g m v : FVec Ideal S512x512 .f32) (i : S512x512.Idx) : (k0_pay1 g m : FVec Ideal S512x512 .f32) i = (Adam.mean (g i) (m i) : EReal) := rfl

theorem tile2 (w g m v : FVec Ideal S512x512 .f32) (i : S512x512.Idx) : (k0_pay2 g v : FVec Ideal S512x512 .f32) i = (Adam.square (g i) (v i) : EReal) := rfl

theorem tile3 (w g m v : FVec Ideal S512x512 .f32) (i : S512x512.Idx) : (g : FVec Ideal S512x512 .f32) i = (g i : EReal) := rfl

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

theorem read0 (t : Fin cfg0.N) (a : Fin 512) (b : Fin 512) (r : Fin 1024) (hr : r.val = t.val * 512 + a.val) :
    iblk m c 0 t (ix2 a b) = m ((c : Thread nD τ).loc main_arg0) (ix2 r b) := by
  have e1 : (win0_0.blk t).view.emb (ix2 a b) = ix2 r b := by
    blk_ext [index0] <;> first | rfl | (change _ + a.val = r.val; omega)
  blk_simp [iblk]
  rw [e1, V_main_arg0]

theorem read1 (t : Fin cfg0.N) (a : Fin 512) (b : Fin 512) (r : Fin 1024) (hr : r.val = t.val * 512 + a.val) :
    iblk m c 1 t (ix2 a b) = m ((c : Thread nD τ).loc main_arg1) (ix2 r b) := by
  have e1 : (win0_1.blk t).view.emb (ix2 a b) = ix2 r b := by
    blk_ext [index1] <;> first | rfl | (change _ + a.val = r.val; omega)
  blk_simp [iblk]
  rw [e1, V_main_arg1]

theorem read2 (t : Fin cfg0.N) (a : Fin 512) (b : Fin 512) (r : Fin 1024) (hr : r.val = t.val * 512 + a.val) :
    iblk m c 2 t (ix2 a b) = m ((c : Thread nD τ).loc main_arg2) (ix2 r b) := by
  have e1 : (win0_2.blk t).view.emb (ix2 a b) = ix2 r b := by
    blk_ext [index2] <;> first | rfl | (change _ + a.val = r.val; omega)
  blk_simp [iblk]
  rw [e1, V_main_arg2]

theorem read3 (t : Fin cfg0.N) (a : Fin 512) (b : Fin 512) (r : Fin 1024) (hr : r.val = t.val * 512 + a.val) :
    iblk m c 3 t (ix2 a b) = m ((c : Thread nD τ).loc main_arg3) (ix2 r b) := by
  have e1 : (win0_3.blk t).view.emb (ix2 a b) = ix2 r b := by
    blk_ext [index3] <;> first | rfl | (change _ + a.val = r.val; omega)
  blk_simp [iblk]
  rw [e1, V_main_arg3]

theorem point0 (t : Fin cfg0.N) : (out0_4 (iblk m c 0 t) (iblk m c 1 t) (iblk m c 2 t) (iblk m c 3 t)) = k0_pay3 (iblk m c 1 t) (iblk m c 2 t) (iblk m c 3 t) (iblk m c 0 t) := by
  unfold out0_4
  frame_out

/-- The kernel's result 1. -/
theorem array0 : (dats m 0 c).arrAt 4 cfg0.N = out0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have hN : t.val < 2 := lt_of_lt_of_eq t.isLt (show cfg0.N = 2 from N_0)
  obtain ⟨a, b, rfl⟩ : ∃ (a : Fin 512) (b : Fin 512), y = ix2 a b := ⟨y 0, y 1, eq_ix2 y⟩
  have ha := a.isLt
  have hb := b.isLt
  have e1 : (win0_4.blk t).view.emb (ix2 a b) = ix2 (⟨t.val * 512 + a.val, by omega⟩ : Fin 1024) b := by
    blk_ext [index4] <;> first | rfl | (change _ + a.val = _; omega)
  rw [e1, point0 m c t]
  refine (tile0 (iblk m c 0 t) (iblk m c 1 t) (iblk m c 2 t) (iblk m c 3 t) _).trans ?_
  unfold out0
  rw [read0 m c t a b (⟨t.val * 512 + a.val, by omega⟩ : Fin 1024) rfl, read1 m c t a b (⟨t.val * 512 + a.val, by omega⟩ : Fin 1024) rfl, read2 m c t a b (⟨t.val * 512 + a.val, by omega⟩ : Fin 1024) rfl, read3 m c t a b (⟨t.val * 512 + a.val, by omega⟩ : Fin 1024) rfl]

theorem point1 (t : Fin cfg0.N) : (out0_5 (iblk m c 0 t) (iblk m c 1 t) (iblk m c 2 t) (iblk m c 3 t)) = k0_pay1 (iblk m c 1 t) (iblk m c 2 t) := by
  unfold out0_5
  frame_out

/-- The kernel's result 2. -/
theorem array1 : (dats m 0 c).arrAt 5 cfg0.N = out1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have hN : t.val < 2 := lt_of_lt_of_eq t.isLt (show cfg0.N = 2 from N_0)
  obtain ⟨a, b, rfl⟩ : ∃ (a : Fin 512) (b : Fin 512), y = ix2 a b := ⟨y 0, y 1, eq_ix2 y⟩
  have ha := a.isLt
  have hb := b.isLt
  have e1 : (win0_5.blk t).view.emb (ix2 a b) = ix2 (⟨t.val * 512 + a.val, by omega⟩ : Fin 1024) b := by
    blk_ext [index5] <;> first | rfl | (change _ + a.val = _; omega)
  rw [e1, point1 m c t]
  refine (tile1 (iblk m c 0 t) (iblk m c 1 t) (iblk m c 2 t) (iblk m c 3 t) _).trans ?_
  unfold out1
  rw [read1 m c t a b (⟨t.val * 512 + a.val, by omega⟩ : Fin 1024) rfl, read2 m c t a b (⟨t.val * 512 + a.val, by omega⟩ : Fin 1024) rfl]

theorem point2 (t : Fin cfg0.N) : (out0_6 (iblk m c 0 t) (iblk m c 1 t) (iblk m c 2 t) (iblk m c 3 t)) = k0_pay2 (iblk m c 1 t) (iblk m c 3 t) := by
  unfold out0_6
  frame_out

/-- The kernel's result 3. -/
theorem array2 : (dats m 0 c).arrAt 6 cfg0.N = out2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  have hN : t.val < 2 := lt_of_lt_of_eq t.isLt (show cfg0.N = 2 from N_0)
  obtain ⟨a, b, rfl⟩ : ∃ (a : Fin 512) (b : Fin 512), y = ix2 a b := ⟨y 0, y 1, eq_ix2 y⟩
  have ha := a.isLt
  have hb := b.isLt
  have e1 : (win0_6.blk t).view.emb (ix2 a b) = ix2 (⟨t.val * 512 + a.val, by omega⟩ : Fin 1024) b := by
    blk_ext [index6] <;> first | rfl | (change _ + a.val = _; omega)
  rw [e1, point2 m c t]
  refine (tile2 (iblk m c 0 t) (iblk m c 1 t) (iblk m c 2 t) (iblk m c 3 t) _).trans ?_
  unfold out2
  rw [read1 m c t a b (⟨t.val * 512 + a.val, by omega⟩ : Fin 1024) rfl, read3 m c t a b (⟨t.val * 512 + a.val, by omega⟩ : Fin 1024) rfl]

theorem point3 (t : Fin cfg0.N) : (out0_7 (iblk m c 0 t) (iblk m c 1 t) (iblk m c 2 t) (iblk m c 3 t)) = iblk m c 1 t := by
  unfold out0_7
  frame_out

/-- The kernel's result 4. -/
theorem array3 : (dats m 0 c).arrAt 7 cfg0.N = out3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have hN : t.val < 2 := lt_of_lt_of_eq t.isLt (show cfg0.N = 2 from N_0)
  obtain ⟨a, b, rfl⟩ : ∃ (a : Fin 512) (b : Fin 512), y = ix2 a b := ⟨y 0, y 1, eq_ix2 y⟩
  have ha := a.isLt
  have hb := b.isLt
  have e1 : (win0_7.blk t).view.emb (ix2 a b) = ix2 (⟨t.val * 512 + a.val, by omega⟩ : Fin 1024) b := by
    blk_ext [index7] <;> first | rfl | (change _ + a.val = _; omega)
  rw [e1, point3 m c t]
  unfold out3
  rw [read1 m c t a b (⟨t.val * 512 + a.val, by omega⟩ : Fin 1024) rfl]

end Cert.Step.TwentyTwo

namespace Cert.Step.TwentyTwo

open Idealize.ShloMosaic Cert.Reference22Ideal Cert.Reference22Ideal.Gen

/-- The reference's result 1. -/
theorem reference_out0 (x0 x1 x2 x3 : FVec Ideal S1024x512 .f32) : mulf (broadcastInDim S1024x512 ![] bcast_S_S1024x512 (constant S_ .f32 0xBA83126F#32)) (addf (Host.divf (Host.divf (addf (mulf (broadcastInDim S1024x512 ![] bcast_S_S1024x512 (constant S_ .f32 0x3F666666#32)) x2) (mulf (broadcastInDim S1024x512 ![] bcast_S_S1024x512 (constant S_ .f32 0x3DCCCCCD#32)) x1)) (broadcastInDim S1024x512 ![] bcast_S_S1024x512 (constant S_ .f32 0x3F26BD02#32))) (addf (Host.sqrt (Host.divf (addf (mulf (broadcastInDim S1024x512 ![] bcast_S_S1024x512 (constant S_ .f32 0x3F7FBE77#32)) x3) (mulf (broadcastInDim S1024x512 ![] bcast_S_S1024x512 (constant S_ .f32 0x3A83126F#32)) (mulf x1 x1))) (broadcastInDim S1024x512 ![] bcast_S_S1024x512 (constant S_ .f32 0x3C231ACC#32)))) (broadcastInDim S1024x512 ![] bcast_S_S1024x512 (constant S_ .f32 0x322BCC77#32)))) (mulf (broadcastInDim S1024x512 ![] bcast_S_S1024x512 (constant S_ .f32 0x3C23D70A#32)) x0)) = out0 x0 x1 x2 x3 := rfl

/-- The reference's result 2. -/
theorem reference_out1 (x0 x1 x2 x3 : FVec Ideal S1024x512 .f32) : addf (mulf (broadcastInDim S1024x512 ![] bcast_S_S1024x512 (constant S_ .f32 0x3F666666#32)) x2) (mulf (broadcastInDim S1024x512 ![] bcast_S_S1024x512 (constant S_ .f32 0x3DCCCCCD#32)) x1) = out1 x0 x1 x2 x3 := rfl

/-- The reference's result 3. -/
theorem reference_out2 (x0 x1 x2 x3 : FVec Ideal S1024x512 .f32) : addf (mulf (broadcastInDim S1024x512 ![] bcast_S_S1024x512 (constant S_ .f32 0x3F7FBE77#32)) x3) (mulf (broadcastInDim S1024x512 ![] bcast_S_S1024x512 (constant S_ .f32 0x3A83126F#32)) (mulf x1 x1)) = out2 x0 x1 x2 x3 := rfl

/-- The reference's result 4. -/
theorem reference_out3 (x0 x1 x2 x3 : FVec Ideal S1024x512 .f32) : x1 = out3 x0 x1 x2 x3 := rfl

theorem out0_congr {w w' g g' m m' v v' : FVec Ideal S1024x512 .f32} (hw : w = w') (hg : g = g') (hm : m = m') (hv : v = v') : out0 w g m v = out0 w' g' m' v' := by
  rw [hw, hg, hm, hv]

theorem out1_congr {w w' g g' m m' v v' : FVec Ideal S1024x512 .f32} (hw : w = w') (hg : g = g') (hm : m = m') (hv : v = v') : out1 w g m v = out1 w' g' m' v' := by
  rw [hw, hg, hm, hv]

theorem out2_congr {w w' g g' m m' v v' : FVec Ideal S1024x512 .f32} (hw : w = w') (hg : g = g') (hm : m = m') (hv : v = v') : out2 w g m v = out2 w' g' m' v' := by
  rw [hw, hg, hm, hv]

theorem out3_congr {w w' g g' m m' v v' : FVec Ideal S1024x512 .f32} (hw : w = w') (hg : g = g') (hm : m = m') (hv : v = v') : out3 w g m v = out3 w' g' m' v' := by
  rw [hw, hg, hm, hv]

end Cert.Step.TwentyTwo

end
-- ==== Proof.Claims.TwentyTwo.lean ====
module

public import proofs.«01_k».proof.Defs
public import proofs.«01_k».proof.Proof.Gen.Kernel22.Frame
public import proofs.«01_k».proof.Proof.Gen.Kernel22Ideal.Frame
public import proofs.«01_k».proof.Proof.Step.TwentyTwo

/-! The optimiser's step of w_pli_proj: the claims. -/

@[expose] public section

noncomputable section

namespace Cert.Proof.TwentyTwo

open Idealize.ShloMosaic Idealize.ShloMosaic.TcCoe Idealize.SL.Sem

instance : Cert.Kernel22.Facts := Cert.Kernel22.Gen.facts
instance : Cert.Kernel22Ideal.Facts := Cert.Kernel22Ideal.Gen.facts
instance : Cert.Reference22Ideal.Facts := Cert.Reference22Ideal.Gen.facts

/-- The kernel runs, leaves its arguments and its counters as it found them. -/
theorem frame_p : Cert.quiescent_Kernel22 := fun m ρ _ => Cert.Kernel22.Gen.frame m ρ

/-- So does the kernel over the extended reals. -/
theorem frame_pi : Cert.quiescent_Kernel22Ideal := fun m ρ _ => Cert.Kernel22Ideal.Gen.frame m ρ

/-- So does the reference over the extended reals. -/
theorem frame_ri : Cert.quiescent_Reference22Ideal := fun m ρ _ =>
  (θ_run Cert.Reference22Ideal.defs _ _).mono (fun r h => ⟨fun c => (h c).2.2.2.2, Idealize.ShloMosaic.sem_eq_zero_of_no_sems (by decide) r.2⟩)
    (Cert.Reference22Ideal.Value.run (F := Ideal) m ρ)

/-- Over the extended reals the kernel and the reference end with the same arrays. -/
theorem algebraic : Cert.algebraic_Kernel22Ideal_Reference22Ideal := by
  intro m ρ m' ρ' hm hagree
  refine ⟨fun c => Cert.Step.TwentyTwo.out0 (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)), fun c => Cert.Step.TwentyTwo.out1 (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)), fun c => Cert.Step.TwentyTwo.out2 (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)), fun c => Cert.Step.TwentyTwo.out3 (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)), ?_, ?_⟩
  · refine (θ_run Cert.Kernel22Ideal.defs _ _).mono (fun r h c => ?_) (Cert.Kernel22Ideal.Value.run_blocks (F := Ideal) m ρ)
    exact ⟨(h c).1.trans (Cert.Step.TwentyTwo.array0 m c), (h c).2.1.trans (Cert.Step.TwentyTwo.array1 m c), (h c).2.2.1.trans (Cert.Step.TwentyTwo.array2 m c), (h c).2.2.2.1.trans (Cert.Step.TwentyTwo.array3 m c), (h c).2.2.2.2⟩
  · refine (θ_run Cert.Reference22Ideal.defs _ _).mono (fun r h c => ?_) (Cert.Reference22Ideal.Value.run (F := Ideal) m' ρ')
    obtain ⟨a0, a1, a2, a3⟩ := hagree c
    exact ⟨(h c).1.trans ((Cert.Step.TwentyTwo.reference_out0 _ _ _ _ ).trans (Cert.Step.TwentyTwo.out0_congr a0 a1 a2 a3)), (h c).2.1.trans ((Cert.Step.TwentyTwo.reference_out1 _ _ _ _ ).trans (Cert.Step.TwentyTwo.out1_congr a0 a1 a2 a3)), (h c).2.2.1.trans ((Cert.Step.TwentyTwo.reference_out2 _ _ _ _ ).trans (Cert.Step.TwentyTwo.out2_congr a0 a1 a2 a3)), (h c).2.2.2.1.trans ((Cert.Step.TwentyTwo.reference_out3 _ _ _ _ ).trans (Cert.Step.TwentyTwo.out3_congr a0 a1 a2 a3)), (h c).2.2.2.2⟩

end Cert.Proof.TwentyTwo

end
-- ==== Proof.Step.TwentyThree.lean ====
module

public import proofs.«01_k».proof.Proof.Gen.Kernel23Ideal.Value
public import proofs.«01_k».proof.Proof.Gen.Reference23Ideal.Run
public import proofs.«01_k».proof.Proof.Step.Adam
public import Idealize.ShloMosaic.Lib.Pipeline.ValueKit
public import Idealize.ShloMosaic.Lib.ValueLayout

/-! The optimiser's step of a norm's gains. -/

@[expose] public section

set_option maxRecDepth 16384

noncomputable section

namespace Cert.Step.TwentyThree

open Idealize.ShloMosaic hiding ix2 ix3 eq_ix2 eq_ix3
open Idealize.ShloMosaic.ValueIdx Idealize.ShloMosaic.TcCoe Idealize.ShloMosaic.Pipeline Idealize.SL.Sem Cert.Kernel23Ideal Cert.Kernel23Ideal.Gen

/-- The change of every entry. -/
def out0 (w g m v : FVec Ideal S4x2048 .f32) : FVec Ideal S4x2048 .f32 := fun i => Adam.delta (w i) (g i) (m i) (v i)

/-- The new mean of every entry's gradient. -/
def out1 (w g m v : FVec Ideal S4x2048 .f32) : FVec Ideal S4x2048 .f32 := fun i => Adam.mean (g i) (m i)

/-- The new mean of its square. -/
def out2 (w g m v : FVec Ideal S4x2048 .f32) : FVec Ideal S4x2048 .f32 := fun i => Adam.square (g i) (v i)

/-- The gradient, handed on. -/
def out3 (w g m v : FVec Ideal S4x2048 .f32) : FVec Ideal S4x2048 .f32 := fun i => g i

theorem tile0 (w g m v : FVec Ideal S4x2048 .f32) (i : S4x2048.Idx) : (k0_pay3 g m v w : FVec Ideal S4x2048 .f32) i = (Adam.delta (w i) (g i) (m i) (v i) : EReal) := rfl

theorem tile1 (w g m v : FVec Ideal S4x2048 .f32) (i : S4x2048.Idx) : (k0_pay1 g m : FVec Ideal S4x2048 .f32) i = (Adam.mean (g i) (m i) : EReal) := rfl

theorem tile2 (w g m v : FVec Ideal S4x2048 .f32) (i : S4x2048.Idx) : (k0_pay2 g v : FVec Ideal S4x2048 .f32) i = (Adam.square (g i) (v i) : EReal) := rfl

theorem tile3 (w g m v : FVec Ideal S4x2048 .f32) (i : S4x2048.Idx) : (g : FVec Ideal S4x2048 .f32) i = (g i : EReal) := rfl

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

theorem read0 (t : Fin cfg0.N) (a : Fin 4) (b : Fin 2048) (r : Fin 4) (hr : r.val = t.val * 4 + a.val) :
    iblk m c 0 t (ix2 a b) = m ((c : Thread nD τ).loc main_arg0) (ix2 r b) := by
  have e1 : (win0_0.blk t).view.emb (ix2 a b) = ix2 r b := by
    blk_ext [index0] <;> first | rfl | (have := lt_of_lt_of_eq t.isLt (show cfg0.N = 1 from N_0); show a.val = r.val; omega)
  blk_simp [iblk]
  rw [e1, V_main_arg0]

theorem read1 (t : Fin cfg0.N) (a : Fin 4) (b : Fin 2048) (r : Fin 4) (hr : r.val = t.val * 4 + a.val) :
    iblk m c 1 t (ix2 a b) = m ((c : Thread nD τ).loc main_arg1) (ix2 r b) := by
  have e1 : (win0_1.blk t).view.emb (ix2 a b) = ix2 r b := by
    blk_ext [index1] <;> first | rfl | (have := lt_of_lt_of_eq t.isLt (show cfg0.N = 1 from N_0); show a.val = r.val; omega)
  blk_simp [iblk]
  rw [e1, V_main_arg1]

theorem read2 (t : Fin cfg0.N) (a : Fin 4) (b : Fin 2048) (r : Fin 4) (hr : r.val = t.val * 4 + a.val) :
    iblk m c 2 t (ix2 a b) = m ((c : Thread nD τ).loc main_arg2) (ix2 r b) := by
  have e1 : (win0_2.blk t).view.emb (ix2 a b) = ix2 r b := by
    blk_ext [index2] <;> first | rfl | (have := lt_of_lt_of_eq t.isLt (show cfg0.N = 1 from N_0); show a.val = r.val; omega)
  blk_simp [iblk]
  rw [e1, V_main_arg2]

theorem read3 (t : Fin cfg0.N) (a : Fin 4) (b : Fin 2048) (r : Fin 4) (hr : r.val = t.val * 4 + a.val) :
    iblk m c 3 t (ix2 a b) = m ((c : Thread nD τ).loc main_arg3) (ix2 r b) := by
  have e1 : (win0_3.blk t).view.emb (ix2 a b) = ix2 r b := by
    blk_ext [index3] <;> first | rfl | (have := lt_of_lt_of_eq t.isLt (show cfg0.N = 1 from N_0); show a.val = r.val; omega)
  blk_simp [iblk]
  rw [e1, V_main_arg3]

theorem point0 (t : Fin cfg0.N) : (out0_4 (iblk m c 0 t) (iblk m c 1 t) (iblk m c 2 t) (iblk m c 3 t)) = k0_pay3 (iblk m c 1 t) (iblk m c 2 t) (iblk m c 3 t) (iblk m c 0 t) := by
  unfold out0_4
  frame_out

/-- The kernel's result 1. -/
theorem array0 : (dats m 0 c).arrAt 4 cfg0.N = out0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have hN : t.val < 1 := lt_of_lt_of_eq t.isLt (show cfg0.N = 1 from N_0)
  obtain ⟨a, b, rfl⟩ : ∃ (a : Fin 4) (b : Fin 2048), y = ix2 a b := ⟨y 0, y 1, eq_ix2 y⟩
  have ha := a.isLt
  have hb := b.isLt
  have e1 : (win0_4.blk t).view.emb (ix2 a b) = ix2 (⟨t.val * 4 + a.val, by omega⟩ : Fin 4) b := by
    blk_ext [index4] <;> first | rfl | (show a.val = t.val * 4 + a.val; omega)
  rw [e1, point0 m c t]
  refine (tile0 (iblk m c 0 t) (iblk m c 1 t) (iblk m c 2 t) (iblk m c 3 t) _).trans ?_
  unfold out0
  rw [read0 m c t a b (⟨t.val * 4 + a.val, by omega⟩ : Fin 4) rfl, read1 m c t a b (⟨t.val * 4 + a.val, by omega⟩ : Fin 4) rfl, read2 m c t a b (⟨t.val * 4 + a.val, by omega⟩ : Fin 4) rfl, read3 m c t a b (⟨t.val * 4 + a.val, by omega⟩ : Fin 4) rfl]

theorem point1 (t : Fin cfg0.N) : (out0_5 (iblk m c 0 t) (iblk m c 1 t) (iblk m c 2 t) (iblk m c 3 t)) = k0_pay1 (iblk m c 1 t) (iblk m c 2 t) := by
  unfold out0_5
  frame_out

/-- The kernel's result 2. -/
theorem array1 : (dats m 0 c).arrAt 5 cfg0.N = out1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have hN : t.val < 1 := lt_of_lt_of_eq t.isLt (show cfg0.N = 1 from N_0)
  obtain ⟨a, b, rfl⟩ : ∃ (a : Fin 4) (b : Fin 2048), y = ix2 a b := ⟨y 0, y 1, eq_ix2 y⟩
  have ha := a.isLt
  have hb := b.isLt
  have e1 : (win0_5.blk t).view.emb (ix2 a b) = ix2 (⟨t.val * 4 + a.val, by omega⟩ : Fin 4) b := by
    blk_ext [index5] <;> first | rfl | (show a.val = t.val * 4 + a.val; omega)
  rw [e1, point1 m c t]
  refine (tile1 (iblk m c 0 t) (iblk m c 1 t) (iblk m c 2 t) (iblk m c 3 t) _).trans ?_
  unfold out1
  rw [read1 m c t a b (⟨t.val * 4 + a.val, by omega⟩ : Fin 4) rfl, read2 m c t a b (⟨t.val * 4 + a.val, by omega⟩ : Fin 4) rfl]

theorem point2 (t : Fin cfg0.N) : (out0_6 (iblk m c 0 t) (iblk m c 1 t) (iblk m c 2 t) (iblk m c 3 t)) = k0_pay2 (iblk m c 1 t) (iblk m c 3 t) := by
  unfold out0_6
  frame_out

/-- The kernel's result 3. -/
theorem array2 : (dats m 0 c).arrAt 6 cfg0.N = out2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  have hN : t.val < 1 := lt_of_lt_of_eq t.isLt (show cfg0.N = 1 from N_0)
  obtain ⟨a, b, rfl⟩ : ∃ (a : Fin 4) (b : Fin 2048), y = ix2 a b := ⟨y 0, y 1, eq_ix2 y⟩
  have ha := a.isLt
  have hb := b.isLt
  have e1 : (win0_6.blk t).view.emb (ix2 a b) = ix2 (⟨t.val * 4 + a.val, by omega⟩ : Fin 4) b := by
    blk_ext [index6] <;> first | rfl | (show a.val = t.val * 4 + a.val; omega)
  rw [e1, point2 m c t]
  refine (tile2 (iblk m c 0 t) (iblk m c 1 t) (iblk m c 2 t) (iblk m c 3 t) _).trans ?_
  unfold out2
  rw [read1 m c t a b (⟨t.val * 4 + a.val, by omega⟩ : Fin 4) rfl, read3 m c t a b (⟨t.val * 4 + a.val, by omega⟩ : Fin 4) rfl]

theorem point3 (t : Fin cfg0.N) : (out0_7 (iblk m c 0 t) (iblk m c 1 t) (iblk m c 2 t) (iblk m c 3 t)) = iblk m c 1 t := by
  unfold out0_7
  frame_out

/-- The kernel's result 4. -/
theorem array3 : (dats m 0 c).arrAt 7 cfg0.N = out3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have hN : t.val < 1 := lt_of_lt_of_eq t.isLt (show cfg0.N = 1 from N_0)
  obtain ⟨a, b, rfl⟩ : ∃ (a : Fin 4) (b : Fin 2048), y = ix2 a b := ⟨y 0, y 1, eq_ix2 y⟩
  have ha := a.isLt
  have hb := b.isLt
  have e1 : (win0_7.blk t).view.emb (ix2 a b) = ix2 (⟨t.val * 4 + a.val, by omega⟩ : Fin 4) b := by
    blk_ext [index7] <;> first | rfl | (show a.val = t.val * 4 + a.val; omega)
  rw [e1, point3 m c t]
  unfold out3
  rw [read1 m c t a b (⟨t.val * 4 + a.val, by omega⟩ : Fin 4) rfl]

end Cert.Step.TwentyThree

namespace Cert.Step.TwentyThree

open Idealize.ShloMosaic Cert.Reference23Ideal Cert.Reference23Ideal.Gen

/-- The reference's result 1. -/
theorem reference_out0 (x0 x1 x2 x3 : FVec Ideal S4x2048 .f32) : mulf (broadcastInDim S4x2048 ![] bcast_S_S4x2048 (constant S_ .f32 0xBA83126F#32)) (addf (Host.divf (Host.divf (addf (mulf (broadcastInDim S4x2048 ![] bcast_S_S4x2048 (constant S_ .f32 0x3F666666#32)) x2) (mulf (broadcastInDim S4x2048 ![] bcast_S_S4x2048 (constant S_ .f32 0x3DCCCCCD#32)) x1)) (broadcastInDim S4x2048 ![] bcast_S_S4x2048 (constant S_ .f32 0x3F26BD02#32))) (addf (Host.sqrt (Host.divf (addf (mulf (broadcastInDim S4x2048 ![] bcast_S_S4x2048 (constant S_ .f32 0x3F7FBE77#32)) x3) (mulf (broadcastInDim S4x2048 ![] bcast_S_S4x2048 (constant S_ .f32 0x3A83126F#32)) (mulf x1 x1))) (broadcastInDim S4x2048 ![] bcast_S_S4x2048 (constant S_ .f32 0x3C231ACC#32)))) (broadcastInDim S4x2048 ![] bcast_S_S4x2048 (constant S_ .f32 0x322BCC77#32)))) (mulf (broadcastInDim S4x2048 ![] bcast_S_S4x2048 (constant S_ .f32 0x3C23D70A#32)) x0)) = out0 x0 x1 x2 x3 := rfl

/-- The reference's result 2. -/
theorem reference_out1 (x0 x1 x2 x3 : FVec Ideal S4x2048 .f32) : addf (mulf (broadcastInDim S4x2048 ![] bcast_S_S4x2048 (constant S_ .f32 0x3F666666#32)) x2) (mulf (broadcastInDim S4x2048 ![] bcast_S_S4x2048 (constant S_ .f32 0x3DCCCCCD#32)) x1) = out1 x0 x1 x2 x3 := rfl

/-- The reference's result 3. -/
theorem reference_out2 (x0 x1 x2 x3 : FVec Ideal S4x2048 .f32) : addf (mulf (broadcastInDim S4x2048 ![] bcast_S_S4x2048 (constant S_ .f32 0x3F7FBE77#32)) x3) (mulf (broadcastInDim S4x2048 ![] bcast_S_S4x2048 (constant S_ .f32 0x3A83126F#32)) (mulf x1 x1)) = out2 x0 x1 x2 x3 := rfl

/-- The reference's result 4. -/
theorem reference_out3 (x0 x1 x2 x3 : FVec Ideal S4x2048 .f32) : x1 = out3 x0 x1 x2 x3 := rfl

theorem out0_congr {w w' g g' m m' v v' : FVec Ideal S4x2048 .f32} (hw : w = w') (hg : g = g') (hm : m = m') (hv : v = v') : out0 w g m v = out0 w' g' m' v' := by
  rw [hw, hg, hm, hv]

theorem out1_congr {w w' g g' m m' v v' : FVec Ideal S4x2048 .f32} (hw : w = w') (hg : g = g') (hm : m = m') (hv : v = v') : out1 w g m v = out1 w' g' m' v' := by
  rw [hw, hg, hm, hv]

theorem out2_congr {w w' g g' m m' v v' : FVec Ideal S4x2048 .f32} (hw : w = w') (hg : g = g') (hm : m = m') (hv : v = v') : out2 w g m v = out2 w' g' m' v' := by
  rw [hw, hg, hm, hv]

theorem out3_congr {w w' g g' m m' v v' : FVec Ideal S4x2048 .f32} (hw : w = w') (hg : g = g') (hm : m = m') (hv : v = v') : out3 w g m v = out3 w' g' m' v' := by
  rw [hw, hg, hm, hv]

end Cert.Step.TwentyThree

end
-- ==== Proof.Claims.TwentyThree.lean ====
module

public import proofs.«01_k».proof.Defs
public import proofs.«01_k».proof.Proof.Gen.Kernel23.Frame
public import proofs.«01_k».proof.Proof.Gen.Kernel23Ideal.Frame
public import proofs.«01_k».proof.Proof.Step.TwentyThree

/-! The optimiser's step of a norm's gains: the claims. -/

@[expose] public section

noncomputable section

namespace Cert.Proof.TwentyThree

open Idealize.ShloMosaic Idealize.ShloMosaic.TcCoe Idealize.SL.Sem

instance : Cert.Kernel23.Facts := Cert.Kernel23.Gen.facts
instance : Cert.Kernel23Ideal.Facts := Cert.Kernel23Ideal.Gen.facts
instance : Cert.Reference23Ideal.Facts := Cert.Reference23Ideal.Gen.facts

/-- The kernel runs, leaves its arguments and its counters as it found them. -/
theorem frame_p : Cert.quiescent_Kernel23 := fun m ρ _ => Cert.Kernel23.Gen.frame m ρ

/-- So does the kernel over the extended reals. -/
theorem frame_pi : Cert.quiescent_Kernel23Ideal := fun m ρ _ => Cert.Kernel23Ideal.Gen.frame m ρ

/-- So does the reference over the extended reals. -/
theorem frame_ri : Cert.quiescent_Reference23Ideal := fun m ρ _ =>
  (θ_run Cert.Reference23Ideal.defs _ _).mono (fun r h => ⟨fun c => (h c).2.2.2.2, Idealize.ShloMosaic.sem_eq_zero_of_no_sems (by decide) r.2⟩)
    (Cert.Reference23Ideal.Value.run (F := Ideal) m ρ)

/-- Over the extended reals the kernel and the reference end with the same arrays. -/
theorem algebraic : Cert.algebraic_Kernel23Ideal_Reference23Ideal := by
  intro m ρ m' ρ' hm hagree
  refine ⟨fun c => Cert.Step.TwentyThree.out0 (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)), fun c => Cert.Step.TwentyThree.out1 (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)), fun c => Cert.Step.TwentyThree.out2 (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)), fun c => Cert.Step.TwentyThree.out3 (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)), ?_, ?_⟩
  · refine (θ_run Cert.Kernel23Ideal.defs _ _).mono (fun r h c => ?_) (Cert.Kernel23Ideal.Value.run_blocks (F := Ideal) m ρ)
    exact ⟨(h c).1.trans (Cert.Step.TwentyThree.array0 m c), (h c).2.1.trans (Cert.Step.TwentyThree.array1 m c), (h c).2.2.1.trans (Cert.Step.TwentyThree.array2 m c), (h c).2.2.2.1.trans (Cert.Step.TwentyThree.array3 m c), (h c).2.2.2.2⟩
  · refine (θ_run Cert.Reference23Ideal.defs _ _).mono (fun r h c => ?_) (Cert.Reference23Ideal.Value.run (F := Ideal) m' ρ')
    obtain ⟨a0, a1, a2, a3⟩ := hagree c
    exact ⟨(h c).1.trans ((Cert.Step.TwentyThree.reference_out0 _ _ _ _ ).trans (Cert.Step.TwentyThree.out0_congr a0 a1 a2 a3)), (h c).2.1.trans ((Cert.Step.TwentyThree.reference_out1 _ _ _ _ ).trans (Cert.Step.TwentyThree.out1_congr a0 a1 a2 a3)), (h c).2.2.1.trans ((Cert.Step.TwentyThree.reference_out2 _ _ _ _ ).trans (Cert.Step.TwentyThree.out2_congr a0 a1 a2 a3)), (h c).2.2.2.1.trans ((Cert.Step.TwentyThree.reference_out3 _ _ _ _ ).trans (Cert.Step.TwentyThree.out3_congr a0 a1 a2 a3)), (h c).2.2.2.2⟩

end Cert.Proof.TwentyThree

end
-- ==== Proof.Step.TwentyFour.lean ====
module

public import proofs.«01_k».proof.Proof.Gen.Kernel24Ideal.Value
public import proofs.«01_k».proof.Proof.Gen.Reference24Ideal.Run
public import proofs.«01_k».proof.Proof.Step.Adam
public import Idealize.ShloMosaic.Lib.Pipeline.ValueKit
public import Idealize.ShloMosaic.Lib.ValueLayout

/-! The optimiser's step of the relative bias. -/

@[expose] public section

set_option maxRecDepth 16384

noncomputable section

namespace Cert.Step.TwentyFour

open Idealize.ShloMosaic hiding ix2 ix3 eq_ix2 eq_ix3
open Idealize.ShloMosaic.ValueIdx Idealize.ShloMosaic.TcCoe Idealize.ShloMosaic.Pipeline Idealize.SL.Sem Cert.Kernel24Ideal Cert.Kernel24Ideal.Gen

/-- The change of every entry. -/
def out0 (w g m v : FVec Ideal S32x8 .f32) : FVec Ideal S32x8 .f32 := fun i => Adam.delta (w i) (g i) (m i) (v i)

/-- The new mean of every entry's gradient. -/
def out1 (w g m v : FVec Ideal S32x8 .f32) : FVec Ideal S32x8 .f32 := fun i => Adam.mean (g i) (m i)

/-- The new mean of its square. -/
def out2 (w g m v : FVec Ideal S32x8 .f32) : FVec Ideal S32x8 .f32 := fun i => Adam.square (g i) (v i)

/-- The gradient, handed on. -/
def out3 (w g m v : FVec Ideal S32x8 .f32) : FVec Ideal S32x8 .f32 := fun i => g i

theorem tile0 (w g m v : FVec Ideal S32x8 .f32) (i : S32x8.Idx) : (k0_pay3 g m v w : FVec Ideal S32x8 .f32) i = (Adam.delta (w i) (g i) (m i) (v i) : EReal) := rfl

theorem tile1 (w g m v : FVec Ideal S32x8 .f32) (i : S32x8.Idx) : (k0_pay1 g m : FVec Ideal S32x8 .f32) i = (Adam.mean (g i) (m i) : EReal) := rfl

theorem tile2 (w g m v : FVec Ideal S32x8 .f32) (i : S32x8.Idx) : (k0_pay2 g v : FVec Ideal S32x8 .f32) i = (Adam.square (g i) (v i) : EReal) := rfl

theorem tile3 (w g m v : FVec Ideal S32x8 .f32) (i : S32x8.Idx) : (g : FVec Ideal S32x8 .f32) i = (g i : EReal) := rfl

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

theorem read0 (t : Fin cfg0.N) (a : Fin 32) (b : Fin 8) (r : Fin 32) (hr : r.val = t.val * 32 + a.val) :
    iblk m c 0 t (ix2 a b) = m ((c : Thread nD τ).loc main_arg0) (ix2 r b) := by
  have e1 : (win0_0.blk t).view.emb (ix2 a b) = ix2 r b := by
    blk_ext [index0] <;> first | rfl | (have := lt_of_lt_of_eq t.isLt (show cfg0.N = 1 from N_0); show a.val = r.val; omega)
  blk_simp [iblk]
  rw [e1, V_main_arg0]

theorem read1 (t : Fin cfg0.N) (a : Fin 32) (b : Fin 8) (r : Fin 32) (hr : r.val = t.val * 32 + a.val) :
    iblk m c 1 t (ix2 a b) = m ((c : Thread nD τ).loc main_arg1) (ix2 r b) := by
  have e1 : (win0_1.blk t).view.emb (ix2 a b) = ix2 r b := by
    blk_ext [index1] <;> first | rfl | (have := lt_of_lt_of_eq t.isLt (show cfg0.N = 1 from N_0); show a.val = r.val; omega)
  blk_simp [iblk]
  rw [e1, V_main_arg1]

theorem read2 (t : Fin cfg0.N) (a : Fin 32) (b : Fin 8) (r : Fin 32) (hr : r.val = t.val * 32 + a.val) :
    iblk m c 2 t (ix2 a b) = m ((c : Thread nD τ).loc main_arg2) (ix2 r b) := by
  have e1 : (win0_2.blk t).view.emb (ix2 a b) = ix2 r b := by
    blk_ext [index2] <;> first | rfl | (have := lt_of_lt_of_eq t.isLt (show cfg0.N = 1 from N_0); show a.val = r.val; omega)
  blk_simp [iblk]
  rw [e1, V_main_arg2]

theorem read3 (t : Fin cfg0.N) (a : Fin 32) (b : Fin 8) (r : Fin 32) (hr : r.val = t.val * 32 + a.val) :
    iblk m c 3 t (ix2 a b) = m ((c : Thread nD τ).loc main_arg3) (ix2 r b) := by
  have e1 : (win0_3.blk t).view.emb (ix2 a b) = ix2 r b := by
    blk_ext [index3] <;> first | rfl | (have := lt_of_lt_of_eq t.isLt (show cfg0.N = 1 from N_0); show a.val = r.val; omega)
  blk_simp [iblk]
  rw [e1, V_main_arg3]

theorem point0 (t : Fin cfg0.N) : (out0_4 (iblk m c 0 t) (iblk m c 1 t) (iblk m c 2 t) (iblk m c 3 t)) = k0_pay3 (iblk m c 1 t) (iblk m c 2 t) (iblk m c 3 t) (iblk m c 0 t) := by
  unfold out0_4
  frame_out

/-- The kernel's result 1. -/
theorem array0 : (dats m 0 c).arrAt 4 cfg0.N = out0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have hN : t.val < 1 := lt_of_lt_of_eq t.isLt (show cfg0.N = 1 from N_0)
  obtain ⟨a, b, rfl⟩ : ∃ (a : Fin 32) (b : Fin 8), y = ix2 a b := ⟨y 0, y 1, eq_ix2 y⟩
  have ha := a.isLt
  have hb := b.isLt
  have e1 : (win0_4.blk t).view.emb (ix2 a b) = ix2 (⟨t.val * 32 + a.val, by omega⟩ : Fin 32) b := by
    blk_ext [index4] <;> first | rfl | (show a.val = t.val * 32 + a.val; omega)
  rw [e1, point0 m c t]
  refine (tile0 (iblk m c 0 t) (iblk m c 1 t) (iblk m c 2 t) (iblk m c 3 t) _).trans ?_
  unfold out0
  rw [read0 m c t a b (⟨t.val * 32 + a.val, by omega⟩ : Fin 32) rfl, read1 m c t a b (⟨t.val * 32 + a.val, by omega⟩ : Fin 32) rfl, read2 m c t a b (⟨t.val * 32 + a.val, by omega⟩ : Fin 32) rfl, read3 m c t a b (⟨t.val * 32 + a.val, by omega⟩ : Fin 32) rfl]

theorem point1 (t : Fin cfg0.N) : (out0_5 (iblk m c 0 t) (iblk m c 1 t) (iblk m c 2 t) (iblk m c 3 t)) = k0_pay1 (iblk m c 1 t) (iblk m c 2 t) := by
  unfold out0_5
  frame_out

/-- The kernel's result 2. -/
theorem array1 : (dats m 0 c).arrAt 5 cfg0.N = out1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have hN : t.val < 1 := lt_of_lt_of_eq t.isLt (show cfg0.N = 1 from N_0)
  obtain ⟨a, b, rfl⟩ : ∃ (a : Fin 32) (b : Fin 8), y = ix2 a b := ⟨y 0, y 1, eq_ix2 y⟩
  have ha := a.isLt
  have hb := b.isLt
  have e1 : (win0_5.blk t).view.emb (ix2 a b) = ix2 (⟨t.val * 32 + a.val, by omega⟩ : Fin 32) b := by
    blk_ext [index5] <;> first | rfl | (show a.val = t.val * 32 + a.val; omega)
  rw [e1, point1 m c t]
  refine (tile1 (iblk m c 0 t) (iblk m c 1 t) (iblk m c 2 t) (iblk m c 3 t) _).trans ?_
  unfold out1
  rw [read1 m c t a b (⟨t.val * 32 + a.val, by omega⟩ : Fin 32) rfl, read2 m c t a b (⟨t.val * 32 + a.val, by omega⟩ : Fin 32) rfl]

theorem point2 (t : Fin cfg0.N) : (out0_6 (iblk m c 0 t) (iblk m c 1 t) (iblk m c 2 t) (iblk m c 3 t)) = k0_pay2 (iblk m c 1 t) (iblk m c 3 t) := by
  unfold out0_6
  frame_out

/-- The kernel's result 3. -/
theorem array2 : (dats m 0 c).arrAt 6 cfg0.N = out2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  have hN : t.val < 1 := lt_of_lt_of_eq t.isLt (show cfg0.N = 1 from N_0)
  obtain ⟨a, b, rfl⟩ : ∃ (a : Fin 32) (b : Fin 8), y = ix2 a b := ⟨y 0, y 1, eq_ix2 y⟩
  have ha := a.isLt
  have hb := b.isLt
  have e1 : (win0_6.blk t).view.emb (ix2 a b) = ix2 (⟨t.val * 32 + a.val, by omega⟩ : Fin 32) b := by
    blk_ext [index6] <;> first | rfl | (show a.val = t.val * 32 + a.val; omega)
  rw [e1, point2 m c t]
  refine (tile2 (iblk m c 0 t) (iblk m c 1 t) (iblk m c 2 t) (iblk m c 3 t) _).trans ?_
  unfold out2
  rw [read1 m c t a b (⟨t.val * 32 + a.val, by omega⟩ : Fin 32) rfl, read3 m c t a b (⟨t.val * 32 + a.val, by omega⟩ : Fin 32) rfl]

theorem point3 (t : Fin cfg0.N) : (out0_7 (iblk m c 0 t) (iblk m c 1 t) (iblk m c 2 t) (iblk m c 3 t)) = iblk m c 1 t := by
  unfold out0_7
  frame_out

/-- The kernel's result 4. -/
theorem array3 : (dats m 0 c).arrAt 7 cfg0.N = out3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have hN : t.val < 1 := lt_of_lt_of_eq t.isLt (show cfg0.N = 1 from N_0)
  obtain ⟨a, b, rfl⟩ : ∃ (a : Fin 32) (b : Fin 8), y = ix2 a b := ⟨y 0, y 1, eq_ix2 y⟩
  have ha := a.isLt
  have hb := b.isLt
  have e1 : (win0_7.blk t).view.emb (ix2 a b) = ix2 (⟨t.val * 32 + a.val, by omega⟩ : Fin 32) b := by
    blk_ext [index7] <;> first | rfl | (show a.val = t.val * 32 + a.val; omega)
  rw [e1, point3 m c t]
  unfold out3
  rw [read1 m c t a b (⟨t.val * 32 + a.val, by omega⟩ : Fin 32) rfl]

end Cert.Step.TwentyFour

namespace Cert.Step.TwentyFour

open Idealize.ShloMosaic Cert.Reference24Ideal Cert.Reference24Ideal.Gen

/-- The reference's result 1. -/
theorem reference_out0 (x0 x1 x2 x3 : FVec Ideal S32x8 .f32) : mulf (broadcastInDim S32x8 ![] bcast_S_S32x8 (constant S_ .f32 0xBA83126F#32)) (addf (Host.divf (Host.divf (addf (mulf (broadcastInDim S32x8 ![] bcast_S_S32x8 (constant S_ .f32 0x3F666666#32)) x2) (mulf (broadcastInDim S32x8 ![] bcast_S_S32x8 (constant S_ .f32 0x3DCCCCCD#32)) x1)) (broadcastInDim S32x8 ![] bcast_S_S32x8 (constant S_ .f32 0x3F26BD02#32))) (addf (Host.sqrt (Host.divf (addf (mulf (broadcastInDim S32x8 ![] bcast_S_S32x8 (constant S_ .f32 0x3F7FBE77#32)) x3) (mulf (broadcastInDim S32x8 ![] bcast_S_S32x8 (constant S_ .f32 0x3A83126F#32)) (mulf x1 x1))) (broadcastInDim S32x8 ![] bcast_S_S32x8 (constant S_ .f32 0x3C231ACC#32)))) (broadcastInDim S32x8 ![] bcast_S_S32x8 (constant S_ .f32 0x322BCC77#32)))) (mulf (broadcastInDim S32x8 ![] bcast_S_S32x8 (constant S_ .f32 0x3C23D70A#32)) x0)) = out0 x0 x1 x2 x3 := rfl

/-- The reference's result 2. -/
theorem reference_out1 (x0 x1 x2 x3 : FVec Ideal S32x8 .f32) : addf (mulf (broadcastInDim S32x8 ![] bcast_S_S32x8 (constant S_ .f32 0x3F666666#32)) x2) (mulf (broadcastInDim S32x8 ![] bcast_S_S32x8 (constant S_ .f32 0x3DCCCCCD#32)) x1) = out1 x0 x1 x2 x3 := rfl

/-- The reference's result 3. -/
theorem reference_out2 (x0 x1 x2 x3 : FVec Ideal S32x8 .f32) : addf (mulf (broadcastInDim S32x8 ![] bcast_S_S32x8 (constant S_ .f32 0x3F7FBE77#32)) x3) (mulf (broadcastInDim S32x8 ![] bcast_S_S32x8 (constant S_ .f32 0x3A83126F#32)) (mulf x1 x1)) = out2 x0 x1 x2 x3 := rfl

/-- The reference's result 4. -/
theorem reference_out3 (x0 x1 x2 x3 : FVec Ideal S32x8 .f32) : x1 = out3 x0 x1 x2 x3 := rfl

theorem out0_congr {w w' g g' m m' v v' : FVec Ideal S32x8 .f32} (hw : w = w') (hg : g = g') (hm : m = m') (hv : v = v') : out0 w g m v = out0 w' g' m' v' := by
  rw [hw, hg, hm, hv]

theorem out1_congr {w w' g g' m m' v v' : FVec Ideal S32x8 .f32} (hw : w = w') (hg : g = g') (hm : m = m') (hv : v = v') : out1 w g m v = out1 w' g' m' v' := by
  rw [hw, hg, hm, hv]

theorem out2_congr {w w' g g' m m' v v' : FVec Ideal S32x8 .f32} (hw : w = w') (hg : g = g') (hm : m = m') (hv : v = v') : out2 w g m v = out2 w' g' m' v' := by
  rw [hw, hg, hm, hv]

theorem out3_congr {w w' g g' m m' v v' : FVec Ideal S32x8 .f32} (hw : w = w') (hg : g = g') (hm : m = m') (hv : v = v') : out3 w g m v = out3 w' g' m' v' := by
  rw [hw, hg, hm, hv]

end Cert.Step.TwentyFour

end
-- ==== Proof.Claims.TwentyFour.lean ====
module

public import proofs.«01_k».proof.Defs
public import proofs.«01_k».proof.Proof.Gen.Kernel24.Frame
public import proofs.«01_k».proof.Proof.Gen.Kernel24Ideal.Frame
public import proofs.«01_k».proof.Proof.Step.TwentyFour

/-! The optimiser's step of the relative bias: the claims. -/

@[expose] public section

noncomputable section

namespace Cert.Proof.TwentyFour

open Idealize.ShloMosaic Idealize.ShloMosaic.TcCoe Idealize.SL.Sem

instance : Cert.Kernel24.Facts := Cert.Kernel24.Gen.facts
instance : Cert.Kernel24Ideal.Facts := Cert.Kernel24Ideal.Gen.facts
instance : Cert.Reference24Ideal.Facts := Cert.Reference24Ideal.Gen.facts

/-- The kernel runs, leaves its arguments and its counters as it found them. -/
theorem frame_p : Cert.quiescent_Kernel24 := fun m ρ _ => Cert.Kernel24.Gen.frame m ρ

/-- So does the kernel over the extended reals. -/
theorem frame_pi : Cert.quiescent_Kernel24Ideal := fun m ρ _ => Cert.Kernel24Ideal.Gen.frame m ρ

/-- So does the reference over the extended reals. -/
theorem frame_ri : Cert.quiescent_Reference24Ideal := fun m ρ _ =>
  (θ_run Cert.Reference24Ideal.defs _ _).mono (fun r h => ⟨fun c => (h c).2.2.2.2, Idealize.ShloMosaic.sem_eq_zero_of_no_sems (by decide) r.2⟩)
    (Cert.Reference24Ideal.Value.run (F := Ideal) m ρ)

/-- Over the extended reals the kernel and the reference end with the same arrays. -/
theorem algebraic : Cert.algebraic_Kernel24Ideal_Reference24Ideal := by
  intro m ρ m' ρ' hm hagree
  refine ⟨fun c => Cert.Step.TwentyFour.out0 (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)), fun c => Cert.Step.TwentyFour.out1 (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)), fun c => Cert.Step.TwentyFour.out2 (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)), fun c => Cert.Step.TwentyFour.out3 (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)), ?_, ?_⟩
  · refine (θ_run Cert.Kernel24Ideal.defs _ _).mono (fun r h c => ?_) (Cert.Kernel24Ideal.Value.run_blocks (F := Ideal) m ρ)
    exact ⟨(h c).1.trans (Cert.Step.TwentyFour.array0 m c), (h c).2.1.trans (Cert.Step.TwentyFour.array1 m c), (h c).2.2.1.trans (Cert.Step.TwentyFour.array2 m c), (h c).2.2.2.1.trans (Cert.Step.TwentyFour.array3 m c), (h c).2.2.2.2⟩
  · refine (θ_run Cert.Reference24Ideal.defs _ _).mono (fun r h c => ?_) (Cert.Reference24Ideal.Value.run (F := Ideal) m' ρ')
    obtain ⟨a0, a1, a2, a3⟩ := hagree c
    exact ⟨(h c).1.trans ((Cert.Step.TwentyFour.reference_out0 _ _ _ _ ).trans (Cert.Step.TwentyFour.out0_congr a0 a1 a2 a3)), (h c).2.1.trans ((Cert.Step.TwentyFour.reference_out1 _ _ _ _ ).trans (Cert.Step.TwentyFour.out1_congr a0 a1 a2 a3)), (h c).2.2.1.trans ((Cert.Step.TwentyFour.reference_out2 _ _ _ _ ).trans (Cert.Step.TwentyFour.out2_congr a0 a1 a2 a3)), (h c).2.2.2.1.trans ((Cert.Step.TwentyFour.reference_out3 _ _ _ _ ).trans (Cert.Step.TwentyFour.out3_congr a0 a1 a2 a3)), (h c).2.2.2.2⟩

end Cert.Proof.TwentyFour

end
-- ==== Proof.Step.Norm.lean ====
module

public import Idealize.ShloMosaic.PureOps.Ideal.Laws
public import proofs.«01_k».proof.Proof.Step.Adam
public import proofs.«01_k».proof.Proof.Mul.Gate

/-! The root of a row's mean square, and a row divided by it. -/

@[expose] public section

noncomputable section

namespace Cert.Step.Norm

open Idealize.ShloMosaic Cert.Step.Adam

/-- One over the root of a row's mean square. -/
def scale {n : ℕ} (width : BitVec 32) (f : Fin n → EReal) : EReal :=
  Ideal.rsqrt (Ideal.div (∑ k, f k * f k) (word width) + word 0x358637BD#32)

/-- The row, normed, times its gains. -/
def normed {n : ℕ} (width : BitVec 32) (f g : Fin n → EReal) (b : Fin n) : EReal := f b * scale width f * g b

/-- The logistic function. -/
def gate (g : EReal) : EReal := Ideal.div 1 (1 + Ideal.exp (-g))

end Cert.Step.Norm

end
-- ==== Proof.Step.TwentyFive.lean ====
module

public import proofs.«01_k».proof.Proof.Gen.Kernel25Ideal.Value
public import proofs.«01_k».proof.Proof.Gen.Reference25Ideal.Run
public import proofs.«01_k».proof.Proof.Step.Norm
public import Idealize.ShloMosaic.Lib.Pipeline.ValueKit
public import Idealize.ShloMosaic.Lib.ValueLayout
public import Idealize.ShloMosaic.Lib.Pointwise

/-! The norm before the mixers. -/

@[expose] public section

set_option maxRecDepth 16384

noncomputable section

namespace Cert.Step.TwentyFive

open Idealize.ShloMosaic Cert.Mul Cert.Kernel25Ideal Cert.Kernel25Ideal.Gen

/-- An entry of a row of result 1. -/
def row0 (f0 f1 : Fin 2048 → EReal) (b : Fin 2048) : EReal := Norm.normed 0x45000000#32 f0 f1 b

/-- The result 1. -/
def out0 (x0 : FVec Ideal S4096x2048 .f32) (x1 : FVec Ideal S1x2048 .f32) : FVec Ideal S4096x2048 .bf16 := fun i =>
  row0 (fun k => x0 (ix2 (i 0) k)) (fun k => x1 (ix2 (0 : Fin 1) k)) (i 1)

theorem tile0 (x0 : FVec Ideal S256x2048 .f32) (x1 : FVec Ideal S1x2048 .f32) (a : Fin 256) (b : Fin 2048) : (k0_pay1 (F := Ideal) x0 x1 (ix2 a b) : EReal) =
    row0 (fun k => x0 (ix2 a k)) (fun k => x1 (ix2 (0 : Fin 1) k)) b := by
  pointwise [k0_pay1]
  rfl

end Cert.Step.TwentyFive

namespace Cert.Step.TwentyFive

open Idealize.ShloMosaic Cert.Reference25Ideal Cert.Reference25Ideal.Gen

/-- The reference's result 1. -/
theorem reference_out0 (x0 : FVec Ideal S4096x2048 .f32) (x1 : FVec Ideal S1x2048 .f32) :
    truncf .bf16 (mulf (mulf x0 (broadcastInDim S4096x2048 ![0, 1] bcast_S4096x1_S4096x2048_0_1 (Host.rsqrt (addf (Host.divf (broadcastInDim S4096x1 ![0] bcast_S4096_S4096x1_0 (Host.reduceAdd (mulf x0 x0) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 (shapeCast _ x1 shapeCasts_S1x2048_S2048)))) bitsLt_bf16_f32 = out0 x0 x1 := by
  funext i
  obtain ⟨a, b, rfl⟩ : ∃ (a : Fin 4096) (b : Fin 2048), i = ix2 a b := ⟨i 0, i 1, ValueIdx.eq_ix2 i⟩
  pointwise
  rfl

theorem out0_congr {x0 x0' : FVec Ideal S4096x2048 .f32} {x1 x1' : FVec Ideal S1x2048 .f32} (h0 : x0 = x0') (h1 : x1 = x1') :
    out0 x0 x1 = out0 x0' x1' := by
  rw [h0, h1]

end Cert.Step.TwentyFive

namespace Cert.Step.TwentyFive

open Idealize.ShloMosaic hiding ix2 ix3 eq_ix2 eq_ix3
open Idealize.ShloMosaic.ValueIdx Idealize.ShloMosaic.TcCoe Idealize.ShloMosaic.Pipeline Idealize.SL.Sem Cert.Kernel25Ideal Cert.Kernel25Ideal.Gen

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

theorem read0 (t : Fin cfg0.N) (a : Fin 256) (b : Fin 2048) (r : Fin 4096) (hr : r.val = t.val * 256 + a.val) :
    iblk m c 0 t (ix2 a b) = m ((c : Thread nD τ).loc main_arg0) (ix2 r b) := by
  have e1 : (win0_0.blk t).view.emb (ix2 a b) = ix2 r b := by
    blk_ext [index0] <;> first | rfl | (change _ + a.val = r.val; omega)
  blk_simp [iblk]
  rw [e1, V_main_arg0]

theorem read1 (t : Fin cfg0.N) (b : Fin 2048) :
    iblk m c 1 t (ix2 (0 : Fin 1) b) = m ((c : Thread nD τ).loc main_arg1) (ix2 (0 : Fin 1) b) := by
  have e1 : (win0_1.blk t).view.emb (ix2 (0 : Fin 1) b) = ix2 (0 : Fin 1) b := by
    blk_ext [index1] <;> rfl
  blk_simp [iblk]
  rw [e1, V_main_arg1]

theorem point0 (t : Fin cfg0.N) : (out0_2 (iblk m c 0 t) (iblk m c 1 t)) = k0_pay1 (iblk m c 0 t) (iblk m c 1 t) := by
  unfold out0_2
  frame_out

/-- The kernel's result 1. -/
theorem array0 : (dats m 0 c).arrAt 2 cfg0.N = out0 (m ((c : Thread nD τ).loc main_arg0)) (m ((c : Thread nD τ).loc main_arg1)) := by
  refine (dats m 0 c).arrAt_eq_of_covers 2 _ (by decide +kernel) fun t hf y => ?_
  blk_simp
  rw [after0_2]
  have hN : t.val < 16 := lt_of_lt_of_eq t.isLt (show cfg0.N = 16 from N_0)
  obtain ⟨a, b, rfl⟩ : ∃ (a : Fin 256) (b : Fin 2048), y = ix2 a b := ⟨y 0, y 1, eq_ix2 y⟩
  have ha := a.isLt
  have hb := b.isLt
  have e1 : (win0_2.blk t).view.emb (ix2 a b) = ix2 (⟨t.val * 256 + a.val, by omega⟩ : Fin 4096) b := by
    blk_ext [index2] <;> first | rfl | (change _ + a.val = _; omega)
  have h0 : (fun k : Fin 2048 => iblk m c 0 t (ix2 a k)) = fun k => m ((c : Thread nD τ).loc main_arg0) (ix2 (⟨t.val * 256 + a.val, by omega⟩ : Fin 4096) k) :=
    funext fun k => read0 m c t a k _ rfl
  have h1 : (fun k : Fin 2048 => iblk m c 1 t (ix2 (0 : Fin 1) k)) = fun k => m ((c : Thread nD τ).loc main_arg1) (ix2 (0 : Fin 1) k) :=
    funext fun k => read1 m c t k
  rw [e1, point0 m c t]
  refine (tile0 (iblk m c 0 t) (iblk m c 1 t) a b).trans ?_
  show row0 (fun k : Fin 2048 => iblk m c 0 t (ix2 a k)) (fun k : Fin 2048 => iblk m c 1 t (ix2 (0 : Fin 1) k)) b = row0 (fun k => m ((c : Thread nD τ).loc main_arg0) (ix2 (⟨t.val * 256 + a.val, by omega⟩ : Fin 4096) k)) (fun k => m ((c : Thread nD τ).loc main_arg1) (ix2 (0 : Fin 1) k)) b
  rw [h0, h1]

end Cert.Step.TwentyFive

end
-- ==== Proof.Claims.TwentyFive.lean ====
module

public import proofs.«01_k».proof.Defs
public import proofs.«01_k».proof.Proof.Gen.Kernel25.Frame
public import proofs.«01_k».proof.Proof.Gen.Kernel25Ideal.Frame
public import proofs.«01_k».proof.Proof.Step.TwentyFive

/-! The norm before the mixers: the claims. -/

@[expose] public section

noncomputable section

namespace Cert.Proof.TwentyFive

open Idealize.ShloMosaic Idealize.ShloMosaic.TcCoe Idealize.SL.Sem

instance : Cert.Kernel25.Facts := Cert.Kernel25.Gen.facts
instance : Cert.Kernel25Ideal.Facts := Cert.Kernel25Ideal.Gen.facts
instance : Cert.Reference25Ideal.Facts := Cert.Reference25Ideal.Gen.facts

/-- The kernel runs, leaves its arguments and its counters as it found them. -/
theorem frame_p : Cert.quiescent_Kernel25 := fun m ρ _ => Cert.Kernel25.Gen.frame m ρ

/-- So does the kernel over the extended reals. -/
theorem frame_pi : Cert.quiescent_Kernel25Ideal := fun m ρ _ => Cert.Kernel25Ideal.Gen.frame m ρ

/-- So does the reference over the extended reals. -/
theorem frame_ri : Cert.quiescent_Reference25Ideal := fun m ρ _ =>
  (θ_run Cert.Reference25Ideal.defs _ _).mono (fun r h => ⟨fun c => (h c).2, Idealize.ShloMosaic.sem_eq_zero_of_no_sems (by decide) r.2⟩)
    (Cert.Reference25Ideal.Value.run (F := Ideal) m ρ)

/-- Over the extended reals the kernel and the reference end with the same arrays. -/
theorem algebraic : Cert.algebraic_Kernel25Ideal_Reference25Ideal := by
  intro m ρ m' ρ' hm hagree
  refine ⟨fun c => Cert.Step.TwentyFive.out0 (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)), ?_, ?_⟩
  · refine (θ_run Cert.Kernel25Ideal.defs _ _).mono (fun r h c => ?_) (Cert.Kernel25Ideal.Value.run_blocks (F := Ideal) m ρ)
    exact ⟨(h c).1.trans (Cert.Step.TwentyFive.array0 m c), (h c).2⟩
  · refine (θ_run Cert.Reference25Ideal.defs _ _).mono (fun r h c => ?_) (Cert.Reference25Ideal.Value.run (F := Ideal) m' ρ')
    obtain ⟨a0, a1⟩ := hagree c
    exact ⟨(h c).1.trans ((Cert.Step.TwentyFive.reference_out0 _ _ ).trans (Cert.Step.TwentyFive.out0_congr a0 a1)), (h c).2⟩

end Cert.Proof.TwentyFive

end
-- ==== Proof.Step.TwentySix.lean ====
module

public import proofs.«01_k».proof.Proof.Gen.Kernel26Ideal.Value
public import proofs.«01_k».proof.Proof.Gen.Reference26Ideal.Run
public import proofs.«01_k».proof.Proof.Step.Norm
public import Idealize.ShloMosaic.Lib.Pipeline.ValueKit
public import Idealize.ShloMosaic.Lib.ValueLayout
public import Idealize.ShloMosaic.Lib.Pointwise

/-! The norm after the mixers, the sum with the layer's input and the norm before the feed-forward block. -/

@[expose] public section

set_option maxRecDepth 16384

noncomputable section

namespace Cert.Step.TwentySix

open Idealize.ShloMosaic Cert.Mul Cert.Kernel26Ideal Cert.Kernel26Ideal.Gen

/-- An entry of a row of result 1. -/
def row0 (f0 f1 f2 f3 : Fin 2048 → EReal) (b : Fin 2048) : EReal := f0 b + Norm.normed 0x45000000#32 f1 f2 b

/-- An entry of a row of result 2. -/
def row1 (f0 f1 f2 f3 : Fin 2048 → EReal) (b : Fin 2048) : EReal := Norm.normed 0x45000000#32 (row0 f0 f1 f2 f3) f3 b

/-- The result 1. -/
def out0 (x0 : FVec Ideal S4096x2048 .f32) (x1 : FVec Ideal S4096x2048 .f32) (x2 : FVec Ideal S1x2048 .f32) (x3 : FVec Ideal S1x2048 .f32) : FVec Ideal S4096x2048 .f32 := fun i =>
  row0 (fun k => x0 (ix2 (i 0) k)) (fun k => x1 (ix2 (i 0) k)) (fun k => x2 (ix2 (0 : Fin 1) k)) (fun k => x3 (ix2 (0 : Fin 1) k)) (i 1)

/-- The result 2. -/
def out1 (x0 : FVec Ideal S4096x2048 .f32) (x1 : FVec Ideal S4096x2048 .f32) (x2 : FVec Ideal S1x2048 .f32) (x3 : FVec Ideal S1x2048 .f32) : FVec Ideal S4096x2048 .bf16 := fun i =>
  row1 (fun k => x0 (ix2 (i 0) k)) (fun k => x1 (ix2 (i 0) k)) (fun k => x2 (ix2 (0 : Fin 1) k)) (fun k => x3 (ix2 (0 : Fin 1) k)) (i 1)

theorem tile0 (x0 : FVec Ideal S256x2048 .f32) (x1 : FVec Ideal S256x2048 .f32) (x2 : FVec Ideal S1x2048 .f32) (x3 : FVec Ideal S1x2048 .f32) (a : Fin 256) (b : Fin 2048) : (k0_pay1 (F := Ideal) x0 x1 x2 (ix2 a b) : EReal) =
    row0 (fun k => x0 (ix2 a k)) (fun k => x1 (ix2 a k)) (fun k => x2 (ix2 (0 : Fin 1) k)) (fun k => x3 (ix2 (0 : Fin 1) k)) b := by
  pointwise [k0_pay1, k0_pay2]
  rfl

theorem tile1 (x0 : FVec Ideal S256x2048 .f32) (x1 : FVec Ideal S256x2048 .f32) (x2 : FVec Ideal S1x2048 .f32) (x3 : FVec Ideal S1x2048 .f32) (a : Fin 256) (b : Fin 2048) : (k0_pay2 (F := Ideal) x0 x1 x2 x3 (ix2 a b) : EReal) =
    row1 (fun k => x0 (ix2 a k)) (fun k => x1 (ix2 a k)) (fun k => x2 (ix2 (0 : Fin 1) k)) (fun k => x3 (ix2 (0 : Fin 1) k)) b := by
  pointwise [k0_pay1, k0_pay2]
  rfl

end Cert.Step.TwentySix

namespace Cert.Step.TwentySix

open Idealize.ShloMosaic Cert.Reference26Ideal Cert.Reference26Ideal.Gen

/-- The reference's result 1. -/
theorem reference_out0 (x0 : FVec Ideal S4096x2048 .f32) (x1 : FVec Ideal S4096x2048 .f32) (x2 : FVec Ideal S1x2048 .f32) (x3 : FVec Ideal S1x2048 .f32) :
    addf x0 (mulf (mulf x1 (broadcastInDim S4096x2048 ![0, 1] bcast_S4096x1_S4096x2048_0_1 (Host.rsqrt (addf (Host.divf (broadcastInDim S4096x1 ![0] bcast_S4096_S4096x1_0 (Host.reduceAdd (mulf x1 x1) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 (shapeCast _ x2 shapeCasts_S1x2048_S2048)))) = out0 x0 x1 x2 x3 := by
  funext i
  obtain ⟨a, b, rfl⟩ : ∃ (a : Fin 4096) (b : Fin 2048), i = ix2 a b := ⟨i 0, i 1, ValueIdx.eq_ix2 i⟩
  pointwise
  rfl

/-- The reference's result 2. -/
theorem reference_out1 (x0 : FVec Ideal S4096x2048 .f32) (x1 : FVec Ideal S4096x2048 .f32) (x2 : FVec Ideal S1x2048 .f32) (x3 : FVec Ideal S1x2048 .f32) :
    truncf .bf16 (mulf (mulf (addf x0 (mulf (mulf x1 (broadcastInDim S4096x2048 ![0, 1] bcast_S4096x1_S4096x2048_0_1 (Host.rsqrt (addf (Host.divf (broadcastInDim S4096x1 ![0] bcast_S4096_S4096x1_0 (Host.reduceAdd (mulf x1 x1) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 (shapeCast _ x2 shapeCasts_S1x2048_S2048))))) (broadcastInDim S4096x2048 ![0, 1] bcast_S4096x1_S4096x2048_0_1 (Host.rsqrt (addf (Host.divf (broadcastInDim S4096x1 ![0] bcast_S4096_S4096x1_0 (Host.reduceAdd (mulf (addf x0 (mulf (mulf x1 (broadcastInDim S4096x2048 ![0, 1] bcast_S4096x1_S4096x2048_0_1 (Host.rsqrt (addf (Host.divf (broadcastInDim S4096x1 ![0] bcast_S4096_S4096x1_0 (Host.reduceAdd (mulf x1 x1) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 (shapeCast _ x2 shapeCasts_S1x2048_S2048))))) (addf x0 (mulf (mulf x1 (broadcastInDim S4096x2048 ![0, 1] bcast_S4096x1_S4096x2048_0_1 (Host.rsqrt (addf (Host.divf (broadcastInDim S4096x1 ![0] bcast_S4096_S4096x1_0 (Host.reduceAdd (mulf x1 x1) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 (shapeCast _ x2 shapeCasts_S1x2048_S2048)))))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 (shapeCast _ x3 shapeCasts_S1x2048_S2048)))) bitsLt_bf16_f32 = out1 x0 x1 x2 x3 := by
  funext i
  obtain ⟨a, b, rfl⟩ : ∃ (a : Fin 4096) (b : Fin 2048), i = ix2 a b := ⟨i 0, i 1, ValueIdx.eq_ix2 i⟩
  pointwise
  rfl

theorem out0_congr {x0 x0' : FVec Ideal S4096x2048 .f32} {x1 x1' : FVec Ideal S4096x2048 .f32} {x2 x2' : FVec Ideal S1x2048 .f32} {x3 x3' : FVec Ideal S1x2048 .f32} (h0 : x0 = x0') (h1 : x1 = x1') (h2 : x2 = x2') (h3 : x3 = x3') :
    out0 x0 x1 x2 x3 = out0 x0' x1' x2' x3' := by
  rw [h0, h1, h2, h3]

theorem out1_congr {x0 x0' : FVec Ideal S4096x2048 .f32} {x1 x1' : FVec Ideal S4096x2048 .f32} {x2 x2' : FVec Ideal S1x2048 .f32} {x3 x3' : FVec Ideal S1x2048 .f32} (h0 : x0 = x0') (h1 : x1 = x1') (h2 : x2 = x2') (h3 : x3 = x3') :
    out1 x0 x1 x2 x3 = out1 x0' x1' x2' x3' := by
  rw [h0, h1, h2, h3]

end Cert.Step.TwentySix

namespace Cert.Step.TwentySix

open Idealize.ShloMosaic hiding ix2 ix3 eq_ix2 eq_ix3
open Idealize.ShloMosaic.ValueIdx Idealize.ShloMosaic.TcCoe Idealize.ShloMosaic.Pipeline Idealize.SL.Sem Cert.Kernel26Ideal Cert.Kernel26Ideal.Gen

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

theorem read0 (t : Fin cfg0.N) (a : Fin 256) (b : Fin 2048) (r : Fin 4096) (hr : r.val = t.val * 256 + a.val) :
    iblk m c 0 t (ix2 a b) = m ((c : Thread nD τ).loc main_arg0) (ix2 r b) := by
  have e1 : (win0_0.blk t).view.emb (ix2 a b) = ix2 r b := by
    blk_ext [index0] <;> first | rfl | (change _ + a.val = r.val; omega)
  blk_simp [iblk]
  rw [e1, V_main_arg0]

theorem read1 (t : Fin cfg0.N) (a : Fin 256) (b : Fin 2048) (r : Fin 4096) (hr : r.val = t.val * 256 + a.val) :
    iblk m c 1 t (ix2 a b) = m ((c : Thread nD τ).loc main_arg1) (ix2 r b) := by
  have e1 : (win0_1.blk t).view.emb (ix2 a b) = ix2 r b := by
    blk_ext [index1] <;> first | rfl | (change _ + a.val = r.val; omega)
  blk_simp [iblk]
  rw [e1, V_main_arg1]

theorem read2 (t : Fin cfg0.N) (b : Fin 2048) :
    iblk m c 2 t (ix2 (0 : Fin 1) b) = m ((c : Thread nD τ).loc main_arg2) (ix2 (0 : Fin 1) b) := by
  have e1 : (win0_2.blk t).view.emb (ix2 (0 : Fin 1) b) = ix2 (0 : Fin 1) b := by
    blk_ext [index2] <;> rfl
  blk_simp [iblk]
  rw [e1, V_main_arg2]

theorem read3 (t : Fin cfg0.N) (b : Fin 2048) :
    iblk m c 3 t (ix2 (0 : Fin 1) b) = m ((c : Thread nD τ).loc main_arg3) (ix2 (0 : Fin 1) b) := by
  have e1 : (win0_3.blk t).view.emb (ix2 (0 : Fin 1) b) = ix2 (0 : Fin 1) b := by
    blk_ext [index3] <;> rfl
  blk_simp [iblk]
  rw [e1, V_main_arg3]

theorem point0 (t : Fin cfg0.N) : (out0_4 (iblk m c 0 t) (iblk m c 1 t) (iblk m c 2 t) (iblk m c 3 t)) = k0_pay1 (iblk m c 0 t) (iblk m c 1 t) (iblk m c 2 t) := by
  unfold out0_4
  frame_out

/-- The kernel's result 1. -/
theorem array0 : (dats m 0 c).arrAt 4 cfg0.N = out0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have hN : t.val < 16 := lt_of_lt_of_eq t.isLt (show cfg0.N = 16 from N_0)
  obtain ⟨a, b, rfl⟩ : ∃ (a : Fin 256) (b : Fin 2048), y = ix2 a b := ⟨y 0, y 1, eq_ix2 y⟩
  have ha := a.isLt
  have hb := b.isLt
  have e1 : (win0_4.blk t).view.emb (ix2 a b) = ix2 (⟨t.val * 256 + a.val, by omega⟩ : Fin 4096) b := by
    blk_ext [index4] <;> first | rfl | (change _ + a.val = _; omega)
  have h0 : (fun k : Fin 2048 => iblk m c 0 t (ix2 a k)) = fun k => m ((c : Thread nD τ).loc main_arg0) (ix2 (⟨t.val * 256 + a.val, by omega⟩ : Fin 4096) k) :=
    funext fun k => read0 m c t a k _ rfl
  have h1 : (fun k : Fin 2048 => iblk m c 1 t (ix2 a k)) = fun k => m ((c : Thread nD τ).loc main_arg1) (ix2 (⟨t.val * 256 + a.val, by omega⟩ : Fin 4096) k) :=
    funext fun k => read1 m c t a k _ rfl
  have h2 : (fun k : Fin 2048 => iblk m c 2 t (ix2 (0 : Fin 1) k)) = fun k => m ((c : Thread nD τ).loc main_arg2) (ix2 (0 : Fin 1) k) :=
    funext fun k => read2 m c t k
  have h3 : (fun k : Fin 2048 => iblk m c 3 t (ix2 (0 : Fin 1) k)) = fun k => m ((c : Thread nD τ).loc main_arg3) (ix2 (0 : Fin 1) k) :=
    funext fun k => read3 m c t k
  rw [e1, point0 m c t]
  refine (tile0 (iblk m c 0 t) (iblk m c 1 t) (iblk m c 2 t) (iblk m c 3 t) a b).trans ?_
  show row0 (fun k : Fin 2048 => iblk m c 0 t (ix2 a k)) (fun k : Fin 2048 => iblk m c 1 t (ix2 a k)) (fun k : Fin 2048 => iblk m c 2 t (ix2 (0 : Fin 1) k)) (fun k : Fin 2048 => iblk m c 3 t (ix2 (0 : Fin 1) k)) b = row0 (fun k => m ((c : Thread nD τ).loc main_arg0) (ix2 (⟨t.val * 256 + a.val, by omega⟩ : Fin 4096) k)) (fun k => m ((c : Thread nD τ).loc main_arg1) (ix2 (⟨t.val * 256 + a.val, by omega⟩ : Fin 4096) k)) (fun k => m ((c : Thread nD τ).loc main_arg2) (ix2 (0 : Fin 1) k)) (fun k => m ((c : Thread nD τ).loc main_arg3) (ix2 (0 : Fin 1) k)) b
  rw [h0, h1, h2, h3]

theorem point1 (t : Fin cfg0.N) : (out0_5 (iblk m c 0 t) (iblk m c 1 t) (iblk m c 2 t) (iblk m c 3 t)) = k0_pay2 (iblk m c 0 t) (iblk m c 1 t) (iblk m c 2 t) (iblk m c 3 t) := by
  unfold out0_5
  frame_out

/-- The kernel's result 2. -/
theorem array1 : (dats m 0 c).arrAt 5 cfg0.N = out1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have hN : t.val < 16 := lt_of_lt_of_eq t.isLt (show cfg0.N = 16 from N_0)
  obtain ⟨a, b, rfl⟩ : ∃ (a : Fin 256) (b : Fin 2048), y = ix2 a b := ⟨y 0, y 1, eq_ix2 y⟩
  have ha := a.isLt
  have hb := b.isLt
  have e1 : (win0_5.blk t).view.emb (ix2 a b) = ix2 (⟨t.val * 256 + a.val, by omega⟩ : Fin 4096) b := by
    blk_ext [index5] <;> first | rfl | (change _ + a.val = _; omega)
  have h0 : (fun k : Fin 2048 => iblk m c 0 t (ix2 a k)) = fun k => m ((c : Thread nD τ).loc main_arg0) (ix2 (⟨t.val * 256 + a.val, by omega⟩ : Fin 4096) k) :=
    funext fun k => read0 m c t a k _ rfl
  have h1 : (fun k : Fin 2048 => iblk m c 1 t (ix2 a k)) = fun k => m ((c : Thread nD τ).loc main_arg1) (ix2 (⟨t.val * 256 + a.val, by omega⟩ : Fin 4096) k) :=
    funext fun k => read1 m c t a k _ rfl
  have h2 : (fun k : Fin 2048 => iblk m c 2 t (ix2 (0 : Fin 1) k)) = fun k => m ((c : Thread nD τ).loc main_arg2) (ix2 (0 : Fin 1) k) :=
    funext fun k => read2 m c t k
  have h3 : (fun k : Fin 2048 => iblk m c 3 t (ix2 (0 : Fin 1) k)) = fun k => m ((c : Thread nD τ).loc main_arg3) (ix2 (0 : Fin 1) k) :=
    funext fun k => read3 m c t k
  rw [e1, point1 m c t]
  refine (tile1 (iblk m c 0 t) (iblk m c 1 t) (iblk m c 2 t) (iblk m c 3 t) a b).trans ?_
  show row1 (fun k : Fin 2048 => iblk m c 0 t (ix2 a k)) (fun k : Fin 2048 => iblk m c 1 t (ix2 a k)) (fun k : Fin 2048 => iblk m c 2 t (ix2 (0 : Fin 1) k)) (fun k : Fin 2048 => iblk m c 3 t (ix2 (0 : Fin 1) k)) b = row1 (fun k => m ((c : Thread nD τ).loc main_arg0) (ix2 (⟨t.val * 256 + a.val, by omega⟩ : Fin 4096) k)) (fun k => m ((c : Thread nD τ).loc main_arg1) (ix2 (⟨t.val * 256 + a.val, by omega⟩ : Fin 4096) k)) (fun k => m ((c : Thread nD τ).loc main_arg2) (ix2 (0 : Fin 1) k)) (fun k => m ((c : Thread nD τ).loc main_arg3) (ix2 (0 : Fin 1) k)) b
  rw [h0, h1, h2, h3]

end Cert.Step.TwentySix

end
-- ==== Proof.Claims.TwentySix.lean ====
module

public import proofs.«01_k».proof.Defs
public import proofs.«01_k».proof.Proof.Gen.Kernel26.Frame
public import proofs.«01_k».proof.Proof.Gen.Kernel26Ideal.Frame
public import proofs.«01_k».proof.Proof.Step.TwentySix

/-! The norm after the mixers, the sum with the layer's input and the norm before the feed-forward block: the claims. -/

@[expose] public section

noncomputable section

namespace Cert.Proof.TwentySix

open Idealize.ShloMosaic Idealize.ShloMosaic.TcCoe Idealize.SL.Sem

instance : Cert.Kernel26.Facts := Cert.Kernel26.Gen.facts
instance : Cert.Kernel26Ideal.Facts := Cert.Kernel26Ideal.Gen.facts
instance : Cert.Reference26Ideal.Facts := Cert.Reference26Ideal.Gen.facts

/-- The kernel runs, leaves its arguments and its counters as it found them. -/
theorem frame_p : Cert.quiescent_Kernel26 := fun m ρ _ => Cert.Kernel26.Gen.frame m ρ

/-- So does the kernel over the extended reals. -/
theorem frame_pi : Cert.quiescent_Kernel26Ideal := fun m ρ _ => Cert.Kernel26Ideal.Gen.frame m ρ

/-- So does the reference over the extended reals. -/
theorem frame_ri : Cert.quiescent_Reference26Ideal := fun m ρ _ =>
  (θ_run Cert.Reference26Ideal.defs _ _).mono (fun r h => ⟨fun c => (h c).2.2, Idealize.ShloMosaic.sem_eq_zero_of_no_sems (by decide) r.2⟩)
    (Cert.Reference26Ideal.Value.run (F := Ideal) m ρ)

/-- Over the extended reals the kernel and the reference end with the same arrays. -/
theorem algebraic : Cert.algebraic_Kernel26Ideal_Reference26Ideal := by
  intro m ρ m' ρ' hm hagree
  refine ⟨fun c => Cert.Step.TwentySix.out0 (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)), fun c => Cert.Step.TwentySix.out1 (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)), ?_, ?_⟩
  · refine (θ_run Cert.Kernel26Ideal.defs _ _).mono (fun r h c => ?_) (Cert.Kernel26Ideal.Value.run_blocks (F := Ideal) m ρ)
    exact ⟨(h c).1.trans (Cert.Step.TwentySix.array0 m c), (h c).2.1.trans (Cert.Step.TwentySix.array1 m c), (h c).2.2⟩
  · refine (θ_run Cert.Reference26Ideal.defs _ _).mono (fun r h c => ?_) (Cert.Reference26Ideal.Value.run (F := Ideal) m' ρ')
    obtain ⟨a0, a1, a2, a3⟩ := hagree c
    exact ⟨(h c).1.trans ((Cert.Step.TwentySix.reference_out0 _ _ _ _ ).trans (Cert.Step.TwentySix.out0_congr a0 a1 a2 a3)), (h c).2.1.trans ((Cert.Step.TwentySix.reference_out1 _ _ _ _ ).trans (Cert.Step.TwentySix.out1_congr a0 a1 a2 a3)), (h c).2.2⟩

end Cert.Proof.TwentySix

end
-- ==== Proof.Step.TwentySeven.lean ====
module

public import proofs.«01_k».proof.Proof.Gen.Kernel27Ideal.Value
public import proofs.«01_k».proof.Proof.Gen.Reference27Ideal.Run
public import proofs.«01_k».proof.Proof.Step.Norm
public import Idealize.ShloMosaic.Lib.Pipeline.ValueKit
public import Idealize.ShloMosaic.Lib.ValueLayout
public import Idealize.ShloMosaic.Lib.Pointwise

/-! The layer's own input, gated and added, and the next layer's first norm. -/

@[expose] public section

set_option maxRecDepth 16384

noncomputable section

namespace Cert.Step.TwentySeven

open Idealize.ShloMosaic Cert.Mul Cert.Kernel27Ideal Cert.Kernel27Ideal.Gen

/-- An entry of a row of result 1. -/
def row0 (f0 f1 f2 f3 : Fin 2048 → EReal) (b : Fin 2048) : EReal := f0 b + Norm.gate (f1 b) * f2 b

/-- An entry of a row of result 2. -/
def row1 (f0 f1 f2 f3 : Fin 2048 → EReal) (b : Fin 2048) : EReal := Norm.normed 0x45000000#32 (row0 f0 f1 f2 f3) f3 b

/-- The result 1. -/
def out0 (x0 : FVec Ideal S4096x2048 .f32) (x1 : FVec Ideal S4096x2048 .f32) (x2 : FVec Ideal S4096x2048 .f32) (x3 : FVec Ideal S1x2048 .f32) : FVec Ideal S4096x2048 .f32 := fun i =>
  row0 (fun k => x0 (ix2 (i 0) k)) (fun k => x1 (ix2 (i 0) k)) (fun k => x2 (ix2 (i 0) k)) (fun k => x3 (ix2 (0 : Fin 1) k)) (i 1)

/-- The result 2. -/
def out1 (x0 : FVec Ideal S4096x2048 .f32) (x1 : FVec Ideal S4096x2048 .f32) (x2 : FVec Ideal S4096x2048 .f32) (x3 : FVec Ideal S1x2048 .f32) : FVec Ideal S4096x2048 .bf16 := fun i =>
  row1 (fun k => x0 (ix2 (i 0) k)) (fun k => x1 (ix2 (i 0) k)) (fun k => x2 (ix2 (i 0) k)) (fun k => x3 (ix2 (0 : Fin 1) k)) (i 1)

theorem tile0 (x0 : FVec Ideal S256x2048 .f32) (x1 : FVec Ideal S256x2048 .f32) (x2 : FVec Ideal S256x2048 .f32) (x3 : FVec Ideal S1x2048 .f32) (a : Fin 256) (b : Fin 2048) : (k0_pay1 (F := Ideal) x0 x1 x2 (ix2 a b) : EReal) =
    row0 (fun k => x0 (ix2 a k)) (fun k => x1 (ix2 a k)) (fun k => x2 (ix2 a k)) (fun k => x3 (ix2 (0 : Fin 1) k)) b := by
  pointwise [k0_pay1, k0_pay2]
  simp only [zero_sub]
  rfl

theorem tile1 (x0 : FVec Ideal S256x2048 .f32) (x1 : FVec Ideal S256x2048 .f32) (x2 : FVec Ideal S256x2048 .f32) (x3 : FVec Ideal S1x2048 .f32) (a : Fin 256) (b : Fin 2048) : (k0_pay2 (F := Ideal) x0 x1 x2 x3 (ix2 a b) : EReal) =
    row1 (fun k => x0 (ix2 a k)) (fun k => x1 (ix2 a k)) (fun k => x2 (ix2 a k)) (fun k => x3 (ix2 (0 : Fin 1) k)) b := by
  pointwise [k0_pay1, k0_pay2]
  simp only [zero_sub]
  rfl

end Cert.Step.TwentySeven

namespace Cert.Step.TwentySeven

open Idealize.ShloMosaic Cert.Reference27Ideal Cert.Reference27Ideal.Gen

/-- The reference's result 1. -/
theorem reference_out0 (x0 : FVec Ideal S4096x2048 .f32) (x1 : FVec Ideal S4096x2048 .f32) (x2 : FVec Ideal S4096x2048 .f32) (x3 : FVec Ideal S1x2048 .f32) :
    addf x0 (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf x1)))) x2) = out0 x0 x1 x2 x3 := by
  funext i
  obtain ⟨a, b, rfl⟩ : ∃ (a : Fin 4096) (b : Fin 2048), i = ix2 a b := ⟨i 0, i 1, ValueIdx.eq_ix2 i⟩
  pointwise
  rfl

/-- The reference's result 2. -/
theorem reference_out1 (x0 : FVec Ideal S4096x2048 .f32) (x1 : FVec Ideal S4096x2048 .f32) (x2 : FVec Ideal S4096x2048 .f32) (x3 : FVec Ideal S1x2048 .f32) :
    truncf .bf16 (mulf (mulf (addf x0 (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf x1)))) x2)) (broadcastInDim S4096x2048 ![0, 1] bcast_S4096x1_S4096x2048_0_1 (Host.rsqrt (addf (Host.divf (broadcastInDim S4096x1 ![0] bcast_S4096_S4096x1_0 (Host.reduceAdd (mulf (addf x0 (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf x1)))) x2)) (addf x0 (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf x1)))) x2))) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 (shapeCast _ x3 shapeCasts_S1x2048_S2048)))) bitsLt_bf16_f32 = out1 x0 x1 x2 x3 := by
  funext i
  obtain ⟨a, b, rfl⟩ : ∃ (a : Fin 4096) (b : Fin 2048), i = ix2 a b := ⟨i 0, i 1, ValueIdx.eq_ix2 i⟩
  pointwise
  rfl

theorem out0_congr {x0 x0' : FVec Ideal S4096x2048 .f32} {x1 x1' : FVec Ideal S4096x2048 .f32} {x2 x2' : FVec Ideal S4096x2048 .f32} {x3 x3' : FVec Ideal S1x2048 .f32} (h0 : x0 = x0') (h1 : x1 = x1') (h2 : x2 = x2') (h3 : x3 = x3') :
    out0 x0 x1 x2 x3 = out0 x0' x1' x2' x3' := by
  rw [h0, h1, h2, h3]

theorem out1_congr {x0 x0' : FVec Ideal S4096x2048 .f32} {x1 x1' : FVec Ideal S4096x2048 .f32} {x2 x2' : FVec Ideal S4096x2048 .f32} {x3 x3' : FVec Ideal S1x2048 .f32} (h0 : x0 = x0') (h1 : x1 = x1') (h2 : x2 = x2') (h3 : x3 = x3') :
    out1 x0 x1 x2 x3 = out1 x0' x1' x2' x3' := by
  rw [h0, h1, h2, h3]

end Cert.Step.TwentySeven

namespace Cert.Step.TwentySeven

open Idealize.ShloMosaic hiding ix2 ix3 eq_ix2 eq_ix3
open Idealize.ShloMosaic.ValueIdx Idealize.ShloMosaic.TcCoe Idealize.ShloMosaic.Pipeline Idealize.SL.Sem Cert.Kernel27Ideal Cert.Kernel27Ideal.Gen

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

theorem read0 (t : Fin cfg0.N) (a : Fin 256) (b : Fin 2048) (r : Fin 4096) (hr : r.val = t.val * 256 + a.val) :
    iblk m c 0 t (ix2 a b) = m ((c : Thread nD τ).loc main_arg0) (ix2 r b) := by
  have e1 : (win0_0.blk t).view.emb (ix2 a b) = ix2 r b := by
    blk_ext [index0] <;> first | rfl | (change _ + a.val = r.val; omega)
  blk_simp [iblk]
  rw [e1, V_main_arg0]

theorem read1 (t : Fin cfg0.N) (a : Fin 256) (b : Fin 2048) (r : Fin 4096) (hr : r.val = t.val * 256 + a.val) :
    iblk m c 1 t (ix2 a b) = m ((c : Thread nD τ).loc main_arg1) (ix2 r b) := by
  have e1 : (win0_1.blk t).view.emb (ix2 a b) = ix2 r b := by
    blk_ext [index1] <;> first | rfl | (change _ + a.val = r.val; omega)
  blk_simp [iblk]
  rw [e1, V_main_arg1]

theorem read2 (t : Fin cfg0.N) (a : Fin 256) (b : Fin 2048) (r : Fin 4096) (hr : r.val = t.val * 256 + a.val) :
    iblk m c 2 t (ix2 a b) = m ((c : Thread nD τ).loc main_arg2) (ix2 r b) := by
  have e1 : (win0_2.blk t).view.emb (ix2 a b) = ix2 r b := by
    blk_ext [index2] <;> first | rfl | (change _ + a.val = r.val; omega)
  blk_simp [iblk]
  rw [e1, V_main_arg2]

theorem read3 (t : Fin cfg0.N) (b : Fin 2048) :
    iblk m c 3 t (ix2 (0 : Fin 1) b) = m ((c : Thread nD τ).loc main_arg3) (ix2 (0 : Fin 1) b) := by
  have e1 : (win0_3.blk t).view.emb (ix2 (0 : Fin 1) b) = ix2 (0 : Fin 1) b := by
    blk_ext [index3] <;> rfl
  blk_simp [iblk]
  rw [e1, V_main_arg3]

theorem point0 (t : Fin cfg0.N) : (out0_4 (iblk m c 0 t) (iblk m c 1 t) (iblk m c 2 t) (iblk m c 3 t)) = k0_pay1 (iblk m c 0 t) (iblk m c 1 t) (iblk m c 2 t) := by
  unfold out0_4
  frame_out

/-- The kernel's result 1. -/
theorem array0 : (dats m 0 c).arrAt 4 cfg0.N = out0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have hN : t.val < 16 := lt_of_lt_of_eq t.isLt (show cfg0.N = 16 from N_0)
  obtain ⟨a, b, rfl⟩ : ∃ (a : Fin 256) (b : Fin 2048), y = ix2 a b := ⟨y 0, y 1, eq_ix2 y⟩
  have ha := a.isLt
  have hb := b.isLt
  have e1 : (win0_4.blk t).view.emb (ix2 a b) = ix2 (⟨t.val * 256 + a.val, by omega⟩ : Fin 4096) b := by
    blk_ext [index4] <;> first | rfl | (change _ + a.val = _; omega)
  have h0 : (fun k : Fin 2048 => iblk m c 0 t (ix2 a k)) = fun k => m ((c : Thread nD τ).loc main_arg0) (ix2 (⟨t.val * 256 + a.val, by omega⟩ : Fin 4096) k) :=
    funext fun k => read0 m c t a k _ rfl
  have h1 : (fun k : Fin 2048 => iblk m c 1 t (ix2 a k)) = fun k => m ((c : Thread nD τ).loc main_arg1) (ix2 (⟨t.val * 256 + a.val, by omega⟩ : Fin 4096) k) :=
    funext fun k => read1 m c t a k _ rfl
  have h2 : (fun k : Fin 2048 => iblk m c 2 t (ix2 a k)) = fun k => m ((c : Thread nD τ).loc main_arg2) (ix2 (⟨t.val * 256 + a.val, by omega⟩ : Fin 4096) k) :=
    funext fun k => read2 m c t a k _ rfl
  have h3 : (fun k : Fin 2048 => iblk m c 3 t (ix2 (0 : Fin 1) k)) = fun k => m ((c : Thread nD τ).loc main_arg3) (ix2 (0 : Fin 1) k) :=
    funext fun k => read3 m c t k
  rw [e1, point0 m c t]
  refine (tile0 (iblk m c 0 t) (iblk m c 1 t) (iblk m c 2 t) (iblk m c 3 t) a b).trans ?_
  show row0 (fun k : Fin 2048 => iblk m c 0 t (ix2 a k)) (fun k : Fin 2048 => iblk m c 1 t (ix2 a k)) (fun k : Fin 2048 => iblk m c 2 t (ix2 a k)) (fun k : Fin 2048 => iblk m c 3 t (ix2 (0 : Fin 1) k)) b = row0 (fun k => m ((c : Thread nD τ).loc main_arg0) (ix2 (⟨t.val * 256 + a.val, by omega⟩ : Fin 4096) k)) (fun k => m ((c : Thread nD τ).loc main_arg1) (ix2 (⟨t.val * 256 + a.val, by omega⟩ : Fin 4096) k)) (fun k => m ((c : Thread nD τ).loc main_arg2) (ix2 (⟨t.val * 256 + a.val, by omega⟩ : Fin 4096) k)) (fun k => m ((c : Thread nD τ).loc main_arg3) (ix2 (0 : Fin 1) k)) b
  rw [h0, h1, h2, h3]

theorem point1 (t : Fin cfg0.N) : (out0_5 (iblk m c 0 t) (iblk m c 1 t) (iblk m c 2 t) (iblk m c 3 t)) = k0_pay2 (iblk m c 0 t) (iblk m c 1 t) (iblk m c 2 t) (iblk m c 3 t) := by
  unfold out0_5
  frame_out

/-- The kernel's result 2. -/
theorem array1 : (dats m 0 c).arrAt 5 cfg0.N = out1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have hN : t.val < 16 := lt_of_lt_of_eq t.isLt (show cfg0.N = 16 from N_0)
  obtain ⟨a, b, rfl⟩ : ∃ (a : Fin 256) (b : Fin 2048), y = ix2 a b := ⟨y 0, y 1, eq_ix2 y⟩
  have ha := a.isLt
  have hb := b.isLt
  have e1 : (win0_5.blk t).view.emb (ix2 a b) = ix2 (⟨t.val * 256 + a.val, by omega⟩ : Fin 4096) b := by
    blk_ext [index5] <;> first | rfl | (change _ + a.val = _; omega)
  have h0 : (fun k : Fin 2048 => iblk m c 0 t (ix2 a k)) = fun k => m ((c : Thread nD τ).loc main_arg0) (ix2 (⟨t.val * 256 + a.val, by omega⟩ : Fin 4096) k) :=
    funext fun k => read0 m c t a k _ rfl
  have h1 : (fun k : Fin 2048 => iblk m c 1 t (ix2 a k)) = fun k => m ((c : Thread nD τ).loc main_arg1) (ix2 (⟨t.val * 256 + a.val, by omega⟩ : Fin 4096) k) :=
    funext fun k => read1 m c t a k _ rfl
  have h2 : (fun k : Fin 2048 => iblk m c 2 t (ix2 a k)) = fun k => m ((c : Thread nD τ).loc main_arg2) (ix2 (⟨t.val * 256 + a.val, by omega⟩ : Fin 4096) k) :=
    funext fun k => read2 m c t a k _ rfl
  have h3 : (fun k : Fin 2048 => iblk m c 3 t (ix2 (0 : Fin 1) k)) = fun k => m ((c : Thread nD τ).loc main_arg3) (ix2 (0 : Fin 1) k) :=
    funext fun k => read3 m c t k
  rw [e1, point1 m c t]
  refine (tile1 (iblk m c 0 t) (iblk m c 1 t) (iblk m c 2 t) (iblk m c 3 t) a b).trans ?_
  show row1 (fun k : Fin 2048 => iblk m c 0 t (ix2 a k)) (fun k : Fin 2048 => iblk m c 1 t (ix2 a k)) (fun k : Fin 2048 => iblk m c 2 t (ix2 a k)) (fun k : Fin 2048 => iblk m c 3 t (ix2 (0 : Fin 1) k)) b = row1 (fun k => m ((c : Thread nD τ).loc main_arg0) (ix2 (⟨t.val * 256 + a.val, by omega⟩ : Fin 4096) k)) (fun k => m ((c : Thread nD τ).loc main_arg1) (ix2 (⟨t.val * 256 + a.val, by omega⟩ : Fin 4096) k)) (fun k => m ((c : Thread nD τ).loc main_arg2) (ix2 (⟨t.val * 256 + a.val, by omega⟩ : Fin 4096) k)) (fun k => m ((c : Thread nD τ).loc main_arg3) (ix2 (0 : Fin 1) k)) b
  rw [h0, h1, h2, h3]

end Cert.Step.TwentySeven

end
-- ==== Proof.Claims.TwentySeven.lean ====
module

public import proofs.«01_k».proof.Defs
public import proofs.«01_k».proof.Proof.Gen.Kernel27.Frame
public import proofs.«01_k».proof.Proof.Gen.Kernel27Ideal.Frame
public import proofs.«01_k».proof.Proof.Step.TwentySeven

/-! The layer's own input, gated and added, and the next layer's first norm: the claims. -/

@[expose] public section

noncomputable section

namespace Cert.Proof.TwentySeven

open Idealize.ShloMosaic Idealize.ShloMosaic.TcCoe Idealize.SL.Sem

instance : Cert.Kernel27.Facts := Cert.Kernel27.Gen.facts
instance : Cert.Kernel27Ideal.Facts := Cert.Kernel27Ideal.Gen.facts
instance : Cert.Reference27Ideal.Facts := Cert.Reference27Ideal.Gen.facts

/-- The kernel runs, leaves its arguments and its counters as it found them. -/
theorem frame_p : Cert.quiescent_Kernel27 := fun m ρ _ => Cert.Kernel27.Gen.frame m ρ

/-- So does the kernel over the extended reals. -/
theorem frame_pi : Cert.quiescent_Kernel27Ideal := fun m ρ _ => Cert.Kernel27Ideal.Gen.frame m ρ

/-- So does the reference over the extended reals. -/
theorem frame_ri : Cert.quiescent_Reference27Ideal := fun m ρ _ =>
  (θ_run Cert.Reference27Ideal.defs _ _).mono (fun r h => ⟨fun c => (h c).2.2, Idealize.ShloMosaic.sem_eq_zero_of_no_sems (by decide) r.2⟩)
    (Cert.Reference27Ideal.Value.run (F := Ideal) m ρ)

/-- Over the extended reals the kernel and the reference end with the same arrays. -/
theorem algebraic : Cert.algebraic_Kernel27Ideal_Reference27Ideal := by
  intro m ρ m' ρ' hm hagree
  refine ⟨fun c => Cert.Step.TwentySeven.out0 (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)), fun c => Cert.Step.TwentySeven.out1 (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)), ?_, ?_⟩
  · refine (θ_run Cert.Kernel27Ideal.defs _ _).mono (fun r h c => ?_) (Cert.Kernel27Ideal.Value.run_blocks (F := Ideal) m ρ)
    exact ⟨(h c).1.trans (Cert.Step.TwentySeven.array0 m c), (h c).2.1.trans (Cert.Step.TwentySeven.array1 m c), (h c).2.2⟩
  · refine (θ_run Cert.Reference27Ideal.defs _ _).mono (fun r h c => ?_) (Cert.Reference27Ideal.Value.run (F := Ideal) m' ρ')
    obtain ⟨a0, a1, a2, a3⟩ := hagree c
    exact ⟨(h c).1.trans ((Cert.Step.TwentySeven.reference_out0 _ _ _ _ ).trans (Cert.Step.TwentySeven.out0_congr a0 a1 a2 a3)), (h c).2.1.trans ((Cert.Step.TwentySeven.reference_out1 _ _ _ _ ).trans (Cert.Step.TwentySeven.out1_congr a0 a1 a2 a3)), (h c).2.2⟩

end Cert.Proof.TwentySeven

end
-- ==== Proof.Step.TwentyEight.lean ====
module

public import proofs.«01_k».proof.Proof.Gen.Kernel28Ideal.Value
public import proofs.«01_k».proof.Proof.Gen.Reference28Ideal.Run
public import proofs.«01_k».proof.Proof.Step.Norm
public import Idealize.ShloMosaic.Lib.Pipeline.ValueKit
public import Idealize.ShloMosaic.Lib.ValueLayout
public import Idealize.ShloMosaic.Lib.Pointwise

/-! The gradient of the gated input. -/

@[expose] public section

set_option maxRecDepth 16384

noncomputable section

namespace Cert.Step.TwentyEight

open Idealize.ShloMosaic Cert.Mul Cert.Kernel28Ideal Cert.Kernel28Ideal.Gen

/-- An entry of a row of result 1. -/
def row0 (f0 f1 f2 : Fin 2048 → EReal) (b : Fin 2048) : EReal := f0 b * Norm.gate (f1 b)

/-- An entry of a row of result 2. -/
def row1 (f0 f1 f2 : Fin 2048 → EReal) (b : Fin 2048) : EReal := f0 b * f2 b * Norm.gate (f1 b) * (1 - Norm.gate (f1 b))

/-- The result 1. -/
def out0 (x0 : FVec Ideal S4096x2048 .f32) (x1 : FVec Ideal S4096x2048 .f32) (x2 : FVec Ideal S4096x2048 .f32) : FVec Ideal S4096x2048 .bf16 := fun i =>
  row0 (fun k => x0 (ix2 (i 0) k)) (fun k => x1 (ix2 (i 0) k)) (fun k => x2 (ix2 (i 0) k)) (i 1)

/-- The result 2. -/
def out1 (x0 : FVec Ideal S4096x2048 .f32) (x1 : FVec Ideal S4096x2048 .f32) (x2 : FVec Ideal S4096x2048 .f32) : FVec Ideal S4096x2048 .bf16 := fun i =>
  row1 (fun k => x0 (ix2 (i 0) k)) (fun k => x1 (ix2 (i 0) k)) (fun k => x2 (ix2 (i 0) k)) (i 1)

theorem tile0 (x0 : FVec Ideal S256x2048 .f32) (x1 : FVec Ideal S256x2048 .f32) (x2 : FVec Ideal S256x2048 .f32) (a : Fin 256) (b : Fin 2048) : (k0_pay2 (F := Ideal) x0 x1 (ix2 a b) : EReal) =
    row0 (fun k => x0 (ix2 a k)) (fun k => x1 (ix2 a k)) (fun k => x2 (ix2 a k)) b := by
  pointwise [k0_pay1, k0_pay2, k0_pay3]
  simp only [zero_sub]
  rfl

theorem tile1 (x0 : FVec Ideal S256x2048 .f32) (x1 : FVec Ideal S256x2048 .f32) (x2 : FVec Ideal S256x2048 .f32) (a : Fin 256) (b : Fin 2048) : (k0_pay3 (F := Ideal) x0 x1 x2 (ix2 a b) : EReal) =
    row1 (fun k => x0 (ix2 a k)) (fun k => x1 (ix2 a k)) (fun k => x2 (ix2 a k)) b := by
  pointwise [k0_pay1, k0_pay2, k0_pay3]
  simp only [zero_sub]
  rfl

end Cert.Step.TwentyEight

namespace Cert.Step.TwentyEight

open Idealize.ShloMosaic Cert.Reference28Ideal Cert.Reference28Ideal.Gen

/-- The reference's result 1. -/
theorem reference_out0 (x0 : FVec Ideal S4096x2048 .f32) (x1 : FVec Ideal S4096x2048 .f32) (x2 : FVec Ideal S4096x2048 .f32) :
    truncf .bf16 (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf x1)))) x0) bitsLt_bf16_f32 = out0 x0 x1 x2 := by
  funext i
  obtain ⟨a, b, rfl⟩ : ∃ (a : Fin 4096) (b : Fin 2048), i = ix2 a b := ⟨i 0, i 1, ValueIdx.eq_ix2 i⟩
  pointwise
  exact mul_comm (_ : EReal) _

/-- The reference's result 2. -/
theorem reference_out1 (x0 : FVec Ideal S4096x2048 .f32) (x1 : FVec Ideal S4096x2048 .f32) (x2 : FVec Ideal S4096x2048 .f32) :
    truncf .bf16 (mulf (mulf x0 x2) (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf x1)))) (subf (broadcastInDim S4096x2048 ![] bcast_S_S4096x2048 (constant S_ .f32 0x3F800000#32)) (Host.divf (broadcastInDim S4096x2048 ![] bcast_S_S4096x2048 (constant S_ .f32 0x3F800000#32)) (addf (broadcastInDim S4096x2048 ![] bcast_S_S4096x2048 (constant S_ .f32 0x3F800000#32)) (Host.exp (Host.negf x1))))))) bitsLt_bf16_f32 = out1 x0 x1 x2 := by
  funext i
  obtain ⟨a, b, rfl⟩ : ∃ (a : Fin 4096) (b : Fin 2048), i = ix2 a b := ⟨i 0, i 1, ValueIdx.eq_ix2 i⟩
  pointwise
  exact (mul_assoc (_ : EReal) _ _).symm

theorem out0_congr {x0 x0' : FVec Ideal S4096x2048 .f32} {x1 x1' : FVec Ideal S4096x2048 .f32} {x2 x2' : FVec Ideal S4096x2048 .f32} (h0 : x0 = x0') (h1 : x1 = x1') (h2 : x2 = x2') :
    out0 x0 x1 x2 = out0 x0' x1' x2' := by
  rw [h0, h1, h2]

theorem out1_congr {x0 x0' : FVec Ideal S4096x2048 .f32} {x1 x1' : FVec Ideal S4096x2048 .f32} {x2 x2' : FVec Ideal S4096x2048 .f32} (h0 : x0 = x0') (h1 : x1 = x1') (h2 : x2 = x2') :
    out1 x0 x1 x2 = out1 x0' x1' x2' := by
  rw [h0, h1, h2]

end Cert.Step.TwentyEight

namespace Cert.Step.TwentyEight

open Idealize.ShloMosaic hiding ix2 ix3 eq_ix2 eq_ix3
open Idealize.ShloMosaic.ValueIdx Idealize.ShloMosaic.TcCoe Idealize.ShloMosaic.Pipeline Idealize.SL.Sem Cert.Kernel28Ideal Cert.Kernel28Ideal.Gen

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)

theorem read0 (t : Fin cfg0.N) (a : Fin 256) (b : Fin 2048) (r : Fin 4096) (hr : r.val = t.val * 256 + a.val) :
    iblk m c 0 t (ix2 a b) = m ((c : Thread nD τ).loc main_arg0) (ix2 r b) := by
  have e1 : (win0_0.blk t).view.emb (ix2 a b) = ix2 r b := by
    blk_ext [index0] <;> first | rfl | (change _ + a.val = r.val; omega)
  blk_simp [iblk]
  rw [e1, V_main_arg0]

theorem read1 (t : Fin cfg0.N) (a : Fin 256) (b : Fin 2048) (r : Fin 4096) (hr : r.val = t.val * 256 + a.val) :
    iblk m c 1 t (ix2 a b) = m ((c : Thread nD τ).loc main_arg1) (ix2 r b) := by
  have e1 : (win0_1.blk t).view.emb (ix2 a b) = ix2 r b := by
    blk_ext [index1] <;> first | rfl | (change _ + a.val = r.val; omega)
  blk_simp [iblk]
  rw [e1, V_main_arg1]

theorem read2 (t : Fin cfg0.N) (a : Fin 256) (b : Fin 2048) (r : Fin 4096) (hr : r.val = t.val * 256 + a.val) :
    iblk m c 2 t (ix2 a b) = m ((c : Thread nD τ).loc main_arg2) (ix2 r b) := by
  have e1 : (win0_2.blk t).view.emb (ix2 a b) = ix2 r b := by
    blk_ext [index2] <;> first | rfl | (change _ + a.val = r.val; omega)
  blk_simp [iblk]
  rw [e1, V_main_arg2]

theorem point0 (t : Fin cfg0.N) : (out0_3 (iblk m c 0 t) (iblk m c 1 t) (iblk m c 2 t)) = k0_pay2 (iblk m c 0 t) (iblk m c 1 t) := by
  unfold out0_3
  frame_out

/-- The kernel's result 1. -/
theorem array0 : (dats m 0 c).arrAt 3 cfg0.N = out0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have hN : t.val < 16 := lt_of_lt_of_eq t.isLt (show cfg0.N = 16 from N_0)
  obtain ⟨a, b, rfl⟩ : ∃ (a : Fin 256) (b : Fin 2048), y = ix2 a b := ⟨y 0, y 1, eq_ix2 y⟩
  have ha := a.isLt
  have hb := b.isLt
  have e1 : (win0_3.blk t).view.emb (ix2 a b) = ix2 (⟨t.val * 256 + a.val, by omega⟩ : Fin 4096) b := by
    blk_ext [index3] <;> first | rfl | (change _ + a.val = _; omega)
  have h0 : (fun k : Fin 2048 => iblk m c 0 t (ix2 a k)) = fun k => m ((c : Thread nD τ).loc main_arg0) (ix2 (⟨t.val * 256 + a.val, by omega⟩ : Fin 4096) k) :=
    funext fun k => read0 m c t a k _ rfl
  have h1 : (fun k : Fin 2048 => iblk m c 1 t (ix2 a k)) = fun k => m ((c : Thread nD τ).loc main_arg1) (ix2 (⟨t.val * 256 + a.val, by omega⟩ : Fin 4096) k) :=
    funext fun k => read1 m c t a k _ rfl
  have h2 : (fun k : Fin 2048 => iblk m c 2 t (ix2 a k)) = fun k => m ((c : Thread nD τ).loc main_arg2) (ix2 (⟨t.val * 256 + a.val, by omega⟩ : Fin 4096) k) :=
    funext fun k => read2 m c t a k _ rfl
  rw [e1, point0 m c t]
  refine (tile0 (iblk m c 0 t) (iblk m c 1 t) (iblk m c 2 t) a b).trans ?_
  show row0 (fun k : Fin 2048 => iblk m c 0 t (ix2 a k)) (fun k : Fin 2048 => iblk m c 1 t (ix2 a k)) (fun k : Fin 2048 => iblk m c 2 t (ix2 a k)) b = row0 (fun k => m ((c : Thread nD τ).loc main_arg0) (ix2 (⟨t.val * 256 + a.val, by omega⟩ : Fin 4096) k)) (fun k => m ((c : Thread nD τ).loc main_arg1) (ix2 (⟨t.val * 256 + a.val, by omega⟩ : Fin 4096) k)) (fun k => m ((c : Thread nD τ).loc main_arg2) (ix2 (⟨t.val * 256 + a.val, by omega⟩ : Fin 4096) k)) b
  rw [h0, h1, h2]

theorem point1 (t : Fin cfg0.N) : (out0_4 (iblk m c 0 t) (iblk m c 1 t) (iblk m c 2 t)) = k0_pay3 (iblk m c 0 t) (iblk m c 1 t) (iblk m c 2 t) := by
  unfold out0_4
  frame_out

/-- The kernel's result 2. -/
theorem array1 : (dats m 0 c).arrAt 4 cfg0.N = out1 (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  have hN : t.val < 16 := lt_of_lt_of_eq t.isLt (show cfg0.N = 16 from N_0)
  obtain ⟨a, b, rfl⟩ : ∃ (a : Fin 256) (b : Fin 2048), y = ix2 a b := ⟨y 0, y 1, eq_ix2 y⟩
  have ha := a.isLt
  have hb := b.isLt
  have e1 : (win0_4.blk t).view.emb (ix2 a b) = ix2 (⟨t.val * 256 + a.val, by omega⟩ : Fin 4096) b := by
    blk_ext [index4] <;> first | rfl | (change _ + a.val = _; omega)
  have h0 : (fun k : Fin 2048 => iblk m c 0 t (ix2 a k)) = fun k => m ((c : Thread nD τ).loc main_arg0) (ix2 (⟨t.val * 256 + a.val, by omega⟩ : Fin 4096) k) :=
    funext fun k => read0 m c t a k _ rfl
  have h1 : (fun k : Fin 2048 => iblk m c 1 t (ix2 a k)) = fun k => m ((c : Thread nD τ).loc main_arg1) (ix2 (⟨t.val * 256 + a.val, by omega⟩ : Fin 4096) k) :=
    funext fun k => read1 m c t a k _ rfl
  have h2 : (fun k : Fin 2048 => iblk m c 2 t (ix2 a k)) = fun k => m ((c : Thread nD τ).loc main_arg2) (ix2 (⟨t.val * 256 + a.val, by omega⟩ : Fin 4096) k) :=
    funext fun k => read2 m c t a k _ rfl
  rw [e1, point1 m c t]
  refine (tile1 (iblk m c 0 t) (iblk m c 1 t) (iblk m c 2 t) a b).trans ?_
  show row1 (fun k : Fin 2048 => iblk m c 0 t (ix2 a k)) (fun k : Fin 2048 => iblk m c 1 t (ix2 a k)) (fun k : Fin 2048 => iblk m c 2 t (ix2 a k)) b = row1 (fun k => m ((c : Thread nD τ).loc main_arg0) (ix2 (⟨t.val * 256 + a.val, by omega⟩ : Fin 4096) k)) (fun k => m ((c : Thread nD τ).loc main_arg1) (ix2 (⟨t.val * 256 + a.val, by omega⟩ : Fin 4096) k)) (fun k => m ((c : Thread nD τ).loc main_arg2) (ix2 (⟨t.val * 256 + a.val, by omega⟩ : Fin 4096) k)) b
  rw [h0, h1, h2]

end Cert.Step.TwentyEight

end
-- ==== Proof.Claims.TwentyEight.lean ====
module

public import proofs.«01_k».proof.Defs
public import proofs.«01_k».proof.Proof.Gen.Kernel28.Frame
public import proofs.«01_k».proof.Proof.Gen.Kernel28Ideal.Frame
public import proofs.«01_k».proof.Proof.Step.TwentyEight

/-! The gradient of the gated input: the claims. -/

@[expose] public section

noncomputable section

namespace Cert.Proof.TwentyEight

open Idealize.ShloMosaic Idealize.ShloMosaic.TcCoe Idealize.SL.Sem

instance : Cert.Kernel28.Facts := Cert.Kernel28.Gen.facts
instance : Cert.Kernel28Ideal.Facts := Cert.Kernel28Ideal.Gen.facts
instance : Cert.Reference28Ideal.Facts := Cert.Reference28Ideal.Gen.facts

/-- The kernel runs, leaves its arguments and its counters as it found them. -/
theorem frame_p : Cert.quiescent_Kernel28 := fun m ρ _ => Cert.Kernel28.Gen.frame m ρ

/-- So does the kernel over the extended reals. -/
theorem frame_pi : Cert.quiescent_Kernel28Ideal := fun m ρ _ => Cert.Kernel28Ideal.Gen.frame m ρ

/-- So does the reference over the extended reals. -/
theorem frame_ri : Cert.quiescent_Reference28Ideal := fun m ρ _ =>
  (θ_run Cert.Reference28Ideal.defs _ _).mono (fun r h => ⟨fun c => (h c).2.2, Idealize.ShloMosaic.sem_eq_zero_of_no_sems (by decide) r.2⟩)
    (Cert.Reference28Ideal.Value.run (F := Ideal) m ρ)

/-- Over the extended reals the kernel and the reference end with the same arrays. -/
theorem algebraic : Cert.algebraic_Kernel28Ideal_Reference28Ideal := by
  intro m ρ m' ρ' hm hagree
  refine ⟨fun c => Cert.Step.TwentyEight.out0 (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)), fun c => Cert.Step.TwentyEight.out1 (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)), ?_, ?_⟩
  · refine (θ_run Cert.Kernel28Ideal.defs _ _).mono (fun r h c => ?_) (Cert.Kernel28Ideal.Value.run_blocks (F := Ideal) m ρ)
    exact ⟨(h c).1.trans (Cert.Step.TwentyEight.array0 m c), (h c).2.1.trans (Cert.Step.TwentyEight.array1 m c), (h c).2.2⟩
  · refine (θ_run Cert.Reference28Ideal.defs _ _).mono (fun r h c => ?_) (Cert.Reference28Ideal.Value.run (F := Ideal) m' ρ')
    obtain ⟨a0, a1, a2⟩ := hagree c
    exact ⟨(h c).1.trans ((Cert.Step.TwentyEight.reference_out0 _ _ _ ).trans (Cert.Step.TwentyEight.out0_congr a0 a1 a2)), (h c).2.1.trans ((Cert.Step.TwentyEight.reference_out1 _ _ _ ).trans (Cert.Step.TwentyEight.out1_congr a0 a1 a2)), (h c).2.2⟩

end Cert.Proof.TwentyEight

end
-- ==== Proof.Step.Back.lean ====
module

public import proofs.«01_k».proof.Proof.Step.Norm

/-! The gradient of a normed row. -/

@[expose] public section

noncomputable section

namespace Cert.Step.Norm

open Idealize.ShloMosaic Cert.Step.Adam

/-- The gradient in a row of its norm times its gains, for the incoming gradient `d`. -/
def back {n : ℕ} (width : BitVec 32) (f g d : Fin n → EReal) (b : Fin n) : EReal :=
  scale width f * (d b * g b - f b * (scale width f * scale width f) * Ideal.div (∑ k, d k * g k * f k) (word width))

/-- The same by the chain rule: the slope of one over the root, times the incoming gradient along the row. -/
def chain {n : ℕ} (width : BitVec 32) (f g d : Fin n → EReal) : EReal :=
  Ideal.div ((∑ k, f k * (d k * g k)) * (word 0xBF000000#32 * Ideal.div (scale width f) (Ideal.div (∑ k, f k * f k) (word width) + word 0x358637BD#32))) (word width)

theorem word_wide : word 0x45000000#32 = ((2048 : ℝ) : EReal) := by
  simp [word, Ideal.ofBits, Ideal.ieee, -EReal.coe_mul]; norm_num

theorem word_head : word 0x43000000#32 = ((128 : ℝ) : EReal) := by
  simp [word, Ideal.ofBits, Ideal.ieee, -EReal.coe_mul]; norm_num

theorem word_part : word 0x3A000000#32 = ((1 / 2048 : ℝ) : EReal) := by
  simp [word, Ideal.ofBits, Ideal.ieee, -EReal.coe_mul]; norm_num

theorem word_half : word 0xBF000000#32 = ((-(1 / 2) : ℝ) : EReal) := by
  simp [word, Ideal.ofBits, Ideal.ieee, -EReal.coe_mul]; norm_num

theorem word_small : word 0x358637BD#32 = ((8796093 / 8796093022208 : ℝ) : EReal) := by
  simp [word, Ideal.ofBits, Ideal.ieee, -EReal.coe_mul]; norm_num

theorem sum_coe {n : ℕ} (f : Fin n → ℝ) : ∑ k, ((f k : ℝ) : EReal) = ((∑ k, f k : ℝ) : EReal) := by
  exact (map_sum (⟨⟨Real.toEReal, EReal.coe_zero⟩, EReal.coe_add⟩ : ℝ →+ EReal) f Finset.univ).symm

theorem rsqrt_coe {r : ℝ} (h : 0 < r) : Ideal.rsqrt (r : EReal) = (((Real.sqrt r)⁻¹ : ℝ) : EReal) := by
  show (if r < 0 then _ else if r = 0 then _ else _) = _
  rw [if_neg h.not_gt, if_neg h.ne']

theorem mean_pos {n : ℕ} {w : ℝ} (hw : 0 < w) (x : Fin n → ℝ) : (0 : ℝ) < (∑ k, x k * x k) * (1 / w) + 8796093 / 8796093022208 :=
  add_pos_of_nonneg_of_pos (mul_nonneg (Finset.sum_nonneg fun k _ => mul_self_nonneg _) (by positivity)) (by norm_num)

theorem scale_coe {n : ℕ} (width : BitVec 32) {w : ℝ} (hw : 0 < w) (ew : word width = (w : EReal)) (x : Fin n → ℝ) :
    scale width (fun k => (x k : EReal)) = (((Real.sqrt ((∑ k, x k * x k) * (1 / w) + 8796093 / 8796093022208))⁻¹ : ℝ) : EReal) := by
  unfold scale
  rw [ew, word_small, Ideal.div_coe hw.ne']
  simp only [← EReal.coe_mul]
  rw [sum_coe, ← EReal.coe_mul, ← EReal.coe_add, rsqrt_coe (mean_pos hw x)]

theorem chain_eq {n : ℕ} (width : BitVec 32) {w : ℝ} (hw : 0 < w) (ew : word width = (w : EReal)) (x g d : Fin n → ℝ) (b : Fin n) :
    (d b : EReal) * g b * scale width (fun k => (x k : EReal)) + (x b : EReal) * chain width (fun k => (x k : EReal)) (fun k => (g k : EReal)) (fun k => (d k : EReal))
        + chain width (fun k => (x k : EReal)) (fun k => (g k : EReal)) (fun k => (d k : EReal)) * (x b : EReal)
      = back width (fun k => (x k : EReal)) (fun k => (g k : EReal)) (fun k => (d k : EReal)) b := by
  unfold chain back
  have hp := mean_pos hw x
  rw [scale_coe width hw ew x, ew, word_half, word_small]
  simp only [Ideal.div_coe hw.ne', ← EReal.coe_mul, sum_coe, ← EReal.coe_add]
  rw [Ideal.div_coe hp.ne']
  simp only [← EReal.coe_mul, ← EReal.coe_add, ← EReal.coe_sub]
  refine congrArg Real.toEReal ?_
  set p := (∑ k, x k * x k) * (1 / w) + 8796093 / 8796093022208 with hpd
  have hq : 0 < Real.sqrt p := Real.sqrt_pos.2 hp
  have he : p = Real.sqrt p * Real.sqrt p := (Real.mul_self_sqrt hp.le).symm
  have ht : ∑ k, x k * (d k * g k) = ∑ k, d k * g k * x k := Finset.sum_congr rfl fun k _ => mul_comm _ _
  rw [ht]
  generalize Real.sqrt p = q at *
  rw [he]
  field_simp
  ring

theorem chain_back {n : ℕ} (width : BitVec 32) {w : ℝ} (hw : 0 < w) (ew : word width = (w : EReal)) (f g d : Fin n → EReal)
    (hf : ∀ k, ((EReal.toReal (f k) : ℝ) : EReal) = f k) (hg : ∀ k, ((EReal.toReal (g k) : ℝ) : EReal) = g k)
    (hd : ∀ k, ((EReal.toReal (d k) : ℝ) : EReal) = d k) (b : Fin n) :
    d b * g b * scale width f + f b * chain width f g d + chain width f g d * f b = back width f g d b := by
  obtain ⟨x, rfl⟩ : ∃ x : Fin n → ℝ, f = fun k => ((x k : ℝ) : EReal) := ⟨_, funext fun k => (hf k).symm⟩
  obtain ⟨y, rfl⟩ : ∃ x : Fin n → ℝ, g = fun k => ((x k : ℝ) : EReal) := ⟨_, funext fun k => (hg k).symm⟩
  obtain ⟨z, rfl⟩ : ∃ x : Fin n → ℝ, d = fun k => ((x k : ℝ) : EReal) := ⟨_, funext fun k => (hd k).symm⟩
  exact chain_eq width hw ew x y z b

theorem back_real {n : ℕ} (width : BitVec 32) {w : ℝ} (hw : 0 < w) (ew : word width = (w : EReal)) (f g d : Fin n → EReal)
    (hf : ∀ k, ((EReal.toReal (f k) : ℝ) : EReal) = f k) (hg : ∀ k, ((EReal.toReal (g k) : ℝ) : EReal) = g k)
    (hd : ∀ k, ((EReal.toReal (d k) : ℝ) : EReal) = d k) (b : Fin n) :
    ((EReal.toReal (back width f g d b) : ℝ) : EReal) = back width f g d b := by
  obtain ⟨x, rfl⟩ : ∃ x : Fin n → ℝ, f = fun k => ((x k : ℝ) : EReal) := ⟨_, funext fun k => (hf k).symm⟩
  obtain ⟨y, rfl⟩ : ∃ x : Fin n → ℝ, g = fun k => ((x k : ℝ) : EReal) := ⟨_, funext fun k => (hg k).symm⟩
  obtain ⟨z, rfl⟩ : ∃ x : Fin n → ℝ, d = fun k => ((x k : ℝ) : EReal) := ⟨_, funext fun k => (hd k).symm⟩
  unfold back
  rw [scale_coe width hw ew, ew]
  simp only [Ideal.div_coe hw.ne', ← EReal.coe_mul, sum_coe, ← EReal.coe_sub, EReal.toReal_coe]

theorem add_real {a b : EReal} (ha : ((EReal.toReal a : ℝ) : EReal) = a) (hb : ((EReal.toReal b : ℝ) : EReal) = b) :
    ((EReal.toReal (a + b) : ℝ) : EReal) = a + b := by
  rw [← ha, ← hb, ← EReal.coe_add, EReal.toReal_coe]

end Cert.Step.Norm

end
-- ==== Proof.Step.Thirty.lean ====
module

public import proofs.«01_k».proof.Proof.Gen.Kernel30Ideal.Value
public import proofs.«01_k».proof.Proof.Gen.Reference30Ideal.Run
public import proofs.«01_k».proof.Proof.Gen.Pre_finite30
public import proofs.«01_k».proof.Proof.Mul.Four
public import proofs.«01_k».proof.Proof.Step.Back
public import Idealize.ShloMosaic.Lib.Pipeline.ValueKit
public import Idealize.ShloMosaic.Lib.ValueLayout
public import Idealize.ShloMosaic.Lib.Pointwise

/-! The gradient of a layer's first norm. -/

@[expose] public section

set_option maxRecDepth 16384

noncomputable section

namespace Cert.Step.Thirty

open Idealize.ShloMosaic Cert.Mul Cert.Kernel30Ideal Cert.Kernel30Ideal.Gen

/-- An entry of a row of result 1. -/
def row0 (f0 f1 f2 f3 : Fin 2048 → EReal) (b : Fin 2048) : EReal := f0 b + Norm.back 0x45000000#32 f2 f3 f1 b

/-- What a row adds to result 2. -/
def add0 (f0 f1 f2 f3 : Fin 2048 → EReal) (b : Fin 2048) : EReal := f1 b * f2 b * Norm.scale 0x45000000#32 f2

/-- The result 1. -/
def out0 (x0 : FVec Ideal S4096x2048 .f32) (x1 : FVec Ideal S4096x2048 .f32) (x2 : FVec Ideal S4096x2048 .f32) (x3 : FVec Ideal S1x2048 .f32) : FVec Ideal S4096x2048 .f32 := fun i =>
  row0 (fun k => x0 (ix2 (i 0) k)) (fun k => x1 (ix2 (i 0) k)) (fun k => x2 (ix2 (i 0) k)) (fun k => x3 (ix2 (0 : Fin 1) k)) (i 1)

/-- The result 2. -/
def out1 (x0 : FVec Ideal S4096x2048 .f32) (x1 : FVec Ideal S4096x2048 .f32) (x2 : FVec Ideal S4096x2048 .f32) (x3 : FVec Ideal S1x2048 .f32) : FVec Ideal S1x2048 .f32 := fun i =>
  ∑ l : Fin 4096, add0 (fun k => x0 (ix2 l k)) (fun k => x1 (ix2 l k)) (fun k => x2 (ix2 l k)) (fun k => x3 (ix2 (0 : Fin 1) k)) (i 1)

theorem tile0 (x0 : FVec Ideal S256x2048 .f32) (x1 : FVec Ideal S256x2048 .f32) (x2 : FVec Ideal S256x2048 .f32) (x3 : FVec Ideal S1x2048 .f32) (a : Fin 256) (b : Fin 2048) : (k0_pay4 (F := Ideal) x0 x1 x2 x3 (ix2 a b) : EReal) =
    row0 (fun k => x0 (ix2 a k)) (fun k => x1 (ix2 a k)) (fun k => x2 (ix2 a k)) (fun k => x3 (ix2 (0 : Fin 1) k)) b := by
  pointwise [k0_pay1, k0_pay2, k0_pay3, k0_pay4, k0_pay5, k0_pay6]
  rfl

theorem zero0 (b : Fin 2048) : (k0_pay5 (F := Ideal) (ix2 (0 : Fin 1) b) : EReal) = 0 := by
  pointwise [k0_pay1, k0_pay2, k0_pay3, k0_pay4, k0_pay5, k0_pay6]

theorem step0 (x0 : FVec Ideal S256x2048 .f32) (x1 : FVec Ideal S256x2048 .f32) (x2 : FVec Ideal S256x2048 .f32) (x3 : FVec Ideal S1x2048 .f32) (A : FVec Ideal S1x2048 .f32) (b : Fin 2048) : (k0_pay1 (F := Ideal) (k0_pay3 x1 x2) (k0_pay6 A) (ix2 (0 : Fin 1) b) : EReal) =
    A (ix2 (0 : Fin 1) b) + ∑ a : Fin 256, add0 (fun k => x0 (ix2 a k)) (fun k => x1 (ix2 a k)) (fun k => x2 (ix2 a k)) (fun k => x3 (ix2 (0 : Fin 1) k)) b := by
  pointwise [k0_pay1, k0_pay2, k0_pay3, k0_pay4, k0_pay5, k0_pay6]
  rfl

end Cert.Step.Thirty

namespace Cert.Step.Thirty

open Idealize.ShloMosaic Cert.Reference30Ideal Cert.Reference30Ideal.Gen

/-- The reference's result 1. -/
theorem reference_out0 (x0 : FVec Ideal S4096x2048 .f32) (x1 : FVec Ideal S4096x2048 .f32) (x2 : FVec Ideal S4096x2048 .f32) (x3 : FVec Ideal S1x2048 .f32) (h1 : ∀ i, ((EReal.toReal (x1 i) : ℝ) : EReal) = x1 i) (h2 : ∀ i, ((EReal.toReal (x2 i) : ℝ) : EReal) = x2 i) (h3 : ∀ i, ((EReal.toReal (x3 i) : ℝ) : EReal) = x3 i) :
    addf x0 (addf (addf (mulf (mulf x1 (broadcastInDim S4096x2048 ![0, 1] bcast_S1x2048_S4096x2048_0_1 (broadcastInDim S1x2048 ![1] bcast_S2048_S1x2048_1 (shapeCast _ x3 shapeCasts_S1x2048_S2048)))) (broadcastInDim S4096x2048 ![0, 1] bcast_S4096x1_S4096x2048_0_1 (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (mulf x2 (broadcastInDim S4096x2048 ![0] bcast_S4096_S4096x2048_0 (Host.reduceAdd (Host.divf (mulf (shapeCast _ (Host.reduceAdd (mulf x2 (mulf x1 (broadcastInDim S4096x2048 ![0, 1] bcast_S1x2048_S4096x2048_0_1 (broadcastInDim S1x2048 ![1] bcast_S2048_S1x2048_1 (shapeCast _ x3 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf x2 (mulf x1 (broadcastInDim S4096x2048 ![0, 1] bcast_S1x2048_S4096x2048_0_1 (broadcastInDim S1x2048 ![1] bcast_S2048_S1x2048_1 (shapeCast _ x3 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)) x2)) = out0 x0 x1 x2 x3 := by
  funext i
  obtain ⟨a, b, rfl⟩ : ∃ (a : Fin 4096) (b : Fin 2048), i = ix2 a b := ⟨i 0, i 1, ValueIdx.eq_ix2 i⟩
  pointwise
  simp only [Fin.sum_univ_one]
  exact congrArg (x0 (ix2 a b) + ·) (Norm.chain_back 0x45000000#32 (by norm_num : (0 : ℝ) < 2048) Norm.word_wide (fun k => x2 (ix2 a k)) (fun k => x3 (ix2 (0 : Fin 1) k)) (fun k => x1 (ix2 a k)) (fun k => h2 _) (fun k => h3 _) (fun k => h1 _) b)

/-- The reference's result 2. -/
theorem reference_out1 (x0 : FVec Ideal S4096x2048 .f32) (x1 : FVec Ideal S4096x2048 .f32) (x2 : FVec Ideal S4096x2048 .f32) (x3 : FVec Ideal S1x2048 .f32) (h1 : ∀ i, ((EReal.toReal (x1 i) : ℝ) : EReal) = x1 i) (h2 : ∀ i, ((EReal.toReal (x2 i) : ℝ) : EReal) = x2 i) (h3 : ∀ i, ((EReal.toReal (x3 i) : ℝ) : EReal) = x3 i) :
    broadcastInDim S1x2048 ![1] bcast_S2048_S1x2048_1 (Host.reduceAdd (shapeCast _ (Host.reduceAdd (mulf (mulf x2 (broadcastInDim S4096x2048 ![0, 1] bcast_S4096x1_S4096x2048_0_1 (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) x1) (constant S_ .f32 0x00000000#32) reducesTo_S4096x2048_S2048_d0 h_S_) shapeCasts_S2048_S1x2048) (constant S_ .f32 0x00000000#32) reducesTo_S1x2048_S2048_d0 h_S_) = out1 x0 x1 x2 x3 := by
  funext i
  obtain ⟨a, b, rfl⟩ : ∃ (a : Fin 1) (b : Fin 2048), i = ix2 a b := ⟨i 0, i 1, ValueIdx.eq_ix2 i⟩
  obtain rfl : a = 0 := Subsingleton.elim _ _
  pointwise
  try simp only [Fin.sum_univ_one]
  show (∑ l : Fin 4096, (x2 (ix2 l b) * Norm.scale 0x45000000#32 (fun k => x2 (ix2 l k)) * x1 (ix2 l b) : EReal)) = ∑ l : Fin 4096, (x1 (ix2 l b) * x2 (ix2 l b) * Norm.scale 0x45000000#32 (fun k => x2 (ix2 l k)) : EReal)
  exact Finset.sum_congr rfl fun l _ => (mul_comm _ _).trans (mul_assoc _ _ _).symm

theorem out0_congr {x0 x0' : FVec Ideal S4096x2048 .f32} {x1 x1' : FVec Ideal S4096x2048 .f32} {x2 x2' : FVec Ideal S4096x2048 .f32} {x3 x3' : FVec Ideal S1x2048 .f32} (h0 : x0 = x0') (h1 : x1 = x1') (h2 : x2 = x2') (h3 : x3 = x3') :
    out0 x0 x1 x2 x3 = out0 x0' x1' x2' x3' := by
  rw [h0, h1, h2, h3]

theorem out1_congr {x0 x0' : FVec Ideal S4096x2048 .f32} {x1 x1' : FVec Ideal S4096x2048 .f32} {x2 x2' : FVec Ideal S4096x2048 .f32} {x3 x3' : FVec Ideal S1x2048 .f32} (h0 : x0 = x0') (h1 : x1 = x1') (h2 : x2 = x2') (h3 : x3 = x3') :
    out1 x0 x1 x2 x3 = out1 x0' x1' x2' x3' := by
  rw [h0, h1, h2, h3]

/-- The precondition read: the entries are real. -/
theorem real_of_pre (x0 : FVec Ideal S4096x2048 .f32) (x1 : FVec Ideal S4096x2048 .f32) (x2 : FVec Ideal S4096x2048 .f32) (x3 : FVec Ideal S1x2048 .f32) (h : Cert.Pre_finite30.fn (F := Ideal) x0 x1 x2 x3 = fun _ => 1#1) :
    (∀ i, ((EReal.toReal (x1 i) : ℝ) : EReal) = x1 i) ∧ (∀ i, ((EReal.toReal (x2 i) : ℝ) : EReal) = x2 i) ∧ (∀ i, ((EReal.toReal (x3 i) : ℝ) : EReal) = x3 i) := by
  haveI : Subsingleton Cert.Pre_finite30.S_.Idx := ⟨fun a b => funext fun k => k.elim0⟩
  have h0 := congrFun h ValueIdx.ix0
  unfold Cert.Pre_finite30.fn at h0
  dsimp only at h0
  obtain ⟨h0, q2⟩ := IntOp.andi_eq_one.1 h0
  obtain ⟨q0, q1⟩ := IntOp.andi_eq_one.1 h0
  exact ⟨fun i => Cert.Mul.Four.coe_of_abs_lt Cert.Mul.Four.word_inf (Host.reduce_andi_all _ _ _ _ _ q0 i), fun i => Cert.Mul.Four.coe_of_abs_lt Cert.Mul.Four.word_inf (Host.reduce_andi_all _ _ _ _ _ q1 i), fun i => Cert.Mul.Four.coe_of_abs_lt Cert.Mul.Four.word_inf (Host.reduce_andi_all _ _ _ _ _ q2 i)⟩

end Cert.Step.Thirty

namespace Cert.Step.Thirty

open Idealize.ShloMosaic hiding ix2 ix3 eq_ix2 eq_ix3
open Idealize.ShloMosaic.ValueIdx Idealize.ShloMosaic.TcCoe Idealize.ShloMosaic.Pipeline Idealize.SL.Sem Cert.Kernel30Ideal Cert.Kernel30Ideal.Gen

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)

theorem read0 (t : Fin cfg0.N) (a : Fin 256) (b : Fin 2048) (r : Fin 4096) (hr : r.val = t.val * 256 + a.val) :
    iblk m c 0 t (ix2 a b) = m ((c : Thread nD τ).loc main_arg0) (ix2 r b) := by
  have e1 : (win0_0.blk t).view.emb (ix2 a b) = ix2 r b := by
    blk_ext [index0] <;> first | rfl | (change _ + a.val = r.val; omega)
  blk_simp [iblk]
  rw [e1, V_main_arg0]

theorem read1 (t : Fin cfg0.N) (a : Fin 256) (b : Fin 2048) (r : Fin 4096) (hr : r.val = t.val * 256 + a.val) :
    iblk m c 1 t (ix2 a b) = m ((c : Thread nD τ).loc main_arg1) (ix2 r b) := by
  have e1 : (win0_1.blk t).view.emb (ix2 a b) = ix2 r b := by
    blk_ext [index1] <;> first | rfl | (change _ + a.val = r.val; omega)
  blk_simp [iblk]
  rw [e1, V_main_arg1]

theorem read2 (t : Fin cfg0.N) (a : Fin 256) (b : Fin 2048) (r : Fin 4096) (hr : r.val = t.val * 256 + a.val) :
    iblk m c 2 t (ix2 a b) = m ((c : Thread nD τ).loc main_arg2) (ix2 r b) := by
  have e1 : (win0_2.blk t).view.emb (ix2 a b) = ix2 r b := by
    blk_ext [index2] <;> first | rfl | (change _ + a.val = r.val; omega)
  blk_simp [iblk]
  rw [e1, V_main_arg2]

theorem read3 (t : Fin cfg0.N) (b : Fin 2048) :
    iblk m c 3 t (ix2 (0 : Fin 1) b) = m ((c : Thread nD τ).loc main_arg3) (ix2 (0 : Fin 1) b) := by
  have e1 : (win0_3.blk t).view.emb (ix2 (0 : Fin 1) b) = ix2 (0 : Fin 1) b := by
    blk_ext [index3] <;> rfl
  blk_simp [iblk]
  rw [e1, V_main_arg3]

theorem rows0 (t : Fin cfg0.N) (a : Fin 256) (l : Fin 4096) (hl : l.val = t.val * 256 + a.val) (b : Fin 2048) :
    row0 (fun k : Fin 2048 => iblk m c 0 t (ix2 a k)) (fun k : Fin 2048 => iblk m c 1 t (ix2 a k)) (fun k : Fin 2048 => iblk m c 2 t (ix2 a k)) (fun k : Fin 2048 => iblk m c 3 t (ix2 (0 : Fin 1) k)) b = row0 (fun k : Fin 2048 => m ((c : Thread nD τ).loc main_arg0) (ix2 l k)) (fun k : Fin 2048 => m ((c : Thread nD τ).loc main_arg1) (ix2 l k)) (fun k : Fin 2048 => m ((c : Thread nD τ).loc main_arg2) (ix2 l k)) (fun k : Fin 2048 => m ((c : Thread nD τ).loc main_arg3) (ix2 (0 : Fin 1) k)) b := by
  have h0 : (fun k : Fin 2048 => iblk m c 0 t (ix2 a k)) = fun k : Fin 2048 => m ((c : Thread nD τ).loc main_arg0) (ix2 l k) :=
    funext fun k => read0 m c t a k _ hl
  have h1 : (fun k : Fin 2048 => iblk m c 1 t (ix2 a k)) = fun k : Fin 2048 => m ((c : Thread nD τ).loc main_arg1) (ix2 l k) :=
    funext fun k => read1 m c t a k _ hl
  have h2 : (fun k : Fin 2048 => iblk m c 2 t (ix2 a k)) = fun k : Fin 2048 => m ((c : Thread nD τ).loc main_arg2) (ix2 l k) :=
    funext fun k => read2 m c t a k _ hl
  have h3 : (fun k : Fin 2048 => iblk m c 3 t (ix2 (0 : Fin 1) k)) = fun k : Fin 2048 => m ((c : Thread nD τ).loc main_arg3) (ix2 (0 : Fin 1) k) :=
    funext fun k => read3 m c t k
  rw [h0, h1, h2, h3]

theorem adds0 (t : Fin cfg0.N) (a : Fin 256) (l : Fin 4096) (hl : l.val = t.val * 256 + a.val) (b : Fin 2048) :
    add0 (fun k : Fin 2048 => iblk m c 0 t (ix2 a k)) (fun k : Fin 2048 => iblk m c 1 t (ix2 a k)) (fun k : Fin 2048 => iblk m c 2 t (ix2 a k)) (fun k : Fin 2048 => iblk m c 3 t (ix2 (0 : Fin 1) k)) b = add0 (fun k : Fin 2048 => m ((c : Thread nD τ).loc main_arg0) (ix2 l k)) (fun k : Fin 2048 => m ((c : Thread nD τ).loc main_arg1) (ix2 l k)) (fun k : Fin 2048 => m ((c : Thread nD τ).loc main_arg2) (ix2 l k)) (fun k : Fin 2048 => m ((c : Thread nD τ).loc main_arg3) (ix2 (0 : Fin 1) k)) b := by
  have h0 : (fun k : Fin 2048 => iblk m c 0 t (ix2 a k)) = fun k : Fin 2048 => m ((c : Thread nD τ).loc main_arg0) (ix2 l k) :=
    funext fun k => read0 m c t a k _ hl
  have h1 : (fun k : Fin 2048 => iblk m c 1 t (ix2 a k)) = fun k : Fin 2048 => m ((c : Thread nD τ).loc main_arg1) (ix2 l k) :=
    funext fun k => read1 m c t a k _ hl
  have h2 : (fun k : Fin 2048 => iblk m c 2 t (ix2 a k)) = fun k : Fin 2048 => m ((c : Thread nD τ).loc main_arg2) (ix2 l k) :=
    funext fun k => read2 m c t a k _ hl
  have h3 : (fun k : Fin 2048 => iblk m c 3 t (ix2 (0 : Fin 1) k)) = fun k : Fin 2048 => m ((c : Thread nD τ).loc main_arg3) (ix2 (0 : Fin 1) k) :=
    funext fun k => read3 m c t k
  rw [h0, h1, h2, h3]

theorem point0 (t : Fin cfg0.N) : (outsAt0 m c t.val t.isLt).1 = k0_pay4 (F := Ideal) (iblk m c 0 t) (iblk m c 1 t) (iblk m c 2 t) (iblk m c 3 t) := by
  by_cases h : t.val % 16 = 0
  · rw [outsAt0_A m c t h]
    dsimp only
    unfold out0_A_4
    frame_out
  · rw [outsAt0_B m c t h]
    dsimp only
    unfold out0_B_4
    frame_out

/-- The kernel's result 1. -/
theorem array0 : (dats m 0 c).arrAt 4 cfg0.N = out0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have hN : t.val < 16 := lt_of_lt_of_eq t.isLt (show cfg0.N = 16 from N_0)
  obtain ⟨a, b, rfl⟩ : ∃ (a : Fin 256) (b : Fin 2048), y = ix2 a b := ⟨y 0, y 1, eq_ix2 y⟩
  have ha := a.isLt
  have hb := b.isLt
  have e1 : (win0_4.blk t).view.emb (ix2 a b) = ix2 (⟨t.val * 256 + a.val, by omega⟩ : Fin 4096) b := by
    blk_ext [index4] <;> first | rfl | (change _ + a.val = _; omega)
  rw [e1, point0 m c t]
  exact (tile0 (iblk m c 0 t) (iblk m c 1 t) (iblk m c 2 t) (iblk m c 3 t) a b).trans (rows0 m c t a (⟨t.val * 256 + a.val, by omega⟩ : Fin 4096) rfl b)

/-- What a point adds to result 2. -/
abbrev term0 (t : Fin cfg0.N) (i : S1x2048.Idx) : EReal := ∑ a : Fin 256, add0 (fun k : Fin 2048 => iblk m c 0 t (ix2 a k)) (fun k : Fin 2048 => iblk m c 1 t (ix2 a k)) (fun k : Fin 2048 => iblk m c 2 t (ix2 a k)) (fun k : Fin 2048 => iblk m c 3 t (ix2 (0 : Fin 1) k)) (i 1)

theorem first0 (t : Fin cfg0.N) (h : t.val % 16 = 0) (i : S1x2048.Idx) :
    (outsAt0 m c t.val t.isLt).2 i = (fun _ => 0 : S1x2048.Idx → EReal) i + term0 m c t i := by
  obtain ⟨z, b, rfl⟩ : ∃ (z : Fin 1) (b : Fin 2048), i = ix2 z b := ⟨i 0, i 1, eq_ix2 i⟩
  obtain rfl : z = 0 := Subsingleton.elim _ _
  rw [outsAt0_A m c t h]
  dsimp only
  unfold out0_A_5
  frame_out
  refine (step0 (iblk m c 0 t) (iblk m c 1 t) (iblk m c 2 t) (iblk m c 3 t) _ b).trans ?_
  exact congrArg (· + _) (zero0 b)

theorem next0 (t : Fin cfg0.N) (h : ¬t.val % 16 = 0) (i : S1x2048.Idx) :
    (outsAt0 m c t.val t.isLt).2 i = (outsAt0 m c (t.val - 1) (Nat.lt_of_le_of_lt (Nat.sub_le _ _) t.isLt)).2 i + term0 m c t i := by
  obtain ⟨z, b, rfl⟩ : ∃ (z : Fin 1) (b : Fin 2048), i = ix2 z b := ⟨i 0, i 1, eq_ix2 i⟩
  obtain rfl : z = 0 := Subsingleton.elim _ _
  rw [outsAt0_B m c t h]
  dsimp only
  unfold out0_B_5
  frame_out
  exact step0 (iblk m c 0 t) (iblk m c 1 t) (iblk m c 2 t) (iblk m c 3 t) _ b

theorem last0 (t : Fin cfg0.N) (h1 : t.val % 16 = 15) (i : S1x2048.Idx) :
    (outsAt0 m c t.val t.isLt).2 i = ∑ s : Fin 16, term0 m c ⟨16 * (t.val / 16) + s.val, run_point_lt_of_flush t h1 s⟩ i := by
  rw [eq_sum_fin_of_reset_step_apply_of_flush (fun n h => (outsAt0 m c n h).2) 16 (fun _ => 0) (term0 m c)
    (first0 m c) (next0 m c) t h1 i, zero_add]

/-- The kernel's result 2. -/
theorem array1 : (dats m 0 c).arrAt 5 cfg0.N = out1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have h1 := (flush0_5 t).1 hf
  have hN : t.val < 16 := lt_of_lt_of_eq t.isLt (show cfg0.N = 16 from N_0)
  obtain ⟨z, b, rfl⟩ : ∃ (z : Fin 1) (b : Fin 2048), y = ix2 z b := ⟨y 0, y 1, eq_ix2 y⟩
  obtain rfl : z = 0 := Subsingleton.elim _ _
  have e1 : (win0_5.blk t).view.emb (ix2 (0 : Fin 1) b) = ix2 (0 : Fin 1) b := by
    blk_ext [index5] <;> rfl
  rw [e1, last0 m c t h1]
  unfold out1
  refine Fin.sum_mul_add_congr fun s a hl => ?_
  refine adds0 m c _ a _ ?_ b
  show s.val * 256 + a.val = (16 * (t.val / 16) + s.val) * 256 + a.val
  omega

end Cert.Step.Thirty

end
-- ==== Proof.Claims.Thirty.lean ====
module

public import proofs.«01_k».proof.Defs
public import proofs.«01_k».proof.Proof.Gen.Kernel30.Frame
public import proofs.«01_k».proof.Proof.Gen.Kernel30Ideal.Frame
public import proofs.«01_k».proof.Proof.Step.Thirty
public import proofs.«01_k».proof.Proof.Gen.Pre_finite30

/-! The gradient of a layer's first norm: the claims. -/

@[expose] public section

noncomputable section

namespace Cert.Proof.Thirty

open Idealize.ShloMosaic Idealize.ShloMosaic.TcCoe Idealize.SL.Sem

instance : Cert.Kernel30.Facts := Cert.Kernel30.Gen.facts
instance : Cert.Kernel30Ideal.Facts := Cert.Kernel30Ideal.Gen.facts
instance : Cert.Reference30Ideal.Facts := Cert.Reference30Ideal.Gen.facts
instance : Cert.Pre_finite30.Facts := Cert.Pre_finite30.Gen.facts

/-- The kernel runs, leaves its arguments and its counters as it found them. -/
theorem frame_p : Cert.quiescent_Kernel30 := fun m ρ _ => Cert.Kernel30.Gen.frame m ρ

/-- So does the kernel over the extended reals. -/
theorem frame_pi : Cert.quiescent_Kernel30Ideal := fun m ρ _ => Cert.Kernel30Ideal.Gen.frame m ρ

/-- So does the reference over the extended reals. -/
theorem frame_ri : Cert.quiescent_Reference30Ideal := fun m ρ _ =>
  (θ_run Cert.Reference30Ideal.defs _ _).mono (fun r h => ⟨fun c => (h c).2.2, Idealize.ShloMosaic.sem_eq_zero_of_no_sems (by decide) r.2⟩)
    (Cert.Reference30Ideal.Value.run (F := Ideal) m ρ)

/-- Over the extended reals the kernel and the reference end with the same arrays. -/
theorem algebraic : Cert.algebraic_Kernel30Ideal_Reference30Ideal_pre_finite30 := by
  intro m ρ m' ρ' hm hagree
  refine ⟨fun c => Cert.Step.Thirty.out0 (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)), fun c => Cert.Step.Thirty.out1 (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)), ?_, ?_⟩
  · refine (θ_run Cert.Kernel30Ideal.defs _ _).mono (fun r h c => ?_) (Cert.Kernel30Ideal.Value.run_blocks (F := Ideal) m ρ)
    exact ⟨(h c).1.trans (Cert.Step.Thirty.array0 m c), (h c).2.1.trans (Cert.Step.Thirty.array1 m c), (h c).2.2⟩
  · refine (θ_run Cert.Reference30Ideal.defs _ _).mono (fun r h c => ?_) (Cert.Reference30Ideal.Value.run (F := Ideal) m' ρ')
    obtain ⟨a0, a1, a2, a3⟩ := hagree c
    have hf := Cert.Step.Thirty.real_of_pre _ _ _ _ (hm c)
    rw [← a1, ← a2, ← a3] at hf
    exact ⟨(h c).1.trans ((Cert.Step.Thirty.reference_out0 _ _ _ _ hf.1 hf.2.1 hf.2.2).trans (Cert.Step.Thirty.out0_congr a0 a1 a2 a3)), (h c).2.1.trans ((Cert.Step.Thirty.reference_out1 _ _ _ _ hf.1 hf.2.1 hf.2.2).trans (Cert.Step.Thirty.out1_congr a0 a1 a2 a3)), (h c).2.2⟩

end Cert.Proof.Thirty

end
-- ==== Proof.Step.ThirtyOne.lean ====
module

public import proofs.«01_k».proof.Proof.Gen.Kernel31Ideal.Value
public import proofs.«01_k».proof.Proof.Gen.Reference31Ideal.Run
public import proofs.«01_k».proof.Proof.Gen.Pre_finite31
public import proofs.«01_k».proof.Proof.Mul.Four
public import proofs.«01_k».proof.Proof.Step.Back
public import Idealize.ShloMosaic.Lib.Pipeline.ValueKit
public import Idealize.ShloMosaic.Lib.ValueLayout
public import Idealize.ShloMosaic.Lib.Pointwise

/-! The gradients of the attention's norm and of the norm after it. -/

@[expose] public section

set_option maxRecDepth 16384

noncomputable section

namespace Cert.Step.ThirtyOne

open Idealize.ShloMosaic Cert.Mul Cert.Kernel31Ideal Cert.Kernel31Ideal.Gen

/-- An entry of a row of result 1. -/
def row0 (f0 f1 f2 f3 f4 f5 : Fin 2048 → EReal) (b : Fin 2048) : EReal := f0 b + Norm.back 0x45000000#32 f2 f4 f1 b

/-- An entry of a row of result 2. -/
def row1 (f0 f1 f2 f3 f4 f5 : Fin 2048 → EReal) (b : Fin 2048) : EReal := Norm.back 0x45000000#32 f3 f5 (row0 f0 f1 f2 f3 f4 f5) b

/-- Result 1's row by the chain rule. -/
def sum (f0 f1 f2 f3 f4 f5 : Fin 2048 → EReal) (b : Fin 2048) : EReal :=
  f0 b + (f1 b * f4 b * Norm.scale 0x45000000#32 f2 + f2 b * Norm.chain 0x45000000#32 f2 f4 f1 + Norm.chain 0x45000000#32 f2 f4 f1 * f2 b)

theorem sum_eq (f0 f1 f2 f3 f4 f5 : Fin 2048 → EReal) (h1 : ∀ k, ((EReal.toReal (f1 k) : ℝ) : EReal) = f1 k) (h2 : ∀ k, ((EReal.toReal (f2 k) : ℝ) : EReal) = f2 k)
    (h4 : ∀ k, ((EReal.toReal (f4 k) : ℝ) : EReal) = f4 k) : sum f0 f1 f2 f3 f4 f5 = row0 f0 f1 f2 f3 f4 f5 :=
  funext fun b => congrArg (f0 b + ·) (Norm.chain_back 0x45000000#32 (by norm_num : (0 : ℝ) < 2048) Norm.word_wide f2 f4 f1 h2 h4 h1 b)

/-- What a row adds to result 3. -/
def add0 (f0 f1 f2 f3 f4 f5 : Fin 2048 → EReal) (b : Fin 2048) : EReal := f1 b * f2 b * Norm.scale 0x45000000#32 f2

/-- What a row adds to result 4. -/
def add1 (f0 f1 f2 f3 f4 f5 : Fin 2048 → EReal) (b : Fin 2048) : EReal := row0 f0 f1 f2 f3 f4 f5 b * f3 b * Norm.scale 0x45000000#32 f3

/-- The result 1. -/
def out0 (x0 : FVec Ideal S4096x2048 .f32) (x1 : FVec Ideal S4096x2048 .f32) (x2 : FVec Ideal S4096x2048 .f32) (x3 : FVec Ideal S4096x2048 .f32) (x4 : FVec Ideal S1x2048 .f32) (x5 : FVec Ideal S1x2048 .f32) : FVec Ideal S4096x2048 .f32 := fun i =>
  row0 (fun k => x0 (ix2 (i 0) k)) (fun k => x1 (ix2 (i 0) k)) (fun k => x2 (ix2 (i 0) k)) (fun k => x3 (ix2 (i 0) k)) (fun k => x4 (ix2 (0 : Fin 1) k)) (fun k => x5 (ix2 (0 : Fin 1) k)) (i 1)

/-- The result 2. -/
def out1 (x0 : FVec Ideal S4096x2048 .f32) (x1 : FVec Ideal S4096x2048 .f32) (x2 : FVec Ideal S4096x2048 .f32) (x3 : FVec Ideal S4096x2048 .f32) (x4 : FVec Ideal S1x2048 .f32) (x5 : FVec Ideal S1x2048 .f32) : FVec Ideal S4096x2048 .bf16 := fun i =>
  row1 (fun k => x0 (ix2 (i 0) k)) (fun k => x1 (ix2 (i 0) k)) (fun k => x2 (ix2 (i 0) k)) (fun k => x3 (ix2 (i 0) k)) (fun k => x4 (ix2 (0 : Fin 1) k)) (fun k => x5 (ix2 (0 : Fin 1) k)) (i 1)

/-- The result 3. -/
def out2 (x0 : FVec Ideal S4096x2048 .f32) (x1 : FVec Ideal S4096x2048 .f32) (x2 : FVec Ideal S4096x2048 .f32) (x3 : FVec Ideal S4096x2048 .f32) (x4 : FVec Ideal S1x2048 .f32) (x5 : FVec Ideal S1x2048 .f32) : FVec Ideal S1x2048 .f32 := fun i =>
  ∑ l : Fin 4096, add0 (fun k => x0 (ix2 l k)) (fun k => x1 (ix2 l k)) (fun k => x2 (ix2 l k)) (fun k => x3 (ix2 l k)) (fun k => x4 (ix2 (0 : Fin 1) k)) (fun k => x5 (ix2 (0 : Fin 1) k)) (i 1)

/-- The result 4. -/
def out3 (x0 : FVec Ideal S4096x2048 .f32) (x1 : FVec Ideal S4096x2048 .f32) (x2 : FVec Ideal S4096x2048 .f32) (x3 : FVec Ideal S4096x2048 .f32) (x4 : FVec Ideal S1x2048 .f32) (x5 : FVec Ideal S1x2048 .f32) : FVec Ideal S1x2048 .f32 := fun i =>
  ∑ l : Fin 4096, add1 (fun k => x0 (ix2 l k)) (fun k => x1 (ix2 l k)) (fun k => x2 (ix2 l k)) (fun k => x3 (ix2 l k)) (fun k => x4 (ix2 (0 : Fin 1) k)) (fun k => x5 (ix2 (0 : Fin 1) k)) (i 1)

theorem tile0 (x0 : FVec Ideal S256x2048 .f32) (x1 : FVec Ideal S256x2048 .f32) (x2 : FVec Ideal S256x2048 .f32) (x3 : FVec Ideal S256x2048 .f32) (x4 : FVec Ideal S1x2048 .f32) (x5 : FVec Ideal S1x2048 .f32) (a : Fin 256) (b : Fin 2048) : (k0_pay3 (F := Ideal) x0 x1 x2 x4 (ix2 a b) : EReal) =
    row0 (fun k => x0 (ix2 a k)) (fun k => x1 (ix2 a k)) (fun k => x2 (ix2 a k)) (fun k => x3 (ix2 a k)) (fun k => x4 (ix2 (0 : Fin 1) k)) (fun k => x5 (ix2 (0 : Fin 1) k)) b := by
  pointwise [k0_pay1, k0_pay2, k0_pay3, k0_pay4, k0_pay5, k0_pay6, k0_pay7, k0_pay8, k0_pay9, k0_pay10, k0_pay11]
  rfl

theorem tile1 (x0 : FVec Ideal S256x2048 .f32) (x1 : FVec Ideal S256x2048 .f32) (x2 : FVec Ideal S256x2048 .f32) (x3 : FVec Ideal S256x2048 .f32) (x4 : FVec Ideal S1x2048 .f32) (x5 : FVec Ideal S1x2048 .f32) (a : Fin 256) (b : Fin 2048) : (k0_pay7 (F := Ideal) x3 x5 (k0_pay3 x0 x1 x2 x4) (k0_pay4 x3) k0_pay5 (ix2 a b) : EReal) =
    row1 (fun k => x0 (ix2 a k)) (fun k => x1 (ix2 a k)) (fun k => x2 (ix2 a k)) (fun k => x3 (ix2 a k)) (fun k => x4 (ix2 (0 : Fin 1) k)) (fun k => x5 (ix2 (0 : Fin 1) k)) b := by
  pointwise [k0_pay1, k0_pay2, k0_pay3, k0_pay4, k0_pay5, k0_pay6, k0_pay7, k0_pay8, k0_pay9, k0_pay10, k0_pay11]
  rfl

theorem zero0 (b : Fin 2048) : (k0_pay8 (F := Ideal) (ix2 (0 : Fin 1) b) : EReal) = 0 := by
  pointwise [k0_pay1, k0_pay2, k0_pay3, k0_pay4, k0_pay5, k0_pay6, k0_pay7, k0_pay8, k0_pay9, k0_pay10, k0_pay11]

theorem step0 (x0 : FVec Ideal S256x2048 .f32) (x1 : FVec Ideal S256x2048 .f32) (x2 : FVec Ideal S256x2048 .f32) (x3 : FVec Ideal S256x2048 .f32) (x4 : FVec Ideal S1x2048 .f32) (x5 : FVec Ideal S1x2048 .f32) (A : FVec Ideal S1x2048 .f32) (b : Fin 2048) : (k0_pay10 (F := Ideal) (k0_pay2 x1 x2) A (ix2 (0 : Fin 1) b) : EReal) =
    A (ix2 (0 : Fin 1) b) + ∑ a : Fin 256, add0 (fun k => x0 (ix2 a k)) (fun k => x1 (ix2 a k)) (fun k => x2 (ix2 a k)) (fun k => x3 (ix2 a k)) (fun k => x4 (ix2 (0 : Fin 1) k)) (fun k => x5 (ix2 (0 : Fin 1) k)) b := by
  pointwise [k0_pay1, k0_pay2, k0_pay3, k0_pay4, k0_pay5, k0_pay6, k0_pay7, k0_pay8, k0_pay9, k0_pay10, k0_pay11]
  rfl

theorem zero1 (b : Fin 2048) : (k0_pay9 (F := Ideal) (ix2 (0 : Fin 1) b) : EReal) = 0 := by
  pointwise [k0_pay1, k0_pay2, k0_pay3, k0_pay4, k0_pay5, k0_pay6, k0_pay7, k0_pay8, k0_pay9, k0_pay10, k0_pay11]

theorem step1 (x0 : FVec Ideal S256x2048 .f32) (x1 : FVec Ideal S256x2048 .f32) (x2 : FVec Ideal S256x2048 .f32) (x3 : FVec Ideal S256x2048 .f32) (x4 : FVec Ideal S1x2048 .f32) (x5 : FVec Ideal S1x2048 .f32) (A : FVec Ideal S1x2048 .f32) (b : Fin 2048) : (k0_pay11 (F := Ideal) x3 (k0_pay3 x0 x1 x2 x4) (k0_pay4 x3) k0_pay5 A (ix2 (0 : Fin 1) b) : EReal) =
    A (ix2 (0 : Fin 1) b) + ∑ a : Fin 256, add1 (fun k => x0 (ix2 a k)) (fun k => x1 (ix2 a k)) (fun k => x2 (ix2 a k)) (fun k => x3 (ix2 a k)) (fun k => x4 (ix2 (0 : Fin 1) k)) (fun k => x5 (ix2 (0 : Fin 1) k)) b := by
  pointwise [k0_pay1, k0_pay2, k0_pay3, k0_pay4, k0_pay5, k0_pay6, k0_pay7, k0_pay8, k0_pay9, k0_pay10, k0_pay11]
  rfl

end Cert.Step.ThirtyOne

namespace Cert.Step.ThirtyOne

open Idealize.ShloMosaic Cert.Reference31Ideal Cert.Reference31Ideal.Gen

/-- The reference's result 1. -/
theorem reference_out0 (x0 : FVec Ideal S4096x2048 .f32) (x1 : FVec Ideal S4096x2048 .f32) (x2 : FVec Ideal S4096x2048 .f32) (x3 : FVec Ideal S4096x2048 .f32) (x4 : FVec Ideal S1x2048 .f32) (x5 : FVec Ideal S1x2048 .f32) (h0 : ∀ i, ((EReal.toReal (x0 i) : ℝ) : EReal) = x0 i) (h1 : ∀ i, ((EReal.toReal (x1 i) : ℝ) : EReal) = x1 i) (h2 : ∀ i, ((EReal.toReal (x2 i) : ℝ) : EReal) = x2 i) (h3 : ∀ i, ((EReal.toReal (x3 i) : ℝ) : EReal) = x3 i) (h4 : ∀ i, ((EReal.toReal (x4 i) : ℝ) : EReal) = x4 i) (h5 : ∀ i, ((EReal.toReal (x5 i) : ℝ) : EReal) = x5 i) :
    addf x0 (addf (addf (mulf (mulf x1 (broadcastInDim S4096x2048 ![0, 1] bcast_S1x2048_S4096x2048_0_1 (broadcastInDim S1x2048 ![1] bcast_S2048_S1x2048_1 (shapeCast _ x4 shapeCasts_S1x2048_S2048)))) (broadcastInDim S4096x2048 ![0, 1] bcast_S4096x1_S4096x2048_0_1 (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (mulf x2 (broadcastInDim S4096x2048 ![0] bcast_S4096_S4096x2048_0 (Host.reduceAdd (Host.divf (mulf (shapeCast _ (Host.reduceAdd (mulf x2 (mulf x1 (broadcastInDim S4096x2048 ![0, 1] bcast_S1x2048_S4096x2048_0_1 (broadcastInDim S1x2048 ![1] bcast_S2048_S1x2048_1 (shapeCast _ x4 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf x2 (mulf x1 (broadcastInDim S4096x2048 ![0, 1] bcast_S1x2048_S4096x2048_0_1 (broadcastInDim S1x2048 ![1] bcast_S2048_S1x2048_1 (shapeCast _ x4 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)) x2)) = out0 x0 x1 x2 x3 x4 x5 := by
  funext i
  obtain ⟨a, b, rfl⟩ : ∃ (a : Fin 4096) (b : Fin 2048), i = ix2 a b := ⟨i 0, i 1, ValueIdx.eq_ix2 i⟩
  pointwise
  simp only [Fin.sum_univ_one]
  exact congrArg (x0 (ix2 a b) + ·) (Norm.chain_back 0x45000000#32 (by norm_num : (0 : ℝ) < 2048) Norm.word_wide (fun k => x2 (ix2 a k)) (fun k => x4 (ix2 (0 : Fin 1) k)) (fun k => x1 (ix2 a k)) (fun k => h2 _) (fun k => h4 _) (fun k => h1 _) b)

/-- The reference's result 2. -/
theorem reference_out1 (x0 : FVec Ideal S4096x2048 .f32) (x1 : FVec Ideal S4096x2048 .f32) (x2 : FVec Ideal S4096x2048 .f32) (x3 : FVec Ideal S4096x2048 .f32) (x4 : FVec Ideal S1x2048 .f32) (x5 : FVec Ideal S1x2048 .f32) (h0 : ∀ i, ((EReal.toReal (x0 i) : ℝ) : EReal) = x0 i) (h1 : ∀ i, ((EReal.toReal (x1 i) : ℝ) : EReal) = x1 i) (h2 : ∀ i, ((EReal.toReal (x2 i) : ℝ) : EReal) = x2 i) (h3 : ∀ i, ((EReal.toReal (x3 i) : ℝ) : EReal) = x3 i) (h4 : ∀ i, ((EReal.toReal (x4 i) : ℝ) : EReal) = x4 i) (h5 : ∀ i, ((EReal.toReal (x5 i) : ℝ) : EReal) = x5 i) :
    truncf .bf16 (addf (addf (mulf (mulf (addf x0 (addf (addf (mulf (mulf x1 (broadcastInDim S4096x2048 ![0, 1] bcast_S1x2048_S4096x2048_0_1 (broadcastInDim S1x2048 ![1] bcast_S2048_S1x2048_1 (shapeCast _ x4 shapeCasts_S1x2048_S2048)))) (broadcastInDim S4096x2048 ![0, 1] bcast_S4096x1_S4096x2048_0_1 (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (mulf x2 (broadcastInDim S4096x2048 ![0] bcast_S4096_S4096x2048_0 (Host.reduceAdd (Host.divf (mulf (shapeCast _ (Host.reduceAdd (mulf x2 (mulf x1 (broadcastInDim S4096x2048 ![0, 1] bcast_S1x2048_S4096x2048_0_1 (broadcastInDim S1x2048 ![1] bcast_S2048_S1x2048_1 (shapeCast _ x4 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf x2 (mulf x1 (broadcastInDim S4096x2048 ![0, 1] bcast_S1x2048_S4096x2048_0_1 (broadcastInDim S1x2048 ![1] bcast_S2048_S1x2048_1 (shapeCast _ x4 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)) x2))) (broadcastInDim S4096x2048 ![0, 1] bcast_S1x2048_S4096x2048_0_1 (broadcastInDim S1x2048 ![1] bcast_S2048_S1x2048_1 (shapeCast _ x5 shapeCasts_S1x2048_S2048)))) (broadcastInDim S4096x2048 ![0, 1] bcast_S4096x1_S4096x2048_0_1 (Host.rsqrt (addf (Host.divf (broadcastInDim S4096x1 ![0] bcast_S4096_S4096x1_0 (Host.reduceAdd (mulf x3 x3) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (mulf x3 (broadcastInDim S4096x2048 ![0] bcast_S4096_S4096x2048_0 (Host.reduceAdd (Host.divf (mulf (shapeCast _ (Host.reduceAdd (mulf x3 (mulf (addf x0 (addf (addf (mulf (mulf x1 (broadcastInDim S4096x2048 ![0, 1] bcast_S1x2048_S4096x2048_0_1 (broadcastInDim S1x2048 ![1] bcast_S2048_S1x2048_1 (shapeCast _ x4 shapeCasts_S1x2048_S2048)))) (broadcastInDim S4096x2048 ![0, 1] bcast_S4096x1_S4096x2048_0_1 (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (mulf x2 (broadcastInDim S4096x2048 ![0] bcast_S4096_S4096x2048_0 (Host.reduceAdd (Host.divf (mulf (shapeCast _ (Host.reduceAdd (mulf x2 (mulf x1 (broadcastInDim S4096x2048 ![0, 1] bcast_S1x2048_S4096x2048_0_1 (broadcastInDim S1x2048 ![1] bcast_S2048_S1x2048_1 (shapeCast _ x4 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf x2 (mulf x1 (broadcastInDim S4096x2048 ![0, 1] bcast_S1x2048_S4096x2048_0_1 (broadcastInDim S1x2048 ![1] bcast_S2048_S1x2048_1 (shapeCast _ x4 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)) x2))) (broadcastInDim S4096x2048 ![0, 1] bcast_S1x2048_S4096x2048_0_1 (broadcastInDim S1x2048 ![1] bcast_S2048_S1x2048_1 (shapeCast _ x5 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x3 x3) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x3 x3) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf x3 (mulf (addf x0 (addf (addf (mulf (mulf x1 (broadcastInDim S4096x2048 ![0, 1] bcast_S1x2048_S4096x2048_0_1 (broadcastInDim S1x2048 ![1] bcast_S2048_S1x2048_1 (shapeCast _ x4 shapeCasts_S1x2048_S2048)))) (broadcastInDim S4096x2048 ![0, 1] bcast_S4096x1_S4096x2048_0_1 (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (mulf x2 (broadcastInDim S4096x2048 ![0] bcast_S4096_S4096x2048_0 (Host.reduceAdd (Host.divf (mulf (shapeCast _ (Host.reduceAdd (mulf x2 (mulf x1 (broadcastInDim S4096x2048 ![0, 1] bcast_S1x2048_S4096x2048_0_1 (broadcastInDim S1x2048 ![1] bcast_S2048_S1x2048_1 (shapeCast _ x4 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf x2 (mulf x1 (broadcastInDim S4096x2048 ![0, 1] bcast_S1x2048_S4096x2048_0_1 (broadcastInDim S1x2048 ![1] bcast_S2048_S1x2048_1 (shapeCast _ x4 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)) x2))) (broadcastInDim S4096x2048 ![0, 1] bcast_S1x2048_S4096x2048_0_1 (broadcastInDim S1x2048 ![1] bcast_S2048_S1x2048_1 (shapeCast _ x5 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x3 x3) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x3 x3) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)) x3)) bitsLt_bf16_f32 = out1 x0 x1 x2 x3 x4 x5 := by
  funext i
  obtain ⟨a, b, rfl⟩ : ∃ (a : Fin 4096) (b : Fin 2048), i = ix2 a b := ⟨i 0, i 1, ValueIdx.eq_ix2 i⟩
  pointwise
  simp only [Fin.sum_univ_one]
  show sum (fun k => x0 (ix2 a k)) (fun k => x1 (ix2 a k)) (fun k => x2 (ix2 a k)) (fun k => x3 (ix2 a k)) (fun k => x4 (ix2 (0 : Fin 1) k)) (fun k => x5 (ix2 (0 : Fin 1) k)) b * x5 (ix2 (0 : Fin 1) b) * Norm.scale 0x45000000#32 (fun k => x3 (ix2 a k)) + x3 (ix2 a b) * Norm.chain 0x45000000#32 (fun k => x3 (ix2 a k)) (fun k => x5 (ix2 (0 : Fin 1) k)) (sum (fun k => x0 (ix2 a k)) (fun k => x1 (ix2 a k)) (fun k => x2 (ix2 a k)) (fun k => x3 (ix2 a k)) (fun k => x4 (ix2 (0 : Fin 1) k)) (fun k => x5 (ix2 (0 : Fin 1) k)))
      + Norm.chain 0x45000000#32 (fun k => x3 (ix2 a k)) (fun k => x5 (ix2 (0 : Fin 1) k)) (sum (fun k => x0 (ix2 a k)) (fun k => x1 (ix2 a k)) (fun k => x2 (ix2 a k)) (fun k => x3 (ix2 a k)) (fun k => x4 (ix2 (0 : Fin 1) k)) (fun k => x5 (ix2 (0 : Fin 1) k))) * x3 (ix2 a b) = _
  rw [sum_eq (fun k => x0 (ix2 a k)) (fun k => x1 (ix2 a k)) (fun k => x2 (ix2 a k)) (fun k => x3 (ix2 a k)) (fun k => x4 (ix2 (0 : Fin 1) k)) (fun k => x5 (ix2 (0 : Fin 1) k)) (fun k => h1 _) (fun k => h2 _) (fun k => h4 _)]
  exact Norm.chain_back 0x45000000#32 (by norm_num : (0 : ℝ) < 2048) Norm.word_wide (fun k => x3 (ix2 a k)) (fun k => x5 (ix2 (0 : Fin 1) k)) (row0 (fun k => x0 (ix2 a k)) (fun k => x1 (ix2 a k)) (fun k => x2 (ix2 a k)) (fun k => x3 (ix2 a k)) (fun k => x4 (ix2 (0 : Fin 1) k)) (fun k => x5 (ix2 (0 : Fin 1) k))) (fun k => h3 _) (fun k => h5 _)
    (fun k => Norm.add_real (h0 _) (Norm.back_real 0x45000000#32 (by norm_num : (0 : ℝ) < 2048) Norm.word_wide (fun k => x2 (ix2 a k)) (fun k => x4 (ix2 (0 : Fin 1) k)) (fun k => x1 (ix2 a k)) (fun k => h2 _) (fun k => h4 _) (fun k => h1 _) k)) b

/-- The reference's result 3. -/
theorem reference_out2 (x0 : FVec Ideal S4096x2048 .f32) (x1 : FVec Ideal S4096x2048 .f32) (x2 : FVec Ideal S4096x2048 .f32) (x3 : FVec Ideal S4096x2048 .f32) (x4 : FVec Ideal S1x2048 .f32) (x5 : FVec Ideal S1x2048 .f32) (h0 : ∀ i, ((EReal.toReal (x0 i) : ℝ) : EReal) = x0 i) (h1 : ∀ i, ((EReal.toReal (x1 i) : ℝ) : EReal) = x1 i) (h2 : ∀ i, ((EReal.toReal (x2 i) : ℝ) : EReal) = x2 i) (h3 : ∀ i, ((EReal.toReal (x3 i) : ℝ) : EReal) = x3 i) (h4 : ∀ i, ((EReal.toReal (x4 i) : ℝ) : EReal) = x4 i) (h5 : ∀ i, ((EReal.toReal (x5 i) : ℝ) : EReal) = x5 i) :
    broadcastInDim S1x2048 ![1] bcast_S2048_S1x2048_1 (Host.reduceAdd (shapeCast _ (Host.reduceAdd (mulf (mulf x2 (broadcastInDim S4096x2048 ![0, 1] bcast_S4096x1_S4096x2048_0_1 (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) x1) (constant S_ .f32 0x00000000#32) reducesTo_S4096x2048_S2048_d0 h_S_) shapeCasts_S2048_S1x2048) (constant S_ .f32 0x00000000#32) reducesTo_S1x2048_S2048_d0 h_S_) = out2 x0 x1 x2 x3 x4 x5 := by
  funext i
  obtain ⟨a, b, rfl⟩ : ∃ (a : Fin 1) (b : Fin 2048), i = ix2 a b := ⟨i 0, i 1, ValueIdx.eq_ix2 i⟩
  obtain rfl : a = 0 := Subsingleton.elim _ _
  pointwise
  try simp only [Fin.sum_univ_one]
  show (∑ l : Fin 4096, (x2 (ix2 l b) * Norm.scale 0x45000000#32 (fun k => x2 (ix2 l k)) * x1 (ix2 l b) : EReal)) = ∑ l : Fin 4096, (x1 (ix2 l b) * x2 (ix2 l b) * Norm.scale 0x45000000#32 (fun k => x2 (ix2 l k)) : EReal)
  exact Finset.sum_congr rfl fun l _ => (mul_comm _ _).trans (mul_assoc _ _ _).symm

/-- The reference's result 4. -/
theorem reference_out3 (x0 : FVec Ideal S4096x2048 .f32) (x1 : FVec Ideal S4096x2048 .f32) (x2 : FVec Ideal S4096x2048 .f32) (x3 : FVec Ideal S4096x2048 .f32) (x4 : FVec Ideal S1x2048 .f32) (x5 : FVec Ideal S1x2048 .f32) (h0 : ∀ i, ((EReal.toReal (x0 i) : ℝ) : EReal) = x0 i) (h1 : ∀ i, ((EReal.toReal (x1 i) : ℝ) : EReal) = x1 i) (h2 : ∀ i, ((EReal.toReal (x2 i) : ℝ) : EReal) = x2 i) (h3 : ∀ i, ((EReal.toReal (x3 i) : ℝ) : EReal) = x3 i) (h4 : ∀ i, ((EReal.toReal (x4 i) : ℝ) : EReal) = x4 i) (h5 : ∀ i, ((EReal.toReal (x5 i) : ℝ) : EReal) = x5 i) :
    broadcastInDim S1x2048 ![1] bcast_S2048_S1x2048_1 (Host.reduceAdd (shapeCast _ (Host.reduceAdd (mulf (mulf x3 (broadcastInDim S4096x2048 ![0, 1] bcast_S4096x1_S4096x2048_0_1 (Host.rsqrt (addf (Host.divf (broadcastInDim S4096x1 ![0] bcast_S4096_S4096x1_0 (Host.reduceAdd (mulf x3 x3) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (addf x0 (addf (addf (mulf (mulf x1 (broadcastInDim S4096x2048 ![0, 1] bcast_S1x2048_S4096x2048_0_1 (broadcastInDim S1x2048 ![1] bcast_S2048_S1x2048_1 (shapeCast _ x4 shapeCasts_S1x2048_S2048)))) (broadcastInDim S4096x2048 ![0, 1] bcast_S4096x1_S4096x2048_0_1 (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (mulf x2 (broadcastInDim S4096x2048 ![0] bcast_S4096_S4096x2048_0 (Host.reduceAdd (Host.divf (mulf (shapeCast _ (Host.reduceAdd (mulf x2 (mulf x1 (broadcastInDim S4096x2048 ![0, 1] bcast_S1x2048_S4096x2048_0_1 (broadcastInDim S1x2048 ![1] bcast_S2048_S1x2048_1 (shapeCast _ x4 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)))) (mulf (broadcastInDim S4096x2048 ![0] bcast_S4096_S4096x2048_0 (Host.reduceAdd (Host.divf (mulf (shapeCast _ (Host.reduceAdd (mulf x2 (mulf x1 (broadcastInDim S4096x2048 ![0, 1] bcast_S1x2048_S4096x2048_0_1 (broadcastInDim S1x2048 ![1] bcast_S2048_S1x2048_1 (shapeCast _ x4 shapeCasts_S1x2048_S2048))))) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))) (addf (Host.divf (broadcastInDim S4096x1 ![0] bcast_S4096_S4096x1_0 (Host.reduceAdd (mulf x2 x2) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x1 ![] bcast_S_S4096x1 (constant S_ .f32 0x45000000#32))) (constant S_ .f32 0x00000000#32) reducesTo_S4096x1_S4096_d1 h_S_)) x2)))) (constant S_ .f32 0x00000000#32) reducesTo_S4096x2048_S2048_d0 h_S_) shapeCasts_S2048_S1x2048) (constant S_ .f32 0x00000000#32) reducesTo_S1x2048_S2048_d0 h_S_) = out3 x0 x1 x2 x3 x4 x5 := by
  funext i
  obtain ⟨a, b, rfl⟩ : ∃ (a : Fin 1) (b : Fin 2048), i = ix2 a b := ⟨i 0, i 1, ValueIdx.eq_ix2 i⟩
  obtain rfl : a = 0 := Subsingleton.elim _ _
  pointwise
  try simp only [Fin.sum_univ_one]
  show (∑ l : Fin 4096, (x3 (ix2 l b) * Norm.scale 0x45000000#32 (fun k => x3 (ix2 l k)) * sum (fun k => x0 (ix2 l k)) (fun k => x1 (ix2 l k)) (fun k => x2 (ix2 l k)) (fun k => x3 (ix2 l k)) (fun k => x4 (ix2 (0 : Fin 1) k)) (fun k => x5 (ix2 (0 : Fin 1) k)) b : EReal)) = ∑ l : Fin 4096, (row0 (fun k => x0 (ix2 l k)) (fun k => x1 (ix2 l k)) (fun k => x2 (ix2 l k)) (fun k => x3 (ix2 l k)) (fun k => x4 (ix2 (0 : Fin 1) k)) (fun k => x5 (ix2 (0 : Fin 1) k)) b * x3 (ix2 l b) * Norm.scale 0x45000000#32 (fun k => x3 (ix2 l k)) : EReal)
  refine Finset.sum_congr rfl fun l _ => ?_
  rw [sum_eq (fun k => x0 (ix2 l k)) (fun k => x1 (ix2 l k)) (fun k => x2 (ix2 l k)) (fun k => x3 (ix2 l k)) (fun k => x4 (ix2 (0 : Fin 1) k)) (fun k => x5 (ix2 (0 : Fin 1) k)) (fun k => h1 _) (fun k => h2 _) (fun k => h4 _)]
  exact (mul_comm _ _).trans (mul_assoc _ _ _).symm

theorem out0_congr {x0 x0' : FVec Ideal S4096x2048 .f32} {x1 x1' : FVec Ideal S4096x2048 .f32} {x2 x2' : FVec Ideal S4096x2048 .f32} {x3 x3' : FVec Ideal S4096x2048 .f32} {x4 x4' : FVec Ideal S1x2048 .f32} {x5 x5' : FVec Ideal S1x2048 .f32} (h0 : x0 = x0') (h1 : x1 = x1') (h2 : x2 = x2') (h3 : x3 = x3') (h4 : x4 = x4') (h5 : x5 = x5') :
    out0 x0 x1 x2 x3 x4 x5 = out0 x0' x1' x2' x3' x4' x5' := by
  rw [h0, h1, h2, h3, h4, h5]

theorem out1_congr {x0 x0' : FVec Ideal S4096x2048 .f32} {x1 x1' : FVec Ideal S4096x2048 .f32} {x2 x2' : FVec Ideal S4096x2048 .f32} {x3 x3' : FVec Ideal S4096x2048 .f32} {x4 x4' : FVec Ideal S1x2048 .f32} {x5 x5' : FVec Ideal S1x2048 .f32} (h0 : x0 = x0') (h1 : x1 = x1') (h2 : x2 = x2') (h3 : x3 = x3') (h4 : x4 = x4') (h5 : x5 = x5') :
    out1 x0 x1 x2 x3 x4 x5 = out1 x0' x1' x2' x3' x4' x5' := by
  rw [h0, h1, h2, h3, h4, h5]

theorem out2_congr {x0 x0' : FVec Ideal S4096x2048 .f32} {x1 x1' : FVec Ideal S4096x2048 .f32} {x2 x2' : FVec Ideal S4096x2048 .f32} {x3 x3' : FVec Ideal S4096x2048 .f32} {x4 x4' : FVec Ideal S1x2048 .f32} {x5 x5' : FVec Ideal S1x2048 .f32} (h0 : x0 = x0') (h1 : x1 = x1') (h2 : x2 = x2') (h3 : x3 = x3') (h4 : x4 = x4') (h5 : x5 = x5') :
    out2 x0 x1 x2 x3 x4 x5 = out2 x0' x1' x2' x3' x4' x5' := by
  rw [h0, h1, h2, h3, h4, h5]

theorem out3_congr {x0 x0' : FVec Ideal S4096x2048 .f32} {x1 x1' : FVec Ideal S4096x2048 .f32} {x2 x2' : FVec Ideal S4096x2048 .f32} {x3 x3' : FVec Ideal S4096x2048 .f32} {x4 x4' : FVec Ideal S1x2048 .f32} {x5 x5' : FVec Ideal S1x2048 .f32} (h0 : x0 = x0') (h1 : x1 = x1') (h2 : x2 = x2') (h3 : x3 = x3') (h4 : x4 = x4') (h5 : x5 = x5') :
    out3 x0 x1 x2 x3 x4 x5 = out3 x0' x1' x2' x3' x4' x5' := by
  rw [h0, h1, h2, h3, h4, h5]

/-- The precondition read: the entries are real. -/
theorem real_of_pre (x0 : FVec Ideal S4096x2048 .f32) (x1 : FVec Ideal S4096x2048 .f32) (x2 : FVec Ideal S4096x2048 .f32) (x3 : FVec Ideal S4096x2048 .f32) (x4 : FVec Ideal S1x2048 .f32) (x5 : FVec Ideal S1x2048 .f32) (h : Cert.Pre_finite31.fn (F := Ideal) x0 x1 x2 x3 x4 x5 = fun _ => 1#1) :
    (∀ i, ((EReal.toReal (x0 i) : ℝ) : EReal) = x0 i) ∧ (∀ i, ((EReal.toReal (x1 i) : ℝ) : EReal) = x1 i) ∧ (∀ i, ((EReal.toReal (x2 i) : ℝ) : EReal) = x2 i) ∧ (∀ i, ((EReal.toReal (x3 i) : ℝ) : EReal) = x3 i) ∧ (∀ i, ((EReal.toReal (x4 i) : ℝ) : EReal) = x4 i) ∧ (∀ i, ((EReal.toReal (x5 i) : ℝ) : EReal) = x5 i) := by
  haveI : Subsingleton Cert.Pre_finite31.S_.Idx := ⟨fun a b => funext fun k => k.elim0⟩
  have h0 := congrFun h ValueIdx.ix0
  unfold Cert.Pre_finite31.fn at h0
  dsimp only [Cert.Pre_finite31.fn_part1] at h0
  obtain ⟨h0, q5⟩ := IntOp.andi_eq_one.1 h0
  obtain ⟨h0, q4⟩ := IntOp.andi_eq_one.1 h0
  obtain ⟨h0, q3⟩ := IntOp.andi_eq_one.1 h0
  obtain ⟨h0, q2⟩ := IntOp.andi_eq_one.1 h0
  obtain ⟨q0, q1⟩ := IntOp.andi_eq_one.1 h0
  exact ⟨fun i => Cert.Mul.Four.coe_of_abs_lt Cert.Mul.Four.word_inf (Host.reduce_andi_all _ _ _ _ _ q0 i), fun i => Cert.Mul.Four.coe_of_abs_lt Cert.Mul.Four.word_inf (Host.reduce_andi_all _ _ _ _ _ q1 i), fun i => Cert.Mul.Four.coe_of_abs_lt Cert.Mul.Four.word_inf (Host.reduce_andi_all _ _ _ _ _ q2 i), fun i => Cert.Mul.Four.coe_of_abs_lt Cert.Mul.Four.word_inf (Host.reduce_andi_all _ _ _ _ _ q3 i), fun i => Cert.Mul.Four.coe_of_abs_lt Cert.Mul.Four.word_inf (Host.reduce_andi_all _ _ _ _ _ q4 i), fun i => Cert.Mul.Four.coe_of_abs_lt Cert.Mul.Four.word_inf (Host.reduce_andi_all _ _ _ _ _ q5 i)⟩

end Cert.Step.ThirtyOne

namespace Cert.Step.ThirtyOne

open Idealize.ShloMosaic hiding ix2 ix3 eq_ix2 eq_ix3
open Idealize.ShloMosaic.ValueIdx Idealize.ShloMosaic.TcCoe Idealize.ShloMosaic.Pipeline Idealize.SL.Sem Cert.Kernel31Ideal Cert.Kernel31Ideal.Gen

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)

theorem read0 (t : Fin cfg0.N) (a : Fin 256) (b : Fin 2048) (r : Fin 4096) (hr : r.val = t.val * 256 + a.val) :
    iblk m c 0 t (ix2 a b) = m ((c : Thread nD τ).loc main_arg0) (ix2 r b) := by
  have e1 : (win0_0.blk t).view.emb (ix2 a b) = ix2 r b := by
    blk_ext [index0] <;> first | rfl | (change _ + a.val = r.val; omega)
  blk_simp [iblk]
  rw [e1, V_main_arg0]

theorem read1 (t : Fin cfg0.N) (a : Fin 256) (b : Fin 2048) (r : Fin 4096) (hr : r.val = t.val * 256 + a.val) :
    iblk m c 1 t (ix2 a b) = m ((c : Thread nD τ).loc main_arg1) (ix2 r b) := by
  have e1 : (win0_1.blk t).view.emb (ix2 a b) = ix2 r b := by
    blk_ext [index1] <;> first | rfl | (change _ + a.val = r.val; omega)
  blk_simp [iblk]
  rw [e1, V_main_arg1]

theorem read2 (t : Fin cfg0.N) (a : Fin 256) (b : Fin 2048) (r : Fin 4096) (hr : r.val = t.val * 256 + a.val) :
    iblk m c 2 t (ix2 a b) = m ((c : Thread nD τ).loc main_arg2) (ix2 r b) := by
  have e1 : (win0_2.blk t).view.emb (ix2 a b) = ix2 r b := by
    blk_ext [index2] <;> first | rfl | (change _ + a.val = r.val; omega)
  blk_simp [iblk]
  rw [e1, V_main_arg2]

theorem read3 (t : Fin cfg0.N) (a : Fin 256) (b : Fin 2048) (r : Fin 4096) (hr : r.val = t.val * 256 + a.val) :
    iblk m c 3 t (ix2 a b) = m ((c : Thread nD τ).loc main_arg3) (ix2 r b) := by
  have e1 : (win0_3.blk t).view.emb (ix2 a b) = ix2 r b := by
    blk_ext [index3] <;> first | rfl | (change _ + a.val = r.val; omega)
  blk_simp [iblk]
  rw [e1, V_main_arg3]

theorem read4 (t : Fin cfg0.N) (b : Fin 2048) :
    iblk m c 4 t (ix2 (0 : Fin 1) b) = m ((c : Thread nD τ).loc main_arg4) (ix2 (0 : Fin 1) b) := by
  have e1 : (win0_4.blk t).view.emb (ix2 (0 : Fin 1) b) = ix2 (0 : Fin 1) b := by
    blk_ext [index4] <;> rfl
  blk_simp [iblk]
  rw [e1, V_main_arg4]

theorem read5 (t : Fin cfg0.N) (b : Fin 2048) :
    iblk m c 5 t (ix2 (0 : Fin 1) b) = m ((c : Thread nD τ).loc main_arg5) (ix2 (0 : Fin 1) b) := by
  have e1 : (win0_5.blk t).view.emb (ix2 (0 : Fin 1) b) = ix2 (0 : Fin 1) b := by
    blk_ext [index5] <;> rfl
  blk_simp [iblk]
  rw [e1, V_main_arg5]

theorem rows0 (t : Fin cfg0.N) (a : Fin 256) (l : Fin 4096) (hl : l.val = t.val * 256 + a.val) (b : Fin 2048) :
    row0 (fun k : Fin 2048 => iblk m c 0 t (ix2 a k)) (fun k : Fin 2048 => iblk m c 1 t (ix2 a k)) (fun k : Fin 2048 => iblk m c 2 t (ix2 a k)) (fun k : Fin 2048 => iblk m c 3 t (ix2 a k)) (fun k : Fin 2048 => iblk m c 4 t (ix2 (0 : Fin 1) k)) (fun k : Fin 2048 => iblk m c 5 t (ix2 (0 : Fin 1) k)) b = row0 (fun k : Fin 2048 => m ((c : Thread nD τ).loc main_arg0) (ix2 l k)) (fun k : Fin 2048 => m ((c : Thread nD τ).loc main_arg1) (ix2 l k)) (fun k : Fin 2048 => m ((c : Thread nD τ).loc main_arg2) (ix2 l k)) (fun k : Fin 2048 => m ((c : Thread nD τ).loc main_arg3) (ix2 l k)) (fun k : Fin 2048 => m ((c : Thread nD τ).loc main_arg4) (ix2 (0 : Fin 1) k)) (fun k : Fin 2048 => m ((c : Thread nD τ).loc main_arg5) (ix2 (0 : Fin 1) k)) b := by
  have h0 : (fun k : Fin 2048 => iblk m c 0 t (ix2 a k)) = fun k : Fin 2048 => m ((c : Thread nD τ).loc main_arg0) (ix2 l k) :=
    funext fun k => read0 m c t a k _ hl
  have h1 : (fun k : Fin 2048 => iblk m c 1 t (ix2 a k)) = fun k : Fin 2048 => m ((c : Thread nD τ).loc main_arg1) (ix2 l k) :=
    funext fun k => read1 m c t a k _ hl
  have h2 : (fun k : Fin 2048 => iblk m c 2 t (ix2 a k)) = fun k : Fin 2048 => m ((c : Thread nD τ).loc main_arg2) (ix2 l k) :=
    funext fun k => read2 m c t a k _ hl
  have h3 : (fun k : Fin 2048 => iblk m c 3 t (ix2 a k)) = fun k : Fin 2048 => m ((c : Thread nD τ).loc main_arg3) (ix2 l k) :=
    funext fun k => read3 m c t a k _ hl
  have h4 : (fun k : Fin 2048 => iblk m c 4 t (ix2 (0 : Fin 1) k)) = fun k : Fin 2048 => m ((c : Thread nD τ).loc main_arg4) (ix2 (0 : Fin 1) k) :=
    funext fun k => read4 m c t k
  have h5 : (fun k : Fin 2048 => iblk m c 5 t (ix2 (0 : Fin 1) k)) = fun k : Fin 2048 => m ((c : Thread nD τ).loc main_arg5) (ix2 (0 : Fin 1) k) :=
    funext fun k => read5 m c t k
  rw [h0, h1, h2, h3, h4, h5]

theorem rows1 (t : Fin cfg0.N) (a : Fin 256) (l : Fin 4096) (hl : l.val = t.val * 256 + a.val) (b : Fin 2048) :
    row1 (fun k : Fin 2048 => iblk m c 0 t (ix2 a k)) (fun k : Fin 2048 => iblk m c 1 t (ix2 a k)) (fun k : Fin 2048 => iblk m c 2 t (ix2 a k)) (fun k : Fin 2048 => iblk m c 3 t (ix2 a k)) (fun k : Fin 2048 => iblk m c 4 t (ix2 (0 : Fin 1) k)) (fun k : Fin 2048 => iblk m c 5 t (ix2 (0 : Fin 1) k)) b = row1 (fun k : Fin 2048 => m ((c : Thread nD τ).loc main_arg0) (ix2 l k)) (fun k : Fin 2048 => m ((c : Thread nD τ).loc main_arg1) (ix2 l k)) (fun k : Fin 2048 => m ((c : Thread nD τ).loc main_arg2) (ix2 l k)) (fun k : Fin 2048 => m ((c : Thread nD τ).loc main_arg3) (ix2 l k)) (fun k : Fin 2048 => m ((c : Thread nD τ).loc main_arg4) (ix2 (0 : Fin 1) k)) (fun k : Fin 2048 => m ((c : Thread nD τ).loc main_arg5) (ix2 (0 : Fin 1) k)) b := by
  have h0 : (fun k : Fin 2048 => iblk m c 0 t (ix2 a k)) = fun k : Fin 2048 => m ((c : Thread nD τ).loc main_arg0) (ix2 l k) :=
    funext fun k => read0 m c t a k _ hl
  have h1 : (fun k : Fin 2048 => iblk m c 1 t (ix2 a k)) = fun k : Fin 2048 => m ((c : Thread nD τ).loc main_arg1) (ix2 l k) :=
    funext fun k => read1 m c t a k _ hl
  have h2 : (fun k : Fin 2048 => iblk m c 2 t (ix2 a k)) = fun k : Fin 2048 => m ((c : Thread nD τ).loc main_arg2) (ix2 l k) :=
    funext fun k => read2 m c t a k _ hl
  have h3 : (fun k : Fin 2048 => iblk m c 3 t (ix2 a k)) = fun k : Fin 2048 => m ((c : Thread nD τ).loc main_arg3) (ix2 l k) :=
    funext fun k => read3 m c t a k _ hl
  have h4 : (fun k : Fin 2048 => iblk m c 4 t (ix2 (0 : Fin 1) k)) = fun k : Fin 2048 => m ((c : Thread nD τ).loc main_arg4) (ix2 (0 : Fin 1) k) :=
    funext fun k => read4 m c t k
  have h5 : (fun k : Fin 2048 => iblk m c 5 t (ix2 (0 : Fin 1) k)) = fun k : Fin 2048 => m ((c : Thread nD τ).loc main_arg5) (ix2 (0 : Fin 1) k) :=
    funext fun k => read5 m c t k
  rw [h0, h1, h2, h3, h4, h5]

theorem adds0 (t : Fin cfg0.N) (a : Fin 256) (l : Fin 4096) (hl : l.val = t.val * 256 + a.val) (b : Fin 2048) :
    add0 (fun k : Fin 2048 => iblk m c 0 t (ix2 a k)) (fun k : Fin 2048 => iblk m c 1 t (ix2 a k)) (fun k : Fin 2048 => iblk m c 2 t (ix2 a k)) (fun k : Fin 2048 => iblk m c 3 t (ix2 a k)) (fun k : Fin 2048 => iblk m c 4 t (ix2 (0 : Fin 1) k)) (fun k : Fin 2048 => iblk m c 5 t (ix2 (0 : Fin 1) k)) b = add0 (fun k : Fin 2048 => m ((c : Thread nD τ).loc main_arg0) (ix2 l k)) (fun k : Fin 2048 => m ((c : Thread nD τ).loc main_arg1) (ix2 l k)) (fun k : Fin 2048 => m ((c : Thread nD τ).loc main_arg2) (ix2 l k)) (fun k : Fin 2048 => m ((c : Thread nD τ).loc main_arg3) (ix2 l k)) (fun k : Fin 2048 => m ((c : Thread nD τ).loc main_arg4) (ix2 (0 : Fin 1) k)) (fun k : Fin 2048 => m ((c : Thread nD τ).loc main_arg5) (ix2 (0 : Fin 1) k)) b := by
  have h0 : (fun k : Fin 2048 => iblk m c 0 t (ix2 a k)) = fun k : Fin 2048 => m ((c : Thread nD τ).loc main_arg0) (ix2 l k) :=
    funext fun k => read0 m c t a k _ hl
  have h1 : (fun k : Fin 2048 => iblk m c 1 t (ix2 a k)) = fun k : Fin 2048 => m ((c : Thread nD τ).loc main_arg1) (ix2 l k) :=
    funext fun k => read1 m c t a k _ hl
  have h2 : (fun k : Fin 2048 => iblk m c 2 t (ix2 a k)) = fun k : Fin 2048 => m ((c : Thread nD τ).loc main_arg2) (ix2 l k) :=
    funext fun k => read2 m c t a k _ hl
  have h3 : (fun k : Fin 2048 => iblk m c 3 t (ix2 a k)) = fun k : Fin 2048 => m ((c : Thread nD τ).loc main_arg3) (ix2 l k) :=
    funext fun k => read3 m c t a k _ hl
  have h4 : (fun k : Fin 2048 => iblk m c 4 t (ix2 (0 : Fin 1) k)) = fun k : Fin 2048 => m ((c : Thread nD τ).loc main_arg4) (ix2 (0 : Fin 1) k) :=
    funext fun k => read4 m c t k
  have h5 : (fun k : Fin 2048 => iblk m c 5 t (ix2 (0 : Fin 1) k)) = fun k : Fin 2048 => m ((c : Thread nD τ).loc main_arg5) (ix2 (0 : Fin 1) k) :=
    funext fun k => read5 m c t k
  rw [h0, h1, h2, h3, h4, h5]

theorem adds1 (t : Fin cfg0.N) (a : Fin 256) (l : Fin 4096) (hl : l.val = t.val * 256 + a.val) (b : Fin 2048) :
    add1 (fun k : Fin 2048 => iblk m c 0 t (ix2 a k)) (fun k : Fin 2048 => iblk m c 1 t (ix2 a k)) (fun k : Fin 2048 => iblk m c 2 t (ix2 a k)) (fun k : Fin 2048 => iblk m c 3 t (ix2 a k)) (fun k : Fin 2048 => iblk m c 4 t (ix2 (0 : Fin 1) k)) (fun k : Fin 2048 => iblk m c 5 t (ix2 (0 : Fin 1) k)) b = add1 (fun k : Fin 2048 => m ((c : Thread nD τ).loc main_arg0) (ix2 l k)) (fun k : Fin 2048 => m ((c : Thread nD τ).loc main_arg1) (ix2 l k)) (fun k : Fin 2048 => m ((c : Thread nD τ).loc main_arg2) (ix2 l k)) (fun k : Fin 2048 => m ((c : Thread nD τ).loc main_arg3) (ix2 l k)) (fun k : Fin 2048 => m ((c : Thread nD τ).loc main_arg4) (ix2 (0 : Fin 1) k)) (fun k : Fin 2048 => m ((c : Thread nD τ).loc main_arg5) (ix2 (0 : Fin 1) k)) b := by
  have h0 : (fun k : Fin 2048 => iblk m c 0 t (ix2 a k)) = fun k : Fin 2048 => m ((c : Thread nD τ).loc main_arg0) (ix2 l k) :=
    funext fun k => read0 m c t a k _ hl
  have h1 : (fun k : Fin 2048 => iblk m c 1 t (ix2 a k)) = fun k : Fin 2048 => m ((c : Thread nD τ).loc main_arg1) (ix2 l k) :=
    funext fun k => read1 m c t a k _ hl
  have h2 : (fun k : Fin 2048 => iblk m c 2 t (ix2 a k)) = fun k : Fin 2048 => m ((c : Thread nD τ).loc main_arg2) (ix2 l k) :=
    funext fun k => read2 m c t a k _ hl
  have h3 : (fun k : Fin 2048 => iblk m c 3 t (ix2 a k)) = fun k : Fin 2048 => m ((c : Thread nD τ).loc main_arg3) (ix2 l k) :=
    funext fun k => read3 m c t a k _ hl
  have h4 : (fun k : Fin 2048 => iblk m c 4 t (ix2 (0 : Fin 1) k)) = fun k : Fin 2048 => m ((c : Thread nD τ).loc main_arg4) (ix2 (0 : Fin 1) k) :=
    funext fun k => read4 m c t k
  have h5 : (fun k : Fin 2048 => iblk m c 5 t (ix2 (0 : Fin 1) k)) = fun k : Fin 2048 => m ((c : Thread nD τ).loc main_arg5) (ix2 (0 : Fin 1) k) :=
    funext fun k => read5 m c t k
  rw [h0, h1, h2, h3, h4, h5]

theorem point0 (t : Fin cfg0.N) : (outsAt0 m c t.val t.isLt).1 = k0_pay3 (F := Ideal) (iblk m c 0 t) (iblk m c 1 t) (iblk m c 2 t) (iblk m c 4 t) := by
  by_cases h : t.val % 16 = 0
  · rw [outsAt0_A m c t h]
    dsimp only
    unfold out0_A_6
    frame_out
  · rw [outsAt0_B m c t h]
    dsimp only
    unfold out0_B_6
    frame_out

/-- The kernel's result 1. -/
theorem array0 : (dats m 0 c).arrAt 6 cfg0.N = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have hN : t.val < 16 := lt_of_lt_of_eq t.isLt (show cfg0.N = 16 from N_0)
  obtain ⟨a, b, rfl⟩ : ∃ (a : Fin 256) (b : Fin 2048), y = ix2 a b := ⟨y 0, y 1, eq_ix2 y⟩
  have ha := a.isLt
  have hb := b.isLt
  have e1 : (win0_6.blk t).view.emb (ix2 a b) = ix2 (⟨t.val * 256 + a.val, by omega⟩ : Fin 4096) b := by
    blk_ext [index6] <;> first | rfl | (change _ + a.val = _; omega)
  rw [e1, point0 m c t]
  exact (tile0 (iblk m c 0 t) (iblk m c 1 t) (iblk m c 2 t) (iblk m c 3 t) (iblk m c 4 t) (iblk m c 5 t) a b).trans (rows0 m c t a (⟨t.val * 256 + a.val, by omega⟩ : Fin 4096) rfl b)

theorem point1 (t : Fin cfg0.N) : (outsAt0 m c t.val t.isLt).2.1 = k0_pay7 (F := Ideal) (iblk m c 3 t) (iblk m c 5 t) (k0_pay3 (iblk m c 0 t) (iblk m c 1 t) (iblk m c 2 t) (iblk m c 4 t)) (k0_pay4 (iblk m c 3 t)) k0_pay5 := by
  by_cases h : t.val % 16 = 0
  · rw [outsAt0_A m c t h]
    dsimp only
    unfold out0_A_7
    frame_out
  · rw [outsAt0_B m c t h]
    dsimp only
    unfold out0_B_7
    frame_out

/-- The kernel's result 2. -/
theorem array1 : (dats m 0 c).arrAt 7 cfg0.N = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  have hN : t.val < 16 := lt_of_lt_of_eq t.isLt (show cfg0.N = 16 from N_0)
  obtain ⟨a, b, rfl⟩ : ∃ (a : Fin 256) (b : Fin 2048), y = ix2 a b := ⟨y 0, y 1, eq_ix2 y⟩
  have ha := a.isLt
  have hb := b.isLt
  have e1 : (win0_7.blk t).view.emb (ix2 a b) = ix2 (⟨t.val * 256 + a.val, by omega⟩ : Fin 4096) b := by
    blk_ext [index7] <;> first | rfl | (change _ + a.val = _; omega)
  rw [e1, point1 m c t]
  exact (tile1 (iblk m c 0 t) (iblk m c 1 t) (iblk m c 2 t) (iblk m c 3 t) (iblk m c 4 t) (iblk m c 5 t) a b).trans (rows1 m c t a (⟨t.val * 256 + a.val, by omega⟩ : Fin 4096) rfl b)

/-- What a point adds to result 3. -/
abbrev term0 (t : Fin cfg0.N) (i : S1x2048.Idx) : EReal := ∑ a : Fin 256, add0 (fun k : Fin 2048 => iblk m c 0 t (ix2 a k)) (fun k : Fin 2048 => iblk m c 1 t (ix2 a k)) (fun k : Fin 2048 => iblk m c 2 t (ix2 a k)) (fun k : Fin 2048 => iblk m c 3 t (ix2 a k)) (fun k : Fin 2048 => iblk m c 4 t (ix2 (0 : Fin 1) k)) (fun k : Fin 2048 => iblk m c 5 t (ix2 (0 : Fin 1) k)) (i 1)

theorem first0 (t : Fin cfg0.N) (h : t.val % 16 = 0) (i : S1x2048.Idx) :
    (outsAt0 m c t.val t.isLt).2.2.1 i = (fun _ => 0 : S1x2048.Idx → EReal) i + term0 m c t i := by
  obtain ⟨z, b, rfl⟩ : ∃ (z : Fin 1) (b : Fin 2048), i = ix2 z b := ⟨i 0, i 1, eq_ix2 i⟩
  obtain rfl : z = 0 := Subsingleton.elim _ _
  rw [outsAt0_A m c t h]
  dsimp only
  unfold out0_A_8
  frame_out
  refine (step0 (iblk m c 0 t) (iblk m c 1 t) (iblk m c 2 t) (iblk m c 3 t) (iblk m c 4 t) (iblk m c 5 t) _ b).trans ?_
  exact congrArg (· + _) (zero0 b)

theorem next0 (t : Fin cfg0.N) (h : ¬t.val % 16 = 0) (i : S1x2048.Idx) :
    (outsAt0 m c t.val t.isLt).2.2.1 i = (outsAt0 m c (t.val - 1) (Nat.lt_of_le_of_lt (Nat.sub_le _ _) t.isLt)).2.2.1 i + term0 m c t i := by
  obtain ⟨z, b, rfl⟩ : ∃ (z : Fin 1) (b : Fin 2048), i = ix2 z b := ⟨i 0, i 1, eq_ix2 i⟩
  obtain rfl : z = 0 := Subsingleton.elim _ _
  rw [outsAt0_B m c t h]
  dsimp only
  unfold out0_B_8
  frame_out
  exact step0 (iblk m c 0 t) (iblk m c 1 t) (iblk m c 2 t) (iblk m c 3 t) (iblk m c 4 t) (iblk m c 5 t) _ b

theorem last0 (t : Fin cfg0.N) (h1 : t.val % 16 = 15) (i : S1x2048.Idx) :
    (outsAt0 m c t.val t.isLt).2.2.1 i = ∑ s : Fin 16, term0 m c ⟨16 * (t.val / 16) + s.val, run_point_lt_of_flush t h1 s⟩ i := by
  rw [eq_sum_fin_of_reset_step_apply_of_flush (fun n h => (outsAt0 m c n h).2.2.1) 16 (fun _ => 0) (term0 m c)
    (first0 m c) (next0 m c) t h1 i, zero_add]

/-- The kernel's result 3. -/
theorem array2 : (dats m 0 c).arrAt 8 cfg0.N = out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  have h1 := (flush0_8 t).1 hf
  have hN : t.val < 16 := lt_of_lt_of_eq t.isLt (show cfg0.N = 16 from N_0)
  obtain ⟨z, b, rfl⟩ : ∃ (z : Fin 1) (b : Fin 2048), y = ix2 z b := ⟨y 0, y 1, eq_ix2 y⟩
  obtain rfl : z = 0 := Subsingleton.elim _ _
  have e1 : (win0_8.blk t).view.emb (ix2 (0 : Fin 1) b) = ix2 (0 : Fin 1) b := by
    blk_ext [index8] <;> rfl
  rw [e1, last0 m c t h1]
  unfold out2
  refine Fin.sum_mul_add_congr fun s a hl => ?_
  refine adds0 m c _ a _ ?_ b
  show s.val * 256 + a.val = (16 * (t.val / 16) + s.val) * 256 + a.val
  omega

/-- What a point adds to result 4. -/
abbrev term1 (t : Fin cfg0.N) (i : S1x2048.Idx) : EReal := ∑ a : Fin 256, add1 (fun k : Fin 2048 => iblk m c 0 t (ix2 a k)) (fun k : Fin 2048 => iblk m c 1 t (ix2 a k)) (fun k : Fin 2048 => iblk m c 2 t (ix2 a k)) (fun k : Fin 2048 => iblk m c 3 t (ix2 a k)) (fun k : Fin 2048 => iblk m c 4 t (ix2 (0 : Fin 1) k)) (fun k : Fin 2048 => iblk m c 5 t (ix2 (0 : Fin 1) k)) (i 1)

theorem first1 (t : Fin cfg0.N) (h : t.val % 16 = 0) (i : S1x2048.Idx) :
    (outsAt0 m c t.val t.isLt).2.2.2 i = (fun _ => 0 : S1x2048.Idx → EReal) i + term1 m c t i := by
  obtain ⟨z, b, rfl⟩ : ∃ (z : Fin 1) (b : Fin 2048), i = ix2 z b := ⟨i 0, i 1, eq_ix2 i⟩
  obtain rfl : z = 0 := Subsingleton.elim _ _
  rw [outsAt0_A m c t h]
  dsimp only
  unfold out0_A_9
  frame_out
  refine (step1 (iblk m c 0 t) (iblk m c 1 t) (iblk m c 2 t) (iblk m c 3 t) (iblk m c 4 t) (iblk m c 5 t) _ b).trans ?_
  exact congrArg (· + _) (zero1 b)

theorem next1 (t : Fin cfg0.N) (h : ¬t.val % 16 = 0) (i : S1x2048.Idx) :
    (outsAt0 m c t.val t.isLt).2.2.2 i = (outsAt0 m c (t.val - 1) (Nat.lt_of_le_of_lt (Nat.sub_le _ _) t.isLt)).2.2.2 i + term1 m c t i := by
  obtain ⟨z, b, rfl⟩ : ∃ (z : Fin 1) (b : Fin 2048), i = ix2 z b := ⟨i 0, i 1, eq_ix2 i⟩
  obtain rfl : z = 0 := Subsingleton.elim _ _
  rw [outsAt0_B m c t h]
  dsimp only
  unfold out0_B_9
  frame_out
  exact step1 (iblk m c 0 t) (iblk m c 1 t) (iblk m c 2 t) (iblk m c 3 t) (iblk m c 4 t) (iblk m c 5 t) _ b

theorem last1 (t : Fin cfg0.N) (h1 : t.val % 16 = 15) (i : S1x2048.Idx) :
    (outsAt0 m c t.val t.isLt).2.2.2 i = ∑ s : Fin 16, term1 m c ⟨16 * (t.val / 16) + s.val, run_point_lt_of_flush t h1 s⟩ i := by
  rw [eq_sum_fin_of_reset_step_apply_of_flush (fun n h => (outsAt0 m c n h).2.2.2) 16 (fun _ => 0) (term1 m c)
    (first1 m c) (next1 m c) t h1 i, zero_add]

/-- The kernel's result 4. -/
theorem array3 : (dats m 0 c).arrAt 9 cfg0.N = out3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  have h1 := (flush0_9 t).1 hf
  have hN : t.val < 16 := lt_of_lt_of_eq t.isLt (show cfg0.N = 16 from N_0)
  obtain ⟨z, b, rfl⟩ : ∃ (z : Fin 1) (b : Fin 2048), y = ix2 z b := ⟨y 0, y 1, eq_ix2 y⟩
  obtain rfl : z = 0 := Subsingleton.elim _ _
  have e1 : (win0_9.blk t).view.emb (ix2 (0 : Fin 1) b) = ix2 (0 : Fin 1) b := by
    blk_ext [index9] <;> rfl
  rw [e1, last1 m c t h1]
  unfold out3
  refine Fin.sum_mul_add_congr fun s a hl => ?_
  refine adds1 m c _ a _ ?_ b
  show s.val * 256 + a.val = (16 * (t.val / 16) + s.val) * 256 + a.val
  omega

end Cert.Step.ThirtyOne

end
-- ==== Proof.Claims.ThirtyOne.lean ====
module

public import proofs.«01_k».proof.Defs
public import proofs.«01_k».proof.Proof.Gen.Kernel31.Frame
public import proofs.«01_k».proof.Proof.Gen.Kernel31Ideal.Frame
public import proofs.«01_k».proof.Proof.Step.ThirtyOne
public import proofs.«01_k».proof.Proof.Gen.Pre_finite31

/-! The gradients of the attention's norm and of the norm after it: the claims. -/

@[expose] public section

noncomputable section

namespace Cert.Proof.ThirtyOne

open Idealize.ShloMosaic Idealize.ShloMosaic.TcCoe Idealize.SL.Sem

instance : Cert.Kernel31.Facts := Cert.Kernel31.Gen.facts
instance : Cert.Kernel31Ideal.Facts := Cert.Kernel31Ideal.Gen.facts
instance : Cert.Reference31Ideal.Facts := Cert.Reference31Ideal.Gen.facts
instance : Cert.Pre_finite31.Facts := Cert.Pre_finite31.Gen.facts

/-- The kernel runs, leaves its arguments and its counters as it found them. -/
theorem frame_p : Cert.quiescent_Kernel31 := fun m ρ _ => Cert.Kernel31.Gen.frame m ρ

/-- So does the kernel over the extended reals. -/
theorem frame_pi : Cert.quiescent_Kernel31Ideal := fun m ρ _ => Cert.Kernel31Ideal.Gen.frame m ρ

/-- So does the reference over the extended reals. -/
theorem frame_ri : Cert.quiescent_Reference31Ideal := fun m ρ _ =>
  (θ_run Cert.Reference31Ideal.defs _ _).mono (fun r h => ⟨fun c => (h c).2.2.2.2, Idealize.ShloMosaic.sem_eq_zero_of_no_sems (by decide) r.2⟩)
    (Cert.Reference31Ideal.Value.run (F := Ideal) m ρ)

/-- Over the extended reals the kernel and the reference end with the same arrays. -/
theorem algebraic : Cert.algebraic_Kernel31Ideal_Reference31Ideal_pre_finite31 := by
  intro m ρ m' ρ' hm hagree
  refine ⟨fun c => Cert.Step.ThirtyOne.out0 (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)), fun c => Cert.Step.ThirtyOne.out1 (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)), fun c => Cert.Step.ThirtyOne.out2 (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)), fun c => Cert.Step.ThirtyOne.out3 (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)), ?_, ?_⟩
  · refine (θ_run Cert.Kernel31Ideal.defs _ _).mono (fun r h c => ?_) (Cert.Kernel31Ideal.Value.run_blocks (F := Ideal) m ρ)
    exact ⟨(h c).1.trans (Cert.Step.ThirtyOne.array0 m c), (h c).2.1.trans (Cert.Step.ThirtyOne.array1 m c), (h c).2.2.1.trans (Cert.Step.ThirtyOne.array2 m c), (h c).2.2.2.1.trans (Cert.Step.ThirtyOne.array3 m c), (h c).2.2.2.2⟩
  · refine (θ_run Cert.Reference31Ideal.defs _ _).mono (fun r h c => ?_) (Cert.Reference31Ideal.Value.run (F := Ideal) m' ρ')
    obtain ⟨a0, a1, a2, a3, a4, a5⟩ := hagree c
    have hf := Cert.Step.ThirtyOne.real_of_pre _ _ _ _ _ _ (hm c)
    rw [← a0, ← a1, ← a2, ← a3, ← a4, ← a5] at hf
    exact ⟨(h c).1.trans ((Cert.Step.ThirtyOne.reference_out0 _ _ _ _ _ _ hf.1 hf.2.1 hf.2.2.1 hf.2.2.2.1 hf.2.2.2.2.1 hf.2.2.2.2.2).trans (Cert.Step.ThirtyOne.out0_congr a0 a1 a2 a3 a4 a5)), (h c).2.1.trans ((Cert.Step.ThirtyOne.reference_out1 _ _ _ _ _ _ hf.1 hf.2.1 hf.2.2.1 hf.2.2.2.1 hf.2.2.2.2.1 hf.2.2.2.2.2).trans (Cert.Step.ThirtyOne.out1_congr a0 a1 a2 a3 a4 a5)), (h c).2.2.1.trans ((Cert.Step.ThirtyOne.reference_out2 _ _ _ _ _ _ hf.1 hf.2.1 hf.2.2.1 hf.2.2.2.1 hf.2.2.2.2.1 hf.2.2.2.2.2).trans (Cert.Step.ThirtyOne.out2_congr a0 a1 a2 a3 a4 a5)), (h c).2.2.2.1.trans ((Cert.Step.ThirtyOne.reference_out3 _ _ _ _ _ _ hf.1 hf.2.1 hf.2.2.1 hf.2.2.2.1 hf.2.2.2.2.1 hf.2.2.2.2.2).trans (Cert.Step.ThirtyOne.out3_congr a0 a1 a2 a3 a4 a5)), (h c).2.2.2.2⟩

end Cert.Proof.ThirtyOne

end
-- ==== Proof.Step.ThirtyTwo.lean ====
module

public import proofs.«01_k».proof.Proof.Gen.Kernel32Ideal.Value
public import proofs.«01_k».proof.Proof.Gen.Reference32Ideal.Run
public import proofs.«01_k».proof.Proof.Step.Back
public import Idealize.ShloMosaic.Lib.Pipeline.ValueKit
public import Idealize.ShloMosaic.Lib.ValueLayout
public import Idealize.ShloMosaic.Lib.Pointwise

/-! The error against the target, and the sums of its squares. -/

@[expose] public section

set_option maxRecDepth 16384

noncomputable section

namespace Cert.Step.ThirtyTwo

open Idealize.ShloMosaic Cert.Mul Cert.Kernel32Ideal Cert.Kernel32Ideal.Gen

/-- The column of a lane in a block of lanes. -/
def lane (q : Fin 16) (b : Fin 128) : Fin 2048 := ⟨q.val * 128 + b.val, by omega⟩

theorem lane_zero (b : Fin 128) : lane 0 b = ⟨b.val, by omega⟩ := Fin.ext (by show 0 * 128 + b.val = b.val; omega)

/-- The square of the error. -/
def square (f0 f1 f2 f3 : Fin 2048 → EReal) (k : Fin 2048) : EReal :=
  (f0 k + Norm.gate (f1 k) * f2 k - f3 k) * (f0 k + Norm.gate (f1 k) * f2 k - f3 k)

theorem sum_sixteen (h : Fin 16 → EReal) : ∑ q, h q =
    h 0 + h 1 + h 2 + h 3 + h 4 + h 5 + h 6 + h 7 + h 8 + h 9 + h 10 + h 11 + h 12 + h 13 + h 14 + h 15 := by
  simp only [Fin.sum_univ_castSucc, Fin.sum_univ_zero, zero_add]
  rfl

/-- An entry of a row of result 1. -/
def row0 (f0 f1 f2 f3 : Fin 2048 → EReal) (b : Fin 2048) : EReal := (f0 b + Norm.gate (f1 b) * f2 b - f3 b) * Adam.word 0x3A000000#32

/-- What a row adds to result 2. -/
def add0 (f0 f1 f2 f3 : Fin 2048 → EReal) (b : Fin 128) : EReal := ∑ q : Fin 16, square f0 f1 f2 f3 (lane q b)

/-- The result 1. -/
def out0 (x0 : FVec Ideal S4096x2048 .f32) (x1 : FVec Ideal S4096x2048 .f32) (x2 : FVec Ideal S4096x2048 .f32) (x3 : FVec Ideal S4096x2048 .f32) : FVec Ideal S4096x2048 .f32 := fun i =>
  row0 (fun k => x0 (ix2 (i 0) k)) (fun k => x1 (ix2 (i 0) k)) (fun k => x2 (ix2 (i 0) k)) (fun k => x3 (ix2 (i 0) k)) (i 1)

/-- The result 2. -/
def out1 (x0 : FVec Ideal S4096x2048 .f32) (x1 : FVec Ideal S4096x2048 .f32) (x2 : FVec Ideal S4096x2048 .f32) (x3 : FVec Ideal S4096x2048 .f32) : FVec Ideal S1x128 .f32 := fun i =>
  ∑ l : Fin 4096, add0 (fun k => x0 (ix2 l k)) (fun k => x1 (ix2 l k)) (fun k => x2 (ix2 l k)) (fun k => x3 (ix2 l k)) (i 1)

theorem tile0 (x0 : FVec Ideal S256x2048 .f32) (x1 : FVec Ideal S256x2048 .f32) (x2 : FVec Ideal S256x2048 .f32) (x3 : FVec Ideal S256x2048 .f32) (a : Fin 256) (b : Fin 2048) : (k0_pay1 (F := Ideal) (k0_pay4 x0 x1 x2 x3) k0_pay6 (ix2 a b) : EReal) =
    row0 (fun k => x0 (ix2 a k)) (fun k => x1 (ix2 a k)) (fun k => x2 (ix2 a k)) (fun k => x3 (ix2 a k)) b := by
  pointwise [k0_pay1, k0_pay2, k0_pay3, k0_pay4, k0_pay5, k0_pay6]
  simp only [zero_sub]
  rfl

theorem zero0 (b : Fin 128) : (k0_pay2 (F := Ideal) (ix2 (0 : Fin 1) b) : EReal) = 0 := by
  pointwise [k0_pay1, k0_pay2, k0_pay3, k0_pay4, k0_pay5, k0_pay6]

theorem step0 (x0 : FVec Ideal S256x2048 .f32) (x1 : FVec Ideal S256x2048 .f32) (x2 : FVec Ideal S256x2048 .f32) (x3 : FVec Ideal S256x2048 .f32) (A : FVec Ideal S1x128 .f32) (b : Fin 128) : (k0_pay3 (F := Ideal) (k0_pay5 x0 x1 x2 x3) A (ix2 (0 : Fin 1) b) : EReal) =
    A (ix2 (0 : Fin 1) b) + ∑ a : Fin 256, add0 (fun k => x0 (ix2 a k)) (fun k => x1 (ix2 a k)) (fun k => x2 (ix2 a k)) (fun k => x3 (ix2 a k)) b := by
  pointwise [k0_pay1, k0_pay2, k0_pay3, k0_pay4, k0_pay5, k0_pay6]
  simp only [zero_sub]
  refine congrArg (A (ix2 (0 : Fin 1) b) + ·) (Finset.sum_congr rfl fun a _ => ?_)
  refine Eq.trans ?_ (sum_sixteen _).symm
  rw [lane_zero]
  rfl

end Cert.Step.ThirtyTwo

namespace Cert.Step.ThirtyTwo

open Idealize.ShloMosaic Cert.Reference32Ideal Cert.Reference32Ideal.Gen

/-- The reference's result 1. -/
theorem reference_out0 (x0 : FVec Ideal S4096x2048 .f32) (x1 : FVec Ideal S4096x2048 .f32) (x2 : FVec Ideal S4096x2048 .f32) (x3 : FVec Ideal S4096x2048 .f32)  :
    Host.divf (subf (addf x0 (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf x1)))) x2)) x3) (broadcastInDim S4096x2048 ![] bcast_S_S4096x2048 (constant S_ .f32 0x45000000#32)) = out0 x0 x1 x2 x3 := by
  funext i
  obtain ⟨a, b, rfl⟩ : ∃ (a : Fin 4096) (b : Fin 2048), i = ix2 a b := ⟨i 0, i 1, ValueIdx.eq_ix2 i⟩
  pointwise
  show Ideal.div _ (Adam.word 0x45000000#32) = _ * Adam.word 0x3A000000#32
  rw [Norm.word_wide, Norm.word_part, Ideal.div_coe (by norm_num)]
  rfl

/-- The reference's result 2. -/
theorem reference_out1 (x0 : FVec Ideal S4096x2048 .f32) (x1 : FVec Ideal S4096x2048 .f32) (x2 : FVec Ideal S4096x2048 .f32) (x3 : FVec Ideal S4096x2048 .f32)  :
    broadcastInDim S1x128 ![1] bcast_S128_S1x128_1 (Host.reduceAdd (shapeCast _ (mulf (subf (addf x0 (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf x1)))) x2)) x3) (subf (addf x0 (mulf (Host.divf (broadcastInDim S4096x2048 ![] bcast_S_S4096x2048 (constant S_ .f32 0x3F800000#32)) (addf (broadcastInDim S4096x2048 ![] bcast_S_S4096x2048 (constant S_ .f32 0x3F800000#32)) (Host.exp (Host.negf x1)))) x2)) x3)) shapeCasts_S4096x2048_S65536x128) (constant S_ .f32 0x00000000#32) reducesTo_S65536x128_S128_d0 h_S_) = out1 x0 x1 x2 x3 := by
  funext i
  obtain ⟨a, b, rfl⟩ : ∃ (a : Fin 1) (b : Fin 128), i = ix2 a b := ⟨i 0, i 1, ValueIdx.eq_ix2 i⟩
  obtain rfl : a = 0 := Subsingleton.elim _ _
  pointwise
  show (∑ t : Fin 65536, (square (fun k => x0 (ix2 (⟨t.val / 16, by omega⟩ : Fin 4096) k)) (fun k => x1 (ix2 (⟨t.val / 16, by omega⟩ : Fin 4096) k)) (fun k => x2 (ix2 (⟨t.val / 16, by omega⟩ : Fin 4096) k))
    (fun k => x3 (ix2 (⟨t.val / 16, by omega⟩ : Fin 4096) k)) (lane ⟨t.val % 16, by omega⟩ b) : EReal)) =
    ∑ l : Fin 4096, ∑ q : Fin 16, (square (fun k => x0 (ix2 l k)) (fun k => x1 (ix2 l k)) (fun k => x2 (ix2 l k)) (fun k => x3 (ix2 l k)) (lane q b) : EReal)
  refine (Fin.sum_mul_add_congr fun l q hl => ?_).symm
  have e1 : (⟨(l.val * 16 + q.val) / 16, by omega⟩ : Fin 4096) = l := Fin.ext (by show (l.val * 16 + q.val) / 16 = l.val; omega)
  have e2 : (⟨(l.val * 16 + q.val) % 16, by omega⟩ : Fin 16) = q := Fin.ext (by show (l.val * 16 + q.val) % 16 = q.val; omega)
  dsimp only
  rw [e1, e2]

theorem out0_congr {x0 x0' : FVec Ideal S4096x2048 .f32} {x1 x1' : FVec Ideal S4096x2048 .f32} {x2 x2' : FVec Ideal S4096x2048 .f32} {x3 x3' : FVec Ideal S4096x2048 .f32} (h0 : x0 = x0') (h1 : x1 = x1') (h2 : x2 = x2') (h3 : x3 = x3') :
    out0 x0 x1 x2 x3 = out0 x0' x1' x2' x3' := by
  rw [h0, h1, h2, h3]

theorem out1_congr {x0 x0' : FVec Ideal S4096x2048 .f32} {x1 x1' : FVec Ideal S4096x2048 .f32} {x2 x2' : FVec Ideal S4096x2048 .f32} {x3 x3' : FVec Ideal S4096x2048 .f32} (h0 : x0 = x0') (h1 : x1 = x1') (h2 : x2 = x2') (h3 : x3 = x3') :
    out1 x0 x1 x2 x3 = out1 x0' x1' x2' x3' := by
  rw [h0, h1, h2, h3]

end Cert.Step.ThirtyTwo

namespace Cert.Step.ThirtyTwo

open Idealize.ShloMosaic hiding ix2 ix3 eq_ix2 eq_ix3
open Idealize.ShloMosaic.ValueIdx Idealize.ShloMosaic.TcCoe Idealize.ShloMosaic.Pipeline Idealize.SL.Sem Cert.Kernel32Ideal Cert.Kernel32Ideal.Gen

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)

theorem read0 (t : Fin cfg0.N) (a : Fin 256) (b : Fin 2048) (r : Fin 4096) (hr : r.val = t.val * 256 + a.val) :
    iblk m c 0 t (ix2 a b) = m ((c : Thread nD τ).loc main_arg0) (ix2 r b) := by
  have e1 : (win0_0.blk t).view.emb (ix2 a b) = ix2 r b := by
    blk_ext [index0] <;> first | rfl | (change _ + a.val = r.val; omega)
  blk_simp [iblk]
  rw [e1, V_main_arg0]

theorem read1 (t : Fin cfg0.N) (a : Fin 256) (b : Fin 2048) (r : Fin 4096) (hr : r.val = t.val * 256 + a.val) :
    iblk m c 1 t (ix2 a b) = m ((c : Thread nD τ).loc main_arg1) (ix2 r b) := by
  have e1 : (win0_1.blk t).view.emb (ix2 a b) = ix2 r b := by
    blk_ext [index1] <;> first | rfl | (change _ + a.val = r.val; omega)
  blk_simp [iblk]
  rw [e1, V_main_arg1]

theorem read2 (t : Fin cfg0.N) (a : Fin 256) (b : Fin 2048) (r : Fin 4096) (hr : r.val = t.val * 256 + a.val) :
    iblk m c 2 t (ix2 a b) = m ((c : Thread nD τ).loc main_arg2) (ix2 r b) := by
  have e1 : (win0_2.blk t).view.emb (ix2 a b) = ix2 r b := by
    blk_ext [index2] <;> first | rfl | (change _ + a.val = r.val; omega)
  blk_simp [iblk]
  rw [e1, V_main_arg2]

theorem read3 (t : Fin cfg0.N) (a : Fin 256) (b : Fin 2048) (r : Fin 4096) (hr : r.val = t.val * 256 + a.val) :
    iblk m c 3 t (ix2 a b) = m ((c : Thread nD τ).loc main_arg3) (ix2 r b) := by
  have e1 : (win0_3.blk t).view.emb (ix2 a b) = ix2 r b := by
    blk_ext [index3] <;> first | rfl | (change _ + a.val = r.val; omega)
  blk_simp [iblk]
  rw [e1, V_main_arg3]

theorem rows0 (t : Fin cfg0.N) (a : Fin 256) (l : Fin 4096) (hl : l.val = t.val * 256 + a.val) (b : Fin 2048) :
    row0 (fun k : Fin 2048 => iblk m c 0 t (ix2 a k)) (fun k : Fin 2048 => iblk m c 1 t (ix2 a k)) (fun k : Fin 2048 => iblk m c 2 t (ix2 a k)) (fun k : Fin 2048 => iblk m c 3 t (ix2 a k)) b = row0 (fun k : Fin 2048 => m ((c : Thread nD τ).loc main_arg0) (ix2 l k)) (fun k : Fin 2048 => m ((c : Thread nD τ).loc main_arg1) (ix2 l k)) (fun k : Fin 2048 => m ((c : Thread nD τ).loc main_arg2) (ix2 l k)) (fun k : Fin 2048 => m ((c : Thread nD τ).loc main_arg3) (ix2 l k)) b := by
  have h0 : (fun k : Fin 2048 => iblk m c 0 t (ix2 a k)) = fun k : Fin 2048 => m ((c : Thread nD τ).loc main_arg0) (ix2 l k) :=
    funext fun k => read0 m c t a k _ hl
  have h1 : (fun k : Fin 2048 => iblk m c 1 t (ix2 a k)) = fun k : Fin 2048 => m ((c : Thread nD τ).loc main_arg1) (ix2 l k) :=
    funext fun k => read1 m c t a k _ hl
  have h2 : (fun k : Fin 2048 => iblk m c 2 t (ix2 a k)) = fun k : Fin 2048 => m ((c : Thread nD τ).loc main_arg2) (ix2 l k) :=
    funext fun k => read2 m c t a k _ hl
  have h3 : (fun k : Fin 2048 => iblk m c 3 t (ix2 a k)) = fun k : Fin 2048 => m ((c : Thread nD τ).loc main_arg3) (ix2 l k) :=
    funext fun k => read3 m c t a k _ hl
  rw [h0, h1, h2, h3]

theorem adds0 (t : Fin cfg0.N) (a : Fin 256) (l : Fin 4096) (hl : l.val = t.val * 256 + a.val) (b : Fin 128) :
    add0 (fun k : Fin 2048 => iblk m c 0 t (ix2 a k)) (fun k : Fin 2048 => iblk m c 1 t (ix2 a k)) (fun k : Fin 2048 => iblk m c 2 t (ix2 a k)) (fun k : Fin 2048 => iblk m c 3 t (ix2 a k)) b = add0 (fun k : Fin 2048 => m ((c : Thread nD τ).loc main_arg0) (ix2 l k)) (fun k : Fin 2048 => m ((c : Thread nD τ).loc main_arg1) (ix2 l k)) (fun k : Fin 2048 => m ((c : Thread nD τ).loc main_arg2) (ix2 l k)) (fun k : Fin 2048 => m ((c : Thread nD τ).loc main_arg3) (ix2 l k)) b := by
  have h0 : (fun k : Fin 2048 => iblk m c 0 t (ix2 a k)) = fun k : Fin 2048 => m ((c : Thread nD τ).loc main_arg0) (ix2 l k) :=
    funext fun k => read0 m c t a k _ hl
  have h1 : (fun k : Fin 2048 => iblk m c 1 t (ix2 a k)) = fun k : Fin 2048 => m ((c : Thread nD τ).loc main_arg1) (ix2 l k) :=
    funext fun k => read1 m c t a k _ hl
  have h2 : (fun k : Fin 2048 => iblk m c 2 t (ix2 a k)) = fun k : Fin 2048 => m ((c : Thread nD τ).loc main_arg2) (ix2 l k) :=
    funext fun k => read2 m c t a k _ hl
  have h3 : (fun k : Fin 2048 => iblk m c 3 t (ix2 a k)) = fun k : Fin 2048 => m ((c : Thread nD τ).loc main_arg3) (ix2 l k) :=
    funext fun k => read3 m c t a k _ hl
  rw [h0, h1, h2, h3]

theorem point0 (t : Fin cfg0.N) : (outsAt0 m c t.val t.isLt).1 = k0_pay1 (F := Ideal) (k0_pay4 (iblk m c 0 t) (iblk m c 1 t) (iblk m c 2 t) (iblk m c 3 t)) k0_pay6 := by
  by_cases h : t.val % 16 = 0
  · rw [outsAt0_A m c t h]
    dsimp only
    unfold out0_A_4
    frame_out
  · rw [outsAt0_B m c t h]
    dsimp only
    unfold out0_B_4
    frame_out

/-- The kernel's result 1. -/
theorem array0 : (dats m 0 c).arrAt 4 cfg0.N = out0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have hN : t.val < 16 := lt_of_lt_of_eq t.isLt (show cfg0.N = 16 from N_0)
  obtain ⟨a, b, rfl⟩ : ∃ (a : Fin 256) (b : Fin 2048), y = ix2 a b := ⟨y 0, y 1, eq_ix2 y⟩
  have ha := a.isLt
  have hb := b.isLt
  have e1 : (win0_4.blk t).view.emb (ix2 a b) = ix2 (⟨t.val * 256 + a.val, by omega⟩ : Fin 4096) b := by
    blk_ext [index4] <;> first | rfl | (change _ + a.val = _; omega)
  rw [e1, point0 m c t]
  exact (tile0 (iblk m c 0 t) (iblk m c 1 t) (iblk m c 2 t) (iblk m c 3 t) a b).trans (rows0 m c t a (⟨t.val * 256 + a.val, by omega⟩ : Fin 4096) rfl b)

/-- What a point adds to result 2. -/
abbrev term0 (t : Fin cfg0.N) (i : S1x128.Idx) : EReal := ∑ a : Fin 256, add0 (fun k : Fin 2048 => iblk m c 0 t (ix2 a k)) (fun k : Fin 2048 => iblk m c 1 t (ix2 a k)) (fun k : Fin 2048 => iblk m c 2 t (ix2 a k)) (fun k : Fin 2048 => iblk m c 3 t (ix2 a k)) (i 1)

theorem first0 (t : Fin cfg0.N) (h : t.val % 16 = 0) (i : S1x128.Idx) :
    (outsAt0 m c t.val t.isLt).2 i = (fun _ => 0 : S1x128.Idx → EReal) i + term0 m c t i := by
  obtain ⟨z, b, rfl⟩ : ∃ (z : Fin 1) (b : Fin 128), i = ix2 z b := ⟨i 0, i 1, eq_ix2 i⟩
  obtain rfl : z = 0 := Subsingleton.elim _ _
  rw [outsAt0_A m c t h]
  dsimp only
  unfold out0_A_5
  frame_out
  refine (step0 (iblk m c 0 t) (iblk m c 1 t) (iblk m c 2 t) (iblk m c 3 t) _ b).trans ?_
  exact congrArg (· + _) (zero0 b)

theorem next0 (t : Fin cfg0.N) (h : ¬t.val % 16 = 0) (i : S1x128.Idx) :
    (outsAt0 m c t.val t.isLt).2 i = (outsAt0 m c (t.val - 1) (Nat.lt_of_le_of_lt (Nat.sub_le _ _) t.isLt)).2 i + term0 m c t i := by
  obtain ⟨z, b, rfl⟩ : ∃ (z : Fin 1) (b : Fin 128), i = ix2 z b := ⟨i 0, i 1, eq_ix2 i⟩
  obtain rfl : z = 0 := Subsingleton.elim _ _
  rw [outsAt0_B m c t h]
  dsimp only
  unfold out0_B_5
  frame_out
  exact step0 (iblk m c 0 t) (iblk m c 1 t) (iblk m c 2 t) (iblk m c 3 t) _ b

theorem last0 (t : Fin cfg0.N) (h1 : t.val % 16 = 15) (i : S1x128.Idx) :
    (outsAt0 m c t.val t.isLt).2 i = ∑ s : Fin 16, term0 m c ⟨16 * (t.val / 16) + s.val, run_point_lt_of_flush t h1 s⟩ i := by
  rw [eq_sum_fin_of_reset_step_apply_of_flush (fun n h => (outsAt0 m c n h).2) 16 (fun _ => 0) (term0 m c)
    (first0 m c) (next0 m c) t h1 i, zero_add]

/-- The kernel's result 2. -/
theorem array1 : (dats m 0 c).arrAt 5 cfg0.N = out1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have h1 := (flush0_5 t).1 hf
  have hN : t.val < 16 := lt_of_lt_of_eq t.isLt (show cfg0.N = 16 from N_0)
  obtain ⟨z, b, rfl⟩ : ∃ (z : Fin 1) (b : Fin 128), y = ix2 z b := ⟨y 0, y 1, eq_ix2 y⟩
  obtain rfl : z = 0 := Subsingleton.elim _ _
  have e1 : (win0_5.blk t).view.emb (ix2 (0 : Fin 1) b) = ix2 (0 : Fin 1) b := by
    blk_ext [index5] <;> rfl
  rw [e1, last0 m c t h1]
  unfold out1
  refine Fin.sum_mul_add_congr fun s a hl => ?_
  refine adds0 m c _ a _ ?_ b
  show s.val * 256 + a.val = (16 * (t.val / 16) + s.val) * 256 + a.val
  omega

end Cert.Step.ThirtyTwo

end
-- ==== Proof.Claims.ThirtyTwo.lean ====
module

public import proofs.«01_k».proof.Defs
public import proofs.«01_k».proof.Proof.Gen.Kernel32.Frame
public import proofs.«01_k».proof.Proof.Gen.Kernel32Ideal.Frame
public import proofs.«01_k».proof.Proof.Step.ThirtyTwo

/-! The error against the target, and the sums of its squares: the claims. -/

@[expose] public section

noncomputable section

namespace Cert.Proof.ThirtyTwo

open Idealize.ShloMosaic Idealize.ShloMosaic.TcCoe Idealize.SL.Sem

instance : Cert.Kernel32.Facts := Cert.Kernel32.Gen.facts
instance : Cert.Kernel32Ideal.Facts := Cert.Kernel32Ideal.Gen.facts
instance : Cert.Reference32Ideal.Facts := Cert.Reference32Ideal.Gen.facts

/-- The kernel runs, leaves its arguments and its counters as it found them. -/
theorem frame_p : Cert.quiescent_Kernel32 := fun m ρ _ => Cert.Kernel32.Gen.frame m ρ

/-- So does the kernel over the extended reals. -/
theorem frame_pi : Cert.quiescent_Kernel32Ideal := fun m ρ _ => Cert.Kernel32Ideal.Gen.frame m ρ

/-- So does the reference over the extended reals. -/
theorem frame_ri : Cert.quiescent_Reference32Ideal := fun m ρ _ =>
  (θ_run Cert.Reference32Ideal.defs _ _).mono (fun r h => ⟨fun c => (h c).2.2, Idealize.ShloMosaic.sem_eq_zero_of_no_sems (by decide) r.2⟩)
    (Cert.Reference32Ideal.Value.run (F := Ideal) m ρ)

/-- Over the extended reals the kernel and the reference end with the same arrays. -/
theorem algebraic : Cert.algebraic_Kernel32Ideal_Reference32Ideal := by
  intro m ρ m' ρ' hm hagree
  refine ⟨fun c => Cert.Step.ThirtyTwo.out0 (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)), fun c => Cert.Step.ThirtyTwo.out1 (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)), ?_, ?_⟩
  · refine (θ_run Cert.Kernel32Ideal.defs _ _).mono (fun r h c => ?_) (Cert.Kernel32Ideal.Value.run_blocks (F := Ideal) m ρ)
    exact ⟨(h c).1.trans (Cert.Step.ThirtyTwo.array0 m c), (h c).2.1.trans (Cert.Step.ThirtyTwo.array1 m c), (h c).2.2⟩
  · refine (θ_run Cert.Reference32Ideal.defs _ _).mono (fun r h c => ?_) (Cert.Reference32Ideal.Value.run (F := Ideal) m' ρ')
    obtain ⟨a0, a1, a2, a3⟩ := hagree c
    exact ⟨(h c).1.trans ((Cert.Step.ThirtyTwo.reference_out0 _ _ _ _ ).trans (Cert.Step.ThirtyTwo.out0_congr a0 a1 a2 a3)), (h c).2.1.trans ((Cert.Step.ThirtyTwo.reference_out1 _ _ _ _ ).trans (Cert.Step.ThirtyTwo.out1_congr a0 a1 a2 a3)), (h c).2.2⟩

end Cert.Proof.ThirtyTwo

end
-- ==== Proof.Bwd.Offsets.lean ====
module

public import proofs.«01_k».proof.Proof.Gen.KernelIdeal.Frame

/-! The control of the kernel body in closed form: where the strips of 256 rows that one group of key
blocks touches begin, how many groups of four a query block has, and which branch it takes. -/

@[expose] public section

set_option maxRecDepth 16384

namespace Cert.KernelIdeal.Bwd

open Idealize.ShloMosaic Cert.KernelIdeal Cert.KernelIdeal.Gen

theorem trips1 : ∀ i : grid0.Coords, (k0_t1_loop i).trips = (i 1).val / 4 := by decide +kernel

theorem trips2 : ∀ i : grid0.Coords, (k0_t2_loop i).trips = 0 := by decide +kernel

/-- Block `u` of group `k` starts at row `256 (4 k + u)`. -/
theorem off1_eq : ∀ (i : grid0.Coords) (k : Fin (k0_t1_loop i).trips) (u : Fin 4),
    k0_off1 i k (BitVec.ofNat 32 u.val) = ![256 * (4 * k.val + u.val), 0] := by decide +kernel

theorem cond2_iff : ∀ i : grid0.Coords, k0_cond2 i = 1#1 ↔ (i 1).val % 4 ≠ 0 := by decide +kernel
theorem cond3_iff : ∀ i : grid0.Coords, k0_cond2 i = 1#1 → (k0_cond3 i = 1#1 ↔ 2 ≤ (i 1).val % 4) := by decide +kernel
theorem cond4_iff : ∀ i : grid0.Coords, k0_cond2 i = 1#1 → k0_cond3 i = 1#1 → (k0_cond4 i = 1#1 ↔ (i 1).val % 4 = 3) := by
  decide +kernel
theorem cond5_iff : ∀ i : grid0.Coords, k0_cond5 i = 1#1 ↔ (i 1).val = 15 := by decide +kernel

/-- The test whether the query block is the first of its head. -/
abbrev first (i : grid0.Coords) : BitVec 1 :=
  Scalar.cmpi .ne (Scalar.extui (Scalar.cmpi .eq (BitVec.ofNat 32 (i 1).val) 0#32)) (0#32 : BitVec 32)

theorem first_iff : ∀ i : grid0.Coords, first i = 1#1 ↔ (i 1).val = 0 := by decide +kernel

/-- The last group has `g + 1` blocks, the query block's own among them. -/
abbrev Tail (i : grid0.Coords) (g : ℕ) : Prop := (i 1).val % 4 = g

theorem off3_eq : ∀ (i : grid0.Coords), Tail i 3 → ∀ (u : Fin 4),
    k0_off3 i (BitVec.ofNat 32 u.val) = ![256 * ((i 1).val - 3 + u.val), 0] := by decide +kernel
theorem off4_eq : ∀ (i : grid0.Coords), Tail i 2 → ∀ (u : Fin 3),
    k0_off4 i (BitVec.ofNat 32 u.val) = ![256 * ((i 1).val - 2 + u.val), 0] := by decide +kernel
theorem off5_eq : ∀ (i : grid0.Coords), Tail i 1 → ∀ (u : Fin 2),
    k0_off5 i (BitVec.ofNat 32 u.val) = ![256 * ((i 1).val - 1 + u.val), 0] := by decide +kernel
theorem off6_eq : ∀ (i : grid0.Coords), Tail i 0 → k0_off6 i = ![256 * (i 1).val, 0] := by decide +kernel

section
variable (i : grid0.Coords) (k : Fin (k0_t1_loop i).trips)
instance : ClosedOff (k0_off1 i k 0#32) := ⟨![256 * (4 * k.val + 0), 0], off1_eq i k 0⟩
instance : ClosedOff (k0_off1 i k 1#32) := ⟨![256 * (4 * k.val + 1), 0], off1_eq i k 1⟩
instance : ClosedOff (k0_off1 i k 2#32) := ⟨![256 * (4 * k.val + 2), 0], off1_eq i k 2⟩
instance : ClosedOff (k0_off1 i k 3#32) := ⟨![256 * (4 * k.val + 3), 0], off1_eq i k 3⟩

instance [h : Fact (Tail i 3)] : ClosedOff (k0_off3 i 0#32) := ⟨![256 * ((i 1).val - 3 + 0), 0], off3_eq i h.out 0⟩
instance [h : Fact (Tail i 3)] : ClosedOff (k0_off3 i 1#32) := ⟨![256 * ((i 1).val - 3 + 1), 0], off3_eq i h.out 1⟩
instance [h : Fact (Tail i 3)] : ClosedOff (k0_off3 i 2#32) := ⟨![256 * ((i 1).val - 3 + 2), 0], off3_eq i h.out 2⟩
instance [h : Fact (Tail i 3)] : ClosedOff (k0_off3 i 3#32) := ⟨![256 * ((i 1).val - 3 + 3), 0], off3_eq i h.out 3⟩
instance [h : Fact (Tail i 2)] : ClosedOff (k0_off4 i 0#32) := ⟨![256 * ((i 1).val - 2 + 0), 0], off4_eq i h.out 0⟩
instance [h : Fact (Tail i 2)] : ClosedOff (k0_off4 i 1#32) := ⟨![256 * ((i 1).val - 2 + 1), 0], off4_eq i h.out 1⟩
instance [h : Fact (Tail i 2)] : ClosedOff (k0_off4 i 2#32) := ⟨![256 * ((i 1).val - 2 + 2), 0], off4_eq i h.out 2⟩
instance [h : Fact (Tail i 1)] : ClosedOff (k0_off5 i 0#32) := ⟨![256 * ((i 1).val - 1 + 0), 0], off5_eq i h.out 0⟩
instance [h : Fact (Tail i 1)] : ClosedOff (k0_off5 i 1#32) := ⟨![256 * ((i 1).val - 1 + 1), 0], off5_eq i h.out 1⟩
instance [h : Fact (Tail i 0)] : ClosedOff (k0_off6 i) := ⟨![256 * (i 1).val, 0], off6_eq i h.out⟩
end

end Cert.KernelIdeal.Bwd

end
-- ==== Proof.Bwd.Block.lean ====
module

public import proofs.«01_k».proof.Proof.Bwd.Offsets
public import Idealize.ShloMosaic.Lib.VecWindow

/-! One block of 256 keys against the 256 queries of the grid point, as operations on whole blocks, and
the state of the kernel they act on: the sums carried along the keys (of the log-keep probabilities, of
the weighted gradients, and of dq) and the two arrays of the head, dk and dv, that are added into. -/

@[expose] public section

set_option maxRecDepth 16384

noncomputable section

namespace Cert.KernelIdeal.Bwd

open Idealize.ShloMosaic Cert.KernelIdeal Cert.KernelIdeal.Gen

variable {F : FTy → Type} [FloatOps F] [Named F]

/-- What a grid point brings to every block: queries, output gradients, the rows' total log-keep, and
the two triangles of ones (up to, and strictly before, the column). -/
structure Par (F : FTy → Type) where
  q : FVec F S256x128 .bf16
  d : FVec F S256x128 .bf16
  lt : FVec F S256x1 .f32
  upto : FVec F S256x256 .bf16
  before : FVec F S256x256 .bf16

/-- On the diagonal block only the keys before the query count; elsewhere all do. -/
def masked (keep : Option (IVec S256x256 1)) (x : FVec F S256x256 .f32) (y : F .f32) : FVec F S256x256 .f32 :=
  match keep with
  | none => x
  | some k => select k x (broadcast S256x256 y)

section
variable (p : Par F) (keep : Option (IVec S256x256 1)) (pk pg : FVec F S256x1 .f32) (kb vb : Vec F S256x128 .f32)

/-- The logits of the block. -/
def logit : FVec F S256x256 .f32 :=
  mulf (matmul dot_S256x128_S256x128_S256x256_1_1_0_0_n_n none p.q (truncf .bf16 kb bitsLt_bf16_f32) (constant S256x256 .f32 0x00000000#32))
    (broadcast S256x256 (Scalar.ofBits .f32 0x3DB504F3#32))

/-- The log-probability that a stick is kept, of a logit. -/
def logKeepOf (z : FVec F S256x256 .f32) : FVec F S256x256 .f32 :=
  subf (broadcast S256x256 (Scalar.ofBits .f32 0x00000000#32))
    (addf (maximumf z (broadcast S256x256 (Scalar.ofBits .f32 0x00000000#32)))
      (log (addf (broadcast S256x256 (Scalar.ofBits .f32 0x3F800000#32))
        (exp (subf (broadcast S256x256 (Scalar.ofBits .f32 0x00000000#32)) (absf z))))))

def logKeep : FVec F S256x256 .f32 := masked keep (logKeepOf (logit p kb)) (Scalar.ofBits .f32 0x00000000#32)

/-- The product with a triangle in two halves, the rounded part and the rest. -/
def splitDot (x : FVec F S256x256 .f32) (t : FVec F S256x256 .bf16) : FVec F S256x256 .f32 :=
  addf (matmul dot_S256x256_S256x256_S256x256_1_0_0_1_n_n none (truncf .bf16 x bitsLt_bf16_f32) t (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) t (constant S256x256 .f32 0x00000000#32))

/-- The attention weights of the block. -/
def weight : FVec F S256x256 .f32 :=
  exp (masked keep (addf (addf (logit p kb) (logKeep p keep kb))
    (subf (broadcastTo S256x256 (subf p.lt pk) broadcasts_S256x1_S256x256) (splitDot (logKeep p keep kb) p.upto)))
    (Named.named κ "mask" 0xF149F2CA#32))

/-- The weights times their gradients. -/
def wgrad : FVec F S256x256 .f32 :=
  mulf (weight p keep pk kb)
    (matmul dot_S256x128_S256x128_S256x256_1_1_0_0_n_n none p.d (truncf .bf16 vb bitsLt_bf16_f32) (constant S256x256 .f32 0x00000000#32))

/-- A column of row sums, one block further. -/
def rowAdd (s : FVec F S256x1 .f32) (x : FVec F S256x256 .f32) : FVec F S256x1 .f32 :=
  addf s (shapeCast S256x1 (multiReduction .add [1] S256 x 0x00000000#32 reduces_S256x256_S256 (.inl rfl) rfl) shapeCasts_S256_S256x1)

/-- The gradient of the logits. -/
def dz : FVec F S256x256 .bf16 :=
  truncf .bf16 (mulf (masked keep (subf (mulf (wgrad p keep pk kb vb) (exp (logKeep p keep kb)))
      (mulf (addf (broadcastTo S256x256 pg broadcasts_S256x1_S256x256)
          (matmul dot_S256x256_S256x256_S256x256_1_0_0_1_n_n none (truncf .bf16 (wgrad p keep pk kb vb) bitsLt_bf16_f32) p.before (constant S256x256 .f32 0x00000000#32)))
        (subf (broadcast S256x256 (Scalar.ofBits .f32 0x3F800000#32)) (exp (logKeep p keep kb)))))
      (Scalar.ofBits .f32 0x00000000#32))
    (broadcast S256x256 (Scalar.ofBits .f32 0x3DB504F3#32))) bitsLt_bf16_f32

def dqAdd (dq : FVec F S256x128 .f32) : FVec F S256x128 .f32 :=
  addf dq (matmul dot_S256x256_S256x128_S256x128_1_0_0_1_n_n none (dz p keep pk pg kb vb) (truncf .bf16 kb bitsLt_bf16_f32) (constant S256x128 .f32 0x00000000#32))

def dkAdd (old : Vec F S256x128 .f32) : FVec F S256x128 .f32 :=
  shapeCast S256x128 (addf old (matmul dot_S256x256_S256x128_S256x128_0_0_1_1_n_n none (dz p keep pk pg kb vb) p.q (constant S256x128 .f32 0x00000000#32)))
    shapeCasts_S256x128_S256x128

def dvAdd (old : Vec F S256x128 .f32) : FVec F S256x128 .f32 :=
  shapeCast S256x128 (addf old (matmul dot_S256x256_S256x128_S256x128_0_0_1_1_n_n none (truncf .bf16 (weight p keep pk kb) bitsLt_bf16_f32) p.d (constant S256x128 .f32 0x00000000#32)))
    shapeCasts_S256x128_S256x128
end

/-- The offsets of strip `j` (256 rows of the head's array). -/
abbrev offs (j : ℕ) : Fin 2 → ℕ := ![256 * j, 0]

theorem offs_inb (j : Fin 16) : ∀ a, offs j.val a + S256x128.size a ≤ S4096x128.size a := by revert j; decide +kernel

/-- Strip `j` of an array of the head. -/
def strip {e : EltTy} (X : Vec F S4096x128 e) (j : Fin 16) : Vec F S256x128 e := VecWindow.window X (offs j.val) S256x128.size (offs_inb j)

/-- The array with strip `j` replaced. -/
def setStrip {e : EltTy} (X : Vec F S4096x128 e) (j : Fin 16) (w : Vec F S256x128 e) : Vec F S4096x128 e := VecWindow.put X (offs j.val) S256x128.size w

theorem strip_setStrip_same {e : EltTy} (X : Vec F S4096x128 e) (j : Fin 16) (w : Vec F S256x128 e) : strip (setStrip X j w) j = w :=
  VecWindow.window_put_same X _ _ (offs_inb j) w

theorem strip_setStrip {e : EltTy} (X : Vec F S4096x128 e) {j j' : Fin 16} (h : j ≠ j') (w : Vec F S256x128 e) :
    strip (setStrip X j w) j' = strip X j' :=
  VecWindow.window_put_of_disjoint X _ _ _ _ (offs_inb j') w 0 (by
    have h' : j.val ≠ j'.val := fun e => h (Fin.ext e)
    show 256 * j'.val + 256 ≤ 256 * j.val ∨ 256 * j.val + 256 ≤ 256 * j'.val
    omega)

/-- The state along the keys of one query block. -/
structure St (F : FTy → Type) where
  pk : FVec F S256x1 .f32
  pg : FVec F S256x1 .f32
  dq : FVec F S256x128 .f32
  dk : Vec F S4096x128 .f32
  dv : Vec F S4096x128 .f32

/-- The carried part of the state. -/
abbrev Carry (F : FTy → Type) := FVec F S256x1 .f32 × FVec F S256x1 .f32 × FVec F S256x128 .f32

def St.carry (s : St F) : Carry F := (s.pk, s.pg, s.dq)

/-- Key block `j`, its keys and values the strips `j` of `K` and `V`. -/
def step (p : Par F) (K V : Vec F S4096x128 .f32) (keep : Option (IVec S256x256 1)) (s : St F) (j : Fin 16) : St F where
  pk := rowAdd s.pk (logKeep p keep (strip K j))
  pg := rowAdd s.pg (wgrad p keep s.pk (strip K j) (strip V j))
  dq := dqAdd p keep s.pk s.pg (strip K j) (strip V j) s.dq
  dk := setStrip s.dk j (dkAdd p keep s.pk s.pg (strip K j) (strip V j) (strip s.dk j))
  dv := setStrip s.dv j (dvAdd p keep s.pk (strip K j) (strip s.dv j))

end Cert.KernelIdeal.Bwd

end
-- ==== Proof.Bwd.State.lean ====
module

public import proofs.«01_k».proof.Proof.Bwd.Block
public import proofs.«01_k».proof.Proof.Gen.KernelIdeal.Loops
public import Idealize.ShloMosaic.Lib.Exec

/-! The state of the kernel along the key blocks, and the buffers that hold it. -/

@[expose] public section

set_option maxRecDepth 16384

noncomputable section

namespace Cert.KernelIdeal.Bwd

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Key block number `n`. -/
def blk (n : ℕ) : Fin 16 := Fin.ofNat 16 n

theorem blk_val {n : ℕ} (h : n < 16) : (blk n).val = n := Nat.mod_eq_of_lt h

theorem blk_ne {n n' : ℕ} (h : n < 16) (h' : n' < 16) (hn : n ≠ n') : blk n ≠ blk n' := fun e => hn (by
  have := congrArg Fin.val e
  rwa [blk_val h, blk_val h'] at this)

/-- The state after the first `n` key blocks, all of them before the queries. -/
def run (p : Par F) (K V : Vec F S4096x128 .f32) (s : St F) : ℕ → St F
  | 0 => s
  | n + 1 => step p K V none (run p K V s n) (blk n)

/-- Blocks touch their own strip of dk only. -/
theorem strip_step_dk (p : Par F) (K V : Vec F S4096x128 .f32) (keep : Option (IVec S256x256 1)) (s : St F) {j j' : Fin 16} (h : j ≠ j') :
    strip (step p K V keep s j).dk j' = strip s.dk j' := strip_setStrip _ h _

theorem strip_step_dv (p : Par F) (K V : Vec F S4096x128 .f32) (keep : Option (IVec S256x256 1)) (s : St F) {j j' : Fin 16} (h : j ≠ j') :
    strip (step p K V keep s j).dv j' = strip s.dv j' := strip_setStrip _ h _

section
variable {κ : Kind} {sp : Space} {e : EltTy}

/-- A store of a strip. -/
theorem read_writes_strip (v : View sig κ sp S4096x128 e) (f : v.ty.Contents (Elt F)) {off : Fin 2 → ℕ}
    (inb : ∀ a, off a + S256x128.size a ≤ S4096x128.size a) (w : Vec F S256x128 e) (L : List (View.Piece (Elt F) S4096x128 e)) (j : Fin 16)
    (h : off = offs j.val) :
    v.read (Elt F) (v.writes (Elt F) f (⟨Rect.unit (s := S4096x128) off S256x128.size inb, w⟩ :: L)) = setStrip (v.read (Elt F) (v.writes (Elt F) f L)) j w :=
  View.read_writes_cons_put v f inb w L h

theorem setStrip_congr {X X' : Vec F S4096x128 e} {j : Fin 16} {w w' : Vec F S256x128 e} (h : X = X') (hw : w = w') :
    setStrip X j w = setStrip X' j w' := by rw [h, hw]

/-- A load of a strip. -/
theorem readAt_strip (v : View sig κ sp S4096x128 e) (f : v.ty.Contents (Elt F)) {off : Fin 2 → ℕ}
    (inb : ∀ a, off a + S256x128.size a ≤ S4096x128.size a) (j : Fin 16) (h : off = offs j.val) :
    v.readAt (Elt F) (Rect.unit (s := S4096x128) off S256x128.size inb).toLoadRect f = strip (v.read (Elt F) f) j :=
  View.readAt_unit v f inb h (offs_inb j)
end

section

variable (c : Dev nD)
  (arg3 : Memref sig .tc .vmem S4096x128 .f32) (harg3 : arg3.IsWhole) (arg4 : Memref sig .tc .vmem S4096x128 .f32) (harg4 : arg4.IsWhole)
  (arg10 : Memref sig .tc .vmem S4096x128 .f32) (arg11 : Memref sig .tc .vmem S4096x128 .f32)

/-- The two buffers the blocks read and the two they add into. -/
abbrev Res (X3 : Vec F S4096x128 .f32) (X4 : Vec F S4096x128 .f32)
    (f10 : Buf (Elt F) (arg10.view.loc (c : Thread nD τ))) (f11 : Buf (Elt F) (arg11.view.loc (c : Thread nD τ))) : sProp 𝕄 :=
  iprop((arg3.view.loc (c : Thread nD τ) ↦[arg3.view.set]{fullShare} harg3.unread X3)
    ∗ (arg4.view.loc (c : Thread nD τ) ↦[arg4.view.set]{fullShare} harg4.unread X4)
    ∗ (arg10.view.loc (c : Thread nD τ) ↦[arg10.view.set]{fullShare} f10)
    ∗ (arg11.view.loc (c : Thread nD τ) ↦[arg11.view.set]{fullShare} f11))

/-- The same with the last two at the state's arrays. -/
def Sres (X3 : Vec F S4096x128 .f32) (X4 : Vec F S4096x128 .f32) (s : St F) : sProp 𝕄 :=
  iprop(∃ f10 f11, ⌜arg10.view.read (Elt F) f10 = s.dk ∧ arg11.view.read (Elt F) f11 = s.dv⌝ ∗ Res c arg3 harg3 arg4 harg4 arg10 arg11 X3 X4 f10 f11)
end

end Cert.KernelIdeal.Bwd

end
-- ==== Proof.Bwd.Trip.lean ====
module

public import proofs.«01_k».proof.Proof.Bwd.State

/-! One trip of the loop over the groups of four key blocks, run once at a symbolic trip. -/

@[expose] public section

set_option maxRecDepth 16384

noncomputable section

namespace Cert.KernelIdeal.Bwd

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section

variable (c : Dev nD) (i : grid0.Coords)
  (arg2 : Memref sig .tc .vmem S256x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S256x128 .f32) (harg5 : arg5.IsWhole)
  (arg6 : Memref sig .tc .vmem S256x128 .f32) (harg6 : arg6.IsWhole) (arg7 : Memref sig .tc .vmem S256x128 .bf16) (harg7 : arg7.IsWhole)
  (arg8 : Memref sig .tc .vmem S4096x128 .bf16) (harg8 : arg8.IsWhole) (arg9 : Memref sig .tc .vmem S4096x128 .bf16) (harg9 : arg9.IsWhole)
  (arg10 : Memref sig .tc .vmem S4096x128 .f32) (harg10 : arg10.IsWhole) (arg11 : Memref sig .tc .vmem S4096x128 .f32) (harg11 : arg11.IsWhole)

abbrev Pieces (F : FTy → Type) := List (View.Piece (Elt F) S4096x128 .f32)

variable (arg1 : BitVec 32) (v4 : FVec F S256x128 .bf16) (v6 : FVec F S256x128 .bf16) (v10 : FVec F S256x1 .f32)
  (v16 : FVec F S256x256 .bf16) (v20 : FVec F S256x256 .bf16) (v22 : FVec F S256x1 .f32) (v39 : BitVec 32)

set_option maxHeartbeats 2000000 in
def tripRun (X3 X4 : Vec F S4096x128 .f32) (k : Fin (k0_t1_loop i).trips) (a0 : FVec F S256x1 .f32) (a1 : FVec F S256x1 .f32) (a2 : FVec F S256x128 .f32)
    (f10 : Buf (Elt F) (arg10.view.loc (c : Thread nD τ))) (f11 : Buf (Elt F) (arg11.view.loc (c : Thread nD τ))) :
    (r : Carry F) ×' (L10 : Pieces F) ×' { L11 : Pieces F //
      Res c arg3 harg3 arg4 harg4 arg10 arg11 X3 X4 f10 f11
        ⊢ wp frame (wpE (defs₀ (F := F)) Variants.none (c : Thread nD τ) none) Set.univ
          (k0_t1_body i arg2 harg2 arg3 harg3 arg4 harg4 arg5 harg5 arg6 harg6 arg7 harg7 arg8 harg8 arg9 harg9 arg10 harg10 arg11 harg11 arg1 v4 v6 v10 v16 v20 v22 v39 k (a0, a1, a2))
          (fun b => iprop(⌜b = r⌝ ∗ Res c arg3 harg3 arg4 harg4 arg10 arg11 X3 X4
            (arg10.view.writes (Elt F) f10 L10) (arg11.view.writes (Elt F) f11 L11))) } := by
  refine ⟨?_, ?_, ?_, ?run⟩
  case run =>
    iintro ⟨H3, H4, H10, H11⟩
    sl_unfold [Gen.k0_t1_body]
    sl_exec
    sl_step
    isplitr
    · ipureintro; rfl
    isplitl [H3]; · iexact H3
    isplitl [H4]; · iexact H4
    isplitl [H10]; · iexact H10
    iexact H11

/-- The four blocks of trip `k`, one after the other. -/
theorem run_four (p : Par F) (K V : Vec F S4096x128 .f32) (s : St F) (n : ℕ) :
    run p K V s (4 * (n + 1)) = step p K V none (step p K V none (step p K V none (step p K V none (run p K V s (4 * n)) (blk (4 * n))) (blk (4 * n + 1)))
      (blk (4 * n + 2))) (blk (4 * n + 3)) := rfl

theorem trip_lt (k : Fin (k0_t1_loop i).trips) : 4 * k.val + 3 < 16 := by
  have h := k.isLt
  have h1 : (i 1).val < 16 := (i 1).isLt
  have h2 := trips1 i
  omega

theorem off_blk (k : Fin (k0_t1_loop i).trips) (u : Fin 4) :
    k0_off1 i k (BitVec.ofNat 32 u.val) = offs (blk (4 * k.val + u.val)).val := by
  have := trip_lt i k
  rw [off1_eq, blk_val (by omega)]

theorem trip_out (X3 X4 : Vec F S4096x128 .f32) (k : Fin (k0_t1_loop i).trips) (s : St F)
    (f10 : Buf (Elt F) (arg10.view.loc (c : Thread nD τ))) (f11 : Buf (Elt F) (arg11.view.loc (c : Thread nD τ)))
    (h10 : arg10.view.read (Elt F) f10 = s.dk) (h11 : arg11.view.read (Elt F) f11 = s.dv) (p : Par F) (hp : p = ⟨v4, v6, v10, v16, v20⟩)
    (s' : St F) (hs : s' = step p X3 X4 none (step p X3 X4 none (step p X3 X4 none (step p X3 X4 none s (blk (4 * k.val))) (blk (4 * k.val + 1)))
      (blk (4 * k.val + 2))) (blk (4 * k.val + 3))) :
    (tripRun c i arg2 harg2 arg3 harg3 arg4 harg4 arg5 harg5 arg6 harg6 arg7 harg7 arg8 harg8 arg9 harg9 arg10 harg10 arg11 harg11 arg1 v4 v6 v10 v16 v20 v22 v39
        X3 X4 k s.pk s.pg s.dq f10 f11).1 = s'.carry
      ∧ arg10.view.read (Elt F) (arg10.view.writes (Elt F) f10 (tripRun c i arg2 harg2 arg3 harg3 arg4 harg4 arg5 harg5 arg6 harg6 arg7 harg7 arg8 harg8 arg9 harg9 arg10 harg10 arg11 harg11 arg1 v4 v6 v10 v16 v20 v22 v39
        X3 X4 k s.pk s.pg s.dq f10 f11).2.1) = s'.dk
      ∧ arg11.view.read (Elt F) (arg11.view.writes (Elt F) f11 (tripRun c i arg2 harg2 arg3 harg3 arg4 harg4 arg5 harg5 arg6 harg6 arg7 harg7 arg8 harg8 arg9 harg9 arg10 harg10 arg11 harg11 arg1 v4 v6 v10 v16 v20 v22 v39
        X3 X4 k s.pk s.pg s.dq f10 f11).2.2.1) = s'.dv := by
  have hlt := trip_lt i k
  have hk : ∀ u : Fin 4, strip X3 (blk (4 * k.val + u.val)) = arg3.view.readAt (Elt F) (Rect.unit (s := S4096x128) (k0_off1 i k (BitVec.ofNat 32 u.val)) S256x128.size (k0_off1_inb i k u)).toLoadRect (harg3.unread X3) := fun u => by
    rw [readAt_strip _ _ _ _ (off_blk i k u), harg3.read_unread]
  have hv : ∀ u : Fin 4, strip X4 (blk (4 * k.val + u.val)) = arg4.view.readAt (Elt F) (Rect.unit (s := S4096x128) (k0_off1 i k (BitVec.ofNat 32 u.val)) S256x128.size (k0_off1_inb i k u)).toLoadRect (harg4.unread X4) := fun u => by
    rw [readAt_strip _ _ _ _ (off_blk i k u), harg4.read_unread]
  have hdk : ∀ u : Fin 4, strip s.dk (blk (4 * k.val + u.val)) = arg10.view.readAt (Elt F) (Rect.unit (s := S4096x128) (k0_off1 i k (BitVec.ofNat 32 u.val)) S256x128.size (k0_off1_inb i k u)).toLoadRect f10 := fun u => by
    rw [readAt_strip _ _ _ _ (off_blk i k u), h10]
  have hdv : ∀ u : Fin 4, strip s.dv (blk (4 * k.val + u.val)) = arg11.view.readAt (Elt F) (Rect.unit (s := S4096x128) (k0_off1 i k (BitVec.ofNat 32 u.val)) S256x128.size (k0_off1_inb i k u)).toLoadRect f11 := fun u => by
    rw [readAt_strip _ _ _ _ (off_blk i k u), h11]
  have n01 : blk (4 * k.val) ≠ blk (4 * k.val + 1) := blk_ne (by omega) (by omega) (by omega)
  have n02 : blk (4 * k.val) ≠ blk (4 * k.val + 2) := blk_ne (by omega) (by omega) (by omega)
  have n03 : blk (4 * k.val) ≠ blk (4 * k.val + 3) := blk_ne (by omega) (by omega) (by omega)
  have n12 : blk (4 * k.val + 1) ≠ blk (4 * k.val + 2) := blk_ne (by omega) (by omega) (by omega)
  have n13 : blk (4 * k.val + 1) ≠ blk (4 * k.val + 3) := blk_ne (by omega) (by omega) (by omega)
  have n23 : blk (4 * k.val + 2) ≠ blk (4 * k.val + 3) := blk_ne (by omega) (by omega) (by omega)
  have k0 := hk 0; have k1 := hk 1; have k2 := hk 2; have k3 := hk 3
  have w0 := hv 0; have w1 := hv 1; have w2 := hv 2; have w3 := hv 3
  have o0 := hdk 0; have o1 := hdk 1; have o2 := hdk 2; have o3 := hdk 3
  have u0 := hdv 0; have u1 := hdv 1; have u2 := hdv 2; have u3 := hdv 3
  subst hs hp
  refine ⟨?_, ?_, ?_⟩
  · dsimp only [St.carry, step]
    erw [k0, k1, k2, k3, w0, w1, w2, w3]
    rfl
  · refine (read_writes_strip _ _ _ _ _ _ (off_blk i k 3)).trans (setStrip_congr ((read_writes_strip _ _ _ _ _ _ (off_blk i k 2)).trans (setStrip_congr
      ((read_writes_strip _ _ _ _ _ _ (off_blk i k 1)).trans (setStrip_congr ((read_writes_strip _ _ _ _ _ _ (off_blk i k 0)).trans (setStrip_congr h10 ?_)) ?_)) ?_)) ?_)
    · erw [o0, k0, w0]; rfl
    · erw [strip_step_dk _ _ _ _ _ n01]
      dsimp only [step]
      erw [o1, k0, k1, w0, w1]; rfl
    · erw [strip_step_dk _ _ _ _ _ n12, strip_step_dk _ _ _ _ _ n02]
      dsimp only [step]
      erw [o2, k0, k1, k2, w0, w1, w2]; rfl
    · erw [strip_step_dk _ _ _ _ _ n23, strip_step_dk _ _ _ _ _ n13, strip_step_dk _ _ _ _ _ n03]
      dsimp only [step]
      erw [o3, k0, k1, k2, k3, w0, w1, w2, w3]; rfl
  · refine (read_writes_strip _ _ _ _ _ _ (off_blk i k 3)).trans (setStrip_congr ((read_writes_strip _ _ _ _ _ _ (off_blk i k 2)).trans (setStrip_congr
      ((read_writes_strip _ _ _ _ _ _ (off_blk i k 1)).trans (setStrip_congr ((read_writes_strip _ _ _ _ _ _ (off_blk i k 0)).trans (setStrip_congr h11 ?_)) ?_)) ?_)) ?_)
    · erw [u0, k0]; rfl
    · erw [strip_step_dv _ _ _ _ _ n01]
      dsimp only [step]
      erw [u1, k0, k1]; rfl
    · erw [strip_step_dv _ _ _ _ _ n12, strip_step_dv _ _ _ _ _ n02]
      dsimp only [step]
      erw [u2, k0, k1, k2]; rfl
    · erw [strip_step_dv _ _ _ _ _ n23, strip_step_dv _ _ _ _ _ n13, strip_step_dv _ _ _ _ _ n03]
      dsimp only [step]
      erw [u3, k0, k1, k2, k3]; rfl

end

end Cert.KernelIdeal.Bwd

end
-- ==== Proof.Bwd.Loop.lean ====
module

public import proofs.«01_k».proof.Proof.Bwd.Trip

/-! The loop over the groups of four key blocks. -/

@[expose] public section

set_option maxRecDepth 16384

noncomputable section

namespace Cert.KernelIdeal.Bwd

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section

variable (c : Dev nD) (i : grid0.Coords)
  (arg2 : Memref sig .tc .vmem S256x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S256x128 .f32) (harg5 : arg5.IsWhole)
  (arg6 : Memref sig .tc .vmem S256x128 .f32) (harg6 : arg6.IsWhole) (arg7 : Memref sig .tc .vmem S256x128 .bf16) (harg7 : arg7.IsWhole)
  (arg8 : Memref sig .tc .vmem S4096x128 .bf16) (harg8 : arg8.IsWhole) (arg9 : Memref sig .tc .vmem S4096x128 .bf16) (harg9 : arg9.IsWhole)
  (arg10 : Memref sig .tc .vmem S4096x128 .f32) (harg10 : arg10.IsWhole) (arg11 : Memref sig .tc .vmem S4096x128 .f32) (harg11 : arg11.IsWhole)

variable (arg1 : BitVec 32) (v4 : FVec F S256x128 .bf16) (v6 : FVec F S256x128 .bf16) (v10 : FVec F S256x1 .f32)
  (v16 : FVec F S256x256 .bf16) (v20 : FVec F S256x256 .bf16) (v22 : FVec F S256x1 .f32) (v39 : BitVec 32)

/-- One trip takes the state through four blocks. -/
theorem trip_spec (X3 X4 : Vec F S4096x128 .f32) (s : St F) (k : Fin (k0_t1_loop i).trips) :
    Sres c arg3 harg3 arg4 harg4 arg10 arg11 X3 X4 (run ⟨v4, v6, v10, v16, v20⟩ X3 X4 s (4 * k.val))
      ⊢ wp frame (wpE (defs₀ (F := F)) Variants.none (c : Thread nD τ) none) Set.univ
          (k0_t1_body i arg2 harg2 arg3 harg3 arg4 harg4 arg5 harg5 arg6 harg6 arg7 harg7 arg8 harg8 arg9 harg9 arg10 harg10 arg11 harg11 arg1 v4 v6 v10 v16 v20 v22 v39 k (run ⟨v4, v6, v10, v16, v20⟩ X3 X4 s (4 * k.val)).carry)
          (fun b => iprop(⌜b = (run ⟨v4, v6, v10, v16, v20⟩ X3 X4 s (4 * (k.val + 1))).carry⌝
            ∗ Sres c arg3 harg3 arg4 harg4 arg10 arg11 X3 X4 (run ⟨v4, v6, v10, v16, v20⟩ X3 X4 s (4 * (k.val + 1))))) := by
  unfold Sres
  iintro ⟨%f10, %f11, %hf, H⟩
  have ho := trip_out c i arg2 harg2 arg3 harg3 arg4 harg4 arg5 harg5 arg6 harg6 arg7 harg7 arg8 harg8 arg9 harg9 arg10 harg10 arg11 harg11 arg1 v4 v6 v10 v16 v20 v22 v39 X3 X4 k
    (run ⟨v4, v6, v10, v16, v20⟩ X3 X4 s (4 * k.val)) f10 f11 hf.1 hf.2 _ rfl _ (run_four ⟨v4, v6, v10, v16, v20⟩ X3 X4 s k.val)
  iapply (wp_wand_r _ _)
  isplitl [H]
  · iapply ((tripRun c i arg2 harg2 arg3 harg3 arg4 harg4 arg5 harg5 arg6 harg6 arg7 harg7 arg8 harg8 arg9 harg9 arg10 harg10 arg11 harg11 arg1 v4 v6 v10 v16 v20 v22 v39 X3 X4 k _ _ _ f10 f11).2.2.2); iexact H
  iintro %b ⟨%hb, H⟩
  isplitr
  · ipureintro; exact hb.trans ho.1
  iexists _, _
  isplitr
  · ipureintro; exact ho.2
  iexact H

/-- The loop over the groups of four blocks, and the empty loop after it. -/
theorem loop_spec (X3 X4 : Vec F S4096x128 .f32) (s : St F) (h1 : s.pk = v22) (h2 : s.pg = v22) (h3 : s.dq = k0_pay269) :
    Sres c arg3 harg3 arg4 harg4 arg10 arg11 X3 X4 s
      ⊢ wp frame (wpE (defs₀ (F := F)) Variants.none (c : Thread nD τ) none) Set.univ
          (k0_part31 i arg2 harg2 arg3 harg3 arg4 harg4 arg5 harg5 arg6 harg6 arg7 harg7 arg8 harg8 arg9 harg9 arg10 harg10 arg11 harg11 arg1 v4 v6 v10 v16 v20 v22 v39)
          (fun b => iprop(⌜(b.1, b.2.1, b.2.2.1) = (run ⟨v4, v6, v10, v16, v20⟩ X3 X4 s (4 * ((i 1).val / 4))).carry⌝
            ∗ Sres c arg3 harg3 arg4 harg4 arg10 arg11 X3 X4 (run ⟨v4, v6, v10, v16, v20⟩ X3 X4 s (4 * ((i 1).val / 4))))) := by
  iintro H
  rw [k0_part31_eq_skeleton]
  unfold k0_part31_skel
  sl_exec
  sl_for (fun (k : ℕ) (a : Carry F) => iprop(⌜a = (run ⟨v4, v6, v10, v16, v20⟩ X3 X4 s (4 * k)).carry⌝
            ∗ Sres c arg3 harg3 arg4 harg4 arg10 arg11 X3 X4 (run ⟨v4, v6, v10, v16, v20⟩ X3 X4 s (4 * k)))) $$ [H]
  case region =>
    intro k a
    iintro ⟨%ha, H⟩
    subst ha
    iapply (trip_spec c i arg2 harg2 arg3 harg3 arg4 harg4 arg5 harg5 arg6 harg6 arg7 harg7 arg8 harg8 arg9 harg9 arg10 harg10 arg11 harg11 arg1 v4 v6 v10 v16 v20 v22 v39 X3 X4 s k)
    iexact H
  · isplitr
    · ipureintro; exact congrArg₂ Prod.mk h1.symm (congrArg₂ Prod.mk h2.symm h3.symm)
    iexact H
  iintro %a ⟨%ha, H⟩
  have h0 := trips2 i
  have ht := trips1 i
  sl_exec
  sl_step
  isplitr
  · ipureintro; rw [← ht]; exact ha
  rw [← ht]; iexact H

end

end Cert.KernelIdeal.Bwd

end
-- ==== Proof.Bwd.Head.lean ====
module

public import proofs.«01_k».proof.Proof.Bwd.Loop

/-! The first part of the body, and the parts put one after the other. -/

@[expose] public section

set_option maxRecDepth 16384

noncomputable section

namespace Cert.KernelIdeal.Bwd

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section

variable (c : Dev nD) (i : grid0.Coords)
  (arg2 : Memref sig .tc .vmem S256x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S256x128 .f32) (harg5 : arg5.IsWhole)
  (arg6 : Memref sig .tc .vmem S256x128 .f32) (harg6 : arg6.IsWhole) (arg7 : Memref sig .tc .vmem S256x128 .bf16) (harg7 : arg7.IsWhole)
  (arg8 : Memref sig .tc .vmem S4096x128 .bf16) (harg8 : arg8.IsWhole) (arg9 : Memref sig .tc .vmem S4096x128 .bf16) (harg9 : arg9.IsWhole)
  (arg10 : Memref sig .tc .vmem S4096x128 .f32) (harg10 : arg10.IsWhole) (arg11 : Memref sig .tc .vmem S4096x128 .f32) (harg11 : arg11.IsWhole)

theorem wp_seg {α β : Type} {P : sProp 𝕄} {p : Prog (TpuEff nD τ sig (Elt F) Λ₀ .tc) α} {k : α → Prog (TpuEff nD τ sig (Elt F) Λ₀ .tc) β}
    (Q : α → sProp 𝕄) {R : β → sProp 𝕄} (hp : P ⊢ wp frame (wpE (defs₀ (F := F)) Variants.none (c : Thread nD τ) none) Set.univ p Q)
    (hk : ∀ a, Q a ⊢ wp frame (wpE (defs₀ (F := F)) Variants.none (c : Thread nD τ) none) Set.univ (k a) R) :
    P ⊢ wp frame (wpE (defs₀ (F := F)) Variants.none (c : Thread nD τ) none) Set.univ (p >>= k) R := by
  rw [wp_bind]
  exact hp.trans (wp_mono _ _ _ hk)

/-- The same beside resources the first part does not touch, a fact of its result read off. -/
theorem wp_seg_frame {α β : Type} {P A : sProp 𝕄} {p : Prog (TpuEff nD τ sig (Elt F) Λ₀ .tc) α} {k : α → Prog (TpuEff nD τ sig (Elt F) Λ₀ .tc) β}
    {φ : α → Prop} {Q : sProp 𝕄} {R : β → sProp 𝕄}
    (hp : P ⊢ wp frame (wpE (defs₀ (F := F)) Variants.none (c : Thread nD τ) none) Set.univ p (fun a => iprop(⌜φ a⌝ ∗ Q)))
    (hk : ∀ a, φ a → iprop(Q ∗ A) ⊢ wp frame (wpE (defs₀ (F := F)) Variants.none (c : Thread nD τ) none) Set.univ (k a) R) :
    iprop(P ∗ A) ⊢ wp frame (wpE (defs₀ (F := F)) Variants.none (c : Thread nD τ) none) Set.univ (p >>= k) R :=
  wp_seg c (fun a => iprop((⌜φ a⌝ ∗ Q) ∗ A)) ((sep_mono hp .rfl).trans (wp_frame_r _ _ _)) fun a => by
    iintro ⟨⟨%h, HQ⟩, HA⟩
    iapply (hk a h)
    isplitl [HQ]; · iexact HQ
    iexact HA

/-- The state's buffers opened. -/
theorem sep_mono_left_of {A W : sProp 𝕄} (X3 X4 : Vec F S4096x128 .f32) (s : St F)
    (h : ∀ f10 f11, arg10.view.read (Elt F) f10 = s.dk → arg11.view.read (Elt F) f11 = s.dv → iprop(Res c arg3 harg3 arg4 harg4 arg10 arg11 X3 X4 f10 f11 ∗ A) ⊢ W) :
    iprop(Sres c arg3 harg3 arg4 harg4 arg10 arg11 X3 X4 s ∗ A) ⊢ W := by
  unfold Sres
  iintro ⟨⟨%f10, %f11, %hf, H⟩, HA⟩
  iapply (h f10 f11 hf.1 hf.2)
  isplitl [H]; · iexact H
  iexact HA

/-- What the blocks of one point start from: dk and dv anew at the first query block. -/
def start (dk dv : Vec F S4096x128 .f32) : St F where
  pk := k0_pay268
  pg := k0_pay268
  dq := k0_pay269
  dk := if (i 1).val = 0 then k0_pay260 else dk
  dv := if (i 1).val = 0 then k0_pay261 else dv

/-- What the blocks of one point read of the query's arrays. -/
def par (X2 X5 X6 : Vec F S256x128 .f32) : Par F := ⟨k0_pay262 X2, k0_pay263 X6, k0_pay264 X5, k0_pay265, k0_pay266⟩

/-- The state the point ends with: the blocks before the queries, then the queries' own, masked. -/
def fin (X2 : Vec F S256x128 .f32) (X3 X4 : Vec F S4096x128 .f32) (X5 X6 : Vec F S256x128 .f32) (dk dv : Vec F S4096x128 .f32) : St F :=
  step (par X2 X5 X6) X3 X4 (some k0_pay267) (run (par X2 X5 X6) X3 X4 (start i dk dv) (i 1).val) (blk (i 1).val)

/-- The first part: the two sums put to zero at the first query block, the query's arrays read. -/
theorem head_spec (X2 X5 X6 : Vec F S256x128 .f32) (X3 X4 dk dv : Vec F S4096x128 .f32) :
    iprop(((arg2.view.loc (c : Thread nD τ) ↦[arg2.view.set]{fullShare} harg2.unread X2)
      ∗ (arg5.view.loc (c : Thread nD τ) ↦[arg5.view.set]{fullShare} harg5.unread X5)
      ∗ (arg6.view.loc (c : Thread nD τ) ↦[arg6.view.set]{fullShare} harg6.unread X6))
      ∗ Res c arg3 harg3 arg4 harg4 arg10 arg11 X3 X4 (harg10.unread dk) (harg11.unread dv))
      ⊢ wp frame (wpE (defs₀ (F := F)) Variants.none (c : Thread nD τ) none) Set.univ
          (k0_part30 i arg2 harg2 arg3 harg3 arg4 harg4 arg5 harg5 arg6 harg6 arg7 harg7 arg8 harg8 arg9 harg9 arg10 harg10 arg11 harg11)
          (fun b => iprop(⌜∃ n39, b = ⟨BitVec.ofNat 32 (i 1).val, (par X2 X5 X6).q, (par X2 X5 X6).d, (par X2 X5 X6).lt, (par X2 X5 X6).upto, (par X2 X5 X6).before, k0_pay267, k0_pay268, n39⟩⌝
            ∗ ((arg2.view.loc (c : Thread nD τ) ↦[arg2.view.set]{fullShare} harg2.unread X2)
      ∗ (arg5.view.loc (c : Thread nD τ) ↦[arg5.view.set]{fullShare} harg5.unread X5)
      ∗ (arg6.view.loc (c : Thread nD τ) ↦[arg6.view.set]{fullShare} harg6.unread X6))
      ∗ Sres c arg3 harg3 arg4 harg4 arg10 arg11 X3 X4 (start i dk dv))) := by
  iintro ⟨⟨H2, H5, H6⟩, H3, H4, H10, H11⟩
  rw [k0_part30_eq_skeleton]
  unfold k0_part30_skel
  have e2 : arg2.view.readAt (Elt F) (Rect.unit (s := S256x128) ![0, 0] S256x128.size inb_S256x128_S256x128_0_0).toLoadRect (harg2.unread X2) = X2 :=
    (View.readAt_full _ _ _).trans (harg2.read_unread X2)
  have e5 : arg5.view.readAt (Elt F) (Rect.unit (s := S256x128) ![0, 0] S256x128.size inb_S256x128_S256x128_0_0).toLoadRect (harg5.unread X5) = X5 :=
    (View.readAt_full _ _ _).trans (harg5.read_unread X5)
  have e6 : arg6.view.readAt (Elt F) (Rect.unit (s := S256x128) ![0, 0] S256x128.size inb_S256x128_S256x128_0_0).toLoadRect (harg6.unread X6) = X6 :=
    (View.readAt_full _ _ _).trans (harg6.read_unread X6)
  by_cases h0 : (i 1).val = 0
  · have hc := (first_iff i).2 h0
    sl_exec
    sl_step
    isplitr
    · ipureintro; dsimp only [par]; exact ⟨_, rfl⟩
    isplitl [H2 H5 H6]
    · isplitl [H2]; · iexact H2
      isplitl [H5]; · iexact H5
      iexact H6
    unfold Sres
    iexists (arg10.view.writes (Elt F) (harg10.unread dk) [⟨Rect.unit (s := S4096x128) ![0, 0] S4096x128.size inb_S4096x128_S4096x128_0_0, k0_pay260⟩]),
      (arg11.view.writes (Elt F) (harg11.unread dv) [⟨Rect.unit (s := S4096x128) ![0, 0] S4096x128.size inb_S4096x128_S4096x128_0_0, k0_pay261⟩])
    isplitr
    · ipureintro
      refine ⟨(View.read_writes_full _ _ _ _ _).trans ?_, (View.read_writes_full _ _ _ _ _).trans ?_⟩
      · exact (if_pos h0).symm
      · exact (if_pos h0).symm
    isplitl [H3]; · iexact H3
    isplitl [H4]; · iexact H4
    isplitl [H10]; · iexact H10
    iexact H11
  · have hc := mt (first_iff i).1 h0
    sl_exec
    sl_step
    isplitr
    · ipureintro; dsimp only [par]; exact ⟨_, rfl⟩
    isplitl [H2 H5 H6]
    · isplitl [H2]; · iexact H2
      isplitl [H5]; · iexact H5
      iexact H6
    unfold Sres
    iexists (harg10.unread dk), (harg11.unread dv)
    isplitr
    · ipureintro
      exact ⟨(harg10.read_unread dk).trans (if_neg h0).symm, (harg11.read_unread dv).trans (if_neg h0).symm⟩
    isplitl [H3]; · iexact H3
    isplitl [H4]; · iexact H4
    isplitl [H10]; · iexact H10
    iexact H11

end

end Cert.KernelIdeal.Bwd

end
-- ==== Proof.Bwd.Spec.lean ====
module

public import proofs.«01_k».proof.Proof.Bwd.Head

/-! What the whole body does at one point, and what is left to show once its blocks have run. -/

@[expose] public section

set_option maxRecDepth 16384

noncomputable section

namespace Cert.KernelIdeal.Bwd

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section

variable (c : Dev nD) (i : grid0.Coords)
  (arg2 : Memref sig .tc .vmem S256x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S256x128 .f32) (harg5 : arg5.IsWhole)
  (arg6 : Memref sig .tc .vmem S256x128 .f32) (harg6 : arg6.IsWhole) (arg7 : Memref sig .tc .vmem S256x128 .bf16) (harg7 : arg7.IsWhole)
  (arg8 : Memref sig .tc .vmem S4096x128 .bf16) (harg8 : arg8.IsWhole) (arg9 : Memref sig .tc .vmem S4096x128 .bf16) (harg9 : arg9.IsWhole)
  (arg10 : Memref sig .tc .vmem S4096x128 .f32) (harg10 : arg10.IsWhole) (arg11 : Memref sig .tc .vmem S4096x128 .f32) (harg11 : arg11.IsWhole)

/-- What the blocks of one point end with, the grid coordinate written as `n`. -/
theorem fin_eq (X2 : Vec F S256x128 .f32) (X3 X4 : Vec F S4096x128 .f32) (X5 X6 : Vec F S256x128 .f32) (dk dv : Vec F S4096x128 .f32) {n : ℕ} (h : (i 1).val = n) :
    fin i X2 X3 X4 X5 X6 dk dv = step (par X2 X5 X6) X3 X4 (some k0_pay267) (run (par X2 X5 X6) X3 X4 (start i dk dv) n) (blk n) :=
  congrArg (fun n => step (par X2 X5 X6) X3 X4 (some k0_pay267) (run (par X2 X5 X6) X3 X4 (start i dk dv) n) (blk n)) h

/-- The body at one point: the query's arrays are read, the head's two sums are carried on, and the results are stored. -/
abbrev BodySpec (X2 X5 X6 : Vec F S256x128 .f32) (X3 X4 dk dv : Vec F S4096x128 .f32) (X7 : Vec F S256x128 .bf16) (X8 X9 : Vec F S4096x128 .bf16) : Prop :=
    iprop((((arg2.view.loc (c : Thread nD τ) ↦[arg2.view.set]{fullShare} harg2.unread X2)
      ∗ (arg5.view.loc (c : Thread nD τ) ↦[arg5.view.set]{fullShare} harg5.unread X5)
      ∗ (arg6.view.loc (c : Thread nD τ) ↦[arg6.view.set]{fullShare} harg6.unread X6))
      ∗ Res c arg3 harg3 arg4 harg4 arg10 arg11 X3 X4 (harg10.unread dk) (harg11.unread dv))
      ∗ ((arg7.view.loc (c : Thread nD τ) ↦[arg7.view.set]{fullShare} harg7.unread X7)
      ∗ (arg8.view.loc (c : Thread nD τ) ↦[arg8.view.set]{fullShare} harg8.unread X8)
      ∗ (arg9.view.loc (c : Thread nD τ) ↦[arg9.view.set]{fullShare} harg9.unread X9)))
      ⊢ wp frame (wpE (defs₀ (F := F)) Variants.none (c : Thread nD τ) none) Set.univ
          (cc0_sb_bwd i arg2 harg2 arg3 harg3 arg4 harg4 arg5 harg5 arg6 harg6 arg7 harg7 arg8 harg8 arg9 harg9 arg10 harg10 arg11 harg11)
          (fun _ => iprop(Sres c arg3 harg3 arg4 harg4 arg10 arg11 X3 X4 (fin i X2 X3 X4 X5 X6 dk dv)
            ∗ ((arg2.view.loc (c : Thread nD τ) ↦[arg2.view.set]{fullShare} harg2.unread X2)
      ∗ (arg5.view.loc (c : Thread nD τ) ↦[arg5.view.set]{fullShare} harg5.unread X5)
      ∗ (arg6.view.loc (c : Thread nD τ) ↦[arg6.view.set]{fullShare} harg6.unread X6))
      ∗ owns (c : Thread nD τ) arg7 fullShare (k0_pay14 (fin i X2 X3 X4 X5 X6 dk dv).dq)
      ∗ owns (c : Thread nD τ) arg8 fullShare (if (i 1).val = 15 then k0_pay15 (fin i X2 X3 X4 X5 X6 dk dv).dk else X8)
      ∗ owns (c : Thread nD τ) arg9 fullShare (if (i 1).val = 15 then k0_pay16 (fin i X2 X3 X4 X5 X6 dk dv).dv else X9)))

/-- The body's holdings after its last store, each array read at what it ends with. -/
theorem wp_fin (X2 X5 X6 : Vec F S256x128 .f32) (X3 X4 : Vec F S4096x128 .f32) {P : sProp 𝕄} {p : Prog (TpuEff nD τ sig (Elt F) Λ₀ .tc) PUnit} {s' : St F}
    {Y7 : Vec F S256x128 .bf16} {Y8 Y9 : Vec F S4096x128 .bf16}
    {g10 : Buf (Elt F) (arg10.view.loc (c : Thread nD τ))} {g11 : Buf (Elt F) (arg11.view.loc (c : Thread nD τ))}
    {g7 : Buf (Elt F) (arg7.view.loc (c : Thread nD τ))} {g8 : Buf (Elt F) (arg8.view.loc (c : Thread nD τ))}
    {g9 : Buf (Elt F) (arg9.view.loc (c : Thread nD τ))}
    (h : P ⊢ wp frame (wpE (defs₀ (F := F)) Variants.none (c : Thread nD τ) none) Set.univ p
          (fun _ => iprop(Res c arg3 harg3 arg4 harg4 arg10 arg11 X3 X4 g10 g11
            ∗ ((arg2.view.loc (c : Thread nD τ) ↦[arg2.view.set]{fullShare} harg2.unread X2)
      ∗ (arg5.view.loc (c : Thread nD τ) ↦[arg5.view.set]{fullShare} harg5.unread X5)
      ∗ (arg6.view.loc (c : Thread nD τ) ↦[arg6.view.set]{fullShare} harg6.unread X6))
            ∗ (arg7.view.loc (c : Thread nD τ) ↦[arg7.view.set]{fullShare} g7)
            ∗ (arg8.view.loc (c : Thread nD τ) ↦[arg8.view.set]{fullShare} g8)
            ∗ (arg9.view.loc (c : Thread nD τ) ↦[arg9.view.set]{fullShare} g9))))
    (h7 : arg7.view.read (Elt F) g7 = Y7) (h10 : arg10.view.read (Elt F) g10 = s'.dk) (h11 : arg11.view.read (Elt F) g11 = s'.dv)
    (h8 : arg10.view.read (Elt F) g10 = s'.dk → arg8.view.read (Elt F) g8 = Y8)
    (h9 : arg11.view.read (Elt F) g11 = s'.dv → arg9.view.read (Elt F) g9 = Y9) :
    P ⊢ wp frame (wpE (defs₀ (F := F)) Variants.none (c : Thread nD τ) none) Set.univ p
          (fun _ => iprop(Sres c arg3 harg3 arg4 harg4 arg10 arg11 X3 X4 s'
            ∗ ((arg2.view.loc (c : Thread nD τ) ↦[arg2.view.set]{fullShare} harg2.unread X2)
      ∗ (arg5.view.loc (c : Thread nD τ) ↦[arg5.view.set]{fullShare} harg5.unread X5)
      ∗ (arg6.view.loc (c : Thread nD τ) ↦[arg6.view.set]{fullShare} harg6.unread X6))
            ∗ owns (c : Thread nD τ) arg7 fullShare Y7 ∗ owns (c : Thread nD τ) arg8 fullShare Y8 ∗ owns (c : Thread nD τ) arg9 fullShare Y9)) :=
  h.trans (wp_mono _ _ _ fun _ => by
    unfold Sres owns
    iintro ⟨H, HI, H7, H8, H9⟩
    isplitl [H]
    · iexists g10, g11
      isplitr
      · ipureintro; exact ⟨h10, h11⟩
      iexact H
    isplitl [HI]; · iexact HI
    isplitl [H7]
    · iexists g7
      isplitr; · ipureintro; exact h7
      iexact H7
    isplitl [H8]
    · iexists g8
      isplitr; · ipureintro; exact h8 h10
      iexact H8
    iexists g9
    isplitr; · ipureintro; exact h9 h11
    iexact H9)

/-- Block `u` of the last group of 4. -/
theorem off3_blk {m : ℕ} (hm : (i 1).val = m + 3) (hT : Tail i 3) (u : Fin 4) : k0_off3 i (BitVec.ofNat 32 u.val) = offs (blk (m + u.val)).val := by
  have h1 : (i 1).val < 16 := (i 1).isLt
  rw [off3_eq i hT, blk_val (by omega)]
  unfold offs
  congr 2; omega

/-- Block `u` of the last group of 3. -/
theorem off4_blk {m : ℕ} (hm : (i 1).val = m + 2) (hT : Tail i 2) (u : Fin 3) : k0_off4 i (BitVec.ofNat 32 u.val) = offs (blk (m + u.val)).val := by
  have h1 : (i 1).val < 16 := (i 1).isLt
  rw [off4_eq i hT, blk_val (by omega)]
  unfold offs
  congr 2; omega

/-- Block `u` of the last group of 2. -/
theorem off5_blk {m : ℕ} (hm : (i 1).val = m + 1) (hT : Tail i 1) (u : Fin 2) : k0_off5 i (BitVec.ofNat 32 u.val) = offs (blk (m + u.val)).val := by
  have h1 : (i 1).val < 16 := (i 1).isLt
  rw [off5_eq i hT, blk_val (by omega)]
  unfold offs
  congr 2; omega

/-- The one block of the last group of one. -/
theorem off6_blk {m : ℕ} (hm : (i 1).val = m) (hT : Tail i 0) : k0_off6 i = offs (blk m).val := by
  have h1 : (i 1).val < 16 := (i 1).isLt
  rw [off6_eq i hT, blk_val (by omega), hm]

end

end Cert.KernelIdeal.Bwd

end
-- ==== Proof.Bwd.G0.lean ====
module

public import proofs.«01_k».proof.Proof.Bwd.Spec

/-! The body at the points whose last group has 1 block. -/

@[expose] public section

set_option maxRecDepth 16384

noncomputable section

namespace Cert.KernelIdeal.Bwd

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section

variable (c : Dev nD) (i : grid0.Coords)
  (arg2 : Memref sig .tc .vmem S256x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S256x128 .f32) (harg5 : arg5.IsWhole)
  (arg6 : Memref sig .tc .vmem S256x128 .f32) (harg6 : arg6.IsWhole) (arg7 : Memref sig .tc .vmem S256x128 .bf16) (harg7 : arg7.IsWhole)
  (arg8 : Memref sig .tc .vmem S4096x128 .bf16) (harg8 : arg8.IsWhole) (arg9 : Memref sig .tc .vmem S4096x128 .bf16) (harg9 : arg9.IsWhole)
  (arg10 : Memref sig .tc .vmem S4096x128 .f32) (harg10 : arg10.IsWhole) (arg11 : Memref sig .tc .vmem S4096x128 .f32) (harg11 : arg11.IsWhole)

set_option maxHeartbeats 2000000 in
/-- The body at a point whose last group has 1 block. -/
theorem body_g0 (hT : Tail i 0) (X2 X5 X6 : Vec F S256x128 .f32) (X3 X4 dk dv : Vec F S4096x128 .f32) (X7 : Vec F S256x128 .bf16) (X8 X9 : Vec F S4096x128 .bf16) :
    BodySpec c i arg2 harg2 arg3 harg3 arg4 harg4 arg5 harg5 arg6 harg6 arg7 harg7 arg8 harg8 arg9 harg9 arg10 harg10 arg11 harg11 X2 X5 X6 X3 X4 dk dv X7 X8 X9 := by
  unfold BodySpec
  haveI : Fact (Tail i 0) := ⟨hT⟩
  rw [cc0_sb_bwd_eq_skeleton]
  unfold cc0_sb_bwd_skel
  have hlt : (i 1).val < 16 := (i 1).isLt
  have hfin := fun n => fin_eq i X2 X3 X4 X5 X6 dk dv (n := n)
  generalize fin i X2 X3 X4 X5 X6 dk dv = fi at hfin ⊢
  refine wp_seg_frame c (head_spec c i arg2 harg2 arg3 harg3 arg4 harg4 arg5 harg5 arg6 harg6 arg7 harg7 arg8 harg8 arg9 harg9 arg10 harg10 arg11 harg11 X2 X5 X6 X3 X4 dk dv) fun b hb => ?_
  obtain ⟨n39, rfl⟩ := hb
  generalize hs0 : start i dk dv = s0 at hfin ⊢
  have hs1 : s0.pk = k0_pay268 := by rw [← hs0]; rfl
  have hs2 : s0.pg = k0_pay268 := by rw [← hs0]; rfl
  have hs3 : s0.dq = k0_pay269 := by rw [← hs0]; rfl
  clear hs0
  generalize par X2 X5 X6 = p at hfin ⊢
  obtain ⟨pq, pd, plt, pu, pb⟩ := p
  refine (show _ ⊢ iprop(Sres c arg3 harg3 arg4 harg4 arg10 arg11 X3 X4 s0 ∗ (((arg2.view.loc (c : Thread nD τ) ↦[arg2.view.set]{fullShare} harg2.unread X2)
      ∗ (arg5.view.loc (c : Thread nD τ) ↦[arg5.view.set]{fullShare} harg5.unread X5)
      ∗ (arg6.view.loc (c : Thread nD τ) ↦[arg6.view.set]{fullShare} harg6.unread X6))
      ∗ ((arg7.view.loc (c : Thread nD τ) ↦[arg7.view.set]{fullShare} harg7.unread X7)
      ∗ (arg8.view.loc (c : Thread nD τ) ↦[arg8.view.set]{fullShare} harg8.unread X8)
      ∗ (arg9.view.loc (c : Thread nD τ) ↦[arg9.view.set]{fullShare} harg9.unread X9)))) from by
    iintro ⟨⟨HA, HS⟩, HB⟩
    isplitl [HS]; · iexact HS
    isplitl [HA]; · iexact HA
    iexact HB).trans ?_
  refine wp_seg_frame c (loop_spec c i arg2 harg2 arg3 harg3 arg4 harg4 arg5 harg5 arg6 harg6 arg7 harg7 arg8 harg8 arg9 harg9 arg10 harg10 arg11 harg11 _ pq pd plt pu pb k0_pay268 n39 X3 X4 s0 hs1 hs2 hs3) fun b hb => ?_
  obtain ⟨v0, v1, v2, n49, n51, n53, n55, n57, n59, n61, n63, n65, n67, n69, n70, n0⟩ := b
  generalize hs : run ⟨pq, pd, plt, pu, pb⟩ X3 X4 s0 (4 * ((i 1).val / 4)) = s at hb ⊢
  obtain ⟨rfl, rfl, rfl⟩ : v0 = s.pk ∧ v1 = s.pg ∧ v2 = s.dq := ⟨congrArg (fun b => b.1) hb, congrArg (fun b => b.2.1) hb, congrArg (fun b => b.2.2) hb⟩
  have hT' : (i 1).val % 4 = 0 := hT
  have h2 : ¬ k0_cond2 i = 1#1 := fun h => (cond2_iff i).1 h hT
  have hm := show (i 1).val = 4 * ((i 1).val / 4) + 0 by omega
  have hfi := hfin _ hm
  generalize 4 * ((i 1).val / 4) = m at hm hs hfi
  replace hfi : fi = step ⟨pq, pd, plt, pu, pb⟩ X3 X4 (some k0_pay267) (run ⟨pq, pd, plt, pu, pb⟩ X3 X4 s0 m) (blk m) := hfi
  rw [hs] at hfi
  clear hfin hs hb
  refine (sep_mono_left_of c arg3 harg3 arg4 harg4 arg10 arg11 X3 X4 s fun f10 f11 h10 h11 => ?_)
  have hk : strip X3 (blk m) = arg3.view.readAt (Elt F) (Rect.unit (s := S4096x128) (k0_off6 i) S256x128.size (k0_off6_inb i h2)).toLoadRect (harg3.unread X3) := by
    rw [readAt_strip _ _ _ _ (off6_blk i (m := m) hm hT), harg3.read_unread]
  have hv : strip X4 (blk m) = arg4.view.readAt (Elt F) (Rect.unit (s := S4096x128) (k0_off6 i) S256x128.size (k0_off6_inb i h2)).toLoadRect (harg4.unread X4) := by
    rw [readAt_strip _ _ _ _ (off6_blk i (m := m) hm hT), harg4.read_unread]
  have hdk : strip s.dk (blk m) = arg10.view.readAt (Elt F) (Rect.unit (s := S4096x128) (k0_off6 i) S256x128.size (k0_off6_inb i h2)).toLoadRect f10 := by
    rw [readAt_strip _ _ _ _ (off6_blk i (m := m) hm hT), h10]
  have hdv : strip s.dv (blk m) = arg11.view.readAt (Elt F) (Rect.unit (s := S4096x128) (k0_off6 i) S256x128.size (k0_off6_inb i h2)).toLoadRect f11 := by
    rw [readAt_strip _ _ _ _ (off6_blk i (m := m) hm hT), h11]
  have k0 := hk; have w0 := hv; have o0 := hdk; have u0 := hdv
  subst hfi
  have h15 : (i 1).val ≠ 15 := by omega
  have h5 : ¬ k0_cond5 i = 1#1 := fun h => h15 ((cond5_iff i).1 h)
  refine wp_fin c arg2 harg2 arg3 harg3 arg4 harg4 arg5 harg5 arg6 harg6 arg7 arg8 arg9 arg10 arg11 X2 X5 X6 X3 X4 (g10 := ?_) (g11 := ?_) (g7 := ?_) (g8 := ?_) (g9 := ?_) ?run ?e7 ?e10 ?e11 ?e8 ?e9
  case run =>
    iintro ⟨⟨H3, H4, H10, H11⟩, ⟨H2, H5, H6⟩, H7, H8, H9⟩
    sl_exec
    sl_step
    isplitl [H3 H4 H10 H11]
    · isplitl [H3]; · iexact H3
      isplitl [H4]; · iexact H4
      isplitl [H10]; · iexact H10
      iexact H11
    isplitl [H2 H5 H6]
    · isplitl [H2]; · iexact H2
      isplitl [H5]; · iexact H5
      iexact H6
    isplitl [H7]; · iexact H7
    isplitl [H8]; · iexact H8
    iexact H9
  case e7 =>
    refine (View.read_writes_full _ _ _ _ _).trans (congrArg k0_pay14 ?_)
    dsimp only [step]
    erw [k0, w0]
    rfl
  case e10 =>
    refine (read_writes_strip _ _ _ _ _ _ (off6_blk i (m := m) hm hT)).trans (setStrip_congr h10 ?_)
    · erw [o0, k0, w0]; rfl
  case e11 =>
    refine (read_writes_strip _ _ _ _ _ _ (off6_blk i (m := m) hm hT)).trans (setStrip_congr h11 ?_)
    · erw [u0, k0]; rfl
  case e8 =>
    exact fun _ => by
      rw [if_neg h15]
      exact harg8.read_unread X8
  case e9 =>
    exact fun _ => by
      rw [if_neg h15]
      exact harg9.read_unread X9

end

end Cert.KernelIdeal.Bwd

end
-- ==== Proof.Bwd.G1.lean ====
module

public import proofs.«01_k».proof.Proof.Bwd.Spec

/-! The body at the points whose last group has 2 blocks. -/

@[expose] public section

set_option maxRecDepth 16384

noncomputable section

namespace Cert.KernelIdeal.Bwd

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section

variable (c : Dev nD) (i : grid0.Coords)
  (arg2 : Memref sig .tc .vmem S256x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S256x128 .f32) (harg5 : arg5.IsWhole)
  (arg6 : Memref sig .tc .vmem S256x128 .f32) (harg6 : arg6.IsWhole) (arg7 : Memref sig .tc .vmem S256x128 .bf16) (harg7 : arg7.IsWhole)
  (arg8 : Memref sig .tc .vmem S4096x128 .bf16) (harg8 : arg8.IsWhole) (arg9 : Memref sig .tc .vmem S4096x128 .bf16) (harg9 : arg9.IsWhole)
  (arg10 : Memref sig .tc .vmem S4096x128 .f32) (harg10 : arg10.IsWhole) (arg11 : Memref sig .tc .vmem S4096x128 .f32) (harg11 : arg11.IsWhole)

set_option maxHeartbeats 2000000 in
/-- The body at a point whose last group has 2 blocks. -/
theorem body_g1 (hT : Tail i 1) (X2 X5 X6 : Vec F S256x128 .f32) (X3 X4 dk dv : Vec F S4096x128 .f32) (X7 : Vec F S256x128 .bf16) (X8 X9 : Vec F S4096x128 .bf16) :
    BodySpec c i arg2 harg2 arg3 harg3 arg4 harg4 arg5 harg5 arg6 harg6 arg7 harg7 arg8 harg8 arg9 harg9 arg10 harg10 arg11 harg11 X2 X5 X6 X3 X4 dk dv X7 X8 X9 := by
  unfold BodySpec
  haveI : Fact (Tail i 1) := ⟨hT⟩
  rw [cc0_sb_bwd_eq_skeleton]
  unfold cc0_sb_bwd_skel
  have hlt : (i 1).val < 16 := (i 1).isLt
  have hfin := fun n => fin_eq i X2 X3 X4 X5 X6 dk dv (n := n)
  generalize fin i X2 X3 X4 X5 X6 dk dv = fi at hfin ⊢
  refine wp_seg_frame c (head_spec c i arg2 harg2 arg3 harg3 arg4 harg4 arg5 harg5 arg6 harg6 arg7 harg7 arg8 harg8 arg9 harg9 arg10 harg10 arg11 harg11 X2 X5 X6 X3 X4 dk dv) fun b hb => ?_
  obtain ⟨n39, rfl⟩ := hb
  generalize hs0 : start i dk dv = s0 at hfin ⊢
  have hs1 : s0.pk = k0_pay268 := by rw [← hs0]; rfl
  have hs2 : s0.pg = k0_pay268 := by rw [← hs0]; rfl
  have hs3 : s0.dq = k0_pay269 := by rw [← hs0]; rfl
  clear hs0
  generalize par X2 X5 X6 = p at hfin ⊢
  obtain ⟨pq, pd, plt, pu, pb⟩ := p
  refine (show _ ⊢ iprop(Sres c arg3 harg3 arg4 harg4 arg10 arg11 X3 X4 s0 ∗ (((arg2.view.loc (c : Thread nD τ) ↦[arg2.view.set]{fullShare} harg2.unread X2)
      ∗ (arg5.view.loc (c : Thread nD τ) ↦[arg5.view.set]{fullShare} harg5.unread X5)
      ∗ (arg6.view.loc (c : Thread nD τ) ↦[arg6.view.set]{fullShare} harg6.unread X6))
      ∗ ((arg7.view.loc (c : Thread nD τ) ↦[arg7.view.set]{fullShare} harg7.unread X7)
      ∗ (arg8.view.loc (c : Thread nD τ) ↦[arg8.view.set]{fullShare} harg8.unread X8)
      ∗ (arg9.view.loc (c : Thread nD τ) ↦[arg9.view.set]{fullShare} harg9.unread X9)))) from by
    iintro ⟨⟨HA, HS⟩, HB⟩
    isplitl [HS]; · iexact HS
    isplitl [HA]; · iexact HA
    iexact HB).trans ?_
  refine wp_seg_frame c (loop_spec c i arg2 harg2 arg3 harg3 arg4 harg4 arg5 harg5 arg6 harg6 arg7 harg7 arg8 harg8 arg9 harg9 arg10 harg10 arg11 harg11 _ pq pd plt pu pb k0_pay268 n39 X3 X4 s0 hs1 hs2 hs3) fun b hb => ?_
  obtain ⟨v0, v1, v2, n49, n51, n53, n55, n57, n59, n61, n63, n65, n67, n69, n70, n0⟩ := b
  generalize hs : run ⟨pq, pd, plt, pu, pb⟩ X3 X4 s0 (4 * ((i 1).val / 4)) = s at hb ⊢
  obtain ⟨rfl, rfl, rfl⟩ : v0 = s.pk ∧ v1 = s.pg ∧ v2 = s.dq := ⟨congrArg (fun b => b.1) hb, congrArg (fun b => b.2.1) hb, congrArg (fun b => b.2.2) hb⟩
  have hT' : (i 1).val % 4 = 1 := hT
  have h2 : k0_cond2 i = 1#1 := (cond2_iff i).2 (by omega)
  have h3 : ¬ k0_cond3 i = 1#1 := fun h => by have := (cond3_iff i h2).1 h; omega
  have hm := show (i 1).val = 4 * ((i 1).val / 4) + 1 by omega
  have hfi := hfin _ hm
  generalize 4 * ((i 1).val / 4) = m at hm hs hfi
  replace hfi : fi = step ⟨pq, pd, plt, pu, pb⟩ X3 X4 (some k0_pay267) (step ⟨pq, pd, plt, pu, pb⟩ X3 X4 none (run ⟨pq, pd, plt, pu, pb⟩ X3 X4 s0 m) (blk m)) (blk (m + 1)) := hfi
  rw [hs] at hfi
  clear hfin hs hb
  refine (sep_mono_left_of c arg3 harg3 arg4 harg4 arg10 arg11 X3 X4 s fun f10 f11 h10 h11 => ?_)
  have hk : ∀ u : Fin 2, strip X3 (blk (m + u.val)) = arg3.view.readAt (Elt F) (Rect.unit (s := S4096x128) (k0_off5 i (BitVec.ofNat 32 u.val)) S256x128.size (k0_off5_inb i h2 h3 u)).toLoadRect (harg3.unread X3) := fun u => by
    rw [readAt_strip _ _ _ _ (off5_blk i hm hT u), harg3.read_unread]
  have hv : ∀ u : Fin 2, strip X4 (blk (m + u.val)) = arg4.view.readAt (Elt F) (Rect.unit (s := S4096x128) (k0_off5 i (BitVec.ofNat 32 u.val)) S256x128.size (k0_off5_inb i h2 h3 u)).toLoadRect (harg4.unread X4) := fun u => by
    rw [readAt_strip _ _ _ _ (off5_blk i hm hT u), harg4.read_unread]
  have hdk : ∀ u : Fin 2, strip s.dk (blk (m + u.val)) = arg10.view.readAt (Elt F) (Rect.unit (s := S4096x128) (k0_off5 i (BitVec.ofNat 32 u.val)) S256x128.size (k0_off5_inb i h2 h3 u)).toLoadRect f10 := fun u => by
    rw [readAt_strip _ _ _ _ (off5_blk i hm hT u), h10]
  have hdv : ∀ u : Fin 2, strip s.dv (blk (m + u.val)) = arg11.view.readAt (Elt F) (Rect.unit (s := S4096x128) (k0_off5 i (BitVec.ofNat 32 u.val)) S256x128.size (k0_off5_inb i h2 h3 u)).toLoadRect f11 := fun u => by
    rw [readAt_strip _ _ _ _ (off5_blk i hm hT u), h11]
  have n01 : blk m ≠ blk (m + 1) := blk_ne (by omega) (by omega) (by omega)
  have k0 := hk 0; have k1 := hk 1
  have w0 := hv 0; have w1 := hv 1
  have o0 := hdk 0; have o1 := hdk 1
  have u0 := hdv 0; have u1 := hdv 1
  subst hfi
  have h15 : (i 1).val ≠ 15 := by omega
  have h5 : ¬ k0_cond5 i = 1#1 := fun h => h15 ((cond5_iff i).1 h)
  refine wp_fin c arg2 harg2 arg3 harg3 arg4 harg4 arg5 harg5 arg6 harg6 arg7 arg8 arg9 arg10 arg11 X2 X5 X6 X3 X4 (g10 := ?_) (g11 := ?_) (g7 := ?_) (g8 := ?_) (g9 := ?_) ?run ?e7 ?e10 ?e11 ?e8 ?e9
  case run =>
    iintro ⟨⟨H3, H4, H10, H11⟩, ⟨H2, H5, H6⟩, H7, H8, H9⟩
    sl_exec
    sl_step
    isplitl [H3 H4 H10 H11]
    · isplitl [H3]; · iexact H3
      isplitl [H4]; · iexact H4
      isplitl [H10]; · iexact H10
      iexact H11
    isplitl [H2 H5 H6]
    · isplitl [H2]; · iexact H2
      isplitl [H5]; · iexact H5
      iexact H6
    isplitl [H7]; · iexact H7
    isplitl [H8]; · iexact H8
    iexact H9
  case e7 =>
    refine (View.read_writes_full _ _ _ _ _).trans (congrArg k0_pay14 ?_)
    dsimp only [step]
    erw [k0, k1, w0, w1]
    rfl
  case e10 =>
    refine (read_writes_strip _ _ _ _ _ _ (off5_blk i hm hT 1)).trans (setStrip_congr ((read_writes_strip _ _ _ _ _ _ (off5_blk i hm hT 0)).trans (setStrip_congr h10 ?_)) ?_)
    · erw [o0, k0, w0]; rfl
    · erw [strip_step_dk _ _ _ _ _ n01]
      dsimp only [step]
      erw [o1, k0, k1, w0, w1]; rfl
  case e11 =>
    refine (read_writes_strip _ _ _ _ _ _ (off5_blk i hm hT 1)).trans (setStrip_congr ((read_writes_strip _ _ _ _ _ _ (off5_blk i hm hT 0)).trans (setStrip_congr h11 ?_)) ?_)
    · erw [u0, k0]; rfl
    · erw [strip_step_dv _ _ _ _ _ n01]
      dsimp only [step]
      erw [u1, k0, k1]; rfl
  case e8 =>
    exact fun _ => by
      rw [if_neg h15]
      exact harg8.read_unread X8
  case e9 =>
    exact fun _ => by
      rw [if_neg h15]
      exact harg9.read_unread X9

end

end Cert.KernelIdeal.Bwd

end
-- ==== Proof.Bwd.G2.lean ====
module

public import proofs.«01_k».proof.Proof.Bwd.Spec

/-! The body at the points whose last group has 3 blocks. -/

@[expose] public section

set_option maxRecDepth 16384

noncomputable section

namespace Cert.KernelIdeal.Bwd

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section

variable (c : Dev nD) (i : grid0.Coords)
  (arg2 : Memref sig .tc .vmem S256x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S256x128 .f32) (harg5 : arg5.IsWhole)
  (arg6 : Memref sig .tc .vmem S256x128 .f32) (harg6 : arg6.IsWhole) (arg7 : Memref sig .tc .vmem S256x128 .bf16) (harg7 : arg7.IsWhole)
  (arg8 : Memref sig .tc .vmem S4096x128 .bf16) (harg8 : arg8.IsWhole) (arg9 : Memref sig .tc .vmem S4096x128 .bf16) (harg9 : arg9.IsWhole)
  (arg10 : Memref sig .tc .vmem S4096x128 .f32) (harg10 : arg10.IsWhole) (arg11 : Memref sig .tc .vmem S4096x128 .f32) (harg11 : arg11.IsWhole)

set_option maxHeartbeats 2000000 in
/-- The body at a point whose last group has 3 blocks. -/
theorem body_g2 (hT : Tail i 2) (X2 X5 X6 : Vec F S256x128 .f32) (X3 X4 dk dv : Vec F S4096x128 .f32) (X7 : Vec F S256x128 .bf16) (X8 X9 : Vec F S4096x128 .bf16) :
    BodySpec c i arg2 harg2 arg3 harg3 arg4 harg4 arg5 harg5 arg6 harg6 arg7 harg7 arg8 harg8 arg9 harg9 arg10 harg10 arg11 harg11 X2 X5 X6 X3 X4 dk dv X7 X8 X9 := by
  unfold BodySpec
  haveI : Fact (Tail i 2) := ⟨hT⟩
  rw [cc0_sb_bwd_eq_skeleton]
  unfold cc0_sb_bwd_skel
  have hlt : (i 1).val < 16 := (i 1).isLt
  have hfin := fun n => fin_eq i X2 X3 X4 X5 X6 dk dv (n := n)
  generalize fin i X2 X3 X4 X5 X6 dk dv = fi at hfin ⊢
  refine wp_seg_frame c (head_spec c i arg2 harg2 arg3 harg3 arg4 harg4 arg5 harg5 arg6 harg6 arg7 harg7 arg8 harg8 arg9 harg9 arg10 harg10 arg11 harg11 X2 X5 X6 X3 X4 dk dv) fun b hb => ?_
  obtain ⟨n39, rfl⟩ := hb
  generalize hs0 : start i dk dv = s0 at hfin ⊢
  have hs1 : s0.pk = k0_pay268 := by rw [← hs0]; rfl
  have hs2 : s0.pg = k0_pay268 := by rw [← hs0]; rfl
  have hs3 : s0.dq = k0_pay269 := by rw [← hs0]; rfl
  clear hs0
  generalize par X2 X5 X6 = p at hfin ⊢
  obtain ⟨pq, pd, plt, pu, pb⟩ := p
  refine (show _ ⊢ iprop(Sres c arg3 harg3 arg4 harg4 arg10 arg11 X3 X4 s0 ∗ (((arg2.view.loc (c : Thread nD τ) ↦[arg2.view.set]{fullShare} harg2.unread X2)
      ∗ (arg5.view.loc (c : Thread nD τ) ↦[arg5.view.set]{fullShare} harg5.unread X5)
      ∗ (arg6.view.loc (c : Thread nD τ) ↦[arg6.view.set]{fullShare} harg6.unread X6))
      ∗ ((arg7.view.loc (c : Thread nD τ) ↦[arg7.view.set]{fullShare} harg7.unread X7)
      ∗ (arg8.view.loc (c : Thread nD τ) ↦[arg8.view.set]{fullShare} harg8.unread X8)
      ∗ (arg9.view.loc (c : Thread nD τ) ↦[arg9.view.set]{fullShare} harg9.unread X9)))) from by
    iintro ⟨⟨HA, HS⟩, HB⟩
    isplitl [HS]; · iexact HS
    isplitl [HA]; · iexact HA
    iexact HB).trans ?_
  refine wp_seg_frame c (loop_spec c i arg2 harg2 arg3 harg3 arg4 harg4 arg5 harg5 arg6 harg6 arg7 harg7 arg8 harg8 arg9 harg9 arg10 harg10 arg11 harg11 _ pq pd plt pu pb k0_pay268 n39 X3 X4 s0 hs1 hs2 hs3) fun b hb => ?_
  obtain ⟨v0, v1, v2, n49, n51, n53, n55, n57, n59, n61, n63, n65, n67, n69, n70, n0⟩ := b
  generalize hs : run ⟨pq, pd, plt, pu, pb⟩ X3 X4 s0 (4 * ((i 1).val / 4)) = s at hb ⊢
  obtain ⟨rfl, rfl, rfl⟩ : v0 = s.pk ∧ v1 = s.pg ∧ v2 = s.dq := ⟨congrArg (fun b => b.1) hb, congrArg (fun b => b.2.1) hb, congrArg (fun b => b.2.2) hb⟩
  have hT' : (i 1).val % 4 = 2 := hT
  have h2 : k0_cond2 i = 1#1 := (cond2_iff i).2 (by omega)
  have h3 : k0_cond3 i = 1#1 := (cond3_iff i h2).2 (by omega)
  have h4 : ¬ k0_cond4 i = 1#1 := fun h => by have := (cond4_iff i h2 h3).1 h; omega
  have hm := show (i 1).val = 4 * ((i 1).val / 4) + 2 by omega
  have hfi := hfin _ hm
  generalize 4 * ((i 1).val / 4) = m at hm hs hfi
  replace hfi : fi = step ⟨pq, pd, plt, pu, pb⟩ X3 X4 (some k0_pay267) (step ⟨pq, pd, plt, pu, pb⟩ X3 X4 none (step ⟨pq, pd, plt, pu, pb⟩ X3 X4 none (run ⟨pq, pd, plt, pu, pb⟩ X3 X4 s0 m) (blk m)) (blk (m + 1))) (blk (m + 2)) := hfi
  rw [hs] at hfi
  clear hfin hs hb
  refine (sep_mono_left_of c arg3 harg3 arg4 harg4 arg10 arg11 X3 X4 s fun f10 f11 h10 h11 => ?_)
  have hk : ∀ u : Fin 3, strip X3 (blk (m + u.val)) = arg3.view.readAt (Elt F) (Rect.unit (s := S4096x128) (k0_off4 i (BitVec.ofNat 32 u.val)) S256x128.size (k0_off4_inb i h2 h3 h4 u)).toLoadRect (harg3.unread X3) := fun u => by
    rw [readAt_strip _ _ _ _ (off4_blk i hm hT u), harg3.read_unread]
  have hv : ∀ u : Fin 3, strip X4 (blk (m + u.val)) = arg4.view.readAt (Elt F) (Rect.unit (s := S4096x128) (k0_off4 i (BitVec.ofNat 32 u.val)) S256x128.size (k0_off4_inb i h2 h3 h4 u)).toLoadRect (harg4.unread X4) := fun u => by
    rw [readAt_strip _ _ _ _ (off4_blk i hm hT u), harg4.read_unread]
  have hdk : ∀ u : Fin 3, strip s.dk (blk (m + u.val)) = arg10.view.readAt (Elt F) (Rect.unit (s := S4096x128) (k0_off4 i (BitVec.ofNat 32 u.val)) S256x128.size (k0_off4_inb i h2 h3 h4 u)).toLoadRect f10 := fun u => by
    rw [readAt_strip _ _ _ _ (off4_blk i hm hT u), h10]
  have hdv : ∀ u : Fin 3, strip s.dv (blk (m + u.val)) = arg11.view.readAt (Elt F) (Rect.unit (s := S4096x128) (k0_off4 i (BitVec.ofNat 32 u.val)) S256x128.size (k0_off4_inb i h2 h3 h4 u)).toLoadRect f11 := fun u => by
    rw [readAt_strip _ _ _ _ (off4_blk i hm hT u), h11]
  have n01 : blk m ≠ blk (m + 1) := blk_ne (by omega) (by omega) (by omega)
  have n02 : blk m ≠ blk (m + 2) := blk_ne (by omega) (by omega) (by omega)
  have n12 : blk (m + 1) ≠ blk (m + 2) := blk_ne (by omega) (by omega) (by omega)
  have k0 := hk 0; have k1 := hk 1; have k2 := hk 2
  have w0 := hv 0; have w1 := hv 1; have w2 := hv 2
  have o0 := hdk 0; have o1 := hdk 1; have o2 := hdk 2
  have u0 := hdv 0; have u1 := hdv 1; have u2 := hdv 2
  subst hfi
  have h15 : (i 1).val ≠ 15 := by omega
  have h5 : ¬ k0_cond5 i = 1#1 := fun h => h15 ((cond5_iff i).1 h)
  refine wp_fin c arg2 harg2 arg3 harg3 arg4 harg4 arg5 harg5 arg6 harg6 arg7 arg8 arg9 arg10 arg11 X2 X5 X6 X3 X4 (g10 := ?_) (g11 := ?_) (g7 := ?_) (g8 := ?_) (g9 := ?_) ?run ?e7 ?e10 ?e11 ?e8 ?e9
  case run =>
    iintro ⟨⟨H3, H4, H10, H11⟩, ⟨H2, H5, H6⟩, H7, H8, H9⟩
    sl_exec
    sl_step
    isplitl [H3 H4 H10 H11]
    · isplitl [H3]; · iexact H3
      isplitl [H4]; · iexact H4
      isplitl [H10]; · iexact H10
      iexact H11
    isplitl [H2 H5 H6]
    · isplitl [H2]; · iexact H2
      isplitl [H5]; · iexact H5
      iexact H6
    isplitl [H7]; · iexact H7
    isplitl [H8]; · iexact H8
    iexact H9
  case e7 =>
    refine (View.read_writes_full _ _ _ _ _).trans (congrArg k0_pay14 ?_)
    dsimp only [step]
    erw [k0, k1, k2, w0, w1, w2]
    rfl
  case e10 =>
    refine (read_writes_strip _ _ _ _ _ _ (off4_blk i hm hT 2)).trans (setStrip_congr ((read_writes_strip _ _ _ _ _ _ (off4_blk i hm hT 1)).trans (setStrip_congr ((read_writes_strip _ _ _ _ _ _ (off4_blk i hm hT 0)).trans (setStrip_congr h10 ?_)) ?_)) ?_)
    · erw [o0, k0, w0]; rfl
    · erw [strip_step_dk _ _ _ _ _ n01]
      dsimp only [step]
      erw [o1, k0, k1, w0, w1]; rfl
    · erw [strip_step_dk _ _ _ _ _ n12, strip_step_dk _ _ _ _ _ n02]
      dsimp only [step]
      erw [o2, k0, k1, k2, w0, w1, w2]; rfl
  case e11 =>
    refine (read_writes_strip _ _ _ _ _ _ (off4_blk i hm hT 2)).trans (setStrip_congr ((read_writes_strip _ _ _ _ _ _ (off4_blk i hm hT 1)).trans (setStrip_congr ((read_writes_strip _ _ _ _ _ _ (off4_blk i hm hT 0)).trans (setStrip_congr h11 ?_)) ?_)) ?_)
    · erw [u0, k0]; rfl
    · erw [strip_step_dv _ _ _ _ _ n01]
      dsimp only [step]
      erw [u1, k0, k1]; rfl
    · erw [strip_step_dv _ _ _ _ _ n12, strip_step_dv _ _ _ _ _ n02]
      dsimp only [step]
      erw [u2, k0, k1, k2]; rfl
  case e8 =>
    exact fun _ => by
      rw [if_neg h15]
      exact harg8.read_unread X8
  case e9 =>
    exact fun _ => by
      rw [if_neg h15]
      exact harg9.read_unread X9

end

end Cert.KernelIdeal.Bwd

end
-- ==== Proof.Bwd.G3.lean ====
module

public import proofs.«01_k».proof.Proof.Bwd.Spec

/-! The body at the points whose last group has 4 blocks. -/

@[expose] public section

set_option maxRecDepth 16384

noncomputable section

namespace Cert.KernelIdeal.Bwd

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section

variable (c : Dev nD) (i : grid0.Coords)
  (arg2 : Memref sig .tc .vmem S256x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S256x128 .f32) (harg5 : arg5.IsWhole)
  (arg6 : Memref sig .tc .vmem S256x128 .f32) (harg6 : arg6.IsWhole) (arg7 : Memref sig .tc .vmem S256x128 .bf16) (harg7 : arg7.IsWhole)
  (arg8 : Memref sig .tc .vmem S4096x128 .bf16) (harg8 : arg8.IsWhole) (arg9 : Memref sig .tc .vmem S4096x128 .bf16) (harg9 : arg9.IsWhole)
  (arg10 : Memref sig .tc .vmem S4096x128 .f32) (harg10 : arg10.IsWhole) (arg11 : Memref sig .tc .vmem S4096x128 .f32) (harg11 : arg11.IsWhole)

set_option maxHeartbeats 2000000 in
/-- The body at a point whose last group has 4 blocks. -/
theorem body_g3 (hT : Tail i 3) (X2 X5 X6 : Vec F S256x128 .f32) (X3 X4 dk dv : Vec F S4096x128 .f32) (X7 : Vec F S256x128 .bf16) (X8 X9 : Vec F S4096x128 .bf16) :
    BodySpec c i arg2 harg2 arg3 harg3 arg4 harg4 arg5 harg5 arg6 harg6 arg7 harg7 arg8 harg8 arg9 harg9 arg10 harg10 arg11 harg11 X2 X5 X6 X3 X4 dk dv X7 X8 X9 := by
  unfold BodySpec
  haveI : Fact (Tail i 3) := ⟨hT⟩
  rw [cc0_sb_bwd_eq_skeleton]
  unfold cc0_sb_bwd_skel
  have hlt : (i 1).val < 16 := (i 1).isLt
  have hfin := fun n => fin_eq i X2 X3 X4 X5 X6 dk dv (n := n)
  generalize fin i X2 X3 X4 X5 X6 dk dv = fi at hfin ⊢
  refine wp_seg_frame c (head_spec c i arg2 harg2 arg3 harg3 arg4 harg4 arg5 harg5 arg6 harg6 arg7 harg7 arg8 harg8 arg9 harg9 arg10 harg10 arg11 harg11 X2 X5 X6 X3 X4 dk dv) fun b hb => ?_
  obtain ⟨n39, rfl⟩ := hb
  generalize hs0 : start i dk dv = s0 at hfin ⊢
  have hs1 : s0.pk = k0_pay268 := by rw [← hs0]; rfl
  have hs2 : s0.pg = k0_pay268 := by rw [← hs0]; rfl
  have hs3 : s0.dq = k0_pay269 := by rw [← hs0]; rfl
  clear hs0
  generalize par X2 X5 X6 = p at hfin ⊢
  obtain ⟨pq, pd, plt, pu, pb⟩ := p
  refine (show _ ⊢ iprop(Sres c arg3 harg3 arg4 harg4 arg10 arg11 X3 X4 s0 ∗ (((arg2.view.loc (c : Thread nD τ) ↦[arg2.view.set]{fullShare} harg2.unread X2)
      ∗ (arg5.view.loc (c : Thread nD τ) ↦[arg5.view.set]{fullShare} harg5.unread X5)
      ∗ (arg6.view.loc (c : Thread nD τ) ↦[arg6.view.set]{fullShare} harg6.unread X6))
      ∗ ((arg7.view.loc (c : Thread nD τ) ↦[arg7.view.set]{fullShare} harg7.unread X7)
      ∗ (arg8.view.loc (c : Thread nD τ) ↦[arg8.view.set]{fullShare} harg8.unread X8)
      ∗ (arg9.view.loc (c : Thread nD τ) ↦[arg9.view.set]{fullShare} harg9.unread X9)))) from by
    iintro ⟨⟨HA, HS⟩, HB⟩
    isplitl [HS]; · iexact HS
    isplitl [HA]; · iexact HA
    iexact HB).trans ?_
  refine wp_seg_frame c (loop_spec c i arg2 harg2 arg3 harg3 arg4 harg4 arg5 harg5 arg6 harg6 arg7 harg7 arg8 harg8 arg9 harg9 arg10 harg10 arg11 harg11 _ pq pd plt pu pb k0_pay268 n39 X3 X4 s0 hs1 hs2 hs3) fun b hb => ?_
  obtain ⟨v0, v1, v2, n49, n51, n53, n55, n57, n59, n61, n63, n65, n67, n69, n70, n0⟩ := b
  generalize hs : run ⟨pq, pd, plt, pu, pb⟩ X3 X4 s0 (4 * ((i 1).val / 4)) = s at hb ⊢
  obtain ⟨rfl, rfl, rfl⟩ : v0 = s.pk ∧ v1 = s.pg ∧ v2 = s.dq := ⟨congrArg (fun b => b.1) hb, congrArg (fun b => b.2.1) hb, congrArg (fun b => b.2.2) hb⟩
  have hT' : (i 1).val % 4 = 3 := hT
  have h2 : k0_cond2 i = 1#1 := (cond2_iff i).2 (by omega)
  have h3 : k0_cond3 i = 1#1 := (cond3_iff i h2).2 (by omega)
  have h4 : k0_cond4 i = 1#1 := (cond4_iff i h2 h3).2 hT
  have hm := show (i 1).val = 4 * ((i 1).val / 4) + 3 by omega
  have hfi := hfin _ hm
  generalize 4 * ((i 1).val / 4) = m at hm hs hfi
  replace hfi : fi = step ⟨pq, pd, plt, pu, pb⟩ X3 X4 (some k0_pay267) (step ⟨pq, pd, plt, pu, pb⟩ X3 X4 none (step ⟨pq, pd, plt, pu, pb⟩ X3 X4 none (step ⟨pq, pd, plt, pu, pb⟩ X3 X4 none (run ⟨pq, pd, plt, pu, pb⟩ X3 X4 s0 m) (blk m)) (blk (m + 1))) (blk (m + 2))) (blk (m + 3)) := hfi
  rw [hs] at hfi
  clear hfin hs hb
  refine (sep_mono_left_of c arg3 harg3 arg4 harg4 arg10 arg11 X3 X4 s fun f10 f11 h10 h11 => ?_)
  have hk : ∀ u : Fin 4, strip X3 (blk (m + u.val)) = arg3.view.readAt (Elt F) (Rect.unit (s := S4096x128) (k0_off3 i (BitVec.ofNat 32 u.val)) S256x128.size (k0_off3_inb i h2 h3 h4 u)).toLoadRect (harg3.unread X3) := fun u => by
    rw [readAt_strip _ _ _ _ (off3_blk i hm hT u), harg3.read_unread]
  have hv : ∀ u : Fin 4, strip X4 (blk (m + u.val)) = arg4.view.readAt (Elt F) (Rect.unit (s := S4096x128) (k0_off3 i (BitVec.ofNat 32 u.val)) S256x128.size (k0_off3_inb i h2 h3 h4 u)).toLoadRect (harg4.unread X4) := fun u => by
    rw [readAt_strip _ _ _ _ (off3_blk i hm hT u), harg4.read_unread]
  have hdk : ∀ u : Fin 4, strip s.dk (blk (m + u.val)) = arg10.view.readAt (Elt F) (Rect.unit (s := S4096x128) (k0_off3 i (BitVec.ofNat 32 u.val)) S256x128.size (k0_off3_inb i h2 h3 h4 u)).toLoadRect f10 := fun u => by
    rw [readAt_strip _ _ _ _ (off3_blk i hm hT u), h10]
  have hdv : ∀ u : Fin 4, strip s.dv (blk (m + u.val)) = arg11.view.readAt (Elt F) (Rect.unit (s := S4096x128) (k0_off3 i (BitVec.ofNat 32 u.val)) S256x128.size (k0_off3_inb i h2 h3 h4 u)).toLoadRect f11 := fun u => by
    rw [readAt_strip _ _ _ _ (off3_blk i hm hT u), h11]
  have n01 : blk m ≠ blk (m + 1) := blk_ne (by omega) (by omega) (by omega)
  have n02 : blk m ≠ blk (m + 2) := blk_ne (by omega) (by omega) (by omega)
  have n03 : blk m ≠ blk (m + 3) := blk_ne (by omega) (by omega) (by omega)
  have n12 : blk (m + 1) ≠ blk (m + 2) := blk_ne (by omega) (by omega) (by omega)
  have n13 : blk (m + 1) ≠ blk (m + 3) := blk_ne (by omega) (by omega) (by omega)
  have n23 : blk (m + 2) ≠ blk (m + 3) := blk_ne (by omega) (by omega) (by omega)
  have k0 := hk 0; have k1 := hk 1; have k2 := hk 2; have k3 := hk 3
  have w0 := hv 0; have w1 := hv 1; have w2 := hv 2; have w3 := hv 3
  have o0 := hdk 0; have o1 := hdk 1; have o2 := hdk 2; have o3 := hdk 3
  have u0 := hdv 0; have u1 := hdv 1; have u2 := hdv 2; have u3 := hdv 3
  subst hfi
  by_cases h15 : (i 1).val = 15
  · have h5 : k0_cond5 i = 1#1 := (cond5_iff i).2 h15
    refine wp_fin c arg2 harg2 arg3 harg3 arg4 harg4 arg5 harg5 arg6 harg6 arg7 arg8 arg9 arg10 arg11 X2 X5 X6 X3 X4 (g10 := ?_) (g11 := ?_) (g7 := ?_) (g8 := ?_) (g9 := ?_) ?run ?e7 ?e10 ?e11 ?e8 ?e9
    case run =>
      iintro ⟨⟨H3, H4, H10, H11⟩, ⟨H2, H5, H6⟩, H7, H8, H9⟩
      sl_exec
      sl_step
      isplitl [H3 H4 H10 H11]
      · isplitl [H3]; · iexact H3
        isplitl [H4]; · iexact H4
        isplitl [H10]; · iexact H10
        iexact H11
      isplitl [H2 H5 H6]
      · isplitl [H2]; · iexact H2
        isplitl [H5]; · iexact H5
        iexact H6
      isplitl [H7]; · iexact H7
      isplitl [H8]; · iexact H8
      iexact H9
    case e7 =>
      refine (View.read_writes_full _ _ _ _ _).trans (congrArg k0_pay14 ?_)
      dsimp only [step]
      erw [k0, k1, k2, k3, w0, w1, w2, w3]
      rfl
    case e10 =>
      refine (read_writes_strip _ _ _ _ _ _ (off3_blk i hm hT 3)).trans (setStrip_congr ((read_writes_strip _ _ _ _ _ _ (off3_blk i hm hT 2)).trans (setStrip_congr ((read_writes_strip _ _ _ _ _ _ (off3_blk i hm hT 1)).trans (setStrip_congr ((read_writes_strip _ _ _ _ _ _ (off3_blk i hm hT 0)).trans (setStrip_congr h10 ?_)) ?_)) ?_)) ?_)
      · erw [o0, k0, w0]; rfl
      · erw [strip_step_dk _ _ _ _ _ n01]
        dsimp only [step]
        erw [o1, k0, k1, w0, w1]; rfl
      · erw [strip_step_dk _ _ _ _ _ n12, strip_step_dk _ _ _ _ _ n02]
        dsimp only [step]
        erw [o2, k0, k1, k2, w0, w1, w2]; rfl
      · erw [strip_step_dk _ _ _ _ _ n23, strip_step_dk _ _ _ _ _ n13, strip_step_dk _ _ _ _ _ n03]
        dsimp only [step]
        erw [o3, k0, k1, k2, k3, w0, w1, w2, w3]; rfl
    case e11 =>
      refine (read_writes_strip _ _ _ _ _ _ (off3_blk i hm hT 3)).trans (setStrip_congr ((read_writes_strip _ _ _ _ _ _ (off3_blk i hm hT 2)).trans (setStrip_congr ((read_writes_strip _ _ _ _ _ _ (off3_blk i hm hT 1)).trans (setStrip_congr ((read_writes_strip _ _ _ _ _ _ (off3_blk i hm hT 0)).trans (setStrip_congr h11 ?_)) ?_)) ?_)) ?_)
      · erw [u0, k0]; rfl
      · erw [strip_step_dv _ _ _ _ _ n01]
        dsimp only [step]
        erw [u1, k0, k1]; rfl
      · erw [strip_step_dv _ _ _ _ _ n12, strip_step_dv _ _ _ _ _ n02]
        dsimp only [step]
        erw [u2, k0, k1, k2]; rfl
      · erw [strip_step_dv _ _ _ _ _ n23, strip_step_dv _ _ _ _ _ n13, strip_step_dv _ _ _ _ _ n03]
        dsimp only [step]
        erw [u3, k0, k1, k2, k3]; rfl
    case e8 =>
      exact fun e => by
        rw [if_pos h15]
        exact (View.read_writes_full _ _ _ _ _).trans (congrArg k0_pay15 ((View.readAt_full _ _ _).trans e))
    case e9 =>
      exact fun e => by
        rw [if_pos h15]
        exact (View.read_writes_full _ _ _ _ _).trans (congrArg k0_pay16 ((View.readAt_full _ _ _).trans e))
  · have h5 : ¬ k0_cond5 i = 1#1 := fun h => h15 ((cond5_iff i).1 h)
    refine wp_fin c arg2 harg2 arg3 harg3 arg4 harg4 arg5 harg5 arg6 harg6 arg7 arg8 arg9 arg10 arg11 X2 X5 X6 X3 X4 (g10 := ?_) (g11 := ?_) (g7 := ?_) (g8 := ?_) (g9 := ?_) ?run ?e7 ?e10 ?e11 ?e8 ?e9
    case run =>
      iintro ⟨⟨H3, H4, H10, H11⟩, ⟨H2, H5, H6⟩, H7, H8, H9⟩
      sl_exec
      sl_step
      isplitl [H3 H4 H10 H11]
      · isplitl [H3]; · iexact H3
        isplitl [H4]; · iexact H4
        isplitl [H10]; · iexact H10
        iexact H11
      isplitl [H2 H5 H6]
      · isplitl [H2]; · iexact H2
        isplitl [H5]; · iexact H5
        iexact H6
      isplitl [H7]; · iexact H7
      isplitl [H8]; · iexact H8
      iexact H9
    case e7 =>
      refine (View.read_writes_full _ _ _ _ _).trans (congrArg k0_pay14 ?_)
      dsimp only [step]
      erw [k0, k1, k2, k3, w0, w1, w2, w3]
      rfl
    case e10 =>
      refine (read_writes_strip _ _ _ _ _ _ (off3_blk i hm hT 3)).trans (setStrip_congr ((read_writes_strip _ _ _ _ _ _ (off3_blk i hm hT 2)).trans (setStrip_congr ((read_writes_strip _ _ _ _ _ _ (off3_blk i hm hT 1)).trans (setStrip_congr ((read_writes_strip _ _ _ _ _ _ (off3_blk i hm hT 0)).trans (setStrip_congr h10 ?_)) ?_)) ?_)) ?_)
      · erw [o0, k0, w0]; rfl
      · erw [strip_step_dk _ _ _ _ _ n01]
        dsimp only [step]
        erw [o1, k0, k1, w0, w1]; rfl
      · erw [strip_step_dk _ _ _ _ _ n12, strip_step_dk _ _ _ _ _ n02]
        dsimp only [step]
        erw [o2, k0, k1, k2, w0, w1, w2]; rfl
      · erw [strip_step_dk _ _ _ _ _ n23, strip_step_dk _ _ _ _ _ n13, strip_step_dk _ _ _ _ _ n03]
        dsimp only [step]
        erw [o3, k0, k1, k2, k3, w0, w1, w2, w3]; rfl
    case e11 =>
      refine (read_writes_strip _ _ _ _ _ _ (off3_blk i hm hT 3)).trans (setStrip_congr ((read_writes_strip _ _ _ _ _ _ (off3_blk i hm hT 2)).trans (setStrip_congr ((read_writes_strip _ _ _ _ _ _ (off3_blk i hm hT 1)).trans (setStrip_congr ((read_writes_strip _ _ _ _ _ _ (off3_blk i hm hT 0)).trans (setStrip_congr h11 ?_)) ?_)) ?_)) ?_)
      · erw [u0, k0]; rfl
      · erw [strip_step_dv _ _ _ _ _ n01]
        dsimp only [step]
        erw [u1, k0, k1]; rfl
      · erw [strip_step_dv _ _ _ _ _ n12, strip_step_dv _ _ _ _ _ n02]
        dsimp only [step]
        erw [u2, k0, k1, k2]; rfl
      · erw [strip_step_dv _ _ _ _ _ n23, strip_step_dv _ _ _ _ _ n13, strip_step_dv _ _ _ _ _ n03]
        dsimp only [step]
        erw [u3, k0, k1, k2, k3]; rfl
    case e8 =>
      exact fun _ => by
        rw [if_neg h15]
        exact harg8.read_unread X8
    case e9 =>
      exact fun _ => by
        rw [if_neg h15]
        exact harg9.read_unread X9

end

end Cert.KernelIdeal.Bwd

end
-- ==== Proof.Bwd.Body.lean ====
module

public import proofs.«01_k».proof.Proof.Bwd.G0
public import proofs.«01_k».proof.Proof.Bwd.G1
public import proofs.«01_k».proof.Proof.Bwd.G2
public import proofs.«01_k».proof.Proof.Bwd.G3

/-! The whole body at one point. -/

@[expose] public section

set_option maxRecDepth 16384

noncomputable section

namespace Cert.KernelIdeal.Bwd

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section

variable (c : Dev nD) (i : grid0.Coords)
  (arg2 : Memref sig .tc .vmem S256x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S256x128 .f32) (harg5 : arg5.IsWhole)
  (arg6 : Memref sig .tc .vmem S256x128 .f32) (harg6 : arg6.IsWhole) (arg7 : Memref sig .tc .vmem S256x128 .bf16) (harg7 : arg7.IsWhole)
  (arg8 : Memref sig .tc .vmem S4096x128 .bf16) (harg8 : arg8.IsWhole) (arg9 : Memref sig .tc .vmem S4096x128 .bf16) (harg9 : arg9.IsWhole)
  (arg10 : Memref sig .tc .vmem S4096x128 .f32) (harg10 : arg10.IsWhole) (arg11 : Memref sig .tc .vmem S4096x128 .f32) (harg11 : arg11.IsWhole)

/-- The body at any point. -/
theorem body_spec (X2 X5 X6 : Vec F S256x128 .f32) (X3 X4 dk dv : Vec F S4096x128 .f32) (X7 : Vec F S256x128 .bf16) (X8 X9 : Vec F S4096x128 .bf16) :
    iprop((((arg2.view.loc (c : Thread nD τ) ↦[arg2.view.set]{fullShare} harg2.unread X2)
      ∗ (arg5.view.loc (c : Thread nD τ) ↦[arg5.view.set]{fullShare} harg5.unread X5)
      ∗ (arg6.view.loc (c : Thread nD τ) ↦[arg6.view.set]{fullShare} harg6.unread X6))
      ∗ Res c arg3 harg3 arg4 harg4 arg10 arg11 X3 X4 (harg10.unread dk) (harg11.unread dv))
      ∗ ((arg7.view.loc (c : Thread nD τ) ↦[arg7.view.set]{fullShare} harg7.unread X7)
      ∗ (arg8.view.loc (c : Thread nD τ) ↦[arg8.view.set]{fullShare} harg8.unread X8)
      ∗ (arg9.view.loc (c : Thread nD τ) ↦[arg9.view.set]{fullShare} harg9.unread X9)))
      ⊢ wp frame (wpE (defs₀ (F := F)) Variants.none (c : Thread nD τ) none) Set.univ
          (cc0_sb_bwd i arg2 harg2 arg3 harg3 arg4 harg4 arg5 harg5 arg6 harg6 arg7 harg7 arg8 harg8 arg9 harg9 arg10 harg10 arg11 harg11)
          (fun _ => iprop(Sres c arg3 harg3 arg4 harg4 arg10 arg11 X3 X4 (fin i X2 X3 X4 X5 X6 dk dv)
            ∗ ((arg2.view.loc (c : Thread nD τ) ↦[arg2.view.set]{fullShare} harg2.unread X2)
      ∗ (arg5.view.loc (c : Thread nD τ) ↦[arg5.view.set]{fullShare} harg5.unread X5)
      ∗ (arg6.view.loc (c : Thread nD τ) ↦[arg6.view.set]{fullShare} harg6.unread X6))
      ∗ owns (c : Thread nD τ) arg7 fullShare (k0_pay14 (fin i X2 X3 X4 X5 X6 dk dv).dq)
      ∗ owns (c : Thread nD τ) arg8 fullShare (if (i 1).val = 15 then k0_pay15 (fin i X2 X3 X4 X5 X6 dk dv).dk else X8)
      ∗ owns (c : Thread nD τ) arg9 fullShare (if (i 1).val = 15 then k0_pay16 (fin i X2 X3 X4 X5 X6 dk dv).dv else X9))) := by
  rcases (show (i 1).val % 4 = 0 ∨ (i 1).val % 4 = 1 ∨ (i 1).val % 4 = 2 ∨ (i 1).val % 4 = 3 by omega) with hT | hT | hT | hT
  · exact body_g0 c i arg2 harg2 arg3 harg3 arg4 harg4 arg5 harg5 arg6 harg6 arg7 harg7 arg8 harg8 arg9 harg9 arg10 harg10 arg11 harg11 hT X2 X5 X6 X3 X4 dk dv X7 X8 X9
  · exact body_g1 c i arg2 harg2 arg3 harg3 arg4 harg4 arg5 harg5 arg6 harg6 arg7 harg7 arg8 harg8 arg9 harg9 arg10 harg10 arg11 harg11 hT X2 X5 X6 X3 X4 dk dv X7 X8 X9
  · exact body_g2 c i arg2 harg2 arg3 harg3 arg4 harg4 arg5 harg5 arg6 harg6 arg7 harg7 arg8 harg8 arg9 harg9 arg10 harg10 arg11 harg11 hT X2 X5 X6 X3 X4 dk dv X7 X8 X9
  · exact body_g3 c i arg2 harg2 arg3 harg3 arg4 harg4 arg5 harg5 arg6 harg6 arg7 harg7 arg8 harg8 arg9 harg9 arg10 harg10 arg11 harg11 hT X2 X5 X6 X3 X4 dk dv X7 X8 X9

end

end Cert.KernelIdeal.Bwd

end
-- ==== Proof.Bwd.Run.lean ====
module

public import proofs.«01_k».proof.Proof.Bwd.Body

/-! The pipeline over the grid: what the scratch arrays hold from point to point, the body at every
point, and the run of the whole program. -/

@[expose] public section

set_option maxRecDepth 16384

noncomputable section

namespace Cert.KernelIdeal.Bwd

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F] [Named F]

local notation "𝕄" => MT nD τ sig Unit (Elt F) ℕ (UR sig nD τ) ℕ

set_option maxHeartbeats 1600000 in
/-- The body, every buffer held through its memref. -/
theorem body_owns (c : Dev nD) (i : grid0.Coords)
    (arg2 : Memref sig .tc .vmem S256x128 .f32) (harg2 : arg2.IsWhole) (arg3 : Memref sig .tc .vmem S4096x128 .f32) (harg3 : arg3.IsWhole)
    (arg4 : Memref sig .tc .vmem S4096x128 .f32) (harg4 : arg4.IsWhole) (arg5 : Memref sig .tc .vmem S256x128 .f32) (harg5 : arg5.IsWhole)
    (arg6 : Memref sig .tc .vmem S256x128 .f32) (harg6 : arg6.IsWhole) (arg7 : Memref sig .tc .vmem S256x128 .bf16) (harg7 : arg7.IsWhole)
    (arg8 : Memref sig .tc .vmem S4096x128 .bf16) (harg8 : arg8.IsWhole) (arg9 : Memref sig .tc .vmem S4096x128 .bf16) (harg9 : arg9.IsWhole)
    (arg10 : Memref sig .tc .vmem S4096x128 .f32) (harg10 : arg10.IsWhole) (arg11 : Memref sig .tc .vmem S4096x128 .f32) (harg11 : arg11.IsWhole)
    (X2 X5 X6 : Vec F S256x128 .f32) (X3 X4 dk dv : Vec F S4096x128 .f32) (X7 : Vec F S256x128 .bf16) (X8 X9 : Vec F S4096x128 .bf16) :
    (iprop(owns (c : Thread nD τ) arg2 fullShare X2 ∗ owns (c : Thread nD τ) arg3 fullShare X3 ∗ owns (c : Thread nD τ) arg4 fullShare X4
      ∗ owns (c : Thread nD τ) arg5 fullShare X5 ∗ owns (c : Thread nD τ) arg6 fullShare X6 ∗ owns (c : Thread nD τ) arg7 fullShare X7
      ∗ owns (c : Thread nD τ) arg8 fullShare X8 ∗ owns (c : Thread nD τ) arg9 fullShare X9
      ∗ owns (c : Thread nD τ) arg10 fullShare dk ∗ owns (c : Thread nD τ) arg11 fullShare dv) : sProp 𝕄)
      ⊢ wp frame (wpE (defs₀ (F := F)) Variants.none (c : Thread nD τ) none) Set.univ
          (cc0_sb_bwd i arg2 harg2 arg3 harg3 arg4 harg4 arg5 harg5 arg6 harg6 arg7 harg7 arg8 harg8 arg9 harg9 arg10 harg10 arg11 harg11)
          (fun _ => iprop(owns (c : Thread nD τ) arg2 fullShare X2 ∗ owns (c : Thread nD τ) arg3 fullShare X3 ∗ owns (c : Thread nD τ) arg4 fullShare X4
            ∗ owns (c : Thread nD τ) arg5 fullShare X5 ∗ owns (c : Thread nD τ) arg6 fullShare X6
            ∗ owns (c : Thread nD τ) arg7 fullShare (k0_pay14 (fin i X2 X3 X4 X5 X6 dk dv).dq)
            ∗ owns (c : Thread nD τ) arg8 fullShare (if (i 1).val = 15 then k0_pay15 (fin i X2 X3 X4 X5 X6 dk dv).dk else X8)
            ∗ owns (c : Thread nD τ) arg9 fullShare (if (i 1).val = 15 then k0_pay16 (fin i X2 X3 X4 X5 X6 dk dv).dv else X9)
            ∗ owns (c : Thread nD τ) arg10 fullShare (fin i X2 X3 X4 X5 X6 dk dv).dk
            ∗ owns (c : Thread nD τ) arg11 fullShare (fin i X2 X3 X4 X5 X6 dk dv).dv)) := by
  have hb := body_spec c i arg2 harg2 arg3 harg3 arg4 harg4 arg5 harg5 arg6 harg6 arg7 harg7 arg8 harg8 arg9 harg9 arg10 harg10 arg11 harg11 X2 X5 X6 X3 X4 dk dv X7 X8 X9
  generalize fin i X2 X3 X4 X5 X6 dk dv = s at hb ⊢
  generalize cc0_sb_bwd (F := F) i arg2 harg2 arg3 harg3 arg4 harg4 arg5 harg5 arg6 harg6 arg7 harg7 arg8 harg8 arg9 harg9 arg10 harg10 arg11 harg11 = P at hb ⊢
  unfold owns at hb ⊢
  unfold Sres at hb
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩⟩
  obtain rfl := harg2.eq_unread e2; obtain rfl := harg3.eq_unread e3; obtain rfl := harg4.eq_unread e4
  obtain rfl := harg5.eq_unread e5; obtain rfl := harg6.eq_unread e6; obtain rfl := harg7.eq_unread e7
  obtain rfl := harg8.eq_unread e8; obtain rfl := harg9.eq_unread e9
  obtain rfl := harg10.eq_unread e10; obtain rfl := harg11.eq_unread e11
  iapply (wp_wand_r _ _)
  isplitl [H2 H3 H4 H5 H6 H7 H8 H9 H10 H11]
  · iapply hb
    isplitl [H2 H3 H4 H5 H6 H10 H11]
    · isplitl [H2 H5 H6]
      · isplitl [H2]; · iexact H2
        isplitl [H5]; · iexact H5
        iexact H6
      isplitl [H3]; · iexact H3
      isplitl [H4]; · iexact H4
      isplitl [H10]; · iexact H10
      iexact H11
    isplitl [H7]; · iexact H7
    isplitl [H8]; · iexact H8
    iexact H9
  iintro %b ⟨⟨%g10, %g11, %hg, H3, H4, H10, H11⟩, ⟨H2, H5, H6⟩, H7, H8, H9⟩
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]; · iexact H7
  isplitl [H8]; · iexact H8
  isplitl [H9]; · iexact H9
  isplitl [H10]
  · iexists g10; isplitr; · ipureintro; exact hg.1
    iexact H10
  iexists g11; isplitr; · ipureintro; exact hg.2
  iexact H11

/-! ## The scratch arrays from point to point -/

variable (m : (ℓ : Loc nD τ sig) → Buf (Elt F) ℓ) (ρ : Dev nD → PrngReg)

/-- The state a point ends with, from the two arrays it finds. -/
def finAt (c : Dev nD) (t : Fin cfg0.N) (d : Vec F S4096x128 .f32 × Vec F S4096x128 .f32) : St F :=
  fin (grid0.coords t) (iblk m c 0 t) (iblk m c 1 t) (iblk m c 2 t) (iblk m c 3 t) (iblk m c 4 t) d.1 d.2

/-- The two arrays after the first `n` points. -/
def acc (c : Dev nD) : ℕ → Vec F S4096x128 .f32 × Vec F S4096x128 .f32
  | 0 => (k0_pay260, k0_pay261)
  | n + 1 => if h : n < cfg0.N then ((finAt m c ⟨n, h⟩ (acc c n)).dk, (finAt m c ⟨n, h⟩ (acc c n)).dv) else acc c n

theorem acc_succ (c : Dev nD) (t : Fin cfg0.N) :
    acc m c (t.val + 1) = ((finAt m c t (acc m c t.val)).dk, (finAt m c t (acc m c t.val)).dv) := dif_pos t.isLt

/-- The state point `t` ends with. -/
def stAt (c : Dev nD) (t : Fin cfg0.N) : St F := finAt m c t (acc m c t.val)

theorem coord1 (t : Fin cfg0.N) : (grid0.coords t 1).val = t.val % 16 := by
  revert t; decide +kernel

/-- At the first query block of a head the two arrays found do not matter. -/
theorem finAt_eq (c : Dev nD) (t : Fin cfg0.N) (d : Vec F S4096x128 .f32 × Vec F S4096x128 .f32) (h : t.val % 16 ≠ 0 → d = acc m c t.val) :
    finAt m c t d = stAt m c t := by
  unfold stAt
  by_cases h0 : t.val % 16 = 0
  · have h1 : (grid0.coords t 1).val = 0 := (coord1 t).trans h0
    unfold finAt fin start
    rw [if_pos h1, if_pos h1, if_pos h1, if_pos h1]
  · rw [h h0]

/-- The scratch arrays before point `n`: inside a head, at what the points before left. -/
def Phi (c : Dev nD) (n : ℕ) : sProp 𝕄 :=
  iprop((∃ d : Vec F S4096x128 .f32 × Vec F S4096x128 .f32, ⌜n % 16 ≠ 0 → d = acc m c n⌝
    ∗ owns (c : Thread nD τ) (Memref.whole cc0_scratch0) fullShare d.1 ∗ owns (c : Thread nD τ) (Memref.whole cc0_scratch1) fullShare d.2)
    ∗ ∃ r, prngReg c r)

/-! ## The pipeline's proof data -/

/-- The arrays as the region finds them; after the body each input's buffer at its block, dq at the state's, and
    dk and dv, stored at a head's last query block, at the state's there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay14 (stAt m c t).dq
    | ⟨6, _⟩ => k0_pay15 (stAt m c t).dk
    | ⟨7, _⟩ => k0_pay16 (stAt m c t).dv
  Φ t := Phi m c t.val
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = k0_pay14 (stAt m c t).dq := by dsimp only [dats]
theorem after0_6 (c : Dev nD) (t : Fin cfg0.N) : (dats m 0 c).after 6 t = k0_pay15 (stAt m c t).dk := by dsimp only [dats]
theorem after0_7 (c : Dev nD) (t : Fin cfg0.N) : (dats m 0 c).after 7 t = k0_pay16 (stAt m c t).dv := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body leaves in the buffer of dk or dv: stored at a head's last query block, untouched before it. -/
theorem leave_of {n : ℕ} {b f : Bool} (hb : b = !decide (n = 15)) (hf : f = true ↔ n = 15) {P A B : sProp 𝕄}
    (h1 : n = 15 → P ⊢ B) (h2 : n ≠ 15 → P ⊢ A) : P ⊢ (match (generalizing := false) b with | true => (match (generalizing := false) f with | false => A | true => B) | false => B) := by
  cases b with
  | true =>
    have hn : n ≠ 15 := by
      intro e
      rw [decide_eq_true e] at hb
      cases hb
    cases f with
    | true => exact absurd (hf.1 rfl) hn
    | false => exact h2 hn
  | false =>
    have hn : n = 15 := by
      by_contra e
      rw [decide_eq_false e] at hb
      cases hb
    exact h1 hn

theorem idle_val (i : grid0.Coords) : (!(k0_cond5 i == 1#1)) = !decide ((i 1).val = 15) := by
  congr 1
  rw [Bool.eq_iff_iff, beq_iff_eq, decide_eq_true_eq]
  exact cond5_iff i

theorem leave6 (c : Dev nD) (t : Fin cfg0.N) (d) : (owns (c : Thread nD τ) (stage0_6 (cfg0.slots t 6)) fullShare
      (if (grid0.coords t 1).val = 15 then k0_pay15 (stAt m c t).dk else (dats m 0 c).before 6 t d) : sProp 𝕄)
    ⊢ (match idle0 6 (grid0.coords t) with
      | true => (match (win0 6).flush t with
        | false => iprop(∃ d, owns (c : Thread nD τ) (stage0_6 (cfg0.slots t 6)) fullShare ((dats m 0 c).before 6 t d))
        | true => owns (c : Thread nD τ) (stage0_6 (cfg0.slots t 6)) fullShare ((dats m 0 c).after 6 t))
      | false => owns (c : Thread nD τ) (stage0_6 (cfg0.slots t 6)) fullShare ((dats m 0 c).after 6 t)) := by
  refine leave_of (F := F) (n := (grid0.coords t 1).val) (idle_val (grid0.coords t)) (by rw [coord1]; exact flush0_6 t) (fun h => ?_) fun h => ?_
  · rw [if_pos h, after0_6]
  · rw [if_neg h]
    iintro H
    iexists d
    iexact H

theorem leave7 (c : Dev nD) (t : Fin cfg0.N) (d) : (owns (c : Thread nD τ) (stage0_7 (cfg0.slots t 7)) fullShare
      (if (grid0.coords t 1).val = 15 then k0_pay16 (stAt m c t).dv else (dats m 0 c).before 7 t d) : sProp 𝕄)
    ⊢ (match idle0 7 (grid0.coords t) with
      | true => (match (win0 7).flush t with
        | false => iprop(∃ d, owns (c : Thread nD τ) (stage0_7 (cfg0.slots t 7)) fullShare ((dats m 0 c).before 7 t d))
        | true => owns (c : Thread nD τ) (stage0_7 (cfg0.slots t 7)) fullShare ((dats m 0 c).after 7 t))
      | false => owns (c : Thread nD τ) (stage0_7 (cfg0.slots t 7)) fullShare ((dats m 0 c).after 7 t)) := by
  refine leave_of (F := F) (n := (grid0.coords t 1).val) (idle_val (grid0.coords t)) (by rw [coord1]; exact flush0_7 t) (fun h => ?_) fun h => ?_
  · rw [if_pos h, after0_7]
  · rw [if_neg h]
    iintro H
    iexists d
    iexact H

/-- The body of one point, from what the pipeline hands it to what it takes back. -/
theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3, before0_4]
  rw [after0_0, after0_1, after0_2, after0_3, after0_4, after0_5]
  have e0 : (dats m 0 c).Φ t.castSucc = Phi m c t.val := rfl
  have e1 : (dats m 0 c).Φ t.succ = Phi m c (t.val + 1) := rfl
  rw [e0, e1]
  unfold Phi
  iintro ⟨⟨⟨%d, %hd, HS0, HS1⟩, HR⟩, HO, ⟨%_, H0⟩, ⟨%_, H1⟩, ⟨%_, H2⟩, ⟨%_, H3⟩, ⟨%_, H4⟩, ⟨%d5, H5⟩, ⟨%d6, H6⟩, ⟨%d7, H7⟩⟩
  have hf : fin (grid0.coords t) (iblk m c 0 t) (iblk m c 1 t) (iblk m c 2 t) (iblk m c 3 t) (iblk m c 4 t) d.1 d.2 = stAt m c t :=
    finAt_eq m c t d hd
  have hb := body_owns c (grid0.coords t) (stage0_0 (cfg0.slots t 0)) (hstage0_0 _) (stage0_1 (cfg0.slots t 1)) (hstage0_1 _)
    (stage0_2 (cfg0.slots t 2)) (hstage0_2 _) (stage0_3 (cfg0.slots t 3)) (hstage0_3 _) (stage0_4 (cfg0.slots t 4)) (hstage0_4 _)
    (stage0_5 (cfg0.slots t 5)) (hstage0_5 _) (stage0_6 (cfg0.slots t 6)) (hstage0_6 _) (stage0_7 (cfg0.slots t 7)) (hstage0_7 _)
    (Memref.whole cc0_scratch0) (Memref.isWhole_whole _) (Memref.whole cc0_scratch1) (Memref.isWhole_whole _)
    (iblk m c 0 t) (iblk m c 3 t) (iblk m c 4 t) (iblk m c 1 t) (iblk m c 2 t) d.1 d.2
    ((dats m 0 c).before 5 t d5) ((dats m 0 c).before 6 t d6) ((dats m 0 c).before 7 t d7)
  rw [hf] at hb
  iapply (wp_wand_r _ _)
  isplitl [H0 H1 H2 H3 H4 H5 H6 H7 HS0 HS1]
  · iapply hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iexact HS1
  iintro %b ⟨H0, H1, H2, H3, H4, H5, H6, H7, HS0, HS1⟩
  isplitl [HS0 HS1 HR]
  · isplitl [HS0 HS1]
    · iexists ((stAt m c t).dk, (stAt m c t).dv)
      isplitr
      · ipureintro; exact fun _ => (acc_succ m c t).symm
      isplitl [HS0]; · iexact HS0
      iexact HS1
    iexact HR
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]
  · iapply (leave6 m c t d6); iexact H6
  iapply (leave7 m c t d7); iexact H7

/-! ## The run -/

/-- At the first point the scratch arrays hold anything. -/
theorem phi_in (c : Dev nD) : iprop(Pipeline.scopedRest spec0 c ∗ ∃ r, prngReg c r) ⊢ (Phi m c 0 : sProp 𝕄) := by
  rw [scopedRest0_eq]
  unfold Phi
  iintro ⟨⟨⟨%f0, H0⟩, ⟨%f1, H1⟩⟩, HR⟩
  isplitl [H0 H1]
  · iexists (f0, f1)
    isplitr
    · ipureintro; exact fun h => absurd rfl h
    isplitl [H0]
    · rw [owns_whole]; iexact H0
    rw [owns_whole]; iexact H1
  iexact HR

/-- After the last point they are given back. -/
theorem phi_out (c : Dev nD) (n : ℕ) : (Phi m c n : sProp 𝕄) ⊢ iprop(Pipeline.scopedRest spec0 c ∗ ∃ r, prngReg c r) := by
  rw [scopedRest0_eq]
  unfold Phi
  iintro ⟨⟨%d, %hd, H0, H1⟩, HR⟩
  isplitl [H0 H1]
  · isplitl [H0]
    · iexists d.1
      rw [← owns_whole]; iexact H0
    iexists d.2
    rw [← owns_whole]; iexact H1
  iexact HR

set_option backward.isDefEq.respectTransparency.types false in
/-- The program runs to its end, every array at what its windows wrote. -/
theorem run_main : θ_run defs (onTc (τ := τ) (main (F := F))) (s₀ m ρ)
    (fun r => Pipeline.FramePost cfgs (dats m) 0 (V m) r ∧ r.2.sem = fun _ => 0) :=
  Pipeline.θ_run_frame_track_shared cfgs (dats m) (0 : Fin 1) launch₀0 defs₀ Variants.none m ρ main
    (hbody := fun c => (body_obligation m c).loose) (hq := fun _ _ _ => rfl) (howed := fun _ _ => rfl)
    (V := V m) (hmain := hmain m Variants.none) (hA := fun _ _ => rfl) (hin := phi_in m) (hout := fun c => phi_out m c _) (Q' := _)

end Cert.KernelIdeal.Bwd

end
-- ==== Proof.Claims.FrameIdeal.lean ====
module

public import proofs.«01_k».proof.Proof.Bwd.Run
public import Idealize.ShloMosaic.Lib.Quiescent

/-! The frame of the idealized program. -/

@[expose] public section

noncomputable section

namespace Cert.KernelIdeal.Bwd

open Idealize.ShloMosaic Idealize.ShloMosaic.TcCoe Cert.KernelIdeal Cert.KernelIdeal.Gen Idealize.SL.Sem

variable {F : FTy → Type} [FloatOps F] [Named F]

/-- The program runs, its arguments end as they began, and every counter reads zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨
      ((h.1 c).1 2).trans (((dats m 0 c).arrAt_in 2 rfl _).trans (V_main_arg0 m c)),
      ((h.1 c).1 4).trans (((dats m 0 c).arrAt_in 4 rfl _).trans (V_main_arg1 m c))⟩, h.2⟩) (run_main (F := F) m ρ)

end Cert.KernelIdeal.Bwd

end
-- ==== Proof.BwdK.Body.lean ====
module

public import proofs.«01_k».proof.Proof.BwdK.G0
public import proofs.«01_k».proof.Proof.BwdK.G1
public import proofs.«01_k».proof.Proof.BwdK.G2
public import proofs.«01_k».proof.Proof.BwdK.G3

/-! The whole body at one point. -/

@[expose] public section

set_option maxRecDepth 16384

noncomputable section

namespace Cert.Kernel.Bwd

open Idealize.ShloMosaic Idealize.ShloMosaic.TcCoe Idealize.ShloMosaic.Tactic Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section

variable (c : Dev nD) (i : grid0.Coords)
  (arg2 : Memref sig .tc .vmem S256x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S256x128 .f32) (harg5 : arg5.IsWhole)
  (arg6 : Memref sig .tc .vmem S256x128 .f32) (harg6 : arg6.IsWhole) (arg7 : Memref sig .tc .vmem S256x128 .bf16) (harg7 : arg7.IsWhole)
  (arg8 : Memref sig .tc .vmem S4096x128 .bf16) (harg8 : arg8.IsWhole) (arg9 : Memref sig .tc .vmem S4096x128 .bf16) (harg9 : arg9.IsWhole)
  (arg10 : Memref sig .tc .vmem S4096x128 .f32) (harg10 : arg10.IsWhole) (arg11 : Memref sig .tc .vmem S4096x128 .f32) (harg11 : arg11.IsWhole)

/-- The body at any point. -/
theorem body_spec (X2 X5 X6 : Vec F S256x128 .f32) (X3 X4 dk dv : Vec F S4096x128 .f32) (X7 : Vec F S256x128 .bf16) (X8 X9 : Vec F S4096x128 .bf16) :
    iprop((((arg2.view.loc (c : Thread nD τ) ↦[arg2.view.set]{fullShare} harg2.unread X2)
      ∗ (arg5.view.loc (c : Thread nD τ) ↦[arg5.view.set]{fullShare} harg5.unread X5)
      ∗ (arg6.view.loc (c : Thread nD τ) ↦[arg6.view.set]{fullShare} harg6.unread X6))
      ∗ Res c arg3 harg3 arg4 harg4 arg10 arg11 X3 X4 (harg10.unread dk) (harg11.unread dv))
      ∗ ((arg7.view.loc (c : Thread nD τ) ↦[arg7.view.set]{fullShare} harg7.unread X7)
      ∗ (arg8.view.loc (c : Thread nD τ) ↦[arg8.view.set]{fullShare} harg8.unread X8)
      ∗ (arg9.view.loc (c : Thread nD τ) ↦[arg9.view.set]{fullShare} harg9.unread X9)))
      ⊢ wp frame (wpE (defs₀ (F := F)) Variants.none (c : Thread nD τ) none) Set.univ
          (cc0_sb_bwd i arg2 harg2 arg3 harg3 arg4 harg4 arg5 harg5 arg6 harg6 arg7 harg7 arg8 harg8 arg9 harg9 arg10 harg10 arg11 harg11)
          (fun _ => iprop(Sres c arg3 harg3 arg4 harg4 arg10 arg11 X3 X4 (fin i X2 X3 X4 X5 X6 dk dv)
            ∗ ((arg2.view.loc (c : Thread nD τ) ↦[arg2.view.set]{fullShare} harg2.unread X2)
      ∗ (arg5.view.loc (c : Thread nD τ) ↦[arg5.view.set]{fullShare} harg5.unread X5)
      ∗ (arg6.view.loc (c : Thread nD τ) ↦[arg6.view.set]{fullShare} harg6.unread X6))
      ∗ owns (c : Thread nD τ) arg7 fullShare (k0_pay14 (fin i X2 X3 X4 X5 X6 dk dv).dq)
      ∗ owns (c : Thread nD τ) arg8 fullShare (if (i 1).val = 15 then k0_pay15 (fin i X2 X3 X4 X5 X6 dk dv).dk else X8)
      ∗ owns (c : Thread nD τ) arg9 fullShare (if (i 1).val = 15 then k0_pay16 (fin i X2 X3 X4 X5 X6 dk dv).dv else X9))) := by
  rcases (show (i 1).val % 4 = 0 ∨ (i 1).val % 4 = 1 ∨ (i 1).val % 4 = 2 ∨ (i 1).val % 4 = 3 by omega) with hT | hT | hT | hT
  · exact body_g0 c i arg2 harg2 arg3 harg3 arg4 harg4 arg5 harg5 arg6 harg6 arg7 harg7 arg8 harg8 arg9 harg9 arg10 harg10 arg11 harg11 hT X2 X5 X6 X3 X4 dk dv X7 X8 X9
  · exact body_g1 c i arg2 harg2 arg3 harg3 arg4 harg4 arg5 harg5 arg6 harg6 arg7 harg7 arg8 harg8 arg9 harg9 arg10 harg10 arg11 harg11 hT X2 X5 X6 X3 X4 dk dv X7 X8 X9
  · exact body_g2 c i arg2 harg2 arg3 harg3 arg4 harg4 arg5 harg5 arg6 harg6 arg7 harg7 arg8 harg8 arg9 harg9 arg10 harg10 arg11 harg11 hT X2 X5 X6 X3 X4 dk dv X7 X8 X9
  · exact body_g3 c i arg2 harg2 arg3 harg3 arg4 harg4 arg5 harg5 arg6 harg6 arg7 harg7 arg8 harg8 arg9 harg9 arg10 harg10 arg11 harg11 hT X2 X5 X6 X3 X4 dk dv X7 X8 X9

end

end Cert.Kernel.Bwd

end
-- ==== Proof.Claims.FrameBits.lean ====
module

public import proofs.«01_k».proof.Proof.BwdK.Run
public import Idealize.ShloMosaic.Lib.Quiescent

/-! The frame of the program as printed. -/

@[expose] public section

noncomputable section

namespace Cert.Kernel.Bwd

open Idealize.ShloMosaic Idealize.ShloMosaic.TcCoe Cert.Kernel Cert.Kernel.Gen Idealize.SL.Sem

variable {F : FTy → Type} [FloatOps F]

/-- The program runs, its arguments end as they began, and every counter reads zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨
      ((h.1 c).1 2).trans (((dats m 0 c).arrAt_in 2 rfl _).trans (V_main_arg0 m c)),
      ((h.1 c).1 4).trans (((dats m 0 c).arrAt_in 4 rfl _).trans (V_main_arg1 m c))⟩, h.2⟩) (run_main (F := F) m ρ)

end Cert.Kernel.Bwd

end
-- ==== Proof.Claims.Frames.lean ====
module

public import proofs.«01_k».proof.Defs
public import proofs.«01_k».proof.Proof.Claims.FrameIdeal
public import proofs.«01_k».proof.Proof.Claims.FrameBits
public import proofs.«01_k».proof.Proof.Gen.ReferenceIdeal.Run

/-! The frames of the three programs, and the one rewrite of the kernel: its mask is named. -/

@[expose] public section

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel runs, leaves its arguments and its counters as it found them. -/
theorem frame_p : Cert.quiescent_Kernel := fun m ρ _ => Cert.Kernel.Bwd.frame m ρ

/-- So does the kernel over the extended reals. -/
theorem frame_pi : Cert.quiescent_KernelIdeal := fun m ρ _ => Cert.KernelIdeal.Bwd.frame m ρ

/-- So does the reference over the extended reals. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The mask's word is read as minus infinity. -/
theorem preserves : Cert.preserves_Kernel_KernelIdeal :=
  IdealRules.named_const.statement Cert.KernelIdeal.κ "mask" .f32 0xF149F2CA#32 ⊥ rfl

end Cert.Proof

end
-- ==== Proof.Val.Model.lean ====
module

public import Idealize.ShloMosaic.PureOps.Ideal
public import Mathlib.Analysis.SpecialFunctions.Log.Basic

/-! Stick-breaking attention of one head over the real numbers, and its gradient: the mathematics that both
programs are read as. Rows and keys are numbered by naturals. -/

@[expose] public section

noncomputable section

namespace Cert.Val

open Finset

/-- The softplus. -/
def sp (x : ℝ) : ℝ := Real.log (1 + Real.exp x)

theorem one_add_exp_pos (x : ℝ) : 0 < 1 + Real.exp x := by positivity

theorem exp_sp (x : ℝ) : Real.exp (sp x) = 1 + Real.exp x := Real.exp_log (one_add_exp_pos x)

/-- The softplus of the opposite. -/
theorem sp_neg (x : ℝ) : sp (-x) = sp x - x := by
  apply Real.exp_injective
  rw [Real.exp_sub, exp_sp, exp_sp, Real.exp_neg]
  have := Real.exp_pos x
  field_simp
  ring

/-- The softplus in the form that does not overflow. -/
theorem max_add_log (x : ℝ) : max x 0 + Real.log (1 + Real.exp (-|x|)) = sp x := by
  rcases le_total 0 x with h | h
  · rw [max_eq_left h, abs_of_nonneg h]
    have := sp_neg x
    unfold sp at this ⊢
    linarith
  · rw [max_eq_right h, abs_of_nonpos h, neg_neg, zero_add]; rfl

/-- The logistic function of a logit, by its softplus. -/
theorem exp_sub_sp (x : ℝ) : Real.exp (x - sp x) = 1 - Real.exp (-sp x) := by
  rw [Real.exp_sub, Real.exp_neg, exp_sp]
  have := one_add_exp_pos x
  field_simp
  ring

/-- What one head is given: queries, keys, values, the gradient of its output, and the scale of the logits. -/
structure Head where
  q : ℕ → Fin 128 → ℝ
  k : ℕ → Fin 128 → ℝ
  v : ℕ → Fin 128 → ℝ
  d : ℕ → Fin 128 → ℝ
  sc : ℝ

namespace Head

variable (H : Head)

/-- The logit of query `i` and key `j`. -/
def z (i j : ℕ) : ℝ := (∑ e, H.q i e * H.k j e) * H.sc

/-- The logarithm of the probability that key `j`'s stick is kept. -/
def lk (i j : ℕ) : ℝ := if j < i then -sp (H.z i j) else 0

/-- The log-keeps of the keys before `j`. -/
def pre (i j : ℕ) : ℝ := ∑ j' ∈ range j, H.lk i j'

/-- The row's total. -/
def tot (i : ℕ) : ℝ := H.pre i 4096

/-- The attention weight. -/
def w (i j : ℕ) : ℝ := if j < i then Real.exp (H.z i j + H.lk i j + (H.tot i - H.pre i (j + 1))) else 0

/-- The gradient of the weight. -/
def da (i j : ℕ) : ℝ := ∑ e, H.d i e * H.v j e

/-- The weight times its gradient. -/
def g (i j : ℕ) : ℝ := H.w i j * H.da i j

/-- The weighted gradients of the keys before `j`. -/
def preg (i j : ℕ) : ℝ := ∑ j' ∈ range j, H.g i j'

/-- The gradient of the logit, times the scale. -/
def dz (i j : ℕ) : ℝ :=
  (if j < i then H.g i j * Real.exp (H.lk i j) - H.preg i j * (1 - Real.exp (H.lk i j)) else 0) * H.sc

/-- The gradients of the queries, the keys and the values: over the keys before `n`, over the queries before `n`. -/
def dq (n i : ℕ) (e : Fin 128) : ℝ := ∑ j ∈ range n, H.dz i j * H.k j e
def dk (n j : ℕ) (e : Fin 128) : ℝ := ∑ i ∈ range n, H.dz i j * H.q i e
def dv (n j : ℕ) (e : Fin 128) : ℝ := ∑ i ∈ range n, H.w i j * H.d i e

theorem w_of_le {i j : ℕ} (h : i ≤ j) : H.w i j = 0 := if_neg (Nat.not_lt.2 h)
theorem dz_of_le {i j : ℕ} (h : i ≤ j) : H.dz i j = 0 := by unfold dz; rw [if_neg (Nat.not_lt.2 h), zero_mul]
theorem lk_of_le {i j : ℕ} (h : i ≤ j) : H.lk i j = 0 := if_neg (Nat.not_lt.2 h)
theorem g_of_le {i j : ℕ} (h : i ≤ j) : H.g i j = 0 := by unfold g; rw [w_of_le H h, zero_mul]
theorem w_of_lt {i j : ℕ} (h : j < i) : H.w i j = Real.exp (H.z i j + H.lk i j + (H.tot i - H.pre i (j + 1))) := if_pos h
theorem lk_of_lt {i j : ℕ} (h : j < i) : H.lk i j = -sp (H.z i j) := if_pos h

/-- Sums over the keys of the first `n` blocks and of the next one. -/
theorem pre_block (i n : ℕ) : H.pre i (256 * (n + 1)) = H.pre i (256 * n) + ∑ b : Fin 256, H.lk i (256 * n + b.val) := by
  unfold pre; rw [Nat.mul_succ, sum_range_add, sum_range (fun b => H.lk i (256 * n + b))]
theorem preg_block (i n : ℕ) : H.preg i (256 * (n + 1)) = H.preg i (256 * n) + ∑ b : Fin 256, H.g i (256 * n + b.val) := by
  unfold preg; rw [Nat.mul_succ, sum_range_add, sum_range (fun b => H.g i (256 * n + b))]
theorem dq_block (i n : ℕ) (e : Fin 128) :
    H.dq (256 * (n + 1)) i e = H.dq (256 * n) i e + ∑ b : Fin 256, H.dz i (256 * n + b.val) * H.k (256 * n + b.val) e := by
  unfold dq; rw [Nat.mul_succ, sum_range_add, sum_range (fun b => H.dz i (256 * n + b) * H.k (256 * n + b) e)]
theorem dk_block (j n : ℕ) (e : Fin 128) :
    H.dk (256 * (n + 1)) j e = H.dk (256 * n) j e + ∑ a : Fin 256, H.dz (256 * n + a.val) j * H.q (256 * n + a.val) e := by
  unfold dk; rw [Nat.mul_succ, sum_range_add, sum_range (fun b => H.dz (256 * n + b) j * H.q (256 * n + b) e)]
theorem dv_block (j n : ℕ) (e : Fin 128) :
    H.dv (256 * (n + 1)) j e = H.dv (256 * n) j e + ∑ a : Fin 256, H.w (256 * n + a.val) j * H.d (256 * n + a.val) e := by
  unfold dv; rw [Nat.mul_succ, sum_range_add, sum_range (fun b => H.w (256 * n + b) j * H.d (256 * n + b) e)]

/-- Inside a block: the keys up to `b`, by a sum over the block against the triangle of ones. -/
theorem sum_tri (f : ℕ → ℝ) (s b : ℕ) (hb : b ≤ 256) :
    ∑ b' : Fin 256, f (s + b'.val) * (if b'.val < b then 1 else 0) = ∑ j ∈ range (s + b), f j - ∑ j ∈ range s, f j := by
  rw [sum_range_add, add_sub_cancel_left, ← sum_range (fun b' => f (s + b') * (if b' < b then 1 else 0))]
  simp only [mul_ite, mul_one, mul_zero]
  rw [← sum_filter]
  congr 1
  ext x
  simp only [mem_filter, mem_range]
  omega

/-- The keys after the query contribute nothing to dq. -/
theorem dq_full {n i : ℕ} (e : Fin 128) (h : i ≤ n) (hn : n ≤ 4096) : H.dq n i e = H.dq 4096 i e := by
  unfold dq
  refine sum_subset (range_subset_range.2 hn) fun j _ hj => ?_
  rw [mem_range, not_lt] at hj
  rw [H.dz_of_le (h.trans hj), zero_mul]

end Head

/-! ## Real numbers among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem coe_max (x y : ℝ) : max (x : EReal) (y : EReal) = ((max x y : ℝ) : EReal) :=
  (Monotone.map_max EReal.coe_strictMono.monotone).symm

end Cert.Val

end
-- ==== Proof.Val.Block.lean ====
module

public import proofs.«01_k».proof.Proof.Bwd.Block
public import proofs.«01_k».proof.Proof.Val.Model
public import Idealize.ShloMosaic.Lib.MatmulPlain
public import Idealize.ShloMosaic.Lib.ValueIdx
public import Idealize.ShloMosaic.Lib.ValueLayoutCasts
public import Idealize.ShloMosaic.Lib.IdealHost
public import Idealize.ShloMosaic.Lib.Pipeline.Value
public import Idealize.ShloMosaic.PureOps.IdealRules

/-! What each operation on a block of keys computes over the extended reals, element by element, when the
arrays hold real numbers. -/

@[expose] public section

set_option maxRecDepth 16384

noncomputable section

namespace Cert.Val

open Idealize.ShloMosaic Idealize.ShloMosaic.ValueIdx Cert.KernelIdeal Cert.KernelIdeal.Gen Cert.KernelIdeal.Bwd

/-! ## Constants -/

theorem word_zero : Ideal.ofBits .f32 0x00000000#32 = ((0 : ℝ) : EReal) := by simp [Ideal.ofBits, Ideal.ieee]

theorem word_one : Ideal.ofBits .f32 0x3F800000#32 = ((1 : ℝ) : EReal) := by
  simp [Ideal.ofBits, Ideal.ieee, -EReal.coe_mul]; norm_num

/-- The scale of the logits, as the number that its word is. -/
def scale : ℝ := (Ideal.ofBits .f32 0x3DB504F3#32).toReal

theorem word_scale : Ideal.ofBits .f32 0x3DB504F3#32 = (scale : EReal) := by
  refine (EReal.coe_toReal ?_ ?_).symm <;> simp [Ideal.ofBits, Ideal.ieee, -EReal.coe_mul]

theorem named_mask : (Named.named (F := Ideal) κ "mask" (φ := .f32) 0xF149F2CA#32 : Ideal .f32) = (⊥ : EReal) :=
  IdealRules.named_const.ideal_named_scalar _ _ _ _ rfl

/-! ## Products -/

/-- A product of two blocks over the rows of both: the transpose of the first with the second. -/
theorem matmul_transposedLhs_apply {φ₁ φ₂ : FTy} (lhs : FVec Ideal S256x256 φ₁) (rhs : FVec Ideal S256x128 φ₂)
    (acc : FVec Ideal S256x128 .f32) (r : Fin 256) (c : Fin 128) :
    FloatOps.matmul dot_S256x256_S256x128_S256x128_0_0_1_1_n_n none lhs rhs acc (ix2 r c)
      = acc (ix2 r c) + ∑ k : Fin 256, lhs (ix2 k r) * rhs (ix2 k c) := by
  have hr : dot_S256x256_S256x128_S256x128_0_0_1_1_n_n.contr.rank = 1 := rfl
  have hs : dot_S256x256_S256x128_S256x128_0_0_1_1_n_n.contr.size ⟨0, by omega⟩ = 256 := rfl
  rw [Ideal.matmul_apply, ← Equiv.sum_comp (contrEquiv1 dot_S256x256_S256x128_S256x128_0_0_1_1_n_n 256 hr hs).symm]
  refine congrArg (acc (ix2 r c) + ·) (Finset.sum_congr rfl fun k _ => ?_)
  have hk := contrEquiv1_symm_val dot_S256x256_S256x128_S256x128_0_0_1_1_n_n 256 hr hs k
  congr 1
  · refine congrArg lhs (funext fun a => Fin.ext ?_)
    match a with
    | ⟨0, _⟩ => exact hk
    | ⟨1, _⟩ => rfl
  · refine congrArg rhs (funext fun a => Fin.ext ?_)
    match a with
    | ⟨0, _⟩ => exact hk
    | ⟨1, _⟩ => rfl

theorem dotT_apply {φ₁ φ₂ : FTy} (l : FVec Ideal S256x128 φ₁) (r : FVec Ideal S256x128 φ₂) (f g : Fin 256 → Fin 128 → ℝ)
    (hl : ∀ a e, l (ix2 a e) = (f a e : EReal)) (hr : ∀ a e, r (ix2 a e) = (g a e : EReal)) (a b : Fin 256) :
    matmul dot_S256x128_S256x128_S256x256_1_1_0_0_n_n none l r (constant S256x256 .f32 0x00000000#32) (ix2 a b)
      = ((∑ e, f a e * g b e : ℝ) : EReal) := by
  refine (Ideal.matmul_transposedRhs_apply none l r _ a b).trans ?_
  rw [constant_apply, word_zero, coe_sum, EReal.coe_zero, zero_add]
  exact Finset.sum_congr rfl fun e _ => by rw [hl, hr, EReal.coe_mul]

theorem dotSq_apply {φ₁ φ₂ : FTy} (l : FVec Ideal S256x256 φ₁) (r : FVec Ideal S256x256 φ₂) (f g : Fin 256 → Fin 256 → ℝ)
    (hl : ∀ a e, l (ix2 a e) = (f a e : EReal)) (hr : ∀ a e, r (ix2 a e) = (g a e : EReal)) (a b : Fin 256) :
    matmul dot_S256x256_S256x256_S256x256_1_0_0_1_n_n none l r (constant S256x256 .f32 0x00000000#32) (ix2 a b)
      = ((∑ e, f a e * g e b : ℝ) : EReal) := by
  refine (Ideal.matmul_plain_apply none l r _ a b).trans ?_
  rw [constant_apply, word_zero, coe_sum, EReal.coe_zero, zero_add]
  exact Finset.sum_congr rfl fun e _ => by rw [hl, hr, EReal.coe_mul]

theorem dotPl_apply {φ₁ φ₂ : FTy} (l : FVec Ideal S256x256 φ₁) (r : FVec Ideal S256x128 φ₂) (f : Fin 256 → Fin 256 → ℝ) (g : Fin 256 → Fin 128 → ℝ)
    (hl : ∀ a e, l (ix2 a e) = (f a e : EReal)) (hr : ∀ a e, r (ix2 a e) = (g a e : EReal)) (a : Fin 256) (b : Fin 128) :
    matmul dot_S256x256_S256x128_S256x128_1_0_0_1_n_n none l r (constant S256x128 .f32 0x00000000#32) (ix2 a b)
      = ((∑ e, f a e * g e b : ℝ) : EReal) := by
  refine (Ideal.matmul_plain_apply none l r _ a b).trans ?_
  rw [constant_apply, word_zero, coe_sum, EReal.coe_zero, zero_add]
  exact Finset.sum_congr rfl fun e _ => by rw [hl, hr, EReal.coe_mul]

theorem dotL_apply {φ₁ φ₂ : FTy} (l : FVec Ideal S256x256 φ₁) (r : FVec Ideal S256x128 φ₂) (f : Fin 256 → Fin 256 → ℝ) (g : Fin 256 → Fin 128 → ℝ)
    (hl : ∀ a e, l (ix2 a e) = (f a e : EReal)) (hr : ∀ a e, r (ix2 a e) = (g a e : EReal)) (a : Fin 256) (b : Fin 128) :
    matmul dot_S256x256_S256x128_S256x128_0_0_1_1_n_n none l r (constant S256x128 .f32 0x00000000#32) (ix2 a b)
      = ((∑ e, f e a * g e b : ℝ) : EReal) := by
  refine (matmul_transposedLhs_apply l r _ a b).trans ?_
  rw [constant_apply, word_zero, coe_sum, EReal.coe_zero, zero_add]
  exact Finset.sum_congr rfl fun e _ => by rw [hl, hr, EReal.coe_mul]

/-- A column spread over the block's columns. -/
theorem spread_apply (x : FVec Ideal S256x1 .f32) (a b : Fin 256) :
    broadcastTo S256x256 x broadcasts_S256x1_S256x256 (ix2 a b) = x (ix2 a 0) :=
  broadcastTo_apply x broadcasts_S256x1_S256x256 (ix2 a b) (ix2 a 0) (by
    intro d
    match d with
    | ⟨0, _⟩ => rfl
    | ⟨1, _⟩ => rfl)

/-- A row sum added to a column. -/
theorem rowAdd_apply (s : FVec Ideal S256x1 .f32) (x : FVec Ideal S256x256 .f32) (t : Fin 256 → ℝ) (f : Fin 256 → Fin 256 → ℝ)
    (hs : ∀ a, s (ix2 a 0) = (t a : EReal)) (hx : ∀ a b, x (ix2 a b) = (f a b : EReal)) (a : Fin 256) :
    rowAdd s x (ix2 a 0) = ((t a + ∑ b, f a b : ℝ) : EReal) := by
  unfold rowAdd
  rw [addf_apply, hs, EReal.coe_add, coe_sum]
  congr 1
  refine (shapeCast_a_a1_apply _ shapeCasts_S256_S256x1 a 0).trans ?_
  refine (Ideal.multiReduction_add_single x _ reduces_S256x256_S256 _ _ (ix1 a)).trans ?_
  refine Finset.sum_congr rfl fun b _ => ?_
  refine Eq.trans (congrArg x ?_) (hx a b)
  funext d
  match d with
  | ⟨0, _⟩ => rfl
  | ⟨1, _⟩ => rfl

/-! ## The block against the model -/

/-- What the point brings holds the head's numbers for the query block `i`. -/
structure ParIs (H : Head) (i : ℕ) (p : Par Ideal) : Prop where
  q : ∀ a e, p.q (ix2 a e) = (H.q (256 * i + a.val) e : EReal)
  d : ∀ a e, p.d (ix2 a e) = (H.d (256 * i + a.val) e : EReal)
  lt : ∀ a, p.lt (ix2 a 0) = (H.tot (256 * i + a.val) : EReal)
  upto : ∀ b' b, p.upto (ix2 b' b) = (((if b'.val < b.val + 1 then 1 else 0 : ℝ)) : EReal)
  before : ∀ b' b, p.before (ix2 b' b) = (((if b'.val < b.val then 1 else 0 : ℝ)) : EReal)
  sc : H.sc = scale

/-- A key block before the queries' own, or the queries' own with its mask. -/
def KeepIs (i j : ℕ) : Option (IVec S256x256 1) → Prop
  | none => j < i
  | some k => j = i ∧ ∀ a b : Fin 256, k (ix2 a b) = if b.val < a.val then 1#1 else 0#1

theorem masked_apply {i j : ℕ} {keep : Option (IVec S256x256 1)} (hk : KeepIs i j keep) (x : FVec Ideal S256x256 .f32) (y : Ideal .f32) (a b : Fin 256) :
    masked keep x y (ix2 a b) = if 256 * j + b.val < 256 * i + a.val then x (ix2 a b) else y := by
  cases keep with
  | none =>
    have h : j < i := hk
    rw [if_pos (by have := a.isLt; have := b.isLt; omega)]
    rfl
  | some k =>
    obtain ⟨rfl, h⟩ : j = i ∧ ∀ a b : Fin 256, k (ix2 a b) = if b.val < a.val then 1#1 else 0#1 := hk
    show select k x (broadcast S256x256 y) (ix2 a b) = _
    rw [select_apply, h, broadcast_apply]
    by_cases hab : b.val < a.val
    · rw [if_pos hab, if_pos (by omega), select_one]
    · rw [if_neg hab, if_neg (by omega), select_zero]

section
variable {H : Head} {i j : ℕ} {p : Par Ideal} (hp : ParIs H i p) {keep : Option (IVec S256x256 1)} (hkeep : KeepIs i j keep)
  {kb vb : Vec Ideal S256x128 .f32} (hkb : ∀ b e, kb (ix2 b e) = (H.k (256 * j + b.val) e : EReal)) (hvb : ∀ b e, vb (ix2 b e) = (H.v (256 * j + b.val) e : EReal))
  {pk pg : FVec Ideal S256x1 .f32} (hpk : ∀ a, pk (ix2 a 0) = (H.pre (256 * i + a.val) (256 * j) : EReal))
  (hpg : ∀ a, pg (ix2 a 0) = (H.preg (256 * i + a.val) (256 * j) : EReal))
include hp

include hkb in
theorem logit_apply (a b : Fin 256) : logit p kb (ix2 a b) = (H.z (256 * i + a.val) (256 * j + b.val) : EReal) := by
  unfold logit
  rw [mulf_apply, dotT_apply _ _ _ _ hp.q (fun b e => (truncf_apply kb _ _).trans (hkb b e)), broadcast_apply]
  show _ * Ideal.ofBits .f32 0x3DB504F3#32 = _
  rw [word_scale, ← EReal.coe_mul]
  unfold Head.z
  rw [hp.sc]

omit hp in
theorem logKeepOf_apply (x : FVec Ideal S256x256 .f32) (r : ℝ) (a b : Fin 256) (h : x (ix2 a b) = (r : EReal)) :
    logKeepOf x (ix2 a b) = ((-sp r : ℝ) : EReal) := by
  show Ideal.ofBits .f32 0x00000000#32 - (max (x (ix2 a b)) (Ideal.ofBits .f32 0x00000000#32)
    + Ideal.log (Ideal.ofBits .f32 0x3F800000#32 + Ideal.exp (Ideal.ofBits .f32 0x00000000#32 - max (x (ix2 a b)) (-(x (ix2 a b)))))) = _
  rw [h, word_zero, word_one, ← EReal.coe_neg, coe_max, coe_max, ← EReal.coe_sub, Ideal.exp_coe, ← EReal.coe_add, Ideal.log_coe,
    if_neg (not_le.2 (one_add_exp_pos _)), ← EReal.coe_add, ← EReal.coe_sub, ← max_add_log r]
  rw [zero_sub, zero_sub, abs_eq_max_neg]

include hkb hkeep in
theorem logKeep_apply (a b : Fin 256) : logKeep p keep kb (ix2 a b) = (H.lk (256 * i + a.val) (256 * j + b.val) : EReal) := by
  unfold logKeep Head.lk
  rw [masked_apply hkeep, logKeepOf_apply _ _ a b (logit_apply hp hkb a b)]
  split
  · rfl
  · exact word_zero

omit hp in
theorem splitDot_apply (x : FVec Ideal S256x256 .f32) (t : FVec Ideal S256x256 .bf16) (f g : Fin 256 → Fin 256 → ℝ)
    (hx : ∀ a b, x (ix2 a b) = (f a b : EReal)) (ht : ∀ a b, t (ix2 a b) = (g a b : EReal)) (a b : Fin 256) :
    splitDot x t (ix2 a b) = ((∑ c, f a c * g c b : ℝ) : EReal) := by
  unfold splitDot
  rw [addf_apply, dotSq_apply (truncf .bf16 x bitsLt_bf16_f32) t f g (fun a b => hx a b) ht,
    dotSq_apply _ t (fun _ _ => 0) g (fun a b => ?_) ht, ← EReal.coe_add]
  · simp
  · rw [truncf_apply, subf_apply, extf_apply, truncf_apply, hx, ← EReal.coe_sub, sub_self]

include hkb hkeep hpk in
theorem weight_apply (a b : Fin 256) : weight p keep pk kb (ix2 a b) = (H.w (256 * i + a.val) (256 * j + b.val) : EReal) := by
  unfold weight
  refine (congrArg Ideal.exp (masked_apply hkeep _ _ a b)).trans ?_
  by_cases h : 256 * j + b.val < 256 * i + a.val
  · rw [if_pos h, H.w_of_lt h, addf_apply, addf_apply, logit_apply hp hkb, logKeep_apply hp hkeep hkb, subf_apply, spread_apply, subf_apply, hp.lt, hpk,
      splitDot_apply _ _ _ _ (logKeep_apply hp hkeep hkb) hp.upto, Head.sum_tri (H.lk (256 * i + a.val)) (256 * j) (b.val + 1) b.isLt,
      ← EReal.coe_add, ← EReal.coe_sub, ← EReal.coe_sub, ← EReal.coe_add, Ideal.exp_coe]
    congr 2
    unfold Head.pre
    rw [← add_assoc]
    ring
  · rw [if_neg h, H.w_of_le (not_lt.1 h), named_mask, Ideal.exp_bot, EReal.coe_zero]

include hkb hkeep hpk hvb in
theorem wgrad_apply (a b : Fin 256) : wgrad p keep pk kb vb (ix2 a b) = (H.g (256 * i + a.val) (256 * j + b.val) : EReal) := by
  unfold wgrad
  rw [mulf_apply, weight_apply hp hkeep hkb hpk, dotT_apply _ _ _ _ hp.d (fun b e => (truncf_apply vb _ _).trans (hvb b e)), ← EReal.coe_mul]
  rfl

include hkb hkeep hpk hpg hvb in
theorem dz_apply (a b : Fin 256) : dz p keep pk pg kb vb (ix2 a b) = (H.dz (256 * i + a.val) (256 * j + b.val) : EReal) := by
  have hg := wgrad_apply hp hkeep hkb hvb hpk
  have hl : exp (logKeep p keep kb) (ix2 a b) = ((Real.exp (H.lk (256 * i + a.val) (256 * j + b.val)) : ℝ) : EReal) :=
    (congrArg Ideal.exp (logKeep_apply hp hkeep hkb a b)).trans (Ideal.exp_coe _)
  unfold dz Head.dz
  rw [truncf_apply, mulf_apply, masked_apply hkeep, broadcast_apply]
  show _ * Ideal.ofBits .f32 0x3DB504F3#32 = _
  rw [word_scale, EReal.coe_mul, hp.sc]
  congr 1
  by_cases h : 256 * j + b.val < 256 * i + a.val
  · rw [if_pos h, if_pos h, subf_apply, mulf_apply, hl, hg, mulf_apply, addf_apply, spread_apply, hpg,
      dotSq_apply (truncf .bf16 (wgrad p keep pk kb vb) bitsLt_bf16_f32) _ _ _ (fun a b => hg a b) hp.before, subf_apply, hl, broadcast_apply,
      Head.sum_tri (H.g (256 * i + a.val)) (256 * j) b.val b.isLt.le]
    show _ - _ * (Ideal.ofBits .f32 0x3F800000#32 - _) = _
    rw [word_one, ← EReal.coe_mul, ← EReal.coe_add, ← EReal.coe_sub, ← EReal.coe_mul, ← EReal.coe_sub]
    congr 2
    unfold Head.preg
    rw [add_sub_cancel]
  · rw [if_neg h, if_neg h]; exact word_zero

include hkb hkeep hpk hpg hvb in
theorem dqAdd_apply (dq : FVec Ideal S256x128 .f32) (f : Fin 256 → Fin 128 → ℝ) (hdq : ∀ a e, dq (ix2 a e) = (f a e : EReal)) (a : Fin 256) (e : Fin 128) :
    dqAdd p keep pk pg kb vb dq (ix2 a e)
      = ((f a e + ∑ b : Fin 256, H.dz (256 * i + a.val) (256 * j + b.val) * H.k (256 * j + b.val) e : ℝ) : EReal) := by
  unfold dqAdd
  rw [addf_apply, hdq, dotPl_apply _ _ _ _ (dz_apply hp hkeep hkb hvb hpk hpg) (fun b e => (truncf_apply kb _ _).trans (hkb b e)), ← EReal.coe_add]

include hkb hkeep hpk hpg hvb in
theorem dkAdd_apply (old : Vec Ideal S256x128 .f32) (f : Fin 256 → Fin 128 → ℝ) (ho : ∀ a e, old (ix2 a e) = (f a e : EReal)) (b : Fin 256) (e : Fin 128) :
    dkAdd p keep pk pg kb vb old (ix2 b e)
      = ((f b e + ∑ a : Fin 256, H.dz (256 * i + a.val) (256 * j + b.val) * H.q (256 * i + a.val) e : ℝ) : EReal) := by
  unfold dkAdd
  rw [shapeCast_self, addf_apply, ho, dotL_apply _ _ _ _ (dz_apply hp hkeep hkb hvb hpk hpg) hp.q, ← EReal.coe_add]

include hkb hkeep hpk in
theorem dvAdd_apply (old : Vec Ideal S256x128 .f32) (f : Fin 256 → Fin 128 → ℝ) (ho : ∀ a e, old (ix2 a e) = (f a e : EReal)) (b : Fin 256) (e : Fin 128) :
    dvAdd p keep pk kb old (ix2 b e)
      = ((f b e + ∑ a : Fin 256, H.w (256 * i + a.val) (256 * j + b.val) * H.d (256 * i + a.val) e : ℝ) : EReal) := by
  unfold dvAdd
  rw [shapeCast_self, addf_apply, ho, dotL_apply (truncf .bf16 (weight p keep pk kb) bitsLt_bf16_f32) _ _ _ (fun a b => weight_apply hp hkeep hkb hpk a b) hp.d, ← EReal.coe_add]
end

end Cert.Val

end
-- ==== Proof.Val.State.lean ====
module

public import proofs.«01_k».proof.Proof.Bwd.Head
public import proofs.«01_k».proof.Proof.Val.Block
public import Idealize.ShloMosaic.Lib.WordCmp

/-! The state of the kernel along the key blocks of one query block, against the model. -/

@[expose] public section

set_option maxRecDepth 16384

noncomputable section

namespace Cert.Val

open Idealize.ShloMosaic Idealize.ShloMosaic.ValueIdx Idealize.ShloMosaic.WordCmp Cert.KernelIdeal Cert.KernelIdeal.Gen Cert.KernelIdeal.Bwd

/-! ## Strips -/

theorem strip_apply (X : Vec Ideal S4096x128 .f32) (j : Fin 16) (a : Fin 256) (e : Fin 128) (h : 256 * j.val + a.val < 4096) :
    strip X j (ix2 a e) = X (ix2 ⟨256 * j.val + a.val, h⟩ e) := by
  refine congrArg X (funext fun d => Fin.ext ?_)
  match d with
  | ⟨0, _⟩ => show 256 * j.val + 1 * a.val = _; rw [one_mul]
  | ⟨1, _⟩ => show 0 + 1 * e.val = _; rw [one_mul, zero_add]

theorem setStrip_in (X : Vec Ideal S4096x128 .f32) (j : Fin 16) (w : Vec Ideal S256x128 .f32) (r : Fin 4096) (e : Fin 128) (a : Fin 256)
    (h : r.val = 256 * j.val + a.val) : setStrip X j w (ix2 r e) = w (ix2 a e) := by
  have hr : r = ⟨256 * j.val + a.val, h ▸ r.isLt⟩ := Fin.ext h
  rw [hr, ← strip_apply (setStrip X j w) j a e, strip_setStrip_same]

theorem setStrip_out (X : Vec Ideal S4096x128 .f32) (j : Fin 16) (w : Vec Ideal S256x128 .f32) (r : Fin 4096) (e : Fin 128)
    (h : r.val < 256 * j.val ∨ 256 * j.val + 256 ≤ r.val) : setStrip X j w (ix2 r e) = X (ix2 r e) := by
  refine dif_neg fun hall => ?_
  have h0 : 256 * j.val ≤ r.val ∧ r.val < 256 * j.val + 256 := hall 0
  omega

/-! ## What a point brings -/

theorem true_word : ((BitVec.ofBool true).setWidth 32).toInt = 1 := by decide
theorem false_word : ((BitVec.ofBool false).setWidth 32).toInt = 0 := by decide

theorem upto_apply (b' b : Fin 256) : (k0_pay265 (F := Ideal)) (ix2 b' b) = (((if b'.val < b.val + 1 then 1 else 0 : ℝ)) : EReal) := by
  unfold k0_pay265
  dsimp only
  rw [truncf_apply, sitofp_apply, extui_apply]
  show ((((IntOp.cmpi .sle (iota .tc S256x256 32 [0] iota_S256x256_d0_w32 (ix2 b' b)) (iota .tc S256x256 32 [1] iota_S256x256_d1_w32 (ix2 b' b))).setWidth 32).toInt : ℝ) : EReal) = _
  rw [iota_single_apply, iota_single_apply, cmpi_sle_eq]
  show ((((BitVec.ofBool (decide ((BitVec.ofNat 32 b'.val).toInt ≤ (BitVec.ofNat 32 b.val).toInt))).setWidth 32).toInt : ℝ) : EReal) = _
  have h1 := b'.isLt
  have h2 := b.isLt
  rw [toInt_ofNat_of_lt (by show b'.val < 2 ^ 31; omega), toInt_ofNat_of_lt (by show b.val < 2 ^ 31; omega)]
  by_cases h : b'.val < b.val + 1
  · rw [if_pos h, decide_eq_true (by omega), true_word]; norm_num
  · rw [if_neg h, decide_eq_false (by omega), false_word]; norm_num

theorem before_apply (b' b : Fin 256) : (k0_pay266 (F := Ideal)) (ix2 b' b) = (((if b'.val < b.val then 1 else 0 : ℝ)) : EReal) := by
  unfold k0_pay266
  dsimp only
  rw [truncf_apply, sitofp_apply, extui_apply]
  show ((((IntOp.cmpi .slt (iota .tc S256x256 32 [0] iota_S256x256_d0_w32 (ix2 b' b)) (iota .tc S256x256 32 [1] iota_S256x256_d1_w32 (ix2 b' b))).setWidth 32).toInt : ℝ) : EReal) = _
  rw [iota_single_apply, iota_single_apply, cmpi_slt_eq]
  show ((((BitVec.ofBool (decide ((BitVec.ofNat 32 b'.val).toInt < (BitVec.ofNat 32 b.val).toInt))).setWidth 32).toInt : ℝ) : EReal) = _
  have h1 := b'.isLt
  have h2 := b.isLt
  rw [toInt_ofNat_of_lt (by show b'.val < 2 ^ 31; omega), toInt_ofNat_of_lt (by show b.val < 2 ^ 31; omega)]
  by_cases h : b'.val < b.val
  · rw [if_pos h, decide_eq_true (by omega), true_word]; norm_num
  · rw [if_neg h, decide_eq_false (by omega), false_word]; norm_num

theorem diag_apply (a b : Fin 256) : k0_pay267 (ix2 a b) = if b.val < a.val then 1#1 else 0#1 := by
  unfold k0_pay267
  dsimp only
  show IntOp.cmpi .slt (iota .tc S256x256 32 [1] iota_S256x256_d1_w32 (ix2 a b)) (iota .tc S256x256 32 [0] iota_S256x256_d0_w32 (ix2 a b)) = _
  rw [iota_single_apply, iota_single_apply, cmpi_slt_eq]
  show BitVec.ofBool (decide ((BitVec.ofNat 32 b.val).toInt < (BitVec.ofNat 32 a.val).toInt)) = _
  have h1 := a.isLt
  have h2 := b.isLt
  rw [toInt_ofNat_of_lt (by show b.val < 2 ^ 31; omega), toInt_ofNat_of_lt (by show a.val < 2 ^ 31; omega)]
  by_cases h : b.val < a.val
  · rw [if_pos h, decide_eq_true (by omega)]; rfl
  · rw [if_neg h, decide_eq_false (by omega)]; rfl

theorem word_neg_inf : Ideal.ofBits .f32 0xFF800000#32 = (⊥ : EReal) := by
  simp [Ideal.ofBits, Ideal.ieee]

/-- The largest entry of a row whose entries are equal. -/
theorem rowmax_apply (X : Vec Ideal S256x128 .f32) (a : Fin 256) (t : EReal) (h : ∀ e, X (ix2 a e) = t) :
    k0_pay264 (F := Ideal) X (ix2 a 0) = t := by
  unfold k0_pay264
  dsimp only
  refine (shapeCast_a_a1_apply _ shapeCasts_S256_S256x1 a 0).trans ?_
  rw [shapeCast_self]
  refine (Ideal.multiReduction_maximumf_single X _ reduces_S256x128_S256 _ _ (ix1 a)).trans ?_
  have e : (X ∘ reduces_S256x128_S256.lift (ix1 a)) = fun _ => t := by
    funext b
    refine Eq.trans (congrArg X ?_) (h b)
    funext d
    match d with
    | ⟨0, _⟩ => rfl
    | ⟨1, _⟩ => rfl
  rw [e]
  apply le_antisymm
  · rw [Finset.fold_max_le]
    refine ⟨?_, fun _ _ => le_rfl⟩
    show Ideal.ofBits .f32 0xFF800000#32 ≤ t
    rw [word_neg_inf]; exact bot_le
  · rw [Finset.le_fold_max]
    exact Or.inr ⟨(0 : Fin 128), Finset.mem_univ _, le_rfl⟩

/-- The point's queries, output gradients and row totals are the head's. -/
theorem par_is {H : Head} {i : ℕ} {X2 X5 X6 : Vec Ideal S256x128 .f32} (h2 : ∀ a e, X2 (ix2 a e) = (H.q (256 * i + a.val) e : EReal))
    (h5 : ∀ a e, X5 (ix2 a e) = (H.tot (256 * i + a.val) : EReal)) (h6 : ∀ a e, X6 (ix2 a e) = (H.d (256 * i + a.val) e : EReal))
    (hsc : H.sc = scale) : ParIs H i (par X2 X5 X6) := by
  refine ⟨fun a e => ?_, fun a e => ?_, fun a => ?_, fun b' b => ?_, fun b' b => ?_, hsc⟩
  · exact (truncf_apply (φ := .f32) X2 bitsLt_bf16_f32 (ix2 a e)).trans (h2 a e)
  · exact (truncf_apply (φ := .f32) X6 bitsLt_bf16_f32 (ix2 a e)).trans (h6 a e)
  · dsimp only [par]
    rw [rowmax_apply X5 a _ (h5 a)]
  · exact upto_apply b' b
  · exact before_apply b' b

/-! ## Block by block -/

/-- The state of query block `i` after `n` key blocks. -/
structure StIs (H : Head) (i n : ℕ) (s : St Ideal) : Prop where
  pk : ∀ a, s.pk (ix2 a 0) = (H.pre (256 * i + a.val) (256 * n) : EReal)
  pg : ∀ a, s.pg (ix2 a 0) = (H.preg (256 * i + a.val) (256 * n) : EReal)
  dq : ∀ a e, s.dq (ix2 a e) = (H.dq (256 * n) (256 * i + a.val) e : EReal)
  dk : ∀ (r : Fin 4096) e, s.dk (ix2 r e) = (H.dk (256 * (if r.val < 256 * n then i + 1 else i)) r.val e : EReal)
  dv : ∀ (r : Fin 4096) e, s.dv (ix2 r e) = (H.dv (256 * (if r.val < 256 * n then i + 1 else i)) r.val e : EReal)

theorem step_is {H : Head} {i n : ℕ} {p : Par Ideal} (hp : ParIs H i p) {K V : Vec Ideal S4096x128 .f32}
    (hK : ∀ (r : Fin 4096) e, K (ix2 r e) = (H.k r.val e : EReal)) (hV : ∀ (r : Fin 4096) e, V (ix2 r e) = (H.v r.val e : EReal))
    (hn : n < 16) {keep : Option (IVec S256x256 1)} (hkeep : KeepIs i n keep) {s : St Ideal} (hs : StIs H i n s) :
    StIs H i (n + 1) (step p K V keep s (blk n)) := by
  have hb : (blk n).val = n := blk_val hn
  have inb : ∀ a : Fin 256, 256 * (blk n).val + a.val < 4096 := fun a => by have := a.isLt; omega
  have hkb : ∀ b e, strip K (blk n) (ix2 b e) = (H.k (256 * n + b.val) e : EReal) := fun b e => by
    rw [strip_apply K _ _ _ (inb b), hK]; simp only [hb]
  have hvb : ∀ b e, strip V (blk n) (ix2 b e) = (H.v (256 * n + b.val) e : EReal) := fun b e => by
    rw [strip_apply V _ _ _ (inb b), hV]; simp only [hb]
  have hdk : ∀ b e, strip s.dk (blk n) (ix2 b e) = (H.dk (256 * i) (256 * n + b.val) e : EReal) := fun b e => by
    rw [strip_apply s.dk _ _ _ (inb b), hs.dk]; simp only [hb, if_neg (Nat.not_lt.2 (Nat.le_add_right (256 * n) b.val))]
  have hdv : ∀ b e, strip s.dv (blk n) (ix2 b e) = (H.dv (256 * i) (256 * n + b.val) e : EReal) := fun b e => by
    rw [strip_apply s.dv _ _ _ (inb b), hs.dv]; simp only [hb, if_neg (Nat.not_lt.2 (Nat.le_add_right (256 * n) b.val))]
  refine ⟨fun a => ?_, fun a => ?_, fun a e => ?_, fun r e => ?_, fun r e => ?_⟩
  · rw [H.pre_block]; exact rowAdd_apply _ _ _ _ hs.pk (logKeep_apply hp hkeep hkb) a
  · rw [H.preg_block]; exact rowAdd_apply _ _ _ _ hs.pg (wgrad_apply hp hkeep hkb hvb hs.pk) a
  · rw [H.dq_block]; exact dqAdd_apply hp hkeep hkb hvb hs.pk hs.pg _ _ hs.dq a e
  · show setStrip s.dk (blk n) _ (ix2 r e) = _
    by_cases h1 : r.val < 256 * n
    · rw [setStrip_out _ _ _ _ _ (by omega), hs.dk, if_pos h1, if_pos (by omega)]
    by_cases h2 : r.val < 256 * (n + 1)
    · have hr : r.val = 256 * n + (⟨r.val - 256 * n, by omega⟩ : Fin 256).val := by show r.val = 256 * n + (r.val - 256 * n); omega
      rw [setStrip_in _ _ _ r e ⟨r.val - 256 * n, by omega⟩ (by rw [hb]; exact hr), if_pos h2, H.dk_block]
      refine (dkAdd_apply hp hkeep hkb hvb hs.pk hs.pg _ _ hdk _ e).trans ?_
      rw [← hr]
    · rw [setStrip_out _ _ _ _ _ (by omega), hs.dk, if_neg h1, if_neg h2]
  · show setStrip s.dv (blk n) _ (ix2 r e) = _
    by_cases h1 : r.val < 256 * n
    · rw [setStrip_out _ _ _ _ _ (by omega), hs.dv, if_pos h1, if_pos (by omega)]
    by_cases h2 : r.val < 256 * (n + 1)
    · have hr : r.val = 256 * n + (⟨r.val - 256 * n, by omega⟩ : Fin 256).val := by show r.val = 256 * n + (r.val - 256 * n); omega
      rw [setStrip_in _ _ _ r e ⟨r.val - 256 * n, by omega⟩ (by rw [hb]; exact hr), if_pos h2, H.dv_block]
      refine (dvAdd_apply hp hkeep hkb hs.pk _ _ hdv _ e).trans ?_
      rw [← hr]
    · rw [setStrip_out _ _ _ _ _ (by omega), hs.dv, if_neg h1, if_neg h2]

theorem run_is {H : Head} {i : ℕ} {p : Par Ideal} (hp : ParIs H i p) {K V : Vec Ideal S4096x128 .f32}
    (hK : ∀ (r : Fin 4096) e, K (ix2 r e) = (H.k r.val e : EReal)) (hV : ∀ (r : Fin 4096) e, V (ix2 r e) = (H.v r.val e : EReal))
    (hi : i < 16) {s : St Ideal} (hs : StIs H i 0 s) (n : ℕ) (hn : n ≤ i) : StIs H i n (run p K V s n) := by
  induction n with
  | zero => exact hs
  | succ n ih => exact step_is hp hK hV (by omega) (keep := none) (show n < i by omega) (ih (by omega))

theorem zero_col (a : Fin 256) : (k0_pay268 (F := Ideal)) (ix2 a 0) = ((0 : ℝ) : EReal) := word_zero
theorem zero_blk (a : Fin 256) (e : Fin 128) : (k0_pay269 (F := Ideal)) (ix2 a e) = ((0 : ℝ) : EReal) := word_zero
theorem zero_dk (r : Fin 4096) (e : Fin 128) : (k0_pay260 (F := Ideal)) (ix2 r e) = ((0 : ℝ) : EReal) := by
  unfold k0_pay260; rw [shapeCast_self]; exact word_zero
theorem zero_dv (r : Fin 4096) (e : Fin 128) : (k0_pay261 (F := Ideal)) (ix2 r e) = ((0 : ℝ) : EReal) := by
  unfold k0_pay261; rw [shapeCast_self]; exact word_zero

/-- One grid point: from dk and dv over the queries before block `i` to dk and dv over those up to it, and the
block's dq. -/
theorem fin_is {H : Head} {c : grid0.Coords} {i : ℕ} (hc : (c 1).val = i) (hsc : H.sc = scale)
    {X2 X5 X6 : Vec Ideal S256x128 .f32} {K V dk dv : Vec Ideal S4096x128 .f32}
    (h2 : ∀ a e, X2 (ix2 a e) = (H.q (256 * i + a.val) e : EReal))
    (hK : ∀ (r : Fin 4096) e, K (ix2 r e) = (H.k r.val e : EReal)) (hV : ∀ (r : Fin 4096) e, V (ix2 r e) = (H.v r.val e : EReal))
    (h5 : ∀ a e, X5 (ix2 a e) = (H.tot (256 * i + a.val) : EReal)) (h6 : ∀ a e, X6 (ix2 a e) = (H.d (256 * i + a.val) e : EReal))
    (hdk : i ≠ 0 → ∀ (r : Fin 4096) e, dk (ix2 r e) = (H.dk (256 * i) r.val e : EReal))
    (hdv : i ≠ 0 → ∀ (r : Fin 4096) e, dv (ix2 r e) = (H.dv (256 * i) r.val e : EReal)) :
    (∀ a e, (fin c X2 K V X5 X6 dk dv).dq (ix2 a e) = (H.dq 4096 (256 * i + a.val) e : EReal))
    ∧ (∀ (r : Fin 4096) e, (fin c X2 K V X5 X6 dk dv).dk (ix2 r e) = (H.dk (256 * (i + 1)) r.val e : EReal))
    ∧ (∀ (r : Fin 4096) e, (fin c X2 K V X5 X6 dk dv).dv (ix2 r e) = (H.dv (256 * (i + 1)) r.val e : EReal)) := by
  have hi : i < 16 := hc ▸ (c 1).isLt
  have hp := par_is h2 h5 h6 hsc
  have hs : StIs H i 0 (start c dk dv) := by
    refine ⟨fun a => ?_, fun a => ?_, fun a e => ?_, fun r e => ?_, fun r e => ?_⟩
    · exact (zero_col a).trans (by simp [Head.pre])
    · exact (zero_col a).trans (by simp [Head.preg])
    · exact (zero_blk a e).trans (by simp [Head.dq])
    · rw [if_neg (by omega)]
      show (if (c 1).val = 0 then (k0_pay260 (F := Ideal)) else dk : Vec Ideal S4096x128 .f32) (ix2 r e) = _
      by_cases h0 : i = 0
      · rw [if_pos (hc.trans h0), zero_dk, h0]; simp [Head.dk]
      · rw [if_neg (hc ▸ h0), hdk h0]
    · rw [if_neg (by omega)]
      show (if (c 1).val = 0 then (k0_pay261 (F := Ideal)) else dv : Vec Ideal S4096x128 .f32) (ix2 r e) = _
      by_cases h0 : i = 0
      · rw [if_pos (hc.trans h0), zero_dv, h0]; simp [Head.dv]
      · rw [if_neg (hc ▸ h0), hdv h0]
  have hr := step_is hp hK hV hi (keep := some k0_pay267) ⟨rfl, diag_apply⟩ (run_is hp hK hV hi hs i le_rfl)
  have hf : fin c X2 K V X5 X6 dk dv = step (par X2 X5 X6) K V (some k0_pay267) (run (par X2 X5 X6) K V (start c dk dv) i) (blk i) := by
    unfold fin; rw [hc]
  rw [hf]
  refine ⟨fun a e => ?_, fun r e => ?_, fun r e => ?_⟩
  · rw [hr.dq, H.dq_full e (by have := a.isLt; omega) (by omega)]
  · rw [hr.dk]
    by_cases h : r.val < 256 * (i + 1)
    · rw [if_pos h]
    · rw [if_neg h, H.dk_block]
      refine congrArg _ (Eq.symm ?_)
      rw [add_eq_left]
      exact Finset.sum_eq_zero fun a _ => by rw [H.dz_of_le (by have := a.isLt; omega), zero_mul]
  · rw [hr.dv]
    by_cases h : r.val < 256 * (i + 1)
    · rw [if_pos h]
    · rw [if_neg h, H.dv_block]
      refine congrArg _ (Eq.symm ?_)
      rw [add_eq_left]
      exact Finset.sum_eq_zero fun a _ => by rw [H.w_of_le (by have := a.isLt; omega), zero_mul]

end Cert.Val

end
-- ==== Proof.Val.Window.lean ====
module

public import proofs.«01_k».proof.Proof.Val.Model
public import Idealize.ShloMosaic.Lib.ValueIdx
public import Idealize.ShloMosaic.Lib.IdealHost
public import Idealize.ShloMosaic.PureOps.IdealRules

/-! The host's running sums along the last axis of a stack of matrices, over the real numbers. -/

@[expose] public section

set_option maxRecDepth 16384

noncomputable section

namespace Cert.Val

open Finset Idealize.ShloMosaic Idealize.ShloMosaic.ValueIdx

theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- A window along the last axis only. -/
def lastIdx {n : ℕ} : Fin n ≃ (⟨3, ![1, 1, n]⟩ : Shape).Idx where
  toFun w := ix3 0 0 w
  invFun k := k 2
  left_inv _ := rfl
  right_inv k := by
    rw [eq_ix3 k]
    have h0 : k 0 = (0 : Fin 1) := Subsingleton.elim (α := Fin 1) _ _
    have h1 : k 1 = (0 : Fin 1) := Subsingleton.elim (α := Fin 1) _ _
    rw [h0, h1]
    rfl

theorem reduceWindow_last {b m n : ℕ} (lo hi : Fin 3 → ℕ) (x : (⟨3, ![b, m, n]⟩ : Shape).Idx → EReal) (v : EReal)
    (h : (⟨3, ![b, m, n]⟩ : Shape).ReduceWindows ![1, 1, n] ![1, 1, 1] lo hi ⟨3, ![b, m, n]⟩) (p : Fin b) (i : Fin m) (j : Fin n)
    (h0 : lo 0 = 0) (h1 : lo 1 = 0) :
    Ideal.hostReduceWindowAdd ![1, 1, n] ![1, 1, 1] lo hi h x v (ix3 p i j)
      = v + ∑ w : Fin n, if hin : lo 2 ≤ j.val + w.val ∧ j.val + w.val - lo 2 < n then x (ix3 p i ⟨j.val + w.val - lo 2, hin.2⟩) else v := by
  unfold Ideal.hostReduceWindowAdd Host.reduceWindow
  dsimp only
  rw [foldl_add, ← List.ofFn_eq_map, List.sum_ofFn]
  refine congrArg (v + ·) ?_
  rw [← Equiv.sum_comp ((lastIdx (n := n)).trans (Shape.rowMajor ⟨3, ![1, 1, n]⟩))]
  refine Finset.sum_congr rfl fun w _ => ?_
  simp only [Equiv.trans_apply, Equiv.symm_apply_apply]
  by_cases hin : lo 2 ≤ j.val + w.val ∧ j.val + w.val - lo 2 < n
  · rw [dif_pos hin, dif_pos]
    · refine congrArg x (funext fun a => Fin.ext ?_)
      match a with
      | ⟨0, _⟩ => show p.val * 1 + 0 - lo 0 = p.val; omega
      | ⟨1, _⟩ => show i.val * 1 + 0 - lo 1 = i.val; omega
      | ⟨2, _⟩ => show j.val * 1 + w.val - lo 2 = j.val + w.val - lo 2; omega
    · intro a
      match a with
      | ⟨0, _⟩ => exact ⟨by show lo 0 ≤ p.val * 1 + 0; omega, by show p.val * 1 + 0 - lo 0 < b; omega⟩
      | ⟨1, _⟩ => exact ⟨by show lo 1 ≤ i.val * 1 + 0; omega, by show i.val * 1 + 0 - lo 1 < m; omega⟩
      | ⟨2, _⟩ => exact ⟨by show lo 2 ≤ j.val * 1 + w.val; omega, by show j.val * 1 + w.val - lo 2 < n; omega⟩
  · rw [dif_neg hin, dif_neg]
    intro H
    have := H 2
    have e : (j.val * 1 + w.val) = j.val + w.val := by omega
    exact hin (e ▸ this)

theorem reduceWindowAdd_last {b m n : ℕ} {u : Shape} (lo hi : Fin 3 → ℕ) (x : FVec Ideal ⟨3, ![b, m, n]⟩ .f32) (init : u.Idx → Ideal .f32)
    (h : (⟨3, ![b, m, n]⟩ : Shape).ReduceWindows ![1, 1, n] ![1, 1, 1] lo hi ⟨3, ![b, m, n]⟩) (hu : 0 < u.numel) (p : Fin b) (i : Fin m) (j : Fin n)
    (h0 : lo 0 = 0) (h1 : lo 1 = 0) (v : EReal) (hv : init (Shape.Idx.first hu) = v) :
    Host.reduceWindowAdd ![1, 1, n] ![1, 1, 1] lo hi x init h hu (ix3 p i j)
      = v + ∑ w : Fin n, if hin : lo 2 ≤ j.val + w.val ∧ j.val + w.val - lo 2 < n then x (ix3 p i ⟨j.val + w.val - lo 2, hin.2⟩) else v :=
  hv ▸ reduceWindow_last lo hi x (init (Shape.Idx.first hu)) h p i j h0 h1

/-- The sum from an entry to the end of its row. -/
theorem sumFrom {n : ℕ} (f : ℕ → ℝ) (j : ℕ) (hj : j < n) (X : Fin n → EReal) (hX : ∀ k, X k = (f k.val : EReal)) :
    ((0 : ℝ) : EReal) + (∑ w : Fin n, if hin : 0 ≤ j + w.val ∧ j + w.val - 0 < n then X ⟨j + w.val - 0, hin.2⟩ else ((0 : ℝ) : EReal))
      = ((∑ k ∈ range n, f k - ∑ k ∈ range j, f k : ℝ) : EReal) := by
  have e : ∀ w : Fin n, (if hin : 0 ≤ j + w.val ∧ j + w.val - 0 < n then X ⟨j + w.val - 0, hin.2⟩ else ((0 : ℝ) : EReal))
      = ((if j + w.val < n then f (j + w.val) else 0 : ℝ) : EReal) := fun w => by
    by_cases h : j + w.val < n
    · rw [dif_pos ⟨Nat.zero_le _, h⟩, if_pos h, hX]; rfl
    · rw [dif_neg (fun H => h H.2), if_neg h]
  simp only [e]
  rw [← coe_sum, ← EReal.coe_add, zero_add]
  refine congrArg _ ?_
  rw [← sum_range (fun w => if j + w < n then f (j + w) else 0)]
  have e2 : range n = range (j + (n - j)) := by congr 1; omega
  have e3 : ∑ k ∈ range n, f k = ∑ k ∈ range j, f k + ∑ w ∈ range (n - j), f (j + w) := by rw [e2, sum_range_add]
  rw [e3, add_sub_cancel_left, ← sum_filter]
  congr 1
  ext w
  simp only [mem_filter, mem_range]
  omega

/-- The sum of a row up to an entry. -/
theorem sumTo {n : ℕ} (f : ℕ → ℝ) (j : ℕ) (hj : j < n) (X : Fin n → EReal) (hX : ∀ k, X k = (f k.val : EReal)) (L : ℕ) (hL : L + 1 = n) :
    ((0 : ℝ) : EReal) + (∑ w : Fin n, if hin : L ≤ j + w.val ∧ j + w.val - L < n then X ⟨j + w.val - L, hin.2⟩ else ((0 : ℝ) : EReal))
      = ((∑ k ∈ range (j + 1), f k : ℝ) : EReal) := by
  have e : ∀ w : Fin n, (if hin : L ≤ j + w.val ∧ j + w.val - L < n then X ⟨j + w.val - L, hin.2⟩ else ((0 : ℝ) : EReal))
      = ((if L ≤ j + w.val then f (j + w.val - L) else 0 : ℝ) : EReal) := fun w => by
    by_cases h : L ≤ j + w.val
    · rw [dif_pos ⟨h, by have := w.isLt; omega⟩, if_pos h, hX]
    · rw [dif_neg (fun H => h H.1), if_neg h]
  simp only [e]
  rw [← coe_sum, ← EReal.coe_add, zero_add]
  refine congrArg _ ?_
  rw [← sum_range (fun w => if L ≤ j + w then f (j + w - L) else 0), ← sum_filter]
  refine sum_nbij' (fun w => j + w - L) (fun k => k + L - j) ?_ ?_ ?_ ?_ ?_ <;> intro w hw <;> simp only [mem_filter, mem_range] at hw ⊢ <;> omega

end Cert.Val

end
-- ==== Proof.Val.Host.lean ====
module

public import proofs.«01_k».proof.Proof.Gen.ReferenceIdeal
public import proofs.«01_k».proof.Proof.Val.Block
public import proofs.«01_k».proof.Proof.Val.Window
public import Idealize.ShloMosaic.Lib.ValueLayout
public import Idealize.ShloMosaic.Lib.WordCmp

/-! The host's operations on whole arrays, element by element, when the arrays hold real numbers: the parts that
the reference's gradients and the kernel's row totals are made of. -/

@[expose] public section

set_option maxRecDepth 16384

noncomputable section

namespace Cert.Val.Host

open Idealize.ShloMosaic Idealize.ShloMosaic.ValueIdx Idealize.ShloMosaic.WordCmp Cert.ReferenceIdeal Cert.ReferenceIdeal.Gen

section Terms

variable {F : FTy → Type} [FloatOps F]

/-! ## The parts -/

def qs (P : FVec F S4096x6144 .f32) : FVec F S4096x8x128 .f32 :=
  shapeCast _ (extractStridedSlice S4096x1024 ![0, 0] P slices_S4096x6144_S4096x1024_0_0) shapeCasts_S4096x1024_S4096x8x128
def ks (P : FVec F S4096x6144 .f32) : FVec F S4096x8x128 .f32 :=
  shapeCast _ (extractStridedSlice S4096x1024 ![0, 1024] P slices_S4096x6144_S4096x1024_0_1024) shapeCasts_S4096x1024_S4096x8x128
def vs (P : FVec F S4096x6144 .f32) : FVec F S4096x8x128 .f32 :=
  shapeCast _ (extractStridedSlice S4096x1024 ![0, 2048] P slices_S4096x6144_S4096x1024_0_2048) shapeCasts_S4096x1024_S4096x8x128
/-- The output's gradient with the heads first and the rows last. -/
def dsT (D : FVec F S4096x1024 .f32) : FVec F S8x128x4096 .f32 :=
  transpose S8x128x4096 [1, 2, 0] (shapeCast _ D shapeCasts_S4096x1024_S4096x8x128) transposes_S4096x8x128_S8x128x4096_1_2_0

/-- The pairs of a query and an earlier key. -/
def earlier : IVec S8x4096x4096 1 :=
  broadcastInDim S8x4096x4096 ![1, 2] bcast_S4096x4096_S8x4096x4096_1_2
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

def splat (w : BitVec 32) : FVec F S8x4096x4096 .f32 := broadcastInDim S8x4096x4096 ![] bcast_S_S8x4096x4096 (constant S_ .f32 w)
def splatId (w : BitVec 32) : FVec F S8x4096x4096 .f32 := broadcastInDim S8x4096x4096 ![] bcast_S_S8x4096x4096 (id (constant S_ .f32 w))

/-- The softplus as the host writes it. -/
def softplus (x : FVec F S8x4096x4096 .f32) : FVec F S8x4096x4096 .f32 :=
  select (cmpf .une (subf x (splat 0x00000000#32)) (subf x (splat 0x00000000#32))) (addf x (splat 0x00000000#32))
    (addf (maximumf x (splat 0x00000000#32)) (Host.log1p (Host.exp (Host.negf (Host.absf (subf x (splat 0x00000000#32)))))))

/-- An array whose infinite entries are made zero. -/
def tame (x : FVec F S8x4096x4096 .f32) : FVec F S8x4096x4096 .f32 :=
  select (cmpf .oeq x (splat 0x7F800000#32)) (splat 0x00000000#32) x

def logits (P : FVec F S4096x6144 .f32) : FVec F S8x4096x4096 .f32 :=
  mulf (Host.dotGeneral dot_S4096x8x128_S4096x8x128_S8x4096x4096_2_2_0_0_1_1 none (qs P) (ks P)) (splat 0x3DB504F3#32)

def logKeeps (P : FVec F S4096x6144 .f32) : FVec F S8x4096x4096 .f32 :=
  select earlier (Host.negf (softplus (Host.negf (Host.negf (logits P))))) (splatId 0x00000000#32)

end Terms

/-! ## Elements -/

/-- The heads of two arrays of numbers. -/
def head (p d : ℕ → ℕ → ℝ) (h : ℕ) : Head where
  q i e := p i (128 * h + e.val)
  k i e := p i (1024 + (128 * h + e.val))
  v i e := p i (2048 + (128 * h + e.val))
  d i e := d i (128 * h + e.val)
  sc := scale

section Elements

variable {p d : ℕ → ℕ → ℝ} {P : FVec Ideal S4096x6144 .f32} {D : FVec Ideal S4096x1024 .f32}

/-- A row cut into heads. -/
theorem cut_apply {α : Type} (x : S4096x1024.Idx → α) (i : Fin 4096) (h : Fin 8) (e : Fin 128) :
    shapeCast S4096x8x128 x shapeCasts_S4096x1024_S4096x8x128 (ix3 i h e)
      = x (ix2 i ⟨128 * h.val + e.val, by have := h.isLt; have := e.isLt; omega⟩) :=
  shapeCast_apply x _ _ _ (by
    rw [Shape.rowMajor_val_two, Shape.rowMajor_val_three]
    show i.val * 1024 + (128 * h.val + e.val) = (i.val * 8 + h.val) * 128 + e.val
    omega)

/-- Heads joined into a row. -/
theorem join_apply {α : Type} (x : S4096x8x128.Idx → α) (i : Fin 4096) (h : Fin 8) (e : Fin 128) (c : Fin 1024) (hc : c.val = 128 * h.val + e.val) :
    shapeCast S4096x1024 x shapeCasts_S4096x8x128_S4096x1024 (ix2 i c) = x (ix3 i h e) :=
  shapeCast_apply x _ _ _ (by
    rw [Shape.rowMajor_val_two, Shape.rowMajor_val_three]
    show (i.val * 8 + h.val) * 128 + e.val = i.val * 1024 + c.val
    omega)

section
variable (hP : ∀ i j, P (ix2 i j) = (p i.val j.val : EReal))
include hP

theorem qs_apply (i : Fin 4096) (h : Fin 8) (e : Fin 128) : qs P (ix3 i h e) = ((head p d h.val).q i.val e : EReal) := by
  unfold qs
  rw [cut_apply, slice2_axis1_apply 0 P _ i _ ⟨128 * h.val + e.val, by have := h.isLt; have := e.isLt; omega⟩ (by simp), hP]
  rfl

theorem ks_apply (i : Fin 4096) (h : Fin 8) (e : Fin 128) : ks P (ix3 i h e) = ((head p d h.val).k i.val e : EReal) := by
  unfold ks
  rw [cut_apply, slice2_axis1_apply 1024 P _ i _ ⟨1024 + (128 * h.val + e.val), by have := h.isLt; have := e.isLt; omega⟩ rfl, hP]
  rfl

theorem vs_apply (i : Fin 4096) (h : Fin 8) (e : Fin 128) : vs P (ix3 i h e) = ((head p d h.val).v i.val e : EReal) := by
  unfold vs
  rw [cut_apply, slice2_axis1_apply 2048 P _ i _ ⟨2048 + (128 * h.val + e.val), by have := h.isLt; have := e.isLt; omega⟩ rfl, hP]
  rfl

end

theorem dsT_apply (hD : ∀ i j, D (ix2 i j) = (d i.val j.val : EReal)) (h : Fin 8) (e : Fin 128) (i : Fin 4096) :
    dsT D (ix3 h e i) = ((head p d h.val).d i.val e : EReal) := by
  unfold dsT
  rw [transpose_apply _ _ _ _ (ix3 i h e) (fun c => match c with | ⟨0, _⟩ => rfl | ⟨1, _⟩ => rfl | ⟨2, _⟩ => rfl), cut_apply, hD]
  rfl

theorem earlier_apply (h : Fin 8) (i j : Fin 4096) : earlier (ix3 h i j) = if j.val < i.val then 1#1 else 0#1 := by
  unfold earlier
  rw [broadcastInDim_apply _ _ _ _ (ix2 i j) (fun c => match c with | ⟨0, _⟩ => rfl | ⟨1, _⟩ => rfl)]
  show IntOp.cmpi .slt _ _ = _
  rw [broadcastInDim_apply _ _ _ _ (ix2 0 j) (fun c => match c with | ⟨0, _⟩ => rfl | ⟨1, _⟩ => rfl),
    broadcastInDim_apply _ _ _ _ (ix1 j) (fun c => match c with | ⟨0, _⟩ => rfl),
    broadcastInDim_apply _ _ _ _ (ix2 i 0) (fun c => match c with | ⟨0, _⟩ => rfl | ⟨1, _⟩ => rfl),
    broadcastInDim_apply _ _ _ _ (ix1 i) (fun c => match c with | ⟨0, _⟩ => rfl), iotaInDim_apply, iotaInDim_apply, cmpi_slt_eq]
  show BitVec.ofBool (decide ((BitVec.ofNat 32 j.val).toInt < (BitVec.ofNat 32 i.val).toInt)) = _
  have h1 := i.isLt
  have h2 := j.isLt
  rw [toInt_ofNat_of_lt (by show j.val < 2 ^ 31; omega), toInt_ofNat_of_lt (by show i.val < 2 ^ 31; omega)]
  by_cases hij : j.val < i.val
  · rw [if_pos hij, decide_eq_true (by omega)]; rfl
  · rw [if_neg hij, decide_eq_false (by omega)]; rfl

theorem select_earlier (x y : FVec Ideal S8x4096x4096 .f32) (h : Fin 8) (i j : Fin 4096) :
    select earlier x y (ix3 h i j) = if j.val < i.val then x (ix3 h i j) else y (ix3 h i j) := by
  rw [select_apply, earlier_apply]
  split
  · exact ValueIdx.select_one _ _
  · exact ValueIdx.select_zero _ _

theorem splat_apply (w : BitVec 32) (x : S8x4096x4096.Idx) : splat (F := Ideal) w x = Ideal.ofBits .f32 w := by
  unfold splat; rw [broadcastInDim_scalar_apply]; rfl

theorem splatId_apply (w : BitVec 32) (x : S8x4096x4096.Idx) : splatId (F := Ideal) w x = Ideal.ofBits .f32 w := by
  unfold splatId; rw [broadcastInDim_scalar_apply]; rfl

theorem word_inf : Ideal.ofBits .f32 0x7F800000#32 = (⊤ : EReal) := by simp [Ideal.ofBits, Ideal.ieee]

theorem softplus_apply (x : FVec Ideal S8x4096x4096 .f32) (r : ℝ) (a : S8x4096x4096.Idx) (h : x a = (r : EReal)) :
    softplus x a = ((sp r : ℝ) : EReal) := by
  unfold softplus
  rw [select_apply]
  have hc : cmpf (F := Ideal) .une (subf x (splat 0x00000000#32)) (subf x (splat 0x00000000#32)) a = 0#1 := by
    show BitVec.ofBool (decide (_ ≠ _)) = _
    rw [decide_eq_false (fun H => H rfl)]; rfl
  rw [hc, ValueIdx.select_zero]
  show max (x a) (splat (F := Ideal) 0x00000000#32 a) + Ideal.log1p (Ideal.exp (-(max (x a - splat (F := Ideal) 0x00000000#32 a) (-(x a - splat (F := Ideal) 0x00000000#32 a))))) = _
  rw [splat_apply, h, word_zero, ← EReal.coe_sub, ← EReal.coe_neg, coe_max, coe_max, ← EReal.coe_neg, Ideal.exp_coe]
  show _ + Ideal.log (1 + _) = _
  rw [← EReal.coe_one, ← EReal.coe_add, Ideal.log_coe, if_neg (not_le.2 (one_add_exp_pos _)), ← EReal.coe_add, ← max_add_log r, sub_zero, abs_eq_max_neg]

theorem tame_apply (x : FVec Ideal S8x4096x4096 .f32) (r : ℝ) (a : S8x4096x4096.Idx) (h : x a = (r : EReal)) : tame x a = (r : EReal) := by
  unfold tame
  rw [select_apply]
  have hc : cmpf (F := Ideal) .oeq x (splat 0x7F800000#32) a = 0#1 := by
    show BitVec.ofBool (decide (x a = splat (F := Ideal) 0x7F800000#32 a)) = _
    rw [splat_apply, word_inf, h, decide_eq_false (EReal.coe_ne_top r)]; rfl
  rw [hc, ValueIdx.select_zero, h]

theorem dotZ_apply (l r : FVec Ideal S4096x8x128 .f32) (f g : Fin 4096 → Fin 8 → Fin 128 → ℝ) (hl : ∀ i h e, l (ix3 i h e) = (f i h e : EReal))
    (hr : ∀ i h e, r (ix3 i h e) = (g i h e : EReal)) (h : Fin 8) (i j : Fin 4096) :
    Host.dotGeneral dot_S4096x8x128_S4096x8x128_S8x4096x4096_2_2_0_0_1_1 none l r (ix3 h i j) = ((∑ e, f i h e * g j h e : ℝ) : EReal) := by
  show FloatOps.dotGeneral _ none _ l r (ix3 h i j) = _
  rw [Ideal.dotGeneral_apply, ← Equiv.sum_comp (contrEquiv1 dot_S4096x8x128_S4096x8x128_S8x4096x4096_2_2_0_0_1_1 128 rfl rfl).symm, coe_sum]
  refine Finset.sum_congr rfl fun k _ => ?_
  have hk := contrEquiv1_symm_val dot_S4096x8x128_S4096x8x128_S8x4096x4096_2_2_0_0_1_1 128 rfl rfl k
  rw [EReal.coe_mul, ← hl, ← hr]
  refine congrArg₂ (· * ·) (congrArg l (funext fun a => Fin.ext ?_)) (congrArg r (funext fun a => Fin.ext ?_)) <;>
    match a with
    | ⟨0, _⟩ => rfl
    | ⟨1, _⟩ => rfl
    | ⟨2, _⟩ => exact hk

theorem dotA_apply (l : FVec Ideal S8x128x4096 .f32) (r : FVec Ideal S4096x8x128 .f32) (f g : Fin 4096 → Fin 8 → Fin 128 → ℝ)
    (hl : ∀ h e i, l (ix3 h e i) = (f i h e : EReal)) (hr : ∀ i h e, r (ix3 i h e) = (g i h e : EReal)) (h : Fin 8) (i j : Fin 4096) :
    Host.dotGeneral dot_S8x128x4096_S4096x8x128_S8x4096x4096_1_2_2_0_0_1 none l r (ix3 h i j) = ((∑ e, f i h e * g j h e : ℝ) : EReal) := by
  show FloatOps.dotGeneral _ none _ l r (ix3 h i j) = _
  rw [Ideal.dotGeneral_apply, ← Equiv.sum_comp (contrEquiv1 dot_S8x128x4096_S4096x8x128_S8x4096x4096_1_2_2_0_0_1 128 rfl rfl).symm, coe_sum]
  refine Finset.sum_congr rfl fun k _ => ?_
  have hk := contrEquiv1_symm_val dot_S8x128x4096_S4096x8x128_S8x4096x4096_1_2_2_0_0_1 128 rfl rfl k
  rw [EReal.coe_mul, ← hl, ← hr]
  refine congrArg₂ (· * ·) (congrArg l (funext fun a => Fin.ext ?_)) (congrArg r (funext fun a => Fin.ext ?_))
  · match a with
    | ⟨0, _⟩ => rfl
    | ⟨1, _⟩ => exact hk
    | ⟨2, _⟩ => rfl
  · match a with
    | ⟨0, _⟩ => rfl
    | ⟨1, _⟩ => rfl
    | ⟨2, _⟩ => exact hk

theorem dotQ_apply (l : FVec Ideal S8x4096x4096 .f32) (r : FVec Ideal S4096x8x128 .f32) (f : Fin 8 → Fin 4096 → Fin 4096 → ℝ) (g : Fin 4096 → Fin 8 → Fin 128 → ℝ)
    (hl : ∀ h i j, l (ix3 h i j) = (f h i j : EReal)) (hr : ∀ i h e, r (ix3 i h e) = (g i h e : EReal)) (h : Fin 8) (i : Fin 4096) (e : Fin 128) :
    Host.dotGeneral dot_S8x4096x4096_S4096x8x128_S8x4096x128_2_0_1_2_0_1 none l r (ix3 h i e) = ((∑ j, f h i j * g j h e : ℝ) : EReal) := by
  show FloatOps.dotGeneral _ none _ l r (ix3 h i e) = _
  rw [Ideal.dotGeneral_apply, ← Equiv.sum_comp (contrEquiv1 dot_S8x4096x4096_S4096x8x128_S8x4096x128_2_0_1_2_0_1 4096 rfl rfl).symm, coe_sum]
  refine Finset.sum_congr rfl fun k _ => ?_
  have hk := contrEquiv1_symm_val dot_S8x4096x4096_S4096x8x128_S8x4096x128_2_0_1_2_0_1 4096 rfl rfl k
  rw [EReal.coe_mul, ← hl, ← hr]
  refine congrArg₂ (· * ·) (congrArg l (funext fun a => Fin.ext ?_)) (congrArg r (funext fun a => Fin.ext ?_))
  · match a with
    | ⟨0, _⟩ => rfl
    | ⟨1, _⟩ => rfl
    | ⟨2, _⟩ => exact hk
  · match a with
    | ⟨0, _⟩ => exact hk
    | ⟨1, _⟩ => rfl
    | ⟨2, _⟩ => rfl

theorem dotK_apply (l : FVec Ideal S8x4096x4096 .f32) (r : FVec Ideal S4096x8x128 .f32) (f : Fin 8 → Fin 4096 → Fin 4096 → ℝ) (g : Fin 4096 → Fin 8 → Fin 128 → ℝ)
    (hl : ∀ h i j, l (ix3 h i j) = (f h i j : EReal)) (hr : ∀ i h e, r (ix3 i h e) = (g i h e : EReal)) (h : Fin 8) (j : Fin 4096) (e : Fin 128) :
    Host.dotGeneral dot_S8x4096x4096_S4096x8x128_S8x4096x128_1_0_2_2_0_1 none l r (ix3 h j e) = ((∑ i, f h i j * g i h e : ℝ) : EReal) := by
  show FloatOps.dotGeneral _ none _ l r (ix3 h j e) = _
  rw [Ideal.dotGeneral_apply, ← Equiv.sum_comp (contrEquiv1 dot_S8x4096x4096_S4096x8x128_S8x4096x128_1_0_2_2_0_1 4096 rfl rfl).symm, coe_sum]
  refine Finset.sum_congr rfl fun k _ => ?_
  have hk := contrEquiv1_symm_val dot_S8x4096x4096_S4096x8x128_S8x4096x128_1_0_2_2_0_1 4096 rfl rfl k
  rw [EReal.coe_mul, ← hl, ← hr]
  refine congrArg₂ (· * ·) (congrArg l (funext fun a => Fin.ext ?_)) (congrArg r (funext fun a => Fin.ext ?_))
  · match a with
    | ⟨0, _⟩ => rfl
    | ⟨1, _⟩ => exact hk
    | ⟨2, _⟩ => rfl
  · match a with
    | ⟨0, _⟩ => exact hk
    | ⟨1, _⟩ => rfl
    | ⟨2, _⟩ => rfl

theorem dotV_apply (l : FVec Ideal S8x128x4096 .f32) (r : FVec Ideal S8x4096x4096 .f32) (f : Fin 4096 → Fin 8 → Fin 128 → ℝ) (g : Fin 8 → Fin 4096 → Fin 4096 → ℝ)
    (hl : ∀ h e i, l (ix3 h e i) = (f i h e : EReal)) (hr : ∀ h i j, r (ix3 h i j) = (g h i j : EReal)) (h : Fin 8) (e : Fin 128) (j : Fin 4096) :
    Host.dotGeneral dot_S8x128x4096_S8x4096x4096_S8x128x4096_2_1_1_2_0_0 none l r (ix3 h e j) = ((∑ i, f i h e * g h i j : ℝ) : EReal) := by
  show FloatOps.dotGeneral _ none _ l r (ix3 h e j) = _
  rw [Ideal.dotGeneral_apply, ← Equiv.sum_comp (contrEquiv1 dot_S8x128x4096_S8x4096x4096_S8x128x4096_2_1_1_2_0_0 4096 rfl rfl).symm, coe_sum]
  refine Finset.sum_congr rfl fun k _ => ?_
  have hk := contrEquiv1_symm_val dot_S8x128x4096_S8x4096x4096_S8x128x4096_2_1_1_2_0_0 4096 rfl rfl k
  rw [EReal.coe_mul, ← hl, ← hr]
  refine congrArg₂ (· * ·) (congrArg l (funext fun a => Fin.ext ?_)) (congrArg r (funext fun a => Fin.ext ?_))
  · match a with
    | ⟨0, _⟩ => rfl
    | ⟨1, _⟩ => rfl
    | ⟨2, _⟩ => exact hk
  · match a with
    | ⟨0, _⟩ => rfl
    | ⟨1, _⟩ => exact hk
    | ⟨2, _⟩ => rfl

section
variable (hP : ∀ i j, P (ix2 i j) = (p i.val j.val : EReal))
include hP

theorem logits_apply (h : Fin 8) (i j : Fin 4096) : logits P (ix3 h i j) = ((head p d h.val).z i.val j.val : EReal) := by
  unfold logits
  rw [mulf_apply, dotZ_apply _ _ _ _ (fun i h e => qs_apply (d := d) hP i h e) (fun i h e => ks_apply (d := d) hP i h e), splat_apply, word_scale, ← EReal.coe_mul]
  rfl

theorem logKeeps_apply (h : Fin 8) (i j : Fin 4096) : logKeeps P (ix3 h i j) = ((head p d h.val).lk i.val j.val : EReal) := by
  unfold logKeeps Head.lk
  rw [select_earlier]
  split
  · show -(softplus (F := Ideal) _ _) = _
    rw [softplus_apply _ ((head p d h.val).z i.val j.val) _ (by
      show -(-(logits P (ix3 h i j))) = _
      rw [neg_neg, logits_apply hP]), ← EReal.coe_neg]
  · rw [splatId_apply, word_zero]

end

end Elements

end Cert.Val.Host

end
-- ==== Proof.Val.Totals.lean ====
module

public import proofs.«01_k».proof.Proof.Bwd.Run
public import proofs.«01_k».proof.Proof.Val.Host

/-! The row totals that the host computes before the kernel. -/

@[expose] public section

set_option maxRecDepth 16384

noncomputable section

namespace Cert.Val

open Idealize.ShloMosaic Idealize.ShloMosaic.ValueIdx Idealize.ShloMosaic.TcCoe Idealize.ShloMosaic.StableHlo Cert.KernelIdeal Cert.KernelIdeal.Gen

/-- The rows' totals, each spread over its head's lanes. -/
def totals {F : FTy → Type} [FloatOps F] (P : FVec F S4096x6144 .f32) : FVec F S4096x1024 .f32 :=
  shapeCast _ (broadcastInDim S4096x8x128 ![0, 1, 2] bcast_S4096x8x1_S4096x8x128_0_1_2 (broadcastInDim S4096x8x1 ![0, 1] bcast_S4096x8_S4096x8x1_0_1
    (transpose S4096x8 [1, 0] (Host.reduceAdd (Host.logKeeps P) (constant S_ .f32 0x00000000#32) reducesTo_S8x4096x4096_S8x4096_d2 h_S_)
      transposes_S8x4096_S4096x8_1_0))) shapeCasts_S4096x8x128_S4096x1024

theorem reduces_last : S8x4096x4096.Reduces [2] S8x4096 := by decide

theorem totals_apply {p d : ℕ → ℕ → ℝ} {P : FVec Ideal S4096x6144 .f32} (hP : ∀ i j, P (ix2 i j) = (p i.val j.val : EReal))
    (i : Fin 4096) (h : Fin 8) (e : Fin 128) (c : Fin 1024) (hc : c.val = 128 * h.val + e.val) :
    totals P (ix2 i c) = ((Host.head p d h.val).tot i.val : EReal) := by
  unfold totals
  rw [Host.join_apply _ i h e c hc,
    broadcastInDim_apply _ _ _ _ (ix3 i h 0) (fun c => match c with | ⟨0, _⟩ => rfl | ⟨1, _⟩ => rfl | ⟨2, _⟩ => rfl),
    broadcastInDim_apply _ _ _ _ (ix2 i h) (fun c => match c with | ⟨0, _⟩ => rfl | ⟨1, _⟩ => rfl),
    transpose_apply _ _ _ _ (ix2 h i) (fun c => match c with | ⟨0, _⟩ => rfl | ⟨1, _⟩ => rfl), hostReduceAdd_apply,
    Ideal.hostReduceAdd_single reducesTo_S8x4096x4096_S8x4096_d2 reduces_last, constant_apply, word_zero]
  unfold Head.tot Head.pre
  rw [EReal.coe_zero, zero_add, Finset.sum_range, coe_sum]
  refine Finset.sum_congr rfl fun k _ => ?_
  rw [← Host.logKeeps_apply (d := d) hP h i k]
  refine congrArg _ (funext fun a => ?_)
  match a with
  | ⟨0, _⟩ => rfl
  | ⟨1, _⟩ => rfl
  | ⟨2, _⟩ => rfl

set_option maxHeartbeats 1600000 in
theorem V_totals {F : FTy → Type} [FloatOps F] [Named F] (m : (ℓ : Loc nD τ sig) → Buf (Elt F) ℓ) (c : Dev nD) :
    V m c main_v20 = totals (m ((c : Thread nD τ).loc main_arg0)) := by
  unfold V
  simp only [hostOps0, hostOps0_1, hostOps0_2, hostOps0_3, hostOps0_4, List.flatten_cons, List.flatten_nil, List.append_nil, List.cons_append,
    List.nil_append, TRef.binary, TRef.nullary, TRef.ternary, TRef.unary, TRef.toBuf, TRef.ofBuf, cast_eq]
  after_results_simp <;> rfl

end Cert.Val

end
-- ==== Proof.Val.Reference.lean ====
module

public import proofs.«01_k».proof.Proof.Gen.ReferenceIdeal.Run
public import proofs.«01_k».proof.Proof.Val.Host

/-! The reference's three results: what its host operations compose to, in steps, and the numbers they hold. -/

@[expose] public section

set_option maxRecDepth 16384

noncomputable section

namespace Cert.Val.Host

open Idealize.ShloMosaic Idealize.ShloMosaic.ValueIdx Idealize.ShloMosaic.TcCoe Cert.ReferenceIdeal Cert.ReferenceIdeal.Gen

section Terms

variable {F : FTy → Type} [FloatOps F]

def zeroS : FVec F S_ .f32 := broadcastInDim S_ ![] bcast_S_S_ (constant S_ .f32 0x00000000#32)

def later (P : FVec F S4096x6144 .f32) : FVec F S8x4096x4096 .f32 :=
  subf (Host.reduceWindowAdd ![1, 1, 4096] ![1, 1, 1] ![0, 0, 0] ![0, 0, 4095] (logKeeps P) zeroS reduceWindows_S8x4096x4096_S8x4096x4096_w1s1p0_0_w1s1p0_0_w4096s1p0_4095 h_S_) (logKeeps P)

/-- The weights before the mask. -/
def weights (P : FVec F S4096x6144 .f32) : FVec F S8x4096x4096 .f32 :=
  Host.exp (addf (Host.negf (softplus (Host.negf (logits P)))) (later P))

def weighted (P : FVec F S4096x6144 .f32) (D : FVec F S4096x1024 .f32) : FVec F S8x4096x4096 .f32 :=
  mulf (select earlier (Host.dotGeneral dot_S8x128x4096_S4096x8x128_S8x4096x4096_1_2_2_0_0_1 none (dsT D) (vs P)) (splat 0x00000000#32)) (weights P)

def before (P : FVec F S4096x6144 .f32) (D : FVec F S4096x1024 .f32) : FVec F S8x4096x4096 .f32 :=
  select earlier (addf (Host.negf (weighted P D))
    (Host.reduceWindowAdd ![1, 1, 4096] ![1, 1, 1] ![0, 0, 4095] ![0, 0, 0] (weighted P D) zeroS reduceWindows_S8x4096x4096_S8x4096x4096_w1s1p0_0_w1s1p0_0_w4096s1p4095_0 h_S_))
    (splat 0x00000000#32)

/-- The slope of the softplus, as the gradient writes it. -/
def slope (x : FVec F S8x4096x4096 .f32) : FVec F S8x4096x4096 .f32 := Host.exp (subf (tame x) (tame (softplus x)))

def logitGrads (P : FVec F S4096x6144 .f32) (D : FVec F S4096x1024 .f32) : FVec F S8x4096x4096 .f32 :=
  mulf (addf (Host.negf (mulf (Host.negf (weighted P D)) (slope (Host.negf (logits P)))))
    (Host.negf (Host.negf (mulf (Host.negf (before P D)) (slope (Host.negf (Host.negf (logits P)))))))) (splat 0x3DB504F3#32)

def outQ (P : FVec F S4096x6144 .f32) (D : FVec F S4096x1024 .f32) : FVec F S4096x1024 .bf16 :=
  truncf .bf16 (shapeCast _ (transpose S4096x8x128 [1, 0, 2] (Host.dotGeneral dot_S8x4096x4096_S4096x8x128_S8x4096x128_2_0_1_2_0_1 none (logitGrads P D) (ks P))
    transposes_S8x4096x128_S4096x8x128_1_0_2) shapeCasts_S4096x8x128_S4096x1024) bitsLt_bf16_f32
def outK (P : FVec F S4096x6144 .f32) (D : FVec F S4096x1024 .f32) : FVec F S4096x1024 .bf16 :=
  truncf .bf16 (shapeCast _ (transpose S4096x8x128 [1, 0, 2] (Host.dotGeneral dot_S8x4096x4096_S4096x8x128_S8x4096x128_1_0_2_2_0_1 none (logitGrads P D) (qs P))
    transposes_S8x4096x128_S4096x8x128_1_0_2) shapeCasts_S4096x8x128_S4096x1024) bitsLt_bf16_f32
def outV (P : FVec F S4096x6144 .f32) (D : FVec F S4096x1024 .f32) : FVec F S4096x1024 .bf16 :=
  truncf .bf16 (shapeCast _ (transpose S4096x8x128 [2, 0, 1] (Host.dotGeneral dot_S8x128x4096_S8x4096x4096_S8x128x4096_2_1_1_2_0_0 none (dsT D)
    (select earlier (weights P) (splatId 0x00000000#32))) transposes_S8x128x4096_S4096x8x128_2_0_1) shapeCasts_S4096x8x128_S4096x1024) bitsLt_bf16_f32

theorem res51 (m : (ℓ : Loc nD τ sig) → Buf (Elt F) ℓ) (c : Dev nD) :
    Cert.ReferenceIdeal.Value.res_main_v51 m c = outQ (m ((c.tc : Thread nD τ).loc main_arg0)) (m ((c.tc : Thread nD τ).loc main_arg1)) := by
  unfold Cert.ReferenceIdeal.Value.res_main_v51; rfl
theorem res52 (m : (ℓ : Loc nD τ sig) → Buf (Elt F) ℓ) (c : Dev nD) :
    Cert.ReferenceIdeal.Value.res_main_v52 m c = outK (m ((c.tc : Thread nD τ).loc main_arg0)) (m ((c.tc : Thread nD τ).loc main_arg1)) := by
  unfold Cert.ReferenceIdeal.Value.res_main_v52; rfl
theorem res53 (m : (ℓ : Loc nD τ sig) → Buf (Elt F) ℓ) (c : Dev nD) :
    Cert.ReferenceIdeal.Value.res_main_v53 m c = outV (m ((c.tc : Thread nD τ).loc main_arg0)) (m ((c.tc : Thread nD τ).loc main_arg1)) := by
  unfold Cert.ReferenceIdeal.Value.res_main_v53; rfl

end Terms

section Elements

theorem zeroS_apply (x : S_.Idx) : zeroS (F := Ideal) x = ((0 : ℝ) : EReal) := by
  unfold zeroS; rw [broadcastInDim_scalar_apply]; exact word_zero

theorem slope_apply (x : FVec Ideal S8x4096x4096 .f32) (r : ℝ) (a : S8x4096x4096.Idx) (h : x a = (r : EReal)) :
    slope x a = ((Real.exp (r - sp r) : ℝ) : EReal) := by
  show Ideal.exp (tame x a - tame (softplus x) a) = _
  rw [tame_apply _ _ _ h, tame_apply _ _ _ (softplus_apply _ _ _ h), ← EReal.coe_sub, Ideal.exp_coe]

variable {p d : ℕ → ℕ → ℝ} {P : FVec Ideal S4096x6144 .f32} {D : FVec Ideal S4096x1024 .f32}
variable (hP : ∀ i j, P (ix2 i j) = (p i.val j.val : EReal)) (hD : ∀ i j, D (ix2 i j) = (d i.val j.val : EReal))
include hP

theorem later_apply (h : Fin 8) (i j : Fin 4096) :
    later P (ix3 h i j) = (((head p d h.val).tot i.val - (head p d h.val).pre i.val (j.val + 1) : ℝ) : EReal) := by
  unfold later
  rw [subf_apply, logKeeps_apply (d := d) hP]
  have e : Host.reduceWindowAdd ![1, 1, 4096] ![1, 1, 1] ![0, 0, 0] ![0, 0, 4095] (logKeeps P) zeroS
      reduceWindows_S8x4096x4096_S8x4096x4096_w1s1p0_0_w1s1p0_0_w4096s1p0_4095 h_S_ (ix3 h i j)
      = (((head p d h.val).tot i.val - (head p d h.val).pre i.val j.val : ℝ) : EReal) := by
    refine (reduceWindowAdd_last ![0, 0, 0] ![0, 0, 4095] (logKeeps P) zeroS _ h_S_ h i j rfl rfl _ (zeroS_apply _)).trans ?_
    exact sumFrom ((head p d h.val).lk i.val) j.val j.isLt (fun k => logKeeps P (ix3 h i k)) (fun k => logKeeps_apply hP h i k)
  rw [e, ← EReal.coe_sub]
  refine congrArg _ ?_
  unfold Head.pre
  rw [Finset.sum_range_succ]
  ring

theorem weights_apply (h : Fin 8) (i j : Fin 4096) (hij : j.val < i.val) : weights P (ix3 h i j) = ((head p d h.val).w i.val j.val : EReal) := by
  show Ideal.exp (-(softplus (F := Ideal) _ (ix3 h i j)) + later P (ix3 h i j)) = _
  rw [softplus_apply _ (-(head p d h.val).z i.val j.val) _ (by
    show -(logits P (ix3 h i j)) = _
    rw [logits_apply (d := d) hP, EReal.coe_neg]), later_apply (d := d) hP, ← EReal.coe_neg, ← EReal.coe_add, Ideal.exp_coe, Head.w_of_lt _ hij, Head.lk_of_lt _ hij, sp_neg]
  refine congrArg _ (congrArg _ ?_)
  ring

theorem kept_apply (h : Fin 8) (i j : Fin 4096) :
    select earlier (weights P) (splatId 0x00000000#32) (ix3 h i j) = ((head p d h.val).w i.val j.val : EReal) := by
  rw [select_earlier]
  split
  · next hij => exact weights_apply hP h i j hij
  · next hij => rw [splatId_apply, word_zero, Head.w_of_le _ (Nat.not_lt.1 hij)]

include hD

theorem weighted_apply (h : Fin 8) (i j : Fin 4096) : weighted P D (ix3 h i j) = ((head p d h.val).g i.val j.val : EReal) := by
  unfold weighted
  rw [mulf_apply, select_earlier]
  split
  · next hij =>
    rw [dotA_apply _ _ _ _ (dsT_apply (p := p) hD) (vs_apply (d := d) hP), weights_apply (d := d) hP h i j hij, ← EReal.coe_mul]
    unfold Head.g
    rw [mul_comm]
    rfl
  · next hij =>
    rw [splat_apply, word_zero, EReal.coe_zero, zero_mul, Head.g_of_le _ (Nat.not_lt.1 hij), EReal.coe_zero]

theorem before_apply (h : Fin 8) (i j : Fin 4096) :
    before P D (ix3 h i j) = (((if j.val < i.val then (head p d h.val).preg i.val j.val else 0 : ℝ)) : EReal) := by
  unfold before
  rw [select_earlier]
  split
  · have e : Host.reduceWindowAdd ![1, 1, 4096] ![1, 1, 1] ![0, 0, 4095] ![0, 0, 0] (weighted P D) zeroS
        reduceWindows_S8x4096x4096_S8x4096x4096_w1s1p0_0_w1s1p0_0_w4096s1p4095_0 h_S_ (ix3 h i j)
        = (((head p d h.val).preg i.val (j.val + 1) : ℝ) : EReal) := by
      refine (reduceWindowAdd_last ![0, 0, 4095] ![0, 0, 0] (weighted P D) zeroS _ h_S_ h i j rfl rfl _ (zeroS_apply _)).trans ?_
      exact sumTo ((head p d h.val).g i.val) j.val j.isLt (fun k => weighted P D (ix3 h i k)) (fun k => weighted_apply hP hD h i k) 4095 rfl
    rw [addf_apply, e]
    show -(weighted P D (ix3 h i j)) + _ = _
    rw [weighted_apply hP hD, ← EReal.coe_neg, ← EReal.coe_add]
    refine congrArg _ ?_
    unfold Head.preg
    rw [Finset.sum_range_succ]
    ring
  · rw [splat_apply, word_zero]

theorem logitGrads_apply (h : Fin 8) (i j : Fin 4096) : logitGrads P D (ix3 h i j) = ((head p d h.val).dz i.val j.val : EReal) := by
  show (-(-(weighted P D (ix3 h i j)) * slope (F := Ideal) _ (ix3 h i j)) + -(-(-(before P D (ix3 h i j)) * slope (F := Ideal) _ (ix3 h i j)))) * splat (F := Ideal) _ _ = _
  have e : Host.negf (logits P) (ix3 h i j) = ((-(head p d h.val).z i.val j.val : ℝ) : EReal) := by
    show -(logits P (ix3 h i j)) = _
    rw [logits_apply (d := d) hP, EReal.coe_neg]
  rw [weighted_apply hP hD, before_apply hP hD, slope_apply _ _ _ e, slope_apply _ ((head p d h.val).z i.val j.val) _ (by
    show -(Host.negf (logits P) (ix3 h i j)) = _
    rw [e, ← EReal.coe_neg, neg_neg]), splat_apply, word_scale, ← EReal.coe_neg, ← EReal.coe_mul, ← EReal.coe_neg, ← EReal.coe_neg, ← EReal.coe_mul, ← EReal.coe_neg,
    ← EReal.coe_neg, ← EReal.coe_add, ← EReal.coe_mul]
  refine congrArg _ ?_
  unfold Head.dz
  refine congrArg (· * scale) ?_
  by_cases hij : j.val < i.val
  · have e2 : -(head p d h.val).z i.val j.val - sp (-(head p d h.val).z i.val j.val) = -sp ((head p d h.val).z i.val j.val) := by rw [sp_neg]; ring
    rw [if_pos hij, if_pos hij, Head.lk_of_lt _ hij, e2, exp_sub_sp]
    ring
  · rw [if_neg hij, if_neg hij, Head.g_of_le _ (Nat.not_lt.1 hij)]
    ring

theorem outQ_apply (i : Fin 4096) (h : Fin 8) (e : Fin 128) (c : Fin 1024) (hc : c.val = 128 * h.val + e.val) :
    outQ P D (ix2 i c) = ((head p d h.val).dq 4096 i.val e : EReal) := by
  unfold outQ
  rw [truncf_apply, join_apply _ i h e c hc, transpose_apply _ _ _ _ (ix3 h i e) (fun c => match c with | ⟨0, _⟩ => rfl | ⟨1, _⟩ => rfl | ⟨2, _⟩ => rfl),
    dotQ_apply _ _ _ _ (logitGrads_apply hP hD) (ks_apply (d := d) hP)]
  unfold Head.dq
  rw [Finset.sum_range]

theorem outK_apply (j : Fin 4096) (h : Fin 8) (e : Fin 128) (c : Fin 1024) (hc : c.val = 128 * h.val + e.val) :
    outK P D (ix2 j c) = ((head p d h.val).dk 4096 j.val e : EReal) := by
  unfold outK
  rw [truncf_apply, join_apply _ j h e c hc, transpose_apply _ _ _ _ (ix3 h j e) (fun c => match c with | ⟨0, _⟩ => rfl | ⟨1, _⟩ => rfl | ⟨2, _⟩ => rfl),
    dotK_apply _ _ _ _ (logitGrads_apply hP hD) (qs_apply (d := d) hP)]
  unfold Head.dk
  rw [Finset.sum_range]

theorem outV_apply (j : Fin 4096) (h : Fin 8) (e : Fin 128) (c : Fin 1024) (hc : c.val = 128 * h.val + e.val) :
    outV P D (ix2 j c) = ((head p d h.val).dv 4096 j.val e : EReal) := by
  unfold outV
  rw [truncf_apply, join_apply _ j h e c hc, transpose_apply _ _ _ _ (ix3 h e j) (fun c => match c with | ⟨0, _⟩ => rfl | ⟨1, _⟩ => rfl | ⟨2, _⟩ => rfl),
    dotV_apply _ _ _ _ (dsT_apply (p := p) hD) (kept_apply (d := d) hP)]
  unfold Head.dv
  rw [Finset.sum_range]
  exact congrArg _ (Finset.sum_congr rfl fun i _ => mul_comm _ _)

end Elements

end Cert.Val.Host

end
-- ==== Proof.Val.Arrays.lean ====
module

public import proofs.«01_k».proof.Proof.Val.State
public import proofs.«01_k».proof.Proof.Val.Totals
public import proofs.«01_k».proof.Proof.Val.Reference
public import Idealize.ShloMosaic.Lib.Pipeline.ValueKit.Geometry

/-! The kernel's three result arrays: the gradients of the queries, the keys and the values. -/

@[expose] public section

set_option maxRecDepth 16384

noncomputable section

namespace Cert.Val

open Idealize.ShloMosaic Idealize.ShloMosaic.ValueIdx Idealize.ShloMosaic.TcCoe Idealize.ShloMosaic.Pipeline Cert.KernelIdeal Cert.KernelIdeal.Gen Cert.KernelIdeal.Bwd

theorem index0 : ∀ t : Fin cfg0.N, win0_0.index t = ![(grid0.coords t 1).val, (grid0.coords t 0).val] := (by decide +kernel : ∀ t : Fin grid0.N, _)
theorem index1 : ∀ t : Fin cfg0.N, win0_1.index t = ![0, 8 + (grid0.coords t 0).val] := (by decide +kernel : ∀ t : Fin grid0.N, _)
theorem index2 : ∀ t : Fin cfg0.N, win0_2.index t = ![0, 16 + (grid0.coords t 0).val] := (by decide +kernel : ∀ t : Fin grid0.N, _)
theorem index3 : ∀ t : Fin cfg0.N, win0_3.index t = ![(grid0.coords t 1).val, (grid0.coords t 0).val] := (by decide +kernel : ∀ t : Fin grid0.N, _)
theorem index4 : ∀ t : Fin cfg0.N, win0_4.index t = ![(grid0.coords t 1).val, (grid0.coords t 0).val] := (by decide +kernel : ∀ t : Fin grid0.N, _)
theorem index5 : ∀ t : Fin cfg0.N, win0_5.index t = ![(grid0.coords t 1).val, (grid0.coords t 0).val] := (by decide +kernel : ∀ t : Fin grid0.N, _)
theorem index6 : ∀ t : Fin cfg0.N, win0_6.index t = ![0, (grid0.coords t 0).val] := (by decide +kernel : ∀ t : Fin grid0.N, _)
theorem index7 : ∀ t : Fin cfg0.N, win0_7.index t = ![0, (grid0.coords t 0).val] := (by decide +kernel : ∀ t : Fin grid0.N, _)

theorem coord0 (t : Fin cfg0.N) : (grid0.coords t 0).val = t.val / 16 := by revert t; decide +kernel

theorem coord0_lt (t : Fin cfg0.N) : (grid0.coords t 0).val < 8 := (grid0.coords t 0).isLt
theorem coord1_lt (t : Fin cfg0.N) : (grid0.coords t 1).val < 16 := (grid0.coords t 1).isLt

variable (m : (ℓ : Loc nD τ sig) → Buf (Elt Ideal) ℓ) (c : Dev nD) {p d : ℕ → ℕ → ℝ}
  (hP : ∀ (i : Fin 4096) (j : Fin 6144), m ((c : Thread nD τ).loc main_arg0) (ix2 i j) = (p i.val j.val : EReal))
  (hD : ∀ (i : Fin 4096) (j : Fin 1024), m ((c : Thread nD τ).loc main_arg1) (ix2 i j) = (d i.val j.val : EReal))

/-- The head of point `t`. -/
abbrev headAt (p d : ℕ → ℕ → ℝ) (t : Fin cfg0.N) : Head := Host.head p d (grid0.coords t 0).val

section
include hP

theorem iblk0_apply (t : Fin cfg0.N) (a : Fin 256) (e : Fin 128) :
    iblk m c 0 t (ix2 a e) = ((headAt p d t).q (256 * (grid0.coords t 1).val + a.val) e : EReal) := by
  have h0 := coord0_lt t
  have h1 := coord1_lt t
  have e1 : (win0_0.blk t).view.emb (ix2 a e) = ix2 (⟨256 * (grid0.coords t 1).val + a.val, by omega⟩ : Fin 4096)
      (⟨128 * (grid0.coords t 0).val + e.val, by omega⟩ : Fin 6144) := by blk_ext [index0] <;> first | (change _ + _ = _ + a.val; change _ + a.val = _; omega) | (change _ + e.val = _; omega)
  blk_simp [iblk]
  rw [e1, V_main_arg0, hP]
  rfl

theorem iblk1_apply (t : Fin cfg0.N) (r : Fin 4096) (e : Fin 128) :
    iblk m c 1 t (ix2 r e) = ((headAt p d t).k r.val e : EReal) := by
  have h0 := coord0_lt t
  have e1 : (win0_1.blk t).view.emb (ix2 r e) = ix2 r (⟨1024 + (128 * (grid0.coords t 0).val + e.val), by omega⟩ : Fin 6144) := by
    blk_ext [index1] <;> first | (change _ + e.val = _; omega)
  blk_simp [iblk]
  rw [e1, V_main_arg0, hP]
  rfl

theorem iblk2_apply (t : Fin cfg0.N) (r : Fin 4096) (e : Fin 128) :
    iblk m c 2 t (ix2 r e) = ((headAt p d t).v r.val e : EReal) := by
  have h0 := coord0_lt t
  have e1 : (win0_2.blk t).view.emb (ix2 r e) = ix2 r (⟨2048 + (128 * (grid0.coords t 0).val + e.val), by omega⟩ : Fin 6144) := by
    blk_ext [index2] <;> first | (change _ + e.val = _; omega)
  blk_simp [iblk]
  rw [e1, V_main_arg0, hP]
  rfl

theorem iblk3_apply (t : Fin cfg0.N) (a : Fin 256) (e : Fin 128) :
    iblk m c 3 t (ix2 a e) = ((headAt p d t).tot (256 * (grid0.coords t 1).val + a.val) : EReal) := by
  have h0 := coord0_lt t
  have h1 := coord1_lt t
  have e1 : (win0_3.blk t).view.emb (ix2 a e) = ix2 (⟨256 * (grid0.coords t 1).val + a.val, by omega⟩ : Fin 4096)
      (⟨128 * (grid0.coords t 0).val + e.val, by omega⟩ : Fin 1024) := by blk_ext [index3] <;> first | (change _ + _ = _ + a.val; change _ + a.val = _; omega) | (change _ + e.val = _; omega)
  blk_simp [iblk]
  rw [e1, V_totals, totals_apply (d := d) hP _ (⟨(grid0.coords t 0).val, h0⟩ : Fin 8) e _ rfl]

end

section
include hD

theorem iblk4_apply (t : Fin cfg0.N) (a : Fin 256) (e : Fin 128) :
    iblk m c 4 t (ix2 a e) = ((headAt p d t).d (256 * (grid0.coords t 1).val + a.val) e : EReal) := by
  have h0 := coord0_lt t
  have h1 := coord1_lt t
  have e1 : (win0_4.blk t).view.emb (ix2 a e) = ix2 (⟨256 * (grid0.coords t 1).val + a.val, by omega⟩ : Fin 4096)
      (⟨128 * (grid0.coords t 0).val + e.val, by omega⟩ : Fin 1024) := by blk_ext [index4] <;> first | (change _ + _ = _ + a.val; change _ + a.val = _; omega) | (change _ + e.val = _; omega)
  blk_simp [iblk]
  rw [e1, V_main_arg1, hD]
  rfl

end

section
include hP hD

/-- The state of a point, when the two arrays it finds hold the earlier query blocks' sums. -/
theorem stAt_is (t : Fin cfg0.N)
    (h1 : (grid0.coords t 1).val ≠ 0 → ∀ (r : Fin 4096) (e : Fin 128), (acc m c t.val).1 (ix2 r e) = ((headAt p d t).dk (256 * (grid0.coords t 1).val) r.val e : EReal))
    (h2 : (grid0.coords t 1).val ≠ 0 → ∀ (r : Fin 4096) (e : Fin 128), (acc m c t.val).2 (ix2 r e) = ((headAt p d t).dv (256 * (grid0.coords t 1).val) r.val e : EReal)) :
    (∀ (a : Fin 256) (e : Fin 128), (stAt m c t).dq (ix2 a e) = ((headAt p d t).dq 4096 (256 * (grid0.coords t 1).val + a.val) e : EReal))
    ∧ (∀ (r : Fin 4096) (e : Fin 128), (stAt m c t).dk (ix2 r e) = ((headAt p d t).dk (256 * ((grid0.coords t 1).val + 1)) r.val e : EReal))
    ∧ (∀ (r : Fin 4096) (e : Fin 128), (stAt m c t).dv (ix2 r e) = ((headAt p d t).dv (256 * ((grid0.coords t 1).val + 1)) r.val e : EReal)) := by
  unfold stAt finAt
  exact fin_is (H := headAt p d t) rfl rfl (iblk0_apply m c hP t) (iblk1_apply m c hP t) (iblk2_apply m c hP t) (iblk3_apply m c hP t) (iblk4_apply m c hD t) h1 h2

/-- The two arrays inside a head. -/
theorem acc_is (n : ℕ) (hn : n < cfg0.N) : (grid0.coords (⟨n, hn⟩ : Fin cfg0.N) 1).val ≠ 0 →
    (∀ (r : Fin 4096) (e : Fin 128), (acc m c n).1 (ix2 r e) = ((headAt p d ⟨n, hn⟩).dk (256 * (grid0.coords (⟨n, hn⟩ : Fin cfg0.N) 1).val) r.val e : EReal))
    ∧ (∀ (r : Fin 4096) (e : Fin 128), (acc m c n).2 (ix2 r e) = ((headAt p d ⟨n, hn⟩).dv (256 * (grid0.coords (⟨n, hn⟩ : Fin cfg0.N) 1).val) r.val e : EReal)) := by
  induction n with
  | zero => intro h; exact absurd (coord1 _) h
  | succ n ih =>
    intro h
    have hn' : n < cfg0.N := Nat.lt_of_succ_lt hn
    have hs := stAt_is m c hP hD ⟨n, hn'⟩ (fun h => (ih hn' h).1) (fun h => (ih hn' h).2)
    have a1 := coord1 ⟨n + 1, hn⟩
    have a0 := coord0 ⟨n + 1, hn⟩
    have b1 := coord1 ⟨n, hn'⟩
    have b0 := coord0 ⟨n, hn'⟩
    dsimp only at a1 a0 b1 b0
    have e1 : (grid0.coords (⟨n + 1, hn⟩ : Fin cfg0.N) 1).val = (grid0.coords (⟨n, hn'⟩ : Fin cfg0.N) 1).val + 1 := by omega
    have e0 : (grid0.coords (⟨n + 1, hn⟩ : Fin cfg0.N) 0).val = (grid0.coords (⟨n, hn'⟩ : Fin cfg0.N) 0).val := by omega
    have ea := acc_succ m c ⟨n, hn'⟩
    dsimp only at ea
    unfold headAt at hs ⊢
    rw [e1, e0, ea]
    exact ⟨hs.2.1, hs.2.2⟩

theorem st_is (t : Fin cfg0.N) :
    (∀ (a : Fin 256) (e : Fin 128), (stAt m c t).dq (ix2 a e) = ((headAt p d t).dq 4096 (256 * (grid0.coords t 1).val + a.val) e : EReal))
    ∧ (∀ (r : Fin 4096) (e : Fin 128), (stAt m c t).dk (ix2 r e) = ((headAt p d t).dk (256 * ((grid0.coords t 1).val + 1)) r.val e : EReal))
    ∧ (∀ (r : Fin 4096) (e : Fin 128), (stAt m c t).dv (ix2 r e) = ((headAt p d t).dv (256 * ((grid0.coords t 1).val + 1)) r.val e : EReal)) :=
  stAt_is m c hP hD t (fun h => (acc_is m c hP hD t.val t.isLt h).1) (fun h => (acc_is m c hP hD t.val t.isLt h).2)

theorem array5 : (dats m 0 c).arrAt 5 cfg0.N = Host.outQ (F := Ideal) (m ((c : Thread nD τ).loc main_arg0)) (m ((c : Thread nD τ).loc main_arg1)) := by
  refine (dats m 0 c).arrAt_eq_of_covers 5 _ (by decide +kernel) fun t hf y => ?_
  blk_simp
  rw [after0_5]
  have h0 := coord0_lt t
  have h1 := coord1_lt t
  obtain ⟨a, e, rfl⟩ : ∃ (a : Fin 256) (e : Fin 128), y = ix2 a e := ⟨y 0, y 1, eq_ix2 y⟩
  have e1 : (win0_5.blk t).view.emb (ix2 a e) = ix2 (⟨256 * (grid0.coords t 1).val + a.val, by omega⟩ : Fin 4096)
      (⟨128 * (grid0.coords t 0).val + e.val, by omega⟩ : Fin 1024) := by blk_ext [index5] <;> first | (change _ + _ = _ + a.val; change _ + a.val = _; omega) | (change _ + e.val = _; omega)
  rw [e1, Host.outQ_apply hP hD _ (⟨(grid0.coords t 0).val, h0⟩ : Fin 8) e _ rfl]
  refine Eq.trans ?_ ((st_is m c hP hD t).1 a e)
  unfold k0_pay14
  rfl

theorem array6 : (dats m 0 c).arrAt 6 cfg0.N = Host.outK (F := Ideal) (m ((c : Thread nD τ).loc main_arg0)) (m ((c : Thread nD τ).loc main_arg1)) := by
  refine (dats m 0 c).arrAt_eq_of_covers 6 _ (by decide +kernel) fun t hf y => ?_
  blk_simp
  rw [after0_6]
  have h0 := coord0_lt t
  have h1 := coord1 t
  rw [(flush0_6 t).1 hf] at h1
  obtain ⟨a, e, rfl⟩ : ∃ (a : Fin 4096) (e : Fin 128), y = ix2 a e := ⟨y 0, y 1, eq_ix2 y⟩
  have e1 : (win0_6.blk t).view.emb (ix2 a e) = ix2 a (⟨128 * (grid0.coords t 0).val + e.val, by omega⟩ : Fin 1024) := by blk_ext [index6] <;> first | (change _ + _ = _ + a.val; change _ + a.val = _; omega) | (change _ + e.val = _; omega)
  have hs := (st_is m c hP hD t).2.1 a e
  rw [h1] at hs
  rw [e1, Host.outK_apply hP hD _ (⟨(grid0.coords t 0).val, h0⟩ : Fin 8) e _ rfl]
  refine Eq.trans ?_ hs
  unfold k0_pay15
  rfl

theorem array7 : (dats m 0 c).arrAt 7 cfg0.N = Host.outV (F := Ideal) (m ((c : Thread nD τ).loc main_arg0)) (m ((c : Thread nD τ).loc main_arg1)) := by
  refine (dats m 0 c).arrAt_eq_of_covers 7 _ (by decide +kernel) fun t hf y => ?_
  blk_simp
  rw [after0_7]
  have h0 := coord0_lt t
  have h1 := coord1 t
  rw [(flush0_7 t).1 hf] at h1
  obtain ⟨a, e, rfl⟩ : ∃ (a : Fin 4096) (e : Fin 128), y = ix2 a e := ⟨y 0, y 1, eq_ix2 y⟩
  have e1 : (win0_7.blk t).view.emb (ix2 a e) = ix2 a (⟨128 * (grid0.coords t 0).val + e.val, by omega⟩ : Fin 1024) := by blk_ext [index7] <;> first | (change _ + _ = _ + a.val; change _ + a.val = _; omega) | (change _ + e.val = _; omega)
  have hs := (st_is m c hP hD t).2.2 a e
  rw [h1] at hs
  rw [e1, Host.outV_apply hP hD _ (⟨(grid0.coords t 0).val, h0⟩ : Fin 8) e _ rfl]
  refine Eq.trans ?_ hs
  unfold k0_pay16
  rfl

end

end Cert.Val

end
-- ==== Proof.Val.Finite.lean ====
module

public import proofs.«01_k».proof.Proof.Gen.Pre_finite
public import proofs.«01_k».proof.Proof.Val.Host
public import Idealize.ShloMosaic.Lib.ReduceAll

/-! The precondition read: every entry of the two arguments is a real number. -/

@[expose] public section

set_option maxRecDepth 16384

noncomputable section

namespace Cert.Val

open Idealize.ShloMosaic Idealize.ShloMosaic.ValueIdx Cert.Pre_finite Cert.Pre_finite.Gen

/-- A number whose size is below infinity is real. -/
theorem real_of_lt {x : EReal} (h : max x (-x) < ⊤) : ((x.toReal : ℝ) : EReal) = x := by
  refine EReal.coe_toReal ?_ ?_
  · rintro rfl; simp at h
  · rintro rfl; simp at h

theorem lt_of_cmp {s : Shape} {x : FVec Ideal s .f32} {y : FVec Ideal s .f32} {i : s.Idx} (hy : y i = (⊤ : EReal))
    (h : cmpf .olt (Host.absf x) y i = 1#1) : max (x i) (-(x i)) < (⊤ : EReal) := by
  have h' : BitVec.ofBool (decide (max (x i) (-(x i)) < y i)) = 1#1 := h
  rw [hy] at h'
  by_contra hn
  rw [decide_eq_false hn] at h'
  exact absurd h' (by decide)

theorem finite_of_pre (P : FVec Ideal S4096x6144 .f32) (D : FVec Ideal S4096x1024 .f32) (h : Cert.Pre_finite.fn (F := Ideal) P D = fun _ => 1#1) :
    (∀ i, ((EReal.toReal (P i) : ℝ) : EReal) = P i) ∧ (∀ i, ((EReal.toReal (D i) : ℝ) : EReal) = D i) := by
  haveI : Subsingleton S_.Idx := ⟨fun a b => funext fun k => k.elim0⟩
  have h0 := congrFun h ix0
  unfold Cert.Pre_finite.fn at h0
  dsimp only at h0
  obtain ⟨h1, h2⟩ := IntOp.andi_eq_one.1 h0
  refine ⟨fun i => real_of_lt (lt_of_cmp ?_ (Host.reduce_andi_all _ _ _ _ _ h1 i)), fun i => real_of_lt (lt_of_cmp ?_ (Host.reduce_andi_all _ _ _ _ _ h2 i))⟩ <;>
    exact (broadcastInDim_scalar_apply _ _ _).trans Host.word_inf

end Cert.Val

end
-- ==== Proof.Claims.Algebraic.lean ====
module

public import proofs.«01_k».proof.Proof.Claims.Frames
public import proofs.«01_k».proof.Proof.Val.Arrays
public import proofs.«01_k».proof.Proof.Val.Finite

/-! Over the extended reals the kernel and the reference end with the same gradients. -/

@[expose] public section

noncomputable section

namespace Cert.Proof

open Idealize.ShloMosaic Idealize.ShloMosaic.TcCoe Idealize.ShloMosaic.ValueIdx Idealize.SL.Sem

instance : Cert.Pre_finite.Facts := Cert.Pre_finite.Gen.facts

/-- The arguments as tables of numbers. -/
theorem numbers {m : (ℓ : Loc Cert.KernelIdeal.nD Cert.KernelIdeal.τ Cert.KernelIdeal.sig) → Buf (Elt Ideal) ℓ} (hm : Cert.Pre_KernelIdeal_finite m)
    (c : Dev Cert.KernelIdeal.nD) : ∃ p d : ℕ → ℕ → ℝ,
      (∀ (i : Fin 4096) (j : Fin 6144), m ((c.tc : Thread Cert.KernelIdeal.nD Cert.KernelIdeal.τ).loc Cert.KernelIdeal.main_arg0) (ix2 i j) = (p i.val j.val : EReal))
      ∧ (∀ (i : Fin 4096) (j : Fin 1024), m ((c.tc : Thread Cert.KernelIdeal.nD Cert.KernelIdeal.τ).loc Cert.KernelIdeal.main_arg1) (ix2 i j) = (d i.val j.val : EReal)) := by
  obtain ⟨hP, hD⟩ := Cert.Val.finite_of_pre _ _ (hm c)
  refine ⟨fun i j => if h : i < 4096 ∧ j < 6144 then EReal.toReal (m ((c.tc : Thread Cert.KernelIdeal.nD Cert.KernelIdeal.τ).loc Cert.KernelIdeal.main_arg0) (ix2 ⟨i, h.1⟩ ⟨j, h.2⟩)) else 0,
    fun i j => if h : i < 4096 ∧ j < 1024 then EReal.toReal (m ((c.tc : Thread Cert.KernelIdeal.nD Cert.KernelIdeal.τ).loc Cert.KernelIdeal.main_arg1) (ix2 ⟨i, h.1⟩ ⟨j, h.2⟩)) else 0,
    fun i j => ?_, fun i j => ?_⟩
  · beta_reduce; rw [dif_pos (And.intro i.isLt j.isLt)]; exact (hP (ix2 i j)).symm
  · beta_reduce; rw [dif_pos (And.intro i.isLt j.isLt)]; exact (hD (ix2 i j)).symm

/-- From finite arguments both programs end with the three gradients. -/
theorem algebraic : Cert.algebraic_KernelIdeal_ReferenceIdeal_pre_finite := by
  intro m ρ m' ρ' hm hagree
  refine ⟨fun c => Cert.Val.Host.outQ (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Val.Host.outK (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Val.Host.outV (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Bwd.run_main (F := Ideal) m ρ)
    obtain ⟨p, d, hP, hD⟩ := numbers hm c
    exact ⟨((h.1 c).1 5).trans (Cert.Val.array5 m c hP hD), ((h.1 c).1 6).trans (Cert.Val.array6 m c hP hD), ((h.1 c).1 7).trans (Cert.Val.array7 m c hP hD),
      ((h.1 c).1 2).trans (((Cert.KernelIdeal.Bwd.dats m 0 c).arrAt_in 2 rfl _).trans (Cert.KernelIdeal.Gen.V_main_arg0 m c)),
      ((h.1 c).1 4).trans (((Cert.KernelIdeal.Bwd.dats m 0 c).arrAt_in 4 rfl _).trans (Cert.KernelIdeal.Gen.V_main_arg1 m c))⟩
  · refine (θ_run Cert.ReferenceIdeal.defs _ _).mono (fun r h c => ?_) (Cert.ReferenceIdeal.Value.run (F := Ideal) m' ρ')
    obtain ⟨a0, a1⟩ := hagree c
    refine ⟨(h c).1.trans ((Cert.Val.Host.res51 m' c).trans ?_), (h c).2.1.trans ((Cert.Val.Host.res52 m' c).trans ?_),
      (h c).2.2.1.trans ((Cert.Val.Host.res53 m' c).trans ?_), (h c).2.2.2.1, (h c).2.2.2.2⟩
    · exact congrArg₂ Cert.Val.Host.outQ a0 a1
    · exact congrArg₂ Cert.Val.Host.outK a0 a1
    · exact congrArg₂ Cert.Val.Host.outV a0 a1

end Cert.Proof

end
-- ==== Proof.lean ====
module

public import proofs.«01_k».proof.Proof.Claims.Two
public import proofs.«01_k».proof.Proof.Claims.Three
public import proofs.«01_k».proof.Proof.Claims.Four
public import proofs.«01_k».proof.Proof.Claims.Five
public import proofs.«01_k».proof.Proof.Claims.Six
public import proofs.«01_k».proof.Proof.Claims.Seven
public import proofs.«01_k».proof.Proof.Claims.Eight
public import proofs.«01_k».proof.Proof.Claims.Nine
public import proofs.«01_k».proof.Proof.Claims.Ten
public import proofs.«01_k».proof.Proof.Claims.Eleven
public import proofs.«01_k».proof.Proof.Claims.Twelve
public import proofs.«01_k».proof.Proof.Claims.Thirteen
public import proofs.«01_k».proof.Proof.Claims.Fourteen
public import proofs.«01_k».proof.Proof.Claims.Fifteen
public import proofs.«01_k».proof.Proof.Claims.Sixteen
public import proofs.«01_k».proof.Proof.Claims.Seventeen
public import proofs.«01_k».proof.Proof.Claims.Eighteen
public import proofs.«01_k».proof.Proof.Claims.Nineteen
public import proofs.«01_k».proof.Proof.Claims.Twenty
public import proofs.«01_k».proof.Proof.Claims.TwentyOne
public import proofs.«01_k».proof.Proof.Claims.TwentyTwo
public import proofs.«01_k».proof.Proof.Claims.TwentyThree
public import proofs.«01_k».proof.Proof.Claims.TwentyFour
public import proofs.«01_k».proof.Proof.Claims.TwentyFive
public import proofs.«01_k».proof.Proof.Claims.TwentySix
public import proofs.«01_k».proof.Proof.Claims.TwentySeven
public import proofs.«01_k».proof.Proof.Claims.TwentyEight
public import proofs.«01_k».proof.Proof.Claims.Thirty
public import proofs.«01_k».proof.Proof.Claims.ThirtyOne
public import proofs.«01_k».proof.Proof.Claims.ThirtyTwo
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Claims.Frames
public import proofs.«01_k».proof.Proof.Claims.Algebraic
public import Idealize.ShloMosaic.Adequacy
public import Idealize.ShloMosaic.Init

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts, Cert.Kernel8Ideal.Gen.facts,
    Cert.Reference8Ideal.Gen.facts, Cert.Kernel9.Gen.facts, Cert.Kernel9Ideal.Gen.facts, Cert.Reference9Ideal.Gen.facts,
    Cert.Kernel10.Gen.facts, Cert.Kernel10Ideal.Gen.facts, Cert.Reference10Ideal.Gen.facts, Cert.Kernel11.Gen.facts,
    Cert.Kernel11Ideal.Gen.facts, Cert.Reference11Ideal.Gen.facts, Cert.Kernel12.Gen.facts, Cert.Kernel12Ideal.Gen.facts,
    Cert.Reference12Ideal.Gen.facts, Cert.Kernel13.Gen.facts, Cert.Kernel13Ideal.Gen.facts, Cert.Reference13Ideal.Gen.facts,
    Cert.Kernel14.Gen.facts, Cert.Kernel14Ideal.Gen.facts, Cert.Reference14Ideal.Gen.facts, Cert.Kernel15.Gen.facts,
    Cert.Kernel15Ideal.Gen.facts, Cert.Reference15Ideal.Gen.facts, Cert.Kernel16.Gen.facts, Cert.Kernel16Ideal.Gen.facts,
    Cert.Reference16Ideal.Gen.facts, Cert.Kernel17.Gen.facts, Cert.Kernel17Ideal.Gen.facts, Cert.Reference17Ideal.Gen.facts,
    Cert.Kernel18.Gen.facts, Cert.Kernel18Ideal.Gen.facts, Cert.Reference18Ideal.Gen.facts, Cert.Kernel19.Gen.facts,
    Cert.Kernel19Ideal.Gen.facts, Cert.Reference19Ideal.Gen.facts, Cert.Kernel20.Gen.facts, Cert.Kernel20Ideal.Gen.facts,
    Cert.Reference20Ideal.Gen.facts, Cert.Kernel21.Gen.facts, Cert.Kernel21Ideal.Gen.facts, Cert.Reference21Ideal.Gen.facts,
    Cert.Kernel22.Gen.facts, Cert.Kernel22Ideal.Gen.facts, Cert.Reference22Ideal.Gen.facts, Cert.Kernel23.Gen.facts,
    Cert.Kernel23Ideal.Gen.facts, Cert.Reference23Ideal.Gen.facts, Cert.Kernel24.Gen.facts, Cert.Kernel24Ideal.Gen.facts,
    Cert.Reference24Ideal.Gen.facts, Cert.Kernel25.Gen.facts, Cert.Kernel25Ideal.Gen.facts, Cert.Reference25Ideal.Gen.facts,
    Cert.Kernel26.Gen.facts, Cert.Kernel26Ideal.Gen.facts, Cert.Reference26Ideal.Gen.facts, Cert.Kernel27.Gen.facts,
    Cert.Kernel27Ideal.Gen.facts, Cert.Reference27Ideal.Gen.facts, Cert.Kernel28.Gen.facts, Cert.Kernel28Ideal.Gen.facts,
    Cert.Reference28Ideal.Gen.facts, Cert.Kernel30.Gen.facts, Cert.Kernel30Ideal.Gen.facts, Cert.Reference30Ideal.Gen.facts,
    Cert.Kernel31.Gen.facts, Cert.Kernel31Ideal.Gen.facts, Cert.Reference31Ideal.Gen.facts, Cert.Kernel32.Gen.facts,
    Cert.Kernel32Ideal.Gen.facts, Cert.Reference32Ideal.Gen.facts, Cert.Pre_finite.Gen.facts, Cert.Pre_finite4.Gen.facts,
    Cert.Pre_finite30.Gen.facts, Cert.Pre_finite31.Gen.facts, frame_p, frame_pi, fun m ρ _ => frame_pi m ρ trivial, frame_ri,
    fun m ρ _ => frame_ri m ρ trivial, Two.frame_p, Two.frame_pi, Two.frame_ri, Three.frame_p, Three.frame_pi, Three.frame_ri, Four.frame_p,
    Four.frame_pi, fun m ρ _ => Four.frame_pi m ρ trivial, Four.frame_ri, fun m ρ _ => Four.frame_ri m ρ trivial, Five.frame_p,
    Five.frame_pi, Five.frame_ri, Six.frame_p, Six.frame_pi, Six.frame_ri, Seven.frame_p, Seven.frame_pi, Seven.frame_ri, Eight.frame_p,
    Eight.frame_pi, Eight.frame_ri, Nine.frame_p, Nine.frame_pi, Nine.frame_ri, Ten.frame_p, Ten.frame_pi, Ten.frame_ri, Eleven.frame_p,
    Eleven.frame_pi, Eleven.frame_ri, Twelve.frame_p, Twelve.frame_pi, Twelve.frame_ri, Thirteen.frame_p, Thirteen.frame_pi,
    Thirteen.frame_ri, Fourteen.frame_p, Fourteen.frame_pi, Fourteen.frame_ri, Fifteen.frame_p, Fifteen.frame_pi, Fifteen.frame_ri,
    Sixteen.frame_p, Sixteen.frame_pi, Sixteen.frame_ri, Seventeen.frame_p, Seventeen.frame_pi, Seventeen.frame_ri, Eighteen.frame_p,
    Eighteen.frame_pi, Eighteen.frame_ri, Nineteen.frame_p, Nineteen.frame_pi, Nineteen.frame_ri, Twenty.frame_p, Twenty.frame_pi,
    Twenty.frame_ri, TwentyOne.frame_p, TwentyOne.frame_pi, TwentyOne.frame_ri, TwentyTwo.frame_p, TwentyTwo.frame_pi, TwentyTwo.frame_ri,
    TwentyThree.frame_p, TwentyThree.frame_pi, TwentyThree.frame_ri, TwentyFour.frame_p, TwentyFour.frame_pi, TwentyFour.frame_ri,
    TwentyFive.frame_p, TwentyFive.frame_pi, TwentyFive.frame_ri, TwentySix.frame_p, TwentySix.frame_pi, TwentySix.frame_ri,
    TwentySeven.frame_p, TwentySeven.frame_pi, TwentySeven.frame_ri, TwentyEight.frame_p, TwentyEight.frame_pi, TwentyEight.frame_ri,
    Thirty.frame_p, Thirty.frame_pi, fun m ρ _ => Thirty.frame_pi m ρ trivial, Thirty.frame_ri, fun m ρ _ => Thirty.frame_ri m ρ trivial,
    ThirtyOne.frame_p, ThirtyOne.frame_pi, fun m ρ _ => ThirtyOne.frame_pi m ρ trivial, ThirtyOne.frame_ri,
    fun m ρ _ => ThirtyOne.frame_ri m ρ trivial, ThirtyTwo.frame_p, ThirtyTwo.frame_pi, ThirtyTwo.frame_ri, preserves, algebraic, trivial,
    Two.algebraic, trivial, Three.algebraic, trivial, Four.algebraic, trivial, Five.algebraic, trivial, Six.algebraic, trivial,
    Seven.algebraic, trivial, Eight.algebraic, trivial, Nine.algebraic, trivial, Ten.algebraic, trivial, Eleven.algebraic, trivial,
    Twelve.algebraic, trivial, Thirteen.algebraic, trivial, Fourteen.algebraic, trivial, Fifteen.algebraic, trivial, Sixteen.algebraic,
    trivial, Seventeen.algebraic, trivial, Eighteen.algebraic, trivial, Nineteen.algebraic, trivial, Twenty.algebraic, trivial,
    TwentyOne.algebraic, trivial, TwentyTwo.algebraic, trivial, TwentyThree.algebraic, trivial, TwentyFour.algebraic, trivial,
    TwentyFive.algebraic, trivial, TwentySix.algebraic, trivial, TwentySeven.algebraic, trivial, TwentyEight.algebraic, trivial,
    Thirty.algebraic, trivial, ThirtyOne.algebraic, trivial, ThirtyTwo.algebraic⟩

end Cert.Proof

end
